-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardIdeal_finite_scores [hPre_finite_scores : Cert.Pre_finite_scores.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_finite_scores.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2))) = (fun _ => 1#1)

def Pre_ForwardRefIdeal (m : (ℓ : Loc Cert.ForwardRefIdeal.nD Cert.ForwardRefIdeal.τ Cert.ForwardRefIdeal.sig) → Buf (Elt Ideal) ℓ) : Prop :=
  True

def Pre_ForwardRefIdeal_finite_scores [hPre_finite_scores : Cert.Pre_finite_scores.Facts] (m : (ℓ : Loc Cert.ForwardRefIdeal.nD Cert.ForwardRefIdeal.τ Cert.ForwardRefIdeal.sig) → Buf (Elt Ideal) ℓ) : Prop :=
  ∀ c : Dev Cert.ForwardRefIdeal.nD,
    (Cert.Pre_finite_scores.fn (F := Ideal) (m ((c.tc : Thread Cert.ForwardRefIdeal.nD Cert.ForwardRefIdeal.τ).loc Cert.ForwardRefIdeal.main_arg0)) (m ((c.tc : Thread Cert.ForwardRefIdeal.nD Cert.ForwardRefIdeal.τ).loc Cert.ForwardRefIdeal.main_arg1)) (m ((c.tc : Thread Cert.ForwardRefIdeal.nD Cert.ForwardRefIdeal.τ).loc Cert.ForwardRefIdeal.main_arg2))) = (fun _ => 1#1)

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryIdeal_finite_memory [hPre_finite_memory : Cert.Pre_finite_memory.Facts] (m : (ℓ : Loc Cert.MemoryIdeal.nD Cert.MemoryIdeal.τ Cert.MemoryIdeal.sig) → Buf (Elt Ideal) ℓ) : Prop :=
  ∀ c : Dev Cert.MemoryIdeal.nD,
    (Cert.Pre_finite_memory.fn (F := Ideal) (m ((c.tc : Thread Cert.MemoryIdeal.nD Cert.MemoryIdeal.τ).loc Cert.MemoryIdeal.main_arg0)) (m ((c.tc : Thread Cert.MemoryIdeal.nD Cert.MemoryIdeal.τ).loc Cert.MemoryIdeal.main_arg1)) (m ((c.tc : Thread Cert.MemoryIdeal.nD Cert.MemoryIdeal.τ).loc Cert.MemoryIdeal.main_arg2))) = (fun _ => 1#1)

def Pre_MemoryRefIdeal (m : (ℓ : Loc Cert.MemoryRefIdeal.nD Cert.MemoryRefIdeal.τ Cert.MemoryRefIdeal.sig) → Buf (Elt Ideal) ℓ) : Prop :=
  True

def Pre_MemoryRefIdeal_finite_memory [hPre_finite_memory : Cert.Pre_finite_memory.Facts] (m : (ℓ : Loc Cert.MemoryRefIdeal.nD Cert.MemoryRefIdeal.τ Cert.MemoryRefIdeal.sig) → Buf (Elt Ideal) ℓ) : Prop :=
  ∀ c : Dev Cert.MemoryRefIdeal.nD,
    (Cert.Pre_finite_memory.fn (F := Ideal) (m ((c.tc : Thread Cert.MemoryRefIdeal.nD Cert.MemoryRefIdeal.τ).loc Cert.MemoryRefIdeal.main_arg0)) (m ((c.tc : Thread Cert.MemoryRefIdeal.nD Cert.MemoryRefIdeal.τ).loc Cert.MemoryRefIdeal.main_arg1)) (m ((c.tc : Thread Cert.MemoryRefIdeal.nD Cert.MemoryRefIdeal.τ).loc Cert.MemoryRefIdeal.main_arg2))) = (fun _ => 1#1)

def Pre_GateForward (m : (ℓ : Loc Cert.GateForward.nD Cert.GateForward.τ Cert.GateForward.sig) → Buf (Elt Bits) ℓ) : Prop :=
  True

def Pre_GateForwardIdeal (m : (ℓ : Loc Cert.GateForwardIdeal.nD Cert.GateForwardIdeal.τ Cert.GateForwardIdeal.sig) → Buf (Elt Ideal) ℓ) : Prop :=
  True

def Pre_GateForwardRefIdeal (m : (ℓ : Loc Cert.GateForwardRefIdeal.nD Cert.GateForwardRefIdeal.τ Cert.GateForwardRefIdeal.sig) → Buf (Elt Ideal) ℓ) : Prop :=
  True

def Pre_GateRows (m : (ℓ : Loc Cert.GateRows.nD Cert.GateRows.τ Cert.GateRows.sig) → Buf (Elt Bits) ℓ) : Prop :=
  True

def Pre_GateRowsIdeal (m : (ℓ : Loc Cert.GateRowsIdeal.nD Cert.GateRowsIdeal.τ Cert.GateRowsIdeal.sig) → Buf (Elt Ideal) ℓ) : Prop :=
  True

def Pre_GateRowsRefIdeal (m : (ℓ : Loc Cert.GateRowsRefIdeal.nD Cert.GateRowsRefIdeal.τ Cert.GateRowsRefIdeal.sig) → Buf (Elt Ideal) ℓ) : Prop :=
  True

def Pre_GateWeight (m : (ℓ : Loc Cert.GateWeight.nD Cert.GateWeight.τ Cert.GateWeight.sig) → Buf (Elt Bits) ℓ) : Prop :=
  True

def Pre_GateWeightIdeal (m : (ℓ : Loc Cert.GateWeightIdeal.nD Cert.GateWeightIdeal.τ Cert.GateWeightIdeal.sig) → Buf (Elt Ideal) ℓ) : Prop :=
  True

def Pre_GateWeightRefIdeal (m : (ℓ : Loc Cert.GateWeightRefIdeal.nD Cert.GateWeightRefIdeal.τ Cert.GateWeightRefIdeal.sig) → Buf (Elt Ideal) ℓ) : Prop :=
  True

def Pre_DownForward (m : (ℓ : Loc Cert.DownForward.nD Cert.DownForward.τ Cert.DownForward.sig) → Buf (Elt Bits) ℓ) : Prop :=
  True

def Pre_DownForwardIdeal (m : (ℓ : Loc Cert.DownForwardIdeal.nD Cert.DownForwardIdeal.τ Cert.DownForwardIdeal.sig) → Buf (Elt Ideal) ℓ) : Prop :=
  True

def Pre_DownForwardRefIdeal (m : (ℓ : Loc Cert.DownForwardRefIdeal.nD Cert.DownForwardRefIdeal.τ Cert.DownForwardRefIdeal.sig) → Buf (Elt Ideal) ℓ) : Prop :=
  True

def Pre_DownRows (m : (ℓ : Loc Cert.DownRows.nD Cert.DownRows.τ Cert.DownRows.sig) → Buf (Elt Bits) ℓ) : Prop :=
  True

def Pre_DownRowsIdeal (m : (ℓ : Loc Cert.DownRowsIdeal.nD Cert.DownRowsIdeal.τ Cert.DownRowsIdeal.sig) → Buf (Elt Ideal) ℓ) : Prop :=
  True

def Pre_DownRowsRefIdeal (m : (ℓ : Loc Cert.DownRowsRefIdeal.nD Cert.DownRowsRefIdeal.τ Cert.DownRowsRefIdeal.sig) → Buf (Elt Ideal) ℓ) : Prop :=
  True

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightRefIdeal (m : (ℓ : Loc Cert.DownWeightRefIdeal.nD Cert.DownWeightRefIdeal.τ Cert.DownWeightRefIdeal.sig) → Buf (Elt Ideal) ℓ) : Prop :=
  True

def Pre_OutForward (m : (ℓ : Loc Cert.OutForward.nD Cert.OutForward.τ Cert.OutForward.sig) → Buf (Elt Bits) ℓ) : Prop :=
  True

def Pre_OutForwardIdeal (m : (ℓ : Loc Cert.OutForwardIdeal.nD Cert.OutForwardIdeal.τ Cert.OutForwardIdeal.sig) → Buf (Elt Ideal) ℓ) : Prop :=
  True

def Pre_OutForwardRefIdeal (m : (ℓ : Loc Cert.OutForwardRefIdeal.nD Cert.OutForwardRefIdeal.τ Cert.OutForwardRefIdeal.sig) → Buf (Elt Ideal) ℓ) : Prop :=
  True

def Pre_OutRows (m : (ℓ : Loc Cert.OutRows.nD Cert.OutRows.τ Cert.OutRows.sig) → Buf (Elt Bits) ℓ) : Prop :=
  True

def Pre_OutRowsIdeal (m : (ℓ : Loc Cert.OutRowsIdeal.nD Cert.OutRowsIdeal.τ Cert.OutRowsIdeal.sig) → Buf (Elt Ideal) ℓ) : Prop :=
  True

def Pre_OutRowsRefIdeal (m : (ℓ : Loc Cert.OutRowsRefIdeal.nD Cert.OutRowsRefIdeal.τ Cert.OutRowsRefIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightRefIdeal (m : (ℓ : Loc Cert.OutWeightRefIdeal.nD Cert.OutWeightRefIdeal.τ Cert.OutWeightRefIdeal.sig) → Buf (Elt Ideal) ℓ) : Prop :=
  True

def Pre_DInForward (m : (ℓ : Loc Cert.DInForward.nD Cert.DInForward.τ Cert.DInForward.sig) → Buf (Elt Bits) ℓ) : Prop :=
  True

def Pre_DInForwardIdeal (m : (ℓ : Loc Cert.DInForwardIdeal.nD Cert.DInForwardIdeal.τ Cert.DInForwardIdeal.sig) → Buf (Elt Ideal) ℓ) : Prop :=
  True

def Pre_DInForwardRefIdeal (m : (ℓ : Loc Cert.DInForwardRefIdeal.nD Cert.DInForwardRefIdeal.τ Cert.DInForwardRefIdeal.sig) → Buf (Elt Ideal) ℓ) : Prop :=
  True

def Pre_DInRows (m : (ℓ : Loc Cert.DInRows.nD Cert.DInRows.τ Cert.DInRows.sig) → Buf (Elt Bits) ℓ) : Prop :=
  True

def Pre_DInRowsIdeal (m : (ℓ : Loc Cert.DInRowsIdeal.nD Cert.DInRowsIdeal.τ Cert.DInRowsIdeal.sig) → Buf (Elt Ideal) ℓ) : Prop :=
  True

def Pre_DInRowsRefIdeal (m : (ℓ : Loc Cert.DInRowsRefIdeal.nD Cert.DInRowsRefIdeal.τ Cert.DInRowsRefIdeal.sig) → Buf (Elt Ideal) ℓ) : Prop :=
  True

def Pre_DInWeight (m : (ℓ : Loc Cert.DInWeight.nD Cert.DInWeight.τ Cert.DInWeight.sig) → Buf (Elt Bits) ℓ) : Prop :=
  True

def Pre_DInWeightIdeal (m : (ℓ : Loc Cert.DInWeightIdeal.nD Cert.DInWeightIdeal.τ Cert.DInWeightIdeal.sig) → Buf (Elt Ideal) ℓ) : Prop :=
  True

def Pre_DInWeightRefIdeal (m : (ℓ : Loc Cert.DInWeightRefIdeal.nD Cert.DInWeightRefIdeal.τ Cert.DInWeightRefIdeal.sig) → Buf (Elt Ideal) ℓ) : Prop :=
  True

def Pre_CInForward (m : (ℓ : Loc Cert.CInForward.nD Cert.CInForward.τ Cert.CInForward.sig) → Buf (Elt Bits) ℓ) : Prop :=
  True

def Pre_CInForwardIdeal (m : (ℓ : Loc Cert.CInForwardIdeal.nD Cert.CInForwardIdeal.τ Cert.CInForwardIdeal.sig) → Buf (Elt Ideal) ℓ) : Prop :=
  True

def Pre_CInForwardRefIdeal (m : (ℓ : Loc Cert.CInForwardRefIdeal.nD Cert.CInForwardRefIdeal.τ Cert.CInForwardRefIdeal.sig) → Buf (Elt Ideal) ℓ) : Prop :=
  True

def Pre_CInRows (m : (ℓ : Loc Cert.CInRows.nD Cert.CInRows.τ Cert.CInRows.sig) → Buf (Elt Bits) ℓ) : Prop :=
  True

def Pre_CInRowsIdeal (m : (ℓ : Loc Cert.CInRowsIdeal.nD Cert.CInRowsIdeal.τ Cert.CInRowsIdeal.sig) → Buf (Elt Ideal) ℓ) : Prop :=
  True

def Pre_CInRowsRefIdeal (m : (ℓ : Loc Cert.CInRowsRefIdeal.nD Cert.CInRowsRefIdeal.τ Cert.CInRowsRefIdeal.sig) → Buf (Elt Ideal) ℓ) : Prop :=
  True

def Pre_CInWeight (m : (ℓ : Loc Cert.CInWeight.nD Cert.CInWeight.τ Cert.CInWeight.sig) → Buf (Elt Bits) ℓ) : Prop :=
  True

def Pre_CInWeightIdeal (m : (ℓ : Loc Cert.CInWeightIdeal.nD Cert.CInWeightIdeal.τ Cert.CInWeightIdeal.sig) → Buf (Elt Ideal) ℓ) : Prop :=
  True

def Pre_CInWeightRefIdeal (m : (ℓ : Loc Cert.CInWeightRefIdeal.nD Cert.CInWeightRefIdeal.τ Cert.CInWeightRefIdeal.sig) → Buf (Elt Ideal) ℓ) : Prop :=
  True

def Pre_BInForward (m : (ℓ : Loc Cert.BInForward.nD Cert.BInForward.τ Cert.BInForward.sig) → Buf (Elt Bits) ℓ) : Prop :=
  True

def Pre_BInForwardIdeal (m : (ℓ : Loc Cert.BInForwardIdeal.nD Cert.BInForwardIdeal.τ Cert.BInForwardIdeal.sig) → Buf (Elt Ideal) ℓ) : Prop :=
  True

def Pre_BInForwardRefIdeal (m : (ℓ : Loc Cert.BInForwardRefIdeal.nD Cert.BInForwardRefIdeal.τ Cert.BInForwardRefIdeal.sig) → Buf (Elt Ideal) ℓ) : Prop :=
  True

def Pre_BInRows (m : (ℓ : Loc Cert.BInRows.nD Cert.BInRows.τ Cert.BInRows.sig) → Buf (Elt Bits) ℓ) : Prop :=
  True

def Pre_BInRowsIdeal (m : (ℓ : Loc Cert.BInRowsIdeal.nD Cert.BInRowsIdeal.τ Cert.BInRowsIdeal.sig) → Buf (Elt Ideal) ℓ) : Prop :=
  True

def Pre_BInRowsRefIdeal (m : (ℓ : Loc Cert.BInRowsRefIdeal.nD Cert.BInRowsRefIdeal.τ Cert.BInRowsRefIdeal.sig) → Buf (Elt Ideal) ℓ) : Prop :=
  True

def Pre_BInWeight (m : (ℓ : Loc Cert.BInWeight.nD Cert.BInWeight.τ Cert.BInWeight.sig) → Buf (Elt Bits) ℓ) : Prop :=
  True

def Pre_BInWeightIdeal (m : (ℓ : Loc Cert.BInWeightIdeal.nD Cert.BInWeightIdeal.τ Cert.BInWeightIdeal.sig) → Buf (Elt Ideal) ℓ) : Prop :=
  True

def Pre_BInWeightRefIdeal (m : (ℓ : Loc Cert.BInWeightRefIdeal.nD Cert.BInWeightRefIdeal.τ Cert.BInWeightRefIdeal.sig) → Buf (Elt Ideal) ℓ) : Prop :=
  True

def Pre_BOutForward (m : (ℓ : Loc Cert.BOutForward.nD Cert.BOutForward.τ Cert.BOutForward.sig) → Buf (Elt Bits) ℓ) : Prop :=
  True

def Pre_BOutForwardIdeal (m : (ℓ : Loc Cert.BOutForwardIdeal.nD Cert.BOutForwardIdeal.τ Cert.BOutForwardIdeal.sig) → Buf (Elt Ideal) ℓ) : Prop :=
  True

def Pre_BOutForwardRefIdeal (m : (ℓ : Loc Cert.BOutForwardRefIdeal.nD Cert.BOutForwardRefIdeal.τ Cert.BOutForwardRefIdeal.sig) → Buf (Elt Ideal) ℓ) : Prop :=
  True

def Pre_BOutRows (m : (ℓ : Loc Cert.BOutRows.nD Cert.BOutRows.τ Cert.BOutRows.sig) → Buf (Elt Bits) ℓ) : Prop :=
  True

def Pre_BOutRowsIdeal (m : (ℓ : Loc Cert.BOutRowsIdeal.nD Cert.BOutRowsIdeal.τ Cert.BOutRowsIdeal.sig) → Buf (Elt Ideal) ℓ) : Prop :=
  True

def Pre_BOutRowsRefIdeal (m : (ℓ : Loc Cert.BOutRowsRefIdeal.nD Cert.BOutRowsRefIdeal.τ Cert.BOutRowsRefIdeal.sig) → Buf (Elt Ideal) ℓ) : Prop :=
  True

def Pre_BOutWeight (m : (ℓ : Loc Cert.BOutWeight.nD Cert.BOutWeight.τ Cert.BOutWeight.sig) → Buf (Elt Bits) ℓ) : Prop :=
  True

def Pre_BOutWeightIdeal (m : (ℓ : Loc Cert.BOutWeightIdeal.nD Cert.BOutWeightIdeal.τ Cert.BOutWeightIdeal.sig) → Buf (Elt Ideal) ℓ) : Prop :=
  True

def Pre_BOutWeightRefIdeal (m : (ℓ : Loc Cert.BOutWeightRefIdeal.nD Cert.BOutWeightRefIdeal.τ Cert.BOutWeightRefIdeal.sig) → Buf (Elt Ideal) ℓ) : Prop :=
  True

def Pre_QueryForward (m : (ℓ : Loc Cert.QueryForward.nD Cert.QueryForward.τ Cert.QueryForward.sig) → Buf (Elt Bits) ℓ) : Prop :=
  True

def Pre_QueryForwardIdeal (m : (ℓ : Loc Cert.QueryForwardIdeal.nD Cert.QueryForwardIdeal.τ Cert.QueryForwardIdeal.sig) → Buf (Elt Ideal) ℓ) : Prop :=
  True

def Pre_QueryForwardRefIdeal (m : (ℓ : Loc Cert.QueryForwardRefIdeal.nD Cert.QueryForwardRefIdeal.τ Cert.QueryForwardRefIdeal.sig) → Buf (Elt Ideal) ℓ) : Prop :=
  True

def Pre_QueryRows (m : (ℓ : Loc Cert.QueryRows.nD Cert.QueryRows.τ Cert.QueryRows.sig) → Buf (Elt Bits) ℓ) : Prop :=
  True

def Pre_QueryRowsIdeal (m : (ℓ : Loc Cert.QueryRowsIdeal.nD Cert.QueryRowsIdeal.τ Cert.QueryRowsIdeal.sig) → Buf (Elt Ideal) ℓ) : Prop :=
  True

def Pre_QueryRowsRefIdeal (m : (ℓ : Loc Cert.QueryRowsRefIdeal.nD Cert.QueryRowsRefIdeal.τ Cert.QueryRowsRefIdeal.sig) → Buf (Elt Ideal) ℓ) : Prop :=
  True

def Pre_QueryWeight (m : (ℓ : Loc Cert.QueryWeight.nD Cert.QueryWeight.τ Cert.QueryWeight.sig) → Buf (Elt Bits) ℓ) : Prop :=
  True

def Pre_QueryWeightIdeal (m : (ℓ : Loc Cert.QueryWeightIdeal.nD Cert.QueryWeightIdeal.τ Cert.QueryWeightIdeal.sig) → Buf (Elt Ideal) ℓ) : Prop :=
  True

def Pre_QueryWeightRefIdeal (m : (ℓ : Loc Cert.QueryWeightRefIdeal.nD Cert.QueryWeightRefIdeal.τ Cert.QueryWeightRefIdeal.sig) → Buf (Elt Ideal) ℓ) : Prop :=
  True

def Pre_KeyForward (m : (ℓ : Loc Cert.KeyForward.nD Cert.KeyForward.τ Cert.KeyForward.sig) → Buf (Elt Bits) ℓ) : Prop :=
  True

def Pre_KeyForwardIdeal (m : (ℓ : Loc Cert.KeyForwardIdeal.nD Cert.KeyForwardIdeal.τ Cert.KeyForwardIdeal.sig) → Buf (Elt Ideal) ℓ) : Prop :=
  True

def Pre_KeyForwardRefIdeal (m : (ℓ : Loc Cert.KeyForwardRefIdeal.nD Cert.KeyForwardRefIdeal.τ Cert.KeyForwardRefIdeal.sig) → Buf (Elt Ideal) ℓ) : Prop :=
  True

def Pre_KeyRows (m : (ℓ : Loc Cert.KeyRows.nD Cert.KeyRows.τ Cert.KeyRows.sig) → Buf (Elt Bits) ℓ) : Prop :=
  True

def Pre_KeyRowsIdeal (m : (ℓ : Loc Cert.KeyRowsIdeal.nD Cert.KeyRowsIdeal.τ Cert.KeyRowsIdeal.sig) → Buf (Elt Ideal) ℓ) : Prop :=
  True

def Pre_KeyRowsRefIdeal (m : (ℓ : Loc Cert.KeyRowsRefIdeal.nD Cert.KeyRowsRefIdeal.τ Cert.KeyRowsRefIdeal.sig) → Buf (Elt Ideal) ℓ) : Prop :=
  True

def Pre_KeyWeight (m : (ℓ : Loc Cert.KeyWeight.nD Cert.KeyWeight.τ Cert.KeyWeight.sig) → Buf (Elt Bits) ℓ) : Prop :=
  True

def Pre_KeyWeightIdeal (m : (ℓ : Loc Cert.KeyWeightIdeal.nD Cert.KeyWeightIdeal.τ Cert.KeyWeightIdeal.sig) → Buf (Elt Ideal) ℓ) : Prop :=
  True

def Pre_KeyWeightRefIdeal (m : (ℓ : Loc Cert.KeyWeightRefIdeal.nD Cert.KeyWeightRefIdeal.τ Cert.KeyWeightRefIdeal.sig) → Buf (Elt Ideal) ℓ) : Prop :=
  True

def Pre_AInForward (m : (ℓ : Loc Cert.AInForward.nD Cert.AInForward.τ Cert.AInForward.sig) → Buf (Elt Bits) ℓ) : Prop :=
  True

def Pre_AInForwardIdeal (m : (ℓ : Loc Cert.AInForwardIdeal.nD Cert.AInForwardIdeal.τ Cert.AInForwardIdeal.sig) → Buf (Elt Ideal) ℓ) : Prop :=
  True

def Pre_AInForwardRefIdeal (m : (ℓ : Loc Cert.AInForwardRefIdeal.nD Cert.AInForwardRefIdeal.τ Cert.AInForwardRefIdeal.sig) → Buf (Elt Ideal) ℓ) : Prop :=
  True

def Pre_AInRows (m : (ℓ : Loc Cert.AInRows.nD Cert.AInRows.τ Cert.AInRows.sig) → Buf (Elt Bits) ℓ) : Prop :=
  True

def Pre_AInRowsIdeal (m : (ℓ : Loc Cert.AInRowsIdeal.nD Cert.AInRowsIdeal.τ Cert.AInRowsIdeal.sig) → Buf (Elt Ideal) ℓ) : Prop :=
  True

def Pre_AInRowsRefIdeal (m : (ℓ : Loc Cert.AInRowsRefIdeal.nD Cert.AInRowsRefIdeal.τ Cert.AInRowsRefIdeal.sig) → Buf (Elt Ideal) ℓ) : Prop :=
  True

def Pre_AInWeight (m : (ℓ : Loc Cert.AInWeight.nD Cert.AInWeight.τ Cert.AInWeight.sig) → Buf (Elt Bits) ℓ) : Prop :=
  True

def Pre_AInWeightIdeal (m : (ℓ : Loc Cert.AInWeightIdeal.nD Cert.AInWeightIdeal.τ Cert.AInWeightIdeal.sig) → Buf (Elt Ideal) ℓ) : Prop :=
  True

def Pre_AInWeightRefIdeal (m : (ℓ : Loc Cert.AInWeightRefIdeal.nD Cert.AInWeightRefIdeal.τ Cert.AInWeightRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardIdeal_pre_finite_scores [hForwardIdeal : Cert.ForwardIdeal.Facts] [hPre_finite_scores : Cert.Pre_finite_scores.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_finite_scores m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardRefIdeal [hForwardRefIdeal : Cert.ForwardRefIdeal.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2))
      ∧ r.2.sem = fun _ => 0)

def quiescent_ForwardRefIdeal_pre_finite_scores [hForwardRefIdeal : Cert.ForwardRefIdeal.Facts] [hPre_finite_scores : Cert.Pre_finite_scores.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal_finite_scores m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryIdeal_pre_finite_memory [hMemoryIdeal : Cert.MemoryIdeal.Facts] [hPre_finite_memory : Cert.Pre_finite_memory.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal_finite_memory m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def quiescent_MemoryRefIdeal_pre_finite_memory [hMemoryRefIdeal : Cert.MemoryRefIdeal.Facts] [hPre_finite_memory : Cert.Pre_finite_memory.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal_finite_memory m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def quiescent_GateForward [hGateForward : Cert.GateForward.Facts] : Prop :=
  ∀ (m : (ℓ : Loc Cert.GateForward.nD Cert.GateForward.τ Cert.GateForward.sig) → Buf (Elt Bits) ℓ) (g : Dev Cert.GateForward.nD → PrngReg), Pre_GateForward m →
    θ_run (Cert.GateForward.defs (F := Bits)) (onTc (τ := Cert.GateForward.τ) (Cert.GateForward.main (F := Bits))) ⟨m, fun _ => 0, g⟩ (fun r => (∀ c : Dev Cert.GateForward.nD,
      r.2.mem ((c.tc : Thread Cert.GateForward.nD Cert.GateForward.τ).loc Cert.GateForward.main_arg0) = m ((c.tc : Thread Cert.GateForward.nD Cert.GateForward.τ).loc Cert.GateForward.main_arg0)
      ∧ r.2.mem ((c.tc : Thread Cert.GateForward.nD Cert.GateForward.τ).loc Cert.GateForward.main_arg1) = m ((c.tc : Thread Cert.GateForward.nD Cert.GateForward.τ).loc Cert.GateForward.main_arg1))
      ∧ r.2.sem = fun _ => 0)

def quiescent_GateForwardIdeal [hGateForwardIdeal : Cert.GateForwardIdeal.Facts] : Prop :=
  ∀ (m : (ℓ : Loc Cert.GateForwardIdeal.nD Cert.GateForwardIdeal.τ Cert.GateForwardIdeal.sig) → Buf (Elt Ideal) ℓ) (g : Dev Cert.GateForwardIdeal.nD → PrngReg), Pre_GateForwardIdeal m →
    θ_run (Cert.GateForwardIdeal.defs (F := Ideal)) (onTc (τ := Cert.GateForwardIdeal.τ) (Cert.GateForwardIdeal.main (F := Ideal))) ⟨m, fun _ => 0, g⟩ (fun r => (∀ c : Dev Cert.GateForwardIdeal.nD,
      r.2.mem ((c.tc : Thread Cert.GateForwardIdeal.nD Cert.GateForwardIdeal.τ).loc Cert.GateForwardIdeal.main_arg0) = m ((c.tc : Thread Cert.GateForwardIdeal.nD Cert.GateForwardIdeal.τ).loc Cert.GateForwardIdeal.main_arg0)
      ∧ r.2.mem ((c.tc : Thread Cert.GateForwardIdeal.nD Cert.GateForwardIdeal.τ).loc Cert.GateForwardIdeal.main_arg1) = m ((c.tc : Thread Cert.GateForwardIdeal.nD Cert.GateForwardIdeal.τ).loc Cert.GateForwardIdeal.main_arg1))
      ∧ r.2.sem = fun _ => 0)

def quiescent_GateForwardRefIdeal [hGateForwardRefIdeal : Cert.GateForwardRefIdeal.Facts] : Prop :=
  ∀ (m : (ℓ : Loc Cert.GateForwardRefIdeal.nD Cert.GateForwardRefIdeal.τ Cert.GateForwardRefIdeal.sig) → Buf (Elt Ideal) ℓ) (g : Dev Cert.GateForwardRefIdeal.nD → PrngReg), Pre_GateForwardRefIdeal m →
    θ_run (Cert.GateForwardRefIdeal.defs (F := Ideal)) (onTc (τ := Cert.GateForwardRefIdeal.τ) (Cert.GateForwardRefIdeal.main (F := Ideal))) ⟨m, fun _ => 0, g⟩ (fun r => (∀ c : Dev Cert.GateForwardRefIdeal.nD,
      r.2.mem ((c.tc : Thread Cert.GateForwardRefIdeal.nD Cert.GateForwardRefIdeal.τ).loc Cert.GateForwardRefIdeal.main_arg0) = m ((c.tc : Thread Cert.GateForwardRefIdeal.nD Cert.GateForwardRefIdeal.τ).loc Cert.GateForwardRefIdeal.main_arg0)
      ∧ r.2.mem ((c.tc : Thread Cert.GateForwardRefIdeal.nD Cert.GateForwardRefIdeal.τ).loc Cert.GateForwardRefIdeal.main_arg1) = m ((c.tc : Thread Cert.GateForwardRefIdeal.nD Cert.GateForwardRefIdeal.τ).loc Cert.GateForwardRefIdeal.main_arg1))
      ∧ r.2.sem = fun _ => 0)

def quiescent_GateRows [hGateRows : Cert.GateRows.Facts] : Prop :=
  ∀ (m : (ℓ : Loc Cert.GateRows.nD Cert.GateRows.τ Cert.GateRows.sig) → Buf (Elt Bits) ℓ) (g : Dev Cert.GateRows.nD → PrngReg), Pre_GateRows m →
    θ_run (Cert.GateRows.defs (F := Bits)) (onTc (τ := Cert.GateRows.τ) (Cert.GateRows.main (F := Bits))) ⟨m, fun _ => 0, g⟩ (fun r => (∀ c : Dev Cert.GateRows.nD,
      r.2.mem ((c.tc : Thread Cert.GateRows.nD Cert.GateRows.τ).loc Cert.GateRows.main_arg0) = m ((c.tc : Thread Cert.GateRows.nD Cert.GateRows.τ).loc Cert.GateRows.main_arg0)
      ∧ r.2.mem ((c.tc : Thread Cert.GateRows.nD Cert.GateRows.τ).loc Cert.GateRows.main_arg1) = m ((c.tc : Thread Cert.GateRows.nD Cert.GateRows.τ).loc Cert.GateRows.main_arg1)
      ∧ r.2.mem ((c.tc : Thread Cert.GateRows.nD Cert.GateRows.τ).loc Cert.GateRows.main_arg2) = m ((c.tc : Thread Cert.GateRows.nD Cert.GateRows.τ).loc Cert.GateRows.main_arg2))
      ∧ r.2.sem = fun _ => 0)

def quiescent_GateRowsIdeal [hGateRowsIdeal : Cert.GateRowsIdeal.Facts] : Prop :=
  ∀ (m : (ℓ : Loc Cert.GateRowsIdeal.nD Cert.GateRowsIdeal.τ Cert.GateRowsIdeal.sig) → Buf (Elt Ideal) ℓ) (g : Dev Cert.GateRowsIdeal.nD → PrngReg), Pre_GateRowsIdeal m →
    θ_run (Cert.GateRowsIdeal.defs (F := Ideal)) (onTc (τ := Cert.GateRowsIdeal.τ) (Cert.GateRowsIdeal.main (F := Ideal))) ⟨m, fun _ => 0, g⟩ (fun r => (∀ c : Dev Cert.GateRowsIdeal.nD,
      r.2.mem ((c.tc : Thread Cert.GateRowsIdeal.nD Cert.GateRowsIdeal.τ).loc Cert.GateRowsIdeal.main_arg0) = m ((c.tc : Thread Cert.GateRowsIdeal.nD Cert.GateRowsIdeal.τ).loc Cert.GateRowsIdeal.main_arg0)
      ∧ r.2.mem ((c.tc : Thread Cert.GateRowsIdeal.nD Cert.GateRowsIdeal.τ).loc Cert.GateRowsIdeal.main_arg1) = m ((c.tc : Thread Cert.GateRowsIdeal.nD Cert.GateRowsIdeal.τ).loc Cert.GateRowsIdeal.main_arg1)
      ∧ r.2.mem ((c.tc : Thread Cert.GateRowsIdeal.nD Cert.GateRowsIdeal.τ).loc Cert.GateRowsIdeal.main_arg2) = m ((c.tc : Thread Cert.GateRowsIdeal.nD Cert.GateRowsIdeal.τ).loc Cert.GateRowsIdeal.main_arg2))
      ∧ r.2.sem = fun _ => 0)

def quiescent_GateRowsRefIdeal [hGateRowsRefIdeal : Cert.GateRowsRefIdeal.Facts] : Prop :=
  ∀ (m : (ℓ : Loc Cert.GateRowsRefIdeal.nD Cert.GateRowsRefIdeal.τ Cert.GateRowsRefIdeal.sig) → Buf (Elt Ideal) ℓ) (g : Dev Cert.GateRowsRefIdeal.nD → PrngReg), Pre_GateRowsRefIdeal m →
    θ_run (Cert.GateRowsRefIdeal.defs (F := Ideal)) (onTc (τ := Cert.GateRowsRefIdeal.τ) (Cert.GateRowsRefIdeal.main (F := Ideal))) ⟨m, fun _ => 0, g⟩ (fun r => (∀ c : Dev Cert.GateRowsRefIdeal.nD,
      r.2.mem ((c.tc : Thread Cert.GateRowsRefIdeal.nD Cert.GateRowsRefIdeal.τ).loc Cert.GateRowsRefIdeal.main_arg0) = m ((c.tc : Thread Cert.GateRowsRefIdeal.nD Cert.GateRowsRefIdeal.τ).loc Cert.GateRowsRefIdeal.main_arg0)
      ∧ r.2.mem ((c.tc : Thread Cert.GateRowsRefIdeal.nD Cert.GateRowsRefIdeal.τ).loc Cert.GateRowsRefIdeal.main_arg1) = m ((c.tc : Thread Cert.GateRowsRefIdeal.nD Cert.GateRowsRefIdeal.τ).loc Cert.GateRowsRefIdeal.main_arg1)
      ∧ r.2.mem ((c.tc : Thread Cert.GateRowsRefIdeal.nD Cert.GateRowsRefIdeal.τ).loc Cert.GateRowsRefIdeal.main_arg2) = m ((c.tc : Thread Cert.GateRowsRefIdeal.nD Cert.GateRowsRefIdeal.τ).loc Cert.GateRowsRefIdeal.main_arg2))
      ∧ r.2.sem = fun _ => 0)

def quiescent_GateWeight [hGateWeight : Cert.GateWeight.Facts] : Prop :=
  ∀ (m : (ℓ : Loc Cert.GateWeight.nD Cert.GateWeight.τ Cert.GateWeight.sig) → Buf (Elt Bits) ℓ) (g : Dev Cert.GateWeight.nD → PrngReg), Pre_GateWeight m →
    θ_run (Cert.GateWeight.defs (F := Bits)) (onTc (τ := Cert.GateWeight.τ) (Cert.GateWeight.main (F := Bits))) ⟨m, fun _ => 0, g⟩ (fun r => (∀ c : Dev Cert.GateWeight.nD,
      r.2.mem ((c.tc : Thread Cert.GateWeight.nD Cert.GateWeight.τ).loc Cert.GateWeight.main_arg0) = m ((c.tc : Thread Cert.GateWeight.nD Cert.GateWeight.τ).loc Cert.GateWeight.main_arg0)
      ∧ r.2.mem ((c.tc : Thread Cert.GateWeight.nD Cert.GateWeight.τ).loc Cert.GateWeight.main_arg1) = m ((c.tc : Thread Cert.GateWeight.nD Cert.GateWeight.τ).loc Cert.GateWeight.main_arg1)
      ∧ r.2.mem ((c.tc : Thread Cert.GateWeight.nD Cert.GateWeight.τ).loc Cert.GateWeight.main_arg2) = m ((c.tc : Thread Cert.GateWeight.nD Cert.GateWeight.τ).loc Cert.GateWeight.main_arg2))
      ∧ r.2.sem = fun _ => 0)

def quiescent_GateWeightIdeal [hGateWeightIdeal : Cert.GateWeightIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg), Pre_GateWeightIdeal m →
    θ_run (Cert.GateWeightIdeal.defs (F := Ideal)) (onTc (τ := Cert.GateWeightIdeal.τ) (Cert.GateWeightIdeal.main (F := Ideal))) ⟨m, fun _ => 0, g⟩ (fun r => (∀ c : Dev Cert.GateWeightIdeal.nD,
      r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
      ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1)
      ∧ r.2.mem ((c.tc : Thread Cert.GateWeightIdeal.nD Cert.GateWeightIdeal.τ).loc Cert.GateWeightIdeal.main_arg2) = m ((c.tc : Thread Cert.GateWeightIdeal.nD Cert.GateWeightIdeal.τ).loc Cert.GateWeightIdeal.main_arg2))
      ∧ r.2.sem = fun _ => 0)

def quiescent_GateWeightRefIdeal [hGateWeightRefIdeal : Cert.GateWeightRefIdeal.Facts] : Prop :=
  ∀ (m : (ℓ : Loc Cert.GateWeightRefIdeal.nD Cert.GateWeightRefIdeal.τ Cert.GateWeightRefIdeal.sig) → Buf (Elt Ideal) ℓ) (g : Dev Cert.GateWeightRefIdeal.nD → PrngReg), Pre_GateWeightRefIdeal m →
    θ_run (Cert.GateWeightRefIdeal.defs (F := Ideal)) (onTc (τ := Cert.GateWeightRefIdeal.τ) (Cert.GateWeightRefIdeal.main (F := Ideal))) ⟨m, fun _ => 0, g⟩ (fun r => (∀ c : Dev Cert.GateWeightRefIdeal.nD,
      r.2.mem ((c.tc : Thread Cert.GateWeightRefIdeal.nD Cert.GateWeightRefIdeal.τ).loc Cert.GateWeightRefIdeal.main_arg0) = m ((c.tc : Thread Cert.GateWeightRefIdeal.nD Cert.GateWeightRefIdeal.τ).loc Cert.GateWeightRefIdeal.main_arg0)
      ∧ r.2.mem ((c.tc : Thread Cert.GateWeightRefIdeal.nD Cert.GateWeightRefIdeal.τ).loc Cert.GateWeightRefIdeal.main_arg1) = m ((c.tc : Thread Cert.GateWeightRefIdeal.nD Cert.GateWeightRefIdeal.τ).loc Cert.GateWeightRefIdeal.main_arg1)
      ∧ r.2.mem ((c.tc : Thread Cert.GateWeightRefIdeal.nD Cert.GateWeightRefIdeal.τ).loc Cert.GateWeightRefIdeal.main_arg2) = m ((c.tc : Thread Cert.GateWeightRefIdeal.nD Cert.GateWeightRefIdeal.τ).loc Cert.GateWeightRefIdeal.main_arg2))
      ∧ r.2.sem = fun _ => 0)

def quiescent_DownForward [hDownForward : Cert.DownForward.Facts] : Prop :=
  ∀ (m : (ℓ : Loc Cert.DownForward.nD Cert.DownForward.τ Cert.DownForward.sig) → Buf (Elt Bits) ℓ) (g : Dev Cert.DownForward.nD → PrngReg), Pre_DownForward m →
    θ_run (Cert.DownForward.defs (F := Bits)) (onTc (τ := Cert.DownForward.τ) (Cert.DownForward.main (F := Bits))) ⟨m, fun _ => 0, g⟩ (fun r => (∀ c : Dev Cert.DownForward.nD,
      r.2.mem ((c.tc : Thread Cert.DownForward.nD Cert.DownForward.τ).loc Cert.DownForward.main_arg0) = m ((c.tc : Thread Cert.DownForward.nD Cert.DownForward.τ).loc Cert.DownForward.main_arg0)
      ∧ r.2.mem ((c.tc : Thread Cert.DownForward.nD Cert.DownForward.τ).loc Cert.DownForward.main_arg1) = m ((c.tc : Thread Cert.DownForward.nD Cert.DownForward.τ).loc Cert.DownForward.main_arg1))
      ∧ r.2.sem = fun _ => 0)

def quiescent_DownForwardIdeal [hDownForwardIdeal : Cert.DownForwardIdeal.Facts] : Prop :=
  ∀ (m : (ℓ : Loc Cert.DownForwardIdeal.nD Cert.DownForwardIdeal.τ Cert.DownForwardIdeal.sig) → Buf (Elt Ideal) ℓ) (g : Dev Cert.DownForwardIdeal.nD → PrngReg), Pre_DownForwardIdeal m →
    θ_run (Cert.DownForwardIdeal.defs (F := Ideal)) (onTc (τ := Cert.DownForwardIdeal.τ) (Cert.DownForwardIdeal.main (F := Ideal))) ⟨m, fun _ => 0, g⟩ (fun r => (∀ c : Dev Cert.DownForwardIdeal.nD,
      r.2.mem ((c.tc : Thread Cert.DownForwardIdeal.nD Cert.DownForwardIdeal.τ).loc Cert.DownForwardIdeal.main_arg0) = m ((c.tc : Thread Cert.DownForwardIdeal.nD Cert.DownForwardIdeal.τ).loc Cert.DownForwardIdeal.main_arg0)
      ∧ r.2.mem ((c.tc : Thread Cert.DownForwardIdeal.nD Cert.DownForwardIdeal.τ).loc Cert.DownForwardIdeal.main_arg1) = m ((c.tc : Thread Cert.DownForwardIdeal.nD Cert.DownForwardIdeal.τ).loc Cert.DownForwardIdeal.main_arg1))
      ∧ r.2.sem = fun _ => 0)

def quiescent_DownForwardRefIdeal [hDownForwardRefIdeal : Cert.DownForwardRefIdeal.Facts] : Prop :=
  ∀ (m : (ℓ : Loc Cert.DownForwardRefIdeal.nD Cert.DownForwardRefIdeal.τ Cert.DownForwardRefIdeal.sig) → Buf (Elt Ideal) ℓ) (g : Dev Cert.DownForwardRefIdeal.nD → PrngReg), Pre_DownForwardRefIdeal m →
    θ_run (Cert.DownForwardRefIdeal.defs (F := Ideal)) (onTc (τ := Cert.DownForwardRefIdeal.τ) (Cert.DownForwardRefIdeal.main (F := Ideal))) ⟨m, fun _ => 0, g⟩ (fun r => (∀ c : Dev Cert.DownForwardRefIdeal.nD,
      r.2.mem ((c.tc : Thread Cert.DownForwardRefIdeal.nD Cert.DownForwardRefIdeal.τ).loc Cert.DownForwardRefIdeal.main_arg0) = m ((c.tc : Thread Cert.DownForwardRefIdeal.nD Cert.DownForwardRefIdeal.τ).loc Cert.DownForwardRefIdeal.main_arg0)
      ∧ r.2.mem ((c.tc : Thread Cert.DownForwardRefIdeal.nD Cert.DownForwardRefIdeal.τ).loc Cert.DownForwardRefIdeal.main_arg1) = m ((c.tc : Thread Cert.DownForwardRefIdeal.nD Cert.DownForwardRefIdeal.τ).loc Cert.DownForwardRefIdeal.main_arg1))
      ∧ r.2.sem = fun _ => 0)

def quiescent_DownRows [hDownRows : Cert.DownRows.Facts] : Prop :=
  ∀ (m : (ℓ : Loc Cert.DownRows.nD Cert.DownRows.τ Cert.DownRows.sig) → Buf (Elt Bits) ℓ) (g : Dev Cert.DownRows.nD → PrngReg), Pre_DownRows m →
    θ_run (Cert.DownRows.defs (F := Bits)) (onTc (τ := Cert.DownRows.τ) (Cert.DownRows.main (F := Bits))) ⟨m, fun _ => 0, g⟩ (fun r => (∀ c : Dev Cert.DownRows.nD,
      r.2.mem ((c.tc : Thread Cert.DownRows.nD Cert.DownRows.τ).loc Cert.DownRows.main_arg0) = m ((c.tc : Thread Cert.DownRows.nD Cert.DownRows.τ).loc Cert.DownRows.main_arg0)
      ∧ r.2.mem ((c.tc : Thread Cert.DownRows.nD Cert.DownRows.τ).loc Cert.DownRows.main_arg1) = m ((c.tc : Thread Cert.DownRows.nD Cert.DownRows.τ).loc Cert.DownRows.main_arg1)
      ∧ r.2.mem ((c.tc : Thread Cert.DownRows.nD Cert.DownRows.τ).loc Cert.DownRows.main_arg2) = m ((c.tc : Thread Cert.DownRows.nD Cert.DownRows.τ).loc Cert.DownRows.main_arg2))
      ∧ r.2.sem = fun _ => 0)

def quiescent_DownRowsIdeal [hDownRowsIdeal : Cert.DownRowsIdeal.Facts] : Prop :=
  ∀ (m : (ℓ : Loc Cert.DownRowsIdeal.nD Cert.DownRowsIdeal.τ Cert.DownRowsIdeal.sig) → Buf (Elt Ideal) ℓ) (g : Dev Cert.DownRowsIdeal.nD → PrngReg), Pre_DownRowsIdeal m →
    θ_run (Cert.DownRowsIdeal.defs (F := Ideal)) (onTc (τ := Cert.DownRowsIdeal.τ) (Cert.DownRowsIdeal.main (F := Ideal))) ⟨m, fun _ => 0, g⟩ (fun r => (∀ c : Dev Cert.DownRowsIdeal.nD,
      r.2.mem ((c.tc : Thread Cert.DownRowsIdeal.nD Cert.DownRowsIdeal.τ).loc Cert.DownRowsIdeal.main_arg0) = m ((c.tc : Thread Cert.DownRowsIdeal.nD Cert.DownRowsIdeal.τ).loc Cert.DownRowsIdeal.main_arg0)
      ∧ r.2.mem ((c.tc : Thread Cert.DownRowsIdeal.nD Cert.DownRowsIdeal.τ).loc Cert.DownRowsIdeal.main_arg1) = m ((c.tc : Thread Cert.DownRowsIdeal.nD Cert.DownRowsIdeal.τ).loc Cert.DownRowsIdeal.main_arg1)
      ∧ r.2.mem ((c.tc : Thread Cert.DownRowsIdeal.nD Cert.DownRowsIdeal.τ).loc Cert.DownRowsIdeal.main_arg2) = m ((c.tc : Thread Cert.DownRowsIdeal.nD Cert.DownRowsIdeal.τ).loc Cert.DownRowsIdeal.main_arg2))
      ∧ r.2.sem = fun _ => 0)

def quiescent_DownRowsRefIdeal [hDownRowsRefIdeal : Cert.DownRowsRefIdeal.Facts] : Prop :=
  ∀ (m : (ℓ : Loc Cert.DownRowsRefIdeal.nD Cert.DownRowsRefIdeal.τ Cert.DownRowsRefIdeal.sig) → Buf (Elt Ideal) ℓ) (g : Dev Cert.DownRowsRefIdeal.nD → PrngReg), Pre_DownRowsRefIdeal m →
    θ_run (Cert.DownRowsRefIdeal.defs (F := Ideal)) (onTc (τ := Cert.DownRowsRefIdeal.τ) (Cert.DownRowsRefIdeal.main (F := Ideal))) ⟨m, fun _ => 0, g⟩ (fun r => (∀ c : Dev Cert.DownRowsRefIdeal.nD,
      r.2.mem ((c.tc : Thread Cert.DownRowsRefIdeal.nD Cert.DownRowsRefIdeal.τ).loc Cert.DownRowsRefIdeal.main_arg0) = m ((c.tc : Thread Cert.DownRowsRefIdeal.nD Cert.DownRowsRefIdeal.τ).loc Cert.DownRowsRefIdeal.main_arg0)
      ∧ r.2.mem ((c.tc : Thread Cert.DownRowsRefIdeal.nD Cert.DownRowsRefIdeal.τ).loc Cert.DownRowsRefIdeal.main_arg1) = m ((c.tc : Thread Cert.DownRowsRefIdeal.nD Cert.DownRowsRefIdeal.τ).loc Cert.DownRowsRefIdeal.main_arg1)
      ∧ r.2.mem ((c.tc : Thread Cert.DownRowsRefIdeal.nD Cert.DownRowsRefIdeal.τ).loc Cert.DownRowsRefIdeal.main_arg2) = m ((c.tc : Thread Cert.DownRowsRefIdeal.nD Cert.DownRowsRefIdeal.τ).loc Cert.DownRowsRefIdeal.main_arg2))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1)
      ∧ r.2.mem ((c.tc : Thread Cert.DownWeight.nD Cert.DownWeight.τ).loc Cert.DownWeight.main_arg2) = m ((c.tc : Thread Cert.DownWeight.nD Cert.DownWeight.τ).loc Cert.DownWeight.main_arg2))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1)
      ∧ r.2.mem ((c.tc : Thread Cert.DownWeightIdeal.nD Cert.DownWeightIdeal.τ).loc Cert.DownWeightIdeal.main_arg2) = m ((c.tc : Thread Cert.DownWeightIdeal.nD Cert.DownWeightIdeal.τ).loc Cert.DownWeightIdeal.main_arg2))
      ∧ r.2.sem = fun _ => 0)

def quiescent_DownWeightRefIdeal [hDownWeightRefIdeal : Cert.DownWeightRefIdeal.Facts] : Prop :=
  ∀ (m : (ℓ : Loc Cert.DownWeightRefIdeal.nD Cert.DownWeightRefIdeal.τ Cert.DownWeightRefIdeal.sig) → Buf (Elt Ideal) ℓ) (g : Dev Cert.DownWeightRefIdeal.nD → PrngReg), Pre_DownWeightRefIdeal m →
    θ_run (Cert.DownWeightRefIdeal.defs (F := Ideal)) (onTc (τ := Cert.DownWeightRefIdeal.τ) (Cert.DownWeightRefIdeal.main (F := Ideal))) ⟨m, fun _ => 0, g⟩ (fun r => (∀ c : Dev Cert.DownWeightRefIdeal.nD,
      r.2.mem ((c.tc : Thread Cert.DownWeightRefIdeal.nD Cert.DownWeightRefIdeal.τ).loc Cert.DownWeightRefIdeal.main_arg0) = m ((c.tc : Thread Cert.DownWeightRefIdeal.nD Cert.DownWeightRefIdeal.τ).loc Cert.DownWeightRefIdeal.main_arg0)
      ∧ r.2.mem ((c.tc : Thread Cert.DownWeightRefIdeal.nD Cert.DownWeightRefIdeal.τ).loc Cert.DownWeightRefIdeal.main_arg1) = m ((c.tc : Thread Cert.DownWeightRefIdeal.nD Cert.DownWeightRefIdeal.τ).loc Cert.DownWeightRefIdeal.main_arg1)
      ∧ r.2.mem ((c.tc : Thread Cert.DownWeightRefIdeal.nD Cert.DownWeightRefIdeal.τ).loc Cert.DownWeightRefIdeal.main_arg2) = m ((c.tc : Thread Cert.DownWeightRefIdeal.nD Cert.DownWeightRefIdeal.τ).loc Cert.DownWeightRefIdeal.main_arg2))
      ∧ r.2.sem = fun _ => 0)

def quiescent_OutForward [hOutForward : Cert.OutForward.Facts] : Prop :=
  ∀ (m : (ℓ : Loc Cert.OutForward.nD Cert.OutForward.τ Cert.OutForward.sig) → Buf (Elt Bits) ℓ) (g : Dev Cert.OutForward.nD → PrngReg), Pre_OutForward m →
    θ_run (Cert.OutForward.defs (F := Bits)) (onTc (τ := Cert.OutForward.τ) (Cert.OutForward.main (F := Bits))) ⟨m, fun _ => 0, g⟩ (fun r => (∀ c : Dev Cert.OutForward.nD,
      r.2.mem ((c.tc : Thread Cert.OutForward.nD Cert.OutForward.τ).loc Cert.OutForward.main_arg0) = m ((c.tc : Thread Cert.OutForward.nD Cert.OutForward.τ).loc Cert.OutForward.main_arg0)
      ∧ r.2.mem ((c.tc : Thread Cert.OutForward.nD Cert.OutForward.τ).loc Cert.OutForward.main_arg1) = m ((c.tc : Thread Cert.OutForward.nD Cert.OutForward.τ).loc Cert.OutForward.main_arg1))
      ∧ r.2.sem = fun _ => 0)

def quiescent_OutForwardIdeal [hOutForwardIdeal : Cert.OutForwardIdeal.Facts] : Prop :=
  ∀ (m : (ℓ : Loc Cert.OutForwardIdeal.nD Cert.OutForwardIdeal.τ Cert.OutForwardIdeal.sig) → Buf (Elt Ideal) ℓ) (g : Dev Cert.OutForwardIdeal.nD → PrngReg), Pre_OutForwardIdeal m →
    θ_run (Cert.OutForwardIdeal.defs (F := Ideal)) (onTc (τ := Cert.OutForwardIdeal.τ) (Cert.OutForwardIdeal.main (F := Ideal))) ⟨m, fun _ => 0, g⟩ (fun r => (∀ c : Dev Cert.OutForwardIdeal.nD,
      r.2.mem ((c.tc : Thread Cert.OutForwardIdeal.nD Cert.OutForwardIdeal.τ).loc Cert.OutForwardIdeal.main_arg0) = m ((c.tc : Thread Cert.OutForwardIdeal.nD Cert.OutForwardIdeal.τ).loc Cert.OutForwardIdeal.main_arg0)
      ∧ r.2.mem ((c.tc : Thread Cert.OutForwardIdeal.nD Cert.OutForwardIdeal.τ).loc Cert.OutForwardIdeal.main_arg1) = m ((c.tc : Thread Cert.OutForwardIdeal.nD Cert.OutForwardIdeal.τ).loc Cert.OutForwardIdeal.main_arg1))
      ∧ r.2.sem = fun _ => 0)

def quiescent_OutForwardRefIdeal [hOutForwardRefIdeal : Cert.OutForwardRefIdeal.Facts] : Prop :=
  ∀ (m : (ℓ : Loc Cert.OutForwardRefIdeal.nD Cert.OutForwardRefIdeal.τ Cert.OutForwardRefIdeal.sig) → Buf (Elt Ideal) ℓ) (g : Dev Cert.OutForwardRefIdeal.nD → PrngReg), Pre_OutForwardRefIdeal m →
    θ_run (Cert.OutForwardRefIdeal.defs (F := Ideal)) (onTc (τ := Cert.OutForwardRefIdeal.τ) (Cert.OutForwardRefIdeal.main (F := Ideal))) ⟨m, fun _ => 0, g⟩ (fun r => (∀ c : Dev Cert.OutForwardRefIdeal.nD,
      r.2.mem ((c.tc : Thread Cert.OutForwardRefIdeal.nD Cert.OutForwardRefIdeal.τ).loc Cert.OutForwardRefIdeal.main_arg0) = m ((c.tc : Thread Cert.OutForwardRefIdeal.nD Cert.OutForwardRefIdeal.τ).loc Cert.OutForwardRefIdeal.main_arg0)
      ∧ r.2.mem ((c.tc : Thread Cert.OutForwardRefIdeal.nD Cert.OutForwardRefIdeal.τ).loc Cert.OutForwardRefIdeal.main_arg1) = m ((c.tc : Thread Cert.OutForwardRefIdeal.nD Cert.OutForwardRefIdeal.τ).loc Cert.OutForwardRefIdeal.main_arg1))
      ∧ r.2.sem = fun _ => 0)

def quiescent_OutRows [hOutRows : Cert.OutRows.Facts] : Prop :=
  ∀ (m : (ℓ : Loc Cert.OutRows.nD Cert.OutRows.τ Cert.OutRows.sig) → Buf (Elt Bits) ℓ) (g : Dev Cert.OutRows.nD → PrngReg), Pre_OutRows m →
    θ_run (Cert.OutRows.defs (F := Bits)) (onTc (τ := Cert.OutRows.τ) (Cert.OutRows.main (F := Bits))) ⟨m, fun _ => 0, g⟩ (fun r => (∀ c : Dev Cert.OutRows.nD,
      r.2.mem ((c.tc : Thread Cert.OutRows.nD Cert.OutRows.τ).loc Cert.OutRows.main_arg0) = m ((c.tc : Thread Cert.OutRows.nD Cert.OutRows.τ).loc Cert.OutRows.main_arg0)
      ∧ r.2.mem ((c.tc : Thread Cert.OutRows.nD Cert.OutRows.τ).loc Cert.OutRows.main_arg1) = m ((c.tc : Thread Cert.OutRows.nD Cert.OutRows.τ).loc Cert.OutRows.main_arg1)
      ∧ r.2.mem ((c.tc : Thread Cert.OutRows.nD Cert.OutRows.τ).loc Cert.OutRows.main_arg2) = m ((c.tc : Thread Cert.OutRows.nD Cert.OutRows.τ).loc Cert.OutRows.main_arg2))
      ∧ r.2.sem = fun _ => 0)

def quiescent_OutRowsIdeal [hOutRowsIdeal : Cert.OutRowsIdeal.Facts] : Prop :=
  ∀ (m : (ℓ : Loc Cert.OutRowsIdeal.nD Cert.OutRowsIdeal.τ Cert.OutRowsIdeal.sig) → Buf (Elt Ideal) ℓ) (g : Dev Cert.OutRowsIdeal.nD → PrngReg), Pre_OutRowsIdeal m →
    θ_run (Cert.OutRowsIdeal.defs (F := Ideal)) (onTc (τ := Cert.OutRowsIdeal.τ) (Cert.OutRowsIdeal.main (F := Ideal))) ⟨m, fun _ => 0, g⟩ (fun r => (∀ c : Dev Cert.OutRowsIdeal.nD,
      r.2.mem ((c.tc : Thread Cert.OutRowsIdeal.nD Cert.OutRowsIdeal.τ).loc Cert.OutRowsIdeal.main_arg0) = m ((c.tc : Thread Cert.OutRowsIdeal.nD Cert.OutRowsIdeal.τ).loc Cert.OutRowsIdeal.main_arg0)
      ∧ r.2.mem ((c.tc : Thread Cert.OutRowsIdeal.nD Cert.OutRowsIdeal.τ).loc Cert.OutRowsIdeal.main_arg1) = m ((c.tc : Thread Cert.OutRowsIdeal.nD Cert.OutRowsIdeal.τ).loc Cert.OutRowsIdeal.main_arg1)
      ∧ r.2.mem ((c.tc : Thread Cert.OutRowsIdeal.nD Cert.OutRowsIdeal.τ).loc Cert.OutRowsIdeal.main_arg2) = m ((c.tc : Thread Cert.OutRowsIdeal.nD Cert.OutRowsIdeal.τ).loc Cert.OutRowsIdeal.main_arg2))
      ∧ r.2.sem = fun _ => 0)

def quiescent_OutRowsRefIdeal [hOutRowsRefIdeal : Cert.OutRowsRefIdeal.Facts] : Prop :=
  ∀ (m : (ℓ : Loc Cert.OutRowsRefIdeal.nD Cert.OutRowsRefIdeal.τ Cert.OutRowsRefIdeal.sig) → Buf (Elt Ideal) ℓ) (g : Dev Cert.OutRowsRefIdeal.nD → PrngReg), Pre_OutRowsRefIdeal m →
    θ_run (Cert.OutRowsRefIdeal.defs (F := Ideal)) (onTc (τ := Cert.OutRowsRefIdeal.τ) (Cert.OutRowsRefIdeal.main (F := Ideal))) ⟨m, fun _ => 0, g⟩ (fun r => (∀ c : Dev Cert.OutRowsRefIdeal.nD,
      r.2.mem ((c.tc : Thread Cert.OutRowsRefIdeal.nD Cert.OutRowsRefIdeal.τ).loc Cert.OutRowsRefIdeal.main_arg0) = m ((c.tc : Thread Cert.OutRowsRefIdeal.nD Cert.OutRowsRefIdeal.τ).loc Cert.OutRowsRefIdeal.main_arg0)
      ∧ r.2.mem ((c.tc : Thread Cert.OutRowsRefIdeal.nD Cert.OutRowsRefIdeal.τ).loc Cert.OutRowsRefIdeal.main_arg1) = m ((c.tc : Thread Cert.OutRowsRefIdeal.nD Cert.OutRowsRefIdeal.τ).loc Cert.OutRowsRefIdeal.main_arg1)
      ∧ r.2.mem ((c.tc : Thread Cert.OutRowsRefIdeal.nD Cert.OutRowsRefIdeal.τ).loc Cert.OutRowsRefIdeal.main_arg2) = m ((c.tc : Thread Cert.OutRowsRefIdeal.nD Cert.OutRowsRefIdeal.τ).loc Cert.OutRowsRefIdeal.main_arg2))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1)
      ∧ r.2.mem ((c.tc : Thread Cert.OutWeight.nD Cert.OutWeight.τ).loc Cert.OutWeight.main_arg2) = m ((c.tc : Thread Cert.OutWeight.nD Cert.OutWeight.τ).loc Cert.OutWeight.main_arg2))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1)
      ∧ r.2.mem ((c.tc : Thread Cert.OutWeightIdeal.nD Cert.OutWeightIdeal.τ).loc Cert.OutWeightIdeal.main_arg2) = m ((c.tc : Thread Cert.OutWeightIdeal.nD Cert.OutWeightIdeal.τ).loc Cert.OutWeightIdeal.main_arg2))
      ∧ r.2.sem = fun _ => 0)

def quiescent_OutWeightRefIdeal [hOutWeightRefIdeal : Cert.OutWeightRefIdeal.Facts] : Prop :=
  ∀ (m : (ℓ : Loc Cert.OutWeightRefIdeal.nD Cert.OutWeightRefIdeal.τ Cert.OutWeightRefIdeal.sig) → Buf (Elt Ideal) ℓ) (g : Dev Cert.OutWeightRefIdeal.nD → PrngReg), Pre_OutWeightRefIdeal m →
    θ_run (Cert.OutWeightRefIdeal.defs (F := Ideal)) (onTc (τ := Cert.OutWeightRefIdeal.τ) (Cert.OutWeightRefIdeal.main (F := Ideal))) ⟨m, fun _ => 0, g⟩ (fun r => (∀ c : Dev Cert.OutWeightRefIdeal.nD,
      r.2.mem ((c.tc : Thread Cert.OutWeightRefIdeal.nD Cert.OutWeightRefIdeal.τ).loc Cert.OutWeightRefIdeal.main_arg0) = m ((c.tc : Thread Cert.OutWeightRefIdeal.nD Cert.OutWeightRefIdeal.τ).loc Cert.OutWeightRefIdeal.main_arg0)
      ∧ r.2.mem ((c.tc : Thread Cert.OutWeightRefIdeal.nD Cert.OutWeightRefIdeal.τ).loc Cert.OutWeightRefIdeal.main_arg1) = m ((c.tc : Thread Cert.OutWeightRefIdeal.nD Cert.OutWeightRefIdeal.τ).loc Cert.OutWeightRefIdeal.main_arg1)
      ∧ r.2.mem ((c.tc : Thread Cert.OutWeightRefIdeal.nD Cert.OutWeightRefIdeal.τ).loc Cert.OutWeightRefIdeal.main_arg2) = m ((c.tc : Thread Cert.OutWeightRefIdeal.nD Cert.OutWeightRefIdeal.τ).loc Cert.OutWeightRefIdeal.main_arg2))
      ∧ r.2.sem = fun _ => 0)

def quiescent_DInForward [hDInForward : Cert.DInForward.Facts] : Prop :=
  ∀ (m : (ℓ : Loc Cert.DInForward.nD Cert.DInForward.τ Cert.DInForward.sig) → Buf (Elt Bits) ℓ) (g : Dev Cert.DInForward.nD → PrngReg), Pre_DInForward m →
    θ_run (Cert.DInForward.defs (F := Bits)) (onTc (τ := Cert.DInForward.τ) (Cert.DInForward.main (F := Bits))) ⟨m, fun _ => 0, g⟩ (fun r => (∀ c : Dev Cert.DInForward.nD,
      r.2.mem ((c.tc : Thread Cert.DInForward.nD Cert.DInForward.τ).loc Cert.DInForward.main_arg0) = m ((c.tc : Thread Cert.DInForward.nD Cert.DInForward.τ).loc Cert.DInForward.main_arg0)
      ∧ r.2.mem ((c.tc : Thread Cert.DInForward.nD Cert.DInForward.τ).loc Cert.DInForward.main_arg1) = m ((c.tc : Thread Cert.DInForward.nD Cert.DInForward.τ).loc Cert.DInForward.main_arg1))
      ∧ r.2.sem = fun _ => 0)

def quiescent_DInForwardIdeal [hDInForwardIdeal : Cert.DInForwardIdeal.Facts] : Prop :=
  ∀ (m : (ℓ : Loc Cert.DInForwardIdeal.nD Cert.DInForwardIdeal.τ Cert.DInForwardIdeal.sig) → Buf (Elt Ideal) ℓ) (g : Dev Cert.DInForwardIdeal.nD → PrngReg), Pre_DInForwardIdeal m →
    θ_run (Cert.DInForwardIdeal.defs (F := Ideal)) (onTc (τ := Cert.DInForwardIdeal.τ) (Cert.DInForwardIdeal.main (F := Ideal))) ⟨m, fun _ => 0, g⟩ (fun r => (∀ c : Dev Cert.DInForwardIdeal.nD,
      r.2.mem ((c.tc : Thread Cert.DInForwardIdeal.nD Cert.DInForwardIdeal.τ).loc Cert.DInForwardIdeal.main_arg0) = m ((c.tc : Thread Cert.DInForwardIdeal.nD Cert.DInForwardIdeal.τ).loc Cert.DInForwardIdeal.main_arg0)
      ∧ r.2.mem ((c.tc : Thread Cert.DInForwardIdeal.nD Cert.DInForwardIdeal.τ).loc Cert.DInForwardIdeal.main_arg1) = m ((c.tc : Thread Cert.DInForwardIdeal.nD Cert.DInForwardIdeal.τ).loc Cert.DInForwardIdeal.main_arg1))
      ∧ r.2.sem = fun _ => 0)

def quiescent_DInForwardRefIdeal [hDInForwardRefIdeal : Cert.DInForwardRefIdeal.Facts] : Prop :=
  ∀ (m : (ℓ : Loc Cert.DInForwardRefIdeal.nD Cert.DInForwardRefIdeal.τ Cert.DInForwardRefIdeal.sig) → Buf (Elt Ideal) ℓ) (g : Dev Cert.DInForwardRefIdeal.nD → PrngReg), Pre_DInForwardRefIdeal m →
    θ_run (Cert.DInForwardRefIdeal.defs (F := Ideal)) (onTc (τ := Cert.DInForwardRefIdeal.τ) (Cert.DInForwardRefIdeal.main (F := Ideal))) ⟨m, fun _ => 0, g⟩ (fun r => (∀ c : Dev Cert.DInForwardRefIdeal.nD,
      r.2.mem ((c.tc : Thread Cert.DInForwardRefIdeal.nD Cert.DInForwardRefIdeal.τ).loc Cert.DInForwardRefIdeal.main_arg0) = m ((c.tc : Thread Cert.DInForwardRefIdeal.nD Cert.DInForwardRefIdeal.τ).loc Cert.DInForwardRefIdeal.main_arg0)
      ∧ r.2.mem ((c.tc : Thread Cert.DInForwardRefIdeal.nD Cert.DInForwardRefIdeal.τ).loc Cert.DInForwardRefIdeal.main_arg1) = m ((c.tc : Thread Cert.DInForwardRefIdeal.nD Cert.DInForwardRefIdeal.τ).loc Cert.DInForwardRefIdeal.main_arg1))
      ∧ r.2.sem = fun _ => 0)

def quiescent_DInRows [hDInRows : Cert.DInRows.Facts] : Prop :=
  ∀ (m : (ℓ : Loc Cert.DInRows.nD Cert.DInRows.τ Cert.DInRows.sig) → Buf (Elt Bits) ℓ) (g : Dev Cert.DInRows.nD → PrngReg), Pre_DInRows m →
    θ_run (Cert.DInRows.defs (F := Bits)) (onTc (τ := Cert.DInRows.τ) (Cert.DInRows.main (F := Bits))) ⟨m, fun _ => 0, g⟩ (fun r => (∀ c : Dev Cert.DInRows.nD,
      r.2.mem ((c.tc : Thread Cert.DInRows.nD Cert.DInRows.τ).loc Cert.DInRows.main_arg0) = m ((c.tc : Thread Cert.DInRows.nD Cert.DInRows.τ).loc Cert.DInRows.main_arg0)
      ∧ r.2.mem ((c.tc : Thread Cert.DInRows.nD Cert.DInRows.τ).loc Cert.DInRows.main_arg1) = m ((c.tc : Thread Cert.DInRows.nD Cert.DInRows.τ).loc Cert.DInRows.main_arg1)
      ∧ r.2.mem ((c.tc : Thread Cert.DInRows.nD Cert.DInRows.τ).loc Cert.DInRows.main_arg2) = m ((c.tc : Thread Cert.DInRows.nD Cert.DInRows.τ).loc Cert.DInRows.main_arg2))
      ∧ r.2.sem = fun _ => 0)

def quiescent_DInRowsIdeal [hDInRowsIdeal : Cert.DInRowsIdeal.Facts] : Prop :=
  ∀ (m : (ℓ : Loc Cert.DInRowsIdeal.nD Cert.DInRowsIdeal.τ Cert.DInRowsIdeal.sig) → Buf (Elt Ideal) ℓ) (g : Dev Cert.DInRowsIdeal.nD → PrngReg), Pre_DInRowsIdeal m →
    θ_run (Cert.DInRowsIdeal.defs (F := Ideal)) (onTc (τ := Cert.DInRowsIdeal.τ) (Cert.DInRowsIdeal.main (F := Ideal))) ⟨m, fun _ => 0, g⟩ (fun r => (∀ c : Dev Cert.DInRowsIdeal.nD,
      r.2.mem ((c.tc : Thread Cert.DInRowsIdeal.nD Cert.DInRowsIdeal.τ).loc Cert.DInRowsIdeal.main_arg0) = m ((c.tc : Thread Cert.DInRowsIdeal.nD Cert.DInRowsIdeal.τ).loc Cert.DInRowsIdeal.main_arg0)
      ∧ r.2.mem ((c.tc : Thread Cert.DInRowsIdeal.nD Cert.DInRowsIdeal.τ).loc Cert.DInRowsIdeal.main_arg1) = m ((c.tc : Thread Cert.DInRowsIdeal.nD Cert.DInRowsIdeal.τ).loc Cert.DInRowsIdeal.main_arg1)
      ∧ r.2.mem ((c.tc : Thread Cert.DInRowsIdeal.nD Cert.DInRowsIdeal.τ).loc Cert.DInRowsIdeal.main_arg2) = m ((c.tc : Thread Cert.DInRowsIdeal.nD Cert.DInRowsIdeal.τ).loc Cert.DInRowsIdeal.main_arg2))
      ∧ r.2.sem = fun _ => 0)

def quiescent_DInRowsRefIdeal [hDInRowsRefIdeal : Cert.DInRowsRefIdeal.Facts] : Prop :=
  ∀ (m : (ℓ : Loc Cert.DInRowsRefIdeal.nD Cert.DInRowsRefIdeal.τ Cert.DInRowsRefIdeal.sig) → Buf (Elt Ideal) ℓ) (g : Dev Cert.DInRowsRefIdeal.nD → PrngReg), Pre_DInRowsRefIdeal m →
    θ_run (Cert.DInRowsRefIdeal.defs (F := Ideal)) (onTc (τ := Cert.DInRowsRefIdeal.τ) (Cert.DInRowsRefIdeal.main (F := Ideal))) ⟨m, fun _ => 0, g⟩ (fun r => (∀ c : Dev Cert.DInRowsRefIdeal.nD,
      r.2.mem ((c.tc : Thread Cert.DInRowsRefIdeal.nD Cert.DInRowsRefIdeal.τ).loc Cert.DInRowsRefIdeal.main_arg0) = m ((c.tc : Thread Cert.DInRowsRefIdeal.nD Cert.DInRowsRefIdeal.τ).loc Cert.DInRowsRefIdeal.main_arg0)
      ∧ r.2.mem ((c.tc : Thread Cert.DInRowsRefIdeal.nD Cert.DInRowsRefIdeal.τ).loc Cert.DInRowsRefIdeal.main_arg1) = m ((c.tc : Thread Cert.DInRowsRefIdeal.nD Cert.DInRowsRefIdeal.τ).loc Cert.DInRowsRefIdeal.main_arg1)
      ∧ r.2.mem ((c.tc : Thread Cert.DInRowsRefIdeal.nD Cert.DInRowsRefIdeal.τ).loc Cert.DInRowsRefIdeal.main_arg2) = m ((c.tc : Thread Cert.DInRowsRefIdeal.nD Cert.DInRowsRefIdeal.τ).loc Cert.DInRowsRefIdeal.main_arg2))
      ∧ r.2.sem = fun _ => 0)

def quiescent_DInWeight [hDInWeight : Cert.DInWeight.Facts] : Prop :=
  ∀ (m : (ℓ : Loc Cert.DInWeight.nD Cert.DInWeight.τ Cert.DInWeight.sig) → Buf (Elt Bits) ℓ) (g : Dev Cert.DInWeight.nD → PrngReg), Pre_DInWeight m →
    θ_run (Cert.DInWeight.defs (F := Bits)) (onTc (τ := Cert.DInWeight.τ) (Cert.DInWeight.main (F := Bits))) ⟨m, fun _ => 0, g⟩ (fun r => (∀ c : Dev Cert.DInWeight.nD,
      r.2.mem ((c.tc : Thread Cert.DInWeight.nD Cert.DInWeight.τ).loc Cert.DInWeight.main_arg0) = m ((c.tc : Thread Cert.DInWeight.nD Cert.DInWeight.τ).loc Cert.DInWeight.main_arg0)
      ∧ r.2.mem ((c.tc : Thread Cert.DInWeight.nD Cert.DInWeight.τ).loc Cert.DInWeight.main_arg1) = m ((c.tc : Thread Cert.DInWeight.nD Cert.DInWeight.τ).loc Cert.DInWeight.main_arg1)
      ∧ r.2.mem ((c.tc : Thread Cert.DInWeight.nD Cert.DInWeight.τ).loc Cert.DInWeight.main_arg2) = m ((c.tc : Thread Cert.DInWeight.nD Cert.DInWeight.τ).loc Cert.DInWeight.main_arg2))
      ∧ r.2.sem = fun _ => 0)

def quiescent_DInWeightIdeal [hDInWeightIdeal : Cert.DInWeightIdeal.Facts] : Prop :=
  ∀ (m : (ℓ : Loc Cert.DInWeightIdeal.nD Cert.DInWeightIdeal.τ Cert.DInWeightIdeal.sig) → Buf (Elt Ideal) ℓ) (g : Dev Cert.DInWeightIdeal.nD → PrngReg), Pre_DInWeightIdeal m →
    θ_run (Cert.DInWeightIdeal.defs (F := Ideal)) (onTc (τ := Cert.DInWeightIdeal.τ) (Cert.DInWeightIdeal.main (F := Ideal))) ⟨m, fun _ => 0, g⟩ (fun r => (∀ c : Dev Cert.DInWeightIdeal.nD,
      r.2.mem ((c.tc : Thread Cert.DInWeightIdeal.nD Cert.DInWeightIdeal.τ).loc Cert.DInWeightIdeal.main_arg0) = m ((c.tc : Thread Cert.DInWeightIdeal.nD Cert.DInWeightIdeal.τ).loc Cert.DInWeightIdeal.main_arg0)
      ∧ r.2.mem ((c.tc : Thread Cert.DInWeightIdeal.nD Cert.DInWeightIdeal.τ).loc Cert.DInWeightIdeal.main_arg1) = m ((c.tc : Thread Cert.DInWeightIdeal.nD Cert.DInWeightIdeal.τ).loc Cert.DInWeightIdeal.main_arg1)
      ∧ r.2.mem ((c.tc : Thread Cert.DInWeightIdeal.nD Cert.DInWeightIdeal.τ).loc Cert.DInWeightIdeal.main_arg2) = m ((c.tc : Thread Cert.DInWeightIdeal.nD Cert.DInWeightIdeal.τ).loc Cert.DInWeightIdeal.main_arg2))
      ∧ r.2.sem = fun _ => 0)

def quiescent_DInWeightRefIdeal [hDInWeightRefIdeal : Cert.DInWeightRefIdeal.Facts] : Prop :=
  ∀ (m : (ℓ : Loc Cert.DInWeightRefIdeal.nD Cert.DInWeightRefIdeal.τ Cert.DInWeightRefIdeal.sig) → Buf (Elt Ideal) ℓ) (g : Dev Cert.DInWeightRefIdeal.nD → PrngReg), Pre_DInWeightRefIdeal m →
    θ_run (Cert.DInWeightRefIdeal.defs (F := Ideal)) (onTc (τ := Cert.DInWeightRefIdeal.τ) (Cert.DInWeightRefIdeal.main (F := Ideal))) ⟨m, fun _ => 0, g⟩ (fun r => (∀ c : Dev Cert.DInWeightRefIdeal.nD,
      r.2.mem ((c.tc : Thread Cert.DInWeightRefIdeal.nD Cert.DInWeightRefIdeal.τ).loc Cert.DInWeightRefIdeal.main_arg0) = m ((c.tc : Thread Cert.DInWeightRefIdeal.nD Cert.DInWeightRefIdeal.τ).loc Cert.DInWeightRefIdeal.main_arg0)
      ∧ r.2.mem ((c.tc : Thread Cert.DInWeightRefIdeal.nD Cert.DInWeightRefIdeal.τ).loc Cert.DInWeightRefIdeal.main_arg1) = m ((c.tc : Thread Cert.DInWeightRefIdeal.nD Cert.DInWeightRefIdeal.τ).loc Cert.DInWeightRefIdeal.main_arg1)
      ∧ r.2.mem ((c.tc : Thread Cert.DInWeightRefIdeal.nD Cert.DInWeightRefIdeal.τ).loc Cert.DInWeightRefIdeal.main_arg2) = m ((c.tc : Thread Cert.DInWeightRefIdeal.nD Cert.DInWeightRefIdeal.τ).loc Cert.DInWeightRefIdeal.main_arg2))
      ∧ r.2.sem = fun _ => 0)

def quiescent_CInForward [hCInForward : Cert.CInForward.Facts] : Prop :=
  ∀ (m : (ℓ : Loc Cert.CInForward.nD Cert.CInForward.τ Cert.CInForward.sig) → Buf (Elt Bits) ℓ) (g : Dev Cert.CInForward.nD → PrngReg), Pre_CInForward m →
    θ_run (Cert.CInForward.defs (F := Bits)) (onTc (τ := Cert.CInForward.τ) (Cert.CInForward.main (F := Bits))) ⟨m, fun _ => 0, g⟩ (fun r => (∀ c : Dev Cert.CInForward.nD,
      r.2.mem ((c.tc : Thread Cert.CInForward.nD Cert.CInForward.τ).loc Cert.CInForward.main_arg0) = m ((c.tc : Thread Cert.CInForward.nD Cert.CInForward.τ).loc Cert.CInForward.main_arg0)
      ∧ r.2.mem ((c.tc : Thread Cert.CInForward.nD Cert.CInForward.τ).loc Cert.CInForward.main_arg1) = m ((c.tc : Thread Cert.CInForward.nD Cert.CInForward.τ).loc Cert.CInForward.main_arg1))
      ∧ r.2.sem = fun _ => 0)

def quiescent_CInForwardIdeal [hCInForwardIdeal : Cert.CInForwardIdeal.Facts] : Prop :=
  ∀ (m : (ℓ : Loc Cert.CInForwardIdeal.nD Cert.CInForwardIdeal.τ Cert.CInForwardIdeal.sig) → Buf (Elt Ideal) ℓ) (g : Dev Cert.CInForwardIdeal.nD → PrngReg), Pre_CInForwardIdeal m →
    θ_run (Cert.CInForwardIdeal.defs (F := Ideal)) (onTc (τ := Cert.CInForwardIdeal.τ) (Cert.CInForwardIdeal.main (F := Ideal))) ⟨m, fun _ => 0, g⟩ (fun r => (∀ c : Dev Cert.CInForwardIdeal.nD,
      r.2.mem ((c.tc : Thread Cert.CInForwardIdeal.nD Cert.CInForwardIdeal.τ).loc Cert.CInForwardIdeal.main_arg0) = m ((c.tc : Thread Cert.CInForwardIdeal.nD Cert.CInForwardIdeal.τ).loc Cert.CInForwardIdeal.main_arg0)
      ∧ r.2.mem ((c.tc : Thread Cert.CInForwardIdeal.nD Cert.CInForwardIdeal.τ).loc Cert.CInForwardIdeal.main_arg1) = m ((c.tc : Thread Cert.CInForwardIdeal.nD Cert.CInForwardIdeal.τ).loc Cert.CInForwardIdeal.main_arg1))
      ∧ r.2.sem = fun _ => 0)

def quiescent_CInForwardRefIdeal [hCInForwardRefIdeal : Cert.CInForwardRefIdeal.Facts] : Prop :=
  ∀ (m : (ℓ : Loc Cert.CInForwardRefIdeal.nD Cert.CInForwardRefIdeal.τ Cert.CInForwardRefIdeal.sig) → Buf (Elt Ideal) ℓ) (g : Dev Cert.CInForwardRefIdeal.nD → PrngReg), Pre_CInForwardRefIdeal m →
    θ_run (Cert.CInForwardRefIdeal.defs (F := Ideal)) (onTc (τ := Cert.CInForwardRefIdeal.τ) (Cert.CInForwardRefIdeal.main (F := Ideal))) ⟨m, fun _ => 0, g⟩ (fun r => (∀ c : Dev Cert.CInForwardRefIdeal.nD,
      r.2.mem ((c.tc : Thread Cert.CInForwardRefIdeal.nD Cert.CInForwardRefIdeal.τ).loc Cert.CInForwardRefIdeal.main_arg0) = m ((c.tc : Thread Cert.CInForwardRefIdeal.nD Cert.CInForwardRefIdeal.τ).loc Cert.CInForwardRefIdeal.main_arg0)
      ∧ r.2.mem ((c.tc : Thread Cert.CInForwardRefIdeal.nD Cert.CInForwardRefIdeal.τ).loc Cert.CInForwardRefIdeal.main_arg1) = m ((c.tc : Thread Cert.CInForwardRefIdeal.nD Cert.CInForwardRefIdeal.τ).loc Cert.CInForwardRefIdeal.main_arg1))
      ∧ r.2.sem = fun _ => 0)

def quiescent_CInRows [hCInRows : Cert.CInRows.Facts] : Prop :=
  ∀ (m : (ℓ : Loc Cert.CInRows.nD Cert.CInRows.τ Cert.CInRows.sig) → Buf (Elt Bits) ℓ) (g : Dev Cert.CInRows.nD → PrngReg), Pre_CInRows m →
    θ_run (Cert.CInRows.defs (F := Bits)) (onTc (τ := Cert.CInRows.τ) (Cert.CInRows.main (F := Bits))) ⟨m, fun _ => 0, g⟩ (fun r => (∀ c : Dev Cert.CInRows.nD,
      r.2.mem ((c.tc : Thread Cert.CInRows.nD Cert.CInRows.τ).loc Cert.CInRows.main_arg0) = m ((c.tc : Thread Cert.CInRows.nD Cert.CInRows.τ).loc Cert.CInRows.main_arg0)
      ∧ r.2.mem ((c.tc : Thread Cert.CInRows.nD Cert.CInRows.τ).loc Cert.CInRows.main_arg1) = m ((c.tc : Thread Cert.CInRows.nD Cert.CInRows.τ).loc Cert.CInRows.main_arg1)
      ∧ r.2.mem ((c.tc : Thread Cert.CInRows.nD Cert.CInRows.τ).loc Cert.CInRows.main_arg2) = m ((c.tc : Thread Cert.CInRows.nD Cert.CInRows.τ).loc Cert.CInRows.main_arg2))
      ∧ r.2.sem = fun _ => 0)

def quiescent_CInRowsIdeal [hCInRowsIdeal : Cert.CInRowsIdeal.Facts] : Prop :=
  ∀ (m : (ℓ : Loc Cert.CInRowsIdeal.nD Cert.CInRowsIdeal.τ Cert.CInRowsIdeal.sig) → Buf (Elt Ideal) ℓ) (g : Dev Cert.CInRowsIdeal.nD → PrngReg), Pre_CInRowsIdeal m →
    θ_run (Cert.CInRowsIdeal.defs (F := Ideal)) (onTc (τ := Cert.CInRowsIdeal.τ) (Cert.CInRowsIdeal.main (F := Ideal))) ⟨m, fun _ => 0, g⟩ (fun r => (∀ c : Dev Cert.CInRowsIdeal.nD,
      r.2.mem ((c.tc : Thread Cert.CInRowsIdeal.nD Cert.CInRowsIdeal.τ).loc Cert.CInRowsIdeal.main_arg0) = m ((c.tc : Thread Cert.CInRowsIdeal.nD Cert.CInRowsIdeal.τ).loc Cert.CInRowsIdeal.main_arg0)
      ∧ r.2.mem ((c.tc : Thread Cert.CInRowsIdeal.nD Cert.CInRowsIdeal.τ).loc Cert.CInRowsIdeal.main_arg1) = m ((c.tc : Thread Cert.CInRowsIdeal.nD Cert.CInRowsIdeal.τ).loc Cert.CInRowsIdeal.main_arg1)
      ∧ r.2.mem ((c.tc : Thread Cert.CInRowsIdeal.nD Cert.CInRowsIdeal.τ).loc Cert.CInRowsIdeal.main_arg2) = m ((c.tc : Thread Cert.CInRowsIdeal.nD Cert.CInRowsIdeal.τ).loc Cert.CInRowsIdeal.main_arg2))
      ∧ r.2.sem = fun _ => 0)

def quiescent_CInRowsRefIdeal [hCInRowsRefIdeal : Cert.CInRowsRefIdeal.Facts] : Prop :=
  ∀ (m : (ℓ : Loc Cert.CInRowsRefIdeal.nD Cert.CInRowsRefIdeal.τ Cert.CInRowsRefIdeal.sig) → Buf (Elt Ideal) ℓ) (g : Dev Cert.CInRowsRefIdeal.nD → PrngReg), Pre_CInRowsRefIdeal m →
    θ_run (Cert.CInRowsRefIdeal.defs (F := Ideal)) (onTc (τ := Cert.CInRowsRefIdeal.τ) (Cert.CInRowsRefIdeal.main (F := Ideal))) ⟨m, fun _ => 0, g⟩ (fun r => (∀ c : Dev Cert.CInRowsRefIdeal.nD,
      r.2.mem ((c.tc : Thread Cert.CInRowsRefIdeal.nD Cert.CInRowsRefIdeal.τ).loc Cert.CInRowsRefIdeal.main_arg0) = m ((c.tc : Thread Cert.CInRowsRefIdeal.nD Cert.CInRowsRefIdeal.τ).loc Cert.CInRowsRefIdeal.main_arg0)
      ∧ r.2.mem ((c.tc : Thread Cert.CInRowsRefIdeal.nD Cert.CInRowsRefIdeal.τ).loc Cert.CInRowsRefIdeal.main_arg1) = m ((c.tc : Thread Cert.CInRowsRefIdeal.nD Cert.CInRowsRefIdeal.τ).loc Cert.CInRowsRefIdeal.main_arg1)
      ∧ r.2.mem ((c.tc : Thread Cert.CInRowsRefIdeal.nD Cert.CInRowsRefIdeal.τ).loc Cert.CInRowsRefIdeal.main_arg2) = m ((c.tc : Thread Cert.CInRowsRefIdeal.nD Cert.CInRowsRefIdeal.τ).loc Cert.CInRowsRefIdeal.main_arg2))
      ∧ r.2.sem = fun _ => 0)

def quiescent_CInWeight [hCInWeight : Cert.CInWeight.Facts] : Prop :=
  ∀ (m : (ℓ : Loc Cert.CInWeight.nD Cert.CInWeight.τ Cert.CInWeight.sig) → Buf (Elt Bits) ℓ) (g : Dev Cert.CInWeight.nD → PrngReg), Pre_CInWeight m →
    θ_run (Cert.CInWeight.defs (F := Bits)) (onTc (τ := Cert.CInWeight.τ) (Cert.CInWeight.main (F := Bits))) ⟨m, fun _ => 0, g⟩ (fun r => (∀ c : Dev Cert.CInWeight.nD,
      r.2.mem ((c.tc : Thread Cert.CInWeight.nD Cert.CInWeight.τ).loc Cert.CInWeight.main_arg0) = m ((c.tc : Thread Cert.CInWeight.nD Cert.CInWeight.τ).loc Cert.CInWeight.main_arg0)
      ∧ r.2.mem ((c.tc : Thread Cert.CInWeight.nD Cert.CInWeight.τ).loc Cert.CInWeight.main_arg1) = m ((c.tc : Thread Cert.CInWeight.nD Cert.CInWeight.τ).loc Cert.CInWeight.main_arg1)
      ∧ r.2.mem ((c.tc : Thread Cert.CInWeight.nD Cert.CInWeight.τ).loc Cert.CInWeight.main_arg2) = m ((c.tc : Thread Cert.CInWeight.nD Cert.CInWeight.τ).loc Cert.CInWeight.main_arg2))
      ∧ r.2.sem = fun _ => 0)

def quiescent_CInWeightIdeal [hCInWeightIdeal : Cert.CInWeightIdeal.Facts] : Prop :=
  ∀ (m : (ℓ : Loc Cert.CInWeightIdeal.nD Cert.CInWeightIdeal.τ Cert.CInWeightIdeal.sig) → Buf (Elt Ideal) ℓ) (g : Dev Cert.CInWeightIdeal.nD → PrngReg), Pre_CInWeightIdeal m →
    θ_run (Cert.CInWeightIdeal.defs (F := Ideal)) (onTc (τ := Cert.CInWeightIdeal.τ) (Cert.CInWeightIdeal.main (F := Ideal))) ⟨m, fun _ => 0, g⟩ (fun r => (∀ c : Dev Cert.CInWeightIdeal.nD,
      r.2.mem ((c.tc : Thread Cert.CInWeightIdeal.nD Cert.CInWeightIdeal.τ).loc Cert.CInWeightIdeal.main_arg0) = m ((c.tc : Thread Cert.CInWeightIdeal.nD Cert.CInWeightIdeal.τ).loc Cert.CInWeightIdeal.main_arg0)
      ∧ r.2.mem ((c.tc : Thread Cert.CInWeightIdeal.nD Cert.CInWeightIdeal.τ).loc Cert.CInWeightIdeal.main_arg1) = m ((c.tc : Thread Cert.CInWeightIdeal.nD Cert.CInWeightIdeal.τ).loc Cert.CInWeightIdeal.main_arg1)
      ∧ r.2.mem ((c.tc : Thread Cert.CInWeightIdeal.nD Cert.CInWeightIdeal.τ).loc Cert.CInWeightIdeal.main_arg2) = m ((c.tc : Thread Cert.CInWeightIdeal.nD Cert.CInWeightIdeal.τ).loc Cert.CInWeightIdeal.main_arg2))
      ∧ r.2.sem = fun _ => 0)

def quiescent_CInWeightRefIdeal [hCInWeightRefIdeal : Cert.CInWeightRefIdeal.Facts] : Prop :=
  ∀ (m : (ℓ : Loc Cert.CInWeightRefIdeal.nD Cert.CInWeightRefIdeal.τ Cert.CInWeightRefIdeal.sig) → Buf (Elt Ideal) ℓ) (g : Dev Cert.CInWeightRefIdeal.nD → PrngReg), Pre_CInWeightRefIdeal m →
    θ_run (Cert.CInWeightRefIdeal.defs (F := Ideal)) (onTc (τ := Cert.CInWeightRefIdeal.τ) (Cert.CInWeightRefIdeal.main (F := Ideal))) ⟨m, fun _ => 0, g⟩ (fun r => (∀ c : Dev Cert.CInWeightRefIdeal.nD,
      r.2.mem ((c.tc : Thread Cert.CInWeightRefIdeal.nD Cert.CInWeightRefIdeal.τ).loc Cert.CInWeightRefIdeal.main_arg0) = m ((c.tc : Thread Cert.CInWeightRefIdeal.nD Cert.CInWeightRefIdeal.τ).loc Cert.CInWeightRefIdeal.main_arg0)
      ∧ r.2.mem ((c.tc : Thread Cert.CInWeightRefIdeal.nD Cert.CInWeightRefIdeal.τ).loc Cert.CInWeightRefIdeal.main_arg1) = m ((c.tc : Thread Cert.CInWeightRefIdeal.nD Cert.CInWeightRefIdeal.τ).loc Cert.CInWeightRefIdeal.main_arg1)
      ∧ r.2.mem ((c.tc : Thread Cert.CInWeightRefIdeal.nD Cert.CInWeightRefIdeal.τ).loc Cert.CInWeightRefIdeal.main_arg2) = m ((c.tc : Thread Cert.CInWeightRefIdeal.nD Cert.CInWeightRefIdeal.τ).loc Cert.CInWeightRefIdeal.main_arg2))
      ∧ r.2.sem = fun _ => 0)

def quiescent_BInForward [hBInForward : Cert.BInForward.Facts] : Prop :=
  ∀ (m : (ℓ : Loc Cert.BInForward.nD Cert.BInForward.τ Cert.BInForward.sig) → Buf (Elt Bits) ℓ) (g : Dev Cert.BInForward.nD → PrngReg), Pre_BInForward m →
    θ_run (Cert.BInForward.defs (F := Bits)) (onTc (τ := Cert.BInForward.τ) (Cert.BInForward.main (F := Bits))) ⟨m, fun _ => 0, g⟩ (fun r => (∀ c : Dev Cert.BInForward.nD,
      r.2.mem ((c.tc : Thread Cert.BInForward.nD Cert.BInForward.τ).loc Cert.BInForward.main_arg0) = m ((c.tc : Thread Cert.BInForward.nD Cert.BInForward.τ).loc Cert.BInForward.main_arg0)
      ∧ r.2.mem ((c.tc : Thread Cert.BInForward.nD Cert.BInForward.τ).loc Cert.BInForward.main_arg1) = m ((c.tc : Thread Cert.BInForward.nD Cert.BInForward.τ).loc Cert.BInForward.main_arg1))
      ∧ r.2.sem = fun _ => 0)

def quiescent_BInForwardIdeal [hBInForwardIdeal : Cert.BInForwardIdeal.Facts] : Prop :=
  ∀ (m : (ℓ : Loc Cert.BInForwardIdeal.nD Cert.BInForwardIdeal.τ Cert.BInForwardIdeal.sig) → Buf (Elt Ideal) ℓ) (g : Dev Cert.BInForwardIdeal.nD → PrngReg), Pre_BInForwardIdeal m →
    θ_run (Cert.BInForwardIdeal.defs (F := Ideal)) (onTc (τ := Cert.BInForwardIdeal.τ) (Cert.BInForwardIdeal.main (F := Ideal))) ⟨m, fun _ => 0, g⟩ (fun r => (∀ c : Dev Cert.BInForwardIdeal.nD,
      r.2.mem ((c.tc : Thread Cert.BInForwardIdeal.nD Cert.BInForwardIdeal.τ).loc Cert.BInForwardIdeal.main_arg0) = m ((c.tc : Thread Cert.BInForwardIdeal.nD Cert.BInForwardIdeal.τ).loc Cert.BInForwardIdeal.main_arg0)
      ∧ r.2.mem ((c.tc : Thread Cert.BInForwardIdeal.nD Cert.BInForwardIdeal.τ).loc Cert.BInForwardIdeal.main_arg1) = m ((c.tc : Thread Cert.BInForwardIdeal.nD Cert.BInForwardIdeal.τ).loc Cert.BInForwardIdeal.main_arg1))
      ∧ r.2.sem = fun _ => 0)

def quiescent_BInForwardRefIdeal [hBInForwardRefIdeal : Cert.BInForwardRefIdeal.Facts] : Prop :=
  ∀ (m : (ℓ : Loc Cert.BInForwardRefIdeal.nD Cert.BInForwardRefIdeal.τ Cert.BInForwardRefIdeal.sig) → Buf (Elt Ideal) ℓ) (g : Dev Cert.BInForwardRefIdeal.nD → PrngReg), Pre_BInForwardRefIdeal m →
    θ_run (Cert.BInForwardRefIdeal.defs (F := Ideal)) (onTc (τ := Cert.BInForwardRefIdeal.τ) (Cert.BInForwardRefIdeal.main (F := Ideal))) ⟨m, fun _ => 0, g⟩ (fun r => (∀ c : Dev Cert.BInForwardRefIdeal.nD,
      r.2.mem ((c.tc : Thread Cert.BInForwardRefIdeal.nD Cert.BInForwardRefIdeal.τ).loc Cert.BInForwardRefIdeal.main_arg0) = m ((c.tc : Thread Cert.BInForwardRefIdeal.nD Cert.BInForwardRefIdeal.τ).loc Cert.BInForwardRefIdeal.main_arg0)
      ∧ r.2.mem ((c.tc : Thread Cert.BInForwardRefIdeal.nD Cert.BInForwardRefIdeal.τ).loc Cert.BInForwardRefIdeal.main_arg1) = m ((c.tc : Thread Cert.BInForwardRefIdeal.nD Cert.BInForwardRefIdeal.τ).loc Cert.BInForwardRefIdeal.main_arg1))
      ∧ r.2.sem = fun _ => 0)

def quiescent_BInRows [hBInRows : Cert.BInRows.Facts] : Prop :=
  ∀ (m : (ℓ : Loc Cert.BInRows.nD Cert.BInRows.τ Cert.BInRows.sig) → Buf (Elt Bits) ℓ) (g : Dev Cert.BInRows.nD → PrngReg), Pre_BInRows m →
    θ_run (Cert.BInRows.defs (F := Bits)) (onTc (τ := Cert.BInRows.τ) (Cert.BInRows.main (F := Bits))) ⟨m, fun _ => 0, g⟩ (fun r => (∀ c : Dev Cert.BInRows.nD,
      r.2.mem ((c.tc : Thread Cert.BInRows.nD Cert.BInRows.τ).loc Cert.BInRows.main_arg0) = m ((c.tc : Thread Cert.BInRows.nD Cert.BInRows.τ).loc Cert.BInRows.main_arg0)
      ∧ r.2.mem ((c.tc : Thread Cert.BInRows.nD Cert.BInRows.τ).loc Cert.BInRows.main_arg1) = m ((c.tc : Thread Cert.BInRows.nD Cert.BInRows.τ).loc Cert.BInRows.main_arg1)
      ∧ r.2.mem ((c.tc : Thread Cert.BInRows.nD Cert.BInRows.τ).loc Cert.BInRows.main_arg2) = m ((c.tc : Thread Cert.BInRows.nD Cert.BInRows.τ).loc Cert.BInRows.main_arg2))
      ∧ r.2.sem = fun _ => 0)

def quiescent_BInRowsIdeal [hBInRowsIdeal : Cert.BInRowsIdeal.Facts] : Prop :=
  ∀ (m : (ℓ : Loc Cert.BInRowsIdeal.nD Cert.BInRowsIdeal.τ Cert.BInRowsIdeal.sig) → Buf (Elt Ideal) ℓ) (g : Dev Cert.BInRowsIdeal.nD → PrngReg), Pre_BInRowsIdeal m →
    θ_run (Cert.BInRowsIdeal.defs (F := Ideal)) (onTc (τ := Cert.BInRowsIdeal.τ) (Cert.BInRowsIdeal.main (F := Ideal))) ⟨m, fun _ => 0, g⟩ (fun r => (∀ c : Dev Cert.BInRowsIdeal.nD,
      r.2.mem ((c.tc : Thread Cert.BInRowsIdeal.nD Cert.BInRowsIdeal.τ).loc Cert.BInRowsIdeal.main_arg0) = m ((c.tc : Thread Cert.BInRowsIdeal.nD Cert.BInRowsIdeal.τ).loc Cert.BInRowsIdeal.main_arg0)
      ∧ r.2.mem ((c.tc : Thread Cert.BInRowsIdeal.nD Cert.BInRowsIdeal.τ).loc Cert.BInRowsIdeal.main_arg1) = m ((c.tc : Thread Cert.BInRowsIdeal.nD Cert.BInRowsIdeal.τ).loc Cert.BInRowsIdeal.main_arg1)
      ∧ r.2.mem ((c.tc : Thread Cert.BInRowsIdeal.nD Cert.BInRowsIdeal.τ).loc Cert.BInRowsIdeal.main_arg2) = m ((c.tc : Thread Cert.BInRowsIdeal.nD Cert.BInRowsIdeal.τ).loc Cert.BInRowsIdeal.main_arg2))
      ∧ r.2.sem = fun _ => 0)

def quiescent_BInRowsRefIdeal [hBInRowsRefIdeal : Cert.BInRowsRefIdeal.Facts] : Prop :=
  ∀ (m : (ℓ : Loc Cert.BInRowsRefIdeal.nD Cert.BInRowsRefIdeal.τ Cert.BInRowsRefIdeal.sig) → Buf (Elt Ideal) ℓ) (g : Dev Cert.BInRowsRefIdeal.nD → PrngReg), Pre_BInRowsRefIdeal m →
    θ_run (Cert.BInRowsRefIdeal.defs (F := Ideal)) (onTc (τ := Cert.BInRowsRefIdeal.τ) (Cert.BInRowsRefIdeal.main (F := Ideal))) ⟨m, fun _ => 0, g⟩ (fun r => (∀ c : Dev Cert.BInRowsRefIdeal.nD,
      r.2.mem ((c.tc : Thread Cert.BInRowsRefIdeal.nD Cert.BInRowsRefIdeal.τ).loc Cert.BInRowsRefIdeal.main_arg0) = m ((c.tc : Thread Cert.BInRowsRefIdeal.nD Cert.BInRowsRefIdeal.τ).loc Cert.BInRowsRefIdeal.main_arg0)
      ∧ r.2.mem ((c.tc : Thread Cert.BInRowsRefIdeal.nD Cert.BInRowsRefIdeal.τ).loc Cert.BInRowsRefIdeal.main_arg1) = m ((c.tc : Thread Cert.BInRowsRefIdeal.nD Cert.BInRowsRefIdeal.τ).loc Cert.BInRowsRefIdeal.main_arg1)
      ∧ r.2.mem ((c.tc : Thread Cert.BInRowsRefIdeal.nD Cert.BInRowsRefIdeal.τ).loc Cert.BInRowsRefIdeal.main_arg2) = m ((c.tc : Thread Cert.BInRowsRefIdeal.nD Cert.BInRowsRefIdeal.τ).loc Cert.BInRowsRefIdeal.main_arg2))
      ∧ r.2.sem = fun _ => 0)

def quiescent_BInWeight [hBInWeight : Cert.BInWeight.Facts] : Prop :=
  ∀ (m : (ℓ : Loc Cert.BInWeight.nD Cert.BInWeight.τ Cert.BInWeight.sig) → Buf (Elt Bits) ℓ) (g : Dev Cert.BInWeight.nD → PrngReg), Pre_BInWeight m →
    θ_run (Cert.BInWeight.defs (F := Bits)) (onTc (τ := Cert.BInWeight.τ) (Cert.BInWeight.main (F := Bits))) ⟨m, fun _ => 0, g⟩ (fun r => (∀ c : Dev Cert.BInWeight.nD,
      r.2.mem ((c.tc : Thread Cert.BInWeight.nD Cert.BInWeight.τ).loc Cert.BInWeight.main_arg0) = m ((c.tc : Thread Cert.BInWeight.nD Cert.BInWeight.τ).loc Cert.BInWeight.main_arg0)
      ∧ r.2.mem ((c.tc : Thread Cert.BInWeight.nD Cert.BInWeight.τ).loc Cert.BInWeight.main_arg1) = m ((c.tc : Thread Cert.BInWeight.nD Cert.BInWeight.τ).loc Cert.BInWeight.main_arg1)
      ∧ r.2.mem ((c.tc : Thread Cert.BInWeight.nD Cert.BInWeight.τ).loc Cert.BInWeight.main_arg2) = m ((c.tc : Thread Cert.BInWeight.nD Cert.BInWeight.τ).loc Cert.BInWeight.main_arg2))
      ∧ r.2.sem = fun _ => 0)

def quiescent_BInWeightIdeal [hBInWeightIdeal : Cert.BInWeightIdeal.Facts] : Prop :=
  ∀ (m : (ℓ : Loc Cert.BInWeightIdeal.nD Cert.BInWeightIdeal.τ Cert.BInWeightIdeal.sig) → Buf (Elt Ideal) ℓ) (g : Dev Cert.BInWeightIdeal.nD → PrngReg), Pre_BInWeightIdeal m →
    θ_run (Cert.BInWeightIdeal.defs (F := Ideal)) (onTc (τ := Cert.BInWeightIdeal.τ) (Cert.BInWeightIdeal.main (F := Ideal))) ⟨m, fun _ => 0, g⟩ (fun r => (∀ c : Dev Cert.BInWeightIdeal.nD,
      r.2.mem ((c.tc : Thread Cert.BInWeightIdeal.nD Cert.BInWeightIdeal.τ).loc Cert.BInWeightIdeal.main_arg0) = m ((c.tc : Thread Cert.BInWeightIdeal.nD Cert.BInWeightIdeal.τ).loc Cert.BInWeightIdeal.main_arg0)
      ∧ r.2.mem ((c.tc : Thread Cert.BInWeightIdeal.nD Cert.BInWeightIdeal.τ).loc Cert.BInWeightIdeal.main_arg1) = m ((c.tc : Thread Cert.BInWeightIdeal.nD Cert.BInWeightIdeal.τ).loc Cert.BInWeightIdeal.main_arg1)
      ∧ r.2.mem ((c.tc : Thread Cert.BInWeightIdeal.nD Cert.BInWeightIdeal.τ).loc Cert.BInWeightIdeal.main_arg2) = m ((c.tc : Thread Cert.BInWeightIdeal.nD Cert.BInWeightIdeal.τ).loc Cert.BInWeightIdeal.main_arg2))
      ∧ r.2.sem = fun _ => 0)

def quiescent_BInWeightRefIdeal [hBInWeightRefIdeal : Cert.BInWeightRefIdeal.Facts] : Prop :=
  ∀ (m : (ℓ : Loc Cert.BInWeightRefIdeal.nD Cert.BInWeightRefIdeal.τ Cert.BInWeightRefIdeal.sig) → Buf (Elt Ideal) ℓ) (g : Dev Cert.BInWeightRefIdeal.nD → PrngReg), Pre_BInWeightRefIdeal m →
    θ_run (Cert.BInWeightRefIdeal.defs (F := Ideal)) (onTc (τ := Cert.BInWeightRefIdeal.τ) (Cert.BInWeightRefIdeal.main (F := Ideal))) ⟨m, fun _ => 0, g⟩ (fun r => (∀ c : Dev Cert.BInWeightRefIdeal.nD,
      r.2.mem ((c.tc : Thread Cert.BInWeightRefIdeal.nD Cert.BInWeightRefIdeal.τ).loc Cert.BInWeightRefIdeal.main_arg0) = m ((c.tc : Thread Cert.BInWeightRefIdeal.nD Cert.BInWeightRefIdeal.τ).loc Cert.BInWeightRefIdeal.main_arg0)
      ∧ r.2.mem ((c.tc : Thread Cert.BInWeightRefIdeal.nD Cert.BInWeightRefIdeal.τ).loc Cert.BInWeightRefIdeal.main_arg1) = m ((c.tc : Thread Cert.BInWeightRefIdeal.nD Cert.BInWeightRefIdeal.τ).loc Cert.BInWeightRefIdeal.main_arg1)
      ∧ r.2.mem ((c.tc : Thread Cert.BInWeightRefIdeal.nD Cert.BInWeightRefIdeal.τ).loc Cert.BInWeightRefIdeal.main_arg2) = m ((c.tc : Thread Cert.BInWeightRefIdeal.nD Cert.BInWeightRefIdeal.τ).loc Cert.BInWeightRefIdeal.main_arg2))
      ∧ r.2.sem = fun _ => 0)

def quiescent_BOutForward [hBOutForward : Cert.BOutForward.Facts] : Prop :=
  ∀ (m : (ℓ : Loc Cert.BOutForward.nD Cert.BOutForward.τ Cert.BOutForward.sig) → Buf (Elt Bits) ℓ) (g : Dev Cert.BOutForward.nD → PrngReg), Pre_BOutForward m →
    θ_run (Cert.BOutForward.defs (F := Bits)) (onTc (τ := Cert.BOutForward.τ) (Cert.BOutForward.main (F := Bits))) ⟨m, fun _ => 0, g⟩ (fun r => (∀ c : Dev Cert.BOutForward.nD,
      r.2.mem ((c.tc : Thread Cert.BOutForward.nD Cert.BOutForward.τ).loc Cert.BOutForward.main_arg0) = m ((c.tc : Thread Cert.BOutForward.nD Cert.BOutForward.τ).loc Cert.BOutForward.main_arg0)
      ∧ r.2.mem ((c.tc : Thread Cert.BOutForward.nD Cert.BOutForward.τ).loc Cert.BOutForward.main_arg1) = m ((c.tc : Thread Cert.BOutForward.nD Cert.BOutForward.τ).loc Cert.BOutForward.main_arg1))
      ∧ r.2.sem = fun _ => 0)

def quiescent_BOutForwardIdeal [hBOutForwardIdeal : Cert.BOutForwardIdeal.Facts] : Prop :=
  ∀ (m : (ℓ : Loc Cert.BOutForwardIdeal.nD Cert.BOutForwardIdeal.τ Cert.BOutForwardIdeal.sig) → Buf (Elt Ideal) ℓ) (g : Dev Cert.BOutForwardIdeal.nD → PrngReg), Pre_BOutForwardIdeal m →
    θ_run (Cert.BOutForwardIdeal.defs (F := Ideal)) (onTc (τ := Cert.BOutForwardIdeal.τ) (Cert.BOutForwardIdeal.main (F := Ideal))) ⟨m, fun _ => 0, g⟩ (fun r => (∀ c : Dev Cert.BOutForwardIdeal.nD,
      r.2.mem ((c.tc : Thread Cert.BOutForwardIdeal.nD Cert.BOutForwardIdeal.τ).loc Cert.BOutForwardIdeal.main_arg0) = m ((c.tc : Thread Cert.BOutForwardIdeal.nD Cert.BOutForwardIdeal.τ).loc Cert.BOutForwardIdeal.main_arg0)
      ∧ r.2.mem ((c.tc : Thread Cert.BOutForwardIdeal.nD Cert.BOutForwardIdeal.τ).loc Cert.BOutForwardIdeal.main_arg1) = m ((c.tc : Thread Cert.BOutForwardIdeal.nD Cert.BOutForwardIdeal.τ).loc Cert.BOutForwardIdeal.main_arg1))
      ∧ r.2.sem = fun _ => 0)

def quiescent_BOutForwardRefIdeal [hBOutForwardRefIdeal : Cert.BOutForwardRefIdeal.Facts] : Prop :=
  ∀ (m : (ℓ : Loc Cert.BOutForwardRefIdeal.nD Cert.BOutForwardRefIdeal.τ Cert.BOutForwardRefIdeal.sig) → Buf (Elt Ideal) ℓ) (g : Dev Cert.BOutForwardRefIdeal.nD → PrngReg), Pre_BOutForwardRefIdeal m →
    θ_run (Cert.BOutForwardRefIdeal.defs (F := Ideal)) (onTc (τ := Cert.BOutForwardRefIdeal.τ) (Cert.BOutForwardRefIdeal.main (F := Ideal))) ⟨m, fun _ => 0, g⟩ (fun r => (∀ c : Dev Cert.BOutForwardRefIdeal.nD,
      r.2.mem ((c.tc : Thread Cert.BOutForwardRefIdeal.nD Cert.BOutForwardRefIdeal.τ).loc Cert.BOutForwardRefIdeal.main_arg0) = m ((c.tc : Thread Cert.BOutForwardRefIdeal.nD Cert.BOutForwardRefIdeal.τ).loc Cert.BOutForwardRefIdeal.main_arg0)
      ∧ r.2.mem ((c.tc : Thread Cert.BOutForwardRefIdeal.nD Cert.BOutForwardRefIdeal.τ).loc Cert.BOutForwardRefIdeal.main_arg1) = m ((c.tc : Thread Cert.BOutForwardRefIdeal.nD Cert.BOutForwardRefIdeal.τ).loc Cert.BOutForwardRefIdeal.main_arg1))
      ∧ r.2.sem = fun _ => 0)

def quiescent_BOutRows [hBOutRows : Cert.BOutRows.Facts] : Prop :=
  ∀ (m : (ℓ : Loc Cert.BOutRows.nD Cert.BOutRows.τ Cert.BOutRows.sig) → Buf (Elt Bits) ℓ) (g : Dev Cert.BOutRows.nD → PrngReg), Pre_BOutRows m →
    θ_run (Cert.BOutRows.defs (F := Bits)) (onTc (τ := Cert.BOutRows.τ) (Cert.BOutRows.main (F := Bits))) ⟨m, fun _ => 0, g⟩ (fun r => (∀ c : Dev Cert.BOutRows.nD,
      r.2.mem ((c.tc : Thread Cert.BOutRows.nD Cert.BOutRows.τ).loc Cert.BOutRows.main_arg0) = m ((c.tc : Thread Cert.BOutRows.nD Cert.BOutRows.τ).loc Cert.BOutRows.main_arg0)
      ∧ r.2.mem ((c.tc : Thread Cert.BOutRows.nD Cert.BOutRows.τ).loc Cert.BOutRows.main_arg1) = m ((c.tc : Thread Cert.BOutRows.nD Cert.BOutRows.τ).loc Cert.BOutRows.main_arg1)
      ∧ r.2.mem ((c.tc : Thread Cert.BOutRows.nD Cert.BOutRows.τ).loc Cert.BOutRows.main_arg2) = m ((c.tc : Thread Cert.BOutRows.nD Cert.BOutRows.τ).loc Cert.BOutRows.main_arg2))
      ∧ r.2.sem = fun _ => 0)

def quiescent_BOutRowsIdeal [hBOutRowsIdeal : Cert.BOutRowsIdeal.Facts] : Prop :=
  ∀ (m : (ℓ : Loc Cert.BOutRowsIdeal.nD Cert.BOutRowsIdeal.τ Cert.BOutRowsIdeal.sig) → Buf (Elt Ideal) ℓ) (g : Dev Cert.BOutRowsIdeal.nD → PrngReg), Pre_BOutRowsIdeal m →
    θ_run (Cert.BOutRowsIdeal.defs (F := Ideal)) (onTc (τ := Cert.BOutRowsIdeal.τ) (Cert.BOutRowsIdeal.main (F := Ideal))) ⟨m, fun _ => 0, g⟩ (fun r => (∀ c : Dev Cert.BOutRowsIdeal.nD,
      r.2.mem ((c.tc : Thread Cert.BOutRowsIdeal.nD Cert.BOutRowsIdeal.τ).loc Cert.BOutRowsIdeal.main_arg0) = m ((c.tc : Thread Cert.BOutRowsIdeal.nD Cert.BOutRowsIdeal.τ).loc Cert.BOutRowsIdeal.main_arg0)
      ∧ r.2.mem ((c.tc : Thread Cert.BOutRowsIdeal.nD Cert.BOutRowsIdeal.τ).loc Cert.BOutRowsIdeal.main_arg1) = m ((c.tc : Thread Cert.BOutRowsIdeal.nD Cert.BOutRowsIdeal.τ).loc Cert.BOutRowsIdeal.main_arg1)
      ∧ r.2.mem ((c.tc : Thread Cert.BOutRowsIdeal.nD Cert.BOutRowsIdeal.τ).loc Cert.BOutRowsIdeal.main_arg2) = m ((c.tc : Thread Cert.BOutRowsIdeal.nD Cert.BOutRowsIdeal.τ).loc Cert.BOutRowsIdeal.main_arg2))
      ∧ r.2.sem = fun _ => 0)

def quiescent_BOutRowsRefIdeal [hBOutRowsRefIdeal : Cert.BOutRowsRefIdeal.Facts] : Prop :=
  ∀ (m : (ℓ : Loc Cert.BOutRowsRefIdeal.nD Cert.BOutRowsRefIdeal.τ Cert.BOutRowsRefIdeal.sig) → Buf (Elt Ideal) ℓ) (g : Dev Cert.BOutRowsRefIdeal.nD → PrngReg), Pre_BOutRowsRefIdeal m →
    θ_run (Cert.BOutRowsRefIdeal.defs (F := Ideal)) (onTc (τ := Cert.BOutRowsRefIdeal.τ) (Cert.BOutRowsRefIdeal.main (F := Ideal))) ⟨m, fun _ => 0, g⟩ (fun r => (∀ c : Dev Cert.BOutRowsRefIdeal.nD,
      r.2.mem ((c.tc : Thread Cert.BOutRowsRefIdeal.nD Cert.BOutRowsRefIdeal.τ).loc Cert.BOutRowsRefIdeal.main_arg0) = m ((c.tc : Thread Cert.BOutRowsRefIdeal.nD Cert.BOutRowsRefIdeal.τ).loc Cert.BOutRowsRefIdeal.main_arg0)
      ∧ r.2.mem ((c.tc : Thread Cert.BOutRowsRefIdeal.nD Cert.BOutRowsRefIdeal.τ).loc Cert.BOutRowsRefIdeal.main_arg1) = m ((c.tc : Thread Cert.BOutRowsRefIdeal.nD Cert.BOutRowsRefIdeal.τ).loc Cert.BOutRowsRefIdeal.main_arg1)
      ∧ r.2.mem ((c.tc : Thread Cert.BOutRowsRefIdeal.nD Cert.BOutRowsRefIdeal.τ).loc Cert.BOutRowsRefIdeal.main_arg2) = m ((c.tc : Thread Cert.BOutRowsRefIdeal.nD Cert.BOutRowsRefIdeal.τ).loc Cert.BOutRowsRefIdeal.main_arg2))
      ∧ r.2.sem = fun _ => 0)

def quiescent_BOutWeight [hBOutWeight : Cert.BOutWeight.Facts] : Prop :=
  ∀ (m : (ℓ : Loc Cert.BOutWeight.nD Cert.BOutWeight.τ Cert.BOutWeight.sig) → Buf (Elt Bits) ℓ) (g : Dev Cert.BOutWeight.nD → PrngReg), Pre_BOutWeight m →
    θ_run (Cert.BOutWeight.defs (F := Bits)) (onTc (τ := Cert.BOutWeight.τ) (Cert.BOutWeight.main (F := Bits))) ⟨m, fun _ => 0, g⟩ (fun r => (∀ c : Dev Cert.BOutWeight.nD,
      r.2.mem ((c.tc : Thread Cert.BOutWeight.nD Cert.BOutWeight.τ).loc Cert.BOutWeight.main_arg0) = m ((c.tc : Thread Cert.BOutWeight.nD Cert.BOutWeight.τ).loc Cert.BOutWeight.main_arg0)
      ∧ r.2.mem ((c.tc : Thread Cert.BOutWeight.nD Cert.BOutWeight.τ).loc Cert.BOutWeight.main_arg1) = m ((c.tc : Thread Cert.BOutWeight.nD Cert.BOutWeight.τ).loc Cert.BOutWeight.main_arg1)
      ∧ r.2.mem ((c.tc : Thread Cert.BOutWeight.nD Cert.BOutWeight.τ).loc Cert.BOutWeight.main_arg2) = m ((c.tc : Thread Cert.BOutWeight.nD Cert.BOutWeight.τ).loc Cert.BOutWeight.main_arg2))
      ∧ r.2.sem = fun _ => 0)

def quiescent_BOutWeightIdeal [hBOutWeightIdeal : Cert.BOutWeightIdeal.Facts] : Prop :=
  ∀ (m : (ℓ : Loc Cert.BOutWeightIdeal.nD Cert.BOutWeightIdeal.τ Cert.BOutWeightIdeal.sig) → Buf (Elt Ideal) ℓ) (g : Dev Cert.BOutWeightIdeal.nD → PrngReg), Pre_BOutWeightIdeal m →
    θ_run (Cert.BOutWeightIdeal.defs (F := Ideal)) (onTc (τ := Cert.BOutWeightIdeal.τ) (Cert.BOutWeightIdeal.main (F := Ideal))) ⟨m, fun _ => 0, g⟩ (fun r => (∀ c : Dev Cert.BOutWeightIdeal.nD,
      r.2.mem ((c.tc : Thread Cert.BOutWeightIdeal.nD Cert.BOutWeightIdeal.τ).loc Cert.BOutWeightIdeal.main_arg0) = m ((c.tc : Thread Cert.BOutWeightIdeal.nD Cert.BOutWeightIdeal.τ).loc Cert.BOutWeightIdeal.main_arg0)
      ∧ r.2.mem ((c.tc : Thread Cert.BOutWeightIdeal.nD Cert.BOutWeightIdeal.τ).loc Cert.BOutWeightIdeal.main_arg1) = m ((c.tc : Thread Cert.BOutWeightIdeal.nD Cert.BOutWeightIdeal.τ).loc Cert.BOutWeightIdeal.main_arg1)
      ∧ r.2.mem ((c.tc : Thread Cert.BOutWeightIdeal.nD Cert.BOutWeightIdeal.τ).loc Cert.BOutWeightIdeal.main_arg2) = m ((c.tc : Thread Cert.BOutWeightIdeal.nD Cert.BOutWeightIdeal.τ).loc Cert.BOutWeightIdeal.main_arg2))
      ∧ r.2.sem = fun _ => 0)

def quiescent_BOutWeightRefIdeal [hBOutWeightRefIdeal : Cert.BOutWeightRefIdeal.Facts] : Prop :=
  ∀ (m : (ℓ : Loc Cert.BOutWeightRefIdeal.nD Cert.BOutWeightRefIdeal.τ Cert.BOutWeightRefIdeal.sig) → Buf (Elt Ideal) ℓ) (g : Dev Cert.BOutWeightRefIdeal.nD → PrngReg), Pre_BOutWeightRefIdeal m →
    θ_run (Cert.BOutWeightRefIdeal.defs (F := Ideal)) (onTc (τ := Cert.BOutWeightRefIdeal.τ) (Cert.BOutWeightRefIdeal.main (F := Ideal))) ⟨m, fun _ => 0, g⟩ (fun r => (∀ c : Dev Cert.BOutWeightRefIdeal.nD,
      r.2.mem ((c.tc : Thread Cert.BOutWeightRefIdeal.nD Cert.BOutWeightRefIdeal.τ).loc Cert.BOutWeightRefIdeal.main_arg0) = m ((c.tc : Thread Cert.BOutWeightRefIdeal.nD Cert.BOutWeightRefIdeal.τ).loc Cert.BOutWeightRefIdeal.main_arg0)
      ∧ r.2.mem ((c.tc : Thread Cert.BOutWeightRefIdeal.nD Cert.BOutWeightRefIdeal.τ).loc Cert.BOutWeightRefIdeal.main_arg1) = m ((c.tc : Thread Cert.BOutWeightRefIdeal.nD Cert.BOutWeightRefIdeal.τ).loc Cert.BOutWeightRefIdeal.main_arg1)
      ∧ r.2.mem ((c.tc : Thread Cert.BOutWeightRefIdeal.nD Cert.BOutWeightRefIdeal.τ).loc Cert.BOutWeightRefIdeal.main_arg2) = m ((c.tc : Thread Cert.BOutWeightRefIdeal.nD Cert.BOutWeightRefIdeal.τ).loc Cert.BOutWeightRefIdeal.main_arg2))
      ∧ r.2.sem = fun _ => 0)

def quiescent_QueryForward [hQueryForward : Cert.QueryForward.Facts] : Prop :=
  ∀ (m : (ℓ : Loc Cert.QueryForward.nD Cert.QueryForward.τ Cert.QueryForward.sig) → Buf (Elt Bits) ℓ) (g : Dev Cert.QueryForward.nD → PrngReg), Pre_QueryForward m →
    θ_run (Cert.QueryForward.defs (F := Bits)) (onTc (τ := Cert.QueryForward.τ) (Cert.QueryForward.main (F := Bits))) ⟨m, fun _ => 0, g⟩ (fun r => (∀ c : Dev Cert.QueryForward.nD,
      r.2.mem ((c.tc : Thread Cert.QueryForward.nD Cert.QueryForward.τ).loc Cert.QueryForward.main_arg0) = m ((c.tc : Thread Cert.QueryForward.nD Cert.QueryForward.τ).loc Cert.QueryForward.main_arg0)
      ∧ r.2.mem ((c.tc : Thread Cert.QueryForward.nD Cert.QueryForward.τ).loc Cert.QueryForward.main_arg1) = m ((c.tc : Thread Cert.QueryForward.nD Cert.QueryForward.τ).loc Cert.QueryForward.main_arg1))
      ∧ r.2.sem = fun _ => 0)

def quiescent_QueryForwardIdeal [hQueryForwardIdeal : Cert.QueryForwardIdeal.Facts] : Prop :=
  ∀ (m : (ℓ : Loc Cert.QueryForwardIdeal.nD Cert.QueryForwardIdeal.τ Cert.QueryForwardIdeal.sig) → Buf (Elt Ideal) ℓ) (g : Dev Cert.QueryForwardIdeal.nD → PrngReg), Pre_QueryForwardIdeal m →
    θ_run (Cert.QueryForwardIdeal.defs (F := Ideal)) (onTc (τ := Cert.QueryForwardIdeal.τ) (Cert.QueryForwardIdeal.main (F := Ideal))) ⟨m, fun _ => 0, g⟩ (fun r => (∀ c : Dev Cert.QueryForwardIdeal.nD,
      r.2.mem ((c.tc : Thread Cert.QueryForwardIdeal.nD Cert.QueryForwardIdeal.τ).loc Cert.QueryForwardIdeal.main_arg0) = m ((c.tc : Thread Cert.QueryForwardIdeal.nD Cert.QueryForwardIdeal.τ).loc Cert.QueryForwardIdeal.main_arg0)
      ∧ r.2.mem ((c.tc : Thread Cert.QueryForwardIdeal.nD Cert.QueryForwardIdeal.τ).loc Cert.QueryForwardIdeal.main_arg1) = m ((c.tc : Thread Cert.QueryForwardIdeal.nD Cert.QueryForwardIdeal.τ).loc Cert.QueryForwardIdeal.main_arg1))
      ∧ r.2.sem = fun _ => 0)

def quiescent_QueryForwardRefIdeal [hQueryForwardRefIdeal : Cert.QueryForwardRefIdeal.Facts] : Prop :=
  ∀ (m : (ℓ : Loc Cert.QueryForwardRefIdeal.nD Cert.QueryForwardRefIdeal.τ Cert.QueryForwardRefIdeal.sig) → Buf (Elt Ideal) ℓ) (g : Dev Cert.QueryForwardRefIdeal.nD → PrngReg), Pre_QueryForwardRefIdeal m →
    θ_run (Cert.QueryForwardRefIdeal.defs (F := Ideal)) (onTc (τ := Cert.QueryForwardRefIdeal.τ) (Cert.QueryForwardRefIdeal.main (F := Ideal))) ⟨m, fun _ => 0, g⟩ (fun r => (∀ c : Dev Cert.QueryForwardRefIdeal.nD,
      r.2.mem ((c.tc : Thread Cert.QueryForwardRefIdeal.nD Cert.QueryForwardRefIdeal.τ).loc Cert.QueryForwardRefIdeal.main_arg0) = m ((c.tc : Thread Cert.QueryForwardRefIdeal.nD Cert.QueryForwardRefIdeal.τ).loc Cert.QueryForwardRefIdeal.main_arg0)
      ∧ r.2.mem ((c.tc : Thread Cert.QueryForwardRefIdeal.nD Cert.QueryForwardRefIdeal.τ).loc Cert.QueryForwardRefIdeal.main_arg1) = m ((c.tc : Thread Cert.QueryForwardRefIdeal.nD Cert.QueryForwardRefIdeal.τ).loc Cert.QueryForwardRefIdeal.main_arg1))
      ∧ r.2.sem = fun _ => 0)

def quiescent_QueryRows [hQueryRows : Cert.QueryRows.Facts] : Prop :=
  ∀ (m : (ℓ : Loc Cert.QueryRows.nD Cert.QueryRows.τ Cert.QueryRows.sig) → Buf (Elt Bits) ℓ) (g : Dev Cert.QueryRows.nD → PrngReg), Pre_QueryRows m →
    θ_run (Cert.QueryRows.defs (F := Bits)) (onTc (τ := Cert.QueryRows.τ) (Cert.QueryRows.main (F := Bits))) ⟨m, fun _ => 0, g⟩ (fun r => (∀ c : Dev Cert.QueryRows.nD,
      r.2.mem ((c.tc : Thread Cert.QueryRows.nD Cert.QueryRows.τ).loc Cert.QueryRows.main_arg0) = m ((c.tc : Thread Cert.QueryRows.nD Cert.QueryRows.τ).loc Cert.QueryRows.main_arg0)
      ∧ r.2.mem ((c.tc : Thread Cert.QueryRows.nD Cert.QueryRows.τ).loc Cert.QueryRows.main_arg1) = m ((c.tc : Thread Cert.QueryRows.nD Cert.QueryRows.τ).loc Cert.QueryRows.main_arg1)
      ∧ r.2.mem ((c.tc : Thread Cert.QueryRows.nD Cert.QueryRows.τ).loc Cert.QueryRows.main_arg2) = m ((c.tc : Thread Cert.QueryRows.nD Cert.QueryRows.τ).loc Cert.QueryRows.main_arg2))
      ∧ r.2.sem = fun _ => 0)

def quiescent_QueryRowsIdeal [hQueryRowsIdeal : Cert.QueryRowsIdeal.Facts] : Prop :=
  ∀ (m : (ℓ : Loc Cert.QueryRowsIdeal.nD Cert.QueryRowsIdeal.τ Cert.QueryRowsIdeal.sig) → Buf (Elt Ideal) ℓ) (g : Dev Cert.QueryRowsIdeal.nD → PrngReg), Pre_QueryRowsIdeal m →
    θ_run (Cert.QueryRowsIdeal.defs (F := Ideal)) (onTc (τ := Cert.QueryRowsIdeal.τ) (Cert.QueryRowsIdeal.main (F := Ideal))) ⟨m, fun _ => 0, g⟩ (fun r => (∀ c : Dev Cert.QueryRowsIdeal.nD,
      r.2.mem ((c.tc : Thread Cert.QueryRowsIdeal.nD Cert.QueryRowsIdeal.τ).loc Cert.QueryRowsIdeal.main_arg0) = m ((c.tc : Thread Cert.QueryRowsIdeal.nD Cert.QueryRowsIdeal.τ).loc Cert.QueryRowsIdeal.main_arg0)
      ∧ r.2.mem ((c.tc : Thread Cert.QueryRowsIdeal.nD Cert.QueryRowsIdeal.τ).loc Cert.QueryRowsIdeal.main_arg1) = m ((c.tc : Thread Cert.QueryRowsIdeal.nD Cert.QueryRowsIdeal.τ).loc Cert.QueryRowsIdeal.main_arg1)
      ∧ r.2.mem ((c.tc : Thread Cert.QueryRowsIdeal.nD Cert.QueryRowsIdeal.τ).loc Cert.QueryRowsIdeal.main_arg2) = m ((c.tc : Thread Cert.QueryRowsIdeal.nD Cert.QueryRowsIdeal.τ).loc Cert.QueryRowsIdeal.main_arg2))
      ∧ r.2.sem = fun _ => 0)

def quiescent_QueryRowsRefIdeal [hQueryRowsRefIdeal : Cert.QueryRowsRefIdeal.Facts] : Prop :=
  ∀ (m : (ℓ : Loc Cert.QueryRowsRefIdeal.nD Cert.QueryRowsRefIdeal.τ Cert.QueryRowsRefIdeal.sig) → Buf (Elt Ideal) ℓ) (g : Dev Cert.QueryRowsRefIdeal.nD → PrngReg), Pre_QueryRowsRefIdeal m →
    θ_run (Cert.QueryRowsRefIdeal.defs (F := Ideal)) (onTc (τ := Cert.QueryRowsRefIdeal.τ) (Cert.QueryRowsRefIdeal.main (F := Ideal))) ⟨m, fun _ => 0, g⟩ (fun r => (∀ c : Dev Cert.QueryRowsRefIdeal.nD,
      r.2.mem ((c.tc : Thread Cert.QueryRowsRefIdeal.nD Cert.QueryRowsRefIdeal.τ).loc Cert.QueryRowsRefIdeal.main_arg0) = m ((c.tc : Thread Cert.QueryRowsRefIdeal.nD Cert.QueryRowsRefIdeal.τ).loc Cert.QueryRowsRefIdeal.main_arg0)
      ∧ r.2.mem ((c.tc : Thread Cert.QueryRowsRefIdeal.nD Cert.QueryRowsRefIdeal.τ).loc Cert.QueryRowsRefIdeal.main_arg1) = m ((c.tc : Thread Cert.QueryRowsRefIdeal.nD Cert.QueryRowsRefIdeal.τ).loc Cert.QueryRowsRefIdeal.main_arg1)
      ∧ r.2.mem ((c.tc : Thread Cert.QueryRowsRefIdeal.nD Cert.QueryRowsRefIdeal.τ).loc Cert.QueryRowsRefIdeal.main_arg2) = m ((c.tc : Thread Cert.QueryRowsRefIdeal.nD Cert.QueryRowsRefIdeal.τ).loc Cert.QueryRowsRefIdeal.main_arg2))
      ∧ r.2.sem = fun _ => 0)

def quiescent_QueryWeight [hQueryWeight : Cert.QueryWeight.Facts] : Prop :=
  ∀ (m : (ℓ : Loc Cert.QueryWeight.nD Cert.QueryWeight.τ Cert.QueryWeight.sig) → Buf (Elt Bits) ℓ) (g : Dev Cert.QueryWeight.nD → PrngReg), Pre_QueryWeight m →
    θ_run (Cert.QueryWeight.defs (F := Bits)) (onTc (τ := Cert.QueryWeight.τ) (Cert.QueryWeight.main (F := Bits))) ⟨m, fun _ => 0, g⟩ (fun r => (∀ c : Dev Cert.QueryWeight.nD,
      r.2.mem ((c.tc : Thread Cert.QueryWeight.nD Cert.QueryWeight.τ).loc Cert.QueryWeight.main_arg0) = m ((c.tc : Thread Cert.QueryWeight.nD Cert.QueryWeight.τ).loc Cert.QueryWeight.main_arg0)
      ∧ r.2.mem ((c.tc : Thread Cert.QueryWeight.nD Cert.QueryWeight.τ).loc Cert.QueryWeight.main_arg1) = m ((c.tc : Thread Cert.QueryWeight.nD Cert.QueryWeight.τ).loc Cert.QueryWeight.main_arg1)
      ∧ r.2.mem ((c.tc : Thread Cert.QueryWeight.nD Cert.QueryWeight.τ).loc Cert.QueryWeight.main_arg2) = m ((c.tc : Thread Cert.QueryWeight.nD Cert.QueryWeight.τ).loc Cert.QueryWeight.main_arg2))
      ∧ r.2.sem = fun _ => 0)

def quiescent_QueryWeightIdeal [hQueryWeightIdeal : Cert.QueryWeightIdeal.Facts] : Prop :=
  ∀ (m : (ℓ : Loc Cert.QueryWeightIdeal.nD Cert.QueryWeightIdeal.τ Cert.QueryWeightIdeal.sig) → Buf (Elt Ideal) ℓ) (g : Dev Cert.QueryWeightIdeal.nD → PrngReg), Pre_QueryWeightIdeal m →
    θ_run (Cert.QueryWeightIdeal.defs (F := Ideal)) (onTc (τ := Cert.QueryWeightIdeal.τ) (Cert.QueryWeightIdeal.main (F := Ideal))) ⟨m, fun _ => 0, g⟩ (fun r => (∀ c : Dev Cert.QueryWeightIdeal.nD,
      r.2.mem ((c.tc : Thread Cert.QueryWeightIdeal.nD Cert.QueryWeightIdeal.τ).loc Cert.QueryWeightIdeal.main_arg0) = m ((c.tc : Thread Cert.QueryWeightIdeal.nD Cert.QueryWeightIdeal.τ).loc Cert.QueryWeightIdeal.main_arg0)
      ∧ r.2.mem ((c.tc : Thread Cert.QueryWeightIdeal.nD Cert.QueryWeightIdeal.τ).loc Cert.QueryWeightIdeal.main_arg1) = m ((c.tc : Thread Cert.QueryWeightIdeal.nD Cert.QueryWeightIdeal.τ).loc Cert.QueryWeightIdeal.main_arg1)
      ∧ r.2.mem ((c.tc : Thread Cert.QueryWeightIdeal.nD Cert.QueryWeightIdeal.τ).loc Cert.QueryWeightIdeal.main_arg2) = m ((c.tc : Thread Cert.QueryWeightIdeal.nD Cert.QueryWeightIdeal.τ).loc Cert.QueryWeightIdeal.main_arg2))
      ∧ r.2.sem = fun _ => 0)

def quiescent_QueryWeightRefIdeal [hQueryWeightRefIdeal : Cert.QueryWeightRefIdeal.Facts] : Prop :=
  ∀ (m : (ℓ : Loc Cert.QueryWeightRefIdeal.nD Cert.QueryWeightRefIdeal.τ Cert.QueryWeightRefIdeal.sig) → Buf (Elt Ideal) ℓ) (g : Dev Cert.QueryWeightRefIdeal.nD → PrngReg), Pre_QueryWeightRefIdeal m →
    θ_run (Cert.QueryWeightRefIdeal.defs (F := Ideal)) (onTc (τ := Cert.QueryWeightRefIdeal.τ) (Cert.QueryWeightRefIdeal.main (F := Ideal))) ⟨m, fun _ => 0, g⟩ (fun r => (∀ c : Dev Cert.QueryWeightRefIdeal.nD,
      r.2.mem ((c.tc : Thread Cert.QueryWeightRefIdeal.nD Cert.QueryWeightRefIdeal.τ).loc Cert.QueryWeightRefIdeal.main_arg0) = m ((c.tc : Thread Cert.QueryWeightRefIdeal.nD Cert.QueryWeightRefIdeal.τ).loc Cert.QueryWeightRefIdeal.main_arg0)
      ∧ r.2.mem ((c.tc : Thread Cert.QueryWeightRefIdeal.nD Cert.QueryWeightRefIdeal.τ).loc Cert.QueryWeightRefIdeal.main_arg1) = m ((c.tc : Thread Cert.QueryWeightRefIdeal.nD Cert.QueryWeightRefIdeal.τ).loc Cert.QueryWeightRefIdeal.main_arg1)
      ∧ r.2.mem ((c.tc : Thread Cert.QueryWeightRefIdeal.nD Cert.QueryWeightRefIdeal.τ).loc Cert.QueryWeightRefIdeal.main_arg2) = m ((c.tc : Thread Cert.QueryWeightRefIdeal.nD Cert.QueryWeightRefIdeal.τ).loc Cert.QueryWeightRefIdeal.main_arg2))
      ∧ r.2.sem = fun _ => 0)

def quiescent_KeyForward [hKeyForward : Cert.KeyForward.Facts] : Prop :=
  ∀ (m : (ℓ : Loc Cert.KeyForward.nD Cert.KeyForward.τ Cert.KeyForward.sig) → Buf (Elt Bits) ℓ) (g : Dev Cert.KeyForward.nD → PrngReg), Pre_KeyForward m →
    θ_run (Cert.KeyForward.defs (F := Bits)) (onTc (τ := Cert.KeyForward.τ) (Cert.KeyForward.main (F := Bits))) ⟨m, fun _ => 0, g⟩ (fun r => (∀ c : Dev Cert.KeyForward.nD,
      r.2.mem ((c.tc : Thread Cert.KeyForward.nD Cert.KeyForward.τ).loc Cert.KeyForward.main_arg0) = m ((c.tc : Thread Cert.KeyForward.nD Cert.KeyForward.τ).loc Cert.KeyForward.main_arg0)
      ∧ r.2.mem ((c.tc : Thread Cert.KeyForward.nD Cert.KeyForward.τ).loc Cert.KeyForward.main_arg1) = m ((c.tc : Thread Cert.KeyForward.nD Cert.KeyForward.τ).loc Cert.KeyForward.main_arg1))
      ∧ r.2.sem = fun _ => 0)

def quiescent_KeyForwardIdeal [hKeyForwardIdeal : Cert.KeyForwardIdeal.Facts] : Prop :=
  ∀ (m : (ℓ : Loc Cert.KeyForwardIdeal.nD Cert.KeyForwardIdeal.τ Cert.KeyForwardIdeal.sig) → Buf (Elt Ideal) ℓ) (g : Dev Cert.KeyForwardIdeal.nD → PrngReg), Pre_KeyForwardIdeal m →
    θ_run (Cert.KeyForwardIdeal.defs (F := Ideal)) (onTc (τ := Cert.KeyForwardIdeal.τ) (Cert.KeyForwardIdeal.main (F := Ideal))) ⟨m, fun _ => 0, g⟩ (fun r => (∀ c : Dev Cert.KeyForwardIdeal.nD,
      r.2.mem ((c.tc : Thread Cert.KeyForwardIdeal.nD Cert.KeyForwardIdeal.τ).loc Cert.KeyForwardIdeal.main_arg0) = m ((c.tc : Thread Cert.KeyForwardIdeal.nD Cert.KeyForwardIdeal.τ).loc Cert.KeyForwardIdeal.main_arg0)
      ∧ r.2.mem ((c.tc : Thread Cert.KeyForwardIdeal.nD Cert.KeyForwardIdeal.τ).loc Cert.KeyForwardIdeal.main_arg1) = m ((c.tc : Thread Cert.KeyForwardIdeal.nD Cert.KeyForwardIdeal.τ).loc Cert.KeyForwardIdeal.main_arg1))
      ∧ r.2.sem = fun _ => 0)

def quiescent_KeyForwardRefIdeal [hKeyForwardRefIdeal : Cert.KeyForwardRefIdeal.Facts] : Prop :=
  ∀ (m : (ℓ : Loc Cert.KeyForwardRefIdeal.nD Cert.KeyForwardRefIdeal.τ Cert.KeyForwardRefIdeal.sig) → Buf (Elt Ideal) ℓ) (g : Dev Cert.KeyForwardRefIdeal.nD → PrngReg), Pre_KeyForwardRefIdeal m →
    θ_run (Cert.KeyForwardRefIdeal.defs (F := Ideal)) (onTc (τ := Cert.KeyForwardRefIdeal.τ) (Cert.KeyForwardRefIdeal.main (F := Ideal))) ⟨m, fun _ => 0, g⟩ (fun r => (∀ c : Dev Cert.KeyForwardRefIdeal.nD,
      r.2.mem ((c.tc : Thread Cert.KeyForwardRefIdeal.nD Cert.KeyForwardRefIdeal.τ).loc Cert.KeyForwardRefIdeal.main_arg0) = m ((c.tc : Thread Cert.KeyForwardRefIdeal.nD Cert.KeyForwardRefIdeal.τ).loc Cert.KeyForwardRefIdeal.main_arg0)
      ∧ r.2.mem ((c.tc : Thread Cert.KeyForwardRefIdeal.nD Cert.KeyForwardRefIdeal.τ).loc Cert.KeyForwardRefIdeal.main_arg1) = m ((c.tc : Thread Cert.KeyForwardRefIdeal.nD Cert.KeyForwardRefIdeal.τ).loc Cert.KeyForwardRefIdeal.main_arg1))
      ∧ r.2.sem = fun _ => 0)

def quiescent_KeyRows [hKeyRows : Cert.KeyRows.Facts] : Prop :=
  ∀ (m : (ℓ : Loc Cert.KeyRows.nD Cert.KeyRows.τ Cert.KeyRows.sig) → Buf (Elt Bits) ℓ) (g : Dev Cert.KeyRows.nD → PrngReg), Pre_KeyRows m →
    θ_run (Cert.KeyRows.defs (F := Bits)) (onTc (τ := Cert.KeyRows.τ) (Cert.KeyRows.main (F := Bits))) ⟨m, fun _ => 0, g⟩ (fun r => (∀ c : Dev Cert.KeyRows.nD,
      r.2.mem ((c.tc : Thread Cert.KeyRows.nD Cert.KeyRows.τ).loc Cert.KeyRows.main_arg0) = m ((c.tc : Thread Cert.KeyRows.nD Cert.KeyRows.τ).loc Cert.KeyRows.main_arg0)
      ∧ r.2.mem ((c.tc : Thread Cert.KeyRows.nD Cert.KeyRows.τ).loc Cert.KeyRows.main_arg1) = m ((c.tc : Thread Cert.KeyRows.nD Cert.KeyRows.τ).loc Cert.KeyRows.main_arg1)
      ∧ r.2.mem ((c.tc : Thread Cert.KeyRows.nD Cert.KeyRows.τ).loc Cert.KeyRows.main_arg2) = m ((c.tc : Thread Cert.KeyRows.nD Cert.KeyRows.τ).loc Cert.KeyRows.main_arg2))
      ∧ r.2.sem = fun _ => 0)

def quiescent_KeyRowsIdeal [hKeyRowsIdeal : Cert.KeyRowsIdeal.Facts] : Prop :=
  ∀ (m : (ℓ : Loc Cert.KeyRowsIdeal.nD Cert.KeyRowsIdeal.τ Cert.KeyRowsIdeal.sig) → Buf (Elt Ideal) ℓ) (g : Dev Cert.KeyRowsIdeal.nD → PrngReg), Pre_KeyRowsIdeal m →
    θ_run (Cert.KeyRowsIdeal.defs (F := Ideal)) (onTc (τ := Cert.KeyRowsIdeal.τ) (Cert.KeyRowsIdeal.main (F := Ideal))) ⟨m, fun _ => 0, g⟩ (fun r => (∀ c : Dev Cert.KeyRowsIdeal.nD,
      r.2.mem ((c.tc : Thread Cert.KeyRowsIdeal.nD Cert.KeyRowsIdeal.τ).loc Cert.KeyRowsIdeal.main_arg0) = m ((c.tc : Thread Cert.KeyRowsIdeal.nD Cert.KeyRowsIdeal.τ).loc Cert.KeyRowsIdeal.main_arg0)
      ∧ r.2.mem ((c.tc : Thread Cert.KeyRowsIdeal.nD Cert.KeyRowsIdeal.τ).loc Cert.KeyRowsIdeal.main_arg1) = m ((c.tc : Thread Cert.KeyRowsIdeal.nD Cert.KeyRowsIdeal.τ).loc Cert.KeyRowsIdeal.main_arg1)
      ∧ r.2.mem ((c.tc : Thread Cert.KeyRowsIdeal.nD Cert.KeyRowsIdeal.τ).loc Cert.KeyRowsIdeal.main_arg2) = m ((c.tc : Thread Cert.KeyRowsIdeal.nD Cert.KeyRowsIdeal.τ).loc Cert.KeyRowsIdeal.main_arg2))
      ∧ r.2.sem = fun _ => 0)

def quiescent_KeyRowsRefIdeal [hKeyRowsRefIdeal : Cert.KeyRowsRefIdeal.Facts] : Prop :=
  ∀ (m : (ℓ : Loc Cert.KeyRowsRefIdeal.nD Cert.KeyRowsRefIdeal.τ Cert.KeyRowsRefIdeal.sig) → Buf (Elt Ideal) ℓ) (g : Dev Cert.KeyRowsRefIdeal.nD → PrngReg), Pre_KeyRowsRefIdeal m →
    θ_run (Cert.KeyRowsRefIdeal.defs (F := Ideal)) (onTc (τ := Cert.KeyRowsRefIdeal.τ) (Cert.KeyRowsRefIdeal.main (F := Ideal))) ⟨m, fun _ => 0, g⟩ (fun r => (∀ c : Dev Cert.KeyRowsRefIdeal.nD,
      r.2.mem ((c.tc : Thread Cert.KeyRowsRefIdeal.nD Cert.KeyRowsRefIdeal.τ).loc Cert.KeyRowsRefIdeal.main_arg0) = m ((c.tc : Thread Cert.KeyRowsRefIdeal.nD Cert.KeyRowsRefIdeal.τ).loc Cert.KeyRowsRefIdeal.main_arg0)
      ∧ r.2.mem ((c.tc : Thread Cert.KeyRowsRefIdeal.nD Cert.KeyRowsRefIdeal.τ).loc Cert.KeyRowsRefIdeal.main_arg1) = m ((c.tc : Thread Cert.KeyRowsRefIdeal.nD Cert.KeyRowsRefIdeal.τ).loc Cert.KeyRowsRefIdeal.main_arg1)
      ∧ r.2.mem ((c.tc : Thread Cert.KeyRowsRefIdeal.nD Cert.KeyRowsRefIdeal.τ).loc Cert.KeyRowsRefIdeal.main_arg2) = m ((c.tc : Thread Cert.KeyRowsRefIdeal.nD Cert.KeyRowsRefIdeal.τ).loc Cert.KeyRowsRefIdeal.main_arg2))
      ∧ r.2.sem = fun _ => 0)

def quiescent_KeyWeight [hKeyWeight : Cert.KeyWeight.Facts] : Prop :=
  ∀ (m : (ℓ : Loc Cert.KeyWeight.nD Cert.KeyWeight.τ Cert.KeyWeight.sig) → Buf (Elt Bits) ℓ) (g : Dev Cert.KeyWeight.nD → PrngReg), Pre_KeyWeight m →
    θ_run (Cert.KeyWeight.defs (F := Bits)) (onTc (τ := Cert.KeyWeight.τ) (Cert.KeyWeight.main (F := Bits))) ⟨m, fun _ => 0, g⟩ (fun r => (∀ c : Dev Cert.KeyWeight.nD,
      r.2.mem ((c.tc : Thread Cert.KeyWeight.nD Cert.KeyWeight.τ).loc Cert.KeyWeight.main_arg0) = m ((c.tc : Thread Cert.KeyWeight.nD Cert.KeyWeight.τ).loc Cert.KeyWeight.main_arg0)
      ∧ r.2.mem ((c.tc : Thread Cert.KeyWeight.nD Cert.KeyWeight.τ).loc Cert.KeyWeight.main_arg1) = m ((c.tc : Thread Cert.KeyWeight.nD Cert.KeyWeight.τ).loc Cert.KeyWeight.main_arg1)
      ∧ r.2.mem ((c.tc : Thread Cert.KeyWeight.nD Cert.KeyWeight.τ).loc Cert.KeyWeight.main_arg2) = m ((c.tc : Thread Cert.KeyWeight.nD Cert.KeyWeight.τ).loc Cert.KeyWeight.main_arg2))
      ∧ r.2.sem = fun _ => 0)

def quiescent_KeyWeightIdeal [hKeyWeightIdeal : Cert.KeyWeightIdeal.Facts] : Prop :=
  ∀ (m : (ℓ : Loc Cert.KeyWeightIdeal.nD Cert.KeyWeightIdeal.τ Cert.KeyWeightIdeal.sig) → Buf (Elt Ideal) ℓ) (g : Dev Cert.KeyWeightIdeal.nD → PrngReg), Pre_KeyWeightIdeal m →
    θ_run (Cert.KeyWeightIdeal.defs (F := Ideal)) (onTc (τ := Cert.KeyWeightIdeal.τ) (Cert.KeyWeightIdeal.main (F := Ideal))) ⟨m, fun _ => 0, g⟩ (fun r => (∀ c : Dev Cert.KeyWeightIdeal.nD,
      r.2.mem ((c.tc : Thread Cert.KeyWeightIdeal.nD Cert.KeyWeightIdeal.τ).loc Cert.KeyWeightIdeal.main_arg0) = m ((c.tc : Thread Cert.KeyWeightIdeal.nD Cert.KeyWeightIdeal.τ).loc Cert.KeyWeightIdeal.main_arg0)
      ∧ r.2.mem ((c.tc : Thread Cert.KeyWeightIdeal.nD Cert.KeyWeightIdeal.τ).loc Cert.KeyWeightIdeal.main_arg1) = m ((c.tc : Thread Cert.KeyWeightIdeal.nD Cert.KeyWeightIdeal.τ).loc Cert.KeyWeightIdeal.main_arg1)
      ∧ r.2.mem ((c.tc : Thread Cert.KeyWeightIdeal.nD Cert.KeyWeightIdeal.τ).loc Cert.KeyWeightIdeal.main_arg2) = m ((c.tc : Thread Cert.KeyWeightIdeal.nD Cert.KeyWeightIdeal.τ).loc Cert.KeyWeightIdeal.main_arg2))
      ∧ r.2.sem = fun _ => 0)

def quiescent_KeyWeightRefIdeal [hKeyWeightRefIdeal : Cert.KeyWeightRefIdeal.Facts] : Prop :=
  ∀ (m : (ℓ : Loc Cert.KeyWeightRefIdeal.nD Cert.KeyWeightRefIdeal.τ Cert.KeyWeightRefIdeal.sig) → Buf (Elt Ideal) ℓ) (g : Dev Cert.KeyWeightRefIdeal.nD → PrngReg), Pre_KeyWeightRefIdeal m →
    θ_run (Cert.KeyWeightRefIdeal.defs (F := Ideal)) (onTc (τ := Cert.KeyWeightRefIdeal.τ) (Cert.KeyWeightRefIdeal.main (F := Ideal))) ⟨m, fun _ => 0, g⟩ (fun r => (∀ c : Dev Cert.KeyWeightRefIdeal.nD,
      r.2.mem ((c.tc : Thread Cert.KeyWeightRefIdeal.nD Cert.KeyWeightRefIdeal.τ).loc Cert.KeyWeightRefIdeal.main_arg0) = m ((c.tc : Thread Cert.KeyWeightRefIdeal.nD Cert.KeyWeightRefIdeal.τ).loc Cert.KeyWeightRefIdeal.main_arg0)
      ∧ r.2.mem ((c.tc : Thread Cert.KeyWeightRefIdeal.nD Cert.KeyWeightRefIdeal.τ).loc Cert.KeyWeightRefIdeal.main_arg1) = m ((c.tc : Thread Cert.KeyWeightRefIdeal.nD Cert.KeyWeightRefIdeal.τ).loc Cert.KeyWeightRefIdeal.main_arg1)
      ∧ r.2.mem ((c.tc : Thread Cert.KeyWeightRefIdeal.nD Cert.KeyWeightRefIdeal.τ).loc Cert.KeyWeightRefIdeal.main_arg2) = m ((c.tc : Thread Cert.KeyWeightRefIdeal.nD Cert.KeyWeightRefIdeal.τ).loc Cert.KeyWeightRefIdeal.main_arg2))
      ∧ r.2.sem = fun _ => 0)

def quiescent_AInForward [hAInForward : Cert.AInForward.Facts] : Prop :=
  ∀ (m : (ℓ : Loc Cert.AInForward.nD Cert.AInForward.τ Cert.AInForward.sig) → Buf (Elt Bits) ℓ) (g : Dev Cert.AInForward.nD → PrngReg), Pre_AInForward m →
    θ_run (Cert.AInForward.defs (F := Bits)) (onTc (τ := Cert.AInForward.τ) (Cert.AInForward.main (F := Bits))) ⟨m, fun _ => 0, g⟩ (fun r => (∀ c : Dev Cert.AInForward.nD,
      r.2.mem ((c.tc : Thread Cert.AInForward.nD Cert.AInForward.τ).loc Cert.AInForward.main_arg0) = m ((c.tc : Thread Cert.AInForward.nD Cert.AInForward.τ).loc Cert.AInForward.main_arg0)
      ∧ r.2.mem ((c.tc : Thread Cert.AInForward.nD Cert.AInForward.τ).loc Cert.AInForward.main_arg1) = m ((c.tc : Thread Cert.AInForward.nD Cert.AInForward.τ).loc Cert.AInForward.main_arg1))
      ∧ r.2.sem = fun _ => 0)

def quiescent_AInForwardIdeal [hAInForwardIdeal : Cert.AInForwardIdeal.Facts] : Prop :=
  ∀ (m : (ℓ : Loc Cert.AInForwardIdeal.nD Cert.AInForwardIdeal.τ Cert.AInForwardIdeal.sig) → Buf (Elt Ideal) ℓ) (g : Dev Cert.AInForwardIdeal.nD → PrngReg), Pre_AInForwardIdeal m →
    θ_run (Cert.AInForwardIdeal.defs (F := Ideal)) (onTc (τ := Cert.AInForwardIdeal.τ) (Cert.AInForwardIdeal.main (F := Ideal))) ⟨m, fun _ => 0, g⟩ (fun r => (∀ c : Dev Cert.AInForwardIdeal.nD,
      r.2.mem ((c.tc : Thread Cert.AInForwardIdeal.nD Cert.AInForwardIdeal.τ).loc Cert.AInForwardIdeal.main_arg0) = m ((c.tc : Thread Cert.AInForwardIdeal.nD Cert.AInForwardIdeal.τ).loc Cert.AInForwardIdeal.main_arg0)
      ∧ r.2.mem ((c.tc : Thread Cert.AInForwardIdeal.nD Cert.AInForwardIdeal.τ).loc Cert.AInForwardIdeal.main_arg1) = m ((c.tc : Thread Cert.AInForwardIdeal.nD Cert.AInForwardIdeal.τ).loc Cert.AInForwardIdeal.main_arg1))
      ∧ r.2.sem = fun _ => 0)

def quiescent_AInForwardRefIdeal [hAInForwardRefIdeal : Cert.AInForwardRefIdeal.Facts] : Prop :=
  ∀ (m : (ℓ : Loc Cert.AInForwardRefIdeal.nD Cert.AInForwardRefIdeal.τ Cert.AInForwardRefIdeal.sig) → Buf (Elt Ideal) ℓ) (g : Dev Cert.AInForwardRefIdeal.nD → PrngReg), Pre_AInForwardRefIdeal m →
    θ_run (Cert.AInForwardRefIdeal.defs (F := Ideal)) (onTc (τ := Cert.AInForwardRefIdeal.τ) (Cert.AInForwardRefIdeal.main (F := Ideal))) ⟨m, fun _ => 0, g⟩ (fun r => (∀ c : Dev Cert.AInForwardRefIdeal.nD,
      r.2.mem ((c.tc : Thread Cert.AInForwardRefIdeal.nD Cert.AInForwardRefIdeal.τ).loc Cert.AInForwardRefIdeal.main_arg0) = m ((c.tc : Thread Cert.AInForwardRefIdeal.nD Cert.AInForwardRefIdeal.τ).loc Cert.AInForwardRefIdeal.main_arg0)
      ∧ r.2.mem ((c.tc : Thread Cert.AInForwardRefIdeal.nD Cert.AInForwardRefIdeal.τ).loc Cert.AInForwardRefIdeal.main_arg1) = m ((c.tc : Thread Cert.AInForwardRefIdeal.nD Cert.AInForwardRefIdeal.τ).loc Cert.AInForwardRefIdeal.main_arg1))
      ∧ r.2.sem = fun _ => 0)

def quiescent_AInRows [hAInRows : Cert.AInRows.Facts] : Prop :=
  ∀ (m : (ℓ : Loc Cert.AInRows.nD Cert.AInRows.τ Cert.AInRows.sig) → Buf (Elt Bits) ℓ) (g : Dev Cert.AInRows.nD → PrngReg), Pre_AInRows m →
    θ_run (Cert.AInRows.defs (F := Bits)) (onTc (τ := Cert.AInRows.τ) (Cert.AInRows.main (F := Bits))) ⟨m, fun _ => 0, g⟩ (fun r => (∀ c : Dev Cert.AInRows.nD,
      r.2.mem ((c.tc : Thread Cert.AInRows.nD Cert.AInRows.τ).loc Cert.AInRows.main_arg0) = m ((c.tc : Thread Cert.AInRows.nD Cert.AInRows.τ).loc Cert.AInRows.main_arg0)
      ∧ r.2.mem ((c.tc : Thread Cert.AInRows.nD Cert.AInRows.τ).loc Cert.AInRows.main_arg1) = m ((c.tc : Thread Cert.AInRows.nD Cert.AInRows.τ).loc Cert.AInRows.main_arg1)
      ∧ r.2.mem ((c.tc : Thread Cert.AInRows.nD Cert.AInRows.τ).loc Cert.AInRows.main_arg2) = m ((c.tc : Thread Cert.AInRows.nD Cert.AInRows.τ).loc Cert.AInRows.main_arg2))
      ∧ r.2.sem = fun _ => 0)

def quiescent_AInRowsIdeal [hAInRowsIdeal : Cert.AInRowsIdeal.Facts] : Prop :=
  ∀ (m : (ℓ : Loc Cert.AInRowsIdeal.nD Cert.AInRowsIdeal.τ Cert.AInRowsIdeal.sig) → Buf (Elt Ideal) ℓ) (g : Dev Cert.AInRowsIdeal.nD → PrngReg), Pre_AInRowsIdeal m →
    θ_run (Cert.AInRowsIdeal.defs (F := Ideal)) (onTc (τ := Cert.AInRowsIdeal.τ) (Cert.AInRowsIdeal.main (F := Ideal))) ⟨m, fun _ => 0, g⟩ (fun r => (∀ c : Dev Cert.AInRowsIdeal.nD,
      r.2.mem ((c.tc : Thread Cert.AInRowsIdeal.nD Cert.AInRowsIdeal.τ).loc Cert.AInRowsIdeal.main_arg0) = m ((c.tc : Thread Cert.AInRowsIdeal.nD Cert.AInRowsIdeal.τ).loc Cert.AInRowsIdeal.main_arg0)
      ∧ r.2.mem ((c.tc : Thread Cert.AInRowsIdeal.nD Cert.AInRowsIdeal.τ).loc Cert.AInRowsIdeal.main_arg1) = m ((c.tc : Thread Cert.AInRowsIdeal.nD Cert.AInRowsIdeal.τ).loc Cert.AInRowsIdeal.main_arg1)
      ∧ r.2.mem ((c.tc : Thread Cert.AInRowsIdeal.nD Cert.AInRowsIdeal.τ).loc Cert.AInRowsIdeal.main_arg2) = m ((c.tc : Thread Cert.AInRowsIdeal.nD Cert.AInRowsIdeal.τ).loc Cert.AInRowsIdeal.main_arg2))
      ∧ r.2.sem = fun _ => 0)

def quiescent_AInRowsRefIdeal [hAInRowsRefIdeal : Cert.AInRowsRefIdeal.Facts] : Prop :=
  ∀ (m : (ℓ : Loc Cert.AInRowsRefIdeal.nD Cert.AInRowsRefIdeal.τ Cert.AInRowsRefIdeal.sig) → Buf (Elt Ideal) ℓ) (g : Dev Cert.AInRowsRefIdeal.nD → PrngReg), Pre_AInRowsRefIdeal m →
    θ_run (Cert.AInRowsRefIdeal.defs (F := Ideal)) (onTc (τ := Cert.AInRowsRefIdeal.τ) (Cert.AInRowsRefIdeal.main (F := Ideal))) ⟨m, fun _ => 0, g⟩ (fun r => (∀ c : Dev Cert.AInRowsRefIdeal.nD,
      r.2.mem ((c.tc : Thread Cert.AInRowsRefIdeal.nD Cert.AInRowsRefIdeal.τ).loc Cert.AInRowsRefIdeal.main_arg0) = m ((c.tc : Thread Cert.AInRowsRefIdeal.nD Cert.AInRowsRefIdeal.τ).loc Cert.AInRowsRefIdeal.main_arg0)
      ∧ r.2.mem ((c.tc : Thread Cert.AInRowsRefIdeal.nD Cert.AInRowsRefIdeal.τ).loc Cert.AInRowsRefIdeal.main_arg1) = m ((c.tc : Thread Cert.AInRowsRefIdeal.nD Cert.AInRowsRefIdeal.τ).loc Cert.AInRowsRefIdeal.main_arg1)
      ∧ r.2.mem ((c.tc : Thread Cert.AInRowsRefIdeal.nD Cert.AInRowsRefIdeal.τ).loc Cert.AInRowsRefIdeal.main_arg2) = m ((c.tc : Thread Cert.AInRowsRefIdeal.nD Cert.AInRowsRefIdeal.τ).loc Cert.AInRowsRefIdeal.main_arg2))
      ∧ r.2.sem = fun _ => 0)

def quiescent_AInWeight [hAInWeight : Cert.AInWeight.Facts] : Prop :=
  ∀ (m : (ℓ : Loc Cert.AInWeight.nD Cert.AInWeight.τ Cert.AInWeight.sig) → Buf (Elt Bits) ℓ) (g : Dev Cert.AInWeight.nD → PrngReg), Pre_AInWeight m →
    θ_run (Cert.AInWeight.defs (F := Bits)) (onTc (τ := Cert.AInWeight.τ) (Cert.AInWeight.main (F := Bits))) ⟨m, fun _ => 0, g⟩ (fun r => (∀ c : Dev Cert.AInWeight.nD,
      r.2.mem ((c.tc : Thread Cert.AInWeight.nD Cert.AInWeight.τ).loc Cert.AInWeight.main_arg0) = m ((c.tc : Thread Cert.AInWeight.nD Cert.AInWeight.τ).loc Cert.AInWeight.main_arg0)
      ∧ r.2.mem ((c.tc : Thread Cert.AInWeight.nD Cert.AInWeight.τ).loc Cert.AInWeight.main_arg1) = m ((c.tc : Thread Cert.AInWeight.nD Cert.AInWeight.τ).loc Cert.AInWeight.main_arg1)
      ∧ r.2.mem ((c.tc : Thread Cert.AInWeight.nD Cert.AInWeight.τ).loc Cert.AInWeight.main_arg2) = m ((c.tc : Thread Cert.AInWeight.nD Cert.AInWeight.τ).loc Cert.AInWeight.main_arg2))
      ∧ r.2.sem = fun _ => 0)

def quiescent_AInWeightIdeal [hAInWeightIdeal : Cert.AInWeightIdeal.Facts] : Prop :=
  ∀ (m : (ℓ : Loc Cert.AInWeightIdeal.nD Cert.AInWeightIdeal.τ Cert.AInWeightIdeal.sig) → Buf (Elt Ideal) ℓ) (g : Dev Cert.AInWeightIdeal.nD → PrngReg), Pre_AInWeightIdeal m →
    θ_run (Cert.AInWeightIdeal.defs (F := Ideal)) (onTc (τ := Cert.AInWeightIdeal.τ) (Cert.AInWeightIdeal.main (F := Ideal))) ⟨m, fun _ => 0, g⟩ (fun r => (∀ c : Dev Cert.AInWeightIdeal.nD,
      r.2.mem ((c.tc : Thread Cert.AInWeightIdeal.nD Cert.AInWeightIdeal.τ).loc Cert.AInWeightIdeal.main_arg0) = m ((c.tc : Thread Cert.AInWeightIdeal.nD Cert.AInWeightIdeal.τ).loc Cert.AInWeightIdeal.main_arg0)
      ∧ r.2.mem ((c.tc : Thread Cert.AInWeightIdeal.nD Cert.AInWeightIdeal.τ).loc Cert.AInWeightIdeal.main_arg1) = m ((c.tc : Thread Cert.AInWeightIdeal.nD Cert.AInWeightIdeal.τ).loc Cert.AInWeightIdeal.main_arg1)
      ∧ r.2.mem ((c.tc : Thread Cert.AInWeightIdeal.nD Cert.AInWeightIdeal.τ).loc Cert.AInWeightIdeal.main_arg2) = m ((c.tc : Thread Cert.AInWeightIdeal.nD Cert.AInWeightIdeal.τ).loc Cert.AInWeightIdeal.main_arg2))
      ∧ r.2.sem = fun _ => 0)

def quiescent_AInWeightRefIdeal [hAInWeightRefIdeal : Cert.AInWeightRefIdeal.Facts] : Prop :=
  ∀ (m : (ℓ : Loc Cert.AInWeightRefIdeal.nD Cert.AInWeightRefIdeal.τ Cert.AInWeightRefIdeal.sig) → Buf (Elt Ideal) ℓ) (g : Dev Cert.AInWeightRefIdeal.nD → PrngReg), Pre_AInWeightRefIdeal m →
    θ_run (Cert.AInWeightRefIdeal.defs (F := Ideal)) (onTc (τ := Cert.AInWeightRefIdeal.τ) (Cert.AInWeightRefIdeal.main (F := Ideal))) ⟨m, fun _ => 0, g⟩ (fun r => (∀ c : Dev Cert.AInWeightRefIdeal.nD,
      r.2.mem ((c.tc : Thread Cert.AInWeightRefIdeal.nD Cert.AInWeightRefIdeal.τ).loc Cert.AInWeightRefIdeal.main_arg0) = m ((c.tc : Thread Cert.AInWeightRefIdeal.nD Cert.AInWeightRefIdeal.τ).loc Cert.AInWeightRefIdeal.main_arg0)
      ∧ r.2.mem ((c.tc : Thread Cert.AInWeightRefIdeal.nD Cert.AInWeightRefIdeal.τ).loc Cert.AInWeightRefIdeal.main_arg1) = m ((c.tc : Thread Cert.AInWeightRefIdeal.nD Cert.AInWeightRefIdeal.τ).loc Cert.AInWeightRefIdeal.main_arg1)
      ∧ r.2.mem ((c.tc : Thread Cert.AInWeightRefIdeal.nD Cert.AInWeightRefIdeal.τ).loc Cert.AInWeightRefIdeal.main_arg2) = m ((c.tc : Thread Cert.AInWeightRefIdeal.nD Cert.AInWeightRefIdeal.τ).loc Cert.AInWeightRefIdeal.main_arg2))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Forward_ForwardIdeal : Prop :=
  IdealRules.named_const.Statement Cert.ForwardIdeal.κ "log2e" .f32 0x3FB8AA3B#32 (((Real.log 2)⁻¹ : ℝ) : EReal)

def algebraic_ForwardIdeal_ForwardRefIdeal_pre_finite_scores [hForwardIdeal : Cert.ForwardIdeal.Facts] [hForwardRefIdeal : Cert.ForwardRefIdeal.Facts] [hPre_finite_scores : Cert.Pre_finite_scores.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardRefIdeal.nD Cert.ForwardRefIdeal.τ Cert.ForwardRefIdeal.sig) → Buf (Elt Ideal) ℓ) (g' : Dev Cert.ForwardRefIdeal.nD → PrngReg), Pre_ForwardIdeal_finite_scores m →
    (∀ c : Dev Cert.ForwardIdeal.nD,
      m' ((c.tc : Thread Cert.ForwardRefIdeal.nD Cert.ForwardRefIdeal.τ).loc Cert.ForwardRefIdeal.main_arg0) = m ((c.tc : Thread Cert.ForwardIdeal.nD Cert.ForwardIdeal.τ).loc Cert.ForwardIdeal.main_arg0)
      ∧ m' ((c.tc : Thread Cert.ForwardRefIdeal.nD Cert.ForwardRefIdeal.τ).loc Cert.ForwardRefIdeal.main_arg1) = m ((c.tc : Thread Cert.ForwardIdeal.nD Cert.ForwardIdeal.τ).loc Cert.ForwardIdeal.main_arg1)
      ∧ m' ((c.tc : Thread Cert.ForwardRefIdeal.nD Cert.ForwardRefIdeal.τ).loc Cert.ForwardRefIdeal.main_arg2) = m ((c.tc : Thread Cert.ForwardIdeal.nD Cert.ForwardIdeal.τ).loc Cert.ForwardIdeal.main_arg2)) →
    ∃ (v0 : (c : Dev Cert.ForwardIdeal.nD) → Buf (Elt Ideal) ((c.tc : Thread Cert.ForwardIdeal.nD Cert.ForwardIdeal.τ).loc Cert.ForwardIdeal.main_v3_0)) (v1 : (c : Dev Cert.ForwardIdeal.nD) → Buf (Elt Ideal) ((c.tc : Thread Cert.ForwardIdeal.nD Cert.ForwardIdeal.τ).loc Cert.ForwardIdeal.main_v3_1)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v3_0) = v0 c
          ∧ r.2.mem ((c.tc : Thread Cert.ForwardIdeal.nD Cert.ForwardIdeal.τ).loc Cert.ForwardIdeal.main_v3_1) = v1 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ θ_run (Cert.ForwardRefIdeal.defs (F := Ideal)) (onTc (τ := Cert.ForwardRefIdeal.τ) (Cert.ForwardRefIdeal.main (F := Ideal))) ⟨m', fun _ => 0, g'⟩ (fun r => ∀ c : Dev Cert.ForwardRefIdeal.nD,
          r.2.mem ((c.tc : Thread Cert.ForwardRefIdeal.nD Cert.ForwardRefIdeal.τ).loc Cert.ForwardRefIdeal.main_v34) = v0 c
          ∧ r.2.mem ((c.tc : Thread Cert.ForwardRefIdeal.nD Cert.ForwardRefIdeal.τ).loc Cert.ForwardRefIdeal.main_v37) = v1 c
          ∧ r.2.mem ((c.tc : Thread Cert.ForwardRefIdeal.nD Cert.ForwardRefIdeal.τ).loc Cert.ForwardRefIdeal.main_arg0) = m' ((c.tc : Thread Cert.ForwardRefIdeal.nD Cert.ForwardRefIdeal.τ).loc Cert.ForwardRefIdeal.main_arg0)
          ∧ r.2.mem ((c.tc : Thread Cert.ForwardRefIdeal.nD Cert.ForwardRefIdeal.τ).loc Cert.ForwardRefIdeal.main_arg1) = m' ((c.tc : Thread Cert.ForwardRefIdeal.nD Cert.ForwardRefIdeal.τ).loc Cert.ForwardRefIdeal.main_arg1)
          ∧ r.2.mem ((c.tc : Thread Cert.ForwardRefIdeal.nD Cert.ForwardRefIdeal.τ).loc Cert.ForwardRefIdeal.main_arg2) = m' ((c.tc : Thread Cert.ForwardRefIdeal.nD Cert.ForwardRefIdeal.τ).loc Cert.ForwardRefIdeal.main_arg2))

def preserves_Memory_MemoryIdeal : Prop :=
  IdealRules.named_const.Statement Cert.MemoryIdeal.κ "qk_mult" .f32 0x3E38AA3B#32 (((1 / 8) * (Real.log 2)⁻¹ : ℝ) : EReal)
  ∧ IdealRules.named_const.Statement Cert.MemoryIdeal.κ "log2e" .f32 0x3FB8AA3B#32 (((Real.log 2)⁻¹ : ℝ) : EReal)

def algebraic_MemoryIdeal_MemoryRefIdeal_pre_finite_memory [hMemoryIdeal : Cert.MemoryIdeal.Facts] [hMemoryRefIdeal : Cert.MemoryRefIdeal.Facts] [hPre_finite_memory : Cert.Pre_finite_memory.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal_finite_memory m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v3_0)) (v1 : (c : Dev Cert.MemoryIdeal.nD) → Buf (Elt Ideal) ((c.tc : Thread Cert.MemoryIdeal.nD Cert.MemoryIdeal.τ).loc Cert.MemoryIdeal.main_v3_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v3_0) = v0 c
          ∧ r.2.mem ((c.tc : Thread Cert.MemoryIdeal.nD Cert.MemoryIdeal.τ).loc Cert.MemoryIdeal.main_v3_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v32) = v0 c
          ∧ r.2.mem ((c.tc : Thread Cert.MemoryRefIdeal.nD Cert.MemoryRefIdeal.τ).loc Cert.MemoryRefIdeal.main_v35) = v1 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2))

def preserves_GateForward_GateForwardIdeal : Prop :=
  True

def algebraic_GateForwardIdeal_GateForwardRefIdeal [hGateForwardIdeal : Cert.GateForwardIdeal.Facts] [hGateForwardRefIdeal : Cert.GateForwardRefIdeal.Facts] : Prop :=
  ∀ (m : (ℓ : Loc Cert.GateForwardIdeal.nD Cert.GateForwardIdeal.τ Cert.GateForwardIdeal.sig) → Buf (Elt Ideal) ℓ) (g : Dev Cert.GateForwardIdeal.nD → PrngReg)
    (m' : (ℓ : Loc Cert.GateForwardRefIdeal.nD Cert.GateForwardRefIdeal.τ Cert.GateForwardRefIdeal.sig) → Buf (Elt Ideal) ℓ) (g' : Dev Cert.GateForwardRefIdeal.nD → PrngReg), Pre_GateForwardIdeal m →
    (∀ c : Dev Cert.GateForwardIdeal.nD,
      m' ((c.tc : Thread Cert.GateForwardRefIdeal.nD Cert.GateForwardRefIdeal.τ).loc Cert.GateForwardRefIdeal.main_arg0) = m ((c.tc : Thread Cert.GateForwardIdeal.nD Cert.GateForwardIdeal.τ).loc Cert.GateForwardIdeal.main_arg0)
      ∧ m' ((c.tc : Thread Cert.GateForwardRefIdeal.nD Cert.GateForwardRefIdeal.τ).loc Cert.GateForwardRefIdeal.main_arg1) = m ((c.tc : Thread Cert.GateForwardIdeal.nD Cert.GateForwardIdeal.τ).loc Cert.GateForwardIdeal.main_arg1)) →
    ∃ (v0 : (c : Dev Cert.GateForwardIdeal.nD) → Buf (Elt Ideal) ((c.tc : Thread Cert.GateForwardIdeal.nD Cert.GateForwardIdeal.τ).loc Cert.GateForwardIdeal.main_v1)),
      θ_run (Cert.GateForwardIdeal.defs (F := Ideal)) (onTc (τ := Cert.GateForwardIdeal.τ) (Cert.GateForwardIdeal.main (F := Ideal))) ⟨m, fun _ => 0, g⟩ (fun r => ∀ c : Dev Cert.GateForwardIdeal.nD,
          r.2.mem ((c.tc : Thread Cert.GateForwardIdeal.nD Cert.GateForwardIdeal.τ).loc Cert.GateForwardIdeal.main_v1) = v0 c
          ∧ r.2.mem ((c.tc : Thread Cert.GateForwardIdeal.nD Cert.GateForwardIdeal.τ).loc Cert.GateForwardIdeal.main_arg0) = m ((c.tc : Thread Cert.GateForwardIdeal.nD Cert.GateForwardIdeal.τ).loc Cert.GateForwardIdeal.main_arg0)
          ∧ r.2.mem ((c.tc : Thread Cert.GateForwardIdeal.nD Cert.GateForwardIdeal.τ).loc Cert.GateForwardIdeal.main_arg1) = m ((c.tc : Thread Cert.GateForwardIdeal.nD Cert.GateForwardIdeal.τ).loc Cert.GateForwardIdeal.main_arg1))
      ∧ θ_run (Cert.GateForwardRefIdeal.defs (F := Ideal)) (onTc (τ := Cert.GateForwardRefIdeal.τ) (Cert.GateForwardRefIdeal.main (F := Ideal))) ⟨m', fun _ => 0, g'⟩ (fun r => ∀ c : Dev Cert.GateForwardRefIdeal.nD,
          r.2.mem ((c.tc : Thread Cert.GateForwardRefIdeal.nD Cert.GateForwardRefIdeal.τ).loc Cert.GateForwardRefIdeal.main_v1) = v0 c
          ∧ r.2.mem ((c.tc : Thread Cert.GateForwardRefIdeal.nD Cert.GateForwardRefIdeal.τ).loc Cert.GateForwardRefIdeal.main_arg0) = m' ((c.tc : Thread Cert.GateForwardRefIdeal.nD Cert.GateForwardRefIdeal.τ).loc Cert.GateForwardRefIdeal.main_arg0)
          ∧ r.2.mem ((c.tc : Thread Cert.GateForwardRefIdeal.nD Cert.GateForwardRefIdeal.τ).loc Cert.GateForwardRefIdeal.main_arg1) = m' ((c.tc : Thread Cert.GateForwardRefIdeal.nD Cert.GateForwardRefIdeal.τ).loc Cert.GateForwardRefIdeal.main_arg1))

def preserves_GateRows_GateRowsIdeal : Prop :=
  True

def algebraic_GateRowsIdeal_GateRowsRefIdeal [hGateRowsIdeal : Cert.GateRowsIdeal.Facts] [hGateRowsRefIdeal : Cert.GateRowsRefIdeal.Facts] : Prop :=
  ∀ (m : (ℓ : Loc Cert.GateRowsIdeal.nD Cert.GateRowsIdeal.τ Cert.GateRowsIdeal.sig) → Buf (Elt Ideal) ℓ) (g : Dev Cert.GateRowsIdeal.nD → PrngReg)
    (m' : (ℓ : Loc Cert.GateRowsRefIdeal.nD Cert.GateRowsRefIdeal.τ Cert.GateRowsRefIdeal.sig) → Buf (Elt Ideal) ℓ) (g' : Dev Cert.GateRowsRefIdeal.nD → PrngReg), Pre_GateRowsIdeal m →
    (∀ c : Dev Cert.GateRowsIdeal.nD,
      m' ((c.tc : Thread Cert.GateRowsRefIdeal.nD Cert.GateRowsRefIdeal.τ).loc Cert.GateRowsRefIdeal.main_arg0) = m ((c.tc : Thread Cert.GateRowsIdeal.nD Cert.GateRowsIdeal.τ).loc Cert.GateRowsIdeal.main_arg0)
      ∧ m' ((c.tc : Thread Cert.GateRowsRefIdeal.nD Cert.GateRowsRefIdeal.τ).loc Cert.GateRowsRefIdeal.main_arg1) = m ((c.tc : Thread Cert.GateRowsIdeal.nD Cert.GateRowsIdeal.τ).loc Cert.GateRowsIdeal.main_arg1)
      ∧ m' ((c.tc : Thread Cert.GateRowsRefIdeal.nD Cert.GateRowsRefIdeal.τ).loc Cert.GateRowsRefIdeal.main_arg2) = m ((c.tc : Thread Cert.GateRowsIdeal.nD Cert.GateRowsIdeal.τ).loc Cert.GateRowsIdeal.main_arg2)) →
    ∃ (v0 : (c : Dev Cert.GateRowsIdeal.nD) → Buf (Elt Ideal) ((c.tc : Thread Cert.GateRowsIdeal.nD Cert.GateRowsIdeal.τ).loc Cert.GateRowsIdeal.main_v1)),
      θ_run (Cert.GateRowsIdeal.defs (F := Ideal)) (onTc (τ := Cert.GateRowsIdeal.τ) (Cert.GateRowsIdeal.main (F := Ideal))) ⟨m, fun _ => 0, g⟩ (fun r => ∀ c : Dev Cert.GateRowsIdeal.nD,
          r.2.mem ((c.tc : Thread Cert.GateRowsIdeal.nD Cert.GateRowsIdeal.τ).loc Cert.GateRowsIdeal.main_v1) = v0 c
          ∧ r.2.mem ((c.tc : Thread Cert.GateRowsIdeal.nD Cert.GateRowsIdeal.τ).loc Cert.GateRowsIdeal.main_arg0) = m ((c.tc : Thread Cert.GateRowsIdeal.nD Cert.GateRowsIdeal.τ).loc Cert.GateRowsIdeal.main_arg0)
          ∧ r.2.mem ((c.tc : Thread Cert.GateRowsIdeal.nD Cert.GateRowsIdeal.τ).loc Cert.GateRowsIdeal.main_arg1) = m ((c.tc : Thread Cert.GateRowsIdeal.nD Cert.GateRowsIdeal.τ).loc Cert.GateRowsIdeal.main_arg1)
          ∧ r.2.mem ((c.tc : Thread Cert.GateRowsIdeal.nD Cert.GateRowsIdeal.τ).loc Cert.GateRowsIdeal.main_arg2) = m ((c.tc : Thread Cert.GateRowsIdeal.nD Cert.GateRowsIdeal.τ).loc Cert.GateRowsIdeal.main_arg2))
      ∧ θ_run (Cert.GateRowsRefIdeal.defs (F := Ideal)) (onTc (τ := Cert.GateRowsRefIdeal.τ) (Cert.GateRowsRefIdeal.main (F := Ideal))) ⟨m', fun _ => 0, g'⟩ (fun r => ∀ c : Dev Cert.GateRowsRefIdeal.nD,
          r.2.mem ((c.tc : Thread Cert.GateRowsRefIdeal.nD Cert.GateRowsRefIdeal.τ).loc Cert.GateRowsRefIdeal.main_v7) = v0 c
          ∧ r.2.mem ((c.tc : Thread Cert.GateRowsRefIdeal.nD Cert.GateRowsRefIdeal.τ).loc Cert.GateRowsRefIdeal.main_arg0) = m' ((c.tc : Thread Cert.GateRowsRefIdeal.nD Cert.GateRowsRefIdeal.τ).loc Cert.GateRowsRefIdeal.main_arg0)
          ∧ r.2.mem ((c.tc : Thread Cert.GateRowsRefIdeal.nD Cert.GateRowsRefIdeal.τ).loc Cert.GateRowsRefIdeal.main_arg1) = m' ((c.tc : Thread Cert.GateRowsRefIdeal.nD Cert.GateRowsRefIdeal.τ).loc Cert.GateRowsRefIdeal.main_arg1)
          ∧ r.2.mem ((c.tc : Thread Cert.GateRowsRefIdeal.nD Cert.GateRowsRefIdeal.τ).loc Cert.GateRowsRefIdeal.main_arg2) = m' ((c.tc : Thread Cert.GateRowsRefIdeal.nD Cert.GateRowsRefIdeal.τ).loc Cert.GateRowsRefIdeal.main_arg2))

def preserves_GateWeight_GateWeightIdeal : Prop :=
  True

def algebraic_GateWeightIdeal_GateWeightRefIdeal [hGateWeightIdeal : Cert.GateWeightIdeal.Facts] [hGateWeightRefIdeal : Cert.GateWeightRefIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg)
    (m' : (ℓ : Loc Cert.GateWeightRefIdeal.nD Cert.GateWeightRefIdeal.τ Cert.GateWeightRefIdeal.sig) → Buf (Elt Ideal) ℓ) (g' : Dev Cert.GateWeightRefIdeal.nD → PrngReg), Pre_GateWeightIdeal m →
    (∀ c : Dev Cert.GateWeightIdeal.nD,
      m' ((c.tc : Thread Cert.GateWeightRefIdeal.nD Cert.GateWeightRefIdeal.τ).loc Cert.GateWeightRefIdeal.main_arg0) = m ((c.tc : Thread Cert.GateWeightIdeal.nD Cert.GateWeightIdeal.τ).loc Cert.GateWeightIdeal.main_arg0)
      ∧ m' ((c.tc : Thread Cert.GateWeightRefIdeal.nD Cert.GateWeightRefIdeal.τ).loc Cert.GateWeightRefIdeal.main_arg1) = m ((c.tc : Thread Cert.GateWeightIdeal.nD Cert.GateWeightIdeal.τ).loc Cert.GateWeightIdeal.main_arg1)
      ∧ m' ((c.tc : Thread Cert.GateWeightRefIdeal.nD Cert.GateWeightRefIdeal.τ).loc Cert.GateWeightRefIdeal.main_arg2) = m ((c.tc : Thread Cert.GateWeightIdeal.nD Cert.GateWeightIdeal.τ).loc Cert.GateWeightIdeal.main_arg2)) →
    ∃ (v0 : (c : Dev Cert.GateWeightIdeal.nD) → Buf (Elt Ideal) ((c.tc : Thread Cert.GateWeightIdeal.nD Cert.GateWeightIdeal.τ).loc Cert.GateWeightIdeal.main_v1)),
      θ_run (Cert.GateWeightIdeal.defs (F := Ideal)) (onTc (τ := Cert.GateWeightIdeal.τ) (Cert.GateWeightIdeal.main (F := Ideal))) ⟨m, fun _ => 0, g⟩ (fun r => ∀ c : Dev Cert.GateWeightIdeal.nD,
          r.2.mem ((c.tc : Thread Cert.GateWeightIdeal.nD Cert.GateWeightIdeal.τ).loc Cert.GateWeightIdeal.main_v1) = v0 c
          ∧ r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
          ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1)
          ∧ r.2.mem ((c.tc : Thread Cert.GateWeightIdeal.nD Cert.GateWeightIdeal.τ).loc Cert.GateWeightIdeal.main_arg2) = m ((c.tc : Thread Cert.GateWeightIdeal.nD Cert.GateWeightIdeal.τ).loc Cert.GateWeightIdeal.main_arg2))
      ∧ θ_run (Cert.GateWeightRefIdeal.defs (F := Ideal)) (onTc (τ := Cert.GateWeightRefIdeal.τ) (Cert.GateWeightRefIdeal.main (F := Ideal))) ⟨m', fun _ => 0, g'⟩ (fun r => ∀ c : Dev Cert.GateWeightRefIdeal.nD,
          r.2.mem ((c.tc : Thread Cert.GateWeightRefIdeal.nD Cert.GateWeightRefIdeal.τ).loc Cert.GateWeightRefIdeal.main_v5) = v0 c
          ∧ r.2.mem ((c.tc : Thread Cert.GateWeightRefIdeal.nD Cert.GateWeightRefIdeal.τ).loc Cert.GateWeightRefIdeal.main_arg0) = m' ((c.tc : Thread Cert.GateWeightRefIdeal.nD Cert.GateWeightRefIdeal.τ).loc Cert.GateWeightRefIdeal.main_arg0)
          ∧ r.2.mem ((c.tc : Thread Cert.GateWeightRefIdeal.nD Cert.GateWeightRefIdeal.τ).loc Cert.GateWeightRefIdeal.main_arg1) = m' ((c.tc : Thread Cert.GateWeightRefIdeal.nD Cert.GateWeightRefIdeal.τ).loc Cert.GateWeightRefIdeal.main_arg1)
          ∧ r.2.mem ((c.tc : Thread Cert.GateWeightRefIdeal.nD Cert.GateWeightRefIdeal.τ).loc Cert.GateWeightRefIdeal.main_arg2) = m' ((c.tc : Thread Cert.GateWeightRefIdeal.nD Cert.GateWeightRefIdeal.τ).loc Cert.GateWeightRefIdeal.main_arg2))

def preserves_DownForward_DownForwardIdeal : Prop :=
  True

def algebraic_DownForwardIdeal_DownForwardRefIdeal [hDownForwardIdeal : Cert.DownForwardIdeal.Facts] [hDownForwardRefIdeal : Cert.DownForwardRefIdeal.Facts] : Prop :=
  ∀ (m : (ℓ : Loc Cert.DownForwardIdeal.nD Cert.DownForwardIdeal.τ Cert.DownForwardIdeal.sig) → Buf (Elt Ideal) ℓ) (g : Dev Cert.DownForwardIdeal.nD → PrngReg)
    (m' : (ℓ : Loc Cert.DownForwardRefIdeal.nD Cert.DownForwardRefIdeal.τ Cert.DownForwardRefIdeal.sig) → Buf (Elt Ideal) ℓ) (g' : Dev Cert.DownForwardRefIdeal.nD → PrngReg), Pre_DownForwardIdeal m →
    (∀ c : Dev Cert.DownForwardIdeal.nD,
      m' ((c.tc : Thread Cert.DownForwardRefIdeal.nD Cert.DownForwardRefIdeal.τ).loc Cert.DownForwardRefIdeal.main_arg0) = m ((c.tc : Thread Cert.DownForwardIdeal.nD Cert.DownForwardIdeal.τ).loc Cert.DownForwardIdeal.main_arg0)
      ∧ m' ((c.tc : Thread Cert.DownForwardRefIdeal.nD Cert.DownForwardRefIdeal.τ).loc Cert.DownForwardRefIdeal.main_arg1) = m ((c.tc : Thread Cert.DownForwardIdeal.nD Cert.DownForwardIdeal.τ).loc Cert.DownForwardIdeal.main_arg1)) →
    ∃ (v0 : (c : Dev Cert.DownForwardIdeal.nD) → Buf (Elt Ideal) ((c.tc : Thread Cert.DownForwardIdeal.nD Cert.DownForwardIdeal.τ).loc Cert.DownForwardIdeal.main_v0)),
      θ_run (Cert.DownForwardIdeal.defs (F := Ideal)) (onTc (τ := Cert.DownForwardIdeal.τ) (Cert.DownForwardIdeal.main (F := Ideal))) ⟨m, fun _ => 0, g⟩ (fun r => ∀ c : Dev Cert.DownForwardIdeal.nD,
          r.2.mem ((c.tc : Thread Cert.DownForwardIdeal.nD Cert.DownForwardIdeal.τ).loc Cert.DownForwardIdeal.main_v0) = v0 c
          ∧ r.2.mem ((c.tc : Thread Cert.DownForwardIdeal.nD Cert.DownForwardIdeal.τ).loc Cert.DownForwardIdeal.main_arg0) = m ((c.tc : Thread Cert.DownForwardIdeal.nD Cert.DownForwardIdeal.τ).loc Cert.DownForwardIdeal.main_arg0)
          ∧ r.2.mem ((c.tc : Thread Cert.DownForwardIdeal.nD Cert.DownForwardIdeal.τ).loc Cert.DownForwardIdeal.main_arg1) = m ((c.tc : Thread Cert.DownForwardIdeal.nD Cert.DownForwardIdeal.τ).loc Cert.DownForwardIdeal.main_arg1))
      ∧ θ_run (Cert.DownForwardRefIdeal.defs (F := Ideal)) (onTc (τ := Cert.DownForwardRefIdeal.τ) (Cert.DownForwardRefIdeal.main (F := Ideal))) ⟨m', fun _ => 0, g'⟩ (fun r => ∀ c : Dev Cert.DownForwardRefIdeal.nD,
          r.2.mem ((c.tc : Thread Cert.DownForwardRefIdeal.nD Cert.DownForwardRefIdeal.τ).loc Cert.DownForwardRefIdeal.main_v2) = v0 c
          ∧ r.2.mem ((c.tc : Thread Cert.DownForwardRefIdeal.nD Cert.DownForwardRefIdeal.τ).loc Cert.DownForwardRefIdeal.main_arg0) = m' ((c.tc : Thread Cert.DownForwardRefIdeal.nD Cert.DownForwardRefIdeal.τ).loc Cert.DownForwardRefIdeal.main_arg0)
          ∧ r.2.mem ((c.tc : Thread Cert.DownForwardRefIdeal.nD Cert.DownForwardRefIdeal.τ).loc Cert.DownForwardRefIdeal.main_arg1) = m' ((c.tc : Thread Cert.DownForwardRefIdeal.nD Cert.DownForwardRefIdeal.τ).loc Cert.DownForwardRefIdeal.main_arg1))

def preserves_DownRows_DownRowsIdeal : Prop :=
  True

def algebraic_DownRowsIdeal_DownRowsRefIdeal [hDownRowsIdeal : Cert.DownRowsIdeal.Facts] [hDownRowsRefIdeal : Cert.DownRowsRefIdeal.Facts] : Prop :=
  ∀ (m : (ℓ : Loc Cert.DownRowsIdeal.nD Cert.DownRowsIdeal.τ Cert.DownRowsIdeal.sig) → Buf (Elt Ideal) ℓ) (g : Dev Cert.DownRowsIdeal.nD → PrngReg)
    (m' : (ℓ : Loc Cert.DownRowsRefIdeal.nD Cert.DownRowsRefIdeal.τ Cert.DownRowsRefIdeal.sig) → Buf (Elt Ideal) ℓ) (g' : Dev Cert.DownRowsRefIdeal.nD → PrngReg), Pre_DownRowsIdeal m →
    (∀ c : Dev Cert.DownRowsIdeal.nD,
      m' ((c.tc : Thread Cert.DownRowsRefIdeal.nD Cert.DownRowsRefIdeal.τ).loc Cert.DownRowsRefIdeal.main_arg0) = m ((c.tc : Thread Cert.DownRowsIdeal.nD Cert.DownRowsIdeal.τ).loc Cert.DownRowsIdeal.main_arg0)
      ∧ m' ((c.tc : Thread Cert.DownRowsRefIdeal.nD Cert.DownRowsRefIdeal.τ).loc Cert.DownRowsRefIdeal.main_arg1) = m ((c.tc : Thread Cert.DownRowsIdeal.nD Cert.DownRowsIdeal.τ).loc Cert.DownRowsIdeal.main_arg1)
      ∧ m' ((c.tc : Thread Cert.DownRowsRefIdeal.nD Cert.DownRowsRefIdeal.τ).loc Cert.DownRowsRefIdeal.main_arg2) = m ((c.tc : Thread Cert.DownRowsIdeal.nD Cert.DownRowsIdeal.τ).loc Cert.DownRowsIdeal.main_arg2)) →
    ∃ (v0 : (c : Dev Cert.DownRowsIdeal.nD) → Buf (Elt Ideal) ((c.tc : Thread Cert.DownRowsIdeal.nD Cert.DownRowsIdeal.τ).loc Cert.DownRowsIdeal.main_v0)),
      θ_run (Cert.DownRowsIdeal.defs (F := Ideal)) (onTc (τ := Cert.DownRowsIdeal.τ) (Cert.DownRowsIdeal.main (F := Ideal))) ⟨m, fun _ => 0, g⟩ (fun r => ∀ c : Dev Cert.DownRowsIdeal.nD,
          r.2.mem ((c.tc : Thread Cert.DownRowsIdeal.nD Cert.DownRowsIdeal.τ).loc Cert.DownRowsIdeal.main_v0) = v0 c
          ∧ r.2.mem ((c.tc : Thread Cert.DownRowsIdeal.nD Cert.DownRowsIdeal.τ).loc Cert.DownRowsIdeal.main_arg0) = m ((c.tc : Thread Cert.DownRowsIdeal.nD Cert.DownRowsIdeal.τ).loc Cert.DownRowsIdeal.main_arg0)
          ∧ r.2.mem ((c.tc : Thread Cert.DownRowsIdeal.nD Cert.DownRowsIdeal.τ).loc Cert.DownRowsIdeal.main_arg1) = m ((c.tc : Thread Cert.DownRowsIdeal.nD Cert.DownRowsIdeal.τ).loc Cert.DownRowsIdeal.main_arg1)
          ∧ r.2.mem ((c.tc : Thread Cert.DownRowsIdeal.nD Cert.DownRowsIdeal.τ).loc Cert.DownRowsIdeal.main_arg2) = m ((c.tc : Thread Cert.DownRowsIdeal.nD Cert.DownRowsIdeal.τ).loc Cert.DownRowsIdeal.main_arg2))
      ∧ θ_run (Cert.DownRowsRefIdeal.defs (F := Ideal)) (onTc (τ := Cert.DownRowsRefIdeal.τ) (Cert.DownRowsRefIdeal.main (F := Ideal))) ⟨m', fun _ => 0, g'⟩ (fun r => ∀ c : Dev Cert.DownRowsRefIdeal.nD,
          r.2.mem ((c.tc : Thread Cert.DownRowsRefIdeal.nD Cert.DownRowsRefIdeal.τ).loc Cert.DownRowsRefIdeal.main_v9) = v0 c
          ∧ r.2.mem ((c.tc : Thread Cert.DownRowsRefIdeal.nD Cert.DownRowsRefIdeal.τ).loc Cert.DownRowsRefIdeal.main_arg0) = m' ((c.tc : Thread Cert.DownRowsRefIdeal.nD Cert.DownRowsRefIdeal.τ).loc Cert.DownRowsRefIdeal.main_arg0)
          ∧ r.2.mem ((c.tc : Thread Cert.DownRowsRefIdeal.nD Cert.DownRowsRefIdeal.τ).loc Cert.DownRowsRefIdeal.main_arg1) = m' ((c.tc : Thread Cert.DownRowsRefIdeal.nD Cert.DownRowsRefIdeal.τ).loc Cert.DownRowsRefIdeal.main_arg1)
          ∧ r.2.mem ((c.tc : Thread Cert.DownRowsRefIdeal.nD Cert.DownRowsRefIdeal.τ).loc Cert.DownRowsRefIdeal.main_arg2) = m' ((c.tc : Thread Cert.DownRowsRefIdeal.nD Cert.DownRowsRefIdeal.τ).loc Cert.DownRowsRefIdeal.main_arg2))

def preserves_DownWeight_DownWeightIdeal : Prop :=
  True

def algebraic_DownWeightIdeal_DownWeightRefIdeal [hDownWeightIdeal : Cert.DownWeightIdeal.Facts] [hDownWeightRefIdeal : Cert.DownWeightRefIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightRefIdeal.nD Cert.DownWeightRefIdeal.τ Cert.DownWeightRefIdeal.sig) → Buf (Elt Ideal) ℓ) (g' : Dev Cert.DownWeightRefIdeal.nD → PrngReg), Pre_DownWeightIdeal m →
    (∀ c : Dev Cert.DownWeightIdeal.nD,
      m' ((c.tc : Thread Cert.DownWeightRefIdeal.nD Cert.DownWeightRefIdeal.τ).loc Cert.DownWeightRefIdeal.main_arg0) = m ((c.tc : Thread Cert.DownWeightIdeal.nD Cert.DownWeightIdeal.τ).loc Cert.DownWeightIdeal.main_arg0)
      ∧ m' ((c.tc : Thread Cert.DownWeightRefIdeal.nD Cert.DownWeightRefIdeal.τ).loc Cert.DownWeightRefIdeal.main_arg1) = m ((c.tc : Thread Cert.DownWeightIdeal.nD Cert.DownWeightIdeal.τ).loc Cert.DownWeightIdeal.main_arg1)
      ∧ m' ((c.tc : Thread Cert.DownWeightRefIdeal.nD Cert.DownWeightRefIdeal.τ).loc Cert.DownWeightRefIdeal.main_arg2) = m ((c.tc : Thread Cert.DownWeightIdeal.nD Cert.DownWeightIdeal.τ).loc Cert.DownWeightIdeal.main_arg2)) →
    ∃ (v0 : (c : Dev Cert.DownWeightIdeal.nD) → Buf (Elt Ideal) ((c.tc : Thread Cert.DownWeightIdeal.nD Cert.DownWeightIdeal.τ).loc Cert.DownWeightIdeal.main_v0)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v0) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1)
          ∧ r.2.mem ((c.tc : Thread Cert.DownWeightIdeal.nD Cert.DownWeightIdeal.τ).loc Cert.DownWeightIdeal.main_arg2) = m ((c.tc : Thread Cert.DownWeightIdeal.nD Cert.DownWeightIdeal.τ).loc Cert.DownWeightIdeal.main_arg2))
      ∧ θ_run (Cert.DownWeightRefIdeal.defs (F := Ideal)) (onTc (τ := Cert.DownWeightRefIdeal.τ) (Cert.DownWeightRefIdeal.main (F := Ideal))) ⟨m', fun _ => 0, g'⟩ (fun r => ∀ c : Dev Cert.DownWeightRefIdeal.nD,
          r.2.mem ((c.tc : Thread Cert.DownWeightRefIdeal.nD Cert.DownWeightRefIdeal.τ).loc Cert.DownWeightRefIdeal.main_v7) = v0 c
          ∧ r.2.mem ((c.tc : Thread Cert.DownWeightRefIdeal.nD Cert.DownWeightRefIdeal.τ).loc Cert.DownWeightRefIdeal.main_arg0) = m' ((c.tc : Thread Cert.DownWeightRefIdeal.nD Cert.DownWeightRefIdeal.τ).loc Cert.DownWeightRefIdeal.main_arg0)
          ∧ r.2.mem ((c.tc : Thread Cert.DownWeightRefIdeal.nD Cert.DownWeightRefIdeal.τ).loc Cert.DownWeightRefIdeal.main_arg1) = m' ((c.tc : Thread Cert.DownWeightRefIdeal.nD Cert.DownWeightRefIdeal.τ).loc Cert.DownWeightRefIdeal.main_arg1)
          ∧ r.2.mem ((c.tc : Thread Cert.DownWeightRefIdeal.nD Cert.DownWeightRefIdeal.τ).loc Cert.DownWeightRefIdeal.main_arg2) = m' ((c.tc : Thread Cert.DownWeightRefIdeal.nD Cert.DownWeightRefIdeal.τ).loc Cert.DownWeightRefIdeal.main_arg2))

def preserves_OutForward_OutForwardIdeal : Prop :=
  True

def algebraic_OutForwardIdeal_OutForwardRefIdeal [hOutForwardIdeal : Cert.OutForwardIdeal.Facts] [hOutForwardRefIdeal : Cert.OutForwardRefIdeal.Facts] : Prop :=
  ∀ (m : (ℓ : Loc Cert.OutForwardIdeal.nD Cert.OutForwardIdeal.τ Cert.OutForwardIdeal.sig) → Buf (Elt Ideal) ℓ) (g : Dev Cert.OutForwardIdeal.nD → PrngReg)
    (m' : (ℓ : Loc Cert.OutForwardRefIdeal.nD Cert.OutForwardRefIdeal.τ Cert.OutForwardRefIdeal.sig) → Buf (Elt Ideal) ℓ) (g' : Dev Cert.OutForwardRefIdeal.nD → PrngReg), Pre_OutForwardIdeal m →
    (∀ c : Dev Cert.OutForwardIdeal.nD,
      m' ((c.tc : Thread Cert.OutForwardRefIdeal.nD Cert.OutForwardRefIdeal.τ).loc Cert.OutForwardRefIdeal.main_arg0) = m ((c.tc : Thread Cert.OutForwardIdeal.nD Cert.OutForwardIdeal.τ).loc Cert.OutForwardIdeal.main_arg0)
      ∧ m' ((c.tc : Thread Cert.OutForwardRefIdeal.nD Cert.OutForwardRefIdeal.τ).loc Cert.OutForwardRefIdeal.main_arg1) = m ((c.tc : Thread Cert.OutForwardIdeal.nD Cert.OutForwardIdeal.τ).loc Cert.OutForwardIdeal.main_arg1)) →
    ∃ (v0 : (c : Dev Cert.OutForwardIdeal.nD) → Buf (Elt Ideal) ((c.tc : Thread Cert.OutForwardIdeal.nD Cert.OutForwardIdeal.τ).loc Cert.OutForwardIdeal.main_v0)),
      θ_run (Cert.OutForwardIdeal.defs (F := Ideal)) (onTc (τ := Cert.OutForwardIdeal.τ) (Cert.OutForwardIdeal.main (F := Ideal))) ⟨m, fun _ => 0, g⟩ (fun r => ∀ c : Dev Cert.OutForwardIdeal.nD,
          r.2.mem ((c.tc : Thread Cert.OutForwardIdeal.nD Cert.OutForwardIdeal.τ).loc Cert.OutForwardIdeal.main_v0) = v0 c
          ∧ r.2.mem ((c.tc : Thread Cert.OutForwardIdeal.nD Cert.OutForwardIdeal.τ).loc Cert.OutForwardIdeal.main_arg0) = m ((c.tc : Thread Cert.OutForwardIdeal.nD Cert.OutForwardIdeal.τ).loc Cert.OutForwardIdeal.main_arg0)
          ∧ r.2.mem ((c.tc : Thread Cert.OutForwardIdeal.nD Cert.OutForwardIdeal.τ).loc Cert.OutForwardIdeal.main_arg1) = m ((c.tc : Thread Cert.OutForwardIdeal.nD Cert.OutForwardIdeal.τ).loc Cert.OutForwardIdeal.main_arg1))
      ∧ θ_run (Cert.OutForwardRefIdeal.defs (F := Ideal)) (onTc (τ := Cert.OutForwardRefIdeal.τ) (Cert.OutForwardRefIdeal.main (F := Ideal))) ⟨m', fun _ => 0, g'⟩ (fun r => ∀ c : Dev Cert.OutForwardRefIdeal.nD,
          r.2.mem ((c.tc : Thread Cert.OutForwardRefIdeal.nD Cert.OutForwardRefIdeal.τ).loc Cert.OutForwardRefIdeal.main_v2) = v0 c
          ∧ r.2.mem ((c.tc : Thread Cert.OutForwardRefIdeal.nD Cert.OutForwardRefIdeal.τ).loc Cert.OutForwardRefIdeal.main_arg0) = m' ((c.tc : Thread Cert.OutForwardRefIdeal.nD Cert.OutForwardRefIdeal.τ).loc Cert.OutForwardRefIdeal.main_arg0)
          ∧ r.2.mem ((c.tc : Thread Cert.OutForwardRefIdeal.nD Cert.OutForwardRefIdeal.τ).loc Cert.OutForwardRefIdeal.main_arg1) = m' ((c.tc : Thread Cert.OutForwardRefIdeal.nD Cert.OutForwardRefIdeal.τ).loc Cert.OutForwardRefIdeal.main_arg1))

def preserves_OutRows_OutRowsIdeal : Prop :=
  True

def algebraic_OutRowsIdeal_OutRowsRefIdeal [hOutRowsIdeal : Cert.OutRowsIdeal.Facts] [hOutRowsRefIdeal : Cert.OutRowsRefIdeal.Facts] : Prop :=
  ∀ (m : (ℓ : Loc Cert.OutRowsIdeal.nD Cert.OutRowsIdeal.τ Cert.OutRowsIdeal.sig) → Buf (Elt Ideal) ℓ) (g : Dev Cert.OutRowsIdeal.nD → PrngReg)
    (m' : (ℓ : Loc Cert.OutRowsRefIdeal.nD Cert.OutRowsRefIdeal.τ Cert.OutRowsRefIdeal.sig) → Buf (Elt Ideal) ℓ) (g' : Dev Cert.OutRowsRefIdeal.nD → PrngReg), Pre_OutRowsIdeal m →
    (∀ c : Dev Cert.OutRowsIdeal.nD,
      m' ((c.tc : Thread Cert.OutRowsRefIdeal.nD Cert.OutRowsRefIdeal.τ).loc Cert.OutRowsRefIdeal.main_arg0) = m ((c.tc : Thread Cert.OutRowsIdeal.nD Cert.OutRowsIdeal.τ).loc Cert.OutRowsIdeal.main_arg0)
      ∧ m' ((c.tc : Thread Cert.OutRowsRefIdeal.nD Cert.OutRowsRefIdeal.τ).loc Cert.OutRowsRefIdeal.main_arg1) = m ((c.tc : Thread Cert.OutRowsIdeal.nD Cert.OutRowsIdeal.τ).loc Cert.OutRowsIdeal.main_arg1)
      ∧ m' ((c.tc : Thread Cert.OutRowsRefIdeal.nD Cert.OutRowsRefIdeal.τ).loc Cert.OutRowsRefIdeal.main_arg2) = m ((c.tc : Thread Cert.OutRowsIdeal.nD Cert.OutRowsIdeal.τ).loc Cert.OutRowsIdeal.main_arg2)) →
    ∃ (v0 : (c : Dev Cert.OutRowsIdeal.nD) → Buf (Elt Ideal) ((c.tc : Thread Cert.OutRowsIdeal.nD Cert.OutRowsIdeal.τ).loc Cert.OutRowsIdeal.main_v0)),
      θ_run (Cert.OutRowsIdeal.defs (F := Ideal)) (onTc (τ := Cert.OutRowsIdeal.τ) (Cert.OutRowsIdeal.main (F := Ideal))) ⟨m, fun _ => 0, g⟩ (fun r => ∀ c : Dev Cert.OutRowsIdeal.nD,
          r.2.mem ((c.tc : Thread Cert.OutRowsIdeal.nD Cert.OutRowsIdeal.τ).loc Cert.OutRowsIdeal.main_v0) = v0 c
          ∧ r.2.mem ((c.tc : Thread Cert.OutRowsIdeal.nD Cert.OutRowsIdeal.τ).loc Cert.OutRowsIdeal.main_arg0) = m ((c.tc : Thread Cert.OutRowsIdeal.nD Cert.OutRowsIdeal.τ).loc Cert.OutRowsIdeal.main_arg0)
          ∧ r.2.mem ((c.tc : Thread Cert.OutRowsIdeal.nD Cert.OutRowsIdeal.τ).loc Cert.OutRowsIdeal.main_arg1) = m ((c.tc : Thread Cert.OutRowsIdeal.nD Cert.OutRowsIdeal.τ).loc Cert.OutRowsIdeal.main_arg1)
          ∧ r.2.mem ((c.tc : Thread Cert.OutRowsIdeal.nD Cert.OutRowsIdeal.τ).loc Cert.OutRowsIdeal.main_arg2) = m ((c.tc : Thread Cert.OutRowsIdeal.nD Cert.OutRowsIdeal.τ).loc Cert.OutRowsIdeal.main_arg2))
      ∧ θ_run (Cert.OutRowsRefIdeal.defs (F := Ideal)) (onTc (τ := Cert.OutRowsRefIdeal.τ) (Cert.OutRowsRefIdeal.main (F := Ideal))) ⟨m', fun _ => 0, g'⟩ (fun r => ∀ c : Dev Cert.OutRowsRefIdeal.nD,
          r.2.mem ((c.tc : Thread Cert.OutRowsRefIdeal.nD Cert.OutRowsRefIdeal.τ).loc Cert.OutRowsRefIdeal.main_v9) = v0 c
          ∧ r.2.mem ((c.tc : Thread Cert.OutRowsRefIdeal.nD Cert.OutRowsRefIdeal.τ).loc Cert.OutRowsRefIdeal.main_arg0) = m' ((c.tc : Thread Cert.OutRowsRefIdeal.nD Cert.OutRowsRefIdeal.τ).loc Cert.OutRowsRefIdeal.main_arg0)
          ∧ r.2.mem ((c.tc : Thread Cert.OutRowsRefIdeal.nD Cert.OutRowsRefIdeal.τ).loc Cert.OutRowsRefIdeal.main_arg1) = m' ((c.tc : Thread Cert.OutRowsRefIdeal.nD Cert.OutRowsRefIdeal.τ).loc Cert.OutRowsRefIdeal.main_arg1)
          ∧ r.2.mem ((c.tc : Thread Cert.OutRowsRefIdeal.nD Cert.OutRowsRefIdeal.τ).loc Cert.OutRowsRefIdeal.main_arg2) = m' ((c.tc : Thread Cert.OutRowsRefIdeal.nD Cert.OutRowsRefIdeal.τ).loc Cert.OutRowsRefIdeal.main_arg2))

def preserves_OutWeight_OutWeightIdeal : Prop :=
  True

def algebraic_OutWeightIdeal_OutWeightRefIdeal [hOutWeightIdeal : Cert.OutWeightIdeal.Facts] [hOutWeightRefIdeal : Cert.OutWeightRefIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightRefIdeal.nD Cert.OutWeightRefIdeal.τ Cert.OutWeightRefIdeal.sig) → Buf (Elt Ideal) ℓ) (g' : Dev Cert.OutWeightRefIdeal.nD → PrngReg), Pre_OutWeightIdeal m →
    (∀ c : Dev Cert.OutWeightIdeal.nD,
      m' ((c.tc : Thread Cert.OutWeightRefIdeal.nD Cert.OutWeightRefIdeal.τ).loc Cert.OutWeightRefIdeal.main_arg0) = m ((c.tc : Thread Cert.OutWeightIdeal.nD Cert.OutWeightIdeal.τ).loc Cert.OutWeightIdeal.main_arg0)
      ∧ m' ((c.tc : Thread Cert.OutWeightRefIdeal.nD Cert.OutWeightRefIdeal.τ).loc Cert.OutWeightRefIdeal.main_arg1) = m ((c.tc : Thread Cert.OutWeightIdeal.nD Cert.OutWeightIdeal.τ).loc Cert.OutWeightIdeal.main_arg1)
      ∧ m' ((c.tc : Thread Cert.OutWeightRefIdeal.nD Cert.OutWeightRefIdeal.τ).loc Cert.OutWeightRefIdeal.main_arg2) = m ((c.tc : Thread Cert.OutWeightIdeal.nD Cert.OutWeightIdeal.τ).loc Cert.OutWeightIdeal.main_arg2)) →
    ∃ (v0 : (c : Dev Cert.OutWeightIdeal.nD) → Buf (Elt Ideal) ((c.tc : Thread Cert.OutWeightIdeal.nD Cert.OutWeightIdeal.τ).loc Cert.OutWeightIdeal.main_v0)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v0) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1)
          ∧ r.2.mem ((c.tc : Thread Cert.OutWeightIdeal.nD Cert.OutWeightIdeal.τ).loc Cert.OutWeightIdeal.main_arg2) = m ((c.tc : Thread Cert.OutWeightIdeal.nD Cert.OutWeightIdeal.τ).loc Cert.OutWeightIdeal.main_arg2))
      ∧ θ_run (Cert.OutWeightRefIdeal.defs (F := Ideal)) (onTc (τ := Cert.OutWeightRefIdeal.τ) (Cert.OutWeightRefIdeal.main (F := Ideal))) ⟨m', fun _ => 0, g'⟩ (fun r => ∀ c : Dev Cert.OutWeightRefIdeal.nD,
          r.2.mem ((c.tc : Thread Cert.OutWeightRefIdeal.nD Cert.OutWeightRefIdeal.τ).loc Cert.OutWeightRefIdeal.main_v7) = v0 c
          ∧ r.2.mem ((c.tc : Thread Cert.OutWeightRefIdeal.nD Cert.OutWeightRefIdeal.τ).loc Cert.OutWeightRefIdeal.main_arg0) = m' ((c.tc : Thread Cert.OutWeightRefIdeal.nD Cert.OutWeightRefIdeal.τ).loc Cert.OutWeightRefIdeal.main_arg0)
          ∧ r.2.mem ((c.tc : Thread Cert.OutWeightRefIdeal.nD Cert.OutWeightRefIdeal.τ).loc Cert.OutWeightRefIdeal.main_arg1) = m' ((c.tc : Thread Cert.OutWeightRefIdeal.nD Cert.OutWeightRefIdeal.τ).loc Cert.OutWeightRefIdeal.main_arg1)
          ∧ r.2.mem ((c.tc : Thread Cert.OutWeightRefIdeal.nD Cert.OutWeightRefIdeal.τ).loc Cert.OutWeightRefIdeal.main_arg2) = m' ((c.tc : Thread Cert.OutWeightRefIdeal.nD Cert.OutWeightRefIdeal.τ).loc Cert.OutWeightRefIdeal.main_arg2))

def preserves_DInForward_DInForwardIdeal : Prop :=
  True

def algebraic_DInForwardIdeal_DInForwardRefIdeal [hDInForwardIdeal : Cert.DInForwardIdeal.Facts] [hDInForwardRefIdeal : Cert.DInForwardRefIdeal.Facts] : Prop :=
  ∀ (m : (ℓ : Loc Cert.DInForwardIdeal.nD Cert.DInForwardIdeal.τ Cert.DInForwardIdeal.sig) → Buf (Elt Ideal) ℓ) (g : Dev Cert.DInForwardIdeal.nD → PrngReg)
    (m' : (ℓ : Loc Cert.DInForwardRefIdeal.nD Cert.DInForwardRefIdeal.τ Cert.DInForwardRefIdeal.sig) → Buf (Elt Ideal) ℓ) (g' : Dev Cert.DInForwardRefIdeal.nD → PrngReg), Pre_DInForwardIdeal m →
    (∀ c : Dev Cert.DInForwardIdeal.nD,
      m' ((c.tc : Thread Cert.DInForwardRefIdeal.nD Cert.DInForwardRefIdeal.τ).loc Cert.DInForwardRefIdeal.main_arg0) = m ((c.tc : Thread Cert.DInForwardIdeal.nD Cert.DInForwardIdeal.τ).loc Cert.DInForwardIdeal.main_arg0)
      ∧ m' ((c.tc : Thread Cert.DInForwardRefIdeal.nD Cert.DInForwardRefIdeal.τ).loc Cert.DInForwardRefIdeal.main_arg1) = m ((c.tc : Thread Cert.DInForwardIdeal.nD Cert.DInForwardIdeal.τ).loc Cert.DInForwardIdeal.main_arg1)) →
    ∃ (v0 : (c : Dev Cert.DInForwardIdeal.nD) → Buf (Elt Ideal) ((c.tc : Thread Cert.DInForwardIdeal.nD Cert.DInForwardIdeal.τ).loc Cert.DInForwardIdeal.main_v1)),
      θ_run (Cert.DInForwardIdeal.defs (F := Ideal)) (onTc (τ := Cert.DInForwardIdeal.τ) (Cert.DInForwardIdeal.main (F := Ideal))) ⟨m, fun _ => 0, g⟩ (fun r => ∀ c : Dev Cert.DInForwardIdeal.nD,
          r.2.mem ((c.tc : Thread Cert.DInForwardIdeal.nD Cert.DInForwardIdeal.τ).loc Cert.DInForwardIdeal.main_v1) = v0 c
          ∧ r.2.mem ((c.tc : Thread Cert.DInForwardIdeal.nD Cert.DInForwardIdeal.τ).loc Cert.DInForwardIdeal.main_arg0) = m ((c.tc : Thread Cert.DInForwardIdeal.nD Cert.DInForwardIdeal.τ).loc Cert.DInForwardIdeal.main_arg0)
          ∧ r.2.mem ((c.tc : Thread Cert.DInForwardIdeal.nD Cert.DInForwardIdeal.τ).loc Cert.DInForwardIdeal.main_arg1) = m ((c.tc : Thread Cert.DInForwardIdeal.nD Cert.DInForwardIdeal.τ).loc Cert.DInForwardIdeal.main_arg1))
      ∧ θ_run (Cert.DInForwardRefIdeal.defs (F := Ideal)) (onTc (τ := Cert.DInForwardRefIdeal.τ) (Cert.DInForwardRefIdeal.main (F := Ideal))) ⟨m', fun _ => 0, g'⟩ (fun r => ∀ c : Dev Cert.DInForwardRefIdeal.nD,
          r.2.mem ((c.tc : Thread Cert.DInForwardRefIdeal.nD Cert.DInForwardRefIdeal.τ).loc Cert.DInForwardRefIdeal.main_v2) = v0 c
          ∧ r.2.mem ((c.tc : Thread Cert.DInForwardRefIdeal.nD Cert.DInForwardRefIdeal.τ).loc Cert.DInForwardRefIdeal.main_arg0) = m' ((c.tc : Thread Cert.DInForwardRefIdeal.nD Cert.DInForwardRefIdeal.τ).loc Cert.DInForwardRefIdeal.main_arg0)
          ∧ r.2.mem ((c.tc : Thread Cert.DInForwardRefIdeal.nD Cert.DInForwardRefIdeal.τ).loc Cert.DInForwardRefIdeal.main_arg1) = m' ((c.tc : Thread Cert.DInForwardRefIdeal.nD Cert.DInForwardRefIdeal.τ).loc Cert.DInForwardRefIdeal.main_arg1))

def preserves_DInRows_DInRowsIdeal : Prop :=
  True

def algebraic_DInRowsIdeal_DInRowsRefIdeal [hDInRowsIdeal : Cert.DInRowsIdeal.Facts] [hDInRowsRefIdeal : Cert.DInRowsRefIdeal.Facts] : Prop :=
  ∀ (m : (ℓ : Loc Cert.DInRowsIdeal.nD Cert.DInRowsIdeal.τ Cert.DInRowsIdeal.sig) → Buf (Elt Ideal) ℓ) (g : Dev Cert.DInRowsIdeal.nD → PrngReg)
    (m' : (ℓ : Loc Cert.DInRowsRefIdeal.nD Cert.DInRowsRefIdeal.τ Cert.DInRowsRefIdeal.sig) → Buf (Elt Ideal) ℓ) (g' : Dev Cert.DInRowsRefIdeal.nD → PrngReg), Pre_DInRowsIdeal m →
    (∀ c : Dev Cert.DInRowsIdeal.nD,
      m' ((c.tc : Thread Cert.DInRowsRefIdeal.nD Cert.DInRowsRefIdeal.τ).loc Cert.DInRowsRefIdeal.main_arg0) = m ((c.tc : Thread Cert.DInRowsIdeal.nD Cert.DInRowsIdeal.τ).loc Cert.DInRowsIdeal.main_arg0)
      ∧ m' ((c.tc : Thread Cert.DInRowsRefIdeal.nD Cert.DInRowsRefIdeal.τ).loc Cert.DInRowsRefIdeal.main_arg1) = m ((c.tc : Thread Cert.DInRowsIdeal.nD Cert.DInRowsIdeal.τ).loc Cert.DInRowsIdeal.main_arg1)
      ∧ m' ((c.tc : Thread Cert.DInRowsRefIdeal.nD Cert.DInRowsRefIdeal.τ).loc Cert.DInRowsRefIdeal.main_arg2) = m ((c.tc : Thread Cert.DInRowsIdeal.nD Cert.DInRowsIdeal.τ).loc Cert.DInRowsIdeal.main_arg2)) →
    ∃ (v0 : (c : Dev Cert.DInRowsIdeal.nD) → Buf (Elt Ideal) ((c.tc : Thread Cert.DInRowsIdeal.nD Cert.DInRowsIdeal.τ).loc Cert.DInRowsIdeal.main_v1)),
      θ_run (Cert.DInRowsIdeal.defs (F := Ideal)) (onTc (τ := Cert.DInRowsIdeal.τ) (Cert.DInRowsIdeal.main (F := Ideal))) ⟨m, fun _ => 0, g⟩ (fun r => ∀ c : Dev Cert.DInRowsIdeal.nD,
          r.2.mem ((c.tc : Thread Cert.DInRowsIdeal.nD Cert.DInRowsIdeal.τ).loc Cert.DInRowsIdeal.main_v1) = v0 c
          ∧ r.2.mem ((c.tc : Thread Cert.DInRowsIdeal.nD Cert.DInRowsIdeal.τ).loc Cert.DInRowsIdeal.main_arg0) = m ((c.tc : Thread Cert.DInRowsIdeal.nD Cert.DInRowsIdeal.τ).loc Cert.DInRowsIdeal.main_arg0)
          ∧ r.2.mem ((c.tc : Thread Cert.DInRowsIdeal.nD Cert.DInRowsIdeal.τ).loc Cert.DInRowsIdeal.main_arg1) = m ((c.tc : Thread Cert.DInRowsIdeal.nD Cert.DInRowsIdeal.τ).loc Cert.DInRowsIdeal.main_arg1)
          ∧ r.2.mem ((c.tc : Thread Cert.DInRowsIdeal.nD Cert.DInRowsIdeal.τ).loc Cert.DInRowsIdeal.main_arg2) = m ((c.tc : Thread Cert.DInRowsIdeal.nD Cert.DInRowsIdeal.τ).loc Cert.DInRowsIdeal.main_arg2))
      ∧ θ_run (Cert.DInRowsRefIdeal.defs (F := Ideal)) (onTc (τ := Cert.DInRowsRefIdeal.τ) (Cert.DInRowsRefIdeal.main (F := Ideal))) ⟨m', fun _ => 0, g'⟩ (fun r => ∀ c : Dev Cert.DInRowsRefIdeal.nD,
          r.2.mem ((c.tc : Thread Cert.DInRowsRefIdeal.nD Cert.DInRowsRefIdeal.τ).loc Cert.DInRowsRefIdeal.main_v9) = v0 c
          ∧ r.2.mem ((c.tc : Thread Cert.DInRowsRefIdeal.nD Cert.DInRowsRefIdeal.τ).loc Cert.DInRowsRefIdeal.main_arg0) = m' ((c.tc : Thread Cert.DInRowsRefIdeal.nD Cert.DInRowsRefIdeal.τ).loc Cert.DInRowsRefIdeal.main_arg0)
          ∧ r.2.mem ((c.tc : Thread Cert.DInRowsRefIdeal.nD Cert.DInRowsRefIdeal.τ).loc Cert.DInRowsRefIdeal.main_arg1) = m' ((c.tc : Thread Cert.DInRowsRefIdeal.nD Cert.DInRowsRefIdeal.τ).loc Cert.DInRowsRefIdeal.main_arg1)
          ∧ r.2.mem ((c.tc : Thread Cert.DInRowsRefIdeal.nD Cert.DInRowsRefIdeal.τ).loc Cert.DInRowsRefIdeal.main_arg2) = m' ((c.tc : Thread Cert.DInRowsRefIdeal.nD Cert.DInRowsRefIdeal.τ).loc Cert.DInRowsRefIdeal.main_arg2))

def preserves_DInWeight_DInWeightIdeal : Prop :=
  True

def algebraic_DInWeightIdeal_DInWeightRefIdeal [hDInWeightIdeal : Cert.DInWeightIdeal.Facts] [hDInWeightRefIdeal : Cert.DInWeightRefIdeal.Facts] : Prop :=
  ∀ (m : (ℓ : Loc Cert.DInWeightIdeal.nD Cert.DInWeightIdeal.τ Cert.DInWeightIdeal.sig) → Buf (Elt Ideal) ℓ) (g : Dev Cert.DInWeightIdeal.nD → PrngReg)
    (m' : (ℓ : Loc Cert.DInWeightRefIdeal.nD Cert.DInWeightRefIdeal.τ Cert.DInWeightRefIdeal.sig) → Buf (Elt Ideal) ℓ) (g' : Dev Cert.DInWeightRefIdeal.nD → PrngReg), Pre_DInWeightIdeal m →
    (∀ c : Dev Cert.DInWeightIdeal.nD,
      m' ((c.tc : Thread Cert.DInWeightRefIdeal.nD Cert.DInWeightRefIdeal.τ).loc Cert.DInWeightRefIdeal.main_arg0) = m ((c.tc : Thread Cert.DInWeightIdeal.nD Cert.DInWeightIdeal.τ).loc Cert.DInWeightIdeal.main_arg0)
      ∧ m' ((c.tc : Thread Cert.DInWeightRefIdeal.nD Cert.DInWeightRefIdeal.τ).loc Cert.DInWeightRefIdeal.main_arg1) = m ((c.tc : Thread Cert.DInWeightIdeal.nD Cert.DInWeightIdeal.τ).loc Cert.DInWeightIdeal.main_arg1)
      ∧ m' ((c.tc : Thread Cert.DInWeightRefIdeal.nD Cert.DInWeightRefIdeal.τ).loc Cert.DInWeightRefIdeal.main_arg2) = m ((c.tc : Thread Cert.DInWeightIdeal.nD Cert.DInWeightIdeal.τ).loc Cert.DInWeightIdeal.main_arg2)) →
    ∃ (v0 : (c : Dev Cert.DInWeightIdeal.nD) → Buf (Elt Ideal) ((c.tc : Thread Cert.DInWeightIdeal.nD Cert.DInWeightIdeal.τ).loc Cert.DInWeightIdeal.main_v1)),
      θ_run (Cert.DInWeightIdeal.defs (F := Ideal)) (onTc (τ := Cert.DInWeightIdeal.τ) (Cert.DInWeightIdeal.main (F := Ideal))) ⟨m, fun _ => 0, g⟩ (fun r => ∀ c : Dev Cert.DInWeightIdeal.nD,
          r.2.mem ((c.tc : Thread Cert.DInWeightIdeal.nD Cert.DInWeightIdeal.τ).loc Cert.DInWeightIdeal.main_v1) = v0 c
          ∧ r.2.mem ((c.tc : Thread Cert.DInWeightIdeal.nD Cert.DInWeightIdeal.τ).loc Cert.DInWeightIdeal.main_arg0) = m ((c.tc : Thread Cert.DInWeightIdeal.nD Cert.DInWeightIdeal.τ).loc Cert.DInWeightIdeal.main_arg0)
          ∧ r.2.mem ((c.tc : Thread Cert.DInWeightIdeal.nD Cert.DInWeightIdeal.τ).loc Cert.DInWeightIdeal.main_arg1) = m ((c.tc : Thread Cert.DInWeightIdeal.nD Cert.DInWeightIdeal.τ).loc Cert.DInWeightIdeal.main_arg1)
          ∧ r.2.mem ((c.tc : Thread Cert.DInWeightIdeal.nD Cert.DInWeightIdeal.τ).loc Cert.DInWeightIdeal.main_arg2) = m ((c.tc : Thread Cert.DInWeightIdeal.nD Cert.DInWeightIdeal.τ).loc Cert.DInWeightIdeal.main_arg2))
      ∧ θ_run (Cert.DInWeightRefIdeal.defs (F := Ideal)) (onTc (τ := Cert.DInWeightRefIdeal.τ) (Cert.DInWeightRefIdeal.main (F := Ideal))) ⟨m', fun _ => 0, g'⟩ (fun r => ∀ c : Dev Cert.DInWeightRefIdeal.nD,
          r.2.mem ((c.tc : Thread Cert.DInWeightRefIdeal.nD Cert.DInWeightRefIdeal.τ).loc Cert.DInWeightRefIdeal.main_v7) = v0 c
          ∧ r.2.mem ((c.tc : Thread Cert.DInWeightRefIdeal.nD Cert.DInWeightRefIdeal.τ).loc Cert.DInWeightRefIdeal.main_arg0) = m' ((c.tc : Thread Cert.DInWeightRefIdeal.nD Cert.DInWeightRefIdeal.τ).loc Cert.DInWeightRefIdeal.main_arg0)
          ∧ r.2.mem ((c.tc : Thread Cert.DInWeightRefIdeal.nD Cert.DInWeightRefIdeal.τ).loc Cert.DInWeightRefIdeal.main_arg1) = m' ((c.tc : Thread Cert.DInWeightRefIdeal.nD Cert.DInWeightRefIdeal.τ).loc Cert.DInWeightRefIdeal.main_arg1)
          ∧ r.2.mem ((c.tc : Thread Cert.DInWeightRefIdeal.nD Cert.DInWeightRefIdeal.τ).loc Cert.DInWeightRefIdeal.main_arg2) = m' ((c.tc : Thread Cert.DInWeightRefIdeal.nD Cert.DInWeightRefIdeal.τ).loc Cert.DInWeightRefIdeal.main_arg2))

def preserves_CInForward_CInForwardIdeal : Prop :=
  True

def algebraic_CInForwardIdeal_CInForwardRefIdeal [hCInForwardIdeal : Cert.CInForwardIdeal.Facts] [hCInForwardRefIdeal : Cert.CInForwardRefIdeal.Facts] : Prop :=
  ∀ (m : (ℓ : Loc Cert.CInForwardIdeal.nD Cert.CInForwardIdeal.τ Cert.CInForwardIdeal.sig) → Buf (Elt Ideal) ℓ) (g : Dev Cert.CInForwardIdeal.nD → PrngReg)
    (m' : (ℓ : Loc Cert.CInForwardRefIdeal.nD Cert.CInForwardRefIdeal.τ Cert.CInForwardRefIdeal.sig) → Buf (Elt Ideal) ℓ) (g' : Dev Cert.CInForwardRefIdeal.nD → PrngReg), Pre_CInForwardIdeal m →
    (∀ c : Dev Cert.CInForwardIdeal.nD,
      m' ((c.tc : Thread Cert.CInForwardRefIdeal.nD Cert.CInForwardRefIdeal.τ).loc Cert.CInForwardRefIdeal.main_arg0) = m ((c.tc : Thread Cert.CInForwardIdeal.nD Cert.CInForwardIdeal.τ).loc Cert.CInForwardIdeal.main_arg0)
      ∧ m' ((c.tc : Thread Cert.CInForwardRefIdeal.nD Cert.CInForwardRefIdeal.τ).loc Cert.CInForwardRefIdeal.main_arg1) = m ((c.tc : Thread Cert.CInForwardIdeal.nD Cert.CInForwardIdeal.τ).loc Cert.CInForwardIdeal.main_arg1)) →
    ∃ (v0 : (c : Dev Cert.CInForwardIdeal.nD) → Buf (Elt Ideal) ((c.tc : Thread Cert.CInForwardIdeal.nD Cert.CInForwardIdeal.τ).loc Cert.CInForwardIdeal.main_v1)),
      θ_run (Cert.CInForwardIdeal.defs (F := Ideal)) (onTc (τ := Cert.CInForwardIdeal.τ) (Cert.CInForwardIdeal.main (F := Ideal))) ⟨m, fun _ => 0, g⟩ (fun r => ∀ c : Dev Cert.CInForwardIdeal.nD,
          r.2.mem ((c.tc : Thread Cert.CInForwardIdeal.nD Cert.CInForwardIdeal.τ).loc Cert.CInForwardIdeal.main_v1) = v0 c
          ∧ r.2.mem ((c.tc : Thread Cert.CInForwardIdeal.nD Cert.CInForwardIdeal.τ).loc Cert.CInForwardIdeal.main_arg0) = m ((c.tc : Thread Cert.CInForwardIdeal.nD Cert.CInForwardIdeal.τ).loc Cert.CInForwardIdeal.main_arg0)
          ∧ r.2.mem ((c.tc : Thread Cert.CInForwardIdeal.nD Cert.CInForwardIdeal.τ).loc Cert.CInForwardIdeal.main_arg1) = m ((c.tc : Thread Cert.CInForwardIdeal.nD Cert.CInForwardIdeal.τ).loc Cert.CInForwardIdeal.main_arg1))
      ∧ θ_run (Cert.CInForwardRefIdeal.defs (F := Ideal)) (onTc (τ := Cert.CInForwardRefIdeal.τ) (Cert.CInForwardRefIdeal.main (F := Ideal))) ⟨m', fun _ => 0, g'⟩ (fun r => ∀ c : Dev Cert.CInForwardRefIdeal.nD,
          r.2.mem ((c.tc : Thread Cert.CInForwardRefIdeal.nD Cert.CInForwardRefIdeal.τ).loc Cert.CInForwardRefIdeal.main_v2) = v0 c
          ∧ r.2.mem ((c.tc : Thread Cert.CInForwardRefIdeal.nD Cert.CInForwardRefIdeal.τ).loc Cert.CInForwardRefIdeal.main_arg0) = m' ((c.tc : Thread Cert.CInForwardRefIdeal.nD Cert.CInForwardRefIdeal.τ).loc Cert.CInForwardRefIdeal.main_arg0)
          ∧ r.2.mem ((c.tc : Thread Cert.CInForwardRefIdeal.nD Cert.CInForwardRefIdeal.τ).loc Cert.CInForwardRefIdeal.main_arg1) = m' ((c.tc : Thread Cert.CInForwardRefIdeal.nD Cert.CInForwardRefIdeal.τ).loc Cert.CInForwardRefIdeal.main_arg1))

def preserves_CInRows_CInRowsIdeal : Prop :=
  True

def algebraic_CInRowsIdeal_CInRowsRefIdeal [hCInRowsIdeal : Cert.CInRowsIdeal.Facts] [hCInRowsRefIdeal : Cert.CInRowsRefIdeal.Facts] : Prop :=
  ∀ (m : (ℓ : Loc Cert.CInRowsIdeal.nD Cert.CInRowsIdeal.τ Cert.CInRowsIdeal.sig) → Buf (Elt Ideal) ℓ) (g : Dev Cert.CInRowsIdeal.nD → PrngReg)
    (m' : (ℓ : Loc Cert.CInRowsRefIdeal.nD Cert.CInRowsRefIdeal.τ Cert.CInRowsRefIdeal.sig) → Buf (Elt Ideal) ℓ) (g' : Dev Cert.CInRowsRefIdeal.nD → PrngReg), Pre_CInRowsIdeal m →
    (∀ c : Dev Cert.CInRowsIdeal.nD,
      m' ((c.tc : Thread Cert.CInRowsRefIdeal.nD Cert.CInRowsRefIdeal.τ).loc Cert.CInRowsRefIdeal.main_arg0) = m ((c.tc : Thread Cert.CInRowsIdeal.nD Cert.CInRowsIdeal.τ).loc Cert.CInRowsIdeal.main_arg0)
      ∧ m' ((c.tc : Thread Cert.CInRowsRefIdeal.nD Cert.CInRowsRefIdeal.τ).loc Cert.CInRowsRefIdeal.main_arg1) = m ((c.tc : Thread Cert.CInRowsIdeal.nD Cert.CInRowsIdeal.τ).loc Cert.CInRowsIdeal.main_arg1)
      ∧ m' ((c.tc : Thread Cert.CInRowsRefIdeal.nD Cert.CInRowsRefIdeal.τ).loc Cert.CInRowsRefIdeal.main_arg2) = m ((c.tc : Thread Cert.CInRowsIdeal.nD Cert.CInRowsIdeal.τ).loc Cert.CInRowsIdeal.main_arg2)) →
    ∃ (v0 : (c : Dev Cert.CInRowsIdeal.nD) → Buf (Elt Ideal) ((c.tc : Thread Cert.CInRowsIdeal.nD Cert.CInRowsIdeal.τ).loc Cert.CInRowsIdeal.main_v1)),
      θ_run (Cert.CInRowsIdeal.defs (F := Ideal)) (onTc (τ := Cert.CInRowsIdeal.τ) (Cert.CInRowsIdeal.main (F := Ideal))) ⟨m, fun _ => 0, g⟩ (fun r => ∀ c : Dev Cert.CInRowsIdeal.nD,
          r.2.mem ((c.tc : Thread Cert.CInRowsIdeal.nD Cert.CInRowsIdeal.τ).loc Cert.CInRowsIdeal.main_v1) = v0 c
          ∧ r.2.mem ((c.tc : Thread Cert.CInRowsIdeal.nD Cert.CInRowsIdeal.τ).loc Cert.CInRowsIdeal.main_arg0) = m ((c.tc : Thread Cert.CInRowsIdeal.nD Cert.CInRowsIdeal.τ).loc Cert.CInRowsIdeal.main_arg0)
          ∧ r.2.mem ((c.tc : Thread Cert.CInRowsIdeal.nD Cert.CInRowsIdeal.τ).loc Cert.CInRowsIdeal.main_arg1) = m ((c.tc : Thread Cert.CInRowsIdeal.nD Cert.CInRowsIdeal.τ).loc Cert.CInRowsIdeal.main_arg1)
          ∧ r.2.mem ((c.tc : Thread Cert.CInRowsIdeal.nD Cert.CInRowsIdeal.τ).loc Cert.CInRowsIdeal.main_arg2) = m ((c.tc : Thread Cert.CInRowsIdeal.nD Cert.CInRowsIdeal.τ).loc Cert.CInRowsIdeal.main_arg2))
      ∧ θ_run (Cert.CInRowsRefIdeal.defs (F := Ideal)) (onTc (τ := Cert.CInRowsRefIdeal.τ) (Cert.CInRowsRefIdeal.main (F := Ideal))) ⟨m', fun _ => 0, g'⟩ (fun r => ∀ c : Dev Cert.CInRowsRefIdeal.nD,
          r.2.mem ((c.tc : Thread Cert.CInRowsRefIdeal.nD Cert.CInRowsRefIdeal.τ).loc Cert.CInRowsRefIdeal.main_v9) = v0 c
          ∧ r.2.mem ((c.tc : Thread Cert.CInRowsRefIdeal.nD Cert.CInRowsRefIdeal.τ).loc Cert.CInRowsRefIdeal.main_arg0) = m' ((c.tc : Thread Cert.CInRowsRefIdeal.nD Cert.CInRowsRefIdeal.τ).loc Cert.CInRowsRefIdeal.main_arg0)
          ∧ r.2.mem ((c.tc : Thread Cert.CInRowsRefIdeal.nD Cert.CInRowsRefIdeal.τ).loc Cert.CInRowsRefIdeal.main_arg1) = m' ((c.tc : Thread Cert.CInRowsRefIdeal.nD Cert.CInRowsRefIdeal.τ).loc Cert.CInRowsRefIdeal.main_arg1)
          ∧ r.2.mem ((c.tc : Thread Cert.CInRowsRefIdeal.nD Cert.CInRowsRefIdeal.τ).loc Cert.CInRowsRefIdeal.main_arg2) = m' ((c.tc : Thread Cert.CInRowsRefIdeal.nD Cert.CInRowsRefIdeal.τ).loc Cert.CInRowsRefIdeal.main_arg2))

def preserves_CInWeight_CInWeightIdeal : Prop :=
  True

def algebraic_CInWeightIdeal_CInWeightRefIdeal [hCInWeightIdeal : Cert.CInWeightIdeal.Facts] [hCInWeightRefIdeal : Cert.CInWeightRefIdeal.Facts] : Prop :=
  ∀ (m : (ℓ : Loc Cert.CInWeightIdeal.nD Cert.CInWeightIdeal.τ Cert.CInWeightIdeal.sig) → Buf (Elt Ideal) ℓ) (g : Dev Cert.CInWeightIdeal.nD → PrngReg)
    (m' : (ℓ : Loc Cert.CInWeightRefIdeal.nD Cert.CInWeightRefIdeal.τ Cert.CInWeightRefIdeal.sig) → Buf (Elt Ideal) ℓ) (g' : Dev Cert.CInWeightRefIdeal.nD → PrngReg), Pre_CInWeightIdeal m →
    (∀ c : Dev Cert.CInWeightIdeal.nD,
      m' ((c.tc : Thread Cert.CInWeightRefIdeal.nD Cert.CInWeightRefIdeal.τ).loc Cert.CInWeightRefIdeal.main_arg0) = m ((c.tc : Thread Cert.CInWeightIdeal.nD Cert.CInWeightIdeal.τ).loc Cert.CInWeightIdeal.main_arg0)
      ∧ m' ((c.tc : Thread Cert.CInWeightRefIdeal.nD Cert.CInWeightRefIdeal.τ).loc Cert.CInWeightRefIdeal.main_arg1) = m ((c.tc : Thread Cert.CInWeightIdeal.nD Cert.CInWeightIdeal.τ).loc Cert.CInWeightIdeal.main_arg1)
      ∧ m' ((c.tc : Thread Cert.CInWeightRefIdeal.nD Cert.CInWeightRefIdeal.τ).loc Cert.CInWeightRefIdeal.main_arg2) = m ((c.tc : Thread Cert.CInWeightIdeal.nD Cert.CInWeightIdeal.τ).loc Cert.CInWeightIdeal.main_arg2)) →
    ∃ (v0 : (c : Dev Cert.CInWeightIdeal.nD) → Buf (Elt Ideal) ((c.tc : Thread Cert.CInWeightIdeal.nD Cert.CInWeightIdeal.τ).loc Cert.CInWeightIdeal.main_v1)),
      θ_run (Cert.CInWeightIdeal.defs (F := Ideal)) (onTc (τ := Cert.CInWeightIdeal.τ) (Cert.CInWeightIdeal.main (F := Ideal))) ⟨m, fun _ => 0, g⟩ (fun r => ∀ c : Dev Cert.CInWeightIdeal.nD,
          r.2.mem ((c.tc : Thread Cert.CInWeightIdeal.nD Cert.CInWeightIdeal.τ).loc Cert.CInWeightIdeal.main_v1) = v0 c
          ∧ r.2.mem ((c.tc : Thread Cert.CInWeightIdeal.nD Cert.CInWeightIdeal.τ).loc Cert.CInWeightIdeal.main_arg0) = m ((c.tc : Thread Cert.CInWeightIdeal.nD Cert.CInWeightIdeal.τ).loc Cert.CInWeightIdeal.main_arg0)
          ∧ r.2.mem ((c.tc : Thread Cert.CInWeightIdeal.nD Cert.CInWeightIdeal.τ).loc Cert.CInWeightIdeal.main_arg1) = m ((c.tc : Thread Cert.CInWeightIdeal.nD Cert.CInWeightIdeal.τ).loc Cert.CInWeightIdeal.main_arg1)
          ∧ r.2.mem ((c.tc : Thread Cert.CInWeightIdeal.nD Cert.CInWeightIdeal.τ).loc Cert.CInWeightIdeal.main_arg2) = m ((c.tc : Thread Cert.CInWeightIdeal.nD Cert.CInWeightIdeal.τ).loc Cert.CInWeightIdeal.main_arg2))
      ∧ θ_run (Cert.CInWeightRefIdeal.defs (F := Ideal)) (onTc (τ := Cert.CInWeightRefIdeal.τ) (Cert.CInWeightRefIdeal.main (F := Ideal))) ⟨m', fun _ => 0, g'⟩ (fun r => ∀ c : Dev Cert.CInWeightRefIdeal.nD,
          r.2.mem ((c.tc : Thread Cert.CInWeightRefIdeal.nD Cert.CInWeightRefIdeal.τ).loc Cert.CInWeightRefIdeal.main_v7) = v0 c
          ∧ r.2.mem ((c.tc : Thread Cert.CInWeightRefIdeal.nD Cert.CInWeightRefIdeal.τ).loc Cert.CInWeightRefIdeal.main_arg0) = m' ((c.tc : Thread Cert.CInWeightRefIdeal.nD Cert.CInWeightRefIdeal.τ).loc Cert.CInWeightRefIdeal.main_arg0)
          ∧ r.2.mem ((c.tc : Thread Cert.CInWeightRefIdeal.nD Cert.CInWeightRefIdeal.τ).loc Cert.CInWeightRefIdeal.main_arg1) = m' ((c.tc : Thread Cert.CInWeightRefIdeal.nD Cert.CInWeightRefIdeal.τ).loc Cert.CInWeightRefIdeal.main_arg1)
          ∧ r.2.mem ((c.tc : Thread Cert.CInWeightRefIdeal.nD Cert.CInWeightRefIdeal.τ).loc Cert.CInWeightRefIdeal.main_arg2) = m' ((c.tc : Thread Cert.CInWeightRefIdeal.nD Cert.CInWeightRefIdeal.τ).loc Cert.CInWeightRefIdeal.main_arg2))

def preserves_BInForward_BInForwardIdeal : Prop :=
  True

def algebraic_BInForwardIdeal_BInForwardRefIdeal [hBInForwardIdeal : Cert.BInForwardIdeal.Facts] [hBInForwardRefIdeal : Cert.BInForwardRefIdeal.Facts] : Prop :=
  ∀ (m : (ℓ : Loc Cert.BInForwardIdeal.nD Cert.BInForwardIdeal.τ Cert.BInForwardIdeal.sig) → Buf (Elt Ideal) ℓ) (g : Dev Cert.BInForwardIdeal.nD → PrngReg)
    (m' : (ℓ : Loc Cert.BInForwardRefIdeal.nD Cert.BInForwardRefIdeal.τ Cert.BInForwardRefIdeal.sig) → Buf (Elt Ideal) ℓ) (g' : Dev Cert.BInForwardRefIdeal.nD → PrngReg), Pre_BInForwardIdeal m →
    (∀ c : Dev Cert.BInForwardIdeal.nD,
      m' ((c.tc : Thread Cert.BInForwardRefIdeal.nD Cert.BInForwardRefIdeal.τ).loc Cert.BInForwardRefIdeal.main_arg0) = m ((c.tc : Thread Cert.BInForwardIdeal.nD Cert.BInForwardIdeal.τ).loc Cert.BInForwardIdeal.main_arg0)
      ∧ m' ((c.tc : Thread Cert.BInForwardRefIdeal.nD Cert.BInForwardRefIdeal.τ).loc Cert.BInForwardRefIdeal.main_arg1) = m ((c.tc : Thread Cert.BInForwardIdeal.nD Cert.BInForwardIdeal.τ).loc Cert.BInForwardIdeal.main_arg1)) →
    ∃ (v0 : (c : Dev Cert.BInForwardIdeal.nD) → Buf (Elt Ideal) ((c.tc : Thread Cert.BInForwardIdeal.nD Cert.BInForwardIdeal.τ).loc Cert.BInForwardIdeal.main_v1)),
      θ_run (Cert.BInForwardIdeal.defs (F := Ideal)) (onTc (τ := Cert.BInForwardIdeal.τ) (Cert.BInForwardIdeal.main (F := Ideal))) ⟨m, fun _ => 0, g⟩ (fun r => ∀ c : Dev Cert.BInForwardIdeal.nD,
          r.2.mem ((c.tc : Thread Cert.BInForwardIdeal.nD Cert.BInForwardIdeal.τ).loc Cert.BInForwardIdeal.main_v1) = v0 c
          ∧ r.2.mem ((c.tc : Thread Cert.BInForwardIdeal.nD Cert.BInForwardIdeal.τ).loc Cert.BInForwardIdeal.main_arg0) = m ((c.tc : Thread Cert.BInForwardIdeal.nD Cert.BInForwardIdeal.τ).loc Cert.BInForwardIdeal.main_arg0)
          ∧ r.2.mem ((c.tc : Thread Cert.BInForwardIdeal.nD Cert.BInForwardIdeal.τ).loc Cert.BInForwardIdeal.main_arg1) = m ((c.tc : Thread Cert.BInForwardIdeal.nD Cert.BInForwardIdeal.τ).loc Cert.BInForwardIdeal.main_arg1))
      ∧ θ_run (Cert.BInForwardRefIdeal.defs (F := Ideal)) (onTc (τ := Cert.BInForwardRefIdeal.τ) (Cert.BInForwardRefIdeal.main (F := Ideal))) ⟨m', fun _ => 0, g'⟩ (fun r => ∀ c : Dev Cert.BInForwardRefIdeal.nD,
          r.2.mem ((c.tc : Thread Cert.BInForwardRefIdeal.nD Cert.BInForwardRefIdeal.τ).loc Cert.BInForwardRefIdeal.main_v1) = v0 c
          ∧ r.2.mem ((c.tc : Thread Cert.BInForwardRefIdeal.nD Cert.BInForwardRefIdeal.τ).loc Cert.BInForwardRefIdeal.main_arg0) = m' ((c.tc : Thread Cert.BInForwardRefIdeal.nD Cert.BInForwardRefIdeal.τ).loc Cert.BInForwardRefIdeal.main_arg0)
          ∧ r.2.mem ((c.tc : Thread Cert.BInForwardRefIdeal.nD Cert.BInForwardRefIdeal.τ).loc Cert.BInForwardRefIdeal.main_arg1) = m' ((c.tc : Thread Cert.BInForwardRefIdeal.nD Cert.BInForwardRefIdeal.τ).loc Cert.BInForwardRefIdeal.main_arg1))

def preserves_BInRows_BInRowsIdeal : Prop :=
  True

def algebraic_BInRowsIdeal_BInRowsRefIdeal [hBInRowsIdeal : Cert.BInRowsIdeal.Facts] [hBInRowsRefIdeal : Cert.BInRowsRefIdeal.Facts] : Prop :=
  ∀ (m : (ℓ : Loc Cert.BInRowsIdeal.nD Cert.BInRowsIdeal.τ Cert.BInRowsIdeal.sig) → Buf (Elt Ideal) ℓ) (g : Dev Cert.BInRowsIdeal.nD → PrngReg)
    (m' : (ℓ : Loc Cert.BInRowsRefIdeal.nD Cert.BInRowsRefIdeal.τ Cert.BInRowsRefIdeal.sig) → Buf (Elt Ideal) ℓ) (g' : Dev Cert.BInRowsRefIdeal.nD → PrngReg), Pre_BInRowsIdeal m →
    (∀ c : Dev Cert.BInRowsIdeal.nD,
      m' ((c.tc : Thread Cert.BInRowsRefIdeal.nD Cert.BInRowsRefIdeal.τ).loc Cert.BInRowsRefIdeal.main_arg0) = m ((c.tc : Thread Cert.BInRowsIdeal.nD Cert.BInRowsIdeal.τ).loc Cert.BInRowsIdeal.main_arg0)
      ∧ m' ((c.tc : Thread Cert.BInRowsRefIdeal.nD Cert.BInRowsRefIdeal.τ).loc Cert.BInRowsRefIdeal.main_arg1) = m ((c.tc : Thread Cert.BInRowsIdeal.nD Cert.BInRowsIdeal.τ).loc Cert.BInRowsIdeal.main_arg1)
      ∧ m' ((c.tc : Thread Cert.BInRowsRefIdeal.nD Cert.BInRowsRefIdeal.τ).loc Cert.BInRowsRefIdeal.main_arg2) = m ((c.tc : Thread Cert.BInRowsIdeal.nD Cert.BInRowsIdeal.τ).loc Cert.BInRowsIdeal.main_arg2)) →
    ∃ (v0 : (c : Dev Cert.BInRowsIdeal.nD) → Buf (Elt Ideal) ((c.tc : Thread Cert.BInRowsIdeal.nD Cert.BInRowsIdeal.τ).loc Cert.BInRowsIdeal.main_v1)),
      θ_run (Cert.BInRowsIdeal.defs (F := Ideal)) (onTc (τ := Cert.BInRowsIdeal.τ) (Cert.BInRowsIdeal.main (F := Ideal))) ⟨m, fun _ => 0, g⟩ (fun r => ∀ c : Dev Cert.BInRowsIdeal.nD,
          r.2.mem ((c.tc : Thread Cert.BInRowsIdeal.nD Cert.BInRowsIdeal.τ).loc Cert.BInRowsIdeal.main_v1) = v0 c
          ∧ r.2.mem ((c.tc : Thread Cert.BInRowsIdeal.nD Cert.BInRowsIdeal.τ).loc Cert.BInRowsIdeal.main_arg0) = m ((c.tc : Thread Cert.BInRowsIdeal.nD Cert.BInRowsIdeal.τ).loc Cert.BInRowsIdeal.main_arg0)
          ∧ r.2.mem ((c.tc : Thread Cert.BInRowsIdeal.nD Cert.BInRowsIdeal.τ).loc Cert.BInRowsIdeal.main_arg1) = m ((c.tc : Thread Cert.BInRowsIdeal.nD Cert.BInRowsIdeal.τ).loc Cert.BInRowsIdeal.main_arg1)
          ∧ r.2.mem ((c.tc : Thread Cert.BInRowsIdeal.nD Cert.BInRowsIdeal.τ).loc Cert.BInRowsIdeal.main_arg2) = m ((c.tc : Thread Cert.BInRowsIdeal.nD Cert.BInRowsIdeal.τ).loc Cert.BInRowsIdeal.main_arg2))
      ∧ θ_run (Cert.BInRowsRefIdeal.defs (F := Ideal)) (onTc (τ := Cert.BInRowsRefIdeal.τ) (Cert.BInRowsRefIdeal.main (F := Ideal))) ⟨m', fun _ => 0, g'⟩ (fun r => ∀ c : Dev Cert.BInRowsRefIdeal.nD,
          r.2.mem ((c.tc : Thread Cert.BInRowsRefIdeal.nD Cert.BInRowsRefIdeal.τ).loc Cert.BInRowsRefIdeal.main_v7) = v0 c
          ∧ r.2.mem ((c.tc : Thread Cert.BInRowsRefIdeal.nD Cert.BInRowsRefIdeal.τ).loc Cert.BInRowsRefIdeal.main_arg0) = m' ((c.tc : Thread Cert.BInRowsRefIdeal.nD Cert.BInRowsRefIdeal.τ).loc Cert.BInRowsRefIdeal.main_arg0)
          ∧ r.2.mem ((c.tc : Thread Cert.BInRowsRefIdeal.nD Cert.BInRowsRefIdeal.τ).loc Cert.BInRowsRefIdeal.main_arg1) = m' ((c.tc : Thread Cert.BInRowsRefIdeal.nD Cert.BInRowsRefIdeal.τ).loc Cert.BInRowsRefIdeal.main_arg1)
          ∧ r.2.mem ((c.tc : Thread Cert.BInRowsRefIdeal.nD Cert.BInRowsRefIdeal.τ).loc Cert.BInRowsRefIdeal.main_arg2) = m' ((c.tc : Thread Cert.BInRowsRefIdeal.nD Cert.BInRowsRefIdeal.τ).loc Cert.BInRowsRefIdeal.main_arg2))

def preserves_BInWeight_BInWeightIdeal : Prop :=
  True

def algebraic_BInWeightIdeal_BInWeightRefIdeal [hBInWeightIdeal : Cert.BInWeightIdeal.Facts] [hBInWeightRefIdeal : Cert.BInWeightRefIdeal.Facts] : Prop :=
  ∀ (m : (ℓ : Loc Cert.BInWeightIdeal.nD Cert.BInWeightIdeal.τ Cert.BInWeightIdeal.sig) → Buf (Elt Ideal) ℓ) (g : Dev Cert.BInWeightIdeal.nD → PrngReg)
    (m' : (ℓ : Loc Cert.BInWeightRefIdeal.nD Cert.BInWeightRefIdeal.τ Cert.BInWeightRefIdeal.sig) → Buf (Elt Ideal) ℓ) (g' : Dev Cert.BInWeightRefIdeal.nD → PrngReg), Pre_BInWeightIdeal m →
    (∀ c : Dev Cert.BInWeightIdeal.nD,
      m' ((c.tc : Thread Cert.BInWeightRefIdeal.nD Cert.BInWeightRefIdeal.τ).loc Cert.BInWeightRefIdeal.main_arg0) = m ((c.tc : Thread Cert.BInWeightIdeal.nD Cert.BInWeightIdeal.τ).loc Cert.BInWeightIdeal.main_arg0)
      ∧ m' ((c.tc : Thread Cert.BInWeightRefIdeal.nD Cert.BInWeightRefIdeal.τ).loc Cert.BInWeightRefIdeal.main_arg1) = m ((c.tc : Thread Cert.BInWeightIdeal.nD Cert.BInWeightIdeal.τ).loc Cert.BInWeightIdeal.main_arg1)
      ∧ m' ((c.tc : Thread Cert.BInWeightRefIdeal.nD Cert.BInWeightRefIdeal.τ).loc Cert.BInWeightRefIdeal.main_arg2) = m ((c.tc : Thread Cert.BInWeightIdeal.nD Cert.BInWeightIdeal.τ).loc Cert.BInWeightIdeal.main_arg2)) →
    ∃ (v0 : (c : Dev Cert.BInWeightIdeal.nD) → Buf (Elt Ideal) ((c.tc : Thread Cert.BInWeightIdeal.nD Cert.BInWeightIdeal.τ).loc Cert.BInWeightIdeal.main_v1)),
      θ_run (Cert.BInWeightIdeal.defs (F := Ideal)) (onTc (τ := Cert.BInWeightIdeal.τ) (Cert.BInWeightIdeal.main (F := Ideal))) ⟨m, fun _ => 0, g⟩ (fun r => ∀ c : Dev Cert.BInWeightIdeal.nD,
          r.2.mem ((c.tc : Thread Cert.BInWeightIdeal.nD Cert.BInWeightIdeal.τ).loc Cert.BInWeightIdeal.main_v1) = v0 c
          ∧ r.2.mem ((c.tc : Thread Cert.BInWeightIdeal.nD Cert.BInWeightIdeal.τ).loc Cert.BInWeightIdeal.main_arg0) = m ((c.tc : Thread Cert.BInWeightIdeal.nD Cert.BInWeightIdeal.τ).loc Cert.BInWeightIdeal.main_arg0)
          ∧ r.2.mem ((c.tc : Thread Cert.BInWeightIdeal.nD Cert.BInWeightIdeal.τ).loc Cert.BInWeightIdeal.main_arg1) = m ((c.tc : Thread Cert.BInWeightIdeal.nD Cert.BInWeightIdeal.τ).loc Cert.BInWeightIdeal.main_arg1)
          ∧ r.2.mem ((c.tc : Thread Cert.BInWeightIdeal.nD Cert.BInWeightIdeal.τ).loc Cert.BInWeightIdeal.main_arg2) = m ((c.tc : Thread Cert.BInWeightIdeal.nD Cert.BInWeightIdeal.τ).loc Cert.BInWeightIdeal.main_arg2))
      ∧ θ_run (Cert.BInWeightRefIdeal.defs (F := Ideal)) (onTc (τ := Cert.BInWeightRefIdeal.τ) (Cert.BInWeightRefIdeal.main (F := Ideal))) ⟨m', fun _ => 0, g'⟩ (fun r => ∀ c : Dev Cert.BInWeightRefIdeal.nD,
          r.2.mem ((c.tc : Thread Cert.BInWeightRefIdeal.nD Cert.BInWeightRefIdeal.τ).loc Cert.BInWeightRefIdeal.main_v5) = v0 c
          ∧ r.2.mem ((c.tc : Thread Cert.BInWeightRefIdeal.nD Cert.BInWeightRefIdeal.τ).loc Cert.BInWeightRefIdeal.main_arg0) = m' ((c.tc : Thread Cert.BInWeightRefIdeal.nD Cert.BInWeightRefIdeal.τ).loc Cert.BInWeightRefIdeal.main_arg0)
          ∧ r.2.mem ((c.tc : Thread Cert.BInWeightRefIdeal.nD Cert.BInWeightRefIdeal.τ).loc Cert.BInWeightRefIdeal.main_arg1) = m' ((c.tc : Thread Cert.BInWeightRefIdeal.nD Cert.BInWeightRefIdeal.τ).loc Cert.BInWeightRefIdeal.main_arg1)
          ∧ r.2.mem ((c.tc : Thread Cert.BInWeightRefIdeal.nD Cert.BInWeightRefIdeal.τ).loc Cert.BInWeightRefIdeal.main_arg2) = m' ((c.tc : Thread Cert.BInWeightRefIdeal.nD Cert.BInWeightRefIdeal.τ).loc Cert.BInWeightRefIdeal.main_arg2))

def preserves_BOutForward_BOutForwardIdeal : Prop :=
  True

def algebraic_BOutForwardIdeal_BOutForwardRefIdeal [hBOutForwardIdeal : Cert.BOutForwardIdeal.Facts] [hBOutForwardRefIdeal : Cert.BOutForwardRefIdeal.Facts] : Prop :=
  ∀ (m : (ℓ : Loc Cert.BOutForwardIdeal.nD Cert.BOutForwardIdeal.τ Cert.BOutForwardIdeal.sig) → Buf (Elt Ideal) ℓ) (g : Dev Cert.BOutForwardIdeal.nD → PrngReg)
    (m' : (ℓ : Loc Cert.BOutForwardRefIdeal.nD Cert.BOutForwardRefIdeal.τ Cert.BOutForwardRefIdeal.sig) → Buf (Elt Ideal) ℓ) (g' : Dev Cert.BOutForwardRefIdeal.nD → PrngReg), Pre_BOutForwardIdeal m →
    (∀ c : Dev Cert.BOutForwardIdeal.nD,
      m' ((c.tc : Thread Cert.BOutForwardRefIdeal.nD Cert.BOutForwardRefIdeal.τ).loc Cert.BOutForwardRefIdeal.main_arg0) = m ((c.tc : Thread Cert.BOutForwardIdeal.nD Cert.BOutForwardIdeal.τ).loc Cert.BOutForwardIdeal.main_arg0)
      ∧ m' ((c.tc : Thread Cert.BOutForwardRefIdeal.nD Cert.BOutForwardRefIdeal.τ).loc Cert.BOutForwardRefIdeal.main_arg1) = m ((c.tc : Thread Cert.BOutForwardIdeal.nD Cert.BOutForwardIdeal.τ).loc Cert.BOutForwardIdeal.main_arg1)) →
    ∃ (v0 : (c : Dev Cert.BOutForwardIdeal.nD) → Buf (Elt Ideal) ((c.tc : Thread Cert.BOutForwardIdeal.nD Cert.BOutForwardIdeal.τ).loc Cert.BOutForwardIdeal.main_v1)),
      θ_run (Cert.BOutForwardIdeal.defs (F := Ideal)) (onTc (τ := Cert.BOutForwardIdeal.τ) (Cert.BOutForwardIdeal.main (F := Ideal))) ⟨m, fun _ => 0, g⟩ (fun r => ∀ c : Dev Cert.BOutForwardIdeal.nD,
          r.2.mem ((c.tc : Thread Cert.BOutForwardIdeal.nD Cert.BOutForwardIdeal.τ).loc Cert.BOutForwardIdeal.main_v1) = v0 c
          ∧ r.2.mem ((c.tc : Thread Cert.BOutForwardIdeal.nD Cert.BOutForwardIdeal.τ).loc Cert.BOutForwardIdeal.main_arg0) = m ((c.tc : Thread Cert.BOutForwardIdeal.nD Cert.BOutForwardIdeal.τ).loc Cert.BOutForwardIdeal.main_arg0)
          ∧ r.2.mem ((c.tc : Thread Cert.BOutForwardIdeal.nD Cert.BOutForwardIdeal.τ).loc Cert.BOutForwardIdeal.main_arg1) = m ((c.tc : Thread Cert.BOutForwardIdeal.nD Cert.BOutForwardIdeal.τ).loc Cert.BOutForwardIdeal.main_arg1))
      ∧ θ_run (Cert.BOutForwardRefIdeal.defs (F := Ideal)) (onTc (τ := Cert.BOutForwardRefIdeal.τ) (Cert.BOutForwardRefIdeal.main (F := Ideal))) ⟨m', fun _ => 0, g'⟩ (fun r => ∀ c : Dev Cert.BOutForwardRefIdeal.nD,
          r.2.mem ((c.tc : Thread Cert.BOutForwardRefIdeal.nD Cert.BOutForwardRefIdeal.τ).loc Cert.BOutForwardRefIdeal.main_v0) = v0 c
          ∧ r.2.mem ((c.tc : Thread Cert.BOutForwardRefIdeal.nD Cert.BOutForwardRefIdeal.τ).loc Cert.BOutForwardRefIdeal.main_arg0) = m' ((c.tc : Thread Cert.BOutForwardRefIdeal.nD Cert.BOutForwardRefIdeal.τ).loc Cert.BOutForwardRefIdeal.main_arg0)
          ∧ r.2.mem ((c.tc : Thread Cert.BOutForwardRefIdeal.nD Cert.BOutForwardRefIdeal.τ).loc Cert.BOutForwardRefIdeal.main_arg1) = m' ((c.tc : Thread Cert.BOutForwardRefIdeal.nD Cert.BOutForwardRefIdeal.τ).loc Cert.BOutForwardRefIdeal.main_arg1))

def preserves_BOutRows_BOutRowsIdeal : Prop :=
  True

def algebraic_BOutRowsIdeal_BOutRowsRefIdeal [hBOutRowsIdeal : Cert.BOutRowsIdeal.Facts] [hBOutRowsRefIdeal : Cert.BOutRowsRefIdeal.Facts] : Prop :=
  ∀ (m : (ℓ : Loc Cert.BOutRowsIdeal.nD Cert.BOutRowsIdeal.τ Cert.BOutRowsIdeal.sig) → Buf (Elt Ideal) ℓ) (g : Dev Cert.BOutRowsIdeal.nD → PrngReg)
    (m' : (ℓ : Loc Cert.BOutRowsRefIdeal.nD Cert.BOutRowsRefIdeal.τ Cert.BOutRowsRefIdeal.sig) → Buf (Elt Ideal) ℓ) (g' : Dev Cert.BOutRowsRefIdeal.nD → PrngReg), Pre_BOutRowsIdeal m →
    (∀ c : Dev Cert.BOutRowsIdeal.nD,
      m' ((c.tc : Thread Cert.BOutRowsRefIdeal.nD Cert.BOutRowsRefIdeal.τ).loc Cert.BOutRowsRefIdeal.main_arg0) = m ((c.tc : Thread Cert.BOutRowsIdeal.nD Cert.BOutRowsIdeal.τ).loc Cert.BOutRowsIdeal.main_arg0)
      ∧ m' ((c.tc : Thread Cert.BOutRowsRefIdeal.nD Cert.BOutRowsRefIdeal.τ).loc Cert.BOutRowsRefIdeal.main_arg1) = m ((c.tc : Thread Cert.BOutRowsIdeal.nD Cert.BOutRowsIdeal.τ).loc Cert.BOutRowsIdeal.main_arg1)
      ∧ m' ((c.tc : Thread Cert.BOutRowsRefIdeal.nD Cert.BOutRowsRefIdeal.τ).loc Cert.BOutRowsRefIdeal.main_arg2) = m ((c.tc : Thread Cert.BOutRowsIdeal.nD Cert.BOutRowsIdeal.τ).loc Cert.BOutRowsIdeal.main_arg2)) →
    ∃ (v0 : (c : Dev Cert.BOutRowsIdeal.nD) → Buf (Elt Ideal) ((c.tc : Thread Cert.BOutRowsIdeal.nD Cert.BOutRowsIdeal.τ).loc Cert.BOutRowsIdeal.main_v1)),
      θ_run (Cert.BOutRowsIdeal.defs (F := Ideal)) (onTc (τ := Cert.BOutRowsIdeal.τ) (Cert.BOutRowsIdeal.main (F := Ideal))) ⟨m, fun _ => 0, g⟩ (fun r => ∀ c : Dev Cert.BOutRowsIdeal.nD,
          r.2.mem ((c.tc : Thread Cert.BOutRowsIdeal.nD Cert.BOutRowsIdeal.τ).loc Cert.BOutRowsIdeal.main_v1) = v0 c
          ∧ r.2.mem ((c.tc : Thread Cert.BOutRowsIdeal.nD Cert.BOutRowsIdeal.τ).loc Cert.BOutRowsIdeal.main_arg0) = m ((c.tc : Thread Cert.BOutRowsIdeal.nD Cert.BOutRowsIdeal.τ).loc Cert.BOutRowsIdeal.main_arg0)
          ∧ r.2.mem ((c.tc : Thread Cert.BOutRowsIdeal.nD Cert.BOutRowsIdeal.τ).loc Cert.BOutRowsIdeal.main_arg1) = m ((c.tc : Thread Cert.BOutRowsIdeal.nD Cert.BOutRowsIdeal.τ).loc Cert.BOutRowsIdeal.main_arg1)
          ∧ r.2.mem ((c.tc : Thread Cert.BOutRowsIdeal.nD Cert.BOutRowsIdeal.τ).loc Cert.BOutRowsIdeal.main_arg2) = m ((c.tc : Thread Cert.BOutRowsIdeal.nD Cert.BOutRowsIdeal.τ).loc Cert.BOutRowsIdeal.main_arg2))
      ∧ θ_run (Cert.BOutRowsRefIdeal.defs (F := Ideal)) (onTc (τ := Cert.BOutRowsRefIdeal.τ) (Cert.BOutRowsRefIdeal.main (F := Ideal))) ⟨m', fun _ => 0, g'⟩ (fun r => ∀ c : Dev Cert.BOutRowsRefIdeal.nD,
          r.2.mem ((c.tc : Thread Cert.BOutRowsRefIdeal.nD Cert.BOutRowsRefIdeal.τ).loc Cert.BOutRowsRefIdeal.main_v4) = v0 c
          ∧ r.2.mem ((c.tc : Thread Cert.BOutRowsRefIdeal.nD Cert.BOutRowsRefIdeal.τ).loc Cert.BOutRowsRefIdeal.main_arg0) = m' ((c.tc : Thread Cert.BOutRowsRefIdeal.nD Cert.BOutRowsRefIdeal.τ).loc Cert.BOutRowsRefIdeal.main_arg0)
          ∧ r.2.mem ((c.tc : Thread Cert.BOutRowsRefIdeal.nD Cert.BOutRowsRefIdeal.τ).loc Cert.BOutRowsRefIdeal.main_arg1) = m' ((c.tc : Thread Cert.BOutRowsRefIdeal.nD Cert.BOutRowsRefIdeal.τ).loc Cert.BOutRowsRefIdeal.main_arg1)
          ∧ r.2.mem ((c.tc : Thread Cert.BOutRowsRefIdeal.nD Cert.BOutRowsRefIdeal.τ).loc Cert.BOutRowsRefIdeal.main_arg2) = m' ((c.tc : Thread Cert.BOutRowsRefIdeal.nD Cert.BOutRowsRefIdeal.τ).loc Cert.BOutRowsRefIdeal.main_arg2))

def preserves_BOutWeight_BOutWeightIdeal : Prop :=
  True

def algebraic_BOutWeightIdeal_BOutWeightRefIdeal [hBOutWeightIdeal : Cert.BOutWeightIdeal.Facts] [hBOutWeightRefIdeal : Cert.BOutWeightRefIdeal.Facts] : Prop :=
  ∀ (m : (ℓ : Loc Cert.BOutWeightIdeal.nD Cert.BOutWeightIdeal.τ Cert.BOutWeightIdeal.sig) → Buf (Elt Ideal) ℓ) (g : Dev Cert.BOutWeightIdeal.nD → PrngReg)
    (m' : (ℓ : Loc Cert.BOutWeightRefIdeal.nD Cert.BOutWeightRefIdeal.τ Cert.BOutWeightRefIdeal.sig) → Buf (Elt Ideal) ℓ) (g' : Dev Cert.BOutWeightRefIdeal.nD → PrngReg), Pre_BOutWeightIdeal m →
    (∀ c : Dev Cert.BOutWeightIdeal.nD,
      m' ((c.tc : Thread Cert.BOutWeightRefIdeal.nD Cert.BOutWeightRefIdeal.τ).loc Cert.BOutWeightRefIdeal.main_arg0) = m ((c.tc : Thread Cert.BOutWeightIdeal.nD Cert.BOutWeightIdeal.τ).loc Cert.BOutWeightIdeal.main_arg0)
      ∧ m' ((c.tc : Thread Cert.BOutWeightRefIdeal.nD Cert.BOutWeightRefIdeal.τ).loc Cert.BOutWeightRefIdeal.main_arg1) = m ((c.tc : Thread Cert.BOutWeightIdeal.nD Cert.BOutWeightIdeal.τ).loc Cert.BOutWeightIdeal.main_arg1)
      ∧ m' ((c.tc : Thread Cert.BOutWeightRefIdeal.nD Cert.BOutWeightRefIdeal.τ).loc Cert.BOutWeightRefIdeal.main_arg2) = m ((c.tc : Thread Cert.BOutWeightIdeal.nD Cert.BOutWeightIdeal.τ).loc Cert.BOutWeightIdeal.main_arg2)) →
    ∃ (v0 : (c : Dev Cert.BOutWeightIdeal.nD) → Buf (Elt Ideal) ((c.tc : Thread Cert.BOutWeightIdeal.nD Cert.BOutWeightIdeal.τ).loc Cert.BOutWeightIdeal.main_v0)),
      θ_run (Cert.BOutWeightIdeal.defs (F := Ideal)) (onTc (τ := Cert.BOutWeightIdeal.τ) (Cert.BOutWeightIdeal.main (F := Ideal))) ⟨m, fun _ => 0, g⟩ (fun r => ∀ c : Dev Cert.BOutWeightIdeal.nD,
          r.2.mem ((c.tc : Thread Cert.BOutWeightIdeal.nD Cert.BOutWeightIdeal.τ).loc Cert.BOutWeightIdeal.main_v0) = v0 c
          ∧ r.2.mem ((c.tc : Thread Cert.BOutWeightIdeal.nD Cert.BOutWeightIdeal.τ).loc Cert.BOutWeightIdeal.main_arg0) = m ((c.tc : Thread Cert.BOutWeightIdeal.nD Cert.BOutWeightIdeal.τ).loc Cert.BOutWeightIdeal.main_arg0)
          ∧ r.2.mem ((c.tc : Thread Cert.BOutWeightIdeal.nD Cert.BOutWeightIdeal.τ).loc Cert.BOutWeightIdeal.main_arg1) = m ((c.tc : Thread Cert.BOutWeightIdeal.nD Cert.BOutWeightIdeal.τ).loc Cert.BOutWeightIdeal.main_arg1)
          ∧ r.2.mem ((c.tc : Thread Cert.BOutWeightIdeal.nD Cert.BOutWeightIdeal.τ).loc Cert.BOutWeightIdeal.main_arg2) = m ((c.tc : Thread Cert.BOutWeightIdeal.nD Cert.BOutWeightIdeal.τ).loc Cert.BOutWeightIdeal.main_arg2))
      ∧ θ_run (Cert.BOutWeightRefIdeal.defs (F := Ideal)) (onTc (τ := Cert.BOutWeightRefIdeal.τ) (Cert.BOutWeightRefIdeal.main (F := Ideal))) ⟨m', fun _ => 0, g'⟩ (fun r => ∀ c : Dev Cert.BOutWeightRefIdeal.nD,
          r.2.mem ((c.tc : Thread Cert.BOutWeightRefIdeal.nD Cert.BOutWeightRefIdeal.τ).loc Cert.BOutWeightRefIdeal.main_v2) = v0 c
          ∧ r.2.mem ((c.tc : Thread Cert.BOutWeightRefIdeal.nD Cert.BOutWeightRefIdeal.τ).loc Cert.BOutWeightRefIdeal.main_arg0) = m' ((c.tc : Thread Cert.BOutWeightRefIdeal.nD Cert.BOutWeightRefIdeal.τ).loc Cert.BOutWeightRefIdeal.main_arg0)
          ∧ r.2.mem ((c.tc : Thread Cert.BOutWeightRefIdeal.nD Cert.BOutWeightRefIdeal.τ).loc Cert.BOutWeightRefIdeal.main_arg1) = m' ((c.tc : Thread Cert.BOutWeightRefIdeal.nD Cert.BOutWeightRefIdeal.τ).loc Cert.BOutWeightRefIdeal.main_arg1)
          ∧ r.2.mem ((c.tc : Thread Cert.BOutWeightRefIdeal.nD Cert.BOutWeightRefIdeal.τ).loc Cert.BOutWeightRefIdeal.main_arg2) = m' ((c.tc : Thread Cert.BOutWeightRefIdeal.nD Cert.BOutWeightRefIdeal.τ).loc Cert.BOutWeightRefIdeal.main_arg2))

def preserves_QueryForward_QueryForwardIdeal : Prop :=
  True

def algebraic_QueryForwardIdeal_QueryForwardRefIdeal [hQueryForwardIdeal : Cert.QueryForwardIdeal.Facts] [hQueryForwardRefIdeal : Cert.QueryForwardRefIdeal.Facts] : Prop :=
  ∀ (m : (ℓ : Loc Cert.QueryForwardIdeal.nD Cert.QueryForwardIdeal.τ Cert.QueryForwardIdeal.sig) → Buf (Elt Ideal) ℓ) (g : Dev Cert.QueryForwardIdeal.nD → PrngReg)
    (m' : (ℓ : Loc Cert.QueryForwardRefIdeal.nD Cert.QueryForwardRefIdeal.τ Cert.QueryForwardRefIdeal.sig) → Buf (Elt Ideal) ℓ) (g' : Dev Cert.QueryForwardRefIdeal.nD → PrngReg), Pre_QueryForwardIdeal m →
    (∀ c : Dev Cert.QueryForwardIdeal.nD,
      m' ((c.tc : Thread Cert.QueryForwardRefIdeal.nD Cert.QueryForwardRefIdeal.τ).loc Cert.QueryForwardRefIdeal.main_arg0) = m ((c.tc : Thread Cert.QueryForwardIdeal.nD Cert.QueryForwardIdeal.τ).loc Cert.QueryForwardIdeal.main_arg0)
      ∧ m' ((c.tc : Thread Cert.QueryForwardRefIdeal.nD Cert.QueryForwardRefIdeal.τ).loc Cert.QueryForwardRefIdeal.main_arg1) = m ((c.tc : Thread Cert.QueryForwardIdeal.nD Cert.QueryForwardIdeal.τ).loc Cert.QueryForwardIdeal.main_arg1)) →
    ∃ (v0 : (c : Dev Cert.QueryForwardIdeal.nD) → Buf (Elt Ideal) ((c.tc : Thread Cert.QueryForwardIdeal.nD Cert.QueryForwardIdeal.τ).loc Cert.QueryForwardIdeal.main_v1)),
      θ_run (Cert.QueryForwardIdeal.defs (F := Ideal)) (onTc (τ := Cert.QueryForwardIdeal.τ) (Cert.QueryForwardIdeal.main (F := Ideal))) ⟨m, fun _ => 0, g⟩ (fun r => ∀ c : Dev Cert.QueryForwardIdeal.nD,
          r.2.mem ((c.tc : Thread Cert.QueryForwardIdeal.nD Cert.QueryForwardIdeal.τ).loc Cert.QueryForwardIdeal.main_v1) = v0 c
          ∧ r.2.mem ((c.tc : Thread Cert.QueryForwardIdeal.nD Cert.QueryForwardIdeal.τ).loc Cert.QueryForwardIdeal.main_arg0) = m ((c.tc : Thread Cert.QueryForwardIdeal.nD Cert.QueryForwardIdeal.τ).loc Cert.QueryForwardIdeal.main_arg0)
          ∧ r.2.mem ((c.tc : Thread Cert.QueryForwardIdeal.nD Cert.QueryForwardIdeal.τ).loc Cert.QueryForwardIdeal.main_arg1) = m ((c.tc : Thread Cert.QueryForwardIdeal.nD Cert.QueryForwardIdeal.τ).loc Cert.QueryForwardIdeal.main_arg1))
      ∧ θ_run (Cert.QueryForwardRefIdeal.defs (F := Ideal)) (onTc (τ := Cert.QueryForwardRefIdeal.τ) (Cert.QueryForwardRefIdeal.main (F := Ideal))) ⟨m', fun _ => 0, g'⟩ (fun r => ∀ c : Dev Cert.QueryForwardRefIdeal.nD,
          r.2.mem ((c.tc : Thread Cert.QueryForwardRefIdeal.nD Cert.QueryForwardRefIdeal.τ).loc Cert.QueryForwardRefIdeal.main_v0) = v0 c
          ∧ r.2.mem ((c.tc : Thread Cert.QueryForwardRefIdeal.nD Cert.QueryForwardRefIdeal.τ).loc Cert.QueryForwardRefIdeal.main_arg0) = m' ((c.tc : Thread Cert.QueryForwardRefIdeal.nD Cert.QueryForwardRefIdeal.τ).loc Cert.QueryForwardRefIdeal.main_arg0)
          ∧ r.2.mem ((c.tc : Thread Cert.QueryForwardRefIdeal.nD Cert.QueryForwardRefIdeal.τ).loc Cert.QueryForwardRefIdeal.main_arg1) = m' ((c.tc : Thread Cert.QueryForwardRefIdeal.nD Cert.QueryForwardRefIdeal.τ).loc Cert.QueryForwardRefIdeal.main_arg1))

def preserves_QueryRows_QueryRowsIdeal : Prop :=
  True

def algebraic_QueryRowsIdeal_QueryRowsRefIdeal [hQueryRowsIdeal : Cert.QueryRowsIdeal.Facts] [hQueryRowsRefIdeal : Cert.QueryRowsRefIdeal.Facts] : Prop :=
  ∀ (m : (ℓ : Loc Cert.QueryRowsIdeal.nD Cert.QueryRowsIdeal.τ Cert.QueryRowsIdeal.sig) → Buf (Elt Ideal) ℓ) (g : Dev Cert.QueryRowsIdeal.nD → PrngReg)
    (m' : (ℓ : Loc Cert.QueryRowsRefIdeal.nD Cert.QueryRowsRefIdeal.τ Cert.QueryRowsRefIdeal.sig) → Buf (Elt Ideal) ℓ) (g' : Dev Cert.QueryRowsRefIdeal.nD → PrngReg), Pre_QueryRowsIdeal m →
    (∀ c : Dev Cert.QueryRowsIdeal.nD,
      m' ((c.tc : Thread Cert.QueryRowsRefIdeal.nD Cert.QueryRowsRefIdeal.τ).loc Cert.QueryRowsRefIdeal.main_arg0) = m ((c.tc : Thread Cert.QueryRowsIdeal.nD Cert.QueryRowsIdeal.τ).loc Cert.QueryRowsIdeal.main_arg0)
      ∧ m' ((c.tc : Thread Cert.QueryRowsRefIdeal.nD Cert.QueryRowsRefIdeal.τ).loc Cert.QueryRowsRefIdeal.main_arg1) = m ((c.tc : Thread Cert.QueryRowsIdeal.nD Cert.QueryRowsIdeal.τ).loc Cert.QueryRowsIdeal.main_arg1)
      ∧ m' ((c.tc : Thread Cert.QueryRowsRefIdeal.nD Cert.QueryRowsRefIdeal.τ).loc Cert.QueryRowsRefIdeal.main_arg2) = m ((c.tc : Thread Cert.QueryRowsIdeal.nD Cert.QueryRowsIdeal.τ).loc Cert.QueryRowsIdeal.main_arg2)) →
    ∃ (v0 : (c : Dev Cert.QueryRowsIdeal.nD) → Buf (Elt Ideal) ((c.tc : Thread Cert.QueryRowsIdeal.nD Cert.QueryRowsIdeal.τ).loc Cert.QueryRowsIdeal.main_v1)),
      θ_run (Cert.QueryRowsIdeal.defs (F := Ideal)) (onTc (τ := Cert.QueryRowsIdeal.τ) (Cert.QueryRowsIdeal.main (F := Ideal))) ⟨m, fun _ => 0, g⟩ (fun r => ∀ c : Dev Cert.QueryRowsIdeal.nD,
          r.2.mem ((c.tc : Thread Cert.QueryRowsIdeal.nD Cert.QueryRowsIdeal.τ).loc Cert.QueryRowsIdeal.main_v1) = v0 c
          ∧ r.2.mem ((c.tc : Thread Cert.QueryRowsIdeal.nD Cert.QueryRowsIdeal.τ).loc Cert.QueryRowsIdeal.main_arg0) = m ((c.tc : Thread Cert.QueryRowsIdeal.nD Cert.QueryRowsIdeal.τ).loc Cert.QueryRowsIdeal.main_arg0)
          ∧ r.2.mem ((c.tc : Thread Cert.QueryRowsIdeal.nD Cert.QueryRowsIdeal.τ).loc Cert.QueryRowsIdeal.main_arg1) = m ((c.tc : Thread Cert.QueryRowsIdeal.nD Cert.QueryRowsIdeal.τ).loc Cert.QueryRowsIdeal.main_arg1)
          ∧ r.2.mem ((c.tc : Thread Cert.QueryRowsIdeal.nD Cert.QueryRowsIdeal.τ).loc Cert.QueryRowsIdeal.main_arg2) = m ((c.tc : Thread Cert.QueryRowsIdeal.nD Cert.QueryRowsIdeal.τ).loc Cert.QueryRowsIdeal.main_arg2))
      ∧ θ_run (Cert.QueryRowsRefIdeal.defs (F := Ideal)) (onTc (τ := Cert.QueryRowsRefIdeal.τ) (Cert.QueryRowsRefIdeal.main (F := Ideal))) ⟨m', fun _ => 0, g'⟩ (fun r => ∀ c : Dev Cert.QueryRowsRefIdeal.nD,
          r.2.mem ((c.tc : Thread Cert.QueryRowsRefIdeal.nD Cert.QueryRowsRefIdeal.τ).loc Cert.QueryRowsRefIdeal.main_v4) = v0 c
          ∧ r.2.mem ((c.tc : Thread Cert.QueryRowsRefIdeal.nD Cert.QueryRowsRefIdeal.τ).loc Cert.QueryRowsRefIdeal.main_arg0) = m' ((c.tc : Thread Cert.QueryRowsRefIdeal.nD Cert.QueryRowsRefIdeal.τ).loc Cert.QueryRowsRefIdeal.main_arg0)
          ∧ r.2.mem ((c.tc : Thread Cert.QueryRowsRefIdeal.nD Cert.QueryRowsRefIdeal.τ).loc Cert.QueryRowsRefIdeal.main_arg1) = m' ((c.tc : Thread Cert.QueryRowsRefIdeal.nD Cert.QueryRowsRefIdeal.τ).loc Cert.QueryRowsRefIdeal.main_arg1)
          ∧ r.2.mem ((c.tc : Thread Cert.QueryRowsRefIdeal.nD Cert.QueryRowsRefIdeal.τ).loc Cert.QueryRowsRefIdeal.main_arg2) = m' ((c.tc : Thread Cert.QueryRowsRefIdeal.nD Cert.QueryRowsRefIdeal.τ).loc Cert.QueryRowsRefIdeal.main_arg2))

def preserves_QueryWeight_QueryWeightIdeal : Prop :=
  True

def algebraic_QueryWeightIdeal_QueryWeightRefIdeal [hQueryWeightIdeal : Cert.QueryWeightIdeal.Facts] [hQueryWeightRefIdeal : Cert.QueryWeightRefIdeal.Facts] : Prop :=
  ∀ (m : (ℓ : Loc Cert.QueryWeightIdeal.nD Cert.QueryWeightIdeal.τ Cert.QueryWeightIdeal.sig) → Buf (Elt Ideal) ℓ) (g : Dev Cert.QueryWeightIdeal.nD → PrngReg)
    (m' : (ℓ : Loc Cert.QueryWeightRefIdeal.nD Cert.QueryWeightRefIdeal.τ Cert.QueryWeightRefIdeal.sig) → Buf (Elt Ideal) ℓ) (g' : Dev Cert.QueryWeightRefIdeal.nD → PrngReg), Pre_QueryWeightIdeal m →
    (∀ c : Dev Cert.QueryWeightIdeal.nD,
      m' ((c.tc : Thread Cert.QueryWeightRefIdeal.nD Cert.QueryWeightRefIdeal.τ).loc Cert.QueryWeightRefIdeal.main_arg0) = m ((c.tc : Thread Cert.QueryWeightIdeal.nD Cert.QueryWeightIdeal.τ).loc Cert.QueryWeightIdeal.main_arg0)
      ∧ m' ((c.tc : Thread Cert.QueryWeightRefIdeal.nD Cert.QueryWeightRefIdeal.τ).loc Cert.QueryWeightRefIdeal.main_arg1) = m ((c.tc : Thread Cert.QueryWeightIdeal.nD Cert.QueryWeightIdeal.τ).loc Cert.QueryWeightIdeal.main_arg1)
      ∧ m' ((c.tc : Thread Cert.QueryWeightRefIdeal.nD Cert.QueryWeightRefIdeal.τ).loc Cert.QueryWeightRefIdeal.main_arg2) = m ((c.tc : Thread Cert.QueryWeightIdeal.nD Cert.QueryWeightIdeal.τ).loc Cert.QueryWeightIdeal.main_arg2)) →
    ∃ (v0 : (c : Dev Cert.QueryWeightIdeal.nD) → Buf (Elt Ideal) ((c.tc : Thread Cert.QueryWeightIdeal.nD Cert.QueryWeightIdeal.τ).loc Cert.QueryWeightIdeal.main_v0)),
      θ_run (Cert.QueryWeightIdeal.defs (F := Ideal)) (onTc (τ := Cert.QueryWeightIdeal.τ) (Cert.QueryWeightIdeal.main (F := Ideal))) ⟨m, fun _ => 0, g⟩ (fun r => ∀ c : Dev Cert.QueryWeightIdeal.nD,
          r.2.mem ((c.tc : Thread Cert.QueryWeightIdeal.nD Cert.QueryWeightIdeal.τ).loc Cert.QueryWeightIdeal.main_v0) = v0 c
          ∧ r.2.mem ((c.tc : Thread Cert.QueryWeightIdeal.nD Cert.QueryWeightIdeal.τ).loc Cert.QueryWeightIdeal.main_arg0) = m ((c.tc : Thread Cert.QueryWeightIdeal.nD Cert.QueryWeightIdeal.τ).loc Cert.QueryWeightIdeal.main_arg0)
          ∧ r.2.mem ((c.tc : Thread Cert.QueryWeightIdeal.nD Cert.QueryWeightIdeal.τ).loc Cert.QueryWeightIdeal.main_arg1) = m ((c.tc : Thread Cert.QueryWeightIdeal.nD Cert.QueryWeightIdeal.τ).loc Cert.QueryWeightIdeal.main_arg1)
          ∧ r.2.mem ((c.tc : Thread Cert.QueryWeightIdeal.nD Cert.QueryWeightIdeal.τ).loc Cert.QueryWeightIdeal.main_arg2) = m ((c.tc : Thread Cert.QueryWeightIdeal.nD Cert.QueryWeightIdeal.τ).loc Cert.QueryWeightIdeal.main_arg2))
      ∧ θ_run (Cert.QueryWeightRefIdeal.defs (F := Ideal)) (onTc (τ := Cert.QueryWeightRefIdeal.τ) (Cert.QueryWeightRefIdeal.main (F := Ideal))) ⟨m', fun _ => 0, g'⟩ (fun r => ∀ c : Dev Cert.QueryWeightRefIdeal.nD,
          r.2.mem ((c.tc : Thread Cert.QueryWeightRefIdeal.nD Cert.QueryWeightRefIdeal.τ).loc Cert.QueryWeightRefIdeal.main_v2) = v0 c
          ∧ r.2.mem ((c.tc : Thread Cert.QueryWeightRefIdeal.nD Cert.QueryWeightRefIdeal.τ).loc Cert.QueryWeightRefIdeal.main_arg0) = m' ((c.tc : Thread Cert.QueryWeightRefIdeal.nD Cert.QueryWeightRefIdeal.τ).loc Cert.QueryWeightRefIdeal.main_arg0)
          ∧ r.2.mem ((c.tc : Thread Cert.QueryWeightRefIdeal.nD Cert.QueryWeightRefIdeal.τ).loc Cert.QueryWeightRefIdeal.main_arg1) = m' ((c.tc : Thread Cert.QueryWeightRefIdeal.nD Cert.QueryWeightRefIdeal.τ).loc Cert.QueryWeightRefIdeal.main_arg1)
          ∧ r.2.mem ((c.tc : Thread Cert.QueryWeightRefIdeal.nD Cert.QueryWeightRefIdeal.τ).loc Cert.QueryWeightRefIdeal.main_arg2) = m' ((c.tc : Thread Cert.QueryWeightRefIdeal.nD Cert.QueryWeightRefIdeal.τ).loc Cert.QueryWeightRefIdeal.main_arg2))

def preserves_KeyForward_KeyForwardIdeal : Prop :=
  True

def algebraic_KeyForwardIdeal_KeyForwardRefIdeal [hKeyForwardIdeal : Cert.KeyForwardIdeal.Facts] [hKeyForwardRefIdeal : Cert.KeyForwardRefIdeal.Facts] : Prop :=
  ∀ (m : (ℓ : Loc Cert.KeyForwardIdeal.nD Cert.KeyForwardIdeal.τ Cert.KeyForwardIdeal.sig) → Buf (Elt Ideal) ℓ) (g : Dev Cert.KeyForwardIdeal.nD → PrngReg)
    (m' : (ℓ : Loc Cert.KeyForwardRefIdeal.nD Cert.KeyForwardRefIdeal.τ Cert.KeyForwardRefIdeal.sig) → Buf (Elt Ideal) ℓ) (g' : Dev Cert.KeyForwardRefIdeal.nD → PrngReg), Pre_KeyForwardIdeal m →
    (∀ c : Dev Cert.KeyForwardIdeal.nD,
      m' ((c.tc : Thread Cert.KeyForwardRefIdeal.nD Cert.KeyForwardRefIdeal.τ).loc Cert.KeyForwardRefIdeal.main_arg0) = m ((c.tc : Thread Cert.KeyForwardIdeal.nD Cert.KeyForwardIdeal.τ).loc Cert.KeyForwardIdeal.main_arg0)
      ∧ m' ((c.tc : Thread Cert.KeyForwardRefIdeal.nD Cert.KeyForwardRefIdeal.τ).loc Cert.KeyForwardRefIdeal.main_arg1) = m ((c.tc : Thread Cert.KeyForwardIdeal.nD Cert.KeyForwardIdeal.τ).loc Cert.KeyForwardIdeal.main_arg1)) →
    ∃ (v0 : (c : Dev Cert.KeyForwardIdeal.nD) → Buf (Elt Ideal) ((c.tc : Thread Cert.KeyForwardIdeal.nD Cert.KeyForwardIdeal.τ).loc Cert.KeyForwardIdeal.main_v1)),
      θ_run (Cert.KeyForwardIdeal.defs (F := Ideal)) (onTc (τ := Cert.KeyForwardIdeal.τ) (Cert.KeyForwardIdeal.main (F := Ideal))) ⟨m, fun _ => 0, g⟩ (fun r => ∀ c : Dev Cert.KeyForwardIdeal.nD,
          r.2.mem ((c.tc : Thread Cert.KeyForwardIdeal.nD Cert.KeyForwardIdeal.τ).loc Cert.KeyForwardIdeal.main_v1) = v0 c
          ∧ r.2.mem ((c.tc : Thread Cert.KeyForwardIdeal.nD Cert.KeyForwardIdeal.τ).loc Cert.KeyForwardIdeal.main_arg0) = m ((c.tc : Thread Cert.KeyForwardIdeal.nD Cert.KeyForwardIdeal.τ).loc Cert.KeyForwardIdeal.main_arg0)
          ∧ r.2.mem ((c.tc : Thread Cert.KeyForwardIdeal.nD Cert.KeyForwardIdeal.τ).loc Cert.KeyForwardIdeal.main_arg1) = m ((c.tc : Thread Cert.KeyForwardIdeal.nD Cert.KeyForwardIdeal.τ).loc Cert.KeyForwardIdeal.main_arg1))
      ∧ θ_run (Cert.KeyForwardRefIdeal.defs (F := Ideal)) (onTc (τ := Cert.KeyForwardRefIdeal.τ) (Cert.KeyForwardRefIdeal.main (F := Ideal))) ⟨m', fun _ => 0, g'⟩ (fun r => ∀ c : Dev Cert.KeyForwardRefIdeal.nD,
          r.2.mem ((c.tc : Thread Cert.KeyForwardRefIdeal.nD Cert.KeyForwardRefIdeal.τ).loc Cert.KeyForwardRefIdeal.main_v1) = v0 c
          ∧ r.2.mem ((c.tc : Thread Cert.KeyForwardRefIdeal.nD Cert.KeyForwardRefIdeal.τ).loc Cert.KeyForwardRefIdeal.main_arg0) = m' ((c.tc : Thread Cert.KeyForwardRefIdeal.nD Cert.KeyForwardRefIdeal.τ).loc Cert.KeyForwardRefIdeal.main_arg0)
          ∧ r.2.mem ((c.tc : Thread Cert.KeyForwardRefIdeal.nD Cert.KeyForwardRefIdeal.τ).loc Cert.KeyForwardRefIdeal.main_arg1) = m' ((c.tc : Thread Cert.KeyForwardRefIdeal.nD Cert.KeyForwardRefIdeal.τ).loc Cert.KeyForwardRefIdeal.main_arg1))

def preserves_KeyRows_KeyRowsIdeal : Prop :=
  True

def algebraic_KeyRowsIdeal_KeyRowsRefIdeal [hKeyRowsIdeal : Cert.KeyRowsIdeal.Facts] [hKeyRowsRefIdeal : Cert.KeyRowsRefIdeal.Facts] : Prop :=
  ∀ (m : (ℓ : Loc Cert.KeyRowsIdeal.nD Cert.KeyRowsIdeal.τ Cert.KeyRowsIdeal.sig) → Buf (Elt Ideal) ℓ) (g : Dev Cert.KeyRowsIdeal.nD → PrngReg)
    (m' : (ℓ : Loc Cert.KeyRowsRefIdeal.nD Cert.KeyRowsRefIdeal.τ Cert.KeyRowsRefIdeal.sig) → Buf (Elt Ideal) ℓ) (g' : Dev Cert.KeyRowsRefIdeal.nD → PrngReg), Pre_KeyRowsIdeal m →
    (∀ c : Dev Cert.KeyRowsIdeal.nD,
      m' ((c.tc : Thread Cert.KeyRowsRefIdeal.nD Cert.KeyRowsRefIdeal.τ).loc Cert.KeyRowsRefIdeal.main_arg0) = m ((c.tc : Thread Cert.KeyRowsIdeal.nD Cert.KeyRowsIdeal.τ).loc Cert.KeyRowsIdeal.main_arg0)
      ∧ m' ((c.tc : Thread Cert.KeyRowsRefIdeal.nD Cert.KeyRowsRefIdeal.τ).loc Cert.KeyRowsRefIdeal.main_arg1) = m ((c.tc : Thread Cert.KeyRowsIdeal.nD Cert.KeyRowsIdeal.τ).loc Cert.KeyRowsIdeal.main_arg1)
      ∧ m' ((c.tc : Thread Cert.KeyRowsRefIdeal.nD Cert.KeyRowsRefIdeal.τ).loc Cert.KeyRowsRefIdeal.main_arg2) = m ((c.tc : Thread Cert.KeyRowsIdeal.nD Cert.KeyRowsIdeal.τ).loc Cert.KeyRowsIdeal.main_arg2)) →
    ∃ (v0 : (c : Dev Cert.KeyRowsIdeal.nD) → Buf (Elt Ideal) ((c.tc : Thread Cert.KeyRowsIdeal.nD Cert.KeyRowsIdeal.τ).loc Cert.KeyRowsIdeal.main_v1)),
      θ_run (Cert.KeyRowsIdeal.defs (F := Ideal)) (onTc (τ := Cert.KeyRowsIdeal.τ) (Cert.KeyRowsIdeal.main (F := Ideal))) ⟨m, fun _ => 0, g⟩ (fun r => ∀ c : Dev Cert.KeyRowsIdeal.nD,
          r.2.mem ((c.tc : Thread Cert.KeyRowsIdeal.nD Cert.KeyRowsIdeal.τ).loc Cert.KeyRowsIdeal.main_v1) = v0 c
          ∧ r.2.mem ((c.tc : Thread Cert.KeyRowsIdeal.nD Cert.KeyRowsIdeal.τ).loc Cert.KeyRowsIdeal.main_arg0) = m ((c.tc : Thread Cert.KeyRowsIdeal.nD Cert.KeyRowsIdeal.τ).loc Cert.KeyRowsIdeal.main_arg0)
          ∧ r.2.mem ((c.tc : Thread Cert.KeyRowsIdeal.nD Cert.KeyRowsIdeal.τ).loc Cert.KeyRowsIdeal.main_arg1) = m ((c.tc : Thread Cert.KeyRowsIdeal.nD Cert.KeyRowsIdeal.τ).loc Cert.KeyRowsIdeal.main_arg1)
          ∧ r.2.mem ((c.tc : Thread Cert.KeyRowsIdeal.nD Cert.KeyRowsIdeal.τ).loc Cert.KeyRowsIdeal.main_arg2) = m ((c.tc : Thread Cert.KeyRowsIdeal.nD Cert.KeyRowsIdeal.τ).loc Cert.KeyRowsIdeal.main_arg2))
      ∧ θ_run (Cert.KeyRowsRefIdeal.defs (F := Ideal)) (onTc (τ := Cert.KeyRowsRefIdeal.τ) (Cert.KeyRowsRefIdeal.main (F := Ideal))) ⟨m', fun _ => 0, g'⟩ (fun r => ∀ c : Dev Cert.KeyRowsRefIdeal.nD,
          r.2.mem ((c.tc : Thread Cert.KeyRowsRefIdeal.nD Cert.KeyRowsRefIdeal.τ).loc Cert.KeyRowsRefIdeal.main_v6) = v0 c
          ∧ r.2.mem ((c.tc : Thread Cert.KeyRowsRefIdeal.nD Cert.KeyRowsRefIdeal.τ).loc Cert.KeyRowsRefIdeal.main_arg0) = m' ((c.tc : Thread Cert.KeyRowsRefIdeal.nD Cert.KeyRowsRefIdeal.τ).loc Cert.KeyRowsRefIdeal.main_arg0)
          ∧ r.2.mem ((c.tc : Thread Cert.KeyRowsRefIdeal.nD Cert.KeyRowsRefIdeal.τ).loc Cert.KeyRowsRefIdeal.main_arg1) = m' ((c.tc : Thread Cert.KeyRowsRefIdeal.nD Cert.KeyRowsRefIdeal.τ).loc Cert.KeyRowsRefIdeal.main_arg1)
          ∧ r.2.mem ((c.tc : Thread Cert.KeyRowsRefIdeal.nD Cert.KeyRowsRefIdeal.τ).loc Cert.KeyRowsRefIdeal.main_arg2) = m' ((c.tc : Thread Cert.KeyRowsRefIdeal.nD Cert.KeyRowsRefIdeal.τ).loc Cert.KeyRowsRefIdeal.main_arg2))

def preserves_KeyWeight_KeyWeightIdeal : Prop :=
  True

def algebraic_KeyWeightIdeal_KeyWeightRefIdeal [hKeyWeightIdeal : Cert.KeyWeightIdeal.Facts] [hKeyWeightRefIdeal : Cert.KeyWeightRefIdeal.Facts] : Prop :=
  ∀ (m : (ℓ : Loc Cert.KeyWeightIdeal.nD Cert.KeyWeightIdeal.τ Cert.KeyWeightIdeal.sig) → Buf (Elt Ideal) ℓ) (g : Dev Cert.KeyWeightIdeal.nD → PrngReg)
    (m' : (ℓ : Loc Cert.KeyWeightRefIdeal.nD Cert.KeyWeightRefIdeal.τ Cert.KeyWeightRefIdeal.sig) → Buf (Elt Ideal) ℓ) (g' : Dev Cert.KeyWeightRefIdeal.nD → PrngReg), Pre_KeyWeightIdeal m →
    (∀ c : Dev Cert.KeyWeightIdeal.nD,
      m' ((c.tc : Thread Cert.KeyWeightRefIdeal.nD Cert.KeyWeightRefIdeal.τ).loc Cert.KeyWeightRefIdeal.main_arg0) = m ((c.tc : Thread Cert.KeyWeightIdeal.nD Cert.KeyWeightIdeal.τ).loc Cert.KeyWeightIdeal.main_arg0)
      ∧ m' ((c.tc : Thread Cert.KeyWeightRefIdeal.nD Cert.KeyWeightRefIdeal.τ).loc Cert.KeyWeightRefIdeal.main_arg1) = m ((c.tc : Thread Cert.KeyWeightIdeal.nD Cert.KeyWeightIdeal.τ).loc Cert.KeyWeightIdeal.main_arg1)
      ∧ m' ((c.tc : Thread Cert.KeyWeightRefIdeal.nD Cert.KeyWeightRefIdeal.τ).loc Cert.KeyWeightRefIdeal.main_arg2) = m ((c.tc : Thread Cert.KeyWeightIdeal.nD Cert.KeyWeightIdeal.τ).loc Cert.KeyWeightIdeal.main_arg2)) →
    ∃ (v0 : (c : Dev Cert.KeyWeightIdeal.nD) → Buf (Elt Ideal) ((c.tc : Thread Cert.KeyWeightIdeal.nD Cert.KeyWeightIdeal.τ).loc Cert.KeyWeightIdeal.main_v0)),
      θ_run (Cert.KeyWeightIdeal.defs (F := Ideal)) (onTc (τ := Cert.KeyWeightIdeal.τ) (Cert.KeyWeightIdeal.main (F := Ideal))) ⟨m, fun _ => 0, g⟩ (fun r => ∀ c : Dev Cert.KeyWeightIdeal.nD,
          r.2.mem ((c.tc : Thread Cert.KeyWeightIdeal.nD Cert.KeyWeightIdeal.τ).loc Cert.KeyWeightIdeal.main_v0) = v0 c
          ∧ r.2.mem ((c.tc : Thread Cert.KeyWeightIdeal.nD Cert.KeyWeightIdeal.τ).loc Cert.KeyWeightIdeal.main_arg0) = m ((c.tc : Thread Cert.KeyWeightIdeal.nD Cert.KeyWeightIdeal.τ).loc Cert.KeyWeightIdeal.main_arg0)
          ∧ r.2.mem ((c.tc : Thread Cert.KeyWeightIdeal.nD Cert.KeyWeightIdeal.τ).loc Cert.KeyWeightIdeal.main_arg1) = m ((c.tc : Thread Cert.KeyWeightIdeal.nD Cert.KeyWeightIdeal.τ).loc Cert.KeyWeightIdeal.main_arg1)
          ∧ r.2.mem ((c.tc : Thread Cert.KeyWeightIdeal.nD Cert.KeyWeightIdeal.τ).loc Cert.KeyWeightIdeal.main_arg2) = m ((c.tc : Thread Cert.KeyWeightIdeal.nD Cert.KeyWeightIdeal.τ).loc Cert.KeyWeightIdeal.main_arg2))
      ∧ θ_run (Cert.KeyWeightRefIdeal.defs (F := Ideal)) (onTc (τ := Cert.KeyWeightRefIdeal.τ) (Cert.KeyWeightRefIdeal.main (F := Ideal))) ⟨m', fun _ => 0, g'⟩ (fun r => ∀ c : Dev Cert.KeyWeightRefIdeal.nD,
          r.2.mem ((c.tc : Thread Cert.KeyWeightRefIdeal.nD Cert.KeyWeightRefIdeal.τ).loc Cert.KeyWeightRefIdeal.main_v4) = v0 c
          ∧ r.2.mem ((c.tc : Thread Cert.KeyWeightRefIdeal.nD Cert.KeyWeightRefIdeal.τ).loc Cert.KeyWeightRefIdeal.main_arg0) = m' ((c.tc : Thread Cert.KeyWeightRefIdeal.nD Cert.KeyWeightRefIdeal.τ).loc Cert.KeyWeightRefIdeal.main_arg0)
          ∧ r.2.mem ((c.tc : Thread Cert.KeyWeightRefIdeal.nD Cert.KeyWeightRefIdeal.τ).loc Cert.KeyWeightRefIdeal.main_arg1) = m' ((c.tc : Thread Cert.KeyWeightRefIdeal.nD Cert.KeyWeightRefIdeal.τ).loc Cert.KeyWeightRefIdeal.main_arg1)
          ∧ r.2.mem ((c.tc : Thread Cert.KeyWeightRefIdeal.nD Cert.KeyWeightRefIdeal.τ).loc Cert.KeyWeightRefIdeal.main_arg2) = m' ((c.tc : Thread Cert.KeyWeightRefIdeal.nD Cert.KeyWeightRefIdeal.τ).loc Cert.KeyWeightRefIdeal.main_arg2))

def preserves_AInForward_AInForwardIdeal : Prop :=
  True

def algebraic_AInForwardIdeal_AInForwardRefIdeal [hAInForwardIdeal : Cert.AInForwardIdeal.Facts] [hAInForwardRefIdeal : Cert.AInForwardRefIdeal.Facts] : Prop :=
  ∀ (m : (ℓ : Loc Cert.AInForwardIdeal.nD Cert.AInForwardIdeal.τ Cert.AInForwardIdeal.sig) → Buf (Elt Ideal) ℓ) (g : Dev Cert.AInForwardIdeal.nD → PrngReg)
    (m' : (ℓ : Loc Cert.AInForwardRefIdeal.nD Cert.AInForwardRefIdeal.τ Cert.AInForwardRefIdeal.sig) → Buf (Elt Ideal) ℓ) (g' : Dev Cert.AInForwardRefIdeal.nD → PrngReg), Pre_AInForwardIdeal m →
    (∀ c : Dev Cert.AInForwardIdeal.nD,
      m' ((c.tc : Thread Cert.AInForwardRefIdeal.nD Cert.AInForwardRefIdeal.τ).loc Cert.AInForwardRefIdeal.main_arg0) = m ((c.tc : Thread Cert.AInForwardIdeal.nD Cert.AInForwardIdeal.τ).loc Cert.AInForwardIdeal.main_arg0)
      ∧ m' ((c.tc : Thread Cert.AInForwardRefIdeal.nD Cert.AInForwardRefIdeal.τ).loc Cert.AInForwardRefIdeal.main_arg1) = m ((c.tc : Thread Cert.AInForwardIdeal.nD Cert.AInForwardIdeal.τ).loc Cert.AInForwardIdeal.main_arg1)) →
    ∃ (v0 : (c : Dev Cert.AInForwardIdeal.nD) → Buf (Elt Ideal) ((c.tc : Thread Cert.AInForwardIdeal.nD Cert.AInForwardIdeal.τ).loc Cert.AInForwardIdeal.main_v3)),
      θ_run (Cert.AInForwardIdeal.defs (F := Ideal)) (onTc (τ := Cert.AInForwardIdeal.τ) (Cert.AInForwardIdeal.main (F := Ideal))) ⟨m, fun _ => 0, g⟩ (fun r => ∀ c : Dev Cert.AInForwardIdeal.nD,
          r.2.mem ((c.tc : Thread Cert.AInForwardIdeal.nD Cert.AInForwardIdeal.τ).loc Cert.AInForwardIdeal.main_v3) = v0 c
          ∧ r.2.mem ((c.tc : Thread Cert.AInForwardIdeal.nD Cert.AInForwardIdeal.τ).loc Cert.AInForwardIdeal.main_arg0) = m ((c.tc : Thread Cert.AInForwardIdeal.nD Cert.AInForwardIdeal.τ).loc Cert.AInForwardIdeal.main_arg0)
          ∧ r.2.mem ((c.tc : Thread Cert.AInForwardIdeal.nD Cert.AInForwardIdeal.τ).loc Cert.AInForwardIdeal.main_arg1) = m ((c.tc : Thread Cert.AInForwardIdeal.nD Cert.AInForwardIdeal.τ).loc Cert.AInForwardIdeal.main_arg1))
      ∧ θ_run (Cert.AInForwardRefIdeal.defs (F := Ideal)) (onTc (τ := Cert.AInForwardRefIdeal.τ) (Cert.AInForwardRefIdeal.main (F := Ideal))) ⟨m', fun _ => 0, g'⟩ (fun r => ∀ c : Dev Cert.AInForwardRefIdeal.nD,
          r.2.mem ((c.tc : Thread Cert.AInForwardRefIdeal.nD Cert.AInForwardRefIdeal.τ).loc Cert.AInForwardRefIdeal.main_v0) = v0 c
          ∧ r.2.mem ((c.tc : Thread Cert.AInForwardRefIdeal.nD Cert.AInForwardRefIdeal.τ).loc Cert.AInForwardRefIdeal.main_arg0) = m' ((c.tc : Thread Cert.AInForwardRefIdeal.nD Cert.AInForwardRefIdeal.τ).loc Cert.AInForwardRefIdeal.main_arg0)
          ∧ r.2.mem ((c.tc : Thread Cert.AInForwardRefIdeal.nD Cert.AInForwardRefIdeal.τ).loc Cert.AInForwardRefIdeal.main_arg1) = m' ((c.tc : Thread Cert.AInForwardRefIdeal.nD Cert.AInForwardRefIdeal.τ).loc Cert.AInForwardRefIdeal.main_arg1))

def preserves_AInRows_AInRowsIdeal : Prop :=
  True

def algebraic_AInRowsIdeal_AInRowsRefIdeal [hAInRowsIdeal : Cert.AInRowsIdeal.Facts] [hAInRowsRefIdeal : Cert.AInRowsRefIdeal.Facts] : Prop :=
  ∀ (m : (ℓ : Loc Cert.AInRowsIdeal.nD Cert.AInRowsIdeal.τ Cert.AInRowsIdeal.sig) → Buf (Elt Ideal) ℓ) (g : Dev Cert.AInRowsIdeal.nD → PrngReg)
    (m' : (ℓ : Loc Cert.AInRowsRefIdeal.nD Cert.AInRowsRefIdeal.τ Cert.AInRowsRefIdeal.sig) → Buf (Elt Ideal) ℓ) (g' : Dev Cert.AInRowsRefIdeal.nD → PrngReg), Pre_AInRowsIdeal m →
    (∀ c : Dev Cert.AInRowsIdeal.nD,
      m' ((c.tc : Thread Cert.AInRowsRefIdeal.nD Cert.AInRowsRefIdeal.τ).loc Cert.AInRowsRefIdeal.main_arg0) = m ((c.tc : Thread Cert.AInRowsIdeal.nD Cert.AInRowsIdeal.τ).loc Cert.AInRowsIdeal.main_arg0)
      ∧ m' ((c.tc : Thread Cert.AInRowsRefIdeal.nD Cert.AInRowsRefIdeal.τ).loc Cert.AInRowsRefIdeal.main_arg1) = m ((c.tc : Thread Cert.AInRowsIdeal.nD Cert.AInRowsIdeal.τ).loc Cert.AInRowsIdeal.main_arg1)
      ∧ m' ((c.tc : Thread Cert.AInRowsRefIdeal.nD Cert.AInRowsRefIdeal.τ).loc Cert.AInRowsRefIdeal.main_arg2) = m ((c.tc : Thread Cert.AInRowsIdeal.nD Cert.AInRowsIdeal.τ).loc Cert.AInRowsIdeal.main_arg2)) →
    ∃ (v0 : (c : Dev Cert.AInRowsIdeal.nD) → Buf (Elt Ideal) ((c.tc : Thread Cert.AInRowsIdeal.nD Cert.AInRowsIdeal.τ).loc Cert.AInRowsIdeal.main_v3)),
      θ_run (Cert.AInRowsIdeal.defs (F := Ideal)) (onTc (τ := Cert.AInRowsIdeal.τ) (Cert.AInRowsIdeal.main (F := Ideal))) ⟨m, fun _ => 0, g⟩ (fun r => ∀ c : Dev Cert.AInRowsIdeal.nD,
          r.2.mem ((c.tc : Thread Cert.AInRowsIdeal.nD Cert.AInRowsIdeal.τ).loc Cert.AInRowsIdeal.main_v3) = v0 c
          ∧ r.2.mem ((c.tc : Thread Cert.AInRowsIdeal.nD Cert.AInRowsIdeal.τ).loc Cert.AInRowsIdeal.main_arg0) = m ((c.tc : Thread Cert.AInRowsIdeal.nD Cert.AInRowsIdeal.τ).loc Cert.AInRowsIdeal.main_arg0)
          ∧ r.2.mem ((c.tc : Thread Cert.AInRowsIdeal.nD Cert.AInRowsIdeal.τ).loc Cert.AInRowsIdeal.main_arg1) = m ((c.tc : Thread Cert.AInRowsIdeal.nD Cert.AInRowsIdeal.τ).loc Cert.AInRowsIdeal.main_arg1)
          ∧ r.2.mem ((c.tc : Thread Cert.AInRowsIdeal.nD Cert.AInRowsIdeal.τ).loc Cert.AInRowsIdeal.main_arg2) = m ((c.tc : Thread Cert.AInRowsIdeal.nD Cert.AInRowsIdeal.τ).loc Cert.AInRowsIdeal.main_arg2))
      ∧ θ_run (Cert.AInRowsRefIdeal.defs (F := Ideal)) (onTc (τ := Cert.AInRowsRefIdeal.τ) (Cert.AInRowsRefIdeal.main (F := Ideal))) ⟨m', fun _ => 0, g'⟩ (fun r => ∀ c : Dev Cert.AInRowsRefIdeal.nD,
          r.2.mem ((c.tc : Thread Cert.AInRowsRefIdeal.nD Cert.AInRowsRefIdeal.τ).loc Cert.AInRowsRefIdeal.main_v4) = v0 c
          ∧ r.2.mem ((c.tc : Thread Cert.AInRowsRefIdeal.nD Cert.AInRowsRefIdeal.τ).loc Cert.AInRowsRefIdeal.main_arg0) = m' ((c.tc : Thread Cert.AInRowsRefIdeal.nD Cert.AInRowsRefIdeal.τ).loc Cert.AInRowsRefIdeal.main_arg0)
          ∧ r.2.mem ((c.tc : Thread Cert.AInRowsRefIdeal.nD Cert.AInRowsRefIdeal.τ).loc Cert.AInRowsRefIdeal.main_arg1) = m' ((c.tc : Thread Cert.AInRowsRefIdeal.nD Cert.AInRowsRefIdeal.τ).loc Cert.AInRowsRefIdeal.main_arg1)
          ∧ r.2.mem ((c.tc : Thread Cert.AInRowsRefIdeal.nD Cert.AInRowsRefIdeal.τ).loc Cert.AInRowsRefIdeal.main_arg2) = m' ((c.tc : Thread Cert.AInRowsRefIdeal.nD Cert.AInRowsRefIdeal.τ).loc Cert.AInRowsRefIdeal.main_arg2))

def preserves_AInWeight_AInWeightIdeal : Prop :=
  True

def algebraic_AInWeightIdeal_AInWeightRefIdeal [hAInWeightIdeal : Cert.AInWeightIdeal.Facts] [hAInWeightRefIdeal : Cert.AInWeightRefIdeal.Facts] : Prop :=
  ∀ (m : (ℓ : Loc Cert.AInWeightIdeal.nD Cert.AInWeightIdeal.τ Cert.AInWeightIdeal.sig) → Buf (Elt Ideal) ℓ) (g : Dev Cert.AInWeightIdeal.nD → PrngReg)
    (m' : (ℓ : Loc Cert.AInWeightRefIdeal.nD Cert.AInWeightRefIdeal.τ Cert.AInWeightRefIdeal.sig) → Buf (Elt Ideal) ℓ) (g' : Dev Cert.AInWeightRefIdeal.nD → PrngReg), Pre_AInWeightIdeal m →
    (∀ c : Dev Cert.AInWeightIdeal.nD,
      m' ((c.tc : Thread Cert.AInWeightRefIdeal.nD Cert.AInWeightRefIdeal.τ).loc Cert.AInWeightRefIdeal.main_arg0) = m ((c.tc : Thread Cert.AInWeightIdeal.nD Cert.AInWeightIdeal.τ).loc Cert.AInWeightIdeal.main_arg0)
      ∧ m' ((c.tc : Thread Cert.AInWeightRefIdeal.nD Cert.AInWeightRefIdeal.τ).loc Cert.AInWeightRefIdeal.main_arg1) = m ((c.tc : Thread Cert.AInWeightIdeal.nD Cert.AInWeightIdeal.τ).loc Cert.AInWeightIdeal.main_arg1)
      ∧ m' ((c.tc : Thread Cert.AInWeightRefIdeal.nD Cert.AInWeightRefIdeal.τ).loc Cert.AInWeightRefIdeal.main_arg2) = m ((c.tc : Thread Cert.AInWeightIdeal.nD Cert.AInWeightIdeal.τ).loc Cert.AInWeightIdeal.main_arg2)) →
    ∃ (v0 : (c : Dev Cert.AInWeightIdeal.nD) → Buf (Elt Ideal) ((c.tc : Thread Cert.AInWeightIdeal.nD Cert.AInWeightIdeal.τ).loc Cert.AInWeightIdeal.main_v2)),
      θ_run (Cert.AInWeightIdeal.defs (F := Ideal)) (onTc (τ := Cert.AInWeightIdeal.τ) (Cert.AInWeightIdeal.main (F := Ideal))) ⟨m, fun _ => 0, g⟩ (fun r => ∀ c : Dev Cert.AInWeightIdeal.nD,
          r.2.mem ((c.tc : Thread Cert.AInWeightIdeal.nD Cert.AInWeightIdeal.τ).loc Cert.AInWeightIdeal.main_v2) = v0 c
          ∧ r.2.mem ((c.tc : Thread Cert.AInWeightIdeal.nD Cert.AInWeightIdeal.τ).loc Cert.AInWeightIdeal.main_arg0) = m ((c.tc : Thread Cert.AInWeightIdeal.nD Cert.AInWeightIdeal.τ).loc Cert.AInWeightIdeal.main_arg0)
          ∧ r.2.mem ((c.tc : Thread Cert.AInWeightIdeal.nD Cert.AInWeightIdeal.τ).loc Cert.AInWeightIdeal.main_arg1) = m ((c.tc : Thread Cert.AInWeightIdeal.nD Cert.AInWeightIdeal.τ).loc Cert.AInWeightIdeal.main_arg1)
          ∧ r.2.mem ((c.tc : Thread Cert.AInWeightIdeal.nD Cert.AInWeightIdeal.τ).loc Cert.AInWeightIdeal.main_arg2) = m ((c.tc : Thread Cert.AInWeightIdeal.nD Cert.AInWeightIdeal.τ).loc Cert.AInWeightIdeal.main_arg2))
      ∧ θ_run (Cert.AInWeightRefIdeal.defs (F := Ideal)) (onTc (τ := Cert.AInWeightRefIdeal.τ) (Cert.AInWeightRefIdeal.main (F := Ideal))) ⟨m', fun _ => 0, g'⟩ (fun r => ∀ c : Dev Cert.AInWeightRefIdeal.nD,
          r.2.mem ((c.tc : Thread Cert.AInWeightRefIdeal.nD Cert.AInWeightRefIdeal.τ).loc Cert.AInWeightRefIdeal.main_v2) = v0 c
          ∧ r.2.mem ((c.tc : Thread Cert.AInWeightRefIdeal.nD Cert.AInWeightRefIdeal.τ).loc Cert.AInWeightRefIdeal.main_arg0) = m' ((c.tc : Thread Cert.AInWeightRefIdeal.nD Cert.AInWeightRefIdeal.τ).loc Cert.AInWeightRefIdeal.main_arg0)
          ∧ r.2.mem ((c.tc : Thread Cert.AInWeightRefIdeal.nD Cert.AInWeightRefIdeal.τ).loc Cert.AInWeightRefIdeal.main_arg1) = m' ((c.tc : Thread Cert.AInWeightRefIdeal.nD Cert.AInWeightRefIdeal.τ).loc Cert.AInWeightRefIdeal.main_arg1)
          ∧ r.2.mem ((c.tc : Thread Cert.AInWeightRefIdeal.nD Cert.AInWeightRefIdeal.τ).loc Cert.AInWeightRefIdeal.main_arg2) = m' ((c.tc : Thread Cert.AInWeightRefIdeal.nD Cert.AInWeightRefIdeal.τ).loc Cert.AInWeightRefIdeal.main_arg2))

def Claim : Prop :=
  ∃ (hKernel : Cert.Kernel.Facts) (hKernelIdeal : Cert.KernelIdeal.Facts) (hReferenceIdeal : Cert.ReferenceIdeal.Facts) (hForward : Cert.Forward.Facts) (hForwardIdeal : Cert.ForwardIdeal.Facts) (hForwardRefIdeal : Cert.ForwardRefIdeal.Facts) (hMemory : Cert.Memory.Facts) (hMemoryIdeal : Cert.MemoryIdeal.Facts) (hMemoryRefIdeal : Cert.MemoryRefIdeal.Facts) (hGateForward : Cert.GateForward.Facts) (hGateForwardIdeal : Cert.GateForwardIdeal.Facts) (hGateForwardRefIdeal : Cert.GateForwardRefIdeal.Facts) (hGateRows : Cert.GateRows.Facts) (hGateRowsIdeal : Cert.GateRowsIdeal.Facts) (hGateRowsRefIdeal : Cert.GateRowsRefIdeal.Facts) (hGateWeight : Cert.GateWeight.Facts) (hGateWeightIdeal : Cert.GateWeightIdeal.Facts) (hGateWeightRefIdeal : Cert.GateWeightRefIdeal.Facts) (hDownForward : Cert.DownForward.Facts) (hDownForwardIdeal : Cert.DownForwardIdeal.Facts) (hDownForwardRefIdeal : Cert.DownForwardRefIdeal.Facts) (hDownRows : Cert.DownRows.Facts) (hDownRowsIdeal : Cert.DownRowsIdeal.Facts) (hDownRowsRefIdeal : Cert.DownRowsRefIdeal.Facts) (hDownWeight : Cert.DownWeight.Facts) (hDownWeightIdeal : Cert.DownWeightIdeal.Facts) (hDownWeightRefIdeal : Cert.DownWeightRefIdeal.Facts) (hOutForward : Cert.OutForward.Facts) (hOutForwardIdeal : Cert.OutForwardIdeal.Facts) (hOutForwardRefIdeal : Cert.OutForwardRefIdeal.Facts) (hOutRows : Cert.OutRows.Facts) (hOutRowsIdeal : Cert.OutRowsIdeal.Facts) (hOutRowsRefIdeal : Cert.OutRowsRefIdeal.Facts) (hOutWeight : Cert.OutWeight.Facts) (hOutWeightIdeal : Cert.OutWeightIdeal.Facts) (hOutWeightRefIdeal : Cert.OutWeightRefIdeal.Facts) (hDInForward : Cert.DInForward.Facts) (hDInForwardIdeal : Cert.DInForwardIdeal.Facts) (hDInForwardRefIdeal : Cert.DInForwardRefIdeal.Facts) (hDInRows : Cert.DInRows.Facts) (hDInRowsIdeal : Cert.DInRowsIdeal.Facts) (hDInRowsRefIdeal : Cert.DInRowsRefIdeal.Facts) (hDInWeight : Cert.DInWeight.Facts) (hDInWeightIdeal : Cert.DInWeightIdeal.Facts) (hDInWeightRefIdeal : Cert.DInWeightRefIdeal.Facts) (hCInForward : Cert.CInForward.Facts) (hCInForwardIdeal : Cert.CInForwardIdeal.Facts) (hCInForwardRefIdeal : Cert.CInForwardRefIdeal.Facts) (hCInRows : Cert.CInRows.Facts) (hCInRowsIdeal : Cert.CInRowsIdeal.Facts) (hCInRowsRefIdeal : Cert.CInRowsRefIdeal.Facts) (hCInWeight : Cert.CInWeight.Facts) (hCInWeightIdeal : Cert.CInWeightIdeal.Facts) (hCInWeightRefIdeal : Cert.CInWeightRefIdeal.Facts) (hBInForward : Cert.BInForward.Facts) (hBInForwardIdeal : Cert.BInForwardIdeal.Facts) (hBInForwardRefIdeal : Cert.BInForwardRefIdeal.Facts) (hBInRows : Cert.BInRows.Facts) (hBInRowsIdeal : Cert.BInRowsIdeal.Facts) (hBInRowsRefIdeal : Cert.BInRowsRefIdeal.Facts) (hBInWeight : Cert.BInWeight.Facts) (hBInWeightIdeal : Cert.BInWeightIdeal.Facts) (hBInWeightRefIdeal : Cert.BInWeightRefIdeal.Facts) (hBOutForward : Cert.BOutForward.Facts) (hBOutForwardIdeal : Cert.BOutForwardIdeal.Facts) (hBOutForwardRefIdeal : Cert.BOutForwardRefIdeal.Facts) (hBOutRows : Cert.BOutRows.Facts) (hBOutRowsIdeal : Cert.BOutRowsIdeal.Facts) (hBOutRowsRefIdeal : Cert.BOutRowsRefIdeal.Facts) (hBOutWeight : Cert.BOutWeight.Facts) (hBOutWeightIdeal : Cert.BOutWeightIdeal.Facts) (hBOutWeightRefIdeal : Cert.BOutWeightRefIdeal.Facts) (hQueryForward : Cert.QueryForward.Facts) (hQueryForwardIdeal : Cert.QueryForwardIdeal.Facts) (hQueryForwardRefIdeal : Cert.QueryForwardRefIdeal.Facts) (hQueryRows : Cert.QueryRows.Facts) (hQueryRowsIdeal : Cert.QueryRowsIdeal.Facts) (hQueryRowsRefIdeal : Cert.QueryRowsRefIdeal.Facts) (hQueryWeight : Cert.QueryWeight.Facts) (hQueryWeightIdeal : Cert.QueryWeightIdeal.Facts) (hQueryWeightRefIdeal : Cert.QueryWeightRefIdeal.Facts) (hKeyForward : Cert.KeyForward.Facts) (hKeyForwardIdeal : Cert.KeyForwardIdeal.Facts) (hKeyForwardRefIdeal : Cert.KeyForwardRefIdeal.Facts) (hKeyRows : Cert.KeyRows.Facts) (hKeyRowsIdeal : Cert.KeyRowsIdeal.Facts) (hKeyRowsRefIdeal : Cert.KeyRowsRefIdeal.Facts) (hKeyWeight : Cert.KeyWeight.Facts) (hKeyWeightIdeal : Cert.KeyWeightIdeal.Facts) (hKeyWeightRefIdeal : Cert.KeyWeightRefIdeal.Facts) (hAInForward : Cert.AInForward.Facts) (hAInForwardIdeal : Cert.AInForwardIdeal.Facts) (hAInForwardRefIdeal : Cert.AInForwardRefIdeal.Facts) (hAInRows : Cert.AInRows.Facts) (hAInRowsIdeal : Cert.AInRowsIdeal.Facts) (hAInRowsRefIdeal : Cert.AInRowsRefIdeal.Facts) (hAInWeight : Cert.AInWeight.Facts) (hAInWeightIdeal : Cert.AInWeightIdeal.Facts) (hAInWeightRefIdeal : Cert.AInWeightRefIdeal.Facts) (hPre_finite : Cert.Pre_finite.Facts) (hPre_finite_scores : Cert.Pre_finite_scores.Facts) (hPre_finite_memory : Cert.Pre_finite_memory.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Forward (hForward := hForward)
    ∧ quiescent_ForwardIdeal (hForwardIdeal := hForwardIdeal)
    ∧ quiescent_ForwardIdeal_pre_finite_scores (hForwardIdeal := hForwardIdeal) (hPre_finite_scores := hPre_finite_scores)
    ∧ quiescent_ForwardRefIdeal (hForwardRefIdeal := hForwardRefIdeal)
    ∧ quiescent_ForwardRefIdeal_pre_finite_scores (hForwardRefIdeal := hForwardRefIdeal) (hPre_finite_scores := hPre_finite_scores)
    ∧ quiescent_Memory (hMemory := hMemory)
    ∧ quiescent_MemoryIdeal (hMemoryIdeal := hMemoryIdeal)
    ∧ quiescent_MemoryIdeal_pre_finite_memory (hMemoryIdeal := hMemoryIdeal) (hPre_finite_memory := hPre_finite_memory)
    ∧ quiescent_MemoryRefIdeal (hMemoryRefIdeal := hMemoryRefIdeal)
    ∧ quiescent_MemoryRefIdeal_pre_finite_memory (hMemoryRefIdeal := hMemoryRefIdeal) (hPre_finite_memory := hPre_finite_memory)
    ∧ quiescent_GateForward (hGateForward := hGateForward)
    ∧ quiescent_GateForwardIdeal (hGateForwardIdeal := hGateForwardIdeal)
    ∧ quiescent_GateForwardRefIdeal (hGateForwardRefIdeal := hGateForwardRefIdeal)
    ∧ quiescent_GateRows (hGateRows := hGateRows)
    ∧ quiescent_GateRowsIdeal (hGateRowsIdeal := hGateRowsIdeal)
    ∧ quiescent_GateRowsRefIdeal (hGateRowsRefIdeal := hGateRowsRefIdeal)
    ∧ quiescent_GateWeight (hGateWeight := hGateWeight)
    ∧ quiescent_GateWeightIdeal (hGateWeightIdeal := hGateWeightIdeal)
    ∧ quiescent_GateWeightRefIdeal (hGateWeightRefIdeal := hGateWeightRefIdeal)
    ∧ quiescent_DownForward (hDownForward := hDownForward)
    ∧ quiescent_DownForwardIdeal (hDownForwardIdeal := hDownForwardIdeal)
    ∧ quiescent_DownForwardRefIdeal (hDownForwardRefIdeal := hDownForwardRefIdeal)
    ∧ quiescent_DownRows (hDownRows := hDownRows)
    ∧ quiescent_DownRowsIdeal (hDownRowsIdeal := hDownRowsIdeal)
    ∧ quiescent_DownRowsRefIdeal (hDownRowsRefIdeal := hDownRowsRefIdeal)
    ∧ quiescent_DownWeight (hDownWeight := hDownWeight)
    ∧ quiescent_DownWeightIdeal (hDownWeightIdeal := hDownWeightIdeal)
    ∧ quiescent_DownWeightRefIdeal (hDownWeightRefIdeal := hDownWeightRefIdeal)
    ∧ quiescent_OutForward (hOutForward := hOutForward)
    ∧ quiescent_OutForwardIdeal (hOutForwardIdeal := hOutForwardIdeal)
    ∧ quiescent_OutForwardRefIdeal (hOutForwardRefIdeal := hOutForwardRefIdeal)
    ∧ quiescent_OutRows (hOutRows := hOutRows)
    ∧ quiescent_OutRowsIdeal (hOutRowsIdeal := hOutRowsIdeal)
    ∧ quiescent_OutRowsRefIdeal (hOutRowsRefIdeal := hOutRowsRefIdeal)
    ∧ quiescent_OutWeight (hOutWeight := hOutWeight)
    ∧ quiescent_OutWeightIdeal (hOutWeightIdeal := hOutWeightIdeal)
    ∧ quiescent_OutWeightRefIdeal (hOutWeightRefIdeal := hOutWeightRefIdeal)
    ∧ quiescent_DInForward (hDInForward := hDInForward)
    ∧ quiescent_DInForwardIdeal (hDInForwardIdeal := hDInForwardIdeal)
    ∧ quiescent_DInForwardRefIdeal (hDInForwardRefIdeal := hDInForwardRefIdeal)
    ∧ quiescent_DInRows (hDInRows := hDInRows)
    ∧ quiescent_DInRowsIdeal (hDInRowsIdeal := hDInRowsIdeal)
    ∧ quiescent_DInRowsRefIdeal (hDInRowsRefIdeal := hDInRowsRefIdeal)
    ∧ quiescent_DInWeight (hDInWeight := hDInWeight)
    ∧ quiescent_DInWeightIdeal (hDInWeightIdeal := hDInWeightIdeal)
    ∧ quiescent_DInWeightRefIdeal (hDInWeightRefIdeal := hDInWeightRefIdeal)
    ∧ quiescent_CInForward (hCInForward := hCInForward)
    ∧ quiescent_CInForwardIdeal (hCInForwardIdeal := hCInForwardIdeal)
    ∧ quiescent_CInForwardRefIdeal (hCInForwardRefIdeal := hCInForwardRefIdeal)
    ∧ quiescent_CInRows (hCInRows := hCInRows)
    ∧ quiescent_CInRowsIdeal (hCInRowsIdeal := hCInRowsIdeal)
    ∧ quiescent_CInRowsRefIdeal (hCInRowsRefIdeal := hCInRowsRefIdeal)
    ∧ quiescent_CInWeight (hCInWeight := hCInWeight)
    ∧ quiescent_CInWeightIdeal (hCInWeightIdeal := hCInWeightIdeal)
    ∧ quiescent_CInWeightRefIdeal (hCInWeightRefIdeal := hCInWeightRefIdeal)
    ∧ quiescent_BInForward (hBInForward := hBInForward)
    ∧ quiescent_BInForwardIdeal (hBInForwardIdeal := hBInForwardIdeal)
    ∧ quiescent_BInForwardRefIdeal (hBInForwardRefIdeal := hBInForwardRefIdeal)
    ∧ quiescent_BInRows (hBInRows := hBInRows)
    ∧ quiescent_BInRowsIdeal (hBInRowsIdeal := hBInRowsIdeal)
    ∧ quiescent_BInRowsRefIdeal (hBInRowsRefIdeal := hBInRowsRefIdeal)
    ∧ quiescent_BInWeight (hBInWeight := hBInWeight)
    ∧ quiescent_BInWeightIdeal (hBInWeightIdeal := hBInWeightIdeal)
    ∧ quiescent_BInWeightRefIdeal (hBInWeightRefIdeal := hBInWeightRefIdeal)
    ∧ quiescent_BOutForward (hBOutForward := hBOutForward)
    ∧ quiescent_BOutForwardIdeal (hBOutForwardIdeal := hBOutForwardIdeal)
    ∧ quiescent_BOutForwardRefIdeal (hBOutForwardRefIdeal := hBOutForwardRefIdeal)
    ∧ quiescent_BOutRows (hBOutRows := hBOutRows)
    ∧ quiescent_BOutRowsIdeal (hBOutRowsIdeal := hBOutRowsIdeal)
    ∧ quiescent_BOutRowsRefIdeal (hBOutRowsRefIdeal := hBOutRowsRefIdeal)
    ∧ quiescent_BOutWeight (hBOutWeight := hBOutWeight)
    ∧ quiescent_BOutWeightIdeal (hBOutWeightIdeal := hBOutWeightIdeal)
    ∧ quiescent_BOutWeightRefIdeal (hBOutWeightRefIdeal := hBOutWeightRefIdeal)
    ∧ quiescent_QueryForward (hQueryForward := hQueryForward)
    ∧ quiescent_QueryForwardIdeal (hQueryForwardIdeal := hQueryForwardIdeal)
    ∧ quiescent_QueryForwardRefIdeal (hQueryForwardRefIdeal := hQueryForwardRefIdeal)
    ∧ quiescent_QueryRows (hQueryRows := hQueryRows)
    ∧ quiescent_QueryRowsIdeal (hQueryRowsIdeal := hQueryRowsIdeal)
    ∧ quiescent_QueryRowsRefIdeal (hQueryRowsRefIdeal := hQueryRowsRefIdeal)
    ∧ quiescent_QueryWeight (hQueryWeight := hQueryWeight)
    ∧ quiescent_QueryWeightIdeal (hQueryWeightIdeal := hQueryWeightIdeal)
    ∧ quiescent_QueryWeightRefIdeal (hQueryWeightRefIdeal := hQueryWeightRefIdeal)
    ∧ quiescent_KeyForward (hKeyForward := hKeyForward)
    ∧ quiescent_KeyForwardIdeal (hKeyForwardIdeal := hKeyForwardIdeal)
    ∧ quiescent_KeyForwardRefIdeal (hKeyForwardRefIdeal := hKeyForwardRefIdeal)
    ∧ quiescent_KeyRows (hKeyRows := hKeyRows)
    ∧ quiescent_KeyRowsIdeal (hKeyRowsIdeal := hKeyRowsIdeal)
    ∧ quiescent_KeyRowsRefIdeal (hKeyRowsRefIdeal := hKeyRowsRefIdeal)
    ∧ quiescent_KeyWeight (hKeyWeight := hKeyWeight)
    ∧ quiescent_KeyWeightIdeal (hKeyWeightIdeal := hKeyWeightIdeal)
    ∧ quiescent_KeyWeightRefIdeal (hKeyWeightRefIdeal := hKeyWeightRefIdeal)
    ∧ quiescent_AInForward (hAInForward := hAInForward)
    ∧ quiescent_AInForwardIdeal (hAInForwardIdeal := hAInForwardIdeal)
    ∧ quiescent_AInForwardRefIdeal (hAInForwardRefIdeal := hAInForwardRefIdeal)
    ∧ quiescent_AInRows (hAInRows := hAInRows)
    ∧ quiescent_AInRowsIdeal (hAInRowsIdeal := hAInRowsIdeal)
    ∧ quiescent_AInRowsRefIdeal (hAInRowsRefIdeal := hAInRowsRefIdeal)
    ∧ quiescent_AInWeight (hAInWeight := hAInWeight)
    ∧ quiescent_AInWeightIdeal (hAInWeightIdeal := hAInWeightIdeal)
    ∧ quiescent_AInWeightRefIdeal (hAInWeightRefIdeal := hAInWeightRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Forward_ForwardIdeal
    ∧ algebraic_ForwardIdeal_ForwardRefIdeal_pre_finite_scores (hForwardIdeal := hForwardIdeal) (hForwardRefIdeal := hForwardRefIdeal) (hPre_finite_scores := hPre_finite_scores)
    ∧ preserves_Memory_MemoryIdeal
    ∧ algebraic_MemoryIdeal_MemoryRefIdeal_pre_finite_memory (hMemoryIdeal := hMemoryIdeal) (hMemoryRefIdeal := hMemoryRefIdeal) (hPre_finite_memory := hPre_finite_memory)
    ∧ preserves_GateForward_GateForwardIdeal
    ∧ algebraic_GateForwardIdeal_GateForwardRefIdeal (hGateForwardIdeal := hGateForwardIdeal) (hGateForwardRefIdeal := hGateForwardRefIdeal)
    ∧ preserves_GateRows_GateRowsIdeal
    ∧ algebraic_GateRowsIdeal_GateRowsRefIdeal (hGateRowsIdeal := hGateRowsIdeal) (hGateRowsRefIdeal := hGateRowsRefIdeal)
    ∧ preserves_GateWeight_GateWeightIdeal
    ∧ algebraic_GateWeightIdeal_GateWeightRefIdeal (hGateWeightIdeal := hGateWeightIdeal) (hGateWeightRefIdeal := hGateWeightRefIdeal)
    ∧ preserves_DownForward_DownForwardIdeal
    ∧ algebraic_DownForwardIdeal_DownForwardRefIdeal (hDownForwardIdeal := hDownForwardIdeal) (hDownForwardRefIdeal := hDownForwardRefIdeal)
    ∧ preserves_DownRows_DownRowsIdeal
    ∧ algebraic_DownRowsIdeal_DownRowsRefIdeal (hDownRowsIdeal := hDownRowsIdeal) (hDownRowsRefIdeal := hDownRowsRefIdeal)
    ∧ preserves_DownWeight_DownWeightIdeal
    ∧ algebraic_DownWeightIdeal_DownWeightRefIdeal (hDownWeightIdeal := hDownWeightIdeal) (hDownWeightRefIdeal := hDownWeightRefIdeal)
    ∧ preserves_OutForward_OutForwardIdeal
    ∧ algebraic_OutForwardIdeal_OutForwardRefIdeal (hOutForwardIdeal := hOutForwardIdeal) (hOutForwardRefIdeal := hOutForwardRefIdeal)
    ∧ preserves_OutRows_OutRowsIdeal
    ∧ algebraic_OutRowsIdeal_OutRowsRefIdeal (hOutRowsIdeal := hOutRowsIdeal) (hOutRowsRefIdeal := hOutRowsRefIdeal)
    ∧ preserves_OutWeight_OutWeightIdeal
    ∧ algebraic_OutWeightIdeal_OutWeightRefIdeal (hOutWeightIdeal := hOutWeightIdeal) (hOutWeightRefIdeal := hOutWeightRefIdeal)
    ∧ preserves_DInForward_DInForwardIdeal
    ∧ algebraic_DInForwardIdeal_DInForwardRefIdeal (hDInForwardIdeal := hDInForwardIdeal) (hDInForwardRefIdeal := hDInForwardRefIdeal)
    ∧ preserves_DInRows_DInRowsIdeal
    ∧ algebraic_DInRowsIdeal_DInRowsRefIdeal (hDInRowsIdeal := hDInRowsIdeal) (hDInRowsRefIdeal := hDInRowsRefIdeal)
    ∧ preserves_DInWeight_DInWeightIdeal
    ∧ algebraic_DInWeightIdeal_DInWeightRefIdeal (hDInWeightIdeal := hDInWeightIdeal) (hDInWeightRefIdeal := hDInWeightRefIdeal)
    ∧ preserves_CInForward_CInForwardIdeal
    ∧ algebraic_CInForwardIdeal_CInForwardRefIdeal (hCInForwardIdeal := hCInForwardIdeal) (hCInForwardRefIdeal := hCInForwardRefIdeal)
    ∧ preserves_CInRows_CInRowsIdeal
    ∧ algebraic_CInRowsIdeal_CInRowsRefIdeal (hCInRowsIdeal := hCInRowsIdeal) (hCInRowsRefIdeal := hCInRowsRefIdeal)
    ∧ preserves_CInWeight_CInWeightIdeal
    ∧ algebraic_CInWeightIdeal_CInWeightRefIdeal (hCInWeightIdeal := hCInWeightIdeal) (hCInWeightRefIdeal := hCInWeightRefIdeal)
    ∧ preserves_BInForward_BInForwardIdeal
    ∧ algebraic_BInForwardIdeal_BInForwardRefIdeal (hBInForwardIdeal := hBInForwardIdeal) (hBInForwardRefIdeal := hBInForwardRefIdeal)
    ∧ preserves_BInRows_BInRowsIdeal
    ∧ algebraic_BInRowsIdeal_BInRowsRefIdeal (hBInRowsIdeal := hBInRowsIdeal) (hBInRowsRefIdeal := hBInRowsRefIdeal)
    ∧ preserves_BInWeight_BInWeightIdeal
    ∧ algebraic_BInWeightIdeal_BInWeightRefIdeal (hBInWeightIdeal := hBInWeightIdeal) (hBInWeightRefIdeal := hBInWeightRefIdeal)
    ∧ preserves_BOutForward_BOutForwardIdeal
    ∧ algebraic_BOutForwardIdeal_BOutForwardRefIdeal (hBOutForwardIdeal := hBOutForwardIdeal) (hBOutForwardRefIdeal := hBOutForwardRefIdeal)
    ∧ preserves_BOutRows_BOutRowsIdeal
    ∧ algebraic_BOutRowsIdeal_BOutRowsRefIdeal (hBOutRowsIdeal := hBOutRowsIdeal) (hBOutRowsRefIdeal := hBOutRowsRefIdeal)
    ∧ preserves_BOutWeight_BOutWeightIdeal
    ∧ algebraic_BOutWeightIdeal_BOutWeightRefIdeal (hBOutWeightIdeal := hBOutWeightIdeal) (hBOutWeightRefIdeal := hBOutWeightRefIdeal)
    ∧ preserves_QueryForward_QueryForwardIdeal
    ∧ algebraic_QueryForwardIdeal_QueryForwardRefIdeal (hQueryForwardIdeal := hQueryForwardIdeal) (hQueryForwardRefIdeal := hQueryForwardRefIdeal)
    ∧ preserves_QueryRows_QueryRowsIdeal
    ∧ algebraic_QueryRowsIdeal_QueryRowsRefIdeal (hQueryRowsIdeal := hQueryRowsIdeal) (hQueryRowsRefIdeal := hQueryRowsRefIdeal)
    ∧ preserves_QueryWeight_QueryWeightIdeal
    ∧ algebraic_QueryWeightIdeal_QueryWeightRefIdeal (hQueryWeightIdeal := hQueryWeightIdeal) (hQueryWeightRefIdeal := hQueryWeightRefIdeal)
    ∧ preserves_KeyForward_KeyForwardIdeal
    ∧ algebraic_KeyForwardIdeal_KeyForwardRefIdeal (hKeyForwardIdeal := hKeyForwardIdeal) (hKeyForwardRefIdeal := hKeyForwardRefIdeal)
    ∧ preserves_KeyRows_KeyRowsIdeal
    ∧ algebraic_KeyRowsIdeal_KeyRowsRefIdeal (hKeyRowsIdeal := hKeyRowsIdeal) (hKeyRowsRefIdeal := hKeyRowsRefIdeal)
    ∧ preserves_KeyWeight_KeyWeightIdeal
    ∧ algebraic_KeyWeightIdeal_KeyWeightRefIdeal (hKeyWeightIdeal := hKeyWeightIdeal) (hKeyWeightRefIdeal := hKeyWeightRefIdeal)
    ∧ preserves_AInForward_AInForwardIdeal
    ∧ algebraic_AInForwardIdeal_AInForwardRefIdeal (hAInForwardIdeal := hAInForwardIdeal) (hAInForwardRefIdeal := hAInForwardRefIdeal)
    ∧ preserves_AInRows_AInRowsIdeal
    ∧ algebraic_AInRowsIdeal_AInRowsRefIdeal (hAInRowsIdeal := hAInRowsIdeal) (hAInRowsRefIdeal := hAInRowsRefIdeal)
    ∧ preserves_AInWeight_AInWeightIdeal
    ∧ algebraic_AInWeightIdeal_AInWeightRefIdeal (hAInWeightIdeal := hAInWeightIdeal) (hAInWeightRefIdeal := hAInWeightRefIdeal)
-- ==== Pre_finite.lean ====
abbrev S12x16384x96 : Shape := ⟨3, ![12, 16384, 96]⟩
abbrev S12x16384x64 : Shape := ⟨3, ![12, 16384, 64]⟩
abbrev S_ : Shape := ⟨0, ![]⟩

class Facts : Prop where
  bitsLt_bf16_f32 : FTy.bits .bf16 < FTy.bits .f32
  bcast_S_S12x16384x96 : S_.BroadcastsInDim S12x16384x96 (![] : Fin 0 → Fin S12x16384x96.rank)
  reducesTo_S12x16384x96_S_d0_1_2 : S12x16384x96.ReducesTo [0, 1, 2] S_
  h_S_ : 0 < S_.numel
  bcast_S_S12x16384x64 : S_.BroadcastsInDim S12x16384x64 (![] : Fin 0 → Fin S12x16384x64.rank)
  reducesTo_S12x16384x64_S_d0_1_2 : S12x16384x64.ReducesTo [0, 1, 2] S_

variable [Facts]

def fn_part1 {F : FTy → Type} [FloatOps F] (main_v16 : IVec S_ 1) (main_v17 : FVec F S12x16384x64 .f32) : IVec S_ 1 :=
  let main_v18 : FVec F S12x16384x64 .f32 := Host.absf main_v17
  let main_cst_4 : FVec F S_ .f32 := constant S_ .f32 0x7F800000#32
  let main_v19 : FVec F S12x16384x64 .f32 := broadcastInDim S12x16384x64 ![] bcast_S_S12x16384x64 main_cst_4
  let main_v20 : IVec S12x16384x64 1 := cmpf .olt main_v18 main_v19
  let main_c_5 : IVec S_ 1 := constantI S_ 1 1#1
  let main_v21 : IVec S_ 1 := (fun x v => Host.reduce IntOp.andi x v reducesTo_S12x16384x64_S_d0_1_2 h_S_) main_v20 main_c_5
  let main_v22 : IVec S_ 1 := andi main_v16 main_v21
  main_v22

def fn {F : FTy → Type} [FloatOps F] (main_arg0 : FVec F S12x16384x96 .bf16) (main_arg1 : FVec F S12x16384x96 .bf16) (main_arg2 : FVec F S12x16384x64 .bf16) (main_arg3 : FVec F S12x16384x64 .bf16) : IVec S_ 1 :=
  let main_v0 : FVec F S12x16384x96 .f32 := (extf .f32 · bitsLt_bf16_f32) main_arg0
  let main_v1 : FVec F S12x16384x96 .f32 := Host.absf main_v0
  let main_cst : FVec F S_ .f32 := constant S_ .f32 0x7F800000#32
  let main_v2 : FVec F S12x16384x96 .f32 := broadcastInDim S12x16384x96 ![] bcast_S_S12x16384x96 main_cst
  let main_v3 : IVec S12x16384x96 1 := cmpf .olt main_v1 main_v2
  let main_c : IVec S_ 1 := constantI S_ 1 1#1
  let main_v4 : IVec S_ 1 := (fun x v => Host.reduce IntOp.andi x v reducesTo_S12x16384x96_S_d0_1_2 h_S_) main_v3 main_c
  let main_v5 : FVec F S12x16384x96 .f32 := (extf .f32 · bitsLt_bf16_f32) main_arg1
  let main_v6 : FVec F S12x16384x96 .f32 := Host.absf main_v5
  let main_cst_0 : FVec F S_ .f32 := constant S_ .f32 0x7F800000#32
  let main_v7 : FVec F S12x16384x96 .f32 := broadcastInDim S12x16384x96 ![] bcast_S_S12x16384x96 main_cst_0
  let main_v8 : IVec S12x16384x96 1 := cmpf .olt main_v6 main_v7
  let main_c_1 : IVec S_ 1 := constantI S_ 1 1#1
  let main_v9 : IVec S_ 1 := (fun x v => Host.reduce IntOp.andi x v reducesTo_S12x16384x96_S_d0_1_2 h_S_) main_v8 main_c_1
  let main_v10 : IVec S_ 1 := andi main_v4 main_v9
  let main_v11 : FVec F S12x16384x64 .f32 := (extf .f32 · bitsLt_bf16_f32) main_arg2
  let main_v12 : FVec F S12x16384x64 .f32 := Host.absf main_v11
  let main_cst_2 : FVec F S_ .f32 := constant S_ .f32 0x7F800000#32
  let main_v13 : FVec F S12x16384x64 .f32 := broadcastInDim S12x16384x64 ![] bcast_S_S12x16384x64 main_cst_2
  let main_v14 : IVec S12x16384x64 1 := cmpf .olt main_v12 main_v13
  let main_c_3 : IVec S_ 1 := constantI S_ 1 1#1
  let main_v15 : IVec S_ 1 := (fun x v => Host.reduce IntOp.andi x v reducesTo_S12x16384x64_S_d0_1_2 h_S_) main_v14 main_c_3
  let main_v16 : IVec S_ 1 := andi main_v10 main_v15
  let main_v17 : FVec F S12x16384x64 .f32 := (extf .f32 · bitsLt_bf16_f32) main_arg3
  fn_part1 (F := F) main_v16 main_v17
-- ==== Pre_finite_memory.lean ====
abbrev S4x16384x64 : Shape := ⟨3, ![4, 16384, 64]⟩
abbrev S4x256x64 : Shape := ⟨3, ![4, 256, 64]⟩
abbrev S_ : Shape := ⟨0, ![]⟩

class Facts : Prop where
  bitsLt_bf16_f32 : FTy.bits .bf16 < FTy.bits .f32
  bcast_S_S4x16384x64 : S_.BroadcastsInDim S4x16384x64 (![] : Fin 0 → Fin S4x16384x64.rank)
  reducesTo_S4x16384x64_S_d0_1_2 : S4x16384x64.ReducesTo [0, 1, 2] S_
  h_S_ : 0 < S_.numel
  bcast_S_S4x256x64 : S_.BroadcastsInDim S4x256x64 (![] : Fin 0 → Fin S4x256x64.rank)
  reducesTo_S4x256x64_S_d0_1_2 : S4x256x64.ReducesTo [0, 1, 2] S_

variable [Facts]

def fn {F : FTy → Type} [FloatOps F] (main_arg0 : FVec F S4x16384x64 .bf16) (main_arg1 : FVec F S4x256x64 .bf16) (main_arg2 : FVec F S4x256x64 .bf16) : IVec S_ 1 :=
  let main_v0 : FVec F S4x16384x64 .f32 := (extf .f32 · bitsLt_bf16_f32) main_arg0
  let main_v1 : FVec F S4x16384x64 .f32 := Host.absf main_v0
  let main_cst : FVec F S_ .f32 := constant S_ .f32 0x7F800000#32
  let main_v2 : FVec F S4x16384x64 .f32 := broadcastInDim S4x16384x64 ![] bcast_S_S4x16384x64 main_cst
  let main_v3 : IVec S4x16384x64 1 := cmpf .olt main_v1 main_v2
  let main_c : IVec S_ 1 := constantI S_ 1 1#1
  let main_v4 : IVec S_ 1 := (fun x v => Host.reduce IntOp.andi x v reducesTo_S4x16384x64_S_d0_1_2 h_S_) main_v3 main_c
  let main_v5 : FVec F S4x256x64 .f32 := (extf .f32 · bitsLt_bf16_f32) main_arg1
  let main_v6 : FVec F S4x256x64 .f32 := Host.absf main_v5
  let main_cst_0 : FVec F S_ .f32 := constant S_ .f32 0x7F800000#32
  let main_v7 : FVec F S4x256x64 .f32 := broadcastInDim S4x256x64 ![] bcast_S_S4x256x64 main_cst_0
  let main_v8 : IVec S4x256x64 1 := cmpf .olt main_v6 main_v7
  let main_c_1 : IVec S_ 1 := constantI S_ 1 1#1
  let main_v9 : IVec S_ 1 := (fun x v => Host.reduce IntOp.andi x v reducesTo_S4x256x64_S_d0_1_2 h_S_) main_v8 main_c_1
  let main_v10 : IVec S_ 1 := andi main_v4 main_v9
  main_v10
-- ==== Pre_finite_scores.lean ====
abbrev S12x16384x96 : Shape := ⟨3, ![12, 16384, 96]⟩
abbrev S12x16384x64 : Shape := ⟨3, ![12, 16384, 64]⟩
abbrev S_ : Shape := ⟨0, ![]⟩

class Facts : Prop where
  bitsLt_bf16_f32 : FTy.bits .bf16 < FTy.bits .f32
  bcast_S_S12x16384x96 : S_.BroadcastsInDim S12x16384x96 (![] : Fin 0 → Fin S12x16384x96.rank)
  reducesTo_S12x16384x96_S_d0_1_2 : S12x16384x96.ReducesTo [0, 1, 2] S_
  h_S_ : 0 < S_.numel

variable [Facts]

def fn {F : FTy → Type} [FloatOps F] (main_arg0 : FVec F S12x16384x96 .bf16) (main_arg1 : FVec F S12x16384x96 .bf16) (main_arg2 : FVec F S12x16384x64 .bf16) : IVec S_ 1 :=
  let main_v0 : FVec F S12x16384x96 .f32 := (extf .f32 · bitsLt_bf16_f32) main_arg0
  let main_v1 : FVec F S12x16384x96 .f32 := Host.absf main_v0
  let main_cst : FVec F S_ .f32 := constant S_ .f32 0x7F800000#32
  let main_v2 : FVec F S12x16384x96 .f32 := broadcastInDim S12x16384x96 ![] bcast_S_S12x16384x96 main_cst
  let main_v3 : IVec S12x16384x96 1 := cmpf .olt main_v1 main_v2
  let main_c : IVec S_ 1 := constantI S_ 1 1#1
  let main_v4 : IVec S_ 1 := (fun x v => Host.reduce IntOp.andi x v reducesTo_S12x16384x96_S_d0_1_2 h_S_) main_v3 main_c
  let main_v5 : FVec F S12x16384x96 .f32 := (extf .f32 · bitsLt_bf16_f32) main_arg1
  let main_v6 : FVec F S12x16384x96 .f32 := Host.absf main_v5
  let main_cst_0 : FVec F S_ .f32 := constant S_ .f32 0x7F800000#32
  let main_v7 : FVec F S12x16384x96 .f32 := broadcastInDim S12x16384x96 ![] bcast_S_S12x16384x96 main_cst_0
  let main_v8 : IVec S12x16384x96 1 := cmpf .olt main_v6 main_v7
  let main_c_1 : IVec S_ 1 := constantI S_ 1 1#1
  let main_v9 : IVec S_ 1 := (fun x v => Host.reduce IntOp.andi x v reducesTo_S12x16384x96_S_d0_1_2 h_S_) main_v8 main_c_1
  let main_v10 : IVec S_ 1 := andi main_v4 main_v9
  main_v10
-- ==== Kernel.lean ====
abbrev S12x16384x96 : Shape := ⟨3, ![12, 16384, 96]⟩
abbrev S12x16384x64 : Shape := ⟨3, ![12, 16384, 64]⟩
abbrev S12x16384x16384 : Shape := ⟨3, ![12, 16384, 16384]⟩
abbrev S_ : Shape := ⟨0, ![]⟩
abbrev S12x16384 : Shape := ⟨2, ![12, 16384]⟩
abbrev S12x16384x1 : Shape := ⟨3, ![12, 16384, 1]⟩
abbrev S12x1x16384 : Shape := ⟨3, ![12, 1, 16384]⟩
abbrev S1x2048x96 : Shape := ⟨3, ![1, 2048, 96]⟩
abbrev S1x2048x64 : Shape := ⟨3, ![1, 2048, 64]⟩
abbrev S1x1x2048 : Shape := ⟨3, ![1, 1, 2048]⟩
abbrev S1x16384x96 : Shape := ⟨3, ![1, 16384, 96]⟩
abbrev S16384x96 : Shape := ⟨2, ![16384, 96]⟩
abbrev S2048x96 : Shape := ⟨2, ![2048, 96]⟩
abbrev S2048x64 : Shape := ⟨2, ![2048, 64]⟩
abbrev S1x512x96 : Shape := ⟨3, ![1, 512, 96]⟩
abbrev S512x96 : Shape := ⟨2, ![512, 96]⟩
abbrev S1x512x64 : Shape := ⟨3, ![1, 512, 64]⟩
abbrev S512x64 : Shape := ⟨2, ![512, 64]⟩
abbrev S2048x512 : Shape := ⟨2, ![2048, 512]⟩
abbrev S1x1x512 : Shape := ⟨3, ![1, 1, 512]⟩
abbrev S1x512 : Shape := ⟨2, ![1, 512]⟩

abbrev nBuf : Space → Nat
  | .hbm => 59
  | .vmem => 21
  | .smem => 0
  | _ => 0

abbrev bufTy : (tb : Table) → Fin (tcTables nBuf tb) → BufTy
  | .hbm, ⟨0, _⟩ => ⟨S12x16384x96, .bf16⟩
  | .hbm, ⟨1, _⟩ => ⟨S12x16384x96, .bf16⟩
  | .hbm, ⟨2, _⟩ => ⟨S12x16384x64, .bf16⟩
  | .hbm, ⟨3, _⟩ => ⟨S12x16384x64, .bf16⟩
  | .hbm, ⟨4, _⟩ => ⟨S12x16384x16384, .f32⟩
  | .hbm, ⟨5, _⟩ => ⟨S12x16384x16384, .bf16⟩
  | .hbm, ⟨6, _⟩ => ⟨S12x16384x16384, .f32⟩
  | .hbm, ⟨7, _⟩ => ⟨S_, .f32⟩
  | .hbm, ⟨8, _⟩ => ⟨S_, .f32⟩
  | .hbm, ⟨9, _⟩ => ⟨S12x16384x16384, .f32⟩
  | .hbm, ⟨10, _⟩ => ⟨S12x16384x16384, .f32⟩
  | .hbm, ⟨11, _⟩ => ⟨S_, .f32⟩
  | .hbm, ⟨12, _⟩ => ⟨S12x16384, .f32⟩
  | .hbm, ⟨13, _⟩ => ⟨S12x16384x1, .f32⟩
  | .hbm, ⟨14, _⟩ => ⟨S12x16384x16384, .f32⟩
  | .hbm, ⟨15, _⟩ => ⟨S12x16384x16384, .f32⟩
  | .hbm, ⟨16, _⟩ => ⟨S12x16384x16384, .f32⟩
  | .hbm, ⟨17, _⟩ => ⟨S_, .f32⟩
  | .hbm, ⟨18, _⟩ => ⟨S12x16384, .f32⟩
  | .hbm, ⟨19, _⟩ => ⟨S12x16384, .f32⟩
  | .hbm, ⟨20, _⟩ => ⟨S12x16384, .f32⟩
  | .hbm, ⟨21, _⟩ => ⟨S_, .f32⟩
  | .hbm, ⟨22, _⟩ => ⟨S_, .f32⟩
  | .hbm, ⟨23, _⟩ => ⟨S12x16384, .f32⟩
  | .hbm, ⟨24, _⟩ => ⟨S12x16384, .f32⟩
  | .hbm, ⟨25, _⟩ => ⟨S12x16384x64, .f32⟩
  | .hbm, ⟨26, _⟩ => ⟨S12x16384x16384, .f32⟩
  | .hbm, ⟨27, _⟩ => ⟨S12x16384x16384, .bf16⟩
  | .hbm, ⟨28, _⟩ => ⟨S12x16384x16384, .f32⟩
  | .hbm, ⟨29, _⟩ => ⟨S_, .f32⟩
  | .hbm, ⟨30, _⟩ => ⟨S_, .f32⟩
  | .hbm, ⟨31, _⟩ => ⟨S12x16384x16384, .f32⟩
  | .hbm, ⟨32, _⟩ => ⟨S12x16384x16384, .f32⟩
  | .hbm, ⟨33, _⟩ => ⟨S_, .f32⟩
  | .hbm, ⟨34, _⟩ => ⟨S12x16384, .f32⟩
  | .hbm, ⟨35, _⟩ => ⟨S_, .f32⟩
  | .hbm, ⟨36, _⟩ => ⟨S12x16384, .f32⟩
  | .hbm, ⟨37, _⟩ => ⟨S12x16384, .f32⟩
  | .hbm, ⟨38, _⟩ => ⟨S12x16384x1, .f32⟩
  | .hbm, ⟨39, _⟩ => ⟨S12x16384x16384, .f32⟩
  | .hbm, ⟨40, _⟩ => ⟨S12x16384x16384, .f32⟩
  | .hbm, ⟨41, _⟩ => ⟨S12x16384x16384, .f32⟩
  | .hbm, ⟨42, _⟩ => ⟨S_, .f32⟩
  | .hbm, ⟨43, _⟩ => ⟨S12x16384, .f32⟩
  | .hbm, ⟨44, _⟩ => ⟨S12x16384x1, .f32⟩
  | .hbm, ⟨45, _⟩ => ⟨S12x16384x16384, .f32⟩
  | .hbm, ⟨46, _⟩ => ⟨S12x16384x16384, .f32⟩
  | .hbm, ⟨47, _⟩ => ⟨S12x16384x16384, .bf16⟩
  | .hbm, ⟨48, _⟩ => ⟨S12x16384x64, .f32⟩
  | .hbm, ⟨49, _⟩ => ⟨S12x16384x64, .bf16⟩
  | .hbm, ⟨50, _⟩ => ⟨S12x16384x64, .f32⟩
  | .hbm, ⟨51, _⟩ => ⟨S12x16384x64, .f32⟩
  | .hbm, ⟨52, _⟩ => ⟨S_, .f32⟩
  | .hbm, ⟨53, _⟩ => ⟨S12x16384, .f32⟩
  | .hbm, ⟨54, _⟩ => ⟨S12x1x16384, .f32⟩
  | .hbm, ⟨55, _⟩ => ⟨S12x1x16384, .f32⟩
  | .hbm, ⟨56, _⟩ => ⟨S12x16384x96, .bf16⟩
  | .hbm, ⟨57, _⟩ => ⟨S12x16384x96, .bf16⟩
  | .hbm, ⟨58, _⟩ => ⟨S12x16384x64, .bf16⟩
  | .local _ .vmem, ⟨0, _⟩ => ⟨S1x2048x96, .bf16⟩
  | .local _ .vmem, ⟨1, _⟩ => ⟨S1x2048x96, .bf16⟩
  | .local _ .vmem, ⟨2, _⟩ => ⟨S1x2048x96, .bf16⟩
  | .local _ .vmem, ⟨3, _⟩ => ⟨S1x2048x96, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x16384x96, .bf16⟩
  | .local _ .vmem, ⟨13, _⟩ => ⟨S1x16384x96, .bf16⟩
  | .local _ .vmem, ⟨14, _⟩ => ⟨S1x2048x96, .bf16⟩
  | .local _ .vmem, ⟨15, _⟩ => ⟨S1x2048x96, .bf16⟩
  | .local _ .vmem, ⟨16, _⟩ => ⟨S1x2048x64, .bf16⟩
  | .local _ .vmem, ⟨17, _⟩ => ⟨S1x2048x64, .bf16⟩
  | .local _ .vmem, ⟨18, _⟩ => ⟨S16384x96, .f32⟩
  | .local _ .vmem, ⟨19, _⟩ => ⟨S2048x96, .f32⟩
  | .local _ .vmem, ⟨20, _⟩ => ⟨S2048x64, .f32⟩
  | _, _ => ⟨S12x16384x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43_0 : Ref sig .tc := ⟨.hbm, 56, rfl⟩
abbrev main_v43_1 : Ref sig .tc := ⟨.hbm, 57, rfl⟩
abbrev main_v43_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![12, 8, 8], ![false, false, false]⟩

def k0_mult1 (i : grid0.Coords) : BitVec 32 :=
  let arg2 : BitVec 32 := BitVec.ofNat 32 (i 2).val
  let c2048_i32 : BitVec 32 := 2048#32
  let v42 : BitVec 32 := Scalar.muli arg2 c2048_i32
  let c0_i32_32 : BitVec 32 := 0#32
  let v43 : BitVec 32 := Scalar.addi v42 c0_i32_32
  v43
def k0_off1 (i : grid0.Coords) (c0_i32_32 : BitVec 32) : Fin 2 → Nat :=
  let arg2 : BitVec 32 := BitVec.ofNat 32 (i 2).val
  let c2048_i32 : BitVec 32 := 2048#32
  let v42 : BitVec 32 := Scalar.muli arg2 c2048_i32
  let v43 : BitVec 32 := Scalar.addi v42 c0_i32_32
  let v44 : BitVec 32 := v43
  let v45 : Index := Scalar.indexCast v44
  let c0_33 : Index := 0#32
  ![v45.toNat, 0]
def k0_mult2 (i : grid0.Coords) : BitVec 32 :=
  let arg2 : BitVec 32 := BitVec.ofNat 32 (i 2).val
  let c2048_i32_59 : BitVec 32 := 2048#32
  let v83 : BitVec 32 := Scalar.muli arg2 c2048_i32_59
  let c512_i32 : BitVec 32 := 512#32
  let v84 : BitVec 32 := Scalar.addi v83 c512_i32
  v84
def k0_mult3 (i : grid0.Coords) : BitVec 32 :=
  let arg2 : BitVec 32 := BitVec.ofNat 32 (i 2).val
  let c2048_i32_86 : BitVec 32 := 2048#32
  let v124 : BitVec 32 := Scalar.muli arg2 c2048_i32_86
  let c1024_i32 : BitVec 32 := 1024#32
  let v125 : BitVec 32 := Scalar.addi v124 c1024_i32
  v125
def k0_mult4 (i : grid0.Coords) : BitVec 32 :=
  let arg2 : BitVec 32 := BitVec.ofNat 32 (i 2).val
  let c2048_i32_113 : BitVec 32 := 2048#32
  let v165 : BitVec 32 := Scalar.muli arg2 c2048_i32_113
  let c1536_i32 : BitVec 32 := 1536#32
  let v166 : BitVec 32 := Scalar.addi v165 c1536_i32
  v166
def k0_cond4 (i : grid0.Coords) : BitVec 1 :=
  let arg1 : BitVec 32 := BitVec.ofNat 32 (i 1).val
  let c7_i32_118 : BitVec 32 := 7#32
  let v179 : BitVec 1 := Scalar.cmpi .eq arg1 c7_i32_118
  let arg2 : BitVec 32 := BitVec.ofNat 32 (i 2).val
  let c7_i32_119 : BitVec 32 := 7#32
  let v180 : BitVec 1 := Scalar.cmpi .eq arg2 c7_i32_119
  let v181 : BitVec 1 := Scalar.andi v179 v180
  let v182 : BitVec 32 := Scalar.extui v181
  let c0_i32_120 : BitVec 32 := 0#32
  let v183 : BitVec 1 := Scalar.cmpi .ne v182 c0_i32_120
  v183

def k0_cond3 (i : grid0.Coords) : BitVec 1 :=
  let arg2 : BitVec 32 := BitVec.ofNat 32 (i 2).val
  let c7_i32 : BitVec 32 := 7#32
  let v176 : BitVec 1 := Scalar.cmpi .eq arg2 c7_i32
  let v177 : BitVec 32 := Scalar.extui v176
  let c0_i32_117 : BitVec 32 := 0#32
  let v178 : BitVec 1 := Scalar.cmpi .ne v177 c0_i32_117
  v178

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x16384x96 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x2048x96 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2048x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S12x16384x96 : Shape := ⟨3, ![12, 16384, 96]⟩
abbrev S12x16384x64 : Shape := ⟨3, ![12, 16384, 64]⟩
abbrev S12x16384x16384 : Shape := ⟨3, ![12, 16384, 16384]⟩
abbrev S_ : Shape := ⟨0, ![]⟩
abbrev S12x16384 : Shape := ⟨2, ![12, 16384]⟩
abbrev S12x16384x1 : Shape := ⟨3, ![12, 16384, 1]⟩
abbrev S12x64x16384 : Shape := ⟨3, ![12, 64, 16384]⟩

abbrev nBuf : Space → Nat
  | .hbm => 81
  | .vmem => 0
  | .smem => 0
  | _ => 0

abbrev bufTy : (tb : Table) → Fin (tcTables nBuf tb) → BufTy
  | .hbm, ⟨0, _⟩ => ⟨S12x16384x96, .bf16⟩
  | .hbm, ⟨1, _⟩ => ⟨S12x16384x96, .bf16⟩
  | .hbm, ⟨2, _⟩ => ⟨S12x16384x64, .bf16⟩
  | .hbm, ⟨3, _⟩ => ⟨S12x16384x64, .bf16⟩
  | .hbm, ⟨4, _⟩ => ⟨S12x16384x16384, .f32⟩
  | .hbm, ⟨5, _⟩ => ⟨S12x16384x16384, .bf16⟩
  | .hbm, ⟨6, _⟩ => ⟨S12x16384x16384, .f32⟩
  | .hbm, ⟨7, _⟩ => ⟨S_, .f32⟩
  | .hbm, ⟨8, _⟩ => ⟨S_, .f32⟩
  | .hbm, ⟨9, _⟩ => ⟨S12x16384x16384, .f32⟩
  | .hbm, ⟨10, _⟩ => ⟨S12x16384x16384, .f32⟩
  | .hbm, ⟨11, _⟩ => ⟨S_, .f32⟩
  | .hbm, ⟨12, _⟩ => ⟨S12x16384, .f32⟩
  | .hbm, ⟨13, _⟩ => ⟨S12x16384x1, .f32⟩
  | .hbm, ⟨14, _⟩ => ⟨S12x16384x16384, .f32⟩
  | .hbm, ⟨15, _⟩ => ⟨S12x16384x16384, .i1⟩
  | .hbm, ⟨16, _⟩ => ⟨S12x16384x16384, .f32⟩
  | .hbm, ⟨17, _⟩ => ⟨S_, .f32⟩
  | .hbm, ⟨18, _⟩ => ⟨S12x16384, .f32⟩
  | .hbm, ⟨19, _⟩ => ⟨S_, .f32⟩
  | .hbm, ⟨20, _⟩ => ⟨S12x16384, .f32⟩
  | .hbm, ⟨21, _⟩ => ⟨S12x16384, .f32⟩
  | .hbm, ⟨22, _⟩ => ⟨S_, .f32⟩
  | .hbm, ⟨23, _⟩ => ⟨S12x16384, .f32⟩
  | .hbm, ⟨24, _⟩ => ⟨S12x16384, .i1⟩
  | .hbm, ⟨25, _⟩ => ⟨S_, .f32⟩
  | .hbm, ⟨26, _⟩ => ⟨S12x16384, .f32⟩
  | .hbm, ⟨27, _⟩ => ⟨S12x16384, .i1⟩
  | .hbm, ⟨28, _⟩ => ⟨S_, .f32⟩
  | .hbm, ⟨29, _⟩ => ⟨S12x16384, .f32⟩
  | .hbm, ⟨30, _⟩ => ⟨S_, .f32⟩
  | .hbm, ⟨31, _⟩ => ⟨S12x16384, .f32⟩
  | .hbm, ⟨32, _⟩ => ⟨S_, .f32⟩
  | .hbm, ⟨33, _⟩ => ⟨S12x16384, .f32⟩
  | .hbm, ⟨34, _⟩ => ⟨S12x16384, .f32⟩
  | .hbm, ⟨35, _⟩ => ⟨S12x16384, .f32⟩
  | .hbm, ⟨36, _⟩ => ⟨S12x16384x1, .f32⟩
  | .hbm, ⟨37, _⟩ => ⟨S12x16384x16384, .f32⟩
  | .hbm, ⟨38, _⟩ => ⟨S12x16384x16384, .f32⟩
  | .hbm, ⟨39, _⟩ => ⟨S12x16384x16384, .f32⟩
  | .hbm, ⟨40, _⟩ => ⟨S_, .f32⟩
  | .hbm, ⟨41, _⟩ => ⟨S12x16384, .f32⟩
  | .hbm, ⟨42, _⟩ => ⟨S12x16384x1, .f32⟩
  | .hbm, ⟨43, _⟩ => ⟨S12x16384x16384, .f32⟩
  | .hbm, ⟨44, _⟩ => ⟨S12x16384x16384, .f32⟩
  | .hbm, ⟨45, _⟩ => ⟨S12x16384x1, .f32⟩
  | .hbm, ⟨46, _⟩ => ⟨S_, .f32⟩
  | .hbm, ⟨47, _⟩ => ⟨S12x16384x1, .f32⟩
  | .hbm, ⟨48, _⟩ => ⟨S12x16384x1, .f32⟩
  | .hbm, ⟨49, _⟩ => ⟨S12x16384x16384, .bf16⟩
  | .hbm, ⟨50, _⟩ => ⟨S12x16384x64, .f32⟩
  | .hbm, ⟨51, _⟩ => ⟨S12x16384x64, .bf16⟩
  | .hbm, ⟨52, _⟩ => ⟨S12x16384x64, .f32⟩
  | .hbm, ⟨53, _⟩ => ⟨S12x64x16384, .f32⟩
  | .hbm, ⟨54, _⟩ => ⟨S12x16384x64, .f32⟩
  | .hbm, ⟨55, _⟩ => ⟨S12x16384x64, .bf16⟩
  | .hbm, ⟨56, _⟩ => ⟨S12x16384x16384, .f32⟩
  | .hbm, ⟨57, _⟩ => ⟨S12x16384x16384, .bf16⟩
  | .hbm, ⟨58, _⟩ => ⟨S12x16384x16384, .f32⟩
  | .hbm, ⟨59, _⟩ => ⟨S12x16384x16384, .f32⟩
  | .hbm, ⟨60, _⟩ => ⟨S12x16384x16384, .f32⟩
  | .hbm, ⟨61, _⟩ => ⟨S12x16384x16384, .f32⟩
  | .hbm, ⟨62, _⟩ => ⟨S_, .f32⟩
  | .hbm, ⟨63, _⟩ => ⟨S12x16384, .f32⟩
  | .hbm, ⟨64, _⟩ => ⟨S12x16384x1, .f32⟩
  | .hbm, ⟨65, _⟩ => ⟨S12x16384x1, .f32⟩
  | .hbm, ⟨66, _⟩ => ⟨S12x16384x16384, .f32⟩
  | .hbm, ⟨67, _⟩ => ⟨S12x16384x16384, .f32⟩
  | .hbm, ⟨68, _⟩ => ⟨S_, .f32⟩
  | .hbm, ⟨69, _⟩ => ⟨S12x16384, .f32⟩
  | .hbm, ⟨70, _⟩ => ⟨S12x16384x16384, .f32⟩
  | .hbm, ⟨71, _⟩ => ⟨S12x16384x16384, .f32⟩
  | .hbm, ⟨72, _⟩ => ⟨S12x16384x16384, .f32⟩
  | .hbm, ⟨73, _⟩ => ⟨S12x16384x16384, .f32⟩
  | .hbm, ⟨74, _⟩ => ⟨S12x16384x16384, .f32⟩
  | .hbm, ⟨75, _⟩ => ⟨S12x16384x16384, .bf16⟩
  | .hbm, ⟨76, _⟩ => ⟨S12x16384x16384, .f32⟩
  | .hbm, ⟨77, _⟩ => ⟨S12x16384x96, .f32⟩
  | .hbm, ⟨78, _⟩ => ⟨S12x16384x96, .bf16⟩
  | .hbm, ⟨79, _⟩ => ⟨S12x16384x96, .f32⟩
  | .hbm, ⟨80, _⟩ => ⟨S12x16384x96, .bf16⟩
  | _, _ => ⟨S12x16384x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Forward.lean ====
abbrev S12x16384x96 : Shape := ⟨3, ![12, 16384, 96]⟩
abbrev S12x16384x64 : Shape := ⟨3, ![12, 16384, 64]⟩
abbrev S_ : Shape := ⟨0, ![]⟩
abbrev S12x16384x1 : Shape := ⟨3, ![12, 16384, 1]⟩
abbrev S12x16384x63 : Shape := ⟨3, ![12, 16384, 63]⟩
abbrev S12x16384x128 : Shape := ⟨3, ![12, 16384, 128]⟩
abbrev S1x2048x96 : Shape := ⟨3, ![1, 2048, 96]⟩
abbrev S1x2048x128 : Shape := ⟨3, ![1, 2048, 128]⟩
abbrev S1x2048x64 : Shape := ⟨3, ![1, 2048, 64]⟩
abbrev S1x2048x1 : Shape := ⟨3, ![1, 2048, 1]⟩
abbrev S2048x1 : Shape := ⟨2, ![2048, 1]⟩
abbrev S2048x128 : Shape := ⟨2, ![2048, 128]⟩
abbrev S2048x96 : Shape := ⟨2, ![2048, 96]⟩
abbrev S1x512x96 : Shape := ⟨3, ![1, 512, 96]⟩
abbrev S512x96 : Shape := ⟨2, ![512, 96]⟩
abbrev S2048x512 : Shape := ⟨2, ![2048, 512]⟩
abbrev S2048 : Shape := ⟨1, ![2048]⟩
abbrev S1x512x128 : Shape := ⟨3, ![1, 512, 128]⟩
abbrev S512x128 : Shape := ⟨2, ![512, 128]⟩
abbrev S2048x64 : Shape := ⟨2, ![2048, 64]⟩

abbrev nBuf : Space → Nat
  | .hbm => 10
  | .vmem => 12
  | .smem => 0
  | _ => 0

abbrev bufTy : (tb : Table) → Fin (tcTables nBuf tb) → BufTy
  | .hbm, ⟨0, _⟩ => ⟨S12x16384x96, .bf16⟩
  | .hbm, ⟨1, _⟩ => ⟨S12x16384x96, .bf16⟩
  | .hbm, ⟨2, _⟩ => ⟨S12x16384x64, .bf16⟩
  | .hbm, ⟨3, _⟩ => ⟨S_, .bf16⟩
  | .hbm, ⟨4, _⟩ => ⟨S12x16384x1, .bf16⟩
  | .hbm, ⟨5, _⟩ => ⟨S_, .bf16⟩
  | .hbm, ⟨6, _⟩ => ⟨S12x16384x63, .bf16⟩
  | .hbm, ⟨7, _⟩ => ⟨S12x16384x128, .bf16⟩
  | .hbm, ⟨8, _⟩ => ⟨S12x16384x64, .bf16⟩
  | .hbm, ⟨9, _⟩ => ⟨S12x16384x1, .f32⟩
  | .local _ .vmem, ⟨0, _⟩ => ⟨S1x2048x96, .bf16⟩
  | .local _ .vmem, ⟨1, _⟩ => ⟨S1x2048x96, .bf16⟩
  | .local _ .vmem, ⟨2, _⟩ => ⟨S1x2048x96, .bf16⟩
  | .local _ .vmem, ⟨3, _⟩ => ⟨S1x2048x96, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x2048x1, .f32⟩
  | .local _ .vmem, ⟨9, _⟩ => ⟨S1x2048x1, .f32⟩
  | .local _ .vmem, ⟨10, _⟩ => ⟨S2048x1, .f32⟩
  | .local _ .vmem, ⟨11, _⟩ => ⟨S2048x128, .f32⟩
  | _, _ => ⟨S12x16384x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![12, 8, 8], ![false, false, false]⟩

def k0_cond2 (i : grid0.Coords) : BitVec 1 :=
  let arg2 : BitVec 32 := BitVec.ofNat 32 (i 2).val
  let c7_i32 : BitVec 32 := 7#32
  let v68 : BitVec 1 := Scalar.cmpi .eq arg2 c7_i32
  let v69 : BitVec 32 := Scalar.extui v68
  let c0_i32_42 : BitVec 32 := 0#32
  let v70 : BitVec 1 := Scalar.cmpi .ne v69 c0_i32_42
  v70

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ForwardIdeal.lean ====
variable {F : FTy → Type} [FloatOps F] [Named F]
def κ : String → Option EReal := fun
  | "log2e" => some (((Real.log 2)⁻¹ : ℝ) : EReal)
  | _ => none
-- ==== ForwardRefIdeal.lean ====
abbrev S12x16384x96 : Shape := ⟨3, ![12, 16384, 96]⟩
abbrev S12x16384x64 : Shape := ⟨3, ![12, 16384, 64]⟩
abbrev S12x16384x16384 : Shape := ⟨3, ![12, 16384, 16384]⟩
abbrev S_ : Shape := ⟨0, ![]⟩
abbrev S12x16384 : Shape := ⟨2, ![12, 16384]⟩
abbrev S12x16384x1 : Shape := ⟨3, ![12, 16384, 1]⟩

abbrev nBuf : Space → Nat
  | .hbm => 49
  | .vmem => 0
  | .smem => 0
  | _ => 0

abbrev bufTy : (tb : Table) → Fin (tcTables nBuf tb) → BufTy
  | .hbm, ⟨0, _⟩ => ⟨S12x16384x96, .bf16⟩
  | .hbm, ⟨1, _⟩ => ⟨S12x16384x96, .bf16⟩
  | .hbm, ⟨2, _⟩ => ⟨S12x16384x64, .bf16⟩
  | .hbm, ⟨3, _⟩ => ⟨S12x16384x16384, .f32⟩
  | .hbm, ⟨4, _⟩ => ⟨S12x16384x16384, .bf16⟩
  | .hbm, ⟨5, _⟩ => ⟨S12x16384x16384, .f32⟩
  | .hbm, ⟨6, _⟩ => ⟨S_, .f32⟩
  | .hbm, ⟨7, _⟩ => ⟨S_, .f32⟩
  | .hbm, ⟨8, _⟩ => ⟨S12x16384x16384, .f32⟩
  | .hbm, ⟨9, _⟩ => ⟨S12x16384x16384, .f32⟩
  | .hbm, ⟨10, _⟩ => ⟨S_, .f32⟩
  | .hbm, ⟨11, _⟩ => ⟨S12x16384, .f32⟩
  | .hbm, ⟨12, _⟩ => ⟨S12x16384x1, .f32⟩
  | .hbm, ⟨13, _⟩ => ⟨S12x16384x16384, .f32⟩
  | .hbm, ⟨14, _⟩ => ⟨S12x16384x16384, .f32⟩
  | .hbm, ⟨15, _⟩ => ⟨S12x16384x16384, .f32⟩
  | .hbm, ⟨16, _⟩ => ⟨S_, .f32⟩
  | .hbm, ⟨17, _⟩ => ⟨S12x16384, .f32⟩
  | .hbm, ⟨18, _⟩ => ⟨S12x16384x1, .f32⟩
  | .hbm, ⟨19, _⟩ => ⟨S12x16384x1, .f32⟩
  | .hbm, ⟨20, _⟩ => ⟨S12x16384x1, .f32⟩
  | .hbm, ⟨21, _⟩ => ⟨S12x16384x16384, .f32⟩
  | .hbm, ⟨22, _⟩ => ⟨S12x16384x16384, .bf16⟩
  | .hbm, ⟨23, _⟩ => ⟨S12x16384x16384, .f32⟩
  | .hbm, ⟨24, _⟩ => ⟨S_, .f32⟩
  | .hbm, ⟨25, _⟩ => ⟨S_, .f32⟩
  | .hbm, ⟨26, _⟩ => ⟨S12x16384x16384, .f32⟩
  | .hbm, ⟨27, _⟩ => ⟨S12x16384x16384, .f32⟩
  | .hbm, ⟨28, _⟩ => ⟨S_, .f32⟩
  | .hbm, ⟨29, _⟩ => ⟨S12x16384, .f32⟩
  | .hbm, ⟨30, _⟩ => ⟨S_, .f32⟩
  | .hbm, ⟨31, _⟩ => ⟨S12x16384, .f32⟩
  | .hbm, ⟨32, _⟩ => ⟨S12x16384, .f32⟩
  | .hbm, ⟨33, _⟩ => ⟨S12x16384x1, .f32⟩
  | .hbm, ⟨34, _⟩ => ⟨S12x16384x16384, .f32⟩
  | .hbm, ⟨35, _⟩ => ⟨S12x16384x16384, .f32⟩
  | .hbm, ⟨36, _⟩ => ⟨S12x16384x16384, .f32⟩
  | .hbm, ⟨37, _⟩ => ⟨S_, .f32⟩
  | .hbm, ⟨38, _⟩ => ⟨S12x16384, .f32⟩
  | .hbm, ⟨39, _⟩ => ⟨S12x16384x1, .f32⟩
  | .hbm, ⟨40, _⟩ => ⟨S12x16384x16384, .f32⟩
  | .hbm, ⟨41, _⟩ => ⟨S12x16384x16384, .f32⟩
  | .hbm, ⟨42, _⟩ => ⟨S12x16384x16384, .bf16⟩
  | .hbm, ⟨43, _⟩ => ⟨S12x16384x64, .f32⟩
  | .hbm, ⟨44, _⟩ => ⟨S12x16384x64, .bf16⟩
  | .hbm, ⟨45, _⟩ => ⟨S_, .f32⟩
  | .hbm, ⟨46, _⟩ => ⟨S_, .f32⟩
  | .hbm, ⟨47, _⟩ => ⟨S12x16384x1, .f32⟩
  | .hbm, ⟨48, _⟩ => ⟨S12x16384x1, .f32⟩
  | _, _ => ⟨S12x16384x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Memory.lean ====
abbrev S4x16384x64 : Shape := ⟨3, ![4, 16384, 64]⟩
abbrev S4x256x64 : Shape := ⟨3, ![4, 256, 64]⟩
abbrev S_ : Shape := ⟨0, ![]⟩
abbrev S4x256x1 : Shape := ⟨3, ![4, 256, 1]⟩
abbrev S4x256x63 : Shape := ⟨3, ![4, 256, 63]⟩
abbrev S4x256x128 : Shape := ⟨3, ![4, 256, 128]⟩
abbrev S4x16384x1 : Shape := ⟨3, ![4, 16384, 1]⟩
abbrev S1x4096x64 : Shape := ⟨3, ![1, 4096, 64]⟩
abbrev S1x256x64 : Shape := ⟨3, ![1, 256, 64]⟩
abbrev S1x256x128 : Shape := ⟨3, ![1, 256, 128]⟩
abbrev S1x4096x1 : Shape := ⟨3, ![1, 4096, 1]⟩
abbrev S4096x1 : Shape := ⟨2, ![4096, 1]⟩
abbrev S4096x128 : Shape := ⟨2, ![4096, 128]⟩
abbrev S4096x64 : Shape := ⟨2, ![4096, 64]⟩
abbrev S256x64 : Shape := ⟨2, ![256, 64]⟩
abbrev S4096x256 : Shape := ⟨2, ![4096, 256]⟩
abbrev S4096 : Shape := ⟨1, ![4096]⟩
abbrev S256x128 : Shape := ⟨2, ![256, 128]⟩

abbrev nBuf : Space → Nat
  | .hbm => 10
  | .vmem => 12
  | .smem => 0
  | _ => 0

abbrev bufTy : (tb : Table) → Fin (tcTables nBuf tb) → BufTy
  | .hbm, ⟨0, _⟩ => ⟨S4x16384x64, .bf16⟩
  | .hbm, ⟨1, _⟩ => ⟨S4x256x64, .bf16⟩
  | .hbm, ⟨2, _⟩ => ⟨S4x256x64, .bf16⟩
  | .hbm, ⟨3, _⟩ => ⟨S_, .bf16⟩
  | .hbm, ⟨4, _⟩ => ⟨S4x256x1, .bf16⟩
  | .hbm, ⟨5, _⟩ => ⟨S_, .bf16⟩
  | .hbm, ⟨6, _⟩ => ⟨S4x256x63, .bf16⟩
  | .hbm, ⟨7, _⟩ => ⟨S4x256x128, .bf16⟩
  | .hbm, ⟨8, _⟩ => ⟨S4x16384x64, .bf16⟩
  | .hbm, ⟨9, _⟩ => ⟨S4x16384x1, .f32⟩
  | .local _ .vmem, ⟨0, _⟩ => ⟨S1x4096x64, .bf16⟩
  | .local _ .vmem, ⟨1, _⟩ => ⟨S1x4096x64, .bf16⟩
  | .local _ .vmem, ⟨2, _⟩ => ⟨S1x256x64, .bf16⟩
  | .local _ .vmem, ⟨3, _⟩ => ⟨S1x256x64, .bf16⟩
  | .local _ .vmem, ⟨4, _⟩ => ⟨S1x256x128, .bf16⟩
  | .local _ .vmem, ⟨5, _⟩ => ⟨S1x256x128, .bf16⟩
  | .local _ .vmem, ⟨6, _⟩ => ⟨S1x4096x64, .bf16⟩
  | .local _ .vmem, ⟨7, _⟩ => ⟨S1x4096x64, .bf16⟩
  | .local _ .vmem, ⟨8, _⟩ => ⟨S1x4096x1, .f32⟩
  | .local _ .vmem, ⟨9, _⟩ => ⟨S1x4096x1, .f32⟩
  | .local _ .vmem, ⟨10, _⟩ => ⟨S4096x1, .f32⟩
  | .local _ .vmem, ⟨11, _⟩ => ⟨S4096x128, .f32⟩
  | _, _ => ⟨S4x16384x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_22 : BitVec 32 := 0#32
  let v34 : BitVec 1 := Scalar.cmpi .eq arg2 c0_i32_22
  let v35 : BitVec 32 := Scalar.extui v34
  let c0_i32_23 : BitVec 32 := 0#32
  let v36 : BitVec 1 := Scalar.cmpi .ne v35 c0_i32_23
  v36

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x4096x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MemoryIdeal.lean ====
variable {F : FTy → Type} [FloatOps F] [Named F]
def κ : String → Option EReal := fun
  | "log2e" => some (((Real.log 2)⁻¹ : ℝ) : EReal)
  | "qk_mult" => some (((1 / 8) * (Real.log 2)⁻¹ : ℝ) : EReal)
  | _ => none
-- ==== MemoryRefIdeal.lean ====
abbrev S4x16384x64 : Shape := ⟨3, ![4, 16384, 64]⟩
abbrev S4x256x64 : Shape := ⟨3, ![4, 256, 64]⟩
abbrev S4x16384x256 : Shape := ⟨3, ![4, 16384, 256]⟩
abbrev S_ : Shape := ⟨0, ![]⟩
abbrev S4x16384 : Shape := ⟨2, ![4, 16384]⟩
abbrev S4x16384x1 : Shape := ⟨3, ![4, 16384, 1]⟩

abbrev nBuf : Space → Nat
  | .hbm => 47
  | .vmem => 0
  | .smem => 0
  | _ => 0

abbrev bufTy : (tb : Table) → Fin (tcTables nBuf tb) → BufTy
  | .hbm, ⟨0, _⟩ => ⟨S4x16384x64, .bf16⟩
  | .hbm, ⟨1, _⟩ => ⟨S4x256x64, .bf16⟩
  | .hbm, ⟨2, _⟩ => ⟨S4x256x64, .bf16⟩
  | .hbm, ⟨3, _⟩ => ⟨S4x16384x256, .f32⟩
  | .hbm, ⟨4, _⟩ => ⟨S4x16384x256, .bf16⟩
  | .hbm, ⟨5, _⟩ => ⟨S4x16384x256, .f32⟩
  | .hbm, ⟨6, _⟩ => ⟨S_, .f32⟩
  | .hbm, ⟨7, _⟩ => ⟨S4x16384x256, .f32⟩
  | .hbm, ⟨8, _⟩ => ⟨S4x16384x256, .f32⟩
  | .hbm, ⟨9, _⟩ => ⟨S_, .f32⟩
  | .hbm, ⟨10, _⟩ => ⟨S4x16384, .f32⟩
  | .hbm, ⟨11, _⟩ => ⟨S4x16384x1, .f32⟩
  | .hbm, ⟨12, _⟩ => ⟨S4x16384x256, .f32⟩
  | .hbm, ⟨13, _⟩ => ⟨S4x16384x256, .f32⟩
  | .hbm, ⟨14, _⟩ => ⟨S4x16384x256, .f32⟩
  | .hbm, ⟨15, _⟩ => ⟨S_, .f32⟩
  | .hbm, ⟨16, _⟩ => ⟨S4x16384, .f32⟩
  | .hbm, ⟨17, _⟩ => ⟨S4x16384x1, .f32⟩
  | .hbm, ⟨18, _⟩ => ⟨S4x16384x1, .f32⟩
  | .hbm, ⟨19, _⟩ => ⟨S4x16384x1, .f32⟩
  | .hbm, ⟨20, _⟩ => ⟨S4x16384x256, .f32⟩
  | .hbm, ⟨21, _⟩ => ⟨S4x16384x256, .bf16⟩
  | .hbm, ⟨22, _⟩ => ⟨S4x16384x256, .f32⟩
  | .hbm, ⟨23, _⟩ => ⟨S_, .f32⟩
  | .hbm, ⟨24, _⟩ => ⟨S4x16384x256, .f32⟩
  | .hbm, ⟨25, _⟩ => ⟨S4x16384x256, .f32⟩
  | .hbm, ⟨26, _⟩ => ⟨S_, .f32⟩
  | .hbm, ⟨27, _⟩ => ⟨S4x16384, .f32⟩
  | .hbm, ⟨28, _⟩ => ⟨S_, .f32⟩
  | .hbm, ⟨29, _⟩ => ⟨S4x16384, .f32⟩
  | .hbm, ⟨30, _⟩ => ⟨S4x16384, .f32⟩
  | .hbm, ⟨31, _⟩ => ⟨S4x16384x1, .f32⟩
  | .hbm, ⟨32, _⟩ => ⟨S4x16384x256, .f32⟩
  | .hbm, ⟨33, _⟩ => ⟨S4x16384x256, .f32⟩
  | .hbm, ⟨34, _⟩ => ⟨S4x16384x256, .f32⟩
  | .hbm, ⟨35, _⟩ => ⟨S_, .f32⟩
  | .hbm, ⟨36, _⟩ => ⟨S4x16384, .f32⟩
  | .hbm, ⟨37, _⟩ => ⟨S4x16384x1, .f32⟩
  | .hbm, ⟨38, _⟩ => ⟨S4x16384x256, .f32⟩
  | .hbm, ⟨39, _⟩ => ⟨S4x16384x256, .f32⟩
  | .hbm, ⟨40, _⟩ => ⟨S4x16384x256, .bf16⟩
  | .hbm, ⟨41, _⟩ => ⟨S4x16384x64, .f32⟩
  | .hbm, ⟨42, _⟩ => ⟨S4x16384x64, .bf16⟩
  | .hbm, ⟨43, _⟩ => ⟨S_, .f32⟩
  | .hbm, ⟨44, _⟩ => ⟨S_, .f32⟩
  | .hbm, ⟨45, _⟩ => ⟨S4x16384x1, .f32⟩
  | .hbm, ⟨46, _⟩ => ⟨S4x16384x1, .f32⟩
  | _, _ => ⟨S4x16384x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== GateForward.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S512x1024 : Shape := ⟨2, ![512, 1024]⟩
abbrev S512x2816 : Shape := ⟨2, ![512, 2816]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S2816x1024, .bf16⟩
  | .hbm, ⟨3, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateForwardIdeal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S512x1024 : Shape := ⟨2, ![512, 1024]⟩
abbrev S512x2816 : Shape := ⟨2, ![512, 2816]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S2816x1024, .bf16⟩
  | .hbm, ⟨3, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateForwardRefIdeal.lean ====
abbrev S16384x1024 : Shape := ⟨2, ![16384, 1024]⟩
abbrev S1024x2816 : Shape := ⟨2, ![1024, 2816]⟩
abbrev S16384x2816 : Shape := ⟨2, ![16384, 2816]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S16384x2816, .f32⟩
  | .hbm, ⟨3, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GateRows.lean ====
abbrev S16384x1024 : Shape := ⟨2, ![16384, 1024]⟩
abbrev S1024x2816 : Shape := ⟨2, ![1024, 2816]⟩
abbrev S16384x2816 : Shape := ⟨2, ![16384, 2816]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S16384x2816, .bf16⟩
  | .hbm, ⟨3, _⟩ => ⟨S2816x1024, .bf16⟩
  | .hbm, ⟨4, _⟩ => ⟨S16384x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .bf16⟩
  | .local _ .vmem, ⟨4, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRowsIdeal.lean ====
abbrev S16384x1024 : Shape := ⟨2, ![16384, 1024]⟩
abbrev S1024x2816 : Shape := ⟨2, ![1024, 2816]⟩
abbrev S16384x2816 : Shape := ⟨2, ![16384, 2816]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S16384x2816, .bf16⟩
  | .hbm, ⟨3, _⟩ => ⟨S2816x1024, .bf16⟩
  | .hbm, ⟨4, _⟩ => ⟨S16384x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .bf16⟩
  | .local _ .vmem, ⟨4, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRowsRefIdeal.lean ====
abbrev S16384x1024 : Shape := ⟨2, ![16384, 1024]⟩
abbrev S1024x2816 : Shape := ⟨2, ![1024, 2816]⟩
abbrev S16384x2816 : Shape := ⟨2, ![16384, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S16384x2816, .bf16⟩
  | .hbm, ⟨3, _⟩ => ⟨S16384x2816, .f32⟩
  | .hbm, ⟨4, _⟩ => ⟨S16384x2816, .bf16⟩
  | .hbm, ⟨5, _⟩ => ⟨S16384x2816, .f32⟩
  | .hbm, ⟨6, _⟩ => ⟨S2816x1024, .f32⟩
  | .hbm, ⟨7, _⟩ => ⟨S1024x2816, .f32⟩
  | .hbm, ⟨8, _⟩ => ⟨S1024x2816, .bf16⟩
  | .hbm, ⟨9, _⟩ => ⟨S16384x1024, .f32⟩
  | .hbm, ⟨10, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GateWeight.lean ====
abbrev S16384x1024 : Shape := ⟨2, ![16384, 1024]⟩
abbrev S1024x2816 : Shape := ⟨2, ![1024, 2816]⟩
abbrev S16384x2816 : Shape := ⟨2, ![16384, 2816]⟩
abbrev S2816x1024 : Shape := ⟨2, ![2816, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S16384x2816, .bf16⟩
  | .hbm, ⟨3, _⟩ => ⟨S2816x1024, .bf16⟩
  | .hbm, ⟨4, _⟩ => ⟨S1024x2816, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateWeightIdeal.lean ====
abbrev S16384x1024 : Shape := ⟨2, ![16384, 1024]⟩
abbrev S1024x2816 : Shape := ⟨2, ![1024, 2816]⟩
abbrev S16384x2816 : Shape := ⟨2, ![16384, 2816]⟩
abbrev S2816x1024 : Shape := ⟨2, ![2816, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S16384x2816, .bf16⟩
  | .hbm, ⟨3, _⟩ => ⟨S2816x1024, .bf16⟩
  | .hbm, ⟨4, _⟩ => ⟨S1024x2816, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateWeightRefIdeal.lean ====
abbrev S16384x1024 : Shape := ⟨2, ![16384, 1024]⟩
abbrev S1024x2816 : Shape := ⟨2, ![1024, 2816]⟩
abbrev S16384x2816 : Shape := ⟨2, ![16384, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S16384x2816, .bf16⟩
  | .hbm, ⟨3, _⟩ => ⟨S16384x2816, .f32⟩
  | .hbm, ⟨4, _⟩ => ⟨S16384x2816, .bf16⟩
  | .hbm, ⟨5, _⟩ => ⟨S16384x2816, .f32⟩
  | .hbm, ⟨6, _⟩ => ⟨S2816x1024, .f32⟩
  | .hbm, ⟨7, _⟩ => ⟨S1024x2816, .f32⟩
  | .hbm, ⟨8, _⟩ => ⟨S1024x2816, .bf16⟩
  | .hbm, ⟨9, _⟩ => ⟨S16384x1024, .f32⟩
  | .hbm, ⟨10, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownForward.lean ====
abbrev S16384x2816 : Shape := ⟨2, ![16384, 2816]⟩
abbrev S2816x1024 : Shape := ⟨2, ![2816, 1024]⟩
abbrev S16384x1024 : Shape := ⟨2, ![16384, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownForwardIdeal.lean ====
abbrev S16384x2816 : Shape := ⟨2, ![16384, 2816]⟩
abbrev S2816x1024 : Shape := ⟨2, ![2816, 1024]⟩
abbrev S16384x1024 : Shape := ⟨2, ![16384, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownForwardRefIdeal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .bf16⟩
  | .hbm, ⟨4, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownRows.lean ====
abbrev S16384x2816 : Shape := ⟨2, ![16384, 2816]⟩
abbrev S2816x1024 : Shape := ⟨2, ![2816, 1024]⟩
abbrev S16384x1024 : Shape := ⟨2, ![16384, 1024]⟩
abbrev S512x1024 : Shape := ⟨2, ![512, 1024]⟩
abbrev S512x2816 : Shape := ⟨2, ![512, 2816]⟩

abbrev nBuf : Space → Nat
  | .hbm => 4
  | .vmem => 5
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRowsIdeal.lean ====
abbrev S16384x2816 : Shape := ⟨2, ![16384, 2816]⟩
abbrev S2816x1024 : Shape := ⟨2, ![2816, 1024]⟩
abbrev S16384x1024 : Shape := ⟨2, ![16384, 1024]⟩
abbrev S512x1024 : Shape := ⟨2, ![512, 1024]⟩
abbrev S512x2816 : Shape := ⟨2, ![512, 2816]⟩

abbrev nBuf : Space → Nat
  | .hbm => 4
  | .vmem => 5
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRowsRefIdeal.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩

abbrev nBuf : Space → Nat
  | .hbm => 13
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .hbm, ⟨4, _⟩ => ⟨S16384x1024, .bf16⟩
  | .hbm, ⟨5, _⟩ => ⟨S16384x1024, .f32⟩
  | .hbm, ⟨6, _⟩ => ⟨S16384x1024, .bf16⟩
  | .hbm, ⟨7, _⟩ => ⟨S16384x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S16384x2816, .f32⟩
  | .hbm, ⟨12, _⟩ => ⟨S16384x2816, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DownWeight.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S2816x1024, .bf16⟩
  | .local _ .vmem, ⟨5, _⟩ => ⟨S2816x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DownWeightIdeal.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S2816x1024, .bf16⟩
  | .local _ .vmem, ⟨5, _⟩ => ⟨S2816x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DownWeightRefIdeal.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩

abbrev nBuf : Space → Nat
  | .hbm => 13
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .hbm, ⟨4, _⟩ => ⟨S16384x1024, .bf16⟩
  | .hbm, ⟨5, _⟩ => ⟨S16384x1024, .f32⟩
  | .hbm, ⟨6, _⟩ => ⟨S16384x1024, .bf16⟩
  | .hbm, ⟨7, _⟩ => ⟨S16384x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S16384x2816, .f32⟩
  | .hbm, ⟨12, _⟩ => ⟨S16384x2816, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== OutForward.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutForwardRefIdeal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .bf16⟩
  | .hbm, ⟨4, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutRows.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRowsRefIdeal.lean ====
abbrev S16384x1024 : Shape := ⟨2, ![16384, 1024]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S16384x1024, .bf16⟩
  | .hbm, ⟨5, _⟩ => ⟨S16384x1024, .f32⟩
  | .hbm, ⟨6, _⟩ => ⟨S16384x1024, .bf16⟩
  | .hbm, ⟨7, _⟩ => ⟨S16384x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S16384x1024, .f32⟩
  | .hbm, ⟨12, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== OutWeight.lean ====
abbrev S16384x1024 : Shape := ⟨2, ![16384, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWeightRefIdeal.lean ====
abbrev S16384x1024 : Shape := ⟨2, ![16384, 1024]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S16384x1024, .bf16⟩
  | .hbm, ⟨5, _⟩ => ⟨S16384x1024, .f32⟩
  | .hbm, ⟨6, _⟩ => ⟨S16384x1024, .bf16⟩
  | .hbm, ⟨7, _⟩ => ⟨S16384x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S16384x1024, .f32⟩
  | .hbm, ⟨12, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DInForward.lean ====
abbrev S16384x1024 : Shape := ⟨2, ![16384, 1024]⟩
abbrev S1024x2560 : Shape := ⟨2, ![1024, 2560]⟩
abbrev S2560x1024 : Shape := ⟨2, ![2560, 1024]⟩
abbrev S16384x2560 : Shape := ⟨2, ![16384, 2560]⟩
abbrev S512x1024 : Shape := ⟨2, ![512, 1024]⟩
abbrev S512x2560 : Shape := ⟨2, ![512, 2560]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x2560, .bf16⟩
  | .hbm, ⟨2, _⟩ => ⟨S2560x1024, .bf16⟩
  | .hbm, ⟨3, _⟩ => ⟨S16384x2560, .f32⟩
  | .local _ .vmem, ⟨0, _⟩ => ⟨S512x1024, .bf16⟩
  | .local _ .vmem, ⟨1, _⟩ => ⟨S512x1024, .bf16⟩
  | .local _ .vmem, ⟨2, _⟩ => ⟨S2560x1024, .bf16⟩
  | .local _ .vmem, ⟨3, _⟩ => ⟨S512x2560, .f32⟩
  | .local _ .vmem, ⟨4, _⟩ => ⟨S512x2560, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInForwardIdeal.lean ====
abbrev S16384x1024 : Shape := ⟨2, ![16384, 1024]⟩
abbrev S1024x2560 : Shape := ⟨2, ![1024, 2560]⟩
abbrev S2560x1024 : Shape := ⟨2, ![2560, 1024]⟩
abbrev S16384x2560 : Shape := ⟨2, ![16384, 2560]⟩
abbrev S512x1024 : Shape := ⟨2, ![512, 1024]⟩
abbrev S512x2560 : Shape := ⟨2, ![512, 2560]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x2560, .bf16⟩
  | .hbm, ⟨2, _⟩ => ⟨S2560x1024, .bf16⟩
  | .hbm, ⟨3, _⟩ => ⟨S16384x2560, .f32⟩
  | .local _ .vmem, ⟨0, _⟩ => ⟨S512x1024, .bf16⟩
  | .local _ .vmem, ⟨1, _⟩ => ⟨S512x1024, .bf16⟩
  | .local _ .vmem, ⟨2, _⟩ => ⟨S2560x1024, .bf16⟩
  | .local _ .vmem, ⟨3, _⟩ => ⟨S512x2560, .f32⟩
  | .local _ .vmem, ⟨4, _⟩ => ⟨S512x2560, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInForwardRefIdeal.lean ====
abbrev S16384x1024 : Shape := ⟨2, ![16384, 1024]⟩
abbrev S1024x2560 : Shape := ⟨2, ![1024, 2560]⟩
abbrev S16384x2560 : Shape := ⟨2, ![16384, 2560]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2560, .bf16⟩
  | .hbm, ⟨2, _⟩ => ⟨S16384x2560, .f32⟩
  | .hbm, ⟨3, _⟩ => ⟨S16384x2560, .bf16⟩
  | .hbm, ⟨4, _⟩ => ⟨S16384x2560, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DInRows.lean ====
abbrev S16384x1024 : Shape := ⟨2, ![16384, 1024]⟩
abbrev S1024x2560 : Shape := ⟨2, ![1024, 2560]⟩
abbrev S16384x2560 : Shape := ⟨2, ![16384, 2560]⟩
abbrev S2560x1024 : Shape := ⟨2, ![2560, 1024]⟩
abbrev S512x2560 : Shape := ⟨2, ![512, 2560]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x2560, .bf16⟩
  | .hbm, ⟨2, _⟩ => ⟨S16384x2560, .f32⟩
  | .hbm, ⟨3, _⟩ => ⟨S2560x1024, .bf16⟩
  | .hbm, ⟨4, _⟩ => ⟨S16384x1024, .bf16⟩
  | .local _ .vmem, ⟨0, _⟩ => ⟨S512x2560, .f32⟩
  | .local _ .vmem, ⟨1, _⟩ => ⟨S512x2560, .f32⟩
  | .local _ .vmem, ⟨2, _⟩ => ⟨S2560x1024, .bf16⟩
  | .local _ .vmem, ⟨3, _⟩ => ⟨S512x1024, .bf16⟩
  | .local _ .vmem, ⟨4, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInRowsIdeal.lean ====
abbrev S16384x1024 : Shape := ⟨2, ![16384, 1024]⟩
abbrev S1024x2560 : Shape := ⟨2, ![1024, 2560]⟩
abbrev S16384x2560 : Shape := ⟨2, ![16384, 2560]⟩
abbrev S2560x1024 : Shape := ⟨2, ![2560, 1024]⟩
abbrev S512x2560 : Shape := ⟨2, ![512, 2560]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x2560, .bf16⟩
  | .hbm, ⟨2, _⟩ => ⟨S16384x2560, .f32⟩
  | .hbm, ⟨3, _⟩ => ⟨S2560x1024, .bf16⟩
  | .hbm, ⟨4, _⟩ => ⟨S16384x1024, .bf16⟩
  | .local _ .vmem, ⟨0, _⟩ => ⟨S512x2560, .f32⟩
  | .local _ .vmem, ⟨1, _⟩ => ⟨S512x2560, .f32⟩
  | .local _ .vmem, ⟨2, _⟩ => ⟨S2560x1024, .bf16⟩
  | .local _ .vmem, ⟨3, _⟩ => ⟨S512x1024, .bf16⟩
  | .local _ .vmem, ⟨4, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInRowsRefIdeal.lean ====
abbrev S16384x1024 : Shape := ⟨2, ![16384, 1024]⟩
abbrev S1024x2560 : Shape := ⟨2, ![1024, 2560]⟩
abbrev S16384x2560 : Shape := ⟨2, ![16384, 2560]⟩
abbrev S2560x1024 : Shape := ⟨2, ![2560, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2560, .bf16⟩
  | .hbm, ⟨2, _⟩ => ⟨S16384x2560, .f32⟩
  | .hbm, ⟨3, _⟩ => ⟨S16384x2560, .f32⟩
  | .hbm, ⟨4, _⟩ => ⟨S16384x2560, .bf16⟩
  | .hbm, ⟨5, _⟩ => ⟨S16384x2560, .f32⟩
  | .hbm, ⟨6, _⟩ => ⟨S16384x2560, .bf16⟩
  | .hbm, ⟨7, _⟩ => ⟨S16384x2560, .f32⟩
  | .hbm, ⟨8, _⟩ => ⟨S2560x1024, .f32⟩
  | .hbm, ⟨9, _⟩ => ⟨S1024x2560, .f32⟩
  | .hbm, ⟨10, _⟩ => ⟨S1024x2560, .bf16⟩
  | .hbm, ⟨11, _⟩ => ⟨S16384x1024, .f32⟩
  | .hbm, ⟨12, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DInWeight.lean ====
abbrev S16384x1024 : Shape := ⟨2, ![16384, 1024]⟩
abbrev S1024x2560 : Shape := ⟨2, ![1024, 2560]⟩
abbrev S16384x2560 : Shape := ⟨2, ![16384, 2560]⟩
abbrev S2560x1024 : Shape := ⟨2, ![2560, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x2560, .bf16⟩
  | .hbm, ⟨2, _⟩ => ⟨S16384x2560, .f32⟩
  | .hbm, ⟨3, _⟩ => ⟨S2560x1024, .bf16⟩
  | .hbm, ⟨4, _⟩ => ⟨S1024x2560, .bf16⟩
  | .local _ .vmem, ⟨0, _⟩ => ⟨S1024x2560, .f32⟩
  | .local _ .vmem, ⟨1, _⟩ => ⟨S1024x2560, .f32⟩
  | .local _ .vmem, ⟨2, _⟩ => ⟨S1024x1024, .bf16⟩
  | .local _ .vmem, ⟨3, _⟩ => ⟨S1024x1024, .bf16⟩
  | .local _ .vmem, ⟨4, _⟩ => ⟨S2560x1024, .bf16⟩
  | .local _ .vmem, ⟨5, _⟩ => ⟨S2560x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DInWeightIdeal.lean ====
abbrev S16384x1024 : Shape := ⟨2, ![16384, 1024]⟩
abbrev S1024x2560 : Shape := ⟨2, ![1024, 2560]⟩
abbrev S16384x2560 : Shape := ⟨2, ![16384, 2560]⟩
abbrev S2560x1024 : Shape := ⟨2, ![2560, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x2560, .bf16⟩
  | .hbm, ⟨2, _⟩ => ⟨S16384x2560, .f32⟩
  | .hbm, ⟨3, _⟩ => ⟨S2560x1024, .bf16⟩
  | .hbm, ⟨4, _⟩ => ⟨S1024x2560, .bf16⟩
  | .local _ .vmem, ⟨0, _⟩ => ⟨S1024x2560, .f32⟩
  | .local _ .vmem, ⟨1, _⟩ => ⟨S1024x2560, .f32⟩
  | .local _ .vmem, ⟨2, _⟩ => ⟨S1024x1024, .bf16⟩
  | .local _ .vmem, ⟨3, _⟩ => ⟨S1024x1024, .bf16⟩
  | .local _ .vmem, ⟨4, _⟩ => ⟨S2560x1024, .bf16⟩
  | .local _ .vmem, ⟨5, _⟩ => ⟨S2560x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DInWeightRefIdeal.lean ====
abbrev S16384x1024 : Shape := ⟨2, ![16384, 1024]⟩
abbrev S1024x2560 : Shape := ⟨2, ![1024, 2560]⟩
abbrev S16384x2560 : Shape := ⟨2, ![16384, 2560]⟩
abbrev S2560x1024 : Shape := ⟨2, ![2560, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2560, .bf16⟩
  | .hbm, ⟨2, _⟩ => ⟨S16384x2560, .f32⟩
  | .hbm, ⟨3, _⟩ => ⟨S16384x2560, .f32⟩
  | .hbm, ⟨4, _⟩ => ⟨S16384x2560, .bf16⟩
  | .hbm, ⟨5, _⟩ => ⟨S16384x2560, .f32⟩
  | .hbm, ⟨6, _⟩ => ⟨S16384x2560, .bf16⟩
  | .hbm, ⟨7, _⟩ => ⟨S16384x2560, .f32⟩
  | .hbm, ⟨8, _⟩ => ⟨S2560x1024, .f32⟩
  | .hbm, ⟨9, _⟩ => ⟨S1024x2560, .f32⟩
  | .hbm, ⟨10, _⟩ => ⟨S1024x2560, .bf16⟩
  | .hbm, ⟨11, _⟩ => ⟨S16384x1024, .f32⟩
  | .hbm, ⟨12, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== CInForward.lean ====
abbrev S16384x1024 : Shape := ⟨2, ![16384, 1024]⟩
abbrev S1024x1792 : Shape := ⟨2, ![1024, 1792]⟩
abbrev S1792x1024 : Shape := ⟨2, ![1792, 1024]⟩
abbrev S16384x1792 : Shape := ⟨2, ![16384, 1792]⟩
abbrev S512x1024 : Shape := ⟨2, ![512, 1024]⟩
abbrev S512x1792 : Shape := ⟨2, ![512, 1792]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1792, .bf16⟩
  | .hbm, ⟨2, _⟩ => ⟨S1792x1024, .bf16⟩
  | .hbm, ⟨3, _⟩ => ⟨S16384x1792, .f32⟩
  | .local _ .vmem, ⟨0, _⟩ => ⟨S512x1024, .bf16⟩
  | .local _ .vmem, ⟨1, _⟩ => ⟨S512x1024, .bf16⟩
  | .local _ .vmem, ⟨2, _⟩ => ⟨S1792x1024, .bf16⟩
  | .local _ .vmem, ⟨3, _⟩ => ⟨S512x1792, .f32⟩
  | .local _ .vmem, ⟨4, _⟩ => ⟨S512x1792, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CInForwardRefIdeal.lean ====
abbrev S16384x1024 : Shape := ⟨2, ![16384, 1024]⟩
abbrev S1024x1792 : Shape := ⟨2, ![1024, 1792]⟩
abbrev S16384x1792 : Shape := ⟨2, ![16384, 1792]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1792, .bf16⟩
  | .hbm, ⟨2, _⟩ => ⟨S16384x1792, .f32⟩
  | .hbm, ⟨3, _⟩ => ⟨S16384x1792, .bf16⟩
  | .hbm, ⟨4, _⟩ => ⟨S16384x1792, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== CInRows.lean ====
abbrev S16384x1024 : Shape := ⟨2, ![16384, 1024]⟩
abbrev S1024x1792 : Shape := ⟨2, ![1024, 1792]⟩
abbrev S16384x1792 : Shape := ⟨2, ![16384, 1792]⟩
abbrev S1792x1024 : Shape := ⟨2, ![1792, 1024]⟩
abbrev S512x1792 : Shape := ⟨2, ![512, 1792]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1792, .bf16⟩
  | .hbm, ⟨2, _⟩ => ⟨S16384x1792, .f32⟩
  | .hbm, ⟨3, _⟩ => ⟨S1792x1024, .bf16⟩
  | .hbm, ⟨4, _⟩ => ⟨S16384x1024, .bf16⟩
  | .local _ .vmem, ⟨0, _⟩ => ⟨S512x1792, .f32⟩
  | .local _ .vmem, ⟨1, _⟩ => ⟨S512x1792, .f32⟩
  | .local _ .vmem, ⟨2, _⟩ => ⟨S1792x1024, .bf16⟩
  | .local _ .vmem, ⟨3, _⟩ => ⟨S512x1024, .bf16⟩
  | .local _ .vmem, ⟨4, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CInRowsIdeal.lean ====
abbrev S16384x1024 : Shape := ⟨2, ![16384, 1024]⟩
abbrev S1024x1792 : Shape := ⟨2, ![1024, 1792]⟩
abbrev S16384x1792 : Shape := ⟨2, ![16384, 1792]⟩
abbrev S1792x1024 : Shape := ⟨2, ![1792, 1024]⟩
abbrev S512x1792 : Shape := ⟨2, ![512, 1792]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1792, .bf16⟩
  | .hbm, ⟨2, _⟩ => ⟨S16384x1792, .f32⟩
  | .hbm, ⟨3, _⟩ => ⟨S1792x1024, .bf16⟩
  | .hbm, ⟨4, _⟩ => ⟨S16384x1024, .bf16⟩
  | .local _ .vmem, ⟨0, _⟩ => ⟨S512x1792, .f32⟩
  | .local _ .vmem, ⟨1, _⟩ => ⟨S512x1792, .f32⟩
  | .local _ .vmem, ⟨2, _⟩ => ⟨S1792x1024, .bf16⟩
  | .local _ .vmem, ⟨3, _⟩ => ⟨S512x1024, .bf16⟩
  | .local _ .vmem, ⟨4, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CInRowsRefIdeal.lean ====
abbrev S16384x1024 : Shape := ⟨2, ![16384, 1024]⟩
abbrev S1024x1792 : Shape := ⟨2, ![1024, 1792]⟩
abbrev S16384x1792 : Shape := ⟨2, ![16384, 1792]⟩
abbrev S1792x1024 : Shape := ⟨2, ![1792, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1792, .bf16⟩
  | .hbm, ⟨2, _⟩ => ⟨S16384x1792, .f32⟩
  | .hbm, ⟨3, _⟩ => ⟨S16384x1792, .f32⟩
  | .hbm, ⟨4, _⟩ => ⟨S16384x1792, .bf16⟩
  | .hbm, ⟨5, _⟩ => ⟨S16384x1792, .f32⟩
  | .hbm, ⟨6, _⟩ => ⟨S16384x1792, .bf16⟩
  | .hbm, ⟨7, _⟩ => ⟨S16384x1792, .f32⟩
  | .hbm, ⟨8, _⟩ => ⟨S1792x1024, .f32⟩
  | .hbm, ⟨9, _⟩ => ⟨S1024x1792, .f32⟩
  | .hbm, ⟨10, _⟩ => ⟨S1024x1792, .bf16⟩
  | .hbm, ⟨11, _⟩ => ⟨S16384x1024, .f32⟩
  | .hbm, ⟨12, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== CInWeight.lean ====
abbrev S16384x1024 : Shape := ⟨2, ![16384, 1024]⟩
abbrev S1024x1792 : Shape := ⟨2, ![1024, 1792]⟩
abbrev S16384x1792 : Shape := ⟨2, ![16384, 1792]⟩
abbrev S1792x1024 : Shape := ⟨2, ![1792, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x1792, .bf16⟩
  | .hbm, ⟨2, _⟩ => ⟨S16384x1792, .f32⟩
  | .hbm, ⟨3, _⟩ => ⟨S1792x1024, .bf16⟩
  | .hbm, ⟨4, _⟩ => ⟨S1024x1792, .bf16⟩
  | .local _ .vmem, ⟨0, _⟩ => ⟨S1024x1792, .f32⟩
  | .local _ .vmem, ⟨1, _⟩ => ⟨S1024x1792, .f32⟩
  | .local _ .vmem, ⟨2, _⟩ => ⟨S1024x1024, .bf16⟩
  | .local _ .vmem, ⟨3, _⟩ => ⟨S1024x1024, .bf16⟩
  | .local _ .vmem, ⟨4, _⟩ => ⟨S1792x1024, .bf16⟩
  | .local _ .vmem, ⟨5, _⟩ => ⟨S1792x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== CInWeightIdeal.lean ====
abbrev S16384x1024 : Shape := ⟨2, ![16384, 1024]⟩
abbrev S1024x1792 : Shape := ⟨2, ![1024, 1792]⟩
abbrev S16384x1792 : Shape := ⟨2, ![16384, 1792]⟩
abbrev S1792x1024 : Shape := ⟨2, ![1792, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x1792, .bf16⟩
  | .hbm, ⟨2, _⟩ => ⟨S16384x1792, .f32⟩
  | .hbm, ⟨3, _⟩ => ⟨S1792x1024, .bf16⟩
  | .hbm, ⟨4, _⟩ => ⟨S1024x1792, .bf16⟩
  | .local _ .vmem, ⟨0, _⟩ => ⟨S1024x1792, .f32⟩
  | .local _ .vmem, ⟨1, _⟩ => ⟨S1024x1792, .f32⟩
  | .local _ .vmem, ⟨2, _⟩ => ⟨S1024x1024, .bf16⟩
  | .local _ .vmem, ⟨3, _⟩ => ⟨S1024x1024, .bf16⟩
  | .local _ .vmem, ⟨4, _⟩ => ⟨S1792x1024, .bf16⟩
  | .local _ .vmem, ⟨5, _⟩ => ⟨S1792x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== CInWeightRefIdeal.lean ====
abbrev S16384x1024 : Shape := ⟨2, ![16384, 1024]⟩
abbrev S1024x1792 : Shape := ⟨2, ![1024, 1792]⟩
abbrev S16384x1792 : Shape := ⟨2, ![16384, 1792]⟩
abbrev S1792x1024 : Shape := ⟨2, ![1792, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1792, .bf16⟩
  | .hbm, ⟨2, _⟩ => ⟨S16384x1792, .f32⟩
  | .hbm, ⟨3, _⟩ => ⟨S16384x1792, .f32⟩
  | .hbm, ⟨4, _⟩ => ⟨S16384x1792, .bf16⟩
  | .hbm, ⟨5, _⟩ => ⟨S16384x1792, .f32⟩
  | .hbm, ⟨6, _⟩ => ⟨S16384x1792, .bf16⟩
  | .hbm, ⟨7, _⟩ => ⟨S16384x1792, .f32⟩
  | .hbm, ⟨8, _⟩ => ⟨S1792x1024, .f32⟩
  | .hbm, ⟨9, _⟩ => ⟨S1024x1792, .f32⟩
  | .hbm, ⟨10, _⟩ => ⟨S1024x1792, .bf16⟩
  | .hbm, ⟨11, _⟩ => ⟨S16384x1024, .f32⟩
  | .hbm, ⟨12, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== BInForward.lean ====
abbrev S16384x1024 : Shape := ⟨2, ![16384, 1024]⟩
abbrev S1024x4864 : Shape := ⟨2, ![1024, 4864]⟩
abbrev S4864x1024 : Shape := ⟨2, ![4864, 1024]⟩
abbrev S16384x4864 : Shape := ⟨2, ![16384, 4864]⟩
abbrev S512x1024 : Shape := ⟨2, ![512, 1024]⟩
abbrev S2432x1024 : Shape := ⟨2, ![2432, 1024]⟩
abbrev S512x2432 : Shape := ⟨2, ![512, 2432]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x4864, .bf16⟩
  | .hbm, ⟨2, _⟩ => ⟨S4864x1024, .bf16⟩
  | .hbm, ⟨3, _⟩ => ⟨S16384x4864, .bf16⟩
  | .local _ .vmem, ⟨0, _⟩ => ⟨S512x1024, .bf16⟩
  | .local _ .vmem, ⟨1, _⟩ => ⟨S512x1024, .bf16⟩
  | .local _ .vmem, ⟨2, _⟩ => ⟨S2432x1024, .bf16⟩
  | .local _ .vmem, ⟨3, _⟩ => ⟨S2432x1024, .bf16⟩
  | .local _ .vmem, ⟨4, _⟩ => ⟨S512x2432, .bf16⟩
  | .local _ .vmem, ⟨5, _⟩ => ⟨S512x2432, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2432x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInForwardRefIdeal.lean ====
abbrev S16384x1024 : Shape := ⟨2, ![16384, 1024]⟩
abbrev S1024x4864 : Shape := ⟨2, ![1024, 4864]⟩
abbrev S16384x4864 : Shape := ⟨2, ![16384, 4864]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4864, .bf16⟩
  | .hbm, ⟨2, _⟩ => ⟨S16384x4864, .f32⟩
  | .hbm, ⟨3, _⟩ => ⟨S16384x4864, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BInRows.lean ====
abbrev S16384x1024 : Shape := ⟨2, ![16384, 1024]⟩
abbrev S1024x4864 : Shape := ⟨2, ![1024, 4864]⟩
abbrev S16384x4864 : Shape := ⟨2, ![16384, 4864]⟩
abbrev S4864x1024 : Shape := ⟨2, ![4864, 1024]⟩
abbrev S512x2432 : Shape := ⟨2, ![512, 2432]⟩
abbrev S2432x1024 : Shape := ⟨2, ![2432, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x4864, .bf16⟩
  | .hbm, ⟨2, _⟩ => ⟨S16384x4864, .bf16⟩
  | .hbm, ⟨3, _⟩ => ⟨S4864x1024, .bf16⟩
  | .hbm, ⟨4, _⟩ => ⟨S16384x1024, .bf16⟩
  | .local _ .vmem, ⟨0, _⟩ => ⟨S512x2432, .bf16⟩
  | .local _ .vmem, ⟨1, _⟩ => ⟨S512x2432, .bf16⟩
  | .local _ .vmem, ⟨2, _⟩ => ⟨S2432x1024, .bf16⟩
  | .local _ .vmem, ⟨3, _⟩ => ⟨S2432x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2432x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInRowsRefIdeal.lean ====
abbrev S16384x1024 : Shape := ⟨2, ![16384, 1024]⟩
abbrev S1024x4864 : Shape := ⟨2, ![1024, 4864]⟩
abbrev S16384x4864 : Shape := ⟨2, ![16384, 4864]⟩
abbrev S4864x1024 : Shape := ⟨2, ![4864, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4864, .bf16⟩
  | .hbm, ⟨2, _⟩ => ⟨S16384x4864, .bf16⟩
  | .hbm, ⟨3, _⟩ => ⟨S16384x4864, .f32⟩
  | .hbm, ⟨4, _⟩ => ⟨S16384x4864, .bf16⟩
  | .hbm, ⟨5, _⟩ => ⟨S16384x4864, .f32⟩
  | .hbm, ⟨6, _⟩ => ⟨S4864x1024, .f32⟩
  | .hbm, ⟨7, _⟩ => ⟨S1024x4864, .f32⟩
  | .hbm, ⟨8, _⟩ => ⟨S1024x4864, .bf16⟩
  | .hbm, ⟨9, _⟩ => ⟨S16384x1024, .f32⟩
  | .hbm, ⟨10, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== BInWeight.lean ====
abbrev S16384x1024 : Shape := ⟨2, ![16384, 1024]⟩
abbrev S1024x4864 : Shape := ⟨2, ![1024, 4864]⟩
abbrev S16384x4864 : Shape := ⟨2, ![16384, 4864]⟩
abbrev S4864x1024 : Shape := ⟨2, ![4864, 1024]⟩
abbrev S1024x2432 : Shape := ⟨2, ![1024, 2432]⟩
abbrev S1024x1024 : Shape := ⟨2, ![1024, 1024]⟩
abbrev S2432x1024 : Shape := ⟨2, ![2432, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x4864, .bf16⟩
  | .hbm, ⟨2, _⟩ => ⟨S16384x4864, .bf16⟩
  | .hbm, ⟨3, _⟩ => ⟨S4864x1024, .bf16⟩
  | .hbm, ⟨4, _⟩ => ⟨S1024x4864, .bf16⟩
  | .local _ .vmem, ⟨0, _⟩ => ⟨S1024x2432, .bf16⟩
  | .local _ .vmem, ⟨1, _⟩ => ⟨S1024x2432, .bf16⟩
  | .local _ .vmem, ⟨2, _⟩ => ⟨S1024x1024, .bf16⟩
  | .local _ .vmem, ⟨3, _⟩ => ⟨S1024x1024, .bf16⟩
  | .local _ .vmem, ⟨4, _⟩ => ⟨S2432x1024, .bf16⟩
  | .local _ .vmem, ⟨5, _⟩ => ⟨S2432x1024, .bf16⟩
  | .local _ .vmem, ⟨6, _⟩ => ⟨S2432x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2432x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInWeightRefIdeal.lean ====
abbrev S16384x1024 : Shape := ⟨2, ![16384, 1024]⟩
abbrev S1024x4864 : Shape := ⟨2, ![1024, 4864]⟩
abbrev S16384x4864 : Shape := ⟨2, ![16384, 4864]⟩
abbrev S4864x1024 : Shape := ⟨2, ![4864, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4864, .bf16⟩
  | .hbm, ⟨2, _⟩ => ⟨S16384x4864, .bf16⟩
  | .hbm, ⟨3, _⟩ => ⟨S16384x4864, .f32⟩
  | .hbm, ⟨4, _⟩ => ⟨S16384x4864, .bf16⟩
  | .hbm, ⟨5, _⟩ => ⟨S16384x4864, .f32⟩
  | .hbm, ⟨6, _⟩ => ⟨S4864x1024, .f32⟩
  | .hbm, ⟨7, _⟩ => ⟨S1024x4864, .f32⟩
  | .hbm, ⟨8, _⟩ => ⟨S1024x4864, .bf16⟩
  | .hbm, ⟨9, _⟩ => ⟨S16384x1024, .f32⟩
  | .hbm, ⟨10, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== BOutForward.lean ====
abbrev S16384x768 : Shape := ⟨2, ![16384, 768]⟩
abbrev S768x1024 : Shape := ⟨2, ![768, 1024]⟩
abbrev S16384x1024 : Shape := ⟨2, ![16384, 1024]⟩
abbrev S512x768 : Shape := ⟨2, ![512, 768]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x768, .bf16⟩
  | .hbm, ⟨1, _⟩ => ⟨S768x1024, .f32⟩
  | .hbm, ⟨2, _⟩ => ⟨S768x1024, .bf16⟩
  | .hbm, ⟨3, _⟩ => ⟨S16384x1024, .f32⟩
  | .local _ .vmem, ⟨0, _⟩ => ⟨S512x768, .bf16⟩
  | .local _ .vmem, ⟨1, _⟩ => ⟨S512x768, .bf16⟩
  | .local _ .vmem, ⟨2, _⟩ => ⟨S768x1024, .bf16⟩
  | .local _ .vmem, ⟨3, _⟩ => ⟨S512x1024, .f32⟩
  | .local _ .vmem, ⟨4, _⟩ => ⟨S512x1024, .f32⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BOutForwardIdeal.lean ====
abbrev S16384x768 : Shape := ⟨2, ![16384, 768]⟩
abbrev S768x1024 : Shape := ⟨2, ![768, 1024]⟩
abbrev S16384x1024 : Shape := ⟨2, ![16384, 1024]⟩
abbrev S512x768 : Shape := ⟨2, ![512, 768]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x768, .bf16⟩
  | .hbm, ⟨1, _⟩ => ⟨S768x1024, .f32⟩
  | .hbm, ⟨2, _⟩ => ⟨S768x1024, .bf16⟩
  | .hbm, ⟨3, _⟩ => ⟨S16384x1024, .f32⟩
  | .local _ .vmem, ⟨0, _⟩ => ⟨S512x768, .bf16⟩
  | .local _ .vmem, ⟨1, _⟩ => ⟨S512x768, .bf16⟩
  | .local _ .vmem, ⟨2, _⟩ => ⟨S768x1024, .bf16⟩
  | .local _ .vmem, ⟨3, _⟩ => ⟨S512x1024, .f32⟩
  | .local _ .vmem, ⟨4, _⟩ => ⟨S512x1024, .f32⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BOutForwardRefIdeal.lean ====
abbrev S16384x768 : Shape := ⟨2, ![16384, 768]⟩
abbrev S768x1024 : Shape := ⟨2, ![768, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S768x1024, .f32⟩
  | .hbm, ⟨2, _⟩ => ⟨S16384x1024, .f32⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BOutRows.lean ====
abbrev S16384x768 : Shape := ⟨2, ![16384, 768]⟩
abbrev S768x1024 : Shape := ⟨2, ![768, 1024]⟩
abbrev S16384x1024 : Shape := ⟨2, ![16384, 1024]⟩
abbrev S512x1024 : Shape := ⟨2, ![512, 1024]⟩
abbrev S512x768 : Shape := ⟨2, ![512, 768]⟩

abbrev nBuf : Space → Nat
  | .hbm => 5
  | .vmem => 5
  | .smem => 0
  | _ => 0

abbrev bufTy : (tb : Table) → Fin (tcTables nBuf tb) → BufTy
  | .hbm, ⟨0, _⟩ => ⟨S16384x768, .bf16⟩
  | .hbm, ⟨1, _⟩ => ⟨S768x1024, .f32⟩
  | .hbm, ⟨2, _⟩ => ⟨S16384x1024, .f32⟩
  | .hbm, ⟨3, _⟩ => ⟨S768x1024, .bf16⟩
  | .hbm, ⟨4, _⟩ => ⟨S16384x768, .bf16⟩
  | .local _ .vmem, ⟨0, _⟩ => ⟨S512x1024, .f32⟩
  | .local _ .vmem, ⟨1, _⟩ => ⟨S512x1024, .f32⟩
  | .local _ .vmem, ⟨2, _⟩ => ⟨S768x1024, .bf16⟩
  | .local _ .vmem, ⟨3, _⟩ => ⟨S512x768, .bf16⟩
  | .local _ .vmem, ⟨4, _⟩ => ⟨S512x768, .bf16⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BOutRowsIdeal.lean ====
abbrev S16384x768 : Shape := ⟨2, ![16384, 768]⟩
abbrev S768x1024 : Shape := ⟨2, ![768, 1024]⟩
abbrev S16384x1024 : Shape := ⟨2, ![16384, 1024]⟩
abbrev S512x1024 : Shape := ⟨2, ![512, 1024]⟩
abbrev S512x768 : Shape := ⟨2, ![512, 768]⟩

abbrev nBuf : Space → Nat
  | .hbm => 5
  | .vmem => 5
  | .smem => 0
  | _ => 0

abbrev bufTy : (tb : Table) → Fin (tcTables nBuf tb) → BufTy
  | .hbm, ⟨0, _⟩ => ⟨S16384x768, .bf16⟩
  | .hbm, ⟨1, _⟩ => ⟨S768x1024, .f32⟩
  | .hbm, ⟨2, _⟩ => ⟨S16384x1024, .f32⟩
  | .hbm, ⟨3, _⟩ => ⟨S768x1024, .bf16⟩
  | .hbm, ⟨4, _⟩ => ⟨S16384x768, .bf16⟩
  | .local _ .vmem, ⟨0, _⟩ => ⟨S512x1024, .f32⟩
  | .local _ .vmem, ⟨1, _⟩ => ⟨S512x1024, .f32⟩
  | .local _ .vmem, ⟨2, _⟩ => ⟨S768x1024, .bf16⟩
  | .local _ .vmem, ⟨3, _⟩ => ⟨S512x768, .bf16⟩
  | .local _ .vmem, ⟨4, _⟩ => ⟨S512x768, .bf16⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BOutRowsRefIdeal.lean ====
abbrev S16384x768 : Shape := ⟨2, ![16384, 768]⟩
abbrev S768x1024 : Shape := ⟨2, ![768, 1024]⟩
abbrev S16384x1024 : Shape := ⟨2, ![16384, 1024]⟩
abbrev S1024x768 : Shape := ⟨2, ![1024, 768]⟩

abbrev nBuf : Space → Nat
  | .hbm => 8
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S768x1024, .f32⟩
  | .hbm, ⟨2, _⟩ => ⟨S16384x1024, .f32⟩
  | .hbm, ⟨3, _⟩ => ⟨S16384x1024, .f32⟩
  | .hbm, ⟨4, _⟩ => ⟨S1024x768, .f32⟩
  | .hbm, ⟨5, _⟩ => ⟨S768x1024, .f32⟩
  | .hbm, ⟨6, _⟩ => ⟨S16384x768, .f32⟩
  | .hbm, ⟨7, _⟩ => ⟨S16384x768, .bf16⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BOutWeight.lean ====
abbrev S16384x768 : Shape := ⟨2, ![16384, 768]⟩
abbrev S768x1024 : Shape := ⟨2, ![768, 1024]⟩
abbrev S16384x1024 : Shape := ⟨2, ![16384, 1024]⟩
abbrev S1024x768 : Shape := ⟨2, ![1024, 768]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x768, .bf16⟩
  | .hbm, ⟨1, _⟩ => ⟨S768x1024, .f32⟩
  | .hbm, ⟨2, _⟩ => ⟨S16384x1024, .f32⟩
  | .hbm, ⟨3, _⟩ => ⟨S768x1024, .f32⟩
  | .local _ .vmem, ⟨0, _⟩ => ⟨S1024x768, .bf16⟩
  | .local _ .vmem, ⟨1, _⟩ => ⟨S1024x768, .bf16⟩
  | .local _ .vmem, ⟨2, _⟩ => ⟨S1024x1024, .f32⟩
  | .local _ .vmem, ⟨3, _⟩ => ⟨S1024x1024, .f32⟩
  | .local _ .vmem, ⟨4, _⟩ => ⟨S768x1024, .f32⟩
  | .local _ .vmem, ⟨5, _⟩ => ⟨S768x1024, .f32⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BOutWeightIdeal.lean ====
abbrev S16384x768 : Shape := ⟨2, ![16384, 768]⟩
abbrev S768x1024 : Shape := ⟨2, ![768, 1024]⟩
abbrev S16384x1024 : Shape := ⟨2, ![16384, 1024]⟩
abbrev S1024x768 : Shape := ⟨2, ![1024, 768]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x768, .bf16⟩
  | .hbm, ⟨1, _⟩ => ⟨S768x1024, .f32⟩
  | .hbm, ⟨2, _⟩ => ⟨S16384x1024, .f32⟩
  | .hbm, ⟨3, _⟩ => ⟨S768x1024, .f32⟩
  | .local _ .vmem, ⟨0, _⟩ => ⟨S1024x768, .bf16⟩
  | .local _ .vmem, ⟨1, _⟩ => ⟨S1024x768, .bf16⟩
  | .local _ .vmem, ⟨2, _⟩ => ⟨S1024x1024, .f32⟩
  | .local _ .vmem, ⟨3, _⟩ => ⟨S1024x1024, .f32⟩
  | .local _ .vmem, ⟨4, _⟩ => ⟨S768x1024, .f32⟩
  | .local _ .vmem, ⟨5, _⟩ => ⟨S768x1024, .f32⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BOutWeightRefIdeal.lean ====
abbrev S16384x768 : Shape := ⟨2, ![16384, 768]⟩
abbrev S768x1024 : Shape := ⟨2, ![768, 1024]⟩
abbrev S16384x1024 : Shape := ⟨2, ![16384, 1024]⟩
abbrev S1024x768 : Shape := ⟨2, ![1024, 768]⟩

abbrev nBuf : Space → Nat
  | .hbm => 8
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S768x1024, .f32⟩
  | .hbm, ⟨2, _⟩ => ⟨S16384x1024, .f32⟩
  | .hbm, ⟨3, _⟩ => ⟨S16384x1024, .f32⟩
  | .hbm, ⟨4, _⟩ => ⟨S1024x768, .f32⟩
  | .hbm, ⟨5, _⟩ => ⟨S768x1024, .f32⟩
  | .hbm, ⟨6, _⟩ => ⟨S16384x768, .f32⟩
  | .hbm, ⟨7, _⟩ => ⟨S16384x768, .bf16⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QueryForward.lean ====
abbrev S16384x384 : Shape := ⟨2, ![16384, 384]⟩
abbrev S384x1152 : Shape := ⟨2, ![384, 1152]⟩
abbrev S16384x1152 : Shape := ⟨2, ![16384, 1152]⟩
abbrev S512x384 : Shape := ⟨2, ![512, 384]⟩
abbrev S512x1152 : Shape := ⟨2, ![512, 1152]⟩

abbrev nBuf : Space → Nat
  | .hbm => 4
  | .vmem => 5
  | .smem => 0
  | _ => 0

abbrev bufTy : (tb : Table) → Fin (tcTables nBuf tb) → BufTy
  | .hbm, ⟨0, _⟩ => ⟨S16384x384, .bf16⟩
  | .hbm, ⟨1, _⟩ => ⟨S384x1152, .f32⟩
  | .hbm, ⟨2, _⟩ => ⟨S384x1152, .bf16⟩
  | .hbm, ⟨3, _⟩ => ⟨S16384x1152, .f32⟩
  | .local _ .vmem, ⟨0, _⟩ => ⟨S512x384, .bf16⟩
  | .local _ .vmem, ⟨1, _⟩ => ⟨S512x384, .bf16⟩
  | .local _ .vmem, ⟨2, _⟩ => ⟨S384x1152, .bf16⟩
  | .local _ .vmem, ⟨3, _⟩ => ⟨S512x1152, .f32⟩
  | .local _ .vmem, ⟨4, _⟩ => ⟨S512x1152, .f32⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryForwardRefIdeal.lean ====
abbrev S16384x384 : Shape := ⟨2, ![16384, 384]⟩
abbrev S384x1152 : Shape := ⟨2, ![384, 1152]⟩
abbrev S16384x1152 : Shape := ⟨2, ![16384, 1152]⟩

abbrev nBuf : Space → Nat
  | .hbm => 3
  | .vmem => 0
  | .smem => 0
  | _ => 0

abbrev bufTy : (tb : Table) → Fin (tcTables nBuf tb) → BufTy
  | .hbm, ⟨0, _⟩ => ⟨S16384x384, .bf16⟩
  | .hbm, ⟨1, _⟩ => ⟨S384x1152, .f32⟩
  | .hbm, ⟨2, _⟩ => ⟨S16384x1152, .f32⟩
  | _, _ => ⟨S16384x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== QueryRows.lean ====
abbrev S16384x384 : Shape := ⟨2, ![16384, 384]⟩
abbrev S384x1152 : Shape := ⟨2, ![384, 1152]⟩
abbrev S16384x1152 : Shape := ⟨2, ![16384, 1152]⟩
abbrev S512x1152 : Shape := ⟨2, ![512, 1152]⟩
abbrev S512x384 : Shape := ⟨2, ![512, 384]⟩

abbrev nBuf : Space → Nat
  | .hbm => 5
  | .vmem => 5
  | .smem => 0
  | _ => 0

abbrev bufTy : (tb : Table) → Fin (tcTables nBuf tb) → BufTy
  | .hbm, ⟨0, _⟩ => ⟨S16384x384, .bf16⟩
  | .hbm, ⟨1, _⟩ => ⟨S384x1152, .f32⟩
  | .hbm, ⟨2, _⟩ => ⟨S16384x1152, .f32⟩
  | .hbm, ⟨3, _⟩ => ⟨S384x1152, .bf16⟩
  | .hbm, ⟨4, _⟩ => ⟨S16384x384, .bf16⟩
  | .local _ .vmem, ⟨0, _⟩ => ⟨S512x1152, .f32⟩
  | .local _ .vmem, ⟨1, _⟩ => ⟨S512x1152, .f32⟩
  | .local _ .vmem, ⟨2, _⟩ => ⟨S384x1152, .bf16⟩
  | .local _ .vmem, ⟨3, _⟩ => ⟨S512x384, .bf16⟩
  | .local _ .vmem, ⟨4, _⟩ => ⟨S512x384, .bf16⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryRowsIdeal.lean ====
abbrev S16384x384 : Shape := ⟨2, ![16384, 384]⟩
abbrev S384x1152 : Shape := ⟨2, ![384, 1152]⟩
abbrev S16384x1152 : Shape := ⟨2, ![16384, 1152]⟩
abbrev S512x1152 : Shape := ⟨2, ![512, 1152]⟩
abbrev S512x384 : Shape := ⟨2, ![512, 384]⟩

abbrev nBuf : Space → Nat
  | .hbm => 5
  | .vmem => 5
  | .smem => 0
  | _ => 0

abbrev bufTy : (tb : Table) → Fin (tcTables nBuf tb) → BufTy
  | .hbm, ⟨0, _⟩ => ⟨S16384x384, .bf16⟩
  | .hbm, ⟨1, _⟩ => ⟨S384x1152, .f32⟩
  | .hbm, ⟨2, _⟩ => ⟨S16384x1152, .f32⟩
  | .hbm, ⟨3, _⟩ => ⟨S384x1152, .bf16⟩
  | .hbm, ⟨4, _⟩ => ⟨S16384x384, .bf16⟩
  | .local _ .vmem, ⟨0, _⟩ => ⟨S512x1152, .f32⟩
  | .local _ .vmem, ⟨1, _⟩ => ⟨S512x1152, .f32⟩
  | .local _ .vmem, ⟨2, _⟩ => ⟨S384x1152, .bf16⟩
  | .local _ .vmem, ⟨3, _⟩ => ⟨S512x384, .bf16⟩
  | .local _ .vmem, ⟨4, _⟩ => ⟨S512x384, .bf16⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryRowsRefIdeal.lean ====
abbrev S16384x384 : Shape := ⟨2, ![16384, 384]⟩
abbrev S384x1152 : Shape := ⟨2, ![384, 1152]⟩
abbrev S16384x1152 : Shape := ⟨2, ![16384, 1152]⟩
abbrev S1152x384 : Shape := ⟨2, ![1152, 384]⟩

abbrev nBuf : Space → Nat
  | .hbm => 8
  | .vmem => 0
  | .smem => 0
  | _ => 0

abbrev bufTy : (tb : Table) → Fin (tcTables nBuf tb) → BufTy
  | .hbm, ⟨0, _⟩ => ⟨S16384x384, .bf16⟩
  | .hbm, ⟨1, _⟩ => ⟨S384x1152, .f32⟩
  | .hbm, ⟨2, _⟩ => ⟨S16384x1152, .f32⟩
  | .hbm, ⟨3, _⟩ => ⟨S16384x1152, .f32⟩
  | .hbm, ⟨4, _⟩ => ⟨S1152x384, .f32⟩
  | .hbm, ⟨5, _⟩ => ⟨S384x1152, .f32⟩
  | .hbm, ⟨6, _⟩ => ⟨S16384x384, .f32⟩
  | .hbm, ⟨7, _⟩ => ⟨S16384x384, .bf16⟩
  | _, _ => ⟨S16384x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QueryWeight.lean ====
abbrev S16384x384 : Shape := ⟨2, ![16384, 384]⟩
abbrev S384x1152 : Shape := ⟨2, ![384, 1152]⟩
abbrev S16384x1152 : Shape := ⟨2, ![16384, 1152]⟩
abbrev S1024x384 : Shape := ⟨2, ![1024, 384]⟩
abbrev S1024x1152 : Shape := ⟨2, ![1024, 1152]⟩

abbrev nBuf : Space → Nat
  | .hbm => 4
  | .vmem => 6
  | .smem => 0
  | _ => 0

abbrev bufTy : (tb : Table) → Fin (tcTables nBuf tb) → BufTy
  | .hbm, ⟨0, _⟩ => ⟨S16384x384, .bf16⟩
  | .hbm, ⟨1, _⟩ => ⟨S384x1152, .f32⟩
  | .hbm, ⟨2, _⟩ => ⟨S16384x1152, .f32⟩
  | .hbm, ⟨3, _⟩ => ⟨S384x1152, .f32⟩
  | .local _ .vmem, ⟨0, _⟩ => ⟨S1024x384, .bf16⟩
  | .local _ .vmem, ⟨1, _⟩ => ⟨S1024x384, .bf16⟩
  | .local _ .vmem, ⟨2, _⟩ => ⟨S1024x1152, .f32⟩
  | .local _ .vmem, ⟨3, _⟩ => ⟨S1024x1152, .f32⟩
  | .local _ .vmem, ⟨4, _⟩ => ⟨S384x1152, .f32⟩
  | .local _ .vmem, ⟨5, _⟩ => ⟨S384x1152, .f32⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QueryWeightIdeal.lean ====
abbrev S16384x384 : Shape := ⟨2, ![16384, 384]⟩
abbrev S384x1152 : Shape := ⟨2, ![384, 1152]⟩
abbrev S16384x1152 : Shape := ⟨2, ![16384, 1152]⟩
abbrev S1024x384 : Shape := ⟨2, ![1024, 384]⟩
abbrev S1024x1152 : Shape := ⟨2, ![1024, 1152]⟩

abbrev nBuf : Space → Nat
  | .hbm => 4
  | .vmem => 6
  | .smem => 0
  | _ => 0

abbrev bufTy : (tb : Table) → Fin (tcTables nBuf tb) → BufTy
  | .hbm, ⟨0, _⟩ => ⟨S16384x384, .bf16⟩
  | .hbm, ⟨1, _⟩ => ⟨S384x1152, .f32⟩
  | .hbm, ⟨2, _⟩ => ⟨S16384x1152, .f32⟩
  | .hbm, ⟨3, _⟩ => ⟨S384x1152, .f32⟩
  | .local _ .vmem, ⟨0, _⟩ => ⟨S1024x384, .bf16⟩
  | .local _ .vmem, ⟨1, _⟩ => ⟨S1024x384, .bf16⟩
  | .local _ .vmem, ⟨2, _⟩ => ⟨S1024x1152, .f32⟩
  | .local _ .vmem, ⟨3, _⟩ => ⟨S1024x1152, .f32⟩
  | .local _ .vmem, ⟨4, _⟩ => ⟨S384x1152, .f32⟩
  | .local _ .vmem, ⟨5, _⟩ => ⟨S384x1152, .f32⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QueryWeightRefIdeal.lean ====
abbrev S16384x384 : Shape := ⟨2, ![16384, 384]⟩
abbrev S384x1152 : Shape := ⟨2, ![384, 1152]⟩
abbrev S16384x1152 : Shape := ⟨2, ![16384, 1152]⟩
abbrev S1152x384 : Shape := ⟨2, ![1152, 384]⟩

abbrev nBuf : Space → Nat
  | .hbm => 8
  | .vmem => 0
  | .smem => 0
  | _ => 0

abbrev bufTy : (tb : Table) → Fin (tcTables nBuf tb) → BufTy
  | .hbm, ⟨0, _⟩ => ⟨S16384x384, .bf16⟩
  | .hbm, ⟨1, _⟩ => ⟨S384x1152, .f32⟩
  | .hbm, ⟨2, _⟩ => ⟨S16384x1152, .f32⟩
  | .hbm, ⟨3, _⟩ => ⟨S16384x1152, .f32⟩
  | .hbm, ⟨4, _⟩ => ⟨S1152x384, .f32⟩
  | .hbm, ⟨5, _⟩ => ⟨S384x1152, .f32⟩
  | .hbm, ⟨6, _⟩ => ⟨S16384x384, .f32⟩
  | .hbm, ⟨7, _⟩ => ⟨S16384x384, .bf16⟩
  | _, _ => ⟨S16384x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KeyForward.lean ====
abbrev S16384x256 : Shape := ⟨2, ![16384, 256]⟩
abbrev S256x1536 : Shape := ⟨2, ![256, 1536]⟩
abbrev S16384x1536 : Shape := ⟨2, ![16384, 1536]⟩
abbrev S512x256 : Shape := ⟨2, ![512, 256]⟩
abbrev S512x1536 : Shape := ⟨2, ![512, 1536]⟩

abbrev nBuf : Space → Nat
  | .hbm => 4
  | .vmem => 5
  | .smem => 0
  | _ => 0

abbrev bufTy : (tb : Table) → Fin (tcTables nBuf tb) → BufTy
  | .hbm, ⟨0, _⟩ => ⟨S16384x256, .bf16⟩
  | .hbm, ⟨1, _⟩ => ⟨S256x1536, .f32⟩
  | .hbm, ⟨2, _⟩ => ⟨S256x1536, .bf16⟩
  | .hbm, ⟨3, _⟩ => ⟨S16384x1536, .bf16⟩
  | .local _ .vmem, ⟨0, _⟩ => ⟨S512x256, .bf16⟩
  | .local _ .vmem, ⟨1, _⟩ => ⟨S512x256, .bf16⟩
  | .local _ .vmem, ⟨2, _⟩ => ⟨S256x1536, .bf16⟩
  | .local _ .vmem, ⟨3, _⟩ => ⟨S512x1536, .bf16⟩
  | .local _ .vmem, ⟨4, _⟩ => ⟨S512x1536, .bf16⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyForwardRefIdeal.lean ====
abbrev S16384x256 : Shape := ⟨2, ![16384, 256]⟩
abbrev S256x1536 : Shape := ⟨2, ![256, 1536]⟩
abbrev S16384x1536 : Shape := ⟨2, ![16384, 1536]⟩

abbrev nBuf : Space → Nat
  | .hbm => 4
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x1536, .f32⟩
  | .hbm, ⟨2, _⟩ => ⟨S16384x1536, .f32⟩
  | .hbm, ⟨3, _⟩ => ⟨S16384x1536, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KeyRows.lean ====
abbrev S16384x256 : Shape := ⟨2, ![16384, 256]⟩
abbrev S256x1536 : Shape := ⟨2, ![256, 1536]⟩
abbrev S16384x1536 : Shape := ⟨2, ![16384, 1536]⟩
abbrev S512x1536 : Shape := ⟨2, ![512, 1536]⟩
abbrev S512x256 : Shape := ⟨2, ![512, 256]⟩

abbrev nBuf : Space → Nat
  | .hbm => 5
  | .vmem => 5
  | .smem => 0
  | _ => 0

abbrev bufTy : (tb : Table) → Fin (tcTables nBuf tb) → BufTy
  | .hbm, ⟨0, _⟩ => ⟨S16384x256, .bf16⟩
  | .hbm, ⟨1, _⟩ => ⟨S256x1536, .f32⟩
  | .hbm, ⟨2, _⟩ => ⟨S16384x1536, .bf16⟩
  | .hbm, ⟨3, _⟩ => ⟨S256x1536, .bf16⟩
  | .hbm, ⟨4, _⟩ => ⟨S16384x256, .bf16⟩
  | .local _ .vmem, ⟨0, _⟩ => ⟨S512x1536, .bf16⟩
  | .local _ .vmem, ⟨1, _⟩ => ⟨S512x1536, .bf16⟩
  | .local _ .vmem, ⟨2, _⟩ => ⟨S256x1536, .bf16⟩
  | .local _ .vmem, ⟨3, _⟩ => ⟨S512x256, .bf16⟩
  | .local _ .vmem, ⟨4, _⟩ => ⟨S512x256, .bf16⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyRowsRefIdeal.lean ====
abbrev S16384x256 : Shape := ⟨2, ![16384, 256]⟩
abbrev S256x1536 : Shape := ⟨2, ![256, 1536]⟩
abbrev S16384x1536 : Shape := ⟨2, ![16384, 1536]⟩
abbrev S1536x256 : Shape := ⟨2, ![1536, 256]⟩

abbrev nBuf : Space → Nat
  | .hbm => 10
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x1536, .f32⟩
  | .hbm, ⟨2, _⟩ => ⟨S16384x1536, .bf16⟩
  | .hbm, ⟨3, _⟩ => ⟨S16384x1536, .f32⟩
  | .hbm, ⟨4, _⟩ => ⟨S16384x1536, .bf16⟩
  | .hbm, ⟨5, _⟩ => ⟨S16384x1536, .f32⟩
  | .hbm, ⟨6, _⟩ => ⟨S1536x256, .f32⟩
  | .hbm, ⟨7, _⟩ => ⟨S256x1536, .f32⟩
  | .hbm, ⟨8, _⟩ => ⟨S16384x256, .f32⟩
  | .hbm, ⟨9, _⟩ => ⟨S16384x256, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KeyWeight.lean ====
abbrev S16384x256 : Shape := ⟨2, ![16384, 256]⟩
abbrev S256x1536 : Shape := ⟨2, ![256, 1536]⟩
abbrev S16384x1536 : Shape := ⟨2, ![16384, 1536]⟩
abbrev S1024x256 : Shape := ⟨2, ![1024, 256]⟩
abbrev S1024x1536 : Shape := ⟨2, ![1024, 1536]⟩

abbrev nBuf : Space → Nat
  | .hbm => 4
  | .vmem => 6
  | .smem => 0
  | _ => 0

abbrev bufTy : (tb : Table) → Fin (tcTables nBuf tb) → BufTy
  | .hbm, ⟨0, _⟩ => ⟨S16384x256, .bf16⟩
  | .hbm, ⟨1, _⟩ => ⟨S256x1536, .f32⟩
  | .hbm, ⟨2, _⟩ => ⟨S16384x1536, .bf16⟩
  | .hbm, ⟨3, _⟩ => ⟨S256x1536, .f32⟩
  | .local _ .vmem, ⟨0, _⟩ => ⟨S1024x256, .bf16⟩
  | .local _ .vmem, ⟨1, _⟩ => ⟨S1024x256, .bf16⟩
  | .local _ .vmem, ⟨2, _⟩ => ⟨S1024x1536, .bf16⟩
  | .local _ .vmem, ⟨3, _⟩ => ⟨S1024x1536, .bf16⟩
  | .local _ .vmem, ⟨4, _⟩ => ⟨S256x1536, .f32⟩
  | .local _ .vmem, ⟨5, _⟩ => ⟨S256x1536, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KeyWeightRefIdeal.lean ====
abbrev S16384x256 : Shape := ⟨2, ![16384, 256]⟩
abbrev S256x1536 : Shape := ⟨2, ![256, 1536]⟩
abbrev S16384x1536 : Shape := ⟨2, ![16384, 1536]⟩
abbrev S1536x256 : Shape := ⟨2, ![1536, 256]⟩

abbrev nBuf : Space → Nat
  | .hbm => 10
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x1536, .f32⟩
  | .hbm, ⟨2, _⟩ => ⟨S16384x1536, .bf16⟩
  | .hbm, ⟨3, _⟩ => ⟨S16384x1536, .f32⟩
  | .hbm, ⟨4, _⟩ => ⟨S16384x1536, .bf16⟩
  | .hbm, ⟨5, _⟩ => ⟨S16384x1536, .f32⟩
  | .hbm, ⟨6, _⟩ => ⟨S1536x256, .f32⟩
  | .hbm, ⟨7, _⟩ => ⟨S256x1536, .f32⟩
  | .hbm, ⟨8, _⟩ => ⟨S16384x256, .f32⟩
  | .hbm, ⟨9, _⟩ => ⟨S16384x256, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AInForward.lean ====
abbrev S16384x1024 : Shape := ⟨2, ![16384, 1024]⟩
abbrev S1024x928 : Shape := ⟨2, ![1024, 928]⟩
abbrev S_ : Shape := ⟨0, ![]⟩
abbrev S1024x1024 : Shape := ⟨2, ![1024, 1024]⟩
abbrev S512x1024 : Shape := ⟨2, ![512, 1024]⟩
abbrev S16384x928 : Shape := ⟨2, ![16384, 928]⟩

abbrev nBuf : Space → Nat
  | .hbm => 8
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x928, .f32⟩
  | .hbm, ⟨2, _⟩ => ⟨S_, .i32⟩
  | .hbm, ⟨3, _⟩ => ⟨S_, .f32⟩
  | .hbm, ⟨4, _⟩ => ⟨S1024x1024, .f32⟩
  | .hbm, ⟨5, _⟩ => ⟨S1024x1024, .bf16⟩
  | .hbm, ⟨6, _⟩ => ⟨S16384x1024, .f32⟩
  | .hbm, ⟨7, _⟩ => ⟨S16384x928, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInForwardRefIdeal.lean ====
abbrev S16384x1024 : Shape := ⟨2, ![16384, 1024]⟩
abbrev S1024x928 : Shape := ⟨2, ![1024, 928]⟩
abbrev S16384x928 : Shape := ⟨2, ![16384, 928]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x928, .f32⟩
  | .hbm, ⟨2, _⟩ => ⟨S16384x928, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AInRows.lean ====
abbrev S16384x1024 : Shape := ⟨2, ![16384, 1024]⟩
abbrev S1024x928 : Shape := ⟨2, ![1024, 928]⟩
abbrev S16384x928 : Shape := ⟨2, ![16384, 928]⟩
abbrev S_ : Shape := ⟨0, ![]⟩
abbrev S1024x1024 : Shape := ⟨2, ![1024, 1024]⟩
abbrev S512x1024 : Shape := ⟨2, ![512, 1024]⟩

abbrev nBuf : Space → Nat
  | .hbm => 11
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x928, .f32⟩
  | .hbm, ⟨2, _⟩ => ⟨S16384x928, .f32⟩
  | .hbm, ⟨3, _⟩ => ⟨S_, .i32⟩
  | .hbm, ⟨4, _⟩ => ⟨S_, .f32⟩
  | .hbm, ⟨5, _⟩ => ⟨S16384x1024, .f32⟩
  | .hbm, ⟨6, _⟩ => ⟨S_, .i32⟩
  | .hbm, ⟨7, _⟩ => ⟨S_, .f32⟩
  | .hbm, ⟨8, _⟩ => ⟨S1024x1024, .f32⟩
  | .hbm, ⟨9, _⟩ => ⟨S1024x1024, .bf16⟩
  | .hbm, ⟨10, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInRowsRefIdeal.lean ====
abbrev S16384x1024 : Shape := ⟨2, ![16384, 1024]⟩
abbrev S1024x928 : Shape := ⟨2, ![1024, 928]⟩
abbrev S16384x928 : Shape := ⟨2, ![16384, 928]⟩
abbrev S928x1024 : Shape := ⟨2, ![928, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x928, .f32⟩
  | .hbm, ⟨2, _⟩ => ⟨S16384x928, .f32⟩
  | .hbm, ⟨3, _⟩ => ⟨S16384x928, .f32⟩
  | .hbm, ⟨4, _⟩ => ⟨S928x1024, .f32⟩
  | .hbm, ⟨5, _⟩ => ⟨S1024x928, .f32⟩
  | .hbm, ⟨6, _⟩ => ⟨S16384x1024, .f32⟩
  | .hbm, ⟨7, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AInWeight.lean ====
abbrev S16384x1024 : Shape := ⟨2, ![16384, 1024]⟩
abbrev S1024x928 : Shape := ⟨2, ![1024, 928]⟩
abbrev S16384x928 : Shape := ⟨2, ![16384, 928]⟩
abbrev S_ : Shape := ⟨0, ![]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x928, .f32⟩
  | .hbm, ⟨2, _⟩ => ⟨S16384x928, .f32⟩
  | .hbm, ⟨3, _⟩ => ⟨S_, .i32⟩
  | .hbm, ⟨4, _⟩ => ⟨S_, .f32⟩
  | .hbm, ⟨5, _⟩ => ⟨S16384x1024, .f32⟩
  | .hbm, ⟨6, _⟩ => ⟨S1024x1024, .f32⟩
  | .hbm, ⟨7, _⟩ => ⟨S1024x928, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AInWeightRefIdeal.lean ====
abbrev S16384x1024 : Shape := ⟨2, ![16384, 1024]⟩
abbrev S1024x928 : Shape := ⟨2, ![1024, 928]⟩
abbrev S16384x928 : Shape := ⟨2, ![16384, 928]⟩
abbrev S928x1024 : Shape := ⟨2, ![928, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x928, .f32⟩
  | .hbm, ⟨2, _⟩ => ⟨S16384x928, .f32⟩
  | .hbm, ⟨3, _⟩ => ⟨S16384x928, .f32⟩
  | .hbm, ⟨4, _⟩ => ⟨S928x1024, .f32⟩
  | .hbm, ⟨5, _⟩ => ⟨S1024x928, .f32⟩
  | .hbm, ⟨6, _⟩ => ⟨S16384x1024, .f32⟩
  | .hbm, ⟨7, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Step.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One grid point's values

The body works through its 2048 query rows in four chunks of 512. `c` numbers the chunk. -/

/-- Chunk `c` of a block of 2048 query rows, 96 lanes wide. -/
def qC (x : Vec F S1x2048x96 .bf16) (c : Fin 4) : Vec F S1x512x96 .bf16 :=
  View.ld x (Rect.unit (s := S1x2048x96) ![0, 512 * c.val, 0] S1x512x96.size (by
    intro a; have := c.isLt; fin_cases a <;> simp [S1x512x96, S1x2048x96] <;> omega))

/-- Chunk `c` of a block of 2048 rows of the incoming gradient, 64 lanes wide. -/
def oC (x : Vec F S1x2048x64 .bf16) (c : Fin 4) : Vec F S1x512x64 .bf16 :=
  View.ld x (Rect.unit (s := S1x2048x64) ![0, 512 * c.val, 0] S1x512x64.size (by
    intro a; have := c.isLt; fin_cases a <;> simp [S1x512x64, S1x2048x64] <;> omega))

/-- Chunk `c` of a row of 2048 per-query numbers. -/
def lC (x : Vec F S1x1x2048 .f32) (c : Fin 4) : Vec F S1x1x512 .f32 :=
  View.ld x (Rect.unit (s := S1x1x2048) ![0, 0, 512 * c.val] S1x1x512.size (by
    intro a; have := c.isLt; fin_cases a <;> simp [S1x1x512, S1x1x2048] <;> omega))

section
variable (x0 x1 : Vec F S1x2048x96 .bf16) (x2 x3 : Vec F S1x2048x64 .bf16) (x4 x5 : Vec F S1x1x2048 .f32)

/-- The attention weights of chunk `c`, keys by queries. -/
def ptC (c : Fin 4) : FVec F S2048x512 .f32 := k0_pay13 x1 (qC x0 c) (lC x4 c)

/-- The gradient of the scores of chunk `c`, keys by queries. -/
def dsC (c : Fin 4) : FVec F S2048x512 .bf16 :=
  k0_pay15 (k0_pay10 x2) (k0_pay12 (oC x3 c)) (ptC x0 x1 x4 c) (lC x5 c)

/-- Chunk `c` added to the gradient of the values. -/
def dvS (c : Fin 4) (acc : Vec F S2048x64 .f32) : Vec F S2048x64 .f32 :=
  k0_pay14 x1 (qC x0 c) (oC x3 c) (lC x4 c) acc

/-- Chunk `c` added to the gradient of the keys. -/
def dkS (c : Fin 4) (acc : Vec F S2048x96 .f32) : Vec F S2048x96 .f32 :=
  k0_pay16 (k0_pay10 x2) (k0_pay11 (qC x0 c)) (k0_pay12 (oC x3 c)) (ptC x0 x1 x4 c) (lC x5 c) acc

/-- The gradient of chunk `c`'s queries, added to what the chunk's rows held. -/
def dqS (c : Fin 4) (acc : Vec F S512x96 .f32) : Vec F S512x96 .f32 :=
  k0_pay17 (k0_pay9 x1) (k0_pay10 x2) (k0_pay12 (oC x3 c)) (ptC x0 x1 x4 c) (lC x5 c) acc

/-- What a grid point makes of the values' gradient. -/
def dvN (acc : Vec F S2048x64 .f32) : Vec F S2048x64 .f32 :=
  dvS x0 x1 x3 x4 3 (dvS x0 x1 x3 x4 2 (dvS x0 x1 x3 x4 1 (dvS x0 x1 x3 x4 0 acc)))

/-- What a grid point makes of the keys' gradient. -/
def dkN (acc : Vec F S2048x96 .f32) : Vec F S2048x96 .f32 :=
  dkS x0 x1 x2 x3 x4 x5 3 (dkS x0 x1 x2 x3 x4 x5 2 (dkS x0 x1 x2 x3 x4 x5 1 (dkS x0 x1 x2 x3 x4 x5 0 acc)))

/-- Rows `o … o + 511` of the queries' gradient. -/
def rowsAt (o : ℕ) (ho : o + 512 ≤ 16384) (xq : Vec F S16384x96 .f32) : Vec F S512x96 .f32 :=
  fun y => xq (fun a => ⟨(![o, 0] : Fin 2 → ℕ) a + (y a).val, by
    have h0 := (y 0).isLt; have h1 := (y 1).isLt
    simp only [S512x96, Shape.size] at h0 h1
    fin_cases a
    · show o + (y 0).val < 16384; exact lt_of_lt_of_le (Nat.add_lt_add_left h0 o) ho
    · show 0 + (y 1).val < 96; rw [Nat.zero_add]; exact h1⟩)

/-- What a grid point whose query block is number `j` makes of the queries' gradient: it adds to the block's rows and
leaves the other rows. -/
def dqN (j : Fin 8) (xq : Vec F S16384x96 .f32) : Vec F S16384x96 .f32 := fun y =>
  if h : (y 0).val / 2048 = j.val then
    dqS x0 x1 x2 x3 x4 x5 ⟨(y 0).val % 2048 / 512, by omega⟩
      (rowsAt (2048 * j.val + 512 * ((y 0).val % 2048 / 512)) (by have := j.isLt; omega) xq)
      (fun a => ⟨(![(y 0).val % 512, (y 1).val] : Fin 2 → ℕ) a, by
        have h1 := (y 1).isLt
        fin_cases a
        · exact Nat.mod_lt _ (by decide)
        · exact h1⟩)
  else xq y

end

end Cert.KernelIdeal.Flash

end
-- ==== Proof.Spec.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.Tactic.Stretches
public import Idealize.ShloMosaic.Lib.WordCmp
public import Idealize.ShloMosaic.Lib.WritesUnit
public import Idealize.ShloMosaic.Lib.Pipeline.ValueKit
public import proofs.«01_k».proof.Proof.Step

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch conditions of the body -/

/-- The first grid point of a head. -/
abbrev cond1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- The first query block. -/
abbrev cond2 (i : grid0.Coords) : Prop := (Scalar.cmpi .ne (Scalar.extui (Scalar.cmpi .eq (BitVec.ofNat 32 (i 2).val) 0#32)) 0#32) = 1#1
/-- The last query block. -/
abbrev cond3 (i : grid0.Coords) : Prop := k0_cond3 i = 1#1
/-- The last grid point of a head. -/
abbrev cond4 (i : grid0.Coords) : Prop := k0_cond4 i = 1#1

section
variable (x0 x1 : Vec F S1x2048x96 .bf16) (x2 x3 : Vec F S1x2048x64 .bf16) (x4 x5 : Vec F S1x1x2048 .f32)

/-- The values' gradient after the point. -/
def dvNx (i : grid0.Coords) (xv : Vec F S2048x64 .f32) : Vec F S2048x64 .f32 :=
  dvN x0 x1 x3 x4 (if cond2 i then k0_pay8 else xv)
/-- The keys' gradient after the point. -/
def dkNx (i : grid0.Coords) (xk : Vec F S2048x96 .f32) : Vec F S2048x96 .f32 :=
  dkN x0 x1 x2 x3 x4 x5 (if cond2 i then k0_pay7 else xk)
/-- The queries' gradient after the point. -/
def dqNx (i : grid0.Coords) (xq : Vec F S16384x96 .f32) : Vec F S16384x96 .f32 :=
  dqN x0 x1 x2 x3 x4 x5 (i 2) (if cond1 i then k0_pay6 else xq)
/-- The block of the values' gradient that the point leaves. -/
def dvOut (i : grid0.Coords) (xv : Vec F S2048x64 .f32) (y : Vec F S1x2048x64 .bf16) : Vec F S1x2048x64 .bf16 :=
  if cond3 i then k0_pay4 (dvNx x0 x1 x3 x4 i xv) else y
/-- The block of the keys' gradient that the point leaves. -/
def dkOut (i : grid0.Coords) (xk : Vec F S2048x96 .f32) (y : Vec F S1x2048x96 .bf16) : Vec F S1x2048x96 .bf16 :=
  if cond3 i then k0_pay3 (dkNx x0 x1 x2 x3 x4 x5 i xk) else y
/-- The block of the queries' gradient that the point leaves. -/
def dqOut (i : grid0.Coords) (xq : Vec F S16384x96 .f32) (y : Vec F S1x16384x96 .bf16) : Vec F S1x16384x96 .bf16 :=
  if cond4 i then k0_pay5 (dqNx x0 x1 x2 x3 x4 x5 i xq) else y
end

/-- The body's triple at a grid point: the inputs' buffers keep what they held, the three accumulators and the three
result blocks come to hold the values above. -/
def BodySpec (c : Dev nD) (i : grid0.Coords) (arg3 : Memref sig .tc .vmem S1x2048x96 .bf16) (harg3 : arg3.IsWhole) (arg4 : Memref sig .tc .vmem S1x2048x96 .bf16) (harg4 : arg4.IsWhole) (arg5 : Memref sig .tc .vmem S1x2048x64 .bf16) (harg5 : arg5.IsWhole) (arg6 : Memref sig .tc .vmem S1x2048x64 .bf16) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x16384x96 .bf16) (harg9 : arg9.IsWhole) (arg10 : Memref sig .tc .vmem S1x2048x96 .bf16) (harg10 : arg10.IsWhole) (arg11 : Memref sig .tc .vmem S1x2048x64 .bf16) (harg11 : arg11.IsWhole) (arg12 : Memref sig .tc .vmem S16384x96 .f32) (harg12 : arg12.IsWhole) (arg13 : Memref sig .tc .vmem S2048x96 .f32) (harg13 : arg13.IsWhole) (arg14 : Memref sig .tc .vmem S2048x64 .f32) (harg14 : arg14.IsWhole)
   (x0 x1 : Vec F S1x2048x96 .bf16) (x2 x3 : Vec F S1x2048x64 .bf16) (x4 x5 : Vec F S1x1x2048 .f32)
   (y9 : Vec F S1x16384x96 .bf16) (y10 : Vec F S1x2048x96 .bf16) (y11 : Vec F S1x2048x64 .bf16)
   (xq : Vec F S16384x96 .f32) (xk : Vec F S2048x96 .f32) (xv : Vec F S2048x64 .f32) : Prop :=
   ∀ (E : Set ℕ) (K : PUnit → sProp 𝕄),
   iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y9 ∗ owns (c : Thread nD τ) arg10 fullShare y10 ∗ owns (c : Thread nD τ) arg11 fullShare y11 ∗ owns (c : Thread nD τ) arg12 fullShare xq ∗ owns (c : Thread nD τ) arg13 fullShare xk ∗ owns (c : Thread nD τ) arg14 fullShare xv ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (dqOut x0 x1 x2 x3 x4 x5 i xq y9) ∗ owns (c : Thread nD τ) arg10 fullShare (dkOut x0 x1 x2 x3 x4 x5 i xk y10) ∗ owns (c : Thread nD τ) arg11 fullShare (dvOut x0 x1 x3 x4 i xv y11) ∗ owns (c : Thread nD τ) arg12 fullShare (dqNx x0 x1 x2 x3 x4 x5 i xq) ∗ owns (c : Thread nD τ) arg13 fullShare (dkNx x0 x1 x2 x3 x4 x5 i xk) ∗ owns (c : Thread nD τ) arg14 fullShare (dvNx x0 x1 x3 x4 i xv)) -∗ K ⟨⟩)) ⊢ wp frame (wpE (defs₀ (F := F)) Variants.none c none) E (cc0_flash_bwd_12x16384x16384x96 i arg3 harg3 arg4 harg4 arg5 harg5 arg6 harg6 arg7 harg7 arg8 harg8 arg9 harg9 arg10 harg10 arg11 harg11 arg12 harg12 arg13 harg13 arg14 harg14) K

/-! ## Reading what a list of stores leaves -/

/-- A last store of the whole buffer leaves its payload. -/
theorem read_writes_whole {κ : Kind} {sp : Space} {S : Shape} {e : EltTy} {Val : EltTy → Type} (v : View sig κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  subst h; funext y
  exact View.read_writes_cons_unit_of_mem v f inb w L y y rfl (fun a => (Nat.zero_add _).symm)

/-- Where chunk `r` of a point's queries begins in the whole queries' gradient. -/
theorem off1_eq (i : grid0.Coords) (r : Fin 4) :
    k0_off1 i (BitVec.ofNat 32 (512 * r.val)) = ![2048 * (i 2).val + 512 * r.val, 0] := by
  have hi : (i 2).val < 8 := (i 2).isLt
  have hr := r.isLt
  have e : ((BitVec.ofNat 32 (i 2).val) * 2048#32 + BitVec.ofNat 32 (512 * r.val)).toNat = 2048 * (i 2).val + 512 * r.val := by
    simp only [BitVec.toNat_add, BitVec.toNat_mul, BitVec.toNat_ofNat]
    omega
  show ![((BitVec.ofNat 32 (i 2).val) * 2048#32 + BitVec.ofNat 32 (512 * r.val)).toNat, 0] = _
  rw [e]

/-- A load of 512 rows of the queries' gradient. -/
theorem ld_rows (xq : Vec F S16384x96 .f32) {off : Fin 2 → ℕ} (o : ℕ) (ho : o + 512 ≤ 16384) (h : off = ![o, 0])
    (inb : ∀ a, off a + S512x96.size a ≤ S16384x96.size a) :
    View.ld xq (Rect.unit (s := S16384x96) off S512x96.size inb) = rowsAt o ho xq := by
  subst h
  funext y
  refine congrArg xq (funext fun a => Fin.ext ?_)
  show (![o, 0] : Fin 2 → ℕ) a + 1 * (y a).val = _
  rw [Nat.one_mul]

/-- Four stores of 512 rows each, one below the other from row `2048 * j` on, read back. -/
theorem read_rows4 {κ : Kind} {sp : Space} {Val : EltTy → Type} {e : EltTy} (v : View sig κ sp S16384x96 e) (f : v.ty.Contents Val)
    (j : ℕ) {off0 off1 off2 off3 : Fin 2 → ℕ}
    (e0 : off0 = ![2048 * j + 512 * 0, 0]) (e1 : off1 = ![2048 * j + 512 * 1, 0]) (e2 : off2 = ![2048 * j + 512 * 2, 0]) (e3 : off3 = ![2048 * j + 512 * 3, 0])
    (i0 : ∀ a, off0 a + S512x96.size a ≤ S16384x96.size a) (i1 : ∀ a, off1 a + S512x96.size a ≤ S16384x96.size a)
    (i2 : ∀ a, off2 a + S512x96.size a ≤ S16384x96.size a) (i3 : ∀ a, off3 a + S512x96.size a ≤ S16384x96.size a)
    (w0 w1 w2 w3 : S512x96.Idx → Val e) (L : List (View.Piece Val S16384x96 e)) (G : Fin 4 → S512x96.Idx → Val e)
    (h0 : w0 = G 0) (h1 : w1 = G 1) (h2 : w2 = G 2) (h3 : w3 = G 3) (y : S16384x96.Idx) :
    v.read Val (v.writes Val f ((⟨Rect.unit (s := S16384x96) off3 S512x96.size i3, w3⟩ : View.Piece Val S16384x96 e)
      :: ⟨Rect.unit (s := S16384x96) off2 S512x96.size i2, w2⟩ :: ⟨Rect.unit (s := S16384x96) off1 S512x96.size i1, w1⟩
      :: ⟨Rect.unit (s := S16384x96) off0 S512x96.size i0, w0⟩ :: L)) y
      = if h : (y 0).val / 2048 = j then
          G ⟨(y 0).val % 2048 / 512, by omega⟩ (fun a => ⟨(![(y 0).val % 512, (y 1).val] : Fin 2 → ℕ) a, by
            have h1 := (y 1).isLt
            fin_cases a
            · exact Nat.mod_lt _ (by decide)
            · exact h1⟩)
        else v.read Val (v.writes Val f L) y := by
  subst h0 h1 h2 h3
  by_cases h : (y 0).val / 2048 = j
  · rw [dif_pos h]
    have hq : (y 0).val % 2048 / 512 < 4 := by omega
    set x : S512x96.Idx := (fun a => ⟨(![(y 0).val % 512, (y 1).val] : Fin 2 → ℕ) a, by
            have h1 := (y 1).isLt
            fin_cases a
            · exact Nat.mod_lt _ (by decide)
            · exact h1⟩) with hx
    have x0 : (x 0).val = (y 0).val % 512 := rfl
    have x1 : (y 1).val = (x 1).val := rfl
    rcases (by omega : (y 0).val % 2048 / 512 = 0 ∨ (y 0).val % 2048 / 512 = 1 ∨ (y 0).val % 2048 / 512 = 2 ∨ (y 0).val % 2048 / 512 = 3)
      with hc | hc | hc | hc
    · rw [View.read_writes_cons_rows_of_not_mem v f i3 (G 3) _ y e3 (W := 512) rfl (by omega),
        View.read_writes_cons_rows_of_not_mem v f i2 (G 2) _ y e2 (W := 512) rfl (by omega),
        View.read_writes_cons_rows_of_not_mem v f i1 (G 1) _ y e1 (W := 512) rfl (by omega),
        View.read_writes_cons_rows_of_mem v f i0 (G 0) L y x e0 (by rw [x0]; omega) x1]
      exact congrArg (fun c => G c x) (Fin.ext hc.symm)
    · rw [View.read_writes_cons_rows_of_not_mem v f i3 (G 3) _ y e3 (W := 512) rfl (by omega),
        View.read_writes_cons_rows_of_not_mem v f i2 (G 2) _ y e2 (W := 512) rfl (by omega),
        View.read_writes_cons_rows_of_mem v f i1 (G 1) _ y x e1 (by rw [x0]; omega) x1]
      exact congrArg (fun c => G c x) (Fin.ext hc.symm)
    · rw [View.read_writes_cons_rows_of_not_mem v f i3 (G 3) _ y e3 (W := 512) rfl (by omega),
        View.read_writes_cons_rows_of_mem v f i2 (G 2) _ y x e2 (by rw [x0]; omega) x1]
      exact congrArg (fun c => G c x) (Fin.ext hc.symm)
    · rw [View.read_writes_cons_rows_of_mem v f i3 (G 3) _ y x e3 (by rw [x0]; omega) x1]
      exact congrArg (fun c => G c x) (Fin.ext hc.symm)
  · rw [dif_neg h]
    rw [View.read_writes_cons_rows_of_not_mem v f i3 (G 3) _ y e3 (W := 512) rfl (by omega),
        View.read_writes_cons_rows_of_not_mem v f i2 (G 2) _ y e2 (W := 512) rfl (by omega),
        View.read_writes_cons_rows_of_not_mem v f i1 (G 1) _ y e1 (W := 512) rfl (by omega),
        View.read_writes_cons_rows_of_not_mem v f i0 (G 0) _ y e0 (W := 512) rfl (by omega)]

/-- A load of 512 rows passes over a store to rows above them. -/
theorem ld_rows_skip {κ : Kind} {sp : Space} {Val : EltTy → Type} {e : EltTy} (v : View sig κ sp S16384x96 e) (f : v.ty.Contents Val)
    {off off' : Fin 2 → ℕ} (o o' : ℕ) (h : off = ![o, 0]) (h' : off' = ![o', 0]) (hle : o' + 512 ≤ o)
    (inb : ∀ a, off a + S512x96.size a ≤ S16384x96.size a) (inb' : ∀ a, off' a + S512x96.size a ≤ S16384x96.size a)
    (w : S512x96.Idx → Val e) (L : List (View.Piece Val S16384x96 e)) :
    View.ld (v.read Val (v.writes Val f ((⟨Rect.unit (s := S16384x96) off' S512x96.size inb', w⟩ : View.Piece Val S16384x96 e) :: L)))
        (Rect.unit (s := S16384x96) off S512x96.size inb)
      = View.ld (v.read Val (v.writes Val f L)) (Rect.unit (s := S16384x96) off S512x96.size inb) := by
  subst h
  funext x
  refine View.read_writes_cons_rows_of_not_mem v f inb' w L _ h' (W := 512) rfl (Or.inr ?_)
  show o' + 512 ≤ o + 1 * (x 0).val
  omega

/-- A load of 512 rows of an accumulator that was reset just before. -/
theorem ld_rows_reset {κ : Kind} {sp : Space} (v : View sig κ sp S16384x96 .f32) (f : v.ty.Contents (Elt F))
    {off : Fin 2 → ℕ} (o : ℕ) (ho : o + 512 ≤ 16384) (h : off = ![o, 0])
    (inb : ∀ a, off a + S512x96.size a ≤ S16384x96.size a) (inb0 : ∀ a, (![0, 0] : Fin 2 → ℕ) a + S16384x96.size a ≤ S16384x96.size a)
    (w : Vec F S16384x96 .f32) :
    View.ld (v.read (Elt F) (v.writes (Elt F) f [(⟨Rect.unit (s := S16384x96) ![0, 0] S16384x96.size inb0, w⟩ : View.Piece (Elt F) S16384x96 .f32)]))
      (Rect.unit (s := S16384x96) off S512x96.size inb) = rowsAt o ho w := by
  rw [read_writes_whole v f (by decide) inb0 w []]
  exact ld_rows w o ho h inb

end Cert.KernelIdeal.Flash

end
-- ==== Proof.RunA.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.Tactic.Stretches
public import Idealize.ShloMosaic.Lib.WordCmp
public import Idealize.ShloMosaic.Lib.WritesUnit
public import Idealize.ShloMosaic.Lib.Pipeline.ValueKit
public import proofs.«01_k».proof.Proof.Spec

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
theorem runA (c : Dev nD) (i : grid0.Coords) (arg3 : Memref sig .tc .vmem S1x2048x96 .bf16) (harg3 : arg3.IsWhole) (arg4 : Memref sig .tc .vmem S1x2048x96 .bf16) (harg4 : arg4.IsWhole) (arg5 : Memref sig .tc .vmem S1x2048x64 .bf16) (harg5 : arg5.IsWhole) (arg6 : Memref sig .tc .vmem S1x2048x64 .bf16) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x16384x96 .bf16) (harg9 : arg9.IsWhole) (arg10 : Memref sig .tc .vmem S1x2048x96 .bf16) (harg10 : arg10.IsWhole) (arg11 : Memref sig .tc .vmem S1x2048x64 .bf16) (harg11 : arg11.IsWhole) (arg12 : Memref sig .tc .vmem S16384x96 .f32) (harg12 : arg12.IsWhole) (arg13 : Memref sig .tc .vmem S2048x96 .f32) (harg13 : arg13.IsWhole) (arg14 : Memref sig .tc .vmem S2048x64 .f32) (harg14 : arg14.IsWhole) (h1 : cond1 i) (h2 : cond2 i) (h3 : ¬cond3 i) (h4 : ¬cond4 i)
   (x0 x1 : Vec F S1x2048x96 .bf16) (x2 x3 : Vec F S1x2048x64 .bf16) (x4 x5 : Vec F S1x1x2048 .f32)
   (y9 : Vec F S1x16384x96 .bf16) (y10 : Vec F S1x2048x96 .bf16) (y11 : Vec F S1x2048x64 .bf16)
   (xq : Vec F S16384x96 .f32) (xk : Vec F S2048x96 .f32) (xv : Vec F S2048x64 .f32) :
   BodySpec c i arg3 harg3 arg4 harg4 arg5 harg5 arg6 harg6 arg7 harg7 arg8 harg8 arg9 harg9 arg10 harg10 arg11 harg11 arg12 harg12 arg13 harg13 arg14 harg14 x0 x1 x2 x3 x4 x5 y9 y10 y11 xq xk xv := by
    intro E K
    simp only [cc0_flash_bwd_12x16384x16384x96_eq_skeleton]; unfold cc0_flash_bwd_12x16384x16384x96_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hfs0; obtain rfl := harg13.eq_unread hfs1; obtain rfl := harg14.eq_unread hfs2
    sl_exec (disch := first | sl_exact h1 | sl_exact h2 | sl_exact h3 | sl_exact h4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; rw [dqOut, if_neg h4]; exact hf6
      iexact H6
    isplitl [H7]
    · iexists _; isplitr; · ipureintro; rw [dkOut, if_neg h3]; exact hf7
      iexact H7
    isplitl [H8]
    · iexists _; isplitr; · ipureintro; rw [dvOut, if_neg h3]; exact hf8
      iexact H8
    isplitl [HS0]
    · iexists _; isplitr; swap; · iexact HS0
      ipureintro
      rw [dqNx, if_pos h1]
      sl_open_run
      simp (disch := decide) only [View.readCov_cons_unit_lit', View.readCov_unit_lit', View.readAt_eq_ld, View.ld_unit_lit', Memref.IsWhole.read_unread]
      funext y
      have hj : (i 2).val < 8 := (i 2).isLt
      have hr (r : Fin 4) : 2048 * (i 2).val + 512 * r.val + 512 ≤ 16384 := by have := r.isLt; omega
      have hs (q r : Fin 4) (h : q.val < r.val) : 2048 * (i 2).val + 512 * q.val + 512 ≤ 2048 * (i 2).val + 512 * r.val := by omega
      refine (read_rows4 _ _ (i 2).val (off1_eq i 0) (off1_eq i 1) (off1_eq i 2) (off1_eq i 3) _ _ _ _ _ _ _ _ _
        (fun r => dqS x0 x1 x2 x3 x4 x5 r (rowsAt (2048 * (i 2).val + 512 * r.val) (hr r) k0_pay6)) ?_ ?_ ?_ ?_ y).trans ?_
      · exact congrArg (fun z => dqS x0 x1 x2 x3 x4 x5 0 z) (ld_rows_reset _ _ _ (hr 0) (off1_eq i 0) _ _ k0_pay6)
      · exact congrArg (fun z => dqS x0 x1 x2 x3 x4 x5 1 z) ((ld_rows_skip _ _ _ _ (off1_eq i 1) (off1_eq i 0) (hs 0 1 (by decide)) _ _ _ _).trans (ld_rows_reset _ _ _ (hr 1) (off1_eq i 1) _ _ k0_pay6))
      · exact congrArg (fun z => dqS x0 x1 x2 x3 x4 x5 2 z) ((ld_rows_skip _ _ _ _ (off1_eq i 2) (off1_eq i 1) (hs 1 2 (by decide)) _ _ _ _).trans ((ld_rows_skip _ _ _ _ (off1_eq i 2) (off1_eq i 0) (hs 0 2 (by decide)) _ _ _ _).trans (ld_rows_reset _ _ _ (hr 2) (off1_eq i 2) _ _ k0_pay6)))
      · exact congrArg (fun z => dqS x0 x1 x2 x3 x4 x5 3 z) ((ld_rows_skip _ _ _ _ (off1_eq i 3) (off1_eq i 2) (hs 2 3 (by decide)) _ _ _ _).trans ((ld_rows_skip _ _ _ _ (off1_eq i 3) (off1_eq i 1) (hs 1 3 (by decide)) _ _ _ _).trans ((ld_rows_skip _ _ _ _ (off1_eq i 3) (off1_eq i 0) (hs 0 3 (by decide)) _ _ _ _).trans (ld_rows_reset _ _ _ (hr 3) (off1_eq i 3) _ _ k0_pay6))))
      · show dite _ _ _ = dite _ _ _
        refine dite_congr rfl (fun _ => rfl) (fun _ => ?_)
        exact congrFun (read_writes_whole _ _ (by decide) _ _ _) y
    isplitl [HS1]
    · iexists _; isplitr; swap; · iexact HS1
      ipureintro
      rw [dkNx, if_pos h2]
      refine (read_writes_whole _ _ (by decide) _ _ _).trans ?_
      sl_open_run
      simp (disch := decide) only [View.readCov_cons_unit_lit', View.readCov_unit_lit', View.readAt_eq_ld, View.ld_unit_lit', Memref.IsWhole.read_unread]
      rfl
    · iexists _; isplitr; swap; · iexact HS2
      ipureintro
      rw [dvNx, if_pos h2]
      refine (read_writes_whole _ _ (by decide) _ _ _).trans ?_
      sl_open_run
      simp (disch := decide) only [View.readCov_cons_unit_lit', View.readCov_unit_lit', View.readAt_eq_ld, View.ld_unit_lit', Memref.IsWhole.read_unread]
      rfl

end Cert.KernelIdeal.Flash

end
-- ==== Proof.RunB.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.Tactic.Stretches
public import Idealize.ShloMosaic.Lib.WordCmp
public import Idealize.ShloMosaic.Lib.WritesUnit
public import Idealize.ShloMosaic.Lib.Pipeline.ValueKit
public import proofs.«01_k».proof.Proof.Spec

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
theorem runB (c : Dev nD) (i : grid0.Coords) (arg3 : Memref sig .tc .vmem S1x2048x96 .bf16) (harg3 : arg3.IsWhole) (arg4 : Memref sig .tc .vmem S1x2048x96 .bf16) (harg4 : arg4.IsWhole) (arg5 : Memref sig .tc .vmem S1x2048x64 .bf16) (harg5 : arg5.IsWhole) (arg6 : Memref sig .tc .vmem S1x2048x64 .bf16) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x16384x96 .bf16) (harg9 : arg9.IsWhole) (arg10 : Memref sig .tc .vmem S1x2048x96 .bf16) (harg10 : arg10.IsWhole) (arg11 : Memref sig .tc .vmem S1x2048x64 .bf16) (harg11 : arg11.IsWhole) (arg12 : Memref sig .tc .vmem S16384x96 .f32) (harg12 : arg12.IsWhole) (arg13 : Memref sig .tc .vmem S2048x96 .f32) (harg13 : arg13.IsWhole) (arg14 : Memref sig .tc .vmem S2048x64 .f32) (harg14 : arg14.IsWhole) (h1 : ¬cond1 i) (h2 : cond2 i) (h3 : ¬cond3 i) (h4 : ¬cond4 i)
   (x0 x1 : Vec F S1x2048x96 .bf16) (x2 x3 : Vec F S1x2048x64 .bf16) (x4 x5 : Vec F S1x1x2048 .f32)
   (y9 : Vec F S1x16384x96 .bf16) (y10 : Vec F S1x2048x96 .bf16) (y11 : Vec F S1x2048x64 .bf16)
   (xq : Vec F S16384x96 .f32) (xk : Vec F S2048x96 .f32) (xv : Vec F S2048x64 .f32) :
   BodySpec c i arg3 harg3 arg4 harg4 arg5 harg5 arg6 harg6 arg7 harg7 arg8 harg8 arg9 harg9 arg10 harg10 arg11 harg11 arg12 harg12 arg13 harg13 arg14 harg14 x0 x1 x2 x3 x4 x5 y9 y10 y11 xq xk xv := by
    intro E K
    simp only [cc0_flash_bwd_12x16384x16384x96_eq_skeleton]; unfold cc0_flash_bwd_12x16384x16384x96_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hfs0; obtain rfl := harg13.eq_unread hfs1; obtain rfl := harg14.eq_unread hfs2
    sl_exec (disch := first | sl_exact h1 | sl_exact h2 | sl_exact h3 | sl_exact h4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; rw [dqOut, if_neg h4]; exact hf6
      iexact H6
    isplitl [H7]
    · iexists _; isplitr; · ipureintro; rw [dkOut, if_neg h3]; exact hf7
      iexact H7
    isplitl [H8]
    · iexists _; isplitr; · ipureintro; rw [dvOut, if_neg h3]; exact hf8
      iexact H8
    isplitl [HS0]
    · iexists _; isplitr; swap; · iexact HS0
      ipureintro
      rw [dqNx, if_neg h1]
      sl_open_run
      simp (disch := decide) only [View.readCov_cons_unit_lit', View.readCov_unit_lit', View.readAt_eq_ld, View.ld_unit_lit', Memref.IsWhole.read_unread]
      funext y
      have hj : (i 2).val < 8 := (i 2).isLt
      have hr (r : Fin 4) : 2048 * (i 2).val + 512 * r.val + 512 ≤ 16384 := by have := r.isLt; omega
      refine (read_rows4 _ _ (i 2).val (off1_eq i 0) (off1_eq i 1) (off1_eq i 2) (off1_eq i 3) _ _ _ _ _ _ _ _ _
        (fun r => dqS x0 x1 x2 x3 x4 x5 r (rowsAt (2048 * (i 2).val + 512 * r.val) (hr r) xq)) ?_ ?_ ?_ ?_ y).trans ?_
      · exact congrArg (fun z => dqS x0 x1 x2 x3 x4 x5 0 z) (ld_rows xq _ (hr 0) (off1_eq i 0) _)
      · exact congrArg (fun z => dqS x0 x1 x2 x3 x4 x5 1 z) (ld_rows xq _ (hr 1) (off1_eq i 1) _)
      · exact congrArg (fun z => dqS x0 x1 x2 x3 x4 x5 2 z) (ld_rows xq _ (hr 2) (off1_eq i 2) _)
      · exact congrArg (fun z => dqS x0 x1 x2 x3 x4 x5 3 z) (ld_rows xq _ (hr 3) (off1_eq i 3) _)
      · show dite _ _ _ = dite _ _ _
        refine dite_congr rfl (fun _ => rfl) (fun _ => ?_)
        exact congrFun (harg12.read_unread xq) y
    isplitl [HS1]
    · iexists _; isplitr; swap; · iexact HS1
      ipureintro
      rw [dkNx, if_pos h2]
      refine (read_writes_whole _ _ (by decide) _ _ _).trans ?_
      sl_open_run
      simp (disch := decide) only [View.readCov_cons_unit_lit', View.readCov_unit_lit', View.readAt_eq_ld, View.ld_unit_lit', Memref.IsWhole.read_unread]
      rfl
    · iexists _; isplitr; swap; · iexact HS2
      ipureintro
      rw [dvNx, if_pos h2]
      refine (read_writes_whole _ _ (by decide) _ _ _).trans ?_
      sl_open_run
      simp (disch := decide) only [View.readCov_cons_unit_lit', View.readCov_unit_lit', View.readAt_eq_ld, View.ld_unit_lit', Memref.IsWhole.read_unread]
      rfl

end Cert.KernelIdeal.Flash

end
-- ==== Proof.RunC.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.Tactic.Stretches
public import Idealize.ShloMosaic.Lib.WordCmp
public import Idealize.ShloMosaic.Lib.WritesUnit
public import Idealize.ShloMosaic.Lib.Pipeline.ValueKit
public import proofs.«01_k».proof.Proof.Spec

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
theorem runC (c : Dev nD) (i : grid0.Coords) (arg3 : Memref sig .tc .vmem S1x2048x96 .bf16) (harg3 : arg3.IsWhole) (arg4 : Memref sig .tc .vmem S1x2048x96 .bf16) (harg4 : arg4.IsWhole) (arg5 : Memref sig .tc .vmem S1x2048x64 .bf16) (harg5 : arg5.IsWhole) (arg6 : Memref sig .tc .vmem S1x2048x64 .bf16) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x16384x96 .bf16) (harg9 : arg9.IsWhole) (arg10 : Memref sig .tc .vmem S1x2048x96 .bf16) (harg10 : arg10.IsWhole) (arg11 : Memref sig .tc .vmem S1x2048x64 .bf16) (harg11 : arg11.IsWhole) (arg12 : Memref sig .tc .vmem S16384x96 .f32) (harg12 : arg12.IsWhole) (arg13 : Memref sig .tc .vmem S2048x96 .f32) (harg13 : arg13.IsWhole) (arg14 : Memref sig .tc .vmem S2048x64 .f32) (harg14 : arg14.IsWhole) (h1 : ¬cond1 i) (h2 : ¬cond2 i) (h3 : ¬cond3 i) (h4 : ¬cond4 i)
   (x0 x1 : Vec F S1x2048x96 .bf16) (x2 x3 : Vec F S1x2048x64 .bf16) (x4 x5 : Vec F S1x1x2048 .f32)
   (y9 : Vec F S1x16384x96 .bf16) (y10 : Vec F S1x2048x96 .bf16) (y11 : Vec F S1x2048x64 .bf16)
   (xq : Vec F S16384x96 .f32) (xk : Vec F S2048x96 .f32) (xv : Vec F S2048x64 .f32) :
   BodySpec c i arg3 harg3 arg4 harg4 arg5 harg5 arg6 harg6 arg7 harg7 arg8 harg8 arg9 harg9 arg10 harg10 arg11 harg11 arg12 harg12 arg13 harg13 arg14 harg14 x0 x1 x2 x3 x4 x5 y9 y10 y11 xq xk xv := by
    intro E K
    simp only [cc0_flash_bwd_12x16384x16384x96_eq_skeleton]; unfold cc0_flash_bwd_12x16384x16384x96_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hfs0; obtain rfl := harg13.eq_unread hfs1; obtain rfl := harg14.eq_unread hfs2
    sl_exec (disch := first | sl_exact h1 | sl_exact h2 | sl_exact h3 | sl_exact h4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; rw [dqOut, if_neg h4]; exact hf6
      iexact H6
    isplitl [H7]
    · iexists _; isplitr; · ipureintro; rw [dkOut, if_neg h3]; exact hf7
      iexact H7
    isplitl [H8]
    · iexists _; isplitr; · ipureintro; rw [dvOut, if_neg h3]; exact hf8
      iexact H8
    isplitl [HS0]
    · iexists _; isplitr; swap; · iexact HS0
      ipureintro
      rw [dqNx, if_neg h1]
      sl_open_run
      simp (disch := decide) only [View.readCov_cons_unit_lit', View.readCov_unit_lit', View.readAt_eq_ld, View.ld_unit_lit', Memref.IsWhole.read_unread]
      funext y
      have hj : (i 2).val < 8 := (i 2).isLt
      have hr (r : Fin 4) : 2048 * (i 2).val + 512 * r.val + 512 ≤ 16384 := by have := r.isLt; omega
      refine (read_rows4 _ _ (i 2).val (off1_eq i 0) (off1_eq i 1) (off1_eq i 2) (off1_eq i 3) _ _ _ _ _ _ _ _ _
        (fun r => dqS x0 x1 x2 x3 x4 x5 r (rowsAt (2048 * (i 2).val + 512 * r.val) (hr r) xq)) ?_ ?_ ?_ ?_ y).trans ?_
      · exact congrArg (fun z => dqS x0 x1 x2 x3 x4 x5 0 z) (ld_rows xq _ (hr 0) (off1_eq i 0) _)
      · exact congrArg (fun z => dqS x0 x1 x2 x3 x4 x5 1 z) (ld_rows xq _ (hr 1) (off1_eq i 1) _)
      · exact congrArg (fun z => dqS x0 x1 x2 x3 x4 x5 2 z) (ld_rows xq _ (hr 2) (off1_eq i 2) _)
      · exact congrArg (fun z => dqS x0 x1 x2 x3 x4 x5 3 z) (ld_rows xq _ (hr 3) (off1_eq i 3) _)
      · show dite _ _ _ = dite _ _ _
        refine dite_congr rfl (fun _ => rfl) (fun _ => ?_)
        exact congrFun (harg12.read_unread xq) y
    isplitl [HS1]
    · iexists _; isplitr; swap; · iexact HS1
      ipureintro
      rw [dkNx, if_neg h2]
      refine (read_writes_whole _ _ (by decide) _ _ _).trans ?_
      sl_open_run
      simp (disch := decide) only [View.readCov_cons_unit_lit', View.readCov_unit_lit', View.readAt_eq_ld, View.ld_unit_lit', Memref.IsWhole.read_unread]
      rfl
    · iexists _; isplitr; swap; · iexact HS2
      ipureintro
      rw [dvNx, if_neg h2]
      refine (read_writes_whole _ _ (by decide) _ _ _).trans ?_
      sl_open_run
      simp (disch := decide) only [View.readCov_cons_unit_lit', View.readCov_unit_lit', View.readAt_eq_ld, View.ld_unit_lit', Memref.IsWhole.read_unread]
      rfl

end Cert.KernelIdeal.Flash

end
-- ==== Proof.RunD.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.Tactic.Stretches
public import Idealize.ShloMosaic.Lib.WordCmp
public import Idealize.ShloMosaic.Lib.WritesUnit
public import Idealize.ShloMosaic.Lib.Pipeline.ValueKit
public import proofs.«01_k».proof.Proof.Spec

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
theorem runD (c : Dev nD) (i : grid0.Coords) (arg3 : Memref sig .tc .vmem S1x2048x96 .bf16) (harg3 : arg3.IsWhole) (arg4 : Memref sig .tc .vmem S1x2048x96 .bf16) (harg4 : arg4.IsWhole) (arg5 : Memref sig .tc .vmem S1x2048x64 .bf16) (harg5 : arg5.IsWhole) (arg6 : Memref sig .tc .vmem S1x2048x64 .bf16) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x16384x96 .bf16) (harg9 : arg9.IsWhole) (arg10 : Memref sig .tc .vmem S1x2048x96 .bf16) (harg10 : arg10.IsWhole) (arg11 : Memref sig .tc .vmem S1x2048x64 .bf16) (harg11 : arg11.IsWhole) (arg12 : Memref sig .tc .vmem S16384x96 .f32) (harg12 : arg12.IsWhole) (arg13 : Memref sig .tc .vmem S2048x96 .f32) (harg13 : arg13.IsWhole) (arg14 : Memref sig .tc .vmem S2048x64 .f32) (harg14 : arg14.IsWhole) (h1 : ¬cond1 i) (h2 : ¬cond2 i) (h3 : cond3 i) (h4 : ¬cond4 i)
   (x0 x1 : Vec F S1x2048x96 .bf16) (x2 x3 : Vec F S1x2048x64 .bf16) (x4 x5 : Vec F S1x1x2048 .f32)
   (y9 : Vec F S1x16384x96 .bf16) (y10 : Vec F S1x2048x96 .bf16) (y11 : Vec F S1x2048x64 .bf16)
   (xq : Vec F S16384x96 .f32) (xk : Vec F S2048x96 .f32) (xv : Vec F S2048x64 .f32) :
   BodySpec c i arg3 harg3 arg4 harg4 arg5 harg5 arg6 harg6 arg7 harg7 arg8 harg8 arg9 harg9 arg10 harg10 arg11 harg11 arg12 harg12 arg13 harg13 arg14 harg14 x0 x1 x2 x3 x4 x5 y9 y10 y11 xq xk xv := by
    intro E K
    simp only [cc0_flash_bwd_12x16384x16384x96_eq_skeleton]; unfold cc0_flash_bwd_12x16384x16384x96_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hfs0; obtain rfl := harg13.eq_unread hfs1; obtain rfl := harg14.eq_unread hfs2
    sl_exec (disch := first | sl_exact h1 | sl_exact h2 | sl_exact h3 | sl_exact h4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; rw [dqOut, if_neg h4]; exact hf6
      iexact H6
    isplitl [H7]
    · iexists _; isplitr; swap; · iexact H7
      ipureintro
      rw [dkOut, if_pos h3, dkNx, if_neg h2]
      refine (read_writes_whole _ _ (by decide) _ _ _).trans ?_
      sl_open_run
      simp (disch := decide) only [View.readCov_cons_unit_lit', View.readCov_unit_lit', View.readAt_eq_ld, View.ld_unit_lit', Memref.IsWhole.read_unread]
      rfl
    isplitl [H8]
    · iexists _; isplitr; swap; · iexact H8
      ipureintro
      rw [dvOut, if_pos h3, dvNx, if_neg h2]
      refine (read_writes_whole _ _ (by decide) _ _ _).trans ?_
      sl_open_run
      simp (disch := decide) only [View.readCov_cons_unit_lit', View.readCov_unit_lit', View.readAt_eq_ld, View.ld_unit_lit', Memref.IsWhole.read_unread]
      rfl
    isplitl [HS0]
    · iexists _; isplitr; swap; · iexact HS0
      ipureintro
      rw [dqNx, if_neg h1]
      sl_open_run
      simp (disch := decide) only [View.readCov_cons_unit_lit', View.readCov_unit_lit', View.readAt_eq_ld, View.ld_unit_lit', Memref.IsWhole.read_unread]
      funext y
      have hj : (i 2).val < 8 := (i 2).isLt
      have hr (r : Fin 4) : 2048 * (i 2).val + 512 * r.val + 512 ≤ 16384 := by have := r.isLt; omega
      refine (read_rows4 _ _ (i 2).val (off1_eq i 0) (off1_eq i 1) (off1_eq i 2) (off1_eq i 3) _ _ _ _ _ _ _ _ _
        (fun r => dqS x0 x1 x2 x3 x4 x5 r (rowsAt (2048 * (i 2).val + 512 * r.val) (hr r) xq)) ?_ ?_ ?_ ?_ y).trans ?_
      · exact congrArg (fun z => dqS x0 x1 x2 x3 x4 x5 0 z) (ld_rows xq _ (hr 0) (off1_eq i 0) _)
      · exact congrArg (fun z => dqS x0 x1 x2 x3 x4 x5 1 z) (ld_rows xq _ (hr 1) (off1_eq i 1) _)
      · exact congrArg (fun z => dqS x0 x1 x2 x3 x4 x5 2 z) (ld_rows xq _ (hr 2) (off1_eq i 2) _)
      · exact congrArg (fun z => dqS x0 x1 x2 x3 x4 x5 3 z) (ld_rows xq _ (hr 3) (off1_eq i 3) _)
      · show dite _ _ _ = dite _ _ _
        refine dite_congr rfl (fun _ => rfl) (fun _ => ?_)
        exact congrFun (harg12.read_unread xq) y
    isplitl [HS1]
    · iexists _; isplitr; swap; · iexact HS1
      ipureintro
      rw [dkNx, if_neg h2]
      refine (read_writes_whole _ _ (by decide) _ _ _).trans ?_
      sl_open_run
      simp (disch := decide) only [View.readCov_cons_unit_lit', View.readCov_unit_lit', View.readAt_eq_ld, View.ld_unit_lit', Memref.IsWhole.read_unread]
      rfl
    · iexists _; isplitr; swap; · iexact HS2
      ipureintro
      rw [dvNx, if_neg h2]
      refine (read_writes_whole _ _ (by decide) _ _ _).trans ?_
      sl_open_run
      simp (disch := decide) only [View.readCov_cons_unit_lit', View.readCov_unit_lit', View.readAt_eq_ld, View.ld_unit_lit', Memref.IsWhole.read_unread]
      rfl

end Cert.KernelIdeal.Flash

end
-- ==== Proof.RunE.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.Tactic.Stretches
public import Idealize.ShloMosaic.Lib.WordCmp
public import Idealize.ShloMosaic.Lib.WritesUnit
public import Idealize.ShloMosaic.Lib.Pipeline.ValueKit
public import proofs.«01_k».proof.Proof.Spec

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
theorem runE (c : Dev nD) (i : grid0.Coords) (arg3 : Memref sig .tc .vmem S1x2048x96 .bf16) (harg3 : arg3.IsWhole) (arg4 : Memref sig .tc .vmem S1x2048x96 .bf16) (harg4 : arg4.IsWhole) (arg5 : Memref sig .tc .vmem S1x2048x64 .bf16) (harg5 : arg5.IsWhole) (arg6 : Memref sig .tc .vmem S1x2048x64 .bf16) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x16384x96 .bf16) (harg9 : arg9.IsWhole) (arg10 : Memref sig .tc .vmem S1x2048x96 .bf16) (harg10 : arg10.IsWhole) (arg11 : Memref sig .tc .vmem S1x2048x64 .bf16) (harg11 : arg11.IsWhole) (arg12 : Memref sig .tc .vmem S16384x96 .f32) (harg12 : arg12.IsWhole) (arg13 : Memref sig .tc .vmem S2048x96 .f32) (harg13 : arg13.IsWhole) (arg14 : Memref sig .tc .vmem S2048x64 .f32) (harg14 : arg14.IsWhole) (h1 : ¬cond1 i) (h2 : ¬cond2 i) (h3 : cond3 i) (h4 : cond4 i)
   (x0 x1 : Vec F S1x2048x96 .bf16) (x2 x3 : Vec F S1x2048x64 .bf16) (x4 x5 : Vec F S1x1x2048 .f32)
   (y9 : Vec F S1x16384x96 .bf16) (y10 : Vec F S1x2048x96 .bf16) (y11 : Vec F S1x2048x64 .bf16)
   (xq : Vec F S16384x96 .f32) (xk : Vec F S2048x96 .f32) (xv : Vec F S2048x64 .f32) :
   BodySpec c i arg3 harg3 arg4 harg4 arg5 harg5 arg6 harg6 arg7 harg7 arg8 harg8 arg9 harg9 arg10 harg10 arg11 harg11 arg12 harg12 arg13 harg13 arg14 harg14 x0 x1 x2 x3 x4 x5 y9 y10 y11 xq xk xv := by
    intro E K
    simp only [cc0_flash_bwd_12x16384x16384x96_eq_skeleton]; unfold cc0_flash_bwd_12x16384x16384x96_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hfs0; obtain rfl := harg13.eq_unread hfs1; obtain rfl := harg14.eq_unread hfs2
    sl_exec (disch := first | sl_exact h1 | sl_exact h2 | sl_exact h3 | sl_exact h4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      rw [dqOut, if_pos h4]
      refine (read_writes_whole _ _ (by decide) _ _ _).trans ?_
      sl_open_run
      refine congrArg k0_pay5 ?_
      rw [dqNx, if_neg h1]
      simp (disch := decide) only [View.readCov_cons_unit_lit', View.readCov_unit_lit', View.readAt_eq_ld, View.ld_unit_lit', Memref.IsWhole.read_unread]
      funext y
      have hj : (i 2).val < 8 := (i 2).isLt
      have hr (r : Fin 4) : 2048 * (i 2).val + 512 * r.val + 512 ≤ 16384 := by have := r.isLt; omega
      refine (read_rows4 _ _ (i 2).val (off1_eq i 0) (off1_eq i 1) (off1_eq i 2) (off1_eq i 3) _ _ _ _ _ _ _ _ _
        (fun r => dqS x0 x1 x2 x3 x4 x5 r (rowsAt (2048 * (i 2).val + 512 * r.val) (hr r) xq)) ?_ ?_ ?_ ?_ y).trans ?_
      · exact congrArg (fun z => dqS x0 x1 x2 x3 x4 x5 0 z) (ld_rows xq _ (hr 0) (off1_eq i 0) _)
      · exact congrArg (fun z => dqS x0 x1 x2 x3 x4 x5 1 z) (ld_rows xq _ (hr 1) (off1_eq i 1) _)
      · exact congrArg (fun z => dqS x0 x1 x2 x3 x4 x5 2 z) (ld_rows xq _ (hr 2) (off1_eq i 2) _)
      · exact congrArg (fun z => dqS x0 x1 x2 x3 x4 x5 3 z) (ld_rows xq _ (hr 3) (off1_eq i 3) _)
      · show dite _ _ _ = dite _ _ _
        refine dite_congr rfl (fun _ => rfl) (fun _ => ?_)
        exact congrFun (harg12.read_unread xq) y
    isplitl [H7]
    · iexists _; isplitr; swap; · iexact H7
      ipureintro
      rw [dkOut, if_pos h3, dkNx, if_neg h2]
      refine (read_writes_whole _ _ (by decide) _ _ _).trans ?_
      sl_open_run
      simp (disch := decide) only [View.readCov_cons_unit_lit', View.readCov_unit_lit', View.readAt_eq_ld, View.ld_unit_lit', Memref.IsWhole.read_unread]
      rfl
    isplitl [H8]
    · iexists _; isplitr; swap; · iexact H8
      ipureintro
      rw [dvOut, if_pos h3, dvNx, if_neg h2]
      refine (read_writes_whole _ _ (by decide) _ _ _).trans ?_
      sl_open_run
      simp (disch := decide) only [View.readCov_cons_unit_lit', View.readCov_unit_lit', View.readAt_eq_ld, View.ld_unit_lit', Memref.IsWhole.read_unread]
      rfl
    isplitl [HS0]
    · iexists _; isplitr; swap; · iexact HS0
      ipureintro
      rw [dqNx, if_neg h1]
      sl_open_run
      simp (disch := decide) only [View.readCov_cons_unit_lit', View.readCov_unit_lit', View.readAt_eq_ld, View.ld_unit_lit', Memref.IsWhole.read_unread]
      funext y
      have hj : (i 2).val < 8 := (i 2).isLt
      have hr (r : Fin 4) : 2048 * (i 2).val + 512 * r.val + 512 ≤ 16384 := by have := r.isLt; omega
      refine (read_rows4 _ _ (i 2).val (off1_eq i 0) (off1_eq i 1) (off1_eq i 2) (off1_eq i 3) _ _ _ _ _ _ _ _ _
        (fun r => dqS x0 x1 x2 x3 x4 x5 r (rowsAt (2048 * (i 2).val + 512 * r.val) (hr r) xq)) ?_ ?_ ?_ ?_ y).trans ?_
      · exact congrArg (fun z => dqS x0 x1 x2 x3 x4 x5 0 z) (ld_rows xq _ (hr 0) (off1_eq i 0) _)
      · exact congrArg (fun z => dqS x0 x1 x2 x3 x4 x5 1 z) (ld_rows xq _ (hr 1) (off1_eq i 1) _)
      · exact congrArg (fun z => dqS x0 x1 x2 x3 x4 x5 2 z) (ld_rows xq _ (hr 2) (off1_eq i 2) _)
      · exact congrArg (fun z => dqS x0 x1 x2 x3 x4 x5 3 z) (ld_rows xq _ (hr 3) (off1_eq i 3) _)
      · show dite _ _ _ = dite _ _ _
        refine dite_congr rfl (fun _ => rfl) (fun _ => ?_)
        exact congrFun (harg12.read_unread xq) y
    isplitl [HS1]
    · iexists _; isplitr; swap; · iexact HS1
      ipureintro
      rw [dkNx, if_neg h2]
      refine (read_writes_whole _ _ (by decide) _ _ _).trans ?_
      sl_open_run
      simp (disch := decide) only [View.readCov_cons_unit_lit', View.readCov_unit_lit', View.readAt_eq_ld, View.ld_unit_lit', Memref.IsWhole.read_unread]
      rfl
    · iexists _; isplitr; swap; · iexact HS2
      ipureintro
      rw [dvNx, if_neg h2]
      refine (read_writes_whole _ _ (by decide) _ _ _).trans ?_
      sl_open_run
      simp (disch := decide) only [View.readCov_cons_unit_lit', View.readCov_unit_lit', View.readAt_eq_ld, View.ld_unit_lit', Memref.IsWhole.read_unread]
      rfl

end Cert.KernelIdeal.Flash

end
-- ==== Proof.Run.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.Tactic.Stretches
public import Idealize.ShloMosaic.Lib.WordCmp
public import Idealize.ShloMosaic.Lib.WritesUnit
public import Idealize.ShloMosaic.Lib.Pipeline.ValueKit
public import proofs.«01_k».proof.Proof.RunA
public import proofs.«01_k».proof.Proof.RunB
public import proofs.«01_k».proof.Proof.RunC
public import proofs.«01_k».proof.Proof.RunD
public import proofs.«01_k».proof.Proof.RunE

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The branch conditions over the grid's points -/

theorem cond1_iff : ∀ t : Fin cfg0.N, cond1 (grid0.coords t) ↔ t.val % 64 = 0 :=
  (fun t => by
    have ht : t.val < 768 := Nat.lt_of_lt_of_eq t.isLt N_0
    have e1 : (grid0.coords t 1).val = t.val / 8 % 8 := Pipeline.Grid.coords_val t 1 (by decide) rfl
    have e2 : (grid0.coords t 2).val = t.val / 1 % 8 := Pipeline.Grid.coords_val t 2 (by decide) rfl
    simp only [cond1, e1, e2]
    word_cmp
   : ∀ t : Fin grid0.N, cond1 (grid0.coords t) ↔ t.val % 64 = 0)

theorem cond2_iff : ∀ t : Fin cfg0.N, cond2 (grid0.coords t) ↔ t.val % 8 = 0 :=
  (fun t => by
    have ht : t.val < 768 := Nat.lt_of_lt_of_eq t.isLt N_0
    have e1 : (grid0.coords t 1).val = t.val / 8 % 8 := Pipeline.Grid.coords_val t 1 (by decide) rfl
    have e2 : (grid0.coords t 2).val = t.val / 1 % 8 := Pipeline.Grid.coords_val t 2 (by decide) rfl
    simp only [cond2, e1, e2]
    word_cmp
   : ∀ t : Fin grid0.N, cond2 (grid0.coords t) ↔ t.val % 8 = 0)

theorem cond3_iff : ∀ t : Fin cfg0.N, cond3 (grid0.coords t) ↔ t.val % 8 = 7 :=
  (fun t => by
    have ht : t.val < 768 := Nat.lt_of_lt_of_eq t.isLt N_0
    have e1 : (grid0.coords t 1).val = t.val / 8 % 8 := Pipeline.Grid.coords_val t 1 (by decide) rfl
    have e2 : (grid0.coords t 2).val = t.val / 1 % 8 := Pipeline.Grid.coords_val t 2 (by decide) rfl
    simp only [cond3, k0_cond3, e1, e2]
    word_cmp
   : ∀ t : Fin grid0.N, cond3 (grid0.coords t) ↔ t.val % 8 = 7)

theorem cond4_iff : ∀ t : Fin cfg0.N, cond4 (grid0.coords t) ↔ t.val % 64 = 63 :=
  (fun t => by
    have ht : t.val < 768 := Nat.lt_of_lt_of_eq t.isLt N_0
    have e1 : (grid0.coords t 1).val = t.val / 8 % 8 := Pipeline.Grid.coords_val t 1 (by decide) rfl
    have e2 : (grid0.coords t 2).val = t.val / 1 % 8 := Pipeline.Grid.coords_val t 2 (by decide) rfl
    simp only [cond4, k0_cond4, e1, e2]
    word_cmp
   : ∀ t : Fin grid0.N, cond4 (grid0.coords t) ↔ t.val % 64 = 63)

/-! ## The buffers the body is called with -/

abbrev ms0 (t : Fin cfg0.N) : Memref sig .tc .vmem S1x2048x96 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x96 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x64 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x64 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x16384x96 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x2048x96 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x2048x64 .bf16 := win0_8.stage (cfg0.slots t 8)
abbrev hs8 (t : Fin cfg0.N) : (ms8 t).IsWhole := hstage0_8 ((cfg0.slots t 8).cast nbuf0_8)
abbrev sc0 : Memref sig .tc .vmem S16384x96 .f32 := Memref.whole cc0_scratch0
abbrev sc1 : Memref sig .tc .vmem S2048x96 .f32 := Memref.whole cc0_scratch1
abbrev sc2 : Memref sig .tc .vmem S2048x64 .f32 := Memref.whole cc0_scratch2

/-- The launch's invariant: the three accumulators at anything. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-! ## What the accumulators hold -/

/-- The three accumulators: the gradients of the queries, of a key block and of a value block. -/
abbrev St (F : FTy → Type) [FloatOps F] : Type := Vec F S16384x96 .f32 × Vec F S2048x96 .f32 × Vec F S2048x64 .f32

/-- What point `t` makes of the accumulators. -/
def stepAt (c : Dev nD) (t : Fin cfg0.N) (s : St F) : St F :=
  (dqNx (iblk m c 0 t) (iblk m c 1 t) (iblk m c 2 t) (iblk m c 3 t) (iblk m c 4 t) (iblk m c 5 t) (grid0.coords t) s.1,
   dkNx (iblk m c 0 t) (iblk m c 1 t) (iblk m c 2 t) (iblk m c 3 t) (iblk m c 4 t) (iblk m c 5 t) (grid0.coords t) s.2.1,
   dvNx (iblk m c 0 t) (iblk m c 1 t) (iblk m c 3 t) (iblk m c 4 t) (grid0.coords t) s.2.2)

/-- The accumulators before point `n`. -/
def stAt (c : Dev nD) : ℕ → St F
  | 0 => (k0_pay6, k0_pay7, k0_pay8)
  | n + 1 => if h : n < cfg0.N then stepAt m c ⟨n, h⟩ (stAt c n) else stAt c n

theorem stAt_succ (c : Dev nD) (t : Fin cfg0.N) : stAt m c (t.val + 1) = stepAt m c t (stAt m c t.val) := dif_pos t.isLt

/-- A head's first point forgets what the accumulators held. -/
theorem stepAt_reset (c : Dev nD) (t : Fin cfg0.N) (h1 : cond1 (grid0.coords t)) (h2 : cond2 (grid0.coords t)) (s s' : St F) :
    stepAt m c t s = stepAt m c t s' := by
  unfold stepAt dqNx dkNx dvNx
  simp only [if_pos h1, if_pos h2]

/-- The invariant before position `n`. -/
def PhiS (c : Dev nD) (n : ℕ) : sProp 𝕄 :=
  if n = 0 then Pipeline.ΦA spec0 c
  else iprop(iprop(owns (c : Thread nD τ) sc0 fullShare (stAt m c n).1 ∗ owns (c : Thread nD τ) sc1 fullShare (stAt m c n).2.1 ∗ owns (c : Thread nD τ) sc2 fullShare (stAt m c n).2.2) ∗ (∃ r, prngReg c r))

theorem PhiS_pos (c : Dev nD) (n : ℕ) (h : n ≠ 0) : PhiS m c n
    = iprop(iprop(owns (c : Thread nD τ) sc0 fullShare (stAt m c n).1 ∗ owns (c : Thread nD τ) sc1 fullShare (stAt m c n).2.1 ∗ owns (c : Thread nD τ) sc2 fullShare (stAt m c n).2.2) ∗ (∃ r, prngReg c r)) :=
  if_neg h

/-- Before any point the accumulators hold something from which the point steps to the next state. -/
theorem PhiS_elim (c : Dev nD) (t : Fin cfg0.N) : PhiS m c t.val
    ⊢ iprop(∃ s : St F, ⌜stepAt m c t s = stAt m c (t.val + 1)⌝ ∗ (owns (c : Thread nD τ) sc0 fullShare s.1 ∗ owns (c : Thread nD τ) sc1 fullShare s.2.1 ∗ owns (c : Thread nD τ) sc2 fullShare s.2.2) ∗ (∃ r, prngReg c r)) := by
  by_cases h : t.val = 0
  · rw [PhiS, if_pos h, PhiA_eq]
    iintro ⟨⟨⟨%d0, H0⟩, ⟨%d1, H1⟩, ⟨%d2, H2⟩⟩, Hg⟩
    iexists (d0, d1, d2)
    isplitr
    · ipureintro
      rw [stAt_succ]
      exact stepAt_reset m c t ((cond1_iff t).mpr (by rw [h])) ((cond2_iff t).mpr (by rw [h])) _ _
    isplitl [H0 H1 H2]
    · isplitl [H0]; · iexact H0
      isplitl [H1]; · iexact H1
      iexact H2
    iexact Hg
  · rw [PhiS_pos m c _ h]
    iintro ⟨⟨H0, H1, H2⟩, Hg⟩
    iexists (stAt m c t.val)
    isplitr
    · ipureintro; exact (stAt_succ m c t).symm
    isplitl [H0 H1 H2]
    · isplitl [H0]; · iexact H0
      isplitl [H1]; · iexact H1
      iexact H2
    iexact Hg

/-! ## The pipeline's proof data -/

/-- The arrays as the region finds them; after point `t` each input's buffer at its block and each result's at what the
accumulators then hold; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay5 (stAt m c (t.val + 1)).1
    | ⟨7, _⟩ => k0_pay3 (stAt m c (t.val + 1)).2.1
    | ⟨8, _⟩ => k0_pay4 (stAt m c (t.val + 1)).2.2
  Φ t := PhiS m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay5 (stAt m c (t.val + 1)).1 := by dsimp only [dats]
theorem after_7 (c : Dev nD) (t : Fin cfg0.N) : (dats m 0 c).after 7 t = k0_pay3 (stAt m c (t.val + 1)).2.1 := by dsimp only [dats]
theorem after_8 (c : Dev nD) (t : Fin cfg0.N) : (dats m 0 c).after 8 t = k0_pay4 (stAt m c (t.val + 1)).2.2 := by dsimp only [dats]
theorem before_0 (c : Dev nD) (t : Fin cfg0.N) (d) : (dats m 0 c).before 0 t d = iblk m c 0 t :=
  before0_0_of m (dats m 0 c) (A_eq m c 0) (after_0 m c) t d
theorem leaves_0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after_0]
theorem before_1 (c : Dev nD) (t : Fin cfg0.N) (d) : (dats m 0 c).before 1 t d = iblk m c 1 t :=
  before0_1_of m (dats m 0 c) (A_eq m c 1) (after_1 m c) t d
theorem leaves_1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after_1]
theorem before_2 (c : Dev nD) (t : Fin cfg0.N) (d) : (dats m 0 c).before 2 t d = iblk m c 2 t :=
  before0_2_of m (dats m 0 c) (A_eq m c 2) (after_2 m c) t d
theorem leaves_2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after_2]
theorem before_3 (c : Dev nD) (t : Fin cfg0.N) (d) : (dats m 0 c).before 3 t d = iblk m c 3 t :=
  before0_3_of m (dats m 0 c) (A_eq m c 3) (after_3 m c) t d
theorem leaves_3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after_3]
theorem before_4 (c : Dev nD) (t : Fin cfg0.N) (d) : (dats m 0 c).before 4 t d = iblk m c 4 t :=
  before0_4_of m (dats m 0 c) (A_eq m c 4) (after_4 m c) t d
theorem leaves_4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after_4]
theorem before_5 (c : Dev nD) (t : Fin cfg0.N) (d) : (dats m 0 c).before 5 t d = iblk m c 5 t :=
  before0_5_of m (dats m 0 c) (A_eq m c 5) (after_5 m c) t d
theorem leaves_5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after_5]

/-- A result's buffer is handed back as found, or holds what the accumulator then holds. -/
theorem leaves_6 (c : Dev nD) (t : Fin cfg0.N) (d) (x : Vec F S1x16384x96 .bf16)
    (h : x = if cond4 (grid0.coords t) then (dats m 0 c).after 6 t else (dats m 0 c).before 6 t d) :
    owns (c : Thread nD τ) (ms6 t) fullShare x ⊢ ((dats m 0 c).leavesExact 6 t : sProp 𝕄) := by
  subst h
  by_cases hc : cond4 (grid0.coords t)
  · rw [if_pos hc]
    unfold Dat.leavesExact
    rw [show cfg0.idle 6 (grid0.coords t) = false from by show (!(_ == 1#1)) = false; rw [hc]; rfl]
  · rw [if_neg hc, Dat.leavesExact_idle (dats m 0 c) 6 t
      (by show (!(_ == 1#1)) = true; rw [Bool.not_eq_true', beq_eq_false_iff_ne]; exact hc)
      (by rw [← Bool.not_eq_true, flush0_6 t, ← cond4_iff t]; exact hc)]
    iintro H; iexists d; iexact H

/-- A result's buffer is handed back as found, or holds what the accumulator then holds. -/
theorem leaves_7 (c : Dev nD) (t : Fin cfg0.N) (d) (x : Vec F S1x2048x96 .bf16)
    (h : x = if cond3 (grid0.coords t) then (dats m 0 c).after 7 t else (dats m 0 c).before 7 t d) :
    owns (c : Thread nD τ) (ms7 t) fullShare x ⊢ ((dats m 0 c).leavesExact 7 t : sProp 𝕄) := by
  subst h
  by_cases hc : cond3 (grid0.coords t)
  · rw [if_pos hc]
    unfold Dat.leavesExact
    rw [show cfg0.idle 7 (grid0.coords t) = false from by show (!(_ == 1#1)) = false; rw [hc]; rfl]
  · rw [if_neg hc, Dat.leavesExact_idle (dats m 0 c) 7 t
      (by show (!(_ == 1#1)) = true; rw [Bool.not_eq_true', beq_eq_false_iff_ne]; exact hc)
      (by rw [← Bool.not_eq_true, flush0_7 t, ← cond3_iff t]; exact hc)]
    iintro H; iexists d; iexact H

/-- A result's buffer is handed back as found, or holds what the accumulator then holds. -/
theorem leaves_8 (c : Dev nD) (t : Fin cfg0.N) (d) (x : Vec F S1x2048x64 .bf16)
    (h : x = if cond3 (grid0.coords t) then (dats m 0 c).after 8 t else (dats m 0 c).before 8 t d) :
    owns (c : Thread nD τ) (ms8 t) fullShare x ⊢ ((dats m 0 c).leavesExact 8 t : sProp 𝕄) := by
  subst h
  by_cases hc : cond3 (grid0.coords t)
  · rw [if_pos hc]
    unfold Dat.leavesExact
    rw [show cfg0.idle 8 (grid0.coords t) = false from by show (!(_ == 1#1)) = false; rw [hc]; rfl]
  · rw [if_neg hc, Dat.leavesExact_idle (dats m 0 c) 8 t
      (by show (!(_ == 1#1)) = true; rw [Bool.not_eq_true', beq_eq_false_iff_ne]; exact hc)
      (by rw [← Bool.not_eq_true, flush0_8 t, ← cond3_iff t]; exact hc)]
    iintro H; iexists d; iexact H

/-! ## The body at any point -/

/-- The body's triple at every point: the five patterns of its branch conditions. -/
theorem body_spec (c : Dev nD) (t : Fin cfg0.N) (y9 : Vec F S1x16384x96 .bf16) (y10 : Vec F S1x2048x96 .bf16) (y11 : Vec F S1x2048x64 .bf16) (s : St F) :
    BodySpec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) y9 y10 y11 s.1 s.2.1 s.2.2 := by
  have ht : t.val < 768 := Nat.lt_of_lt_of_eq t.isLt N_0
  by_cases h2 : t.val % 8 = 0
  · have h3 : ¬ t.val % 8 = 7 := by omega
    have h4 : ¬ t.val % 64 = 63 := by omega
    by_cases h1 : t.val % 64 = 0
    · exact runA c _ _ _ _ _ _ _ _ _ _ _ _ _ _ _ _ _ _ _ _ _ _ _ _ _ ((cond1_iff t).mpr h1) ((cond2_iff t).mpr h2) (mt (cond3_iff t).mp h3) (mt (cond4_iff t).mp h4) _ _ _ _ _ _ _ _ _ _ _ _
    · exact runB c _ _ _ _ _ _ _ _ _ _ _ _ _ _ _ _ _ _ _ _ _ _ _ _ _ (mt (cond1_iff t).mp h1) ((cond2_iff t).mpr h2) (mt (cond3_iff t).mp h3) (mt (cond4_iff t).mp h4) _ _ _ _ _ _ _ _ _ _ _ _
  · have h1 : ¬ t.val % 64 = 0 := by omega
    by_cases h3 : t.val % 8 = 7
    · by_cases h4 : t.val % 64 = 63
      · exact runE c _ _ _ _ _ _ _ _ _ _ _ _ _ _ _ _ _ _ _ _ _ _ _ _ _ (mt (cond1_iff t).mp h1) (mt (cond2_iff t).mp h2) ((cond3_iff t).mpr h3) ((cond4_iff t).mpr h4) _ _ _ _ _ _ _ _ _ _ _ _
      · exact runD c _ _ _ _ _ _ _ _ _ _ _ _ _ _ _ _ _ _ _ _ _ _ _ _ _ (mt (cond1_iff t).mp h1) (mt (cond2_iff t).mp h2) ((cond3_iff t).mpr h3) (mt (cond4_iff t).mp h4) _ _ _ _ _ _ _ _ _ _ _ _
    · have h4 : ¬ t.val % 64 = 63 := by omega
      exact runC c _ _ _ _ _ _ _ _ _ _ _ _ _ _ _ _ _ _ _ _ _ _ _ _ _ (mt (cond1_iff t).mp h1) (mt (cond2_iff t).mp h2) (mt (cond3_iff t).mp h3) (mt (cond4_iff t).mp h4) _ _ _ _ _ _ _ _ _ _ _ _

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 2000000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, leaves_0, leaves_1, leaves_2, leaves_3, leaves_4, leaves_5]
  rw [show (dats m 0 c).owesAt () t.succ = (dats m 0 c).owesAt () t.castSucc from rfl,
    show (dats m 0 c).Φ t.succ = PhiS m c (t.val + 1) from rfl, PhiS_pos m c _ (Nat.succ_ne_zero _),
    show (dats m 0 c).Φ t.castSucc = PhiS m c t.val from rfl]
  refine (BIClass.sep_mono (PhiS_elim m c t) (BI.Entails.refl _)).trans ?_
  iintro ⟨⟨%s, %hs, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_spec m c t _ _ _ s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, H4, H5, H6, H7, H8, HS0, HS1, HS2⟩
  rw [← hs]
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_6 m c t d6 _ (by rw [after_6, ← hs])); iexact H6
  isplitl [H7]; · iapply (leaves_7 m c t d7 _ (by rw [after_7, ← hs])); iexact H7
  iapply (leaves_8 m c t d8 _ (by rw [after_8, ← hs])); iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS, if_pos rfl]

theorem hout (c : Dev nD) : (dats m 0 c).Φ (Fin.last cfg0.N) ⊢ Pipeline.ΦA spec0 c := by
  rw [show (dats m 0 c).Φ (Fin.last cfg0.N) = PhiS m c cfg0.N from rfl, PhiS_pos m c _ (by rw [show cfg0.N = 768 from N_0]; decide), PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run -/

set_option backward.isDefEq.respectTransparency.types false in
/-- Every execution of the program ends, with the arrays at what the proof data says and all counters zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began and no counter is left standing. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Flash

end
-- ==== Proof.KernelFrame.lean ====
/- The frame of the program at machine floats, from its idealization's: the two print the same operations, the named
   constants aside, which at machine floats are the words printed. -/
module

public import proofs.«01_k».proof.Defs
public import proofs.«01_k».proof.Proof.Gen.Kernel
public import proofs.«01_k».proof.Proof.Run

@[expose] public section

set_option maxRecDepth 16384

noncomputable section

namespace Cert.Proof

open Idealize.ShloMosaic Idealize.SL.Sem

/-- At machine floats a named constant is its printed word. -/
@[reducible] def namedBits : Named Bits where
  named _ _ {φ} w := Scalar.ofBits φ w

attribute [local instance] namedBits Cert.Kernel.Gen.facts

set_option maxHeartbeats 4000000 in
theorem bodies_eq : Cert.Kernel.defs₀ (F := Bits) = Cert.KernelIdeal.defs₀ (F := Bits) := by
  refine congrArg Defs.onTc (funext fun l => ?_)
  match l with
  | 0 => rfl
  | ⟨n + 1, h⟩ => exact absurd h (by simp)

set_option maxHeartbeats 4000000 in
theorem defs_eq : Cert.Kernel.defs (F := Bits) = Cert.KernelIdeal.defs (F := Bits) :=
  congrArg (Pipeline.defs Cert.KernelIdeal.pcfgs) bodies_eq

set_option maxHeartbeats 4000000 in
theorem main_eq : Cert.Kernel.main (F := Bits) = Cert.KernelIdeal.main (F := Bits) := rfl

set_option maxHeartbeats 4000000 in
theorem frame_kernel : Cert.quiescent_Kernel := fun m ρ _ => by
  rw [main_eq, defs_eq]
  exact Cert.KernelIdeal.Flash.frame (F := Bits) m ρ

end Cert.Proof

end
-- ==== Proof.Frames.lean ====
/- What is claimed beside the equality of values: the frames of the three programs, and that the one named constant is
   the value its name stands for. -/
module

public import proofs.«01_k».proof.Defs
public import proofs.«01_k».proof.Proof.KernelFrame
public import proofs.«01_k».proof.Proof.Gen.Pre_finite
public import proofs.«01_k».proof.Proof.Gen.ReferenceIdeal.Run
public import Idealize.ShloMosaic.Lib.Quiescent

@[expose] public section

set_option maxRecDepth 16384

noncomputable section

namespace Cert.Proof

open Idealize.ShloMosaic Idealize.SL.Sem

theorem frame_ideal : Cert.quiescent_KernelIdeal := fun m ρ _ => Cert.KernelIdeal.Flash.frame (F := Ideal) m ρ

theorem frame_ideal_finite : Cert.quiescent_KernelIdeal_pre_finite := fun m ρ _ =>
  Cert.KernelIdeal.Flash.frame (F := Ideal) m ρ

theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

theorem frame_reference_finite : Cert.quiescent_ReferenceIdeal_pre_finite := fun m ρ _ =>
  frame_reference m ρ trivial

theorem preserves : Cert.preserves_Kernel_KernelIdeal :=
  IdealRules.named_const.statement Cert.KernelIdeal.κ "ln2" .f32 0x3F317218#32 ((Real.log 2 : ℝ) : EReal) rfl

end Cert.Proof

end
-- ==== Proof.Reals.lean ====
/- The attention and its gradient over the reals. An array is a function of naturals, so that a block's rows are the array's
   rows at shifted numbers and a blocked sum is a sum over an initial segment; `up2` and `up3` read such a function as an
   array of extended reals. -/
module

public import Mathlib.Analysis.SpecialFunctions.Pow.Real
public import Mathlib.Data.EReal.Inv
public import Idealize.ShloMosaic.Lib.Pointwise

@[expose] public section

noncomputable section

namespace Cert.Attn

open Idealize.ShloMosaic

/-- A real function of two naturals as an array of two axes. -/
def up2 (a b : ℕ) (f : ℕ → ℕ → ℝ) : (⟨2, ![a, b]⟩ : Shape).Idx → EReal := fun i => ((f (i 0).val (i 1).val : ℝ) : EReal)

/-- A real function of three naturals as an array of three axes. -/
def up3 (a b c : ℕ) (f : ℕ → ℕ → ℕ → ℝ) : (⟨3, ![a, b, c]⟩ : Shape).Idx → EReal :=
  fun i => ((f (i 0).val (i 1).val (i 2).val : ℝ) : EReal)

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A sum of reals over a literal extent, in the extended reals, is the real sum over the naturals below it. -/
theorem sum_fin (n : ℕ) (f : ℕ → ℝ) : (∑ i : Fin n, (f i.val : EReal)) = ((∑ i ∈ Finset.range n, f i : ℝ) : EReal) := by
  rw [← coe_sum, Fin.sum_univ_eq_sum_range]

/-- The same for a sum of products. -/
theorem sum_fin_mul (n : ℕ) (f g : ℕ → ℝ) :
    (∑ i : Fin n, (f i.val : EReal) * (g i.val : EReal)) = ((∑ i ∈ Finset.range n, f i * g i : ℝ) : EReal) := by
  rw [← sum_fin]; exact Finset.sum_congr rfl fun i _ => (EReal.coe_mul _ _).symm

theorem div_real {y : ℝ} (h : y ≠ 0) (x : ℝ) : Ideal.div (x : EReal) (y : EReal) = ((x / y : ℝ) : EReal) := by
  rw [Ideal.div_coe h, ← EReal.coe_mul, mul_one_div]

theorem log_real {x : ℝ} (h : 0 < x) : Ideal.log (x : EReal) = ((Real.log x : ℝ) : EReal) := by
  rw [Ideal.log_coe, if_neg (not_le.mpr h)]

/-- The largest of finitely many reals, at least one, is a real. -/
theorem fold_max_real {ι : Type} (s : Finset ι) (hs : s.Nonempty) (f : ι → ℝ) :
    ∃ r : ℝ, s.fold max (⊥ : EReal) (fun i => (f i : EReal)) = (r : EReal) := by
  classical
  induction hs using Finset.Nonempty.cons_induction with
  | singleton a => exact ⟨f a, by simp⟩
  | cons a s h hs ih =>
    obtain ⟨r, hr⟩ := ih
    refine ⟨max (f a) r, ?_⟩
    rw [Finset.fold_cons, hr]
    exact (EReal.coe_strictMono.monotone.map_max).symm

variable (q k v o : ℕ → ℕ → ℕ → ℝ)

/-- The score of head `n`, query `i`, key `j`. -/
def sc (n i j : ℕ) : ℝ := ∑ d ∈ Finset.range 96, q n i d * k n j d

/-- The score in natural units: the queries carry `log₂ e`. -/
def sN (n i j : ℕ) : ℝ := sc q k n i j * Real.log 2

/-- The largest score of a row. -/
def mN (n i : ℕ) : ℝ :=
  ((Finset.univ : Finset (Fin 16384)).fold max (⊥ : EReal) (fun j => ((sN q k n i j.val : ℝ) : EReal))).toReal

theorem mN_eq (n i : ℕ) :
    (Finset.univ : Finset (Fin 16384)).fold max (⊥ : EReal) (fun j => ((sN q k n i j.val : ℝ) : EReal)) = ((mN q k n i : ℝ) : EReal) := by
  obtain ⟨r, hr⟩ := fold_max_real (Finset.univ : Finset (Fin 16384)) ⟨0, Finset.mem_univ _⟩ (fun j => sN q k n i j.val)
  unfold mN
  rw [hr, EReal.toReal_coe]

/-- The exponential of a score less the row's largest. -/
def eN (n i j : ℕ) : ℝ := Real.exp (sN q k n i j - mN q k n i)

/-- The row's sum of exponentials. -/
def zN (n i : ℕ) : ℝ := ∑ j ∈ Finset.range 16384, eN q k n i j

/-- The row's attention weights. -/
def pN (n i j : ℕ) : ℝ := eN q k n i j / zN q k n i

/-- The attention's output. -/
def oN (n i d : ℕ) : ℝ := ∑ j ∈ Finset.range 16384, pN q k n i j * v n j d

/-- The gradient of the weights. -/
def gN (n i j : ℕ) : ℝ := ∑ d ∈ Finset.range 64, o n i d * v n j d

/-- The product of the output and its gradient, summed over the row. -/
def ddN (n i : ℕ) : ℝ := ∑ d ∈ Finset.range 64, o n i d * oN q k v n i d

/-- The gradient of the scores. -/
def dsN (n i j : ℕ) : ℝ := pN q k n i j * (gN v o n i j - ddN q k v o n i)

/-- The row's log-sum of exponentials, in units of `log 2`. -/
def lN (n i : ℕ) : ℝ := (mN q k n i + Real.log (zN q k n i)) / Real.log 2

theorem zN_pos (n i : ℕ) : 0 < zN q k n i :=
  Finset.sum_pos (fun _ _ => Real.exp_pos _) ⟨0, by simp⟩

theorem log_two_pos : 0 < Real.log 2 := Real.log_pos (by norm_num)

/-- The kernel's weight is the softmax's. -/
theorem weight_eq (n i j : ℕ) : Real.rpow 2 (sc q k n i j - lN q k n i) = pN q k n i j := by
  show (2 : ℝ) ^ (sc q k n i j - lN q k n i) = _
  have h2 := log_two_pos.ne'
  rw [Real.rpow_def_of_pos (by norm_num)]
  have e : Real.log 2 * (sc q k n i j - lN q k n i) = (sN q k n i j - mN q k n i) - Real.log (zN q k n i) := by
    unfold lN sN; field_simp; ring
  rw [e, Real.exp_sub, Real.exp_log (zN_pos q k n i)]
  rfl

/-- The row sum of output times gradient is the row sum of weights times their gradients. -/
theorem ddN_eq (n i : ℕ) : ddN q k v o n i = ∑ j ∈ Finset.range 16384, pN q k n i j * gN v o n i j := by
  unfold ddN oN gN
  simp only [Finset.mul_sum]
  rw [Finset.sum_comm]
  exact Finset.sum_congr rfl fun j _ => Finset.sum_congr rfl fun d _ => by ring

/-- The softmax's derivative as the chain rule writes it, quotient and sum apart, is the gradient of the scores. -/
theorem chain_eq (n i j : ℕ) :
    (gN v o n i j / zN q k n i
      + -(∑ x ∈ Finset.range 16384, gN v o n i x * (1 / (zN q k n i * zN q k n i)) * eN q k n i x)) * eN q k n i j * Real.log 2
      = dsN q k v o n i j * Real.log 2 := by
  have hz := (zN_pos q k n i).ne'
  have e : (∑ x ∈ Finset.range 16384, gN v o n i x * (1 / (zN q k n i * zN q k n i)) * eN q k n i x)
      = ddN q k v o n i / zN q k n i := by
    rw [ddN_eq, Finset.sum_div]
    exact Finset.sum_congr rfl fun x _ => by unfold pN; field_simp
  rw [e]
  unfold dsN pN
  field_simp
  ring

end Cert.Attn

end
-- ==== Proof.Finite.lean ====
/- What the precondition gives: every entry of every argument is a real number. -/
module

public import proofs.«01_k».proof.Defs
public import proofs.«01_k».proof.Proof.Reals
public import Idealize.ShloMosaic.Lib.ReduceAll

@[expose] public section

noncomputable section

namespace Cert.Attn

open Cert.Pre_finite Idealize.ShloMosaic

/-- An array of rank three whose entries are all real is an array of reals. -/
theorem exists_up3 (a b c : ℕ) (x : (⟨3, ![a, b, c]⟩ : Shape).Idx → EReal) (h : ∀ i, ∃ r : ℝ, x i = r) : ∃ f, x = up3 a b c f := by
  choose g hg using h
  refine ⟨fun n i d => if h : n < a ∧ i < b ∧ d < c then g (ix3 ⟨n, h.1⟩ ⟨i, h.2.1⟩ ⟨d, h.2.2⟩) else 0, ?_⟩
  funext y
  rw [hg y]
  show ((g _ : ℝ) : EReal) = ((dite _ _ _ : ℝ) : EReal)
  rw [dif_pos ⟨(y 0).isLt, (y 1).isLt, (y 2).isLt⟩]
  congr 2
  funext a
  match a with
  | ⟨0, _⟩ => rfl
  | ⟨1, _⟩ => rfl
  | ⟨2, _⟩ => rfl

/-- A number whose absolute value is below infinity is real. -/
theorem real_of_abs_lt (x : EReal) (h : Ideal.cmp .olt (max x (-x)) (Ideal.ofBits .f32 0x7F800000#32) = 1#1) : ∃ r : ℝ, x = r := by
  have e : (Ideal.ofBits .f32 0x7F800000#32 : EReal) = ⊤ := by simp [Ideal.ofBits, Ideal.ieee]
  rw [e] at h
  induction x with
  | bot => simp [Ideal.cmp] at h
  | coe r => exact ⟨r, rfl⟩
  | top => simp [Ideal.cmp] at h

variable [Facts]
open Facts

instance : Subsingleton S_.Idx := ⟨fun _ _ => funext fun a => a.elim0⟩

/-- The precondition makes each argument an array of reals. -/
theorem reals_of_finite (x y : FVec Ideal S12x16384x96 .bf16) (z w : FVec Ideal S12x16384x64 .bf16)
    (h : fn (F := Ideal) x y z w = fun _ => 1#1) :
    (∃ f, x = up3 12 16384 96 f) ∧ (∃ f, y = up3 12 16384 96 f) ∧ (∃ f, z = up3 12 16384 64 f) ∧ (∃ f, w = up3 12 16384 64 f) := by
  have h := congrFun h (fun a => a.elim0)
  dsimp only [fn, fn_part1] at h
  obtain ⟨h, h4⟩ := IntOp.andi_eq_one.1 h
  obtain ⟨h, h3⟩ := IntOp.andi_eq_one.1 h
  obtain ⟨h1, h2⟩ := IntOp.andi_eq_one.1 h
  refine ⟨exists_up3 _ _ _ x fun i => real_of_abs_lt _ ?_, exists_up3 _ _ _ y fun i => real_of_abs_lt _ ?_,
    exists_up3 _ _ _ z fun i => real_of_abs_lt _ ?_, exists_up3 _ _ _ w fun i => real_of_abs_lt _ ?_⟩
  · exact Host.reduce_andi_all _ _ _ _ _ h1 i
  · exact Host.reduce_andi_all _ _ _ _ _ h2 i
  · exact Host.reduce_andi_all _ _ _ _ _ h3 i
  · exact Host.reduce_andi_all _ _ _ _ _ h4 i

end Cert.Attn

end
-- ==== Proof.Chunk.lean ====
/- One grid point of the kernel on blocks of reals. -/
module

public import proofs.«01_k».proof.Proof.Step
public import proofs.«01_k».proof.Proof.Reals

@[expose] public section

set_option maxRecDepth 16384

noncomputable section

namespace Cert.KernelIdeal.Flash

open Cert.KernelIdeal Cert.KernelIdeal.Gen Cert.Attn Idealize.ShloMosaic

variable (qb kb vb ob : ℕ → ℕ → ℝ) (lb db : ℕ → ℝ)

/-- A matrix of reals as a block. -/
abbrev blkM (a b : ℕ) (f : ℕ → ℕ → ℝ) := up3 1 a b fun _ r d => f r d
/-- A row of reals as a block. -/
abbrev blkR (a : ℕ) (f : ℕ → ℝ) := up3 1 1 a fun _ _ r => f r

/-- The weight of key `y` and query `r` of the block. -/
def pB (y r : ℕ) : ℝ := Real.rpow 2 ((∑ d ∈ Finset.range 96, kb y d * qb r d) - lb r)

/-- The gradient of the score of key `y` and query `r` of the block. -/
def dsB (y r : ℕ) : ℝ := pB qb kb lb y r * ((∑ d ∈ Finset.range 64, vb y d * ob r d) - db r)

theorem ptC_eq (c : Fin 4) : ptC (F := Ideal) (blkM 2048 96 qb) (blkM 2048 96 kb) (blkR 2048 lb) c
    = up2 2048 512 fun y r => pB qb kb lb y (512 * c.val + r) := by
  funext i
  idx_vars i
  unfold ptC qC lC k0_pay13 k0_pay9 k0_pay11
  pointwise [up3, up2]
  rw [sum_fin_mul 96 (fun d => kb i0.val d) (fun d => qb (512 * c.val + i1.val) d), ← EReal.coe_sub]
  exact Ideal.exp2_coe _

theorem dsC_eq (c : Fin 4) : dsC (F := Ideal) (blkM 2048 96 qb) (blkM 2048 96 kb) (blkM 2048 64 vb) (blkM 2048 64 ob) (blkR 2048 lb) (blkR 2048 db) c
    = up2 2048 512 fun y r => dsB qb kb vb ob lb db y (512 * c.val + r) := by
  unfold dsC
  rw [ptC_eq]
  funext i
  idx_vars i
  unfold oC lC k0_pay15 k0_pay10 k0_pay12
  pointwise [up3, up2]
  rw [sum_fin_mul 64 (fun d => vb i0.val d) (fun d => ob (512 * c.val + i1.val) d), ← EReal.coe_sub, ← EReal.coe_mul]
  rfl

theorem dvS_eq (c : Fin 4) (A : ℕ → ℕ → ℝ) : dvS (F := Ideal) (blkM 2048 96 qb) (blkM 2048 96 kb) (blkM 2048 64 ob) (blkR 2048 lb) c (up2 2048 64 A)
    = up2 2048 64 fun y d => A y d + ∑ r ∈ Finset.range 512, pB qb kb lb y (512 * c.val + r) * ob (512 * c.val + r) d := by
  unfold dvS k0_pay14
  rw [show k0_pay13 (F := Ideal) (blkM 2048 96 kb) (qC (blkM 2048 96 qb) c) (lC (blkR 2048 lb) c) = _ from ptC_eq qb kb lb c]
  funext i
  idx_vars i
  unfold oC k0_pay12
  pointwise [up3, up2]
  rw [sum_fin_mul 512 (fun r => pB qb kb lb i0.val (512 * c.val + r)) (fun r => ob (512 * c.val + r) i1.val), ← EReal.coe_add]

theorem dkS_eq (c : Fin 4) (A : ℕ → ℕ → ℝ) : dkS (F := Ideal) (blkM 2048 96 qb) (blkM 2048 96 kb) (blkM 2048 64 vb) (blkM 2048 64 ob) (blkR 2048 lb) (blkR 2048 db) c (up2 2048 96 A)
    = up2 2048 96 fun y d => A y d + ∑ r ∈ Finset.range 512, dsB qb kb vb ob lb db y (512 * c.val + r) * qb (512 * c.val + r) d := by
  unfold dkS k0_pay16
  rw [show k0_pay15 (F := Ideal) (k0_pay10 (blkM 2048 64 vb)) (k0_pay12 (oC (blkM 2048 64 ob) c)) (ptC (blkM 2048 96 qb) (blkM 2048 96 kb) (blkR 2048 lb) c) (lC (blkR 2048 db) c) = _ from dsC_eq qb kb vb ob lb db c]
  funext i
  idx_vars i
  unfold qC k0_pay11
  pointwise [up3, up2]
  rw [sum_fin_mul 512 (fun r => dsB qb kb vb ob lb db i0.val (512 * c.val + r)) (fun r => qb (512 * c.val + r) i1.val), ← EReal.coe_add]

theorem dqS_eq (c : Fin 4) (A : ℕ → ℕ → ℝ) : dqS (F := Ideal) (blkM 2048 96 qb) (blkM 2048 96 kb) (blkM 2048 64 vb) (blkM 2048 64 ob) (blkR 2048 lb) (blkR 2048 db) c (up2 512 96 A)
    = up2 512 96 fun r d => A r d + ∑ y ∈ Finset.range 2048, dsB qb kb vb ob lb db y (512 * c.val + r) * kb y d := by
  unfold dqS k0_pay17
  rw [show k0_pay15 (F := Ideal) (k0_pay10 (blkM 2048 64 vb)) (k0_pay12 (oC (blkM 2048 64 ob) c)) (ptC (blkM 2048 96 qb) (blkM 2048 96 kb) (blkR 2048 lb) c) (lC (blkR 2048 db) c) = _ from dsC_eq qb kb vb ob lb db c]
  funext i
  idx_vars i
  unfold k0_pay9
  pointwise [up3, up2]
  rw [sum_fin_mul 2048 (fun y => dsB qb kb vb ob lb db y (512 * c.val + i0.val)) (fun y => kb y i1.val), ← EReal.coe_add]

/-- A sum over a block's 2048 rows is the sum over its four chunks. -/
theorem sum_chunks (f : ℕ → ℝ) : ∑ r ∈ Finset.range 2048, f r
    = ∑ r ∈ Finset.range 512, f (512 * 0 + r) + ∑ r ∈ Finset.range 512, f (512 * 1 + r)
      + ∑ r ∈ Finset.range 512, f (512 * 2 + r) + ∑ r ∈ Finset.range 512, f (512 * 3 + r) := by
  rw [Finset.sum_range_add f 1536 512, Finset.sum_range_add f 1024 512, Finset.sum_range_add f 512 512]
  simp only [Nat.mul_zero, Nat.zero_add, Nat.mul_one, Nat.reduceMul]

theorem dvN_eq (A : ℕ → ℕ → ℝ) : dvN (F := Ideal) (blkM 2048 96 qb) (blkM 2048 96 kb) (blkM 2048 64 ob) (blkR 2048 lb) (up2 2048 64 A)
    = up2 2048 64 fun y d => A y d + ∑ r ∈ Finset.range 2048, pB qb kb lb y r * ob r d := by
  unfold dvN
  simp only [dvS_eq]
  congr 1
  funext y d
  rw [sum_chunks]
  simp only [← add_assoc]
  rfl

theorem dkN_eq (A : ℕ → ℕ → ℝ) : dkN (F := Ideal) (blkM 2048 96 qb) (blkM 2048 96 kb) (blkM 2048 64 vb) (blkM 2048 64 ob) (blkR 2048 lb) (blkR 2048 db) (up2 2048 96 A)
    = up2 2048 96 fun y d => A y d + ∑ r ∈ Finset.range 2048, dsB qb kb vb ob lb db y r * qb r d := by
  unfold dkN
  simp only [dkS_eq]
  congr 1
  funext y d
  rw [sum_chunks]
  simp only [← add_assoc]
  rfl

theorem dqN_eq (j : Fin 8) (A : ℕ → ℕ → ℝ) : dqN (F := Ideal) (blkM 2048 96 qb) (blkM 2048 96 kb) (blkM 2048 64 vb) (blkM 2048 64 ob) (blkR 2048 lb) (blkR 2048 db) j (up2 16384 96 A)
    = up2 16384 96 fun x d => A x d + if x / 2048 = j.val then ∑ y ∈ Finset.range 2048, dsB qb kb vb ob lb db y (x % 2048) * kb y d else 0 := by
  funext i
  unfold dqN
  by_cases h : (i 0).val / 2048 = j.val
  · rw [dif_pos h]
    rw [show rowsAt (F := Ideal) (2048 * j.val + 512 * ((i 0).val % 2048 / 512)) (by have := j.isLt; omega) (up2 16384 96 A)
      = up2 512 96 (fun r d => A (2048 * j.val + 512 * ((i 0).val % 2048 / 512) + r) (0 + d)) from rfl, dqS_eq]
    show ((_ : ℝ) : EReal) = ((_ : ℝ) : EReal)
    congr 1
    show A (2048 * j.val + 512 * ((i 0).val % 2048 / 512) + (i 0).val % 512) (0 + (i 1).val)
        + ∑ y ∈ Finset.range 2048, dsB qb kb vb ob lb db y (512 * ((i 0).val % 2048 / 512) + (i 0).val % 512) * kb y (i 1).val
      = A (i 0).val (i 1).val + if (i 0).val / 2048 = j.val then ∑ y ∈ Finset.range 2048, dsB qb kb vb ob lb db y ((i 0).val % 2048) * kb y (i 1).val else 0
    rw [if_pos h, Nat.zero_add, show 2048 * j.val + 512 * ((i 0).val % 2048 / 512) + (i 0).val % 512 = (i 0).val by omega,
      show 512 * ((i 0).val % 2048 / 512) + (i 0).val % 512 = (i 0).val % 2048 by omega]
  · rw [dif_neg h]
    show ((A (i 0).val (i 1).val : ℝ) : EReal) = ((_ : ℝ) : EReal)
    congr 1
    show A (i 0).val (i 1).val = A (i 0).val (i 1).val + if (i 0).val / 2048 = j.val then _ else 0
    rw [if_neg h, add_zero]

theorem zero6 : k0_pay6 (F := Ideal) = up2 16384 96 fun _ _ => 0 := by
  funext i
  unfold k0_pay6
  pointwise [up2]
  rfl

theorem zero7 : k0_pay7 (F := Ideal) = up2 2048 96 fun _ _ => 0 := by
  funext i
  unfold k0_pay7
  pointwise [up2]
  rfl

theorem zero8 : k0_pay8 (F := Ideal) = up2 2048 64 fun _ _ => 0 := by
  funext i
  unfold k0_pay8
  pointwise [up2]
  rfl

theorem out5 (A : ℕ → ℕ → ℝ) : k0_pay5 (F := Ideal) (up2 16384 96 A) = up3 1 16384 96 fun _ x d => A x d * Real.log 2 := by
  funext i
  idx_vars i
  unfold k0_pay5
  pointwise [up2, up3]
  rw [EReal.coe_mul]
  rfl

theorem out3 (A : ℕ → ℕ → ℝ) : k0_pay3 (F := Ideal) (up2 2048 96 A) = up3 1 2048 96 fun _ x d => A x d * Real.log 2 := by
  funext i
  idx_vars i
  unfold k0_pay3
  pointwise [up2, up3]
  rw [EReal.coe_mul]
  rfl

theorem out4 (A : ℕ → ℕ → ℝ) : k0_pay4 (F := Ideal) (up2 2048 64 A) = up3 1 2048 64 fun _ x d => A x d := by
  funext i
  idx_vars i
  unfold k0_pay4
  pointwise [up2, up3]

end Cert.KernelIdeal.Flash

end
-- ==== Proof.Stages.lean ====
/- The reference's operations grouped into stages, and what each stage makes of arrays of reals. -/
module

public import proofs.«01_k».proof.Proof.Gen.ReferenceIdeal
public import proofs.«01_k».proof.Proof.Reals
public import Idealize.ShloMosaic.Lib.IdealHost

@[expose] public section

set_option maxRecDepth 16384

noncomputable section

namespace Cert.Attn

open Cert.ReferenceIdeal Cert.ReferenceIdeal.Gen Idealize.ShloMosaic

/-! ## The stages -/

/-- The logarithm of two. -/
def ln2S : FVec Ideal S_ .f32 := Host.log (constant S_ .f32 0x40000000#32)

/-- The scores in natural units. -/
def scS (q k : FVec Ideal S12x16384x96 .bf16) : FVec Ideal S12x16384x16384 .f32 :=
  mulf (extf .f32 (truncf .bf16 (Host.dotGeneral dot_S12x16384x96_S12x16384x96_S12x16384x16384_2_2_1_1_0_0 none q k : FVec Ideal S12x16384x16384 .f32) bitsLt_bf16_f32) bitsLt_bf16_f32)
    (broadcastInDim S12x16384x16384 ![] bcast_S_S12x16384x16384 ln2S)

/-- Each row's largest entry. -/
def mxS (s : FVec Ideal S12x16384x16384 .f32) : FVec Ideal S12x16384 .f32 :=
  Host.reduce FloatOps.maximumf s (constant S_ .f32 0xFF800000#32) reducesTo_S12x16384x16384_S12x16384_d2 h_S_

/-- The same, not below `-∞`. -/
def mbS (m : FVec Ideal S12x16384 .f32) : FVec Ideal S12x16384 .f32 :=
  maximumf (broadcastInDim S12x16384 ![] bcast_S_S12x16384 (constant S_ .f32 0xFF800000#32)) m

/-- A number per row, as an array of one lane. -/
def colS (m : FVec Ideal S12x16384 .f32) : FVec Ideal S12x16384x1 .f32 :=
  broadcastInDim S12x16384x1 ![0, 1] bcast_S12x16384_S12x16384x1_0_1 m

/-- A number per row, over the row. -/
def rowS (m : FVec Ideal S12x16384x1 .f32) : FVec Ideal S12x16384x16384 .f32 :=
  broadcastInDim S12x16384x16384 ![0, 1, 2] bcast_S12x16384x1_S12x16384x16384_0_1_2 m

/-- Exponentials of entries less their row's number. -/
def exS (s : FVec Ideal S12x16384x16384 .f32) (m : FVec Ideal S12x16384 .f32) : FVec Ideal S12x16384x16384 .f32 :=
  Host.exp (subf s (rowS (colS m)))

/-- Each row's sum. -/
def smS (e : FVec Ideal S12x16384x16384 .f32) : FVec Ideal S12x16384 .f32 :=
  Host.reduceAdd e (constant S_ .f32 0x00000000#32) reducesTo_S12x16384x16384_S12x16384_d2 h_S_

/-- Entries over their row's number. -/
def prS (e : FVec Ideal S12x16384x16384 .f32) (z : FVec Ideal S12x16384 .f32) : FVec Ideal S12x16384x16384 .bf16 :=
  truncf .bf16 (Host.divf e (rowS (colS z))) bitsLt_bf16_f32

/-- The attention's output. -/
def ouS (p : FVec Ideal S12x16384x16384 .bf16) (v : FVec Ideal S12x16384x64 .bf16) : FVec Ideal S12x16384x64 .bf16 :=
  truncf .bf16 (Host.dotGeneral dot_S12x16384x16384_S12x16384x64_S12x16384x64_2_1_1_2_0_0 none p v : FVec Ideal S12x16384x64 .f32) bitsLt_bf16_f32

/-- The gradient of the weights. -/
def ggS (o v : FVec Ideal S12x16384x64 .bf16) : FVec Ideal S12x16384x16384 .f32 :=
  extf .f32 (truncf .bf16 (Host.dotGeneral dot_S12x16384x64_S12x16384x64_S12x16384x16384_2_2_1_1_0_0 none (extf .f32 o bitsLt_bf16_f32) v : FVec Ideal S12x16384x16384 .f32) bitsLt_bf16_f32) bitsLt_bf16_f32

/-- The gradient through the quotient's divisor, a number per row. -/
def qzS (g e : FVec Ideal S12x16384x16384 .f32) (z : FVec Ideal S12x16384 .f32) : FVec Ideal S12x16384 .f32 :=
  Host.reduceAdd (Host.negf (shapeCast S12x16384x1 (smS (mulf (mulf g (rowS (Host.divf (broadcastInDim S12x16384x1 ![] bcast_S_S12x16384x1 (constant S_ .f32 0x3F800000#32)) (mulf (colS z) (colS z))))) e)) shapeCasts_S12x16384_S12x16384x1))
    (constant S_ .f32 0x00000000#32) reducesTo_S12x16384x1_S12x16384_d2 h_S_

/-- The gradient of the scores. -/
def dsS (g e : FVec Ideal S12x16384x16384 .f32) (z c : FVec Ideal S12x16384 .f32) : FVec Ideal S12x16384x16384 .f32 :=
  extf .f32 (truncf .bf16 (mulf (mulf (addf (Host.divf g (rowS (colS z))) (broadcastInDim S12x16384x16384 ![0, 1] bcast_S12x16384_S12x16384x16384_0_1 c)) e) (broadcastInDim S12x16384x16384 ![] bcast_S_S12x16384x16384 ln2S)) bitsLt_bf16_f32) bitsLt_bf16_f32

/-- The gradient of the queries. -/
def dqS (ds : FVec Ideal S12x16384x16384 .f32) (k : FVec Ideal S12x16384x96 .bf16) : FVec Ideal S12x16384x96 .bf16 :=
  truncf .bf16 (Host.dotGeneral dot_S12x16384x16384_S12x16384x96_S12x16384x96_2_1_1_2_0_0 none ds k : FVec Ideal S12x16384x96 .f32) bitsLt_bf16_f32

/-- The gradient of the keys. -/
def dkS (ds : FVec Ideal S12x16384x16384 .f32) (q : FVec Ideal S12x16384x96 .bf16) : FVec Ideal S12x16384x96 .bf16 :=
  truncf .bf16 (Host.dotGeneral dot_S12x16384x16384_S12x16384x96_S12x16384x96_1_1_2_2_0_0 none ds q : FVec Ideal S12x16384x96 .f32) bitsLt_bf16_f32

/-- The gradient of the values. -/
def dvS (p : FVec Ideal S12x16384x16384 .bf16) (o : FVec Ideal S12x16384x64 .bf16) : FVec Ideal S12x16384x64 .bf16 :=
  truncf .bf16 (transpose S12x16384x64 [0, 2, 1] (Host.dotGeneral dot_S12x16384x64_S12x16384x16384_S12x64x16384_1_1_2_2_0_0 none (extf .f32 o bitsLt_bf16_f32) p : FVec Ideal S12x64x16384 .f32) transposes_S12x64x16384_S12x16384x64_0_2_1) bitsLt_bf16_f32

/-- The row's log-sum of exponentials, in units of `log 2`. -/
def lsS (m z : FVec Ideal S12x16384 .f32) : FVec Ideal S12x16384 .f32 :=
  Host.divf (addf m (Host.log z)) (broadcastInDim S12x16384 ![] bcast_S_S12x16384 ln2S)

/-! ## What they make of reals -/

theorem ofBits_two : (Ideal.ofBits .f32 0x40000000#32 : EReal) = ((2 : ℝ) : EReal) := by
  simp [Ideal.ofBits, Ideal.ieee]
  rw [← EReal.coe_mul]
  norm_num

theorem ofBits_bot : (Ideal.ofBits .f32 0xFF800000#32 : EReal) = ⊥ := by
  simp [Ideal.ofBits, Ideal.ieee]

theorem ln2S_eq (i : S_.Idx) : ln2S i = ((Real.log 2 : ℝ) : EReal) := by
  show Ideal.log (Ideal.ofBits .f32 0x40000000#32) = _
  rw [ofBits_two, log_real (by norm_num)]

variable (q k v o : ℕ → ℕ → ℕ → ℝ)

theorem scS_eq : scS (up3 12 16384 96 q) (up3 12 16384 96 k) = up3 12 16384 16384 (sN q k) := by
  funext i
  idx_vars i
  unfold scS
  pointwise [up3]
  rw [ln2S_eq, sum_fin_mul 96 (fun x => q i0 i1 x) (fun x => k i0 i2 x), ← EReal.coe_mul]
  rfl

theorem mxS_eq : mxS (up3 12 16384 16384 (sN q k)) = up2 12 16384 (mN q k) := by
  funext i
  idx_vars i
  unfold mxS
  pointwise [up3, up2]
  rw [ofBits_bot]
  exact mN_eq q k i0 i1

theorem mbS_eq (f : ℕ → ℕ → ℝ) : mbS (up2 12 16384 f) = up2 12 16384 f := by
  funext i
  idx_vars i
  unfold mbS
  pointwise [up2]
  rw [ofBits_bot]
  exact max_eq_right bot_le

theorem exS_eq : exS (up3 12 16384 16384 (sN q k)) (up2 12 16384 (mN q k)) = up3 12 16384 16384 (eN q k) := by
  funext i
  idx_vars i
  unfold exS rowS colS
  pointwise [up3, up2]
  rw [← EReal.coe_sub, Ideal.exp_coe]
  rfl

theorem smS_eq (f : ℕ → ℕ → ℕ → ℝ) :
    smS (up3 12 16384 16384 f) = up2 12 16384 (fun n i => ∑ j ∈ Finset.range 16384, f n i j) := by
  funext i
  idx_vars i
  unfold smS
  pointwise [up3, up2]
  exact sum_fin 16384 fun x => f i0 i1 x

theorem prS_eq : prS (up3 12 16384 16384 (eN q k)) (up2 12 16384 (zN q k)) = up3 12 16384 16384 (pN q k) := by
  funext i
  idx_vars i
  unfold prS rowS colS
  pointwise [up3, up2]
  exact div_real (zN_pos q k i0 i1).ne' _

theorem ouS_eq : ouS (up3 12 16384 16384 (pN q k)) (up3 12 16384 64 v) = up3 12 16384 64 (oN q k v) := by
  funext i
  idx_vars i
  unfold ouS
  pointwise [up3]
  exact sum_fin_mul 16384 (fun x => pN q k i0 i1 x) (fun x => v i0 x i2)

theorem ggS_eq : ggS (up3 12 16384 64 o) (up3 12 16384 64 v) = up3 12 16384 16384 (gN v o) := by
  funext i
  idx_vars i
  unfold ggS
  pointwise [up3]
  exact sum_fin_mul 64 (fun x => o i0 i1 x) (fun x => v i0 i2 x)

/-- The number per row that the reference subtracts. -/
def qzN (n i : ℕ) : ℝ :=
  -(∑ x ∈ Finset.range 16384, gN v o n i x * (1 / (zN q k n i * zN q k n i)) * eN q k n i x)

theorem qzS_eq : qzS (up3 12 16384 16384 (gN v o)) (up3 12 16384 16384 (eN q k)) (up2 12 16384 (zN q k))
    = up2 12 16384 (qzN q k v o) := by
  have e : mulf (mulf (up3 12 16384 16384 (gN v o) : FVec Ideal S12x16384x16384 .f32) (rowS (Host.divf (broadcastInDim S12x16384x1 ![] bcast_S_S12x16384x1 (constant S_ .f32 0x3F800000#32)) (mulf (colS (up2 12 16384 (zN q k))) (colS (up2 12 16384 (zN q k))))))) (up3 12 16384 16384 (eN q k) : FVec Ideal S12x16384x16384 .f32)
      = up3 12 16384 16384 (fun n i x => gN v o n i x * (1 / (zN q k n i * zN q k n i)) * eN q k n i x) := by
    funext i
    idx_vars i
    unfold rowS colS
    pointwise [up3, up2]
    have hz := (zN_pos q k i0 i1).ne'
    rw [← EReal.coe_mul, ← EReal.coe_one, div_real (mul_ne_zero hz hz), ← EReal.coe_mul, ← EReal.coe_mul]
  unfold qzS
  rw [e, smS_eq]
  funext i
  idx_vars i
  pointwise [up2]
  exact Fin.sum_univ_one _

theorem dsS_eq : dsS (up3 12 16384 16384 (gN v o)) (up3 12 16384 16384 (eN q k)) (up2 12 16384 (zN q k))
    (up2 12 16384 (qzN q k v o)) = up3 12 16384 16384 (fun n i j => dsN q k v o n i j * Real.log 2) := by
  funext i
  idx_vars i
  unfold dsS rowS colS
  pointwise [up3, up2]
  rw [ln2S_eq, div_real (zN_pos q k i0 i1).ne', ← EReal.coe_add, ← EReal.coe_mul, ← EReal.coe_mul]
  exact congrArg _ (chain_eq q k v o i0 i1 i2)

theorem dqS_eq (f : ℕ → ℕ → ℕ → ℝ) : dqS (up3 12 16384 16384 f) (up3 12 16384 96 k)
    = up3 12 16384 96 (fun n i d => ∑ j ∈ Finset.range 16384, f n i j * k n j d) := by
  funext i
  idx_vars i
  unfold dqS
  pointwise [up3]
  exact sum_fin_mul 16384 (fun x => f i0 i1 x) (fun x => k i0 x i2)

theorem dkS_eq (f : ℕ → ℕ → ℕ → ℝ) : dkS (up3 12 16384 16384 f) (up3 12 16384 96 q)
    = up3 12 16384 96 (fun n j d => ∑ i ∈ Finset.range 16384, f n i j * q n i d) := by
  funext i
  idx_vars i
  unfold dkS
  pointwise [up3]
  exact sum_fin_mul 16384 (fun x => f i0 x i1) (fun x => q i0 x i2)

theorem dvS_eq (f : ℕ → ℕ → ℕ → ℝ) : dvS (up3 12 16384 16384 f) (up3 12 16384 64 o)
    = up3 12 16384 64 (fun n j d => ∑ i ∈ Finset.range 16384, o n i d * f n i j) := by
  funext i
  idx_vars i
  unfold dvS
  pointwise [up3]
  exact sum_fin_mul 16384 (fun x => o i0 x i2) (fun x => f i0 x i1)

theorem lsS_eq : lsS (up2 12 16384 (mN q k)) (up2 12 16384 (zN q k)) = up2 12 16384 (lN q k) := by
  funext i
  idx_vars i
  unfold lsS
  pointwise [up2]
  rw [ln2S_eq, log_real (zN_pos q k i0 i1), ← EReal.coe_add, div_real log_two_pos.ne']
  rfl

end Cert.Attn

end
-- ==== Proof.HostValue.lean ====
/- What the kernel's host lines hand to the pipeline, on arguments of reals, and the blocks the grid points read. -/
module

public import proofs.«01_k».proof.Proof.Run
public import proofs.«01_k».proof.Proof.Chunk
public import proofs.«01_k».proof.Proof.Stages

@[expose] public section

set_option maxRecDepth 16384

noncomputable section

namespace Cert.KernelIdeal.Flash

open Cert.KernelIdeal Cert.KernelIdeal.Gen Cert.Attn Idealize.ShloMosaic Idealize.ShloMosaic.TcCoe

/-- A row's sum of the products of the incoming gradient and the output. -/
def ddS (o u : FVec Ideal S12x16384x64 .bf16) : FVec Ideal S12x16384 .f32 :=
  Host.reduceAdd (mulf (extf .f32 o bitsLt_bf16_f32) (extf .f32 u bitsLt_bf16_f32)) (constant S_ .f32 0x00000000#32) reducesTo_S12x16384x64_S12x16384_d2 h_S_

variable (m : (ℓ : Loc nD τ sig) → Buf (Elt Ideal) ℓ) (c : Dev nD)

theorem V_41 : V m c main_v41 = shapeCast S12x1x16384 (lsS (mxS (scS (m (c, main_arg0)) (m (c, main_arg1))))
      (smS (exS (scS (m (c, main_arg0)) (m (c, main_arg1))) (mxS (scS (m (c, main_arg0)) (m (c, main_arg1)))))))
    shapeCasts_S12x16384_S12x1x16384 := by
  unfold V
  after_results_simp <;> rfl

theorem V_42 : V m c main_v42 = shapeCast S12x1x16384 (ddS (m (c, main_arg3)) (ouS (prS
        (exS (scS (m (c, main_arg0)) (m (c, main_arg1))) (mbS (mxS (scS (m (c, main_arg0)) (m (c, main_arg1))))))
        (smS (exS (scS (m (c, main_arg0)) (m (c, main_arg1))) (mbS (mxS (scS (m (c, main_arg0)) (m (c, main_arg1))))))))
      (m (c, main_arg2)))) shapeCasts_S12x16384_S12x1x16384 := by
  unfold V
  after_results_simp <;> rfl

variable (q k v o : ℕ → ℕ → ℕ → ℝ)

theorem ddS_eq : ddS (up3 12 16384 64 o) (up3 12 16384 64 (oN q k v)) = up2 12 16384 (ddN q k v o) := by
  funext i
  idx_vars i
  unfold ddS
  pointwise [up3, up2]
  exact sum_fin_mul 64 (fun x => o i0 i1 x) (fun x => oN q k v i0 i1 x)

theorem row_cast (f : ℕ → ℕ → ℝ) : shapeCast S12x1x16384 (up2 12 16384 f : FVec Ideal S12x16384 .f32) shapeCasts_S12x16384_S12x1x16384
    = up3 12 1 16384 fun n _ i => f n i := by
  funext i
  idx_vars i
  pointwise [up3, up2]

section
variable (hq : m (c, main_arg0) = up3 12 16384 96 q) (hk : m (c, main_arg1) = up3 12 16384 96 k)
  (hv : m (c, main_arg2) = up3 12 16384 64 v) (ho : m (c, main_arg3) = up3 12 16384 64 o)

include hq hk in
theorem V_41_eq : V m c main_v41 = up3 12 1 16384 fun n _ i => lN q k n i := by
  rw [V_41, hq, hk, scS_eq, mxS_eq, exS_eq, show smS (up3 12 16384 16384 (eN q k)) = up2 12 16384 (zN q k) from smS_eq _, lsS_eq, row_cast]

include hq hk hv ho in
theorem V_42_eq : V m c main_v42 = up3 12 1 16384 fun n _ i => ddN q k v o n i := by
  rw [V_42, hq, hk, hv, ho, scS_eq, mxS_eq, mbS_eq, exS_eq, show smS (up3 12 16384 16384 (eN q k)) = up2 12 16384 (zN q k) from smS_eq _,
    prS_eq, ouS_eq, ddS_eq, row_cast]

/-! ## The blocks of grid point `t`: head `t / 64`, key block `t / 8 % 8`, query block `t % 8` -/

theorem ix_0 : ∀ t : Fin cfg0.N, win0_0.index t 0 = t.val / 64 ∧ win0_0.index t 1 = t.val % 8 ∧ win0_0.index t 2 = 0 := by decide +kernel
theorem ix_1 : ∀ t : Fin cfg0.N, win0_1.index t 0 = t.val / 64 ∧ win0_1.index t 1 = t.val / 8 % 8 ∧ win0_1.index t 2 = 0 := by decide +kernel
theorem ix_2 : ∀ t : Fin cfg0.N, win0_2.index t 0 = t.val / 64 ∧ win0_2.index t 1 = t.val / 8 % 8 ∧ win0_2.index t 2 = 0 := by decide +kernel
theorem ix_3 : ∀ t : Fin cfg0.N, win0_3.index t 0 = t.val / 64 ∧ win0_3.index t 1 = t.val % 8 ∧ win0_3.index t 2 = 0 := by decide +kernel
theorem ix_4 : ∀ t : Fin cfg0.N, win0_4.index t 0 = t.val / 64 ∧ win0_4.index t 1 = 0 ∧ win0_4.index t 2 = t.val % 8 := by decide +kernel
theorem ix_5 : ∀ t : Fin cfg0.N, win0_5.index t 0 = t.val / 64 ∧ win0_5.index t 1 = 0 ∧ win0_5.index t 2 = t.val % 8 := by decide +kernel

end

end Cert.KernelIdeal.Flash

end
-- ==== Proof.Blocks.lean ====
/- The blocks that a grid point reads, on arguments of reals. -/
module

public import proofs.«01_k».proof.Proof.HostValue

@[expose] public section

set_option maxRecDepth 16384

noncomputable section

namespace Cert.KernelIdeal.Flash

open Cert.KernelIdeal Cert.KernelIdeal.Gen Cert.Attn Idealize.ShloMosaic Idealize.ShloMosaic.TcCoe

variable (m : (ℓ : Loc nD τ sig) → Buf (Elt Ideal) ℓ) (c : Dev nD) (q k v o : ℕ → ℕ → ℕ → ℝ)
  (hq : m (c, main_arg0) = up3 12 16384 96 q) (hk : m (c, main_arg1) = up3 12 16384 96 k)
  (hv : m (c, main_arg2) = up3 12 16384 64 v) (ho : m (c, main_arg3) = up3 12 16384 64 o)

include hq in
theorem blk_0 (t : Fin cfg0.N) : iblk m c 0 t = blkM 2048 96 fun r d => q (t.val / 64) (2048 * (t.val % 8) + r) d := by
  obtain ⟨e0, e1, e2⟩ := ix_0 t
  funext y
  have e : V m c (Pipeline.arrRef spec0 0) = up3 12 16384 96 q := (V_main_arg0 m c).trans hq
  unfold iblk
  rw [e]
  blk_simp [up3, e0, e1, e2]
  rw [Nat.mul_comm (t.val % 8) 2048]

include hk in
theorem blk_1 (t : Fin cfg0.N) : iblk m c 1 t = blkM 2048 96 fun y d => k (t.val / 64) (2048 * (t.val / 8 % 8) + y) d := by
  obtain ⟨e0, e1, e2⟩ := ix_1 t
  funext y
  have e : V m c (Pipeline.arrRef spec0 1) = up3 12 16384 96 k := (V_main_arg1 m c).trans hk
  unfold iblk
  rw [e]
  blk_simp [up3, e0, e1, e2]
  rw [Nat.mul_comm (t.val / 8 % 8) 2048]

include hv in
theorem blk_2 (t : Fin cfg0.N) : iblk m c 2 t = blkM 2048 64 fun y d => v (t.val / 64) (2048 * (t.val / 8 % 8) + y) d := by
  obtain ⟨e0, e1, e2⟩ := ix_2 t
  funext y
  have e : V m c (Pipeline.arrRef spec0 2) = up3 12 16384 64 v := (V_main_arg2 m c).trans hv
  unfold iblk
  rw [e]
  blk_simp [up3, e0, e1, e2]
  rw [Nat.mul_comm (t.val / 8 % 8) 2048]

include ho in
theorem blk_3 (t : Fin cfg0.N) : iblk m c 3 t = blkM 2048 64 fun r d => o (t.val / 64) (2048 * (t.val % 8) + r) d := by
  obtain ⟨e0, e1, e2⟩ := ix_3 t
  funext y
  have e : V m c (Pipeline.arrRef spec0 3) = up3 12 16384 64 o := (V_main_arg3 m c).trans ho
  unfold iblk
  rw [e]
  blk_simp [up3, e0, e1, e2]
  rw [Nat.mul_comm (t.val % 8) 2048]

include hq hk in
theorem blk_4 (t : Fin cfg0.N) : iblk m c 4 t = blkR 2048 fun r => lN q k (t.val / 64) (2048 * (t.val % 8) + r) := by
  obtain ⟨e0, e1, e2⟩ := ix_4 t
  funext y
  have e : V m c (Pipeline.arrRef spec0 4) = up3 12 1 16384 fun n _ i => lN q k n i := V_41_eq m c q k hq hk
  unfold iblk
  rw [e]
  blk_simp [up3, e0, e1, e2]
  rw [Nat.mul_comm (t.val % 8) 2048]

include hq hk hv ho in
theorem blk_5 (t : Fin cfg0.N) : iblk m c 5 t = blkR 2048 fun r => ddN q k v o (t.val / 64) (2048 * (t.val % 8) + r) := by
  obtain ⟨e0, e1, e2⟩ := ix_5 t
  funext y
  have e : V m c (Pipeline.arrRef spec0 5) = up3 12 1 16384 fun n _ i => ddN q k v o n i := V_42_eq m c q k v o hq hk hv ho
  unfold iblk
  rw [e]
  blk_simp [up3, e0, e1, e2]
  rw [Nat.mul_comm (t.val % 8) 2048]

end Cert.KernelIdeal.Flash

end
-- ==== Proof.Sweep.lean ====
/- What the accumulators hold after every grid point, on arguments of reals. -/
module

public import proofs.«01_k».proof.Proof.Blocks

@[expose] public section

set_option maxRecDepth 16384

noncomputable section

namespace Cert.KernelIdeal.Flash

open Cert.KernelIdeal Cert.KernelIdeal.Gen Cert.Attn Idealize.ShloMosaic Idealize.ShloMosaic.TcCoe

/-! ## The accumulated sums -/

section
variable (q k v o : ℕ → ℕ → ℕ → ℝ)

/-- The gradient of the queries of head `n` over the key blocks below `I`, and over key block `I` too for the query blocks below `J`. -/
def dqA (n I J x d : ℕ) : ℝ := ∑ y ∈ Finset.range (2048 * (I + if x / 2048 < J then 1 else 0)), dsN q k v o n x y * k n y d

/-- The gradient of the keys of head `n`, key block `I`, over the query blocks below `J`. -/
def dkA (n I J a d : ℕ) : ℝ := ∑ x ∈ Finset.range (2048 * J), dsN q k v o n x (2048 * I + a) * q n x d

/-- The gradient of the values of head `n`, key block `I`, over the query blocks below `J`. -/
def dvA (n I J a d : ℕ) : ℝ := ∑ x ∈ Finset.range (2048 * J), pN q k n x (2048 * I + a) * o n x d

variable (n I J : ℕ)

theorem pB_eq (y r : ℕ) : pB (fun r d => q n (2048 * J + r) d) (fun y d => k n (2048 * I + y) d) (fun r => lN q k n (2048 * J + r)) y r
    = pN q k n (2048 * J + r) (2048 * I + y) := by
  rw [← weight_eq]
  unfold pB sc
  simp only [mul_comm]

theorem dsB_eq (y r : ℕ) : dsB (fun r d => q n (2048 * J + r) d) (fun y d => k n (2048 * I + y) d) (fun y d => v n (2048 * I + y) d)
      (fun r d => o n (2048 * J + r) d) (fun r => lN q k n (2048 * J + r)) (fun r => ddN q k v o n (2048 * J + r)) y r
    = dsN q k v o n (2048 * J + r) (2048 * I + y) := by
  unfold dsB dsN gN
  rw [pB_eq]
  congr 2
  exact Finset.sum_congr rfl fun _ _ => mul_comm _ _

theorem dkA_succ (a d : ℕ) : dkA q k v o n I (J + 1) a d
    = dkA q k v o n I J a d + ∑ r ∈ Finset.range 2048, dsN q k v o n (2048 * J + r) (2048 * I + a) * q n (2048 * J + r) d := by
  unfold dkA
  rw [Nat.mul_succ, Finset.sum_range_add]

theorem dvA_succ (a d : ℕ) : dvA q k o n I (J + 1) a d
    = dvA q k o n I J a d + ∑ r ∈ Finset.range 2048, pN q k n (2048 * J + r) (2048 * I + a) * o n (2048 * J + r) d := by
  unfold dvA
  rw [Nat.mul_succ, Finset.sum_range_add]

theorem dqA_succ (x d : ℕ) : dqA q k v o n I (J + 1) x d
    = dqA q k v o n I J x d + if x / 2048 = J then ∑ y ∈ Finset.range 2048, dsN q k v o n (2048 * J + x % 2048) (2048 * I + y) * k n (2048 * I + y) d else 0 := by
  unfold dqA
  rcases lt_trichotomy (x / 2048) J with h | h | h
  · rw [if_pos h, if_pos (by omega), if_neg (by omega), add_zero]
  · rw [if_neg (by omega : ¬ x / 2048 < J), if_pos (by omega), if_pos h, Nat.add_zero, Nat.mul_succ, Finset.sum_range_add,
      show 2048 * J + x % 2048 = x by omega]
    rfl
  · rw [if_neg (by omega : ¬ x / 2048 < J), if_neg (by omega), if_neg (by omega)]
    exact (add_zero _).symm

theorem dkA_zero (a d : ℕ) : dkA q k v o n I 0 a d = 0 := rfl
theorem dvA_zero (a d : ℕ) : dvA q k o n I 0 a d = 0 := rfl
theorem dqA_zero (x d : ℕ) : dqA q k v o n 0 0 x d = 0 := by
  unfold dqA
  rw [if_neg (by omega)]
  rfl

/-- After the last query block a key block is complete. -/
theorem dqA_wrap : up2 16384 96 (dqA q k v o n I 8) = up2 16384 96 (dqA q k v o n (I + 1) 0) := by
  funext i
  have h : (i 0).val < 16384 := (i 0).isLt
  show ((dqA q k v o n I 8 (i 0).val (i 1).val : ℝ) : EReal) = ((dqA q k v o n (I + 1) 0 (i 0).val (i 1).val : ℝ) : EReal)
  unfold dqA
  rw [if_pos (by omega), if_neg (by omega)]

end

variable (m : (ℓ : Loc nD τ sig) → Buf (Elt Ideal) ℓ) (c : Dev nD) (q k v o : ℕ → ℕ → ℕ → ℝ)
  (hq : m (c, main_arg0) = up3 12 16384 96 q) (hk : m (c, main_arg1) = up3 12 16384 96 k)
  (hv : m (c, main_arg2) = up3 12 16384 64 v) (ho : m (c, main_arg3) = up3 12 16384 64 o)

/-- The three accumulators of head `n`, key block `I`, over the query blocks below `J`. -/
def acc (n I J : ℕ) : St Ideal :=
  (up2 16384 96 (dqA q k v o n I J), up2 2048 96 (dkA q k v o n I J), up2 2048 64 (dvA q k o n I J))

include hq hk hv ho in
/-- One point takes the accumulators one query block further; a head's first point needs nothing of what they held, a key
block's first point nothing of the keys' and values'. -/
theorem step_eq (t : Fin cfg0.N) (s : St Ideal)
    (h1 : t.val % 64 ≠ 0 → s.1 = (acc q k v o (t.val / 64) (t.val / 8 % 8) (t.val % 8)).1)
    (h2 : t.val % 8 ≠ 0 → s.2 = (acc q k v o (t.val / 64) (t.val / 8 % 8) (t.val % 8)).2) :
    stepAt m c t s = acc q k v o (t.val / 64) (t.val / 8 % 8) (t.val % 8 + 1) := by
  have e2 : (grid0.coords t 2).val = t.val / 1 % 8 := Pipeline.Grid.coords_val t 2 (by decide) rfl
  have a1 : (if cond1 (grid0.coords t) then (k0_pay6 : FVec Ideal S16384x96 .f32) else s.1) = up2 16384 96 (dqA q k v o (t.val / 64) (t.val / 8 % 8) (t.val % 8)) := by
    by_cases h : t.val % 64 = 0
    · rw [if_pos ((cond1_iff t).2 h), zero6, show t.val / 8 % 8 = 0 by omega, show t.val % 8 = 0 by omega]
      exact congrArg _ (funext₂ fun x d => (dqA_zero q k v o _ x d).symm)
    · rw [if_neg (mt (cond1_iff t).1 h)]; exact h1 h
  have a2 : (if cond2 (grid0.coords t) then (k0_pay7 : FVec Ideal S2048x96 .f32) else s.2.1) = up2 2048 96 (dkA q k v o (t.val / 64) (t.val / 8 % 8) (t.val % 8)) := by
    by_cases h : t.val % 8 = 0
    · rw [if_pos ((cond2_iff t).2 h), zero7, h]; rfl
    · rw [if_neg (mt (cond2_iff t).1 h), h2 h]; rfl
  have a3 : (if cond2 (grid0.coords t) then (k0_pay8 : FVec Ideal S2048x64 .f32) else s.2.2) = up2 2048 64 (dvA q k o (t.val / 64) (t.val / 8 % 8) (t.val % 8)) := by
    by_cases h : t.val % 8 = 0
    · rw [if_pos ((cond2_iff t).2 h), zero8, h]; rfl
    · rw [if_neg (mt (cond2_iff t).1 h), h2 h]; rfl
  unfold stepAt dqNx dkNx dvNx
  rw [a1, a2, a3, blk_0 m c q hq, blk_1 m c k hk, blk_2 m c v hv, blk_3 m c o ho, blk_4 m c q k hq hk, blk_5 m c q k v o hq hk hv ho]
  refine congrArg₂ Prod.mk ((dqN_eq _ _ _ _ _ _ (grid0.coords t 2) _).trans (congrArg (up2 16384 96) (funext₂ fun x d => ?_)))
    (congrArg₂ Prod.mk ((dkN_eq _ _ _ _ _ _ _).trans (congrArg (up2 2048 96) (funext₂ fun a d => ?_)))
      ((dvN_eq _ _ _ _ _).trans (congrArg (up2 2048 64) (funext₂ fun a d => ?_))))
  · rw [dqA_succ, show (grid0.coords t 2).val = t.val % 8 by rw [e2, Nat.div_one]]
    simp only [dsB_eq]
  · rw [dkA_succ]
    simp only [dsB_eq]
  · rw [dvA_succ]
    simp only [pB_eq]

include hq hk hv ho in
theorem sweep (t : ℕ) (ht : t < 768) : stAt m c (t + 1) = acc q k v o (t / 64) (t / 8 % 8) (t % 8 + 1) := by
  have hN : t < cfg0.N := ht
  rw [show stAt m c (t + 1) = stepAt m c ⟨t, hN⟩ (stAt m c t) from stAt_succ m c ⟨t, hN⟩]
  induction t with
  | zero => exact step_eq m c q k v o hq hk hv ho ⟨0, hN⟩ _ (fun h => absurd rfl h) (fun h => absurd rfl h)
  | succ t ih =>
    have hN' : t < cfg0.N := by omega
    have e := ih (by omega) hN'
    rw [← show stAt m c (t + 1) = stepAt m c ⟨t, hN'⟩ (stAt m c t) from stAt_succ m c ⟨t, hN'⟩] at e
    rw [e]
    refine step_eq m c q k v o hq hk hv ho ⟨t + 1, hN⟩ _ (fun h => ?_) (fun h => ?_)
    · simp only at h ⊢
      by_cases h8 : (t + 1) % 8 = 0
      · rw [show t % 8 + 1 = 8 by omega, show (t + 1) / 64 = t / 64 by omega, show (t + 1) / 8 % 8 = t / 8 % 8 + 1 by omega, h8]
        exact dqA_wrap q k v o _ _
      · rw [show t % 8 + 1 = (t + 1) % 8 by omega, show (t + 1) / 64 = t / 64 by omega, show (t + 1) / 8 % 8 = t / 8 % 8 by omega]
    · simp only at h ⊢
      rw [show t % 8 + 1 = (t + 1) % 8 by omega, show (t + 1) / 64 = t / 64 by omega, show (t + 1) / 8 % 8 = t / 8 % 8 by omega]

end Cert.KernelIdeal.Flash

end
-- ==== Proof.RefValue.lean ====
/- What the reference returns on arrays of reals. -/
module

public import proofs.«01_k».proof.Proof.Gen.ReferenceIdeal.Run
public import proofs.«01_k».proof.Proof.Stages

@[expose] public section

set_option maxRecDepth 16384

noncomputable section

namespace Cert.Attn

open Cert.ReferenceIdeal Cert.ReferenceIdeal.Gen Idealize.ShloMosaic Idealize.ShloMosaic.TcCoe Idealize.SL.Sem

/-- The gradient of the queries. -/
def dqR (q k v o : ℕ → ℕ → ℕ → ℝ) (n i d : ℕ) : ℝ := ∑ j ∈ Finset.range 16384, dsN q k v o n i j * Real.log 2 * k n j d

/-- The gradient of the keys. -/
def dkR (q k v o : ℕ → ℕ → ℕ → ℝ) (n j d : ℕ) : ℝ := ∑ i ∈ Finset.range 16384, dsN q k v o n i j * Real.log 2 * q n i d

/-- The gradient of the values. -/
def dvR (q k o : ℕ → ℕ → ℕ → ℝ) (n j d : ℕ) : ℝ := ∑ i ∈ Finset.range 16384, o n i d * pN q k n i j

section
variable (xq xk : FVec Ideal S12x16384x96 .bf16) (xv xo : FVec Ideal S12x16384x64 .bf16)

/-- The exponentials the reference forms. -/
def refE : FVec Ideal S12x16384x16384 .f32 := exS (scS xq xk) (mbS (mxS (scS xq xk)))

/-- The gradient of the scores the reference forms. -/
def refDs : FVec Ideal S12x16384x16384 .f32 :=
  dsS (ggS xo xv) (refE xq xk) (smS (refE xq xk)) (qzS (ggS xo xv) (refE xq xk) (smS (refE xq xk)))

end

variable (q k v o : ℕ → ℕ → ℕ → ℝ)

theorem refE_eq : refE (up3 12 16384 96 q) (up3 12 16384 96 k) = up3 12 16384 16384 (eN q k) := by
  unfold refE
  rw [scS_eq, mxS_eq, mbS_eq, exS_eq]

theorem smE_eq : smS (up3 12 16384 16384 (eN q k)) = up2 12 16384 (zN q k) := smS_eq _

theorem refDs_eq : refDs (up3 12 16384 96 q) (up3 12 16384 96 k) (up3 12 16384 64 v) (up3 12 16384 64 o)
    = up3 12 16384 16384 (fun n i j => dsN q k v o n i j * Real.log 2) := by
  unfold refDs
  rw [refE_eq, smE_eq, ggS_eq, qzS_eq, dsS_eq]

section
variable (m : (ℓ : Loc nD τ sig) → Buf (Elt Ideal) ℓ) (c : Dev nD)
  (hq : m ((c.tc : Thread nD τ).loc main_arg0) = up3 12 16384 96 q)
  (hk : m ((c.tc : Thread nD τ).loc main_arg1) = up3 12 16384 96 k)
  (hv : m ((c.tc : Thread nD τ).loc main_arg2) = up3 12 16384 64 v)
  (ho : m ((c.tc : Thread nD τ).loc main_arg3) = up3 12 16384 64 o)
include hq hk hv ho

theorem ref_dq : Value.res_main_v63 m c = up3 12 16384 96 (dqR q k v o) := by
  have e : Value.res_main_v63 m c = dqS (refDs (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) := by
    unfold Value.res_main_v63; rfl
  rw [e, hq, hk, hv, ho, refDs_eq, dqS_eq]
  rfl

theorem ref_dk : Value.res_main_v61 m c = up3 12 16384 96 (dkR q k v o) := by
  have e : Value.res_main_v61 m c = dkS (refDs (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg0)) := by
    unfold Value.res_main_v61; rfl
  rw [e, hq, hk, hv, ho, refDs_eq, dkS_eq]
  rfl

end

theorem ref_dv : dvS (prS (refE (up3 12 16384 96 q) (up3 12 16384 96 k)) (smS (refE (up3 12 16384 96 q) (up3 12 16384 96 k)))) (up3 12 16384 64 o)
    = up3 12 16384 64 (dvR q k o) := by
  rw [refE_eq, smE_eq, prS_eq, dvS_eq]
  rfl

/-- On arrays of reals the reference returns the three gradients. -/
theorem ref_run (m : (ℓ : Loc nD τ sig) → Buf (Elt Ideal) ℓ) (ρ : Dev nD → PrngReg) (q k v o : Dev nD → ℕ → ℕ → ℕ → ℝ)
    (hq : ∀ c : Dev nD, m ((c.tc : Thread nD τ).loc main_arg0) = up3 12 16384 96 (q c))
    (hk : ∀ c : Dev nD, m ((c.tc : Thread nD τ).loc main_arg1) = up3 12 16384 96 (k c))
    (hv : ∀ c : Dev nD, m ((c.tc : Thread nD τ).loc main_arg2) = up3 12 16384 64 (v c))
    (ho : ∀ c : Dev nD, m ((c.tc : Thread nD τ).loc main_arg3) = up3 12 16384 64 (o c)) :
    θ_run (defs (F := Ideal)) (onTc (τ := τ) (main (F := Ideal))) ⟨m, fun _ => 0, ρ⟩ fun r => ∀ c : Dev nD,
      r.2.mem ((c.tc : Thread nD τ).loc main_v63) = up3 12 16384 96 (dqR (q c) (k c) (v c) (o c))
      ∧ r.2.mem ((c.tc : Thread nD τ).loc main_v61) = up3 12 16384 96 (dkR (q c) (k c) (v c) (o c))
      ∧ r.2.mem ((c.tc : Thread nD τ).loc main_v40) = up3 12 16384 64 (dvR (q c) (k c) (o c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans (ref_dq _ _ _ _ m c (hq c) (hk c) (hv c) (ho c)),
    (h c).2.1.trans (ref_dk _ _ _ _ m c (hq c) (hk c) (hv c) (ho c)), (h c).2.2.1.trans ?_, (h c).2.2.2⟩) (Value.run (F := Ideal) m ρ)
  rw [hq c, hk c, ho c]
  exact ref_dv (q c) (k c) (o c)

end Cert.Attn

end
-- ==== Proof.KernelValue.lean ====
/- The kernel's three results, on arguments of reals. -/
module

public import proofs.«01_k».proof.Proof.Sweep
public import proofs.«01_k».proof.Proof.RefValue
public import Idealize.ShloMosaic.Lib.Pipeline.Value

@[expose] public section

set_option maxRecDepth 16384

noncomputable section

namespace Cert.KernelIdeal.Flash

open Cert.KernelIdeal Cert.KernelIdeal.Gen Cert.Attn Idealize.ShloMosaic Idealize.ShloMosaic.TcCoe

theorem ix_6 : ∀ t : Fin cfg0.N, win0_6.index t 0 = t.val / 64 ∧ win0_6.index t 1 = 0 ∧ win0_6.index t 2 = 0 := by decide +kernel
theorem ix_7 : ∀ t : Fin cfg0.N, win0_7.index t 0 = t.val / 64 ∧ win0_7.index t 1 = t.val / 8 % 8 ∧ win0_7.index t 2 = 0 := by decide +kernel
theorem ix_8 : ∀ t : Fin cfg0.N, win0_8.index t 0 = t.val / 64 ∧ win0_8.index t 1 = t.val / 8 % 8 ∧ win0_8.index t 2 = 0 := by decide +kernel

variable (m : (ℓ : Loc nD τ sig) → Buf (Elt Ideal) ℓ) (c : Dev nD) (q k v o : ℕ → ℕ → ℕ → ℝ)
  (hq : m (c, main_arg0) = up3 12 16384 96 q) (hk : m (c, main_arg1) = up3 12 16384 96 k)
  (hv : m (c, main_arg2) = up3 12 16384 64 v) (ho : m (c, main_arg3) = up3 12 16384 64 o)

theorem dq_full (n x d : ℕ) (h : x < 16384) : dqA q k v o n 7 8 x d * Real.log 2 = dqR q k v o n x d := by
  unfold dqA dqR
  rw [if_pos (by omega), Finset.sum_mul]
  exact Finset.sum_congr rfl fun y _ => by ring

theorem dk_full (n I a d : ℕ) : dkA q k v o n I 8 a d * Real.log 2 = dkR q k v o n (2048 * I + a) d := by
  unfold dkA dkR
  rw [Finset.sum_mul]
  exact Finset.sum_congr rfl fun y _ => by ring

theorem dv_full (n I a d : ℕ) : dvA q k o n I 8 a d = dvR q k o n (2048 * I + a) d := by
  unfold dvA dvR
  exact Finset.sum_congr rfl fun y _ => mul_comm _ _

include hq hk hv ho in
theorem final_6 : (dats m 0 c).arrAt 6 cfg0.N = up3 12 16384 96 (dqR q k v o) := by
  refine (dats m 0 c).arrAt_eq_of_covers 6 _ (by decide +kernel) fun t hf y => ?_
  have ht : t.val % 64 = 63 := (flush0_6 t).1 hf
  obtain ⟨e0, e1, e2⟩ := ix_6 t
  rw [after_6, sweep m c q k v o hq hk hv ho t.val t.isLt, show t.val / 8 % 8 = 7 by omega, show t.val % 8 + 1 = 8 by omega]
  unfold acc
  rw [out5]
  blk_simp [up3, e0, e1, e2]
  exact congrArg Real.toEReal (dq_full q k v o _ _ _ (y 1).isLt)

include hq hk hv ho in
theorem final_7 : (dats m 0 c).arrAt 7 cfg0.N = up3 12 16384 96 (dkR q k v o) := by
  refine (dats m 0 c).arrAt_eq_of_covers 7 _ (by decide +kernel) fun t hf y => ?_
  have ht : t.val % 8 = 7 := (flush0_7 t).1 hf
  obtain ⟨e0, e1, e2⟩ := ix_7 t
  rw [after_7, sweep m c q k v o hq hk hv ho t.val t.isLt, show t.val % 8 + 1 = 8 by omega]
  unfold acc
  rw [out3]
  blk_simp [up3, e0, e1, e2]
  rw [Nat.mul_comm (t.val / 8 % 8) 2048]
  exact congrArg Real.toEReal (dk_full q k v o _ _ _ _)

include hq hk hv ho in
theorem final_8 : (dats m 0 c).arrAt 8 cfg0.N = up3 12 16384 64 (dvR q k o) := by
  refine (dats m 0 c).arrAt_eq_of_covers 8 _ (by decide +kernel) fun t hf y => ?_
  have ht : t.val % 8 = 7 := (flush0_8 t).1 hf
  obtain ⟨e0, e1, e2⟩ := ix_8 t
  rw [after_8, sweep m c q k v o hq hk hv ho t.val t.isLt, show t.val % 8 + 1 = 8 by omega]
  unfold acc
  rw [out4]
  blk_simp [up3, e0, e1, e2]
  rw [Nat.mul_comm (t.val / 8 % 8) 2048]
  exact congrArg Real.toEReal (dv_full q k o _ _ _ _)

/-- On arrays of reals the kernel returns the three gradients and keeps its arguments. -/
theorem kernel_run (m : (ℓ : Loc nD τ sig) → Buf (Elt Ideal) ℓ) (ρ : Dev nD → PrngReg) (q k v o : Dev nD → ℕ → ℕ → ℕ → ℝ)
    (hq : ∀ c : Dev nD, m ((c.tc : Thread nD τ).loc main_arg0) = up3 12 16384 96 (q c))
    (hk : ∀ c : Dev nD, m ((c.tc : Thread nD τ).loc main_arg1) = up3 12 16384 96 (k c))
    (hv : ∀ c : Dev nD, m ((c.tc : Thread nD τ).loc main_arg2) = up3 12 16384 64 (v c))
    (ho : ∀ c : Dev nD, m ((c.tc : Thread nD τ).loc main_arg3) = up3 12 16384 64 (o c)) :
    θ_run (defs (F := Ideal)) (onTc (τ := τ) (main (F := Ideal))) ⟨m, fun _ => 0, ρ⟩ fun r => ∀ c : Dev nD,
      r.2.mem ((c.tc : Thread nD τ).loc main_v43_0) = up3 12 16384 96 (dqR (q c) (k c) (v c) (o c))
      ∧ r.2.mem ((c.tc : Thread nD τ).loc main_v43_1) = up3 12 16384 96 (dkR (q c) (k c) (v c) (o c))
      ∧ r.2.mem ((c.tc : Thread nD τ).loc main_v43_2) = up3 12 16384 64 (dvR (q c) (k c) (o c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h.1 c).1 6).trans (final_6 m c (q c) (k c) (v c) (o c) (hq c) (hk c) (hv c) (ho c)),
     ((h.1 c).1 7).trans (final_7 m c (q c) (k c) (v c) (o c) (hq c) (hk c) (hv c) (ho c)),
     ((h.1 c).1 8).trans (final_8 m c (q c) (k c) (v c) (o c) (hq c) (hk c) (hv c) (ho c)), h.2.1 c⟩)
    (θ_run_and (run_main m ρ) (frame m ρ))

end Cert.KernelIdeal.Flash

end
-- ==== Proof.Algebraic.lean ====
/- The kernel and the reference give the same gradients wherever every argument is real. -/
module

public import proofs.«01_k».proof.Proof.Finite
public import proofs.«01_k».proof.Proof.KernelValue
public import proofs.«01_k».proof.Proof.Gen.Pre_finite

@[expose] public section

noncomputable section

namespace Cert.Proof

open Cert.Attn Idealize.ShloMosaic

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre heq
  have H := fun c => reals_of_finite _ _ _ _ (hpre c)
  choose q hq using fun c => (H c).1
  choose k hk using fun c => (H c).2.1
  choose v hv using fun c => (H c).2.2.1
  choose o ho using fun c => (H c).2.2.2
  exact ⟨_, _, _, Cert.KernelIdeal.Flash.kernel_run m g q k v o hq hk hv ho,
    ref_run m' g' q k v o (fun c => (heq c).1.trans (hq c)) (fun c => (heq c).2.1.trans (hk c))
      (fun c => (heq c).2.2.1.trans (hv c)) (fun c => (heq c).2.2.2.trans (ho c))⟩

end Cert.Proof

end
-- ==== Proof.Ffn.Mat.lean ====
/- Matrices over the extended reals as functions of two naturals. -/
module

public import Idealize.ShloMosaic.Lib.Pipeline.Value
public import Idealize.ShloMosaic.Lib.Pipeline.ValueKit
public import Idealize.ShloMosaic.Lib.Pointwise
public import Idealize.ShloMosaic.Lib.Tactic

@[expose] public section

noncomputable section

namespace Cert.Ffn

open Idealize.ShloMosaic

/-- A function of two naturals as an array of two axes. -/
def mat (a b : ℕ) (f : ℕ → ℕ → EReal) : (⟨2, ![a, b]⟩ : Shape).Idx → EReal := fun i => f (i 0).val (i 1).val

/-- Every array of two axes is given by a function of two naturals. -/
theorem exists_mat {a b : ℕ} (g : (⟨2, ![a, b]⟩ : Shape).Idx → EReal) : ∃ f, g = mat a b f := by
  refine ⟨fun i j => if h : i < a ∧ j < b then g (ix2 ⟨i, h.1⟩ ⟨j, h.2⟩) else 0, ?_⟩
  funext y
  show _ = dite _ _ _
  rw [dif_pos ⟨(y 0).isLt, (y 1).isLt⟩]
  congr 1
  funext z
  match z with
  | ⟨0, _⟩ => rfl
  | ⟨1, _⟩ => rfl

/-- The product of two matrices. -/
def dotN (K : ℕ) (f g : ℕ → ℕ → EReal) (i j : ℕ) : EReal := ∑ k ∈ Finset.range K, f i k * g k j

/-- A matrix with its axes exchanged. -/
def tr (f : ℕ → ℕ → EReal) (i j : ℕ) : EReal := f j i

theorem zero2 : (![0, 0] : Fin 2 → ℕ) = fun _ => 0 := by decide

theorem sum_nat (K : ℕ) (f : ℕ → EReal) : ∑ k : Fin K, f k.val = ∑ k ∈ Finset.range K, f k := Fin.sum_univ_eq_sum_range f K

end Cert.Ffn

end
-- ==== Proof.Fwd.Cases.lean ====
/- What the three kinds of grid point of the attention's forward kernel leave: the first of a sweep, an inner one, the last. -/
module

public import proofs.«01_k».proof.Proof.Gen.ForwardIdeal.Frame
public import proofs.«01_k».proof.Proof.Ffn.Mat
public import Idealize.ShloMosaic.Lib.Ring
public import Idealize.ShloMosaic.Lib.Tactic
public import Idealize.ShloMosaic.Lib.Pipeline.ValueKit

@[expose] public section

set_option maxRecDepth 16384

noncomputable section

namespace Cert.ForwardIdeal.Fwd

open Cert.ForwardIdeal Cert.ForwardIdeal.Gen Cert.Ffn Idealize.ShloMosaic Idealize.ShloMosaic.TcCoe Idealize.ShloMosaic.Tactic

variable {F : FTy → Type} [FloatOps F] [Named F]

theorem zero3 : (![0, 0, 0] : Fin 3 → ℕ) = fun _ => 0 := by decide

/-- Rows of the keys' block. -/
def kc (x : Vec F S1x2048x96 .bf16) (o : ℕ) (inb : ∀ a, (![0, o, 0] : Fin 3 → ℕ) a + S1x512x96.size a ≤ S1x2048x96.size a) : Vec F S1x512x96 .bf16 :=
  View.ld x (Rect.unit (s := S1x2048x96) ![0, o, 0] S1x512x96.size inb)

/-- Rows of the values' block. -/
def vc (x : Vec F S1x2048x128 .bf16) (o : ℕ) (inb : ∀ a, (![0, o, 0] : Fin 3 → ℕ) a + S1x512x128.size a ≤ S1x2048x128.size a) : Vec F S1x512x128 .bf16 :=
  View.ld x (Rect.unit (s := S1x2048x128) ![0, o, 0] S1x512x128.size inb)

section
variable (x0 x1 : Vec F S1x2048x96 .bf16) (x2 : Vec F S1x2048x128 .bf16) (s0 : Vec F S2048x1 .f32) (s1 : Vec F S2048x128 .f32)

/-- The new reference numbers. -/
def nextM : FVec F S2048x1 .f32 :=
  k0_pay12 x0 (kc x1 0 inb_S1x2048x96_S1x512x96_0_0_0) (kc x1 512 inb_S1x2048x96_S1x512x96_0_512_0)
    (kc x1 1024 inb_S1x2048x96_S1x512x96_0_1024_0) (kc x1 1536 inb_S1x2048x96_S1x512x96_0_1536_0) s0

/-- The new sums. -/
def nextA : FVec F S2048x128 .f32 :=
  k0_pay14 (k0_pay9 x0 (kc x1 512 inb_S1x2048x96_S1x512x96_0_512_0)) (k0_pay10 x0 (kc x1 1024 inb_S1x2048x96_S1x512x96_0_1024_0))
    (k0_pay11 x0 (kc x1 1536 inb_S1x2048x96_S1x512x96_0_1536_0)) (nextM x0 x1 s0)
    (k0_pay13 x0 (kc x1 0 inb_S1x2048x96_S1x512x96_0_0_0) (kc x1 512 inb_S1x2048x96_S1x512x96_0_512_0)
      (kc x1 1024 inb_S1x2048x96_S1x512x96_0_1024_0) (kc x1 1536 inb_S1x2048x96_S1x512x96_0_1536_0) s0)
    (vc x2 0 inb_S1x2048x128_S1x512x128_0_0_0) (vc x2 512 inb_S1x2048x128_S1x512x128_0_512_0)
    (vc x2 1024 inb_S1x2048x128_S1x512x128_0_1024_0) (vc x2 1536 inb_S1x2048x128_S1x512x128_0_1536_0) s0 s1
end

section
variable (c : Dev nD) (i : grid0.Coords) (a3 : Memref sig .tc .vmem S1x2048x96 .bf16) (h3 : a3.IsWhole)
  (a4 : Memref sig .tc .vmem S1x2048x96 .bf16) (h4 : a4.IsWhole) (a5 : Memref sig .tc .vmem S1x2048x128 .bf16) (h5 : a5.IsWhole)
  (a6 : Memref sig .tc .vmem S1x2048x64 .bf16) (h6 : a6.IsWhole) (a7 : Memref sig .tc .vmem S1x2048x1 .f32) (h7 : a7.IsWhole)
  (a8 : Memref sig .tc .vmem S2048x1 .f32) (h8 : a8.IsWhole) (a9 : Memref sig .tc .vmem S2048x128 .f32) (h9 : a9.IsWhole)
  (x0 x1 : Vec F S1x2048x96 .bf16) (x2 : Vec F S1x2048x128 .bf16) (s0 : Vec F S2048x1 .f32) (s1 : Vec F S2048x128 .f32)

/-- The reference numbers after the first point of a sweep. -/
theorem first_m (hc0 : cond0_0 i) (hc1 : ¬cond0_1 i) : sout0_A_0 c i a3 h3 a4 h4 a5 h5 a6 h6 a7 h7 a8 h8 a9 h9 hc0 hc1 x0 x1 x2
    = nextM x0 x1 k0_pay5 := by
  unfold sout0_A_0
  rw [View.read_writes_eq_canon _ _ _ (scover0_A_0 c i a3 h3 a4 h4 a5 h5 a6 h6 a7 h7 a8 h8 a9 h9 hc0 hc1 x0 x1 x2)]
  unfold kernelRun0_A
  dsimp only
  sl_unfold_words
  rw [View.canon_cons_unit_zero (S := S2048x1) zero2, View.readCov_unit_zero (S := S2048x1) _ zero2]
  simp only [View.readAt_eq_ld, h3.read_unread, h4.read_unread, h5.read_unread, View.ld_unit_zero (S := S1x2048x96) zero3,
    View.ld_unit_zero (S := S2048x1) zero2]
  unfold k0_pay1
  exact shapeCast_self _ _

/-- The sums after the first point of a sweep. -/
theorem first_a (hc0 : cond0_0 i) (hc1 : ¬cond0_1 i) : sout0_A_1 c i a3 h3 a4 h4 a5 h5 a6 h6 a7 h7 a8 h8 a9 h9 hc0 hc1 x0 x1 x2
    = nextA x0 x1 x2 k0_pay5 k0_pay6 := by
  unfold sout0_A_1
  rw [View.read_writes_eq_canon _ _ _ (scover0_A_1 c i a3 h3 a4 h4 a5 h5 a6 h6 a7 h7 a8 h8 a9 h9 hc0 hc1 x0 x1 x2)]
  unfold kernelRun0_A
  dsimp only
  sl_unfold_words
  rw [View.canon_cons_unit_zero (S := S2048x128) zero2, View.readCov_unit_zero (S := S2048x1) _ zero2,
    View.readCov_unit_zero (S := S2048x128) _ zero2]
  simp only [View.readAt_eq_ld, h3.read_unread, h4.read_unread, h5.read_unread, View.ld_unit_zero (S := S1x2048x96) zero3,
    View.ld_unit_zero (S := S2048x1) zero2, View.ld_unit_zero (S := S2048x128) zero2]
  rfl

/-- The reference numbers after an inner point. -/
theorem inner_m (hc0 : ¬cond0_0 i) (hc1 : ¬cond0_1 i) : sout0_B_0 c i a3 h3 a4 h4 a5 h5 a6 h6 a7 h7 a8 h8 a9 h9 hc0 hc1 x0 x1 x2 s0 s1
    = nextM x0 x1 s0 := by
  unfold sout0_B_0
  rw [View.read_writes_eq_canon _ _ _ (scover0_B_0 c i a3 h3 a4 h4 a5 h5 a6 h6 a7 h7 a8 h8 a9 h9 hc0 hc1 x0 x1 x2 s0 s1)]
  unfold kernelRun0_B
  dsimp only
  sl_unfold_words
  rw [View.canon_unit_zero zero2]
  simp only [View.readAt_eq_ld, h3.read_unread, h4.read_unread, h5.read_unread, h8.read_unread, h9.read_unread,
    View.ld_unit_zero (S := S1x2048x96) zero3, View.ld_unit_zero (S := S2048x1) zero2, View.ld_unit_zero (S := S2048x128) zero2]
  unfold k0_pay1
  exact shapeCast_self _ _

/-- The sums after an inner point. -/
theorem inner_a (hc0 : ¬cond0_0 i) (hc1 : ¬cond0_1 i) : sout0_B_1 c i a3 h3 a4 h4 a5 h5 a6 h6 a7 h7 a8 h8 a9 h9 hc0 hc1 x0 x1 x2 s0 s1
    = nextA x0 x1 x2 s0 s1 := by
  unfold sout0_B_1
  rw [View.read_writes_eq_canon _ _ _ (scover0_B_1 c i a3 h3 a4 h4 a5 h5 a6 h6 a7 h7 a8 h8 a9 h9 hc0 hc1 x0 x1 x2 s0 s1)]
  unfold kernelRun0_B
  dsimp only
  sl_unfold_words
  rw [View.canon_unit_zero zero2]
  simp only [View.readAt_eq_ld, h3.read_unread, h4.read_unread, h5.read_unread, h8.read_unread, h9.read_unread,
    View.ld_unit_zero (S := S1x2048x96) zero3, View.ld_unit_zero (S := S2048x1) zero2, View.ld_unit_zero (S := S2048x128) zero2]
  rfl

/-- The output block of the last point of a sweep. -/
theorem last_o (hc0 : ¬cond0_0 i) (hc1 : cond0_1 i) : out0_C_3 c i a3 h3 a4 h4 a5 h5 a6 h6 a7 h7 a8 h8 a9 h9 hc0 hc1 x0 x1 x2 s0 s1
    = k0_pay3 (nextA x0 x1 x2 s0 s1) := by
  unfold out0_C_3
  rw [View.read_writes_eq_canon _ _ _ (cover0_C_3 c i a3 h3 a4 h4 a5 h5 a6 h6 a7 h7 a8 h8 a9 h9 hc0 hc1 x0 x1 x2 s0 s1)]
  unfold kernelRun0_C
  dsimp only
  sl_unfold_words
  rw [View.canon_unit_zero zero3, View.readCov_unit_zero (S := S2048x128) _ zero2]
  simp only [View.readAt_eq_ld, h3.read_unread, h4.read_unread, h5.read_unread, h8.read_unread, h9.read_unread,
    View.ld_unit_zero (S := S1x2048x96) zero3, View.ld_unit_zero (S := S2048x1) zero2, View.ld_unit_zero (S := S2048x128) zero2]
  rfl

/-- The block of log-sums of the last point of a sweep. -/
theorem last_l (hc0 : ¬cond0_0 i) (hc1 : cond0_1 i) : out0_C_4 c i a3 h3 a4 h4 a5 h5 a6 h6 a7 h7 a8 h8 a9 h9 hc0 hc1 x0 x1 x2 s0 s1
    = k0_pay4 (nextA x0 x1 x2 s0 s1) (nextM x0 x1 s0) := by
  unfold out0_C_4
  rw [View.read_writes_eq_canon _ _ _ (cover0_C_4 c i a3 h3 a4 h4 a5 h5 a6 h6 a7 h7 a8 h8 a9 h9 hc0 hc1 x0 x1 x2 s0 s1)]
  unfold kernelRun0_C
  dsimp only
  sl_unfold_words
  rw [View.canon_unit_zero zero3, View.readCov_unit_zero (S := S2048x128) _ zero2, View.readCov_unit_zero (S := S2048x1) _ zero2]
  simp only [View.readAt_eq_ld, h3.read_unread, h4.read_unread, h5.read_unread, h8.read_unread, h9.read_unread,
    View.ld_unit_zero (S := S1x2048x96) zero3, View.ld_unit_zero (S := S2048x1) zero2, View.ld_unit_zero (S := S2048x128) zero2]
  unfold k0_pay1
  rw [shapeCast_self]
  rfl

end

end Cert.ForwardIdeal.Fwd

end
-- ==== Proof.Fwd.Online.lean ====
/- The running softmax. A row's weights are kept relative to some real number, not necessarily the row's largest score, and
   rescaled when that number changes; the quotient and the log-sum at the end do not depend on it. The values stay extended
   reals. -/
module

public import proofs.«01_k».proof.Proof.Reals
public import proofs.«01_k».proof.Proof.Ffn.Mat

@[expose] public section

noncomputable section

namespace Cert.Fwd

open Cert.Attn Idealize.ShloMosaic

/-- A function of three naturals as an array of three axes. -/
def mat3 (a b c : ℕ) (f : ℕ → ℕ → ℕ → EReal) : (⟨3, ![a, b, c]⟩ : Shape).Idx → EReal :=
  fun i => f (i 0).val (i 1).val (i 2).val

/-- Every array of three axes is given by a function of three naturals. -/
theorem exists_mat3 {a b c : ℕ} (g : (⟨3, ![a, b, c]⟩ : Shape).Idx → EReal) : ∃ f, g = mat3 a b c f := by
  refine ⟨fun i j k => if h : i < a ∧ j < b ∧ k < c then g (ix3 ⟨i, h.1⟩ ⟨j, h.2.1⟩ ⟨k, h.2.2⟩) else 0, ?_⟩
  funext y
  show _ = dite _ _ _
  rw [dif_pos ⟨(y 0).isLt, (y 1).isLt, (y 2).isLt⟩]
  congr 1
  funext z
  match z with
  | ⟨0, _⟩ => rfl
  | ⟨1, _⟩ => rfl
  | ⟨2, _⟩ => rfl

/-- A nonnegative real goes into a sum of extended reals. -/
theorem coe_mul_sum {ι : Type} (s : Finset ι) (c : ℝ) (hc : 0 ≤ c) (f : ι → EReal) :
    (c : EReal) * ∑ i ∈ s, f i = ∑ i ∈ s, (c : EReal) * f i := by
  classical
  induction s using Finset.cons_induction with
  | empty => simp
  | cons a s h ih =>
    rw [Finset.sum_cons, Finset.sum_cons,
      EReal.left_distrib_of_nonneg_of_ne_top (EReal.coe_nonneg.2 hc) (EReal.coe_ne_top c), ih]

/-- The weight of a score relative to `m`. -/
def w (s m : ℝ) : ℝ := Real.rpow 2 (s - m)

theorem w_pos (s m : ℝ) : 0 < w s m := Real.rpow_pos_of_pos (by norm_num) _

theorem w_mul (s m m' : ℝ) : w m m' * w s m = w s m' := by
  show (2 : ℝ) ^ (m - m') * (2 : ℝ) ^ (s - m) = (2 : ℝ) ^ (s - m')
  rw [← Real.rpow_add (by norm_num)]
  congr 1
  ring

/-- The sum of the first `n` values by their weights. -/
def part (s : ℕ → ℝ) (v : ℕ → EReal) (m : ℝ) (n : ℕ) : EReal := ∑ k ∈ Finset.range n, (w (s k) m : EReal) * v k

/-- A new reference number rescales the sum. -/
theorem part_rescale (s : ℕ → ℝ) (v : ℕ → EReal) (m m' : ℝ) (n : ℕ) : (w m m' : EReal) * part s v m n = part s v m' n := by
  unfold part
  rw [coe_mul_sum _ _ (w_pos _ _).le]
  refine Finset.sum_congr rfl fun k _ => ?_
  rw [← mul_assoc, ← EReal.coe_mul, w_mul]

theorem part_add (s : ℕ → ℝ) (v : ℕ → EReal) (m : ℝ) (n n' : ℕ) :
    part s v m n + part (fun k => s (n + k)) (fun k => v (n + k)) m n' = part s v m (n + n') :=
  (Finset.sum_range_add (fun k => (w (s k) m : EReal) * v k) n n').symm

variable (q k : ℕ → ℕ → ℕ → ℝ) (n i : ℕ)

theorem sum_pN : ∑ j ∈ Finset.range 16384, pN q k n i j = 1 := by
  unfold pN
  rw [← Finset.sum_div]
  exact div_self (zN_pos q k n i).ne'

/-- A weight relative to `m` is the softmax's times a number of the row. -/
theorem w_eq (m : ℝ) (j : ℕ) : w (sc q k n i j) m = w (lN q k n i) m * pN q k n i j := by
  rw [← weight_eq]
  exact (w_mul _ _ _).symm

theorem part_one (m : ℝ) : part (sc q k n i) (fun _ => 1) m 16384 = ((w (lN q k n i) m : ℝ) : EReal) := by
  have e : ∑ j ∈ Finset.range 16384, w (sc q k n i j) m = w (lN q k n i) m := by
    simp only [w_eq]
    rw [← Finset.mul_sum, sum_pN, mul_one]
  unfold part
  simp only [mul_one]
  rw [← coe_sum, e]

/-- The quotient is the softmax's sum. -/
theorem part_div (m : ℝ) (v : ℕ → EReal) :
    Ideal.div (part (sc q k n i) v m 16384) ((w (lN q k n i) m : ℝ) : EReal)
      = ∑ j ∈ Finset.range 16384, (pN q k n i j : EReal) * v j := by
  have h := w_pos (lN q k n i) m
  rw [Ideal.div_coe h.ne', mul_comm, part, coe_mul_sum _ _ (by positivity)]
  refine Finset.sum_congr rfl fun j _ => ?_
  rw [← mul_assoc, ← EReal.coe_mul, w_eq]
  congr 2
  field_simp

/-- The log-sum. -/
theorem log_part (m : ℝ) : m + Real.log (w (lN q k n i) m) * (Real.log 2)⁻¹ = lN q k n i := by
  have h2 := log_two_pos.ne'
  show m + Real.log ((2 : ℝ) ^ (_ - m)) * _ = _
  rw [Real.log_rpow (by norm_num)]
  field_simp
  ring

end Cert.Fwd

end
-- ==== Proof.Fwd.Arrays.lean ====
/- The blocks of the arrays at each grid point of the attention's forward kernel, and the rows that a point takes of them. -/
module

public import proofs.«01_k».proof.Proof.Fwd.Cases
public import proofs.«01_k».proof.Proof.Fwd.Online

@[expose] public section

set_option maxRecDepth 16384

noncomputable section

namespace Cert.ForwardIdeal.Fwd

open Cert.ForwardIdeal Cert.ForwardIdeal.Gen Cert.Attn Cert.Ffn Cert.Fwd Idealize.ShloMosaic Idealize.ShloMosaic.TcCoe Idealize.ShloMosaic.Tactic

theorem kc_eq (K : ℕ → ℕ → ℝ) (o : ℕ) (inb : ∀ a, (![0, o, 0] : Fin 3 → ℕ) a + S1x512x96.size a ≤ S1x2048x96.size a) :
    kc (F := Ideal) (up3 1 2048 96 fun _ => K) o inb = up3 1 512 96 fun _ j d => K (o + j) d := by
  funext i
  idx_vars i
  unfold kc
  pointwise [up3]

theorem vc_eq (V : ℕ → ℕ → EReal) (o : ℕ) (inb : ∀ a, (![0, o, 0] : Fin 3 → ℕ) a + S1x512x128.size a ≤ S1x2048x128.size a) :
    vc (F := Ideal) (mat3 1 2048 128 fun _ => V) o inb = mat3 1 512 128 fun _ j d => V (o + j) d := by
  funext i
  idx_vars i
  unfold vc
  pointwise [mat3]

theorem ix_0 : ∀ t : Fin cfg0.N, win0_0.index t 0 = t.val / 64 ∧ win0_0.index t 1 = t.val / 8 % 8 ∧ win0_0.index t 2 = 0 := by decide +kernel
theorem ix_1 : ∀ t : Fin cfg0.N, win0_1.index t 0 = t.val / 64 ∧ win0_1.index t 1 = t.val % 8 ∧ win0_1.index t 2 = 0 := by decide +kernel
theorem ix_2 : ∀ t : Fin cfg0.N, win0_2.index t 0 = t.val / 64 ∧ win0_2.index t 1 = t.val % 8 ∧ win0_2.index t 2 = 0 := by decide +kernel
theorem ix_3 : ∀ t : Fin cfg0.N, win0_3.index t 0 = t.val / 64 ∧ win0_3.index t 1 = t.val / 8 % 8 ∧ win0_3.index t 2 = 0 := by decide +kernel
theorem ix_4 : ∀ t : Fin cfg0.N, win0_4.index t 0 = t.val / 64 ∧ win0_4.index t 1 = t.val / 8 % 8 ∧ win0_4.index t 2 = 0 := by decide +kernel

/-- The values with a column of ones and columns of zeros. -/
def vO (v : ℕ → ℕ → ℕ → EReal) (n k d : ℕ) : EReal := if d < 64 then v n k d else if d = 64 then 1 else 0

variable (m : (ℓ : Loc nD τ sig) → Buf (Elt Ideal) ℓ) (c : Dev nD) (q k : ℕ → ℕ → ℕ → ℝ) (v : ℕ → ℕ → ℕ → EReal)
  (hq : m (c, main_arg0) = up3 12 16384 96 q) (hk : m (c, main_arg1) = up3 12 16384 96 k) (hv : m (c, main_arg2) = mat3 12 16384 64 v)

theorem V_2 : V m c main_v2 = concatenate S12x16384x128 2 [⟨S12x16384x64, m (c, main_arg2)⟩,
      ⟨S12x16384x1, (broadcastInDim S12x16384x1 ![] bcast_S_S12x16384x1 (constant S_ .bf16 0x3F80#16 : FVec Ideal S_ .bf16) : FVec Ideal S12x16384x1 .bf16)⟩,
      ⟨S12x16384x63, (broadcastInDim S12x16384x63 ![] bcast_S_S12x16384x63 (constant S_ .bf16 0x0000#16 : FVec Ideal S_ .bf16) : FVec Ideal S12x16384x63 .bf16)⟩]
      concatenates_S12x16384x64_S12x16384x1_S12x16384x63_S12x16384x128_d2 := by
  unfold V
  after_results_simp <;> rfl

include hv in
theorem V_2_eq : V m c main_v2 = mat3 12 16384 128 (vO v) := by
  rw [V_2, hv]
  funext i
  idx_vars i
  pointwise [mat3]
  unfold vO
  split_ifs <;> first | rfl | omega

include hq in
theorem blk_0 (t : Fin cfg0.N) : iblk m c 0 t = up3 1 2048 96 fun _ r d => q (t.val / 64) (2048 * (t.val / 8 % 8) + r) d := by
  obtain ⟨e0, e1, e2⟩ := ix_0 t
  funext y
  have e : V m c (Pipeline.arrRef spec0 0) = up3 12 16384 96 q := (V_main_arg0 m c).trans hq
  unfold iblk
  rw [e]
  blk_simp [up3, e0, e1, e2]
  rw [Nat.mul_comm (t.val / 8 % 8) 2048]

include hk in
theorem blk_1 (t : Fin cfg0.N) : iblk m c 1 t = up3 1 2048 96 fun _ r d => k (t.val / 64) (2048 * (t.val % 8) + r) d := by
  obtain ⟨e0, e1, e2⟩ := ix_1 t
  funext y
  have e : V m c (Pipeline.arrRef spec0 1) = up3 12 16384 96 k := (V_main_arg1 m c).trans hk
  unfold iblk
  rw [e]
  blk_simp [up3, e0, e1, e2]
  rw [Nat.mul_comm (t.val % 8) 2048]

include hv in
theorem blk_2 (t : Fin cfg0.N) : iblk m c 2 t = mat3 1 2048 128 fun _ r d => vO v (t.val / 64) (2048 * (t.val % 8) + r) d := by
  obtain ⟨e0, e1, e2⟩ := ix_2 t
  funext y
  have e : V m c (Pipeline.arrRef spec0 2) = mat3 12 16384 128 (vO v) := V_2_eq m c v hv
  unfold iblk
  rw [e]
  blk_simp [mat3, e0, e1, e2]
  rw [Nat.mul_comm (t.val % 8) 2048]

end Cert.ForwardIdeal.Fwd

end
-- ==== Proof.Fwd.Point.lean ====
/- One grid point of the attention's forward kernel on blocks of reals. -/
module

public import proofs.«01_k».proof.Defs
public import proofs.«01_k».proof.Proof.Fwd.Online
public import proofs.«01_k».proof.Proof.Gen.ForwardIdeal.Frame

@[expose] public section

set_option maxRecDepth 16384

noncomputable section

namespace Cert.ForwardIdeal.Fwd

open Cert.ForwardIdeal Cert.ForwardIdeal.Gen Cert.Attn Cert.Ffn Cert.Fwd Idealize.ShloMosaic Idealize.ShloMosaic.TcCoe

theorem max_coe (a b : ℝ) : max (a : EReal) (b : EReal) = ((max a b : ℝ) : EReal) :=
  (EReal.coe_strictMono.monotone.map_max).symm

/-- The reference number that a row begins with. -/
theorem exists_neg : ∃ r : ℝ, Ideal.ofBits .f32 0xF149F2CA#32 = (r : EReal) := by
  refine ⟨-(13234890 * 2 ^ 76), ?_⟩
  simp [Ideal.ofBits, Ideal.ieee]

variable (Q K : ℕ → ℕ → ℝ) (V : ℕ → ℕ → EReal) (M M' : ℕ → ℝ) (A : ℕ → ℕ → EReal)

/-- A score of the blocks. -/
def sB (i j : ℕ) : ℝ := ∑ d ∈ Finset.range 96, Q i d * K j d

theorem pay_8 : k0_pay8 (F := Ideal) (up3 1 2048 96 fun _ => Q) (up3 1 512 96 fun _ => K) = up2 2048 512 (sB Q K) := by
  funext i
  idx_vars i
  unfold k0_pay8 k0_pay7
  pointwise [up3, up2]
  exact sum_fin_mul 96 (fun d => Q i0 d) (fun d => K i1 d)

/-- The point's new reference numbers are real. -/
theorem exists_max (K0 K1 K2 K3 : ℕ → ℕ → ℝ) : ∃ M' : ℕ → ℝ, k0_pay12 (F := Ideal) (up3 1 2048 96 fun _ => Q) (up3 1 512 96 fun _ => K0)
    (up3 1 512 96 fun _ => K1) (up3 1 512 96 fun _ => K2) (up3 1 512 96 fun _ => K3) (up2 2048 1 fun i _ => M i) = up2 2048 1 fun i _ => M' i := by
  have h : ∀ i : ℕ, ∃ r : ℝ, max (M i : EReal) ((Finset.univ : Finset (Fin 512)).fold max (⊥ : EReal) fun j =>
      ((max (max (max (sB Q K0 i j.val) (sB Q K1 i j.val)) (sB Q K2 i j.val)) (sB Q K3 i j.val) : ℝ) : EReal)) = (r : EReal) := by
    intro i
    obtain ⟨r, hr⟩ := fold_max_real (Finset.univ : Finset (Fin 512)) ⟨0, Finset.mem_univ _⟩
      fun j => max (max (max (sB Q K0 i j.val) (sB Q K1 i j.val)) (sB Q K2 i j.val)) (sB Q K3 i j.val)
    exact ⟨_, by rw [hr, max_coe]⟩
  choose M' hM using h
  refine ⟨M', ?_⟩
  unfold k0_pay12
  rw [pay_8, show k0_pay9 (F := Ideal) (up3 1 2048 96 fun _ => Q) (up3 1 512 96 fun _ => K1) = _ from pay_8 Q K1,
    show k0_pay10 (F := Ideal) (up3 1 2048 96 fun _ => Q) (up3 1 512 96 fun _ => K2) = _ from pay_8 Q K2,
    show k0_pay11 (F := Ideal) (up3 1 2048 96 fun _ => Q) (up3 1 512 96 fun _ => K3) = _ from pay_8 Q K3]
  funext i
  idx_vars i
  pointwise [up2]
  simp only [max_coe]
  exact hM i0

/-- The point's new sums. -/
theorem pay_14 (S0 S1 S2 S3 : ℕ → ℕ → ℝ) (V0 V1 V2 V3 : ℕ → ℕ → EReal) :
    k0_pay14 (F := Ideal) (up2 2048 512 S1) (up2 2048 512 S2) (up2 2048 512 S3) (up2 2048 1 fun i _ => M' i)
      (up2 2048 512 fun i j => w (S0 i j) (M' i)) (mat3 1 512 128 fun _ => V0) (mat3 1 512 128 fun _ => V1) (mat3 1 512 128 fun _ => V2)
      (mat3 1 512 128 fun _ => V3) (up2 2048 1 fun i _ => M i) (mat 2048 128 A)
    = mat 2048 128 fun i d => (w (M i) (M' i) : EReal) * A i d
      + (part (S0 i) (fun j => V0 j d) (M' i) 512 + part (S1 i) (fun j => V1 j d) (M' i) 512
        + part (S2 i) (fun j => V2 j d) (M' i) 512 + part (S3 i) (fun j => V3 j d) (M' i) 512) := by
  funext i
  idx_vars i
  unfold k0_pay14
  pointwise [up2, mat3, mat]
  simp only [← EReal.coe_sub, Ideal.exp2_coe]
  simp only [part, ← sum_nat]
  rfl

theorem pay_13 (K0 K1 K2 K3 : ℕ → ℕ → ℝ) (h : k0_pay12 (F := Ideal) (up3 1 2048 96 fun _ => Q) (up3 1 512 96 fun _ => K0)
    (up3 1 512 96 fun _ => K1) (up3 1 512 96 fun _ => K2) (up3 1 512 96 fun _ => K3) (up2 2048 1 fun i _ => M i) = up2 2048 1 fun i _ => M' i) :
    k0_pay13 (F := Ideal) (up3 1 2048 96 fun _ => Q) (up3 1 512 96 fun _ => K0)
    (up3 1 512 96 fun _ => K1) (up3 1 512 96 fun _ => K2) (up3 1 512 96 fun _ => K3) (up2 2048 1 fun i _ => M i)
    = up2 2048 512 fun i j => w (sB Q K0 i j) (M' i) := by
  unfold k0_pay13
  rw [pay_8, h]
  funext i
  idx_vars i
  pointwise [up2]
  rw [← EReal.coe_sub]
  exact Ideal.exp2_coe _

/-- The row's output. -/
theorem pay_3 : k0_pay3 (F := Ideal) (mat 2048 128 A) = mat3 1 2048 64 fun _ i d => Ideal.div (A i d) (A i 64) := by
  funext i
  idx_vars i
  unfold k0_pay3 k0_pay2
  pointwise [mat, mat3]

/-- The row's log-sum. -/
theorem pay_4 : k0_pay4 (F := Ideal) (mat 2048 128 A) (up2 2048 1 fun i _ => M i)
    = mat3 1 2048 1 fun _ i _ => (M i : EReal) + Ideal.log (A i 64) * (((Real.log 2)⁻¹ : ℝ) : EReal) := by
  funext i
  idx_vars i
  unfold k0_pay4 k0_pay2
  pointwise [mat, mat3, up2]
  rfl

end Cert.ForwardIdeal.Fwd

end
-- ==== Proof.Fwd.Value.lean ====
/- What the attention's forward kernel returns on real queries and keys: over a row of scores it keeps the sums of the values
   by their weights relative to some number of the row. -/
module

public import proofs.«01_k».proof.Proof.Fwd.Arrays
public import proofs.«01_k».proof.Proof.Fwd.Point

@[expose] public section

set_option maxRecDepth 16384

noncomputable section

namespace Cert.ForwardIdeal.Fwd

open Cert.ForwardIdeal Cert.ForwardIdeal.Gen Cert.Attn Cert.Ffn Cert.Fwd Idealize.ShloMosaic Idealize.ShloMosaic.TcCoe Idealize.ShloMosaic.Tactic Idealize.SL.Sem

/-- A sum over 2048 keys, 512 at a time. -/
theorem part_chunks (s : ℕ → ℝ) (v : ℕ → EReal) (m : ℝ) :
    part (fun j => s (0 + j)) (fun j => v (0 + j)) m 512 + part (fun j => s (512 + j)) (fun j => v (512 + j)) m 512
      + part (fun j => s (1024 + j)) (fun j => v (1024 + j)) m 512 + part (fun j => s (1536 + j)) (fun j => v (1536 + j)) m 512
    = part s v m 2048 := by
  simp only [Nat.zero_add]
  rw [part_add s v m 512 512, part_add s v m 1024 512, part_add s v m 1536 512]

section
variable (Q K : ℕ → ℕ → ℝ) (V : ℕ → ℕ → EReal) (M : ℕ → ℝ) (A : ℕ → ℕ → EReal)

/-- One point: a new number for each row, and the rescaled sums with the new keys' share. -/
theorem point : ∃ M' : ℕ → ℝ,
    nextM (F := Ideal) (up3 1 2048 96 fun _ => Q) (up3 1 2048 96 fun _ => K) (up2 2048 1 fun i _ => M i) = up2 2048 1 (fun i _ => M' i)
    ∧ nextA (F := Ideal) (up3 1 2048 96 fun _ => Q) (up3 1 2048 96 fun _ => K) (mat3 1 2048 128 fun _ => V) (up2 2048 1 fun i _ => M i) (mat 2048 128 A)
      = mat 2048 128 fun i d => (w (M i) (M' i) : EReal) * A i d + part (sB Q K i) (fun j => V j d) (M' i) 2048 := by
  obtain ⟨M', h⟩ := exists_max Q M (fun j d => K (0 + j) d) (fun j d => K (512 + j) d) (fun j d => K (1024 + j) d) (fun j d => K (1536 + j) d)
  have hM : nextM (F := Ideal) (up3 1 2048 96 fun _ => Q) (up3 1 2048 96 fun _ => K) (up2 2048 1 fun i _ => M i) = up2 2048 1 (fun i _ => M' i) := by
    unfold nextM
    rw [kc_eq, kc_eq, kc_eq, kc_eq]
    exact h
  refine ⟨M', hM, ?_⟩
  unfold nextA
  rw [hM, kc_eq, kc_eq, kc_eq, kc_eq, vc_eq, vc_eq, vc_eq, vc_eq, pay_13 Q M M' _ _ _ _ h]
  unfold k0_pay9 k0_pay10 k0_pay11
  have e := fun K' => pay_8 Q K'
  unfold k0_pay8 at e
  rw [e, e, e, pay_14]
  congr 1
  funext i d
  exact congrArg _ (part_chunks (sB Q K i) (fun j => V j d) (M' i))
end

theorem pay_5 : ∃ r : ℝ, k0_pay5 (F := Ideal) = up2 2048 1 fun _ _ => r := by
  obtain ⟨r, hr⟩ := exists_neg
  refine ⟨r, ?_⟩
  funext i
  idx_vars i
  unfold k0_pay5
  pointwise [up2]
  exact hr

theorem pay_6 : k0_pay6 (F := Ideal) = mat 2048 128 fun _ _ => 0 := by
  funext i
  idx_vars i
  unfold k0_pay6
  pointwise [mat]

variable (m : (ℓ : Loc nD τ sig) → Buf (Elt Ideal) ℓ) (c : Dev nD) (q k : ℕ → ℕ → ℕ → ℝ) (v : ℕ → ℕ → ℕ → EReal)
  (hq : m (c, main_arg0) = up3 12 16384 96 q) (hk : m (c, main_arg1) = up3 12 16384 96 k) (hv : m (c, main_arg2) = mat3 12 16384 64 v)

/-- The sums of query row `r` of block `i` of head `n` over the first `x` keys, relative to `M`. -/
def acc (n i x : ℕ) (M : ℕ → ℝ) (r d : ℕ) : EReal := part (sc q k n (2048 * i + r)) (fun j => vO v n j d) (M r) x

theorem acc_next (n i x : ℕ) (M M' : ℕ → ℝ) (r d : ℕ) :
    (w (M r) (M' r) : EReal) * acc q k v n i (2048 * x) M r d
      + part (sB (fun r d => q n (2048 * i + r) d) (fun j d => k n (2048 * x + j) d) r) (fun j => vO v n (2048 * x + j) d) (M' r) 2048
    = acc q k v n i (2048 * (x + 1)) M' r d := by
  unfold acc
  rw [part_rescale, Nat.mul_add_one]
  exact part_add (sc q k n (2048 * i + r)) (fun j => vO v n j d) (M' r) (2048 * x) 2048

/-- The scratch arrays after a point. -/
def Holds (n : ℕ) (p : Vec Ideal S2048x1 .f32 × Vec Ideal S2048x128 .f32) : Prop :=
  ∃ M : ℕ → ℝ, p.1 = up2 2048 1 (fun r _ => M r) ∧ p.2 = mat 2048 128 (acc q k v (n / 64) (n / 8 % 8) (2048 * (n % 8 + 1)) M)

/-- A point's scratch arrays over what it found. -/
theorem step (n : ℕ) (hn : n < cfg0.N) (M : ℕ → ℝ) : ∃ M' : ℕ → ℝ,
    nextM (F := Ideal) (up3 1 2048 96 fun _ r d => q (n / 64) (2048 * (n / 8 % 8) + r) d) (up3 1 2048 96 fun _ j d => k (n / 64) (2048 * (n % 8) + j) d)
      (up2 2048 1 fun i _ => M i) = up2 2048 1 (fun i _ => M' i)
    ∧ nextA (F := Ideal) (up3 1 2048 96 fun _ r d => q (n / 64) (2048 * (n / 8 % 8) + r) d) (up3 1 2048 96 fun _ j d => k (n / 64) (2048 * (n % 8) + j) d)
      (mat3 1 2048 128 fun _ j d => vO v (n / 64) (2048 * (n % 8) + j) d)
      (up2 2048 1 fun i _ => M i) (mat 2048 128 (acc q k v (n / 64) (n / 8 % 8) (2048 * (n % 8)) M))
      = mat 2048 128 (acc q k v (n / 64) (n / 8 % 8) (2048 * (n % 8 + 1)) M') := by
  obtain ⟨M', h1, h2⟩ := point (fun r d => q (n / 64) (2048 * (n / 8 % 8) + r) d) (fun j d => k (n / 64) (2048 * (n % 8) + j) d)
    (fun j d => vO v (n / 64) (2048 * (n % 8) + j) d) M (acc q k v (n / 64) (n / 8 % 8) (2048 * (n % 8)) M)
  refine ⟨M', h1, h2.trans ?_⟩
  congr 1
  funext r d
  exact acc_next q k v (n / 64) (n / 8 % 8) (n % 8) M M' r d

include hq hk hv in
theorem sweep_first (n : ℕ) (hn : n < cfg0.N) (h0 : n % 8 = 0) : Holds q k v n (outsAt0 m c n hn).2.2 := by
  rw [outsAt0_A m c ⟨n, hn⟩ h0 (by dsimp only; omega), first_m, first_a, blk_0 m c q hq, blk_1 m c k hk, blk_2 m c v hv]
  obtain ⟨r, hr⟩ := pay_5
  have h6 : k0_pay6 (F := Ideal) = mat 2048 128 (acc q k v (n / 64) (n / 8 % 8) (2048 * (n % 8)) fun _ => r) := by
    rw [pay_6, h0]
    rfl
  rw [hr, h6]
  exact step q k v n hn fun _ => r

include hq hk hv in
theorem sweep_inner (n : ℕ) (hn : n + 1 < cfg0.N) (h0 : ¬(n + 1) % 8 = 0) (h1 : ¬(n + 1) % 8 = 7)
    (ih : Holds q k v n (outsAt0 m c n (Nat.lt_of_succ_lt hn)).2.2) : Holds q k v (n + 1) (outsAt0 m c (n + 1) hn).2.2 := by
  rw [outsAt0_B m c ⟨n + 1, hn⟩ h0 h1, inner_m, inner_a, blk_0 m c q hq, blk_1 m c k hk, blk_2 m c v hv]
  obtain ⟨M, e1, e2⟩ := ih
  show Holds q k v (n + 1) (nextM (F := Ideal) _ _ (outsAt0 m c n _).2.2.1, nextA (F := Ideal) _ _ _ (outsAt0 m c n _).2.2.1 (outsAt0 m c n _).2.2.2)
  rw [e1, e2, show n / 64 = (n + 1) / 64 by omega, show n / 8 % 8 = (n + 1) / 8 % 8 by omega, show n % 8 + 1 = (n + 1) % 8 by omega]
  exact step q k v (n + 1) hn M

include hq hk hv in
/-- What the scratch holds after a point that is not the last of its sweep. -/
theorem sweep (n : ℕ) (hn : n < cfg0.N) (hl : ¬n % 8 = 7) : Holds q k v n (outsAt0 m c n hn).2.2 := by
  induction n with
  | zero => exact sweep_first m c q k v hq hk hv 0 hn rfl
  | succ n ih =>
    by_cases h0 : (n + 1) % 8 = 0
    · exact sweep_first m c q k v hq hk hv (n + 1) hn h0
    · exact sweep_inner m c q k v hq hk hv n hn h0 hl (ih _ (by omega))

/-- The output. -/
def oE (n i d : ℕ) : EReal := ∑ j ∈ Finset.range 16384, (pN q k n i j : EReal) * v n j d

theorem acc_64 (n i r : ℕ) (M : ℕ → ℝ) : acc q k v n i (2048 * 8) M r 64 = ((w (lN q k n (2048 * i + r)) (M r) : ℝ) : EReal) :=
  part_one q k n (2048 * i + r) (M r)

theorem out_o (n i r d : ℕ) (hd : d < 64) (M : ℕ → ℝ) :
    Ideal.div (acc q k v n i (2048 * 8) M r d) (acc q k v n i (2048 * 8) M r 64) = oE q k v n (2048 * i + r) d := by
  rw [acc_64]
  unfold acc
  simp only [vO, if_pos hd]
  exact part_div q k n (2048 * i + r) (M r) fun j => v n j d

theorem out_l (n i r : ℕ) (M : ℕ → ℝ) :
    (M r : EReal) + Ideal.log (acc q k v n i (2048 * 8) M r 64) * (((Real.log 2)⁻¹ : ℝ) : EReal) = ((lN q k n (2048 * i + r) : ℝ) : EReal) := by
  rw [acc_64, log_real (w_pos _ _), ← EReal.coe_mul, ← EReal.coe_add, log_part]

include hq hk hv in
/-- What the last point of a sweep writes. -/
theorem written (n : ℕ) (hn : n + 1 < cfg0.N) (hl : (n + 1) % 8 = 7) :
    ∃ M : ℕ → ℝ, (outsAt0 m c (n + 1) hn).1 = mat3 1 2048 64 (fun _ r d => Ideal.div (acc q k v ((n + 1) / 64) ((n + 1) / 8 % 8) (2048 * 8) M r d)
        (acc q k v ((n + 1) / 64) ((n + 1) / 8 % 8) (2048 * 8) M r 64))
      ∧ (outsAt0 m c (n + 1) hn).2.1 = mat3 1 2048 1 (fun _ r _ => (M r : EReal)
        + Ideal.log (acc q k v ((n + 1) / 64) ((n + 1) / 8 % 8) (2048 * 8) M r 64) * (((Real.log 2)⁻¹ : ℝ) : EReal)) := by
  obtain ⟨M, e1, e2⟩ := sweep m c q k v hq hk hv n (by omega) (by omega)
  obtain ⟨M', h1, h2⟩ := step q k v (n + 1) hn M
  rw [show (n + 1) % 8 + 1 = 8 by omega] at h2
  refine ⟨M', ?_, ?_⟩
  · rw [outsAt0_C m c ⟨n + 1, hn⟩ (by dsimp only; omega) hl]
    dsimp only
    rw [last_o, blk_0 m c q hq, blk_1 m c k hk, blk_2 m c v hv]
    show k0_pay3 (F := Ideal) (nextA (F := Ideal) _ _ _ (outsAt0 m c n _).2.2.1 (outsAt0 m c n _).2.2.2) = _
    rw [e1, e2, show n / 64 = (n + 1) / 64 by omega, show n / 8 % 8 = (n + 1) / 8 % 8 by omega, show n % 8 + 1 = (n + 1) % 8 by omega]
    exact (congrArg (k0_pay3 (F := Ideal)) h2).trans (pay_3 _)
  · rw [outsAt0_C m c ⟨n + 1, hn⟩ (by dsimp only; omega) hl]
    dsimp only
    rw [last_l, blk_0 m c q hq, blk_1 m c k hk, blk_2 m c v hv]
    show k0_pay4 (F := Ideal) (nextA (F := Ideal) _ _ _ (outsAt0 m c n _).2.2.1 (outsAt0 m c n _).2.2.2) (nextM (F := Ideal) _ _ (outsAt0 m c n _).2.2.1) = _
    rw [e1, e2, show n / 64 = (n + 1) / 64 by omega, show n / 8 % 8 = (n + 1) / 8 % 8 by omega, show n % 8 + 1 = (n + 1) % 8 by omega]
    exact (congr (congrArg (k0_pay4 (F := Ideal)) h2) h1).trans (pay_4 _ _)

include hq hk hv in
/-- The output after the last point. -/
theorem final_3 : (dats m 0 c).arrAt 3 cfg0.N = mat3 12 16384 64 (oE q k v) := by
  refine (dats m 0 c).arrAt_eq_of_covers 3 _ (by decide +kernel) fun t hf y => ?_
  have ht : t.val % 8 = 7 := (flush0_3 t).1 hf
  obtain ⟨e0, e1, e2⟩ := ix_3 t
  obtain ⟨n, hn⟩ := t
  obtain ⟨n', rfl⟩ : ∃ n', n = n' + 1 := ⟨n - 1, by dsimp only at ht; omega⟩
  obtain ⟨M, hM, _⟩ := written m c q k v hq hk hv n' hn ht
  rw [after0_3, hM]
  blk_simp [mat3, e0, e1, e2]
  rw [Nat.mul_comm ((n' + 1) / 8 % 8) 2048]
  exact out_o q k v _ _ _ _ (y 2).isLt M

include hq hk hv in
/-- The row's log-sums after the last point. -/
theorem final_4 : (dats m 0 c).arrAt 4 cfg0.N = up3 12 16384 1 fun n i _ => lN q k n i := by
  refine (dats m 0 c).arrAt_eq_of_covers 4 _ (by decide +kernel) fun t hf y => ?_
  have ht : t.val % 8 = 7 := (flush0_4 t).1 hf
  obtain ⟨e0, e1, e2⟩ := ix_4 t
  obtain ⟨n, hn⟩ := t
  obtain ⟨n', rfl⟩ : ∃ n', n = n' + 1 := ⟨n - 1, by dsimp only at ht; omega⟩
  obtain ⟨M, _, hM⟩ := written m c q k v hq hk hv n' hn ht
  rw [after0_4, hM]
  blk_simp [mat3, up3, e0, e1, e2]
  rw [Nat.mul_comm ((n' + 1) / 8 % 8) 2048]
  exact out_l q k v _ _ _ M

/-- On real queries and keys the kernel returns the attention's output and its rows' log-sums. -/
theorem run (m : (ℓ : Loc nD τ sig) → Buf (Elt Ideal) ℓ) (ρ : Dev nD → PrngReg) (q k : Dev nD → ℕ → ℕ → ℕ → ℝ) (v : Dev nD → ℕ → ℕ → ℕ → EReal)
    (hq : ∀ c : Dev nD, m ((c.tc : Thread nD τ).loc main_arg0) = up3 12 16384 96 (q c))
    (hk : ∀ c : Dev nD, m ((c.tc : Thread nD τ).loc main_arg1) = up3 12 16384 96 (k c))
    (hv : ∀ c : Dev nD, m ((c.tc : Thread nD τ).loc main_arg2) = mat3 12 16384 64 (v c)) :
    θ_run (defs (F := Ideal)) (onTc (τ := τ) (main (F := Ideal))) ⟨m, fun _ => 0, ρ⟩ fun r => ∀ c : Dev nD,
      r.2.mem ((c.tc : Thread nD τ).loc main_v3_0) = mat3 12 16384 64 (oE (q c) (k c) (v c))
      ∧ r.2.mem ((c.tc : Thread nD τ).loc main_v3_1) = up3 12 16384 1 (fun n i _ => lN (q c) (k c) n i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨((H.1 c).1 3).trans (final_3 m c (q c) (k c) (v c) (hq c) (hk c) (hv c)),
      ((H.1 c).1 4).trans (final_4 m c (q c) (k c) (v c) (hq c) (hk c) (hv c)), H.2.1 c⟩)
    (θ_run_and (run_main m ρ) (frame m ρ))

end Cert.ForwardIdeal.Fwd

end
-- ==== Proof.Fwd.Claims.lean ====
/- The claims of the attention's forward call: frames, the named constant, and the equality of its results and the reference's
   wherever the queries and the keys are real. -/
module

public import proofs.«01_k».proof.Defs
public import proofs.«01_k».proof.Proof.Fwd.Value
public import proofs.«01_k».proof.Proof.Stages
public import proofs.«01_k».proof.Proof.Finite
public import proofs.«01_k».proof.Proof.Gen.Forward.Frame
public import proofs.«01_k».proof.Proof.Gen.ForwardRefIdeal.Run
public import proofs.«01_k».proof.Proof.Gen.Pre_finite_scores
public import Idealize.ShloMosaic.Lib.Quiescent

@[expose] public section

set_option maxRecDepth 16384

noncomputable section

namespace Cert.Fwd

open Cert.Attn Cert.ReferenceIdeal Cert.ReferenceIdeal.Gen Idealize.ShloMosaic Idealize.ShloMosaic.TcCoe

variable (q k : ℕ → ℕ → ℕ → ℝ) (v : ℕ → ℕ → ℕ → EReal)

/-- The exponentials of the reference's rows. -/
theorem ex_eq : exS (scS (up3 12 16384 96 q) (up3 12 16384 96 k)) (mbS (mxS (scS (up3 12 16384 96 q) (up3 12 16384 96 k))))
    = up3 12 16384 16384 (eN q k) := by
  rw [scS_eq, mxS_eq, mbS_eq, exS_eq]

theorem sm_eq : smS (up3 12 16384 16384 (eN q k)) = up2 12 16384 (zN q k) := smS_eq _

/-- The softmax's rows on any values. -/
theorem ou_eq : ouS (up3 12 16384 16384 (pN q k)) (mat3 12 16384 64 v) = mat3 12 16384 64 (Cert.ForwardIdeal.Fwd.oE q k v) := by
  funext i
  idx_vars i
  unfold ouS
  pointwise [up3, mat3]
  exact Cert.Ffn.sum_nat 16384 fun j => (pN q k i0 i1 j : EReal) * v i0 j i2

/-- The reference's output. -/
theorem ref_o : ouS (prS (exS (scS (up3 12 16384 96 q) (up3 12 16384 96 k)) (mbS (mxS (scS (up3 12 16384 96 q) (up3 12 16384 96 k)))))
      (smS (exS (scS (up3 12 16384 96 q) (up3 12 16384 96 k)) (mbS (mxS (scS (up3 12 16384 96 q) (up3 12 16384 96 k)))))))
      (mat3 12 16384 64 v) = mat3 12 16384 64 (Cert.ForwardIdeal.Fwd.oE q k v) := by
  rw [ex_eq, sm_eq, prS_eq, ou_eq]

/-- The rows' log-sums, as the reference forms them. -/
def llS (x y : FVec Ideal S12x16384x96 .bf16) : FVec Ideal S12x16384x1 .f32 :=
  Host.divf (addf (colS (mxS (scS x y))) (Host.log (colS (smS (exS (scS x y) (mxS (scS x y)))))))
    (broadcastInDim S12x16384x1 ![] bcast_S_S12x16384x1 ln2S)

/-- The reference's log-sums. -/
theorem ref_l : llS (up3 12 16384 96 q) (up3 12 16384 96 k) = up3 12 16384 1 fun n i _ => lN q k n i := by
  unfold llS
  rw [scS_eq, mxS_eq, exS_eq, sm_eq]
  funext i
  idx_vars i
  unfold colS
  pointwise [up2, up3]
  rw [ln2S_eq, log_real (zN_pos q k i0 i1), ← EReal.coe_add, div_real log_two_pos.ne']
  rfl

end Cert.Fwd

namespace Cert.Fwd

open Cert.Pre_finite_scores Cert.Attn Idealize.ShloMosaic

variable [Facts]
open Facts

/-- The precondition makes the queries and the keys arrays of reals. -/
theorem reals_of_finite_scores (x y : FVec Ideal S12x16384x96 .bf16) (z : FVec Ideal S12x16384x64 .bf16)
    (h : fn (F := Ideal) x y z = fun _ => 1#1) : (∃ f, x = up3 12 16384 96 f) ∧ (∃ f, y = up3 12 16384 96 f) := by
  have h := congrFun h (fun a => a.elim0)
  dsimp only [fn] at h
  obtain ⟨h1, h2⟩ := IntOp.andi_eq_one.1 h
  refine ⟨exists_up3 _ _ _ x fun i => real_of_abs_lt _ ?_, exists_up3 _ _ _ y fun i => real_of_abs_lt _ ?_⟩
  · exact Host.reduce_andi_all _ _ _ _ _ h1 i
  · exact Host.reduce_andi_all _ _ _ _ _ h2 i

end Cert.Fwd

namespace Cert.Proof.Forward

open Cert.Attn Cert.Fwd Idealize.ShloMosaic Idealize.SL.Sem

theorem frame_kernel : Cert.quiescent_Forward := fun m ρ _ => Cert.Forward.Gen.frame (F := Bits) m ρ

theorem frame_ideal : Cert.quiescent_ForwardIdeal := fun m ρ _ => Cert.ForwardIdeal.Gen.frame (F := Ideal) m ρ

theorem frame_ideal_finite : Cert.quiescent_ForwardIdeal_pre_finite_scores := fun m ρ _ => Cert.ForwardIdeal.Gen.frame (F := Ideal) m ρ

theorem frame_reference : Cert.quiescent_ForwardRefIdeal := fun m ρ _ =>
  (θ_run Cert.ForwardRefIdeal.defs _ _).mono
    (fun r h => ⟨fun c => (h c).2.2, sem_eq_zero_of_no_sems (by decide) r.2⟩)
    (Cert.ForwardRefIdeal.Value.run (F := Ideal) m ρ)

theorem frame_reference_finite : Cert.quiescent_ForwardRefIdeal_pre_finite_scores := fun m ρ _ => frame_reference m ρ trivial

theorem preserves : Cert.preserves_Forward_ForwardIdeal :=
  IdealRules.named_const.statement Cert.ForwardIdeal.κ "log2e" .f32 0x3FB8AA3B#32 (((Real.log 2)⁻¹ : ℝ) : EReal) rfl

/-- The call and the reference give the same output and log-sums wherever the queries and the keys are real. -/
theorem algebraic : Cert.algebraic_ForwardIdeal_ForwardRefIdeal_pre_finite_scores (hForwardIdeal := Cert.ForwardIdeal.Gen.facts)
    (hForwardRefIdeal := Cert.ForwardRefIdeal.Gen.facts) (hPre_finite_scores := Cert.Pre_finite_scores.Gen.facts) := by
  intro m s m' s' hpre heq
  have H := fun c => reals_of_finite_scores _ _ _ (hpre c)
  choose q hq using fun c => (H c).1
  choose k hk using fun c => (H c).2
  choose v hv using fun c : Dev Cert.ForwardIdeal.nD => exists_mat3 (a := 12) (b := 16384) (c := 64) (m ((c.tc : Thread Cert.ForwardIdeal.nD Cert.ForwardIdeal.τ).loc Cert.ForwardIdeal.main_arg2))
  refine ⟨_, _, Cert.ForwardIdeal.Fwd.run m s q k v hq hk hv,
    (θ_run Cert.ForwardRefIdeal.defs _ _).mono (fun r H c => ⟨(H c).1.trans ?_, (H c).2.1.trans ?_, (H c).2.2⟩)
      (Cert.ForwardRefIdeal.Value.run (F := Ideal) m' s')⟩
  · rw [(heq c).1.trans (hq c), (heq c).2.1.trans (hk c), (heq c).2.2.trans (hv c)]
    exact ref_o (q c) (k c) (v c)
  · rw [(heq c).1.trans (hq c), (heq c).2.1.trans (hk c)]
    exact ref_l (q c) (k c)

end Cert.Proof.Forward

end
-- ==== Proof.Mem.Row.lean ====
/- A row of the memory attention over the reals: the softmax of 256 scores, its log-sum, and the sums by weights relative to some
   other number that the kernel keeps. -/
module

public import proofs.«01_k».proof.Proof.Fwd.Online

@[expose] public section

noncomputable section

namespace Cert.Mem

open Cert.Attn Cert.Fwd Idealize.ShloMosaic

variable (q k : ℕ → ℕ → ℕ → ℝ) (v : ℕ → ℕ → ℕ → EReal) (n i : ℕ)

/-- The product of query `i` and memory key `j` of head `n`. -/
def dotM (j : ℕ) : ℝ := ∑ d ∈ Finset.range 64, q n i d * k n j d

/-- The score in natural units. -/
def sM (j : ℕ) : ℝ := dotM q k n i j * (1 / 8)

/-- The score in base two, as the kernel scales it. -/
def bM (j : ℕ) : ℝ := dotM q k n i j * (1 / 8 * (Real.log 2)⁻¹)

theorem bM_mul (j : ℕ) : Real.log 2 * bM q k n i j = sM q k n i j := by
  have h2 := log_two_pos.ne'
  unfold bM sM
  field_simp

/-- The largest score of a row. -/
def topM : ℝ :=
  ((Finset.univ : Finset (Fin 256)).fold max (⊥ : EReal) (fun j => ((sM q k n i j.val : ℝ) : EReal))).toReal

theorem topM_eq : (Finset.univ : Finset (Fin 256)).fold max (⊥ : EReal) (fun j => ((sM q k n i j.val : ℝ) : EReal))
    = ((topM q k n i : ℝ) : EReal) := by
  obtain ⟨r, hr⟩ := fold_max_real (Finset.univ : Finset (Fin 256)) ⟨0, Finset.mem_univ _⟩ (fun j => sM q k n i j.val)
  unfold topM
  rw [hr, EReal.toReal_coe]

/-- The exponential of a score less the row's largest. -/
def eM (j : ℕ) : ℝ := Real.exp (sM q k n i j - topM q k n i)

/-- The row's sum of exponentials. -/
def zM : ℝ := ∑ j ∈ Finset.range 256, eM q k n i j

/-- The row's attention weights. -/
def pM (j : ℕ) : ℝ := eM q k n i j / zM q k n i

/-- The row's log-sum of exponentials, in units of `log 2`. -/
def lM : ℝ := (topM q k n i + Real.log (zM q k n i)) / Real.log 2

theorem zM_pos : 0 < zM q k n i := Finset.sum_pos (fun _ _ => Real.exp_pos _) ⟨0, by simp⟩

/-- The weight relative to the log-sum is the softmax's. -/
theorem weight_eq (j : ℕ) : w (bM q k n i j) (lM q k n i) = pM q k n i j := by
  show (2 : ℝ) ^ (bM q k n i j - lM q k n i) = _
  have h2 := log_two_pos.ne'
  rw [Real.rpow_def_of_pos (by norm_num), mul_sub, bM_mul]
  have e : sM q k n i j - Real.log 2 * lM q k n i = (sM q k n i j - topM q k n i) - Real.log (zM q k n i) := by
    unfold lM; field_simp; ring
  rw [e, Real.exp_sub, Real.exp_log (zM_pos q k n i)]
  rfl

theorem sum_pM : ∑ j ∈ Finset.range 256, pM q k n i j = 1 := by
  unfold pM
  rw [← Finset.sum_div]
  exact div_self (zM_pos q k n i).ne'

/-- A weight relative to `m` is the softmax's times a number of the row. -/
theorem w_eq (m : ℝ) (j : ℕ) : w (bM q k n i j) m = w (lM q k n i) m * pM q k n i j := by
  rw [← weight_eq]
  exact (w_mul _ _ _).symm

theorem part_one (m : ℝ) : part (bM q k n i) (fun _ => 1) m 256 = ((w (lM q k n i) m : ℝ) : EReal) := by
  have e : ∑ j ∈ Finset.range 256, w (bM q k n i j) m = w (lM q k n i) m := by
    simp only [w_eq]
    rw [← Finset.mul_sum, sum_pM, mul_one]
  unfold part
  simp only [mul_one]
  rw [← coe_sum, e]

/-- The output. -/
def outM (d : ℕ) : EReal := ∑ j ∈ Finset.range 256, (pM q k n i j : EReal) * v n j d

/-- The quotient is the softmax's sum. -/
theorem part_div (m : ℝ) (d : ℕ) :
    Ideal.div (part (bM q k n i) (fun j => v n j d) m 256) ((w (lM q k n i) m : ℝ) : EReal) = outM q k v n i d := by
  have h := w_pos (lM q k n i) m
  rw [Ideal.div_coe h.ne', mul_comm, part, coe_mul_sum _ _ (by positivity)]
  refine Finset.sum_congr rfl fun j _ => ?_
  rw [← mul_assoc, ← EReal.coe_mul, w_eq]
  congr 2
  field_simp

/-- The log-sum does not depend on the number. -/
theorem log_part (m : ℝ) : m + Real.log (w (lM q k n i) m) * (Real.log 2)⁻¹ = lM q k n i := by
  have h2 := log_two_pos.ne'
  show m + Real.log ((2 : ℝ) ^ (_ - m)) * _ = _
  rw [Real.log_rpow (by norm_num)]
  field_simp
  ring

end Cert.Mem

end
-- ==== Proof.Mem.Forward.lean ====
/- What the memory attention's forward kernel returns on real queries and keys. Every grid point holds all keys: it begins with a
   number far below the scores, takes the sums by weights relative to the row's largest, and divides. -/
module

public import proofs.«01_k».proof.Defs
public import proofs.«01_k».proof.Proof.Mem.Row
public import proofs.«01_k».proof.Proof.Fwd.Point
public import proofs.«01_k».proof.Proof.Gen.MemoryIdeal.Frame
public import Idealize.ShloMosaic.Lib.Ring
public import Idealize.ShloMosaic.Lib.Tactic
public import Idealize.ShloMosaic.Lib.Pipeline.ValueKit

@[expose] public section

set_option maxRecDepth 16384

noncomputable section

namespace Cert.MemoryIdeal.Mem

open Cert.MemoryIdeal Cert.MemoryIdeal.Gen Cert.Attn Cert.Ffn Idealize.ShloMosaic Idealize.ShloMosaic.TcCoe Idealize.ShloMosaic.Tactic Idealize.SL.Sem
open Cert.Fwd (mat3 w part)
open Cert.Mem (dotM bM lM outM)

section
variable {F : FTy → Type} [FloatOps F] [Named F]
variable (c : Dev nD) (i : grid0.Coords) (a3 : Memref sig .tc .vmem S1x4096x64 .bf16) (h3 : a3.IsWhole)
  (a4 : Memref sig .tc .vmem S1x256x64 .bf16) (h4 : a4.IsWhole) (a5 : Memref sig .tc .vmem S1x256x128 .bf16) (h5 : a5.IsWhole)
  (a6 : Memref sig .tc .vmem S1x4096x64 .bf16) (h6 : a6.IsWhole) (a7 : Memref sig .tc .vmem S1x4096x1 .f32) (h7 : a7.IsWhole)
  (a8 : Memref sig .tc .vmem S4096x1 .f32) (h8 : a8.IsWhole) (a9 : Memref sig .tc .vmem S4096x128 .f32) (h9 : a9.IsWhole)
  (x0 : Vec F S1x4096x64 .bf16) (x1 : Vec F S1x256x64 .bf16) (x2 : Vec F S1x256x128 .bf16)

theorem zero3 : (![0, 0, 0] : Fin 3 → ℕ) = fun _ => 0 := by decide

/-- The output block of a point. -/
theorem block_o (hc0 : cond0_0 i) (hc1 : cond0_1 i) : out0_A_3 c i a3 h3 a4 h4 a5 h5 a6 h6 a7 h7 a8 h8 a9 h9 hc0 hc1 x0 x1 x2
    = k0_pay3 (k0_pay9 x0 x1 k0_pay5 x2 k0_pay5 k0_pay6) := by
  unfold out0_A_3
  rw [View.read_writes_eq_canon _ _ _ (cover0_A_3 c i a3 h3 a4 h4 a5 h5 a6 h6 a7 h7 a8 h8 a9 h9 hc0 hc1 x0 x1 x2)]
  unfold kernelRun0_A
  dsimp only
  sl_unfold_words
  simp only [View.canon_unit_zero (S := S1x4096x64) zero3, View.canon_cons_unit_zero (S := S1x4096x64) zero3, View.readCov_unit_zero (S := S4096x128) _ zero2,
    View.readCov_unit_zero (S := S4096x1) _ zero2]
  simp only [View.readAt_eq_ld, h3.read_unread, h4.read_unread, h5.read_unread, View.ld_unit_zero (S := S1x4096x64) zero3,
    View.ld_unit_zero (S := S1x256x64) zero3, View.ld_unit_zero (S := S1x256x128) zero3,
    View.ld_unit_zero (S := S4096x1) zero2, View.ld_unit_zero (S := S4096x128) zero2]
  rw [View.readCov_cons_unit_lit' (S := S4096x128) _ _ _ _ _ (by decide) (by decide)]

/-- The block of log-sums of a point. -/
theorem block_l (hc0 : cond0_0 i) (hc1 : cond0_1 i) : out0_A_4 c i a3 h3 a4 h4 a5 h5 a6 h6 a7 h7 a8 h8 a9 h9 hc0 hc1 x0 x1 x2
    = k0_pay4 (k0_pay9 x0 x1 k0_pay5 x2 k0_pay5 k0_pay6) (k0_pay8 x0 x1 k0_pay5) := by
  unfold out0_A_4
  rw [View.read_writes_eq_canon _ _ _ (cover0_A_4 c i a3 h3 a4 h4 a5 h5 a6 h6 a7 h7 a8 h8 a9 h9 hc0 hc1 x0 x1 x2)]
  unfold kernelRun0_A
  dsimp only
  sl_unfold_words
  simp only [View.canon_unit_zero (S := S1x4096x1) zero3, View.canon_cons_unit_zero (S := S1x4096x1) zero3, View.readCov_unit_zero (S := S4096x128) _ zero2,
    View.readCov_unit_zero (S := S4096x1) _ zero2]
  simp only [View.readAt_eq_ld, h3.read_unread, h4.read_unread, h5.read_unread, View.ld_unit_zero (S := S1x4096x64) zero3,
    View.ld_unit_zero (S := S1x256x64) zero3, View.ld_unit_zero (S := S1x256x128) zero3,
    View.ld_unit_zero (S := S4096x1) zero2, View.ld_unit_zero (S := S4096x128) zero2]
  rw [View.readCov_cons_unit_lit' (S := S4096x128) _ _ _ _ _ (by decide) (by decide),
    View.readCov_cons_unit_lit' (S := S4096x1) _ _ _ _ _ (by decide) (by decide)]
  unfold k0_pay1
  rw [shapeCast_self]

end

section
variable (Q K : ℕ → ℕ → ℝ) (V : ℕ → ℕ → EReal) (M M' : ℕ → ℝ) (A : ℕ → ℕ → EReal)

/-- A scaled score of the blocks. -/
def sB (i j : ℕ) : ℝ := (∑ d ∈ Finset.range 64, Q i d * K j d) * (1 / 8 * (Real.log 2)⁻¹)

theorem pay_7 : k0_pay7 (F := Ideal) (up3 1 4096 64 fun _ => Q) (up3 1 256 64 fun _ => K) = up2 4096 256 (sB Q K) := by
  funext i
  idx_vars i
  unfold k0_pay7
  pointwise [up3, up2]
  rw [sum_fin_mul 64 (fun d => Q i0 d) (fun d => K i1 d)]
  exact (EReal.coe_mul _ _).symm

/-- The row's new number is real. -/
theorem exists_max : ∃ M' : ℕ → ℝ, k0_pay8 (F := Ideal) (up3 1 4096 64 fun _ => Q) (up3 1 256 64 fun _ => K) (up2 4096 1 fun i _ => M i)
    = up2 4096 1 fun i _ => M' i := by
  have h : ∀ i : ℕ, ∃ r : ℝ, max (M i : EReal) ((Finset.univ : Finset (Fin 256)).fold max (⊥ : EReal) fun j =>
      ((sB Q K i j.val : ℝ) : EReal)) = (r : EReal) := by
    intro i
    obtain ⟨r, hr⟩ := fold_max_real (Finset.univ : Finset (Fin 256)) ⟨0, Finset.mem_univ _⟩ fun j => sB Q K i j.val
    exact ⟨_, by rw [hr, Cert.ForwardIdeal.Fwd.max_coe]⟩
  choose M' hM using h
  refine ⟨M', ?_⟩
  unfold k0_pay8
  rw [pay_7]
  funext i
  idx_vars i
  pointwise [up2]
  exact hM i0

/-- The sums by weights relative to the new number. -/
theorem pay_9 (h : k0_pay8 (F := Ideal) (up3 1 4096 64 fun _ => Q) (up3 1 256 64 fun _ => K) (up2 4096 1 fun i _ => M i)
      = up2 4096 1 fun i _ => M' i) :
    k0_pay9 (F := Ideal) (up3 1 4096 64 fun _ => Q) (up3 1 256 64 fun _ => K) (up2 4096 1 fun i _ => M i) (mat3 1 256 128 fun _ => V)
      (up2 4096 1 fun i _ => M i) (mat 4096 128 fun _ _ => 0)
    = mat 4096 128 fun i d => part (sB Q K i) (fun j => V j d) (M' i) 256 := by
  unfold k0_pay9
  rw [pay_7, h]
  funext i
  idx_vars i
  pointwise [up2, mat3, mat]
  simp only [← EReal.coe_sub, Ideal.exp2_coe, mul_zero, zero_add]
  simp only [part, ← sum_nat]
  rfl

/-- The row's output. -/
theorem pay_3 : k0_pay3 (F := Ideal) (mat 4096 128 A) = mat3 1 4096 64 fun _ i d => Ideal.div (A i d) (A i 64) := by
  funext i
  idx_vars i
  unfold k0_pay3 k0_pay2
  pointwise [mat, mat3]

/-- The row's log-sum. -/
theorem pay_4 : k0_pay4 (F := Ideal) (mat 4096 128 A) (up2 4096 1 fun i _ => M i)
    = mat3 1 4096 1 fun _ i _ => (M i : EReal) + Ideal.log (A i 64) * (((Real.log 2)⁻¹ : ℝ) : EReal) := by
  funext i
  idx_vars i
  unfold k0_pay4 k0_pay2
  pointwise [mat, mat3, up2]
  rfl

end

theorem pay_5 : ∃ r : ℝ, k0_pay5 (F := Ideal) = up2 4096 1 fun _ _ => r := by
  obtain ⟨r, hr⟩ := Cert.ForwardIdeal.Fwd.exists_neg
  refine ⟨r, ?_⟩
  funext i
  idx_vars i
  unfold k0_pay5
  pointwise [up2]
  exact hr

theorem pay_6 : k0_pay6 (F := Ideal) = mat 4096 128 fun _ _ => 0 := by
  funext i
  idx_vars i
  unfold k0_pay6
  pointwise [mat]

theorem ix_0 : ∀ t : Fin cfg0.N, win0_0.index t 0 = t.val / 4 ∧ win0_0.index t 1 = t.val % 4 ∧ win0_0.index t 2 = 0 := by decide +kernel
theorem ix_1 : ∀ t : Fin cfg0.N, win0_1.index t 0 = t.val / 4 ∧ win0_1.index t 1 = 0 ∧ win0_1.index t 2 = 0 := by decide +kernel
theorem ix_2 : ∀ t : Fin cfg0.N, win0_2.index t 0 = t.val / 4 ∧ win0_2.index t 1 = 0 ∧ win0_2.index t 2 = 0 := by decide +kernel
theorem ix_3 : ∀ t : Fin cfg0.N, win0_3.index t 0 = t.val / 4 ∧ win0_3.index t 1 = t.val % 4 ∧ win0_3.index t 2 = 0 := by decide +kernel
theorem ix_4 : ∀ t : Fin cfg0.N, win0_4.index t 0 = t.val / 4 ∧ win0_4.index t 1 = t.val % 4 ∧ win0_4.index t 2 = 0 := by decide +kernel

/-- The values with a column of ones and columns of zeros. -/
def vO (v : ℕ → ℕ → ℕ → EReal) (n k d : ℕ) : EReal := if d < 64 then v n k d else if d = 64 then 1 else 0

variable (m : (ℓ : Loc nD τ sig) → Buf (Elt Ideal) ℓ) (c : Dev nD) (q k : ℕ → ℕ → ℕ → ℝ) (v : ℕ → ℕ → ℕ → EReal)
  (hq : m (c, main_arg0) = up3 4 16384 64 q) (hk : m (c, main_arg1) = up3 4 256 64 k) (hv : m (c, main_arg2) = mat3 4 256 64 v)

theorem V_2 : V m c main_v2 = concatenate S4x256x128 2 [⟨S4x256x64, m (c, main_arg2)⟩,
      ⟨S4x256x1, (broadcastInDim S4x256x1 ![] bcast_S_S4x256x1 (constant S_ .bf16 0x3F80#16 : FVec Ideal S_ .bf16) : FVec Ideal S4x256x1 .bf16)⟩,
      ⟨S4x256x63, (broadcastInDim S4x256x63 ![] bcast_S_S4x256x63 (constant S_ .bf16 0x0000#16 : FVec Ideal S_ .bf16) : FVec Ideal S4x256x63 .bf16)⟩]
      concatenates_S4x256x64_S4x256x1_S4x256x63_S4x256x128_d2 := by
  unfold V
  after_results_simp <;> rfl

include hv in
theorem V_2_eq : V m c main_v2 = mat3 4 256 128 (vO v) := by
  rw [V_2, hv]
  funext i
  idx_vars i
  pointwise [mat3]
  unfold vO
  split_ifs <;> first | rfl | omega

include hq in
theorem blk_0 (t : Fin cfg0.N) : iblk m c 0 t = up3 1 4096 64 fun _ r d => q (t.val / 4) (4096 * (t.val % 4) + r) d := by
  obtain ⟨e0, e1, e2⟩ := ix_0 t
  funext y
  have e : V m c (Pipeline.arrRef spec0 0) = up3 4 16384 64 q := (V_main_arg0 m c).trans hq
  unfold iblk
  rw [e]
  blk_simp [up3, e0, e1, e2]
  rw [Nat.mul_comm (t.val % 4) 4096]

include hk in
theorem blk_1 (t : Fin cfg0.N) : iblk m c 1 t = up3 1 256 64 fun _ j d => k (t.val / 4) j d := by
  obtain ⟨e0, e1, e2⟩ := ix_1 t
  funext y
  have e : V m c (Pipeline.arrRef spec0 1) = up3 4 256 64 k := (V_main_arg1 m c).trans hk
  unfold iblk
  rw [e]
  blk_simp [up3, e0, e1, e2]

include hv in
theorem blk_2 (t : Fin cfg0.N) : iblk m c 2 t = mat3 1 256 128 fun _ j d => vO v (t.val / 4) j d := by
  obtain ⟨e0, e1, e2⟩ := ix_2 t
  funext y
  have e : V m c (Pipeline.arrRef spec0 2) = mat3 4 256 128 (vO v) := V_2_eq m c v hv
  unfold iblk
  rw [e]
  blk_simp [mat3, e0, e1, e2]

/-- The sums of a query row, relative to `r`. -/
def acc (n i : ℕ) (r : ℝ) (d : ℕ) : EReal := part (bM q k n i) (fun j => vO v n j d) r 256

theorem acc_64 (n i : ℕ) (r : ℝ) : acc q k v n i r 64 = ((w (lM q k n i) r : ℝ) : EReal) :=
  Cert.Mem.part_one q k n i r

theorem out_o (n i d : ℕ) (hd : d < 64) (r : ℝ) : Ideal.div (acc q k v n i r d) (acc q k v n i r 64) = outM q k v n i d := by
  rw [acc_64]
  unfold acc
  simp only [vO, if_pos hd]
  exact Cert.Mem.part_div q k v n i r d

theorem out_l (n i : ℕ) (r : ℝ) :
    (r : EReal) + Ideal.log (acc q k v n i r 64) * (((Real.log 2)⁻¹ : ℝ) : EReal) = ((lM q k n i : ℝ) : EReal) := by
  rw [acc_64, log_real (Cert.Fwd.w_pos _ _), ← EReal.coe_mul, ← EReal.coe_add, Cert.Mem.log_part]

include hq hk hv in
/-- What a point writes. -/
theorem written (t : Fin cfg0.N) :
    (outsAt0 m c t).1 = mat3 1 4096 64 (fun _ r d => if d < 64 then outM q k v (t.val / 4) (4096 * (t.val % 4) + r) d else 0)
      ∧ (outsAt0 m c t).2 = mat3 1 4096 1 (fun _ r _ => ((lM q k (t.val / 4) (4096 * (t.val % 4) + r) : ℝ) : EReal)) := by
  obtain ⟨z, hz⟩ := pay_5
  obtain ⟨M', hM⟩ := exists_max (fun r d => q (t.val / 4) (4096 * (t.val % 4) + r) d) (fun j d => k (t.val / 4) j d) fun _ => z
  have hA := pay_9 (fun r d => q (t.val / 4) (4096 * (t.val % 4) + r) d) (fun j d => k (t.val / 4) j d) (fun j d => vO v (t.val / 4) j d)
    (fun _ => z) M' hM
  unfold outsAt0
  constructor
  · dsimp only
    rw [block_o, blk_0 m c q hq, blk_1 m c k hk, blk_2 m c v hv, hz, pay_6, hA, pay_3]
    funext y
    have hy : (y 2).val < 64 := (y 2).isLt
    show Ideal.div _ _ = ite _ _ _
    rw [if_pos hy]
    exact out_o q k v (t.val / 4) (4096 * (t.val % 4) + (y 1).val) (y 2).val hy (M' (y 1).val)
  · dsimp only
    rw [block_l, blk_0 m c q hq, blk_1 m c k hk, blk_2 m c v hv, hz, pay_6, hA, hM, pay_4]
    funext y
    exact out_l q k v (t.val / 4) (4096 * (t.val % 4) + (y 1).val) (M' (y 1).val)

include hq hk hv in
/-- The output after the last point. -/
theorem final_3 : (dats m 0 c).arrAt 3 cfg0.N = mat3 4 16384 64 (outM q k v) := by
  refine (dats m 0 c).arrAt_eq_of_covers 3 _ (by decide +kernel) fun t hf y => ?_
  obtain ⟨e0, e1, e2⟩ := ix_3 t
  rw [after0_3, (written m c q k v hq hk hv t).1]
  blk_simp [mat3, e0, e1, e2]
  rw [Nat.mul_comm (t.val % 4) 4096]
  exact if_pos (y 2).isLt

include hq hk hv in
/-- The row's log-sums after the last point. -/
theorem final_4 : (dats m 0 c).arrAt 4 cfg0.N = up3 4 16384 1 fun n i _ => lM q k n i := by
  refine (dats m 0 c).arrAt_eq_of_covers 4 _ (by decide +kernel) fun t hf y => ?_
  obtain ⟨e0, e1, e2⟩ := ix_4 t
  rw [after0_4, (written m c q k v hq hk hv t).2]
  blk_simp [mat3, up3, e0, e1, e2]
  rw [Nat.mul_comm (t.val % 4) 4096]

/-- On real queries and keys the kernel returns the attention's output and its rows' log-sums. -/
theorem run (m : (ℓ : Loc nD τ sig) → Buf (Elt Ideal) ℓ) (ρ : Dev nD → PrngReg) (q k : Dev nD → ℕ → ℕ → ℕ → ℝ) (v : Dev nD → ℕ → ℕ → ℕ → EReal)
    (hq : ∀ c : Dev nD, m ((c.tc : Thread nD τ).loc main_arg0) = up3 4 16384 64 (q c))
    (hk : ∀ c : Dev nD, m ((c.tc : Thread nD τ).loc main_arg1) = up3 4 256 64 (k c))
    (hv : ∀ c : Dev nD, m ((c.tc : Thread nD τ).loc main_arg2) = mat3 4 256 64 (v c)) :
    θ_run (defs (F := Ideal)) (onTc (τ := τ) (main (F := Ideal))) ⟨m, fun _ => 0, ρ⟩ fun r => ∀ c : Dev nD,
      r.2.mem ((c.tc : Thread nD τ).loc main_v3_0) = mat3 4 16384 64 (outM (q c) (k c) (v c))
      ∧ r.2.mem ((c.tc : Thread nD τ).loc main_v3_1) = up3 4 16384 1 (fun n i _ => lM (q c) (k c) n i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨((H.1 c).1 3).trans (final_3 m c (q c) (k c) (v c) (hq c) (hk c) (hv c)),
      ((H.1 c).1 4).trans (final_4 m c (q c) (k c) (v c) (hq c) (hk c) (hv c)), H.2.1 c⟩)
    (θ_run_and (run_main m ρ) (frame m ρ))

end Cert.MemoryIdeal.Mem

end
-- ==== Proof.Mem.Claims.lean ====
/- The claims of the memory attention's forward call: frames, the named constants, and the equality of its results and the
   reference's wherever the queries and the keys are real. -/
module

public import proofs.«01_k».proof.Defs
public import proofs.«01_k».proof.Proof.Mem.Forward
public import proofs.«01_k».proof.Proof.Finite
public import proofs.«01_k».proof.Proof.Stages
public import proofs.«01_k».proof.Proof.Gen.Memory.Frame
public import proofs.«01_k».proof.Proof.Gen.MemoryRefIdeal.Run
public import proofs.«01_k».proof.Proof.Gen.Pre_finite_memory
public import Idealize.ShloMosaic.Lib.Quiescent
public import Idealize.ShloMosaic.Lib.IdealHost

@[expose] public section

set_option maxRecDepth 16384

noncomputable section

namespace Cert.Mem

open Cert.Attn Cert.MemoryRefIdeal Cert.MemoryRefIdeal.Gen Idealize.ShloMosaic Idealize.ShloMosaic.TcCoe
open Cert.Fwd (mat3)

/-! ## The reference in stages -/

/-- The scores. -/
def scR (x : FVec Ideal S4x16384x64 .bf16) (y : FVec Ideal S4x256x64 .bf16) : FVec Ideal S4x16384x256 .f32 :=
  mulf (extf .f32 (truncf .bf16 (Host.dotGeneral dot_S4x16384x64_S4x256x64_S4x16384x256_2_2_1_1_0_0 none x y : FVec Ideal S4x16384x256 .f32) bitsLt_bf16_f32) bitsLt_bf16_f32)
    (broadcastInDim S4x16384x256 ![] bcast_S_S4x16384x256 (constant S_ .f32 0x3E000000#32 : FVec Ideal S_ .f32))

/-- Each row's largest entry. -/
def mxR (s : FVec Ideal S4x16384x256 .f32) : FVec Ideal S4x16384 .f32 :=
  Host.reduce FloatOps.maximumf s (constant S_ .f32 0xFF800000#32) reducesTo_S4x16384x256_S4x16384_d2 h_S_

/-- The same, not below `-∞`. -/
def mbR (m : FVec Ideal S4x16384 .f32) : FVec Ideal S4x16384 .f32 :=
  maximumf (broadcastInDim S4x16384 ![] bcast_S_S4x16384 (constant S_ .f32 0xFF800000#32)) m

/-- A number per row, as an array of one lane. -/
def colR (m : FVec Ideal S4x16384 .f32) : FVec Ideal S4x16384x1 .f32 :=
  broadcastInDim S4x16384x1 ![0, 1] bcast_S4x16384_S4x16384x1_0_1 m

/-- A number per row, over the row. -/
def rowR (m : FVec Ideal S4x16384x1 .f32) : FVec Ideal S4x16384x256 .f32 :=
  broadcastInDim S4x16384x256 ![0, 1, 2] bcast_S4x16384x1_S4x16384x256_0_1_2 m

/-- Exponentials of entries less their row's number. -/
def exR (s : FVec Ideal S4x16384x256 .f32) (m : FVec Ideal S4x16384 .f32) : FVec Ideal S4x16384x256 .f32 :=
  Host.exp (subf s (rowR (colR m)))

/-- Each row's sum. -/
def smR (e : FVec Ideal S4x16384x256 .f32) : FVec Ideal S4x16384 .f32 :=
  Host.reduceAdd e (constant S_ .f32 0x00000000#32) reducesTo_S4x16384x256_S4x16384_d2 h_S_

/-- Entries over their row's number. -/
def prR (e : FVec Ideal S4x16384x256 .f32) (z : FVec Ideal S4x16384 .f32) : FVec Ideal S4x16384x256 .bf16 :=
  truncf .bf16 (Host.divf e (rowR (colR z))) bitsLt_bf16_f32

/-- The attention's output. -/
def ouR (p : FVec Ideal S4x16384x256 .bf16) (v : FVec Ideal S4x256x64 .bf16) : FVec Ideal S4x16384x64 .bf16 :=
  truncf .bf16 (Host.dotGeneral dot_S4x16384x256_S4x256x64_S4x16384x64_2_1_1_2_0_0 none p v : FVec Ideal S4x16384x64 .f32) bitsLt_bf16_f32

/-- The rows' log-sums. -/
def llR (s : FVec Ideal S4x16384x256 .f32) : FVec Ideal S4x16384x1 .f32 :=
  Host.divf (addf (colR (mxR s)) (Host.log (colR (smR (exR s (mxR s))))))
    (broadcastInDim S4x16384x1 ![] bcast_S_S4x16384x1 (Host.log (constant S_ .f32 0x40000000#32) : FVec Ideal S_ .f32))

/-! ## What the stages make of reals -/

theorem ofBits_eighth : (Ideal.ofBits .f32 0x3E000000#32 : EReal) = ((1 / 8 : ℝ) : EReal) := by
  simp [Ideal.ofBits, Ideal.ieee]
  rw [← EReal.coe_mul]
  norm_num

variable (q k : ℕ → ℕ → ℕ → ℝ) (v : ℕ → ℕ → ℕ → EReal)

theorem scR_eq : scR (up3 4 16384 64 q) (up3 4 256 64 k) = up3 4 16384 256 (sM q k) := by
  funext i
  idx_vars i
  unfold scR
  pointwise [up3]
  rw [ofBits_eighth, sum_fin_mul 64 (fun x => q i0 i1 x) (fun x => k i0 i2 x), ← EReal.coe_mul]
  rfl

theorem mxR_eq : mxR (up3 4 16384 256 (sM q k)) = up2 4 16384 (topM q k) := by
  funext i
  idx_vars i
  unfold mxR
  pointwise [up3, up2]
  rw [ofBits_bot]
  exact topM_eq q k i0 i1

theorem mbR_eq (f : ℕ → ℕ → ℝ) : mbR (up2 4 16384 f) = up2 4 16384 f := by
  funext i
  idx_vars i
  unfold mbR
  pointwise [up2]
  rw [ofBits_bot]
  exact max_eq_right bot_le

theorem exR_eq : exR (up3 4 16384 256 (sM q k)) (up2 4 16384 (topM q k)) = up3 4 16384 256 (eM q k) := by
  funext i
  idx_vars i
  unfold exR rowR colR
  pointwise [up3, up2]
  rw [← EReal.coe_sub, Ideal.exp_coe]
  rfl

theorem smR_eq : smR (up3 4 16384 256 (eM q k)) = up2 4 16384 (zM q k) := by
  funext i
  idx_vars i
  unfold smR
  pointwise [up3, up2]
  exact sum_fin 256 fun x => eM q k i0 i1 x

theorem prR_eq : prR (up3 4 16384 256 (eM q k)) (up2 4 16384 (zM q k)) = up3 4 16384 256 (pM q k) := by
  funext i
  idx_vars i
  unfold prR rowR colR
  pointwise [up3, up2]
  exact div_real (zM_pos q k i0 i1).ne' _

theorem ouR_eq : ouR (up3 4 16384 256 (pM q k)) (mat3 4 256 64 v) = mat3 4 16384 64 (outM q k v) := by
  funext i
  idx_vars i
  unfold ouR
  pointwise [up3, mat3]
  exact Cert.Ffn.sum_nat 256 fun j => (pM q k i0 i1 j : EReal) * v i0 j i2

/-- The reference's output. -/
def ooR (s : FVec Ideal S4x16384x256 .f32) (z : FVec Ideal S4x256x64 .bf16) : FVec Ideal S4x16384x64 .bf16 :=
  ouR (prR (exR s (mbR (mxR s))) (smR (exR s (mbR (mxR s))))) z

theorem ref_o : ooR (scR (up3 4 16384 64 q) (up3 4 256 64 k)) (mat3 4 256 64 v) = mat3 4 16384 64 (outM q k v) := by
  unfold ooR
  rw [scR_eq, mxR_eq, mbR_eq, exR_eq, smR_eq, prR_eq, ouR_eq]

theorem ref_l : llR (scR (up3 4 16384 64 q) (up3 4 256 64 k)) = up3 4 16384 1 fun n i _ => lM q k n i := by
  unfold llR
  rw [scR_eq, mxR_eq, exR_eq, smR_eq]
  funext i
  idx_vars i
  unfold colR
  pointwise [up2, up3]
  rw [ofBits_two, log_real (zM_pos q k i0 i1), log_real (by norm_num), ← EReal.coe_add, div_real log_two_pos.ne']
  rfl

end Cert.Mem

namespace Cert.Mem

open Cert.Pre_finite_memory Cert.Attn Idealize.ShloMosaic

variable [Facts]
open Facts

/-- The precondition makes the queries and the keys arrays of reals. -/
theorem reals_of_finite (x : FVec Ideal S4x16384x64 .bf16) (y z : FVec Ideal S4x256x64 .bf16)
    (h : fn (F := Ideal) x y z = fun _ => 1#1) : (∃ f, x = up3 4 16384 64 f) ∧ (∃ f, y = up3 4 256 64 f) := by
  have h := congrFun h (fun a => a.elim0)
  dsimp only [fn] at h
  obtain ⟨h1, h2⟩ := IntOp.andi_eq_one.1 h
  refine ⟨exists_up3 _ _ _ x fun i => real_of_abs_lt _ ?_, exists_up3 _ _ _ y fun i => real_of_abs_lt _ ?_⟩
  · exact Host.reduce_andi_all _ _ _ _ _ h1 i
  · exact Host.reduce_andi_all _ _ _ _ _ h2 i

end Cert.Mem

namespace Cert.Proof.Memory

open Cert.Attn Cert.Mem Idealize.ShloMosaic Idealize.SL.Sem

theorem frame_kernel : Cert.quiescent_Memory := fun m ρ _ => Cert.Memory.Gen.frame (F := Bits) m ρ

theorem frame_ideal : Cert.quiescent_MemoryIdeal := fun m ρ _ => Cert.MemoryIdeal.Gen.frame (F := Ideal) m ρ

theorem frame_ideal_finite : Cert.quiescent_MemoryIdeal_pre_finite_memory := fun m ρ _ => Cert.MemoryIdeal.Gen.frame (F := Ideal) m ρ

theorem frame_reference : Cert.quiescent_MemoryRefIdeal := fun m ρ _ =>
  (θ_run Cert.MemoryRefIdeal.defs _ _).mono
    (fun r h => ⟨fun c => (h c).2.2, sem_eq_zero_of_no_sems (by decide) r.2⟩)
    (Cert.MemoryRefIdeal.Value.run (F := Ideal) m ρ)

theorem frame_reference_finite : Cert.quiescent_MemoryRefIdeal_pre_finite_memory := fun m ρ _ => frame_reference m ρ trivial

theorem preserves : Cert.preserves_Memory_MemoryIdeal :=
  ⟨IdealRules.named_const.statement Cert.MemoryIdeal.κ "qk_mult" .f32 0x3E38AA3B#32 (((1 / 8) * (Real.log 2)⁻¹ : ℝ) : EReal) rfl,
    IdealRules.named_const.statement Cert.MemoryIdeal.κ "log2e" .f32 0x3FB8AA3B#32 (((Real.log 2)⁻¹ : ℝ) : EReal) rfl⟩

/-- The call and the reference give the same output and log-sums wherever the queries and the keys are real. -/
theorem algebraic : Cert.algebraic_MemoryIdeal_MemoryRefIdeal_pre_finite_memory (hMemoryIdeal := Cert.MemoryIdeal.Gen.facts)
    (hMemoryRefIdeal := Cert.MemoryRefIdeal.Gen.facts) (hPre_finite_memory := Cert.Pre_finite_memory.Gen.facts) := by
  intro m s m' s' hpre heq
  have H := fun c => reals_of_finite _ _ _ (hpre c)
  choose q hq using fun c => (H c).1
  choose k hk using fun c => (H c).2
  choose v hv using fun c : Dev Cert.MemoryIdeal.nD => Cert.Fwd.exists_mat3 (a := 4) (b := 256) (c := 64) (m ((c.tc : Thread Cert.MemoryIdeal.nD Cert.MemoryIdeal.τ).loc Cert.MemoryIdeal.main_arg2))
  refine ⟨_, _, Cert.MemoryIdeal.Mem.run m s q k v hq hk hv,
    (θ_run Cert.MemoryRefIdeal.defs _ _).mono (fun r H c => ⟨(H c).1.trans ?_, (H c).2.1.trans ?_, (H c).2.2⟩)
      (Cert.MemoryRefIdeal.Value.run (F := Ideal) m' s')⟩
  · rw [(heq c).1.trans (hq c), (heq c).2.1.trans (hk c), (heq c).2.2.trans (hv c)]
    exact ref_o (q c) (k c) (v c)
  · rw [(heq c).1.trans (hq c), (heq c).2.1.trans (hk c)]
    exact ref_l (q c) (k c)

end Cert.Proof.Memory

end
-- ==== Proof.Ffn.DownWeight.lean ====
/- The gradient of a down product in its weight. -/
module

public import proofs.«01_k».proof.Defs
public import proofs.«01_k».proof.Proof.Ffn.Mat
public import proofs.«01_k».proof.Proof.Gen.DownWeight.Frame
public import proofs.«01_k».proof.Proof.Gen.DownWeightIdeal.Frame
public import proofs.«01_k».proof.Proof.Gen.DownWeightRefIdeal.Run
public import Idealize.ShloMosaic.Lib.Quiescent

@[expose] public section

set_option maxRecDepth 16384

noncomputable section

namespace Cert.DownWeightIdeal.Ffn

open Cert.DownWeightIdeal Cert.DownWeightIdeal.Gen Cert.Ffn Idealize.ShloMosaic Idealize.ShloMosaic.TcCoe Idealize.SL.Sem
open Idealize.ShloMosaic.Tactic

section
variable {F : FTy → Type} [FloatOps F]

/-- The first point stores its product. -/
theorem first (c : Dev nD) (i : grid0.Coords) (a3 : Memref sig .tc .vmem S1024x2816 .bf16) (h3 : a3.IsWhole)
    (a4 : Memref sig .tc .vmem S1024x1024 .f32) (h4 : a4.IsWhole) (a5 : Memref sig .tc .vmem S2816x1024 .bf16) (h5 : a5.IsWhole)
    (a6 : Memref sig .tc .vmem S2816x1024 .f32) (h6 : a6.IsWhole)
    (hc0 : cond0_0 i) (hc1 : ¬cond0_1 i) (hc2 : ¬cond0_2 i) (x0 : Vec F S1024x2816 .bf16) (x1 : Vec F S1024x1024 .f32) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S1024x2816) zero2, View.ld_unit_zero (S := S1024x1024) zero2]

/-- A later point adds its product. -/
theorem middle (c : Dev nD) (i : grid0.Coords) (a3 : Memref sig .tc .vmem S1024x2816 .bf16) (h3 : a3.IsWhole)
    (a4 : Memref sig .tc .vmem S1024x1024 .f32) (h4 : a4.IsWhole) (a5 : Memref sig .tc .vmem S2816x1024 .bf16) (h5 : a5.IsWhole)
    (a6 : Memref sig .tc .vmem S2816x1024 .f32) (h6 : a6.IsWhole)
    (hc0 : ¬cond0_0 i) (hc1 : cond0_1 i) (hc2 : ¬cond0_2 i) (x0 : Vec F S1024x2816 .bf16) (x1 : Vec F S1024x1024 .f32) (s : Vec F S2816x1024 .f32) :
    sout0_B_0 c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero zero2]
  simp only [View.readAt_eq_ld, h3.read_unread, h4.read_unread, h6.read_unread, View.ld_unit_zero (S := S1024x2816) zero2,
    View.ld_unit_zero (S := S1024x1024) zero2, View.ld_unit_zero (S := S2816x1024) zero2]

/-- The last point writes the sum out. -/
theorem last (c : Dev nD) (i : grid0.Coords) (a3 : Memref sig .tc .vmem S1024x2816 .bf16) (h3 : a3.IsWhole)
    (a4 : Memref sig .tc .vmem S1024x1024 .f32) (h4 : a4.IsWhole) (a5 : Memref sig .tc .vmem S2816x1024 .bf16) (h5 : a5.IsWhole)
    (a6 : Memref sig .tc .vmem S2816x1024 .f32) (h6 : a6.IsWhole)
    (hc0 : ¬cond0_0 i) (hc1 : cond0_1 i) (hc2 : cond0_2 i) (x0 : Vec F S1024x2816 .bf16) (x1 : Vec F S1024x1024 .f32) (s : Vec F S2816x1024 .f32) :
    out0_C_2 c i a3 h3 a4 h4 a5 h5 a6 h6 hc0 hc1 hc2 x0 x1 s = k0_pay4 (k0_pay3 x0 x1 s) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero zero2, View.readCov_unit_zero (S := S2816x1024) _ zero2]
  simp only [View.readAt_eq_ld, h3.read_unread, h4.read_unread, h6.read_unread, View.ld_unit_zero (S := S1024x2816) zero2,
    View.ld_unit_zero (S := S1024x1024) zero2, View.ld_unit_zero (S := S2816x1024) zero2]

end

theorem ix_0 : ∀ t : Fin cfg0.N, win0_0.index t 0 = t.val ∧ win0_0.index t 1 = 0 := by decide +kernel
theorem ix_1 : ∀ t : Fin cfg0.N, win0_1.index t 0 = t.val ∧ win0_1.index t 1 = 0 := by decide +kernel
theorem ix_2 : ∀ t : Fin cfg0.N, win0_2.index t 0 = 0 ∧ win0_2.index t 1 = 0 := by decide +kernel

/-- The product of two blocks along their rows. -/
theorem pay_2 (f g : ℕ → ℕ → EReal) : k0_pay2 (F := Ideal) (mat 1024 2816 f) (mat 1024 1024 g) = mat 2816 1024 (dotN 1024 (tr f) g) := by
  funext i
  idx_vars i
  unfold k0_pay2 k0_pay1
  pointwise [mat]
  exact sum_nat 1024 fun k => f k i0 * g k i1

theorem pay_3 (f g s : ℕ → ℕ → EReal) : k0_pay3 (F := Ideal) (mat 1024 2816 f) (mat 1024 1024 g) (mat 2816 1024 s)
    = mat 2816 1024 fun i j => s i j + dotN 1024 (tr f) g i j := by
  funext i
  idx_vars i
  unfold k0_pay3 k0_pay1
  pointwise [mat]
  rw [sum_nat 1024 fun k => f k i0 * g k i1]
  rfl

theorem pay_4 (s : ℕ → ℕ → EReal) : k0_pay4 (F := Ideal) (mat 2816 1024 s) = mat 2816 1024 s := by
  funext i
  idx_vars i
  unfold k0_pay4
  pointwise [mat]

variable (m : (ℓ : Loc nD τ sig) → Buf (Elt Ideal) ℓ) (c : Dev nD) (u g : ℕ → ℕ → EReal)
  (hu : m (c, main_arg0) = mat 16384 2816 u) (hg : m (c, main_arg2) = mat 16384 1024 g)

include hu in
theorem blk_0 (t : Fin cfg0.N) : iblk m c 0 t = mat 1024 2816 fun k r => u (1024 * t.val + k) r := by
  obtain ⟨e0, e1⟩ := ix_0 t
  funext y
  have e : V m c (Pipeline.arrRef spec0 0) = mat 16384 2816 u := (V_main_arg0 m c).trans hu
  unfold iblk
  rw [e]
  blk_simp [mat, e0, e1]
  rw [Nat.mul_comm t.val 1024]

include hg in
theorem blk_1 (t : Fin cfg0.N) : iblk m c 1 t = mat 1024 1024 fun k r => g (1024 * t.val + k) r := by
  obtain ⟨e0, e1⟩ := ix_1 t
  funext y
  have e : V m c (Pipeline.arrRef spec0 1) = mat 16384 1024 g := (V_main_arg2 m c).trans hg
  unfold iblk
  rw [e]
  blk_simp [mat, e0, e1]
  rw [Nat.mul_comm t.val 1024]

/-- A further block of rows added to the product of the rows before it. -/
theorem dot_add (n i j : ℕ) : dotN (1024 * n) (tr u) g i j
    + dotN 1024 (tr fun k r => u (1024 * n + k) r) (fun k r => g (1024 * n + k) r) i j = dotN (1024 * (n + 1)) (tr u) g i j := by
  rw [Nat.mul_add_one]
  exact (Finset.sum_range_add (fun k => u k i * g k j) (1024 * n) 1024).symm

include hu hg in
/-- What the accumulator holds after a point that is not the last. -/
theorem sweep (n : ℕ) (hn : n < cfg0.N) (hl : ¬n % 16 = 15) : (outsAt0 m c n hn).2 = mat 2816 1024 (dotN (1024 * (n + 1)) (tr u) g) := by
  have hN : cfg0.N = 16 := N_0
  induction n with
  | zero =>
    rw [outsAt0_A m c ⟨0, hn⟩ rfl (by dsimp only; omega) (by dsimp only; omega), first, blk_0 m c u hu, blk_1 m c g hg, pay_2]
    simp only [Nat.mul_zero, Nat.zero_add, Nat.mul_one]
  | succ n ih =>
    rw [outsAt0_B m c ⟨n + 1, hn⟩ (by dsimp only; omega) (by dsimp only; omega) hl, middle, blk_0 m c u hu, blk_1 m c g hg]
    have e := ih (by omega) (by omega)
    show k0_pay3 (F := Ideal) _ _ (outsAt0 m c n _).2 = _
    rw [e, pay_3]
    congr 1
    funext i j
    exact dot_add u g (n + 1) i j

include hu hg in
/-- What the last point writes. -/
theorem written (n : ℕ) (hn : n + 1 < cfg0.N) (hl : (n + 1) % 16 = 15) : (outsAt0 m c (n + 1) hn).1 = mat 2816 1024 (dotN (1024 * (n + 2)) (tr u) g) := by
  have hN : cfg0.N = 16 := N_0
  rw [outsAt0_C m c ⟨n + 1, hn⟩ (by dsimp only; omega) (by dsimp only; omega) hl, last, blk_0 m c u hu, blk_1 m c g hg]
  have e := sweep m c u g hu hg n (by omega) (by omega)
  show k0_pay4 (F := Ideal) (k0_pay3 (F := Ideal) _ _ (outsAt0 m c n _).2) = _
  rw [e, pay_3, pay_4]
  congr 1
  funext i j
  exact dot_add u g (n + 1) i j

include hu hg in
/-- The array of results after the last point. -/
theorem final_2 : (dats m 0 c).arrAt 2 cfg0.N = mat 2816 1024 (dotN 16384 (tr u) g) := by
  refine (dats m 0 c).arrAt_eq_of_covers 2 _ (by decide +kernel) fun t hf y => ?_
  have ht : t.val % 16 = 15 := (flush0_2 t).1 hf
  obtain ⟨e0, e1⟩ := ix_2 t
  obtain ⟨n, hn⟩ := t
  have hN : n < 16 := lt_of_lt_of_eq hn N_0
  obtain rfl : n = 14 + 1 := by dsimp only at ht; omega
  rw [after0_2, written m c u g hu hg 14 hn ht]
  blk_simp [mat, e0, e1]

theorem run (m : (ℓ : Loc nD τ sig) → Buf (Elt Ideal) ℓ) (ρ : Dev nD → PrngReg) (u g : Dev nD → ℕ → ℕ → EReal)
    (hu : ∀ c : Dev nD, m ((c.tc : Thread nD τ).loc main_arg0) = mat 16384 2816 (u c))
    (hg : ∀ c : Dev nD, m ((c.tc : Thread nD τ).loc main_arg2) = mat 16384 1024 (g c)) :
    θ_run (defs (F := Ideal)) (onTc (τ := τ) (main (F := Ideal))) ⟨m, fun _ => 0, ρ⟩ fun r => ∀ c : Dev nD,
      r.2.mem ((c.tc : Thread nD τ).loc main_v0) = mat 2816 1024 (dotN 16384 (tr (u c)) (g c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨((H.1 c).1 2).trans (final_2 m c (u c) (g c) (hu c) (hg c)), H.2.1 c⟩)
    (θ_run_and (run_main m ρ) (frame m ρ))

end Cert.DownWeightIdeal.Ffn

namespace Cert.DownWeightRefIdeal.Ffn

open Cert.DownWeightRefIdeal Cert.DownWeightRefIdeal.Gen Cert.Ffn Idealize.ShloMosaic Idealize.ShloMosaic.TcCoe Idealize.SL.Sem

/-- The reference's value. -/
theorem value (u g : ℕ → ℕ → EReal) :
    truncf .bf16 (transpose S2816x1024 [1, 0] (Host.dotGeneral (φ₁ := .f32) (φ₂ := .bf16) dot_S16384x1024_S16384x2816_S1024x2816_0_0_1_1_n_n none
      (extf .f32 (truncf .bf16 (mat 16384 1024 g : FVec Ideal S16384x1024 .f32) bitsLt_bf16_f32) bitsLt_bf16_f32)
      (mat 16384 2816 u : FVec Ideal S16384x2816 .bf16) : FVec Ideal S1024x2816 .f32) transposes_S1024x2816_S2816x1024_1_0) bitsLt_bf16_f32 = mat 2816 1024 (dotN 16384 (tr u) g) := by
  funext i
  idx_vars i
  pointwise [mat]
  rw [sum_nat 16384 fun k => g k i1 * u k i0]
  exact Finset.sum_congr rfl fun k _ => mul_comm _ _

end Cert.DownWeightRefIdeal.Ffn

namespace Cert.Proof.DownWeight

open Cert.Ffn Idealize.ShloMosaic Idealize.SL.Sem

theorem frame_kernel : Cert.quiescent_DownWeight := fun m ρ _ => Cert.DownWeight.Gen.frame (F := Bits) m ρ

theorem frame_ideal : Cert.quiescent_DownWeightIdeal := fun m ρ _ => Cert.DownWeightIdeal.Gen.frame (F := Ideal) m ρ

theorem frame_reference : Cert.quiescent_DownWeightRefIdeal := fun m ρ _ =>
  (θ_run Cert.DownWeightRefIdeal.defs _ _).mono
    (fun r h => ⟨fun c => (h c).2, sem_eq_zero_of_no_sems (by decide) r.2⟩)
    (Cert.DownWeightRefIdeal.Value.run (F := Ideal) m ρ)

theorem preserves : Cert.preserves_DownWeight_DownWeightIdeal := trivial

/-- The call and the reference give the same result, on all arguments. -/
theorem algebraic : Cert.algebraic_DownWeightIdeal_DownWeightRefIdeal (hDownWeightIdeal := Cert.DownWeightIdeal.Gen.facts)
    (hDownWeightRefIdeal := Cert.DownWeightRefIdeal.Gen.facts) := by
  intro m s m' s' _ heq
  choose u hu using fun c : Dev Cert.DownWeightIdeal.nD => exists_mat (a := 16384) (b := 2816) (m ((c.tc : Thread Cert.DownWeightIdeal.nD Cert.DownWeightIdeal.τ).loc Cert.DownWeightIdeal.main_arg0))
  choose g hg using fun c : Dev Cert.DownWeightIdeal.nD => exists_mat (a := 16384) (b := 1024) (m ((c.tc : Thread Cert.DownWeightIdeal.nD Cert.DownWeightIdeal.τ).loc Cert.DownWeightIdeal.main_arg2))
  refine ⟨_, Cert.DownWeightIdeal.Ffn.run m s u g hu hg,
    (θ_run Cert.DownWeightRefIdeal.defs _ _).mono (fun r H c => ⟨(H c).1.trans ?_, (H c).2⟩)
      (Cert.DownWeightRefIdeal.Value.run (F := Ideal) m' s')⟩
  rw [(heq c).1.trans (hu c), (heq c).2.2.trans (hg c)]
  exact Cert.DownWeightRefIdeal.Ffn.value (u c) (g c)

end Cert.Proof.DownWeight

end
-- ==== Proof.Ffn.BOutForward.lean ====
/- The product of the forward pass with the output weight of the dilated attention. -/
module

public import proofs.«01_k».proof.Defs
public import proofs.«01_k».proof.Proof.Ffn.Mat
public import proofs.«01_k».proof.Proof.Gen.BOutForward.Frame
public import proofs.«01_k».proof.Proof.Gen.BOutForwardIdeal.Frame
public import proofs.«01_k».proof.Proof.Gen.BOutForwardRefIdeal.Run
public import Idealize.ShloMosaic.Lib.Quiescent

@[expose] public section

set_option maxRecDepth 16384

noncomputable section

namespace Cert.BOutForwardIdeal.Ffn

open Cert.BOutForwardIdeal Cert.BOutForwardIdeal.Gen Cert.Ffn Idealize.ShloMosaic Idealize.ShloMosaic.TcCoe Idealize.SL.Sem

theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

/-- The body's product of two blocks. -/
theorem pay_1 (f g : ℕ → ℕ → EReal) : k0_pay1 (F := Ideal) (mat 512 768 f) (mat 768 1024 g) = mat 512 1024 (dotN 768 f g) := by
  funext i
  idx_vars i
  unfold k0_pay1
  pointwise [mat]
  exact sum_nat 768 fun k => f i0 k * g k i1

theorem out_2 (f g : ℕ → ℕ → EReal) : out0_2 (F := Ideal) (mat 512 768 f) (mat 768 1024 g) = mat 512 1024 (dotN 768 f g) := by
  unfold out0_2
  rw [View.canon_unit_zero zero2, View.ld_unit_zero zero2, View.ld_unit_zero zero2, pay_1]

variable (m : (ℓ : Loc nD τ sig) → Buf (Elt Ideal) ℓ) (c : Dev nD) (u w : ℕ → ℕ → EReal)
  (hu : m (c, main_arg0) = mat 16384 768 u) (hw : m (c, main_arg1) = mat 768 1024 w)

include hw in
/-- The weight as the call takes it. -/
theorem V_0 : V m c main_v0 = mat 768 1024 w := by
  have e : V m c main_v0 = (truncf .bf16 (m (c, main_arg1) : FVec Ideal S768x1024 .f32) bitsLt_bf16_f32 : FVec Ideal S768x1024 .bf16) := by
    unfold V
    after_results_simp <;> rfl
  rw [e, hw]
  funext i
  idx_vars i
  pointwise [mat]

include hu in
theorem blk_0 (t : Fin cfg0.N) : iblk m c 0 t = mat 512 768 fun r k => u (512 * t.val + r) k := by
  obtain ⟨e0, e1⟩ := ix_0 t
  funext y
  have e : V m c (Pipeline.arrRef spec0 0) = mat 16384 768 u := (V_main_arg0 m c).trans hu
  unfold iblk
  rw [e]
  blk_simp [mat, e0, e1]
  rw [Nat.mul_comm t.val 512]

include hw in
theorem blk_1 (t : Fin cfg0.N) : iblk m c 1 t = mat 768 1024 w := by
  obtain ⟨e0, e1⟩ := ix_1 t
  funext y
  have e : V m c (Pipeline.arrRef spec0 1) = mat 768 1024 w := V_0 m c w hw
  unfold iblk
  rw [e]
  blk_simp [mat, e0, e1]

include hu hw in
/-- The array of results after the last block. -/
theorem final_2 : (dats m 0 c).arrAt 2 cfg0.N = mat 16384 1024 (dotN 768 u w) := by
  refine (dats m 0 c).arrAt_eq_of_covers 2 _ (by decide +kernel) fun t hf y => ?_
  obtain ⟨e0, e1⟩ := ix_2 t
  rw [after0_2, blk_0 m c u hu, blk_1 m c w hw, out_2]
  blk_simp [mat, e0, e1]
  rw [Nat.mul_comm t.val 512]
  rfl

theorem run (m : (ℓ : Loc nD τ sig) → Buf (Elt Ideal) ℓ) (ρ : Dev nD → PrngReg) (u w : Dev nD → ℕ → ℕ → EReal)
    (hu : ∀ c : Dev nD, m ((c.tc : Thread nD τ).loc main_arg0) = mat 16384 768 (u c))
    (hw : ∀ c : Dev nD, m ((c.tc : Thread nD τ).loc main_arg1) = mat 768 1024 (w c)) :
    θ_run (defs (F := Ideal)) (onTc (τ := τ) (main (F := Ideal))) ⟨m, fun _ => 0, ρ⟩ fun r => ∀ c : Dev nD,
      r.2.mem ((c.tc : Thread nD τ).loc main_v1) = mat 16384 1024 (dotN 768 (u c) (w c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r H c => ⟨((H.1 c).1 2).trans (final_2 m c (u c) (w c) (hu c) (hw c)), H.2.1 c⟩)
    (θ_run_and (run_main m ρ) (frame m ρ))

end Cert.BOutForwardIdeal.Ffn

namespace Cert.BOutForwardRefIdeal.Ffn

open Cert.BOutForwardRefIdeal Cert.BOutForwardRefIdeal.Gen Cert.Ffn Idealize.ShloMosaic Idealize.ShloMosaic.TcCoe Idealize.SL.Sem

/-- The reference's value. -/
theorem value (u w : ℕ → ℕ → EReal) :
    (Host.dotGeneral (φ₁ := .bf16) (φ₂ := .f32) dot_S16384x768_S768x1024_S16384x1024_1_0_0_1_n_n none (mat 16384 768 u : FVec Ideal S16384x768 .bf16)
      (mat 768 1024 w : FVec Ideal S768x1024 .f32) : FVec Ideal S16384x1024 .f32) = mat 16384 1024 (dotN 768 u w) := by
  funext i
  idx_vars i
  pointwise [mat]
  exact sum_nat 768 fun k => u i0 k * w k i1

end Cert.BOutForwardRefIdeal.Ffn

namespace Cert.Proof.BOutForward

open Cert.Ffn Idealize.ShloMosaic Idealize.SL.Sem

theorem frame_kernel : Cert.quiescent_BOutForward := fun m ρ _ => Cert.BOutForward.Gen.frame (F := Bits) m ρ

theorem frame_ideal : Cert.quiescent_BOutForwardIdeal := fun m ρ _ => Cert.BOutForwardIdeal.Gen.frame (F := Ideal) m ρ

theorem frame_reference : Cert.quiescent_BOutForwardRefIdeal := fun m ρ _ =>
  (θ_run Cert.BOutForwardRefIdeal.defs _ _).mono
    (fun r h => ⟨fun c => (h c).2, sem_eq_zero_of_no_sems (by decide) r.2⟩)
    (Cert.BOutForwardRefIdeal.Value.run (F := Ideal) m ρ)

theorem preserves : Cert.preserves_BOutForward_BOutForwardIdeal := trivial

/-- The call and the reference give the same result, on all arguments. -/
theorem algebraic : Cert.algebraic_BOutForwardIdeal_BOutForwardRefIdeal (hBOutForwardIdeal := Cert.BOutForwardIdeal.Gen.facts)
    (hBOutForwardRefIdeal := Cert.BOutForwardRefIdeal.Gen.facts) := by
  intro m g m' g' _ heq
  choose u hu using fun c : Dev Cert.BOutForwardIdeal.nD => exists_mat (a := 16384) (b := 768) (m ((c.tc : Thread Cert.BOutForwardIdeal.nD Cert.BOutForwardIdeal.τ).loc Cert.BOutForwardIdeal.main_arg0))
  choose w hw using fun c : Dev Cert.BOutForwardIdeal.nD => exists_mat (a := 768) (b := 1024) (m ((c.tc : Thread Cert.BOutForwardIdeal.nD Cert.BOutForwardIdeal.τ).loc Cert.BOutForwardIdeal.main_arg1))
  refine ⟨_, Cert.BOutForwardIdeal.Ffn.run m g u w hu hw,
    (θ_run Cert.BOutForwardRefIdeal.defs _ _).mono (fun r H c => ⟨(H c).1.trans ?_, (H c).2⟩)
      (Cert.BOutForwardRefIdeal.Value.run (F := Ideal) m' g')⟩
  rw [(heq c).1.trans (hu c), (heq c).2.trans (hw c)]
  exact Cert.BOutForwardRefIdeal.Ffn.value (u c) (w c)

end Cert.Proof.BOutForward

end
-- ==== Proof.Ffn.BOutRows.lean ====
/- The gradient of the product with the output weight of the dilated attention in its rows. -/
module

public import proofs.«01_k».proof.Defs
public import proofs.«01_k».proof.Proof.Ffn.Mat
public import proofs.«01_k».proof.Proof.Gen.BOutRows.Frame
public import proofs.«01_k».proof.Proof.Gen.BOutRowsIdeal.Frame
public import proofs.«01_k».proof.Proof.Gen.BOutRowsRefIdeal.Run
public import Idealize.ShloMosaic.Lib.Quiescent

@[expose] public section

set_option maxRecDepth 16384

noncomputable section

namespace Cert.BOutRowsIdeal.Ffn

open Cert.BOutRowsIdeal Cert.BOutRowsIdeal.Gen Cert.Ffn Idealize.ShloMosaic Idealize.ShloMosaic.TcCoe Idealize.SL.Sem

theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

/-- The body's product of two blocks. -/
theorem pay_1 (f g : ℕ → ℕ → EReal) : k0_pay1 (F := Ideal) (mat 512 1024 f) (mat 768 1024 g) = mat 512 768 (dotN 1024 f (tr g)) := by
  funext i
  idx_vars i
  unfold k0_pay1
  pointwise [mat]
  exact sum_nat 1024 fun k => f i0 k * g i1 k

theorem out_2 (f g : ℕ → ℕ → EReal) : out0_2 (F := Ideal) (mat 512 1024 f) (mat 768 1024 g) = mat 512 768 (dotN 1024 f (tr g)) := by
  unfold out0_2
  rw [View.canon_unit_zero zero2, View.ld_unit_zero zero2, View.ld_unit_zero zero2, pay_1]

variable (m : (ℓ : Loc nD τ sig) → Buf (Elt Ideal) ℓ) (c : Dev nD) (g w : ℕ → ℕ → EReal)
  (hg : m (c, main_arg2) = mat 16384 1024 g) (hw : m (c, main_arg1) = mat 768 1024 w)

include hw in
/-- The weight as the call takes it. -/
theorem V_0 : V m c main_v0 = mat 768 1024 w := by
  have e : V m c main_v0 = (truncf .bf16 (m (c, main_arg1) : FVec Ideal S768x1024 .f32) bitsLt_bf16_f32 : FVec Ideal S768x1024 .bf16) := by
    unfold V
    after_results_simp <;> rfl
  rw [e, hw]
  funext i
  idx_vars i
  pointwise [mat]

include hg in
theorem blk_0 (t : Fin cfg0.N) : iblk m c 0 t = mat 512 1024 fun r k => g (512 * t.val + r) k := by
  obtain ⟨e0, e1⟩ := ix_0 t
  funext y
  have e : V m c (Pipeline.arrRef spec0 0) = mat 16384 1024 g := (V_main_arg2 m c).trans hg
  unfold iblk
  rw [e]
  blk_simp [mat, e0, e1]
  rw [Nat.mul_comm t.val 512]

include hw in
theorem blk_1 (t : Fin cfg0.N) : iblk m c 1 t = mat 768 1024 w := by
  obtain ⟨e0, e1⟩ := ix_1 t
  funext y
  have e : V m c (Pipeline.arrRef spec0 1) = mat 768 1024 w := V_0 m c w hw
  unfold iblk
  rw [e]
  blk_simp [mat, e0, e1]

include hg hw in
/-- The array of results after the last block. -/
theorem final_2 : (dats m 0 c).arrAt 2 cfg0.N = mat 16384 768 (dotN 1024 g (tr w)) := by
  refine (dats m 0 c).arrAt_eq_of_covers 2 _ (by decide +kernel) fun t hf y => ?_
  obtain ⟨e0, e1⟩ := ix_2 t
  rw [after0_2, blk_0 m c g hg, blk_1 m c w hw, out_2]
  blk_simp [mat, e0, e1]
  rw [Nat.mul_comm t.val 512]
  rfl

theorem run (m : (ℓ : Loc nD τ sig) → Buf (Elt Ideal) ℓ) (ρ : Dev nD → PrngReg) (g w : Dev nD → ℕ → ℕ → EReal)
    (hg : ∀ c : Dev nD, m ((c.tc : Thread nD τ).loc main_arg2) = mat 16384 1024 (g c))
    (hw : ∀ c : Dev nD, m ((c.tc : Thread nD τ).loc main_arg1) = mat 768 1024 (w c)) :
    θ_run (defs (F := Ideal)) (onTc (τ := τ) (main (F := Ideal))) ⟨m, fun _ => 0, ρ⟩ fun r => ∀ c : Dev nD,
      r.2.mem ((c.tc : Thread nD τ).loc main_v1) = mat 16384 768 (dotN 1024 (g c) (tr (w c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨((H.1 c).1 2).trans (final_2 m c (g c) (w c) (hg c) (hw c)), H.2.1 c⟩)
    (θ_run_and (run_main m ρ) (frame m ρ))

end Cert.BOutRowsIdeal.Ffn

namespace Cert.BOutRowsRefIdeal.Ffn

open Cert.BOutRowsRefIdeal Cert.BOutRowsRefIdeal.Gen Cert.Ffn Idealize.ShloMosaic Idealize.ShloMosaic.TcCoe Idealize.SL.Sem

/-- The reference's value. -/
theorem value (g w : ℕ → ℕ → EReal) :
    truncf .bf16 (Host.dotGeneral (φ₁ := .f32) (φ₂ := .f32) dot_S16384x1024_S768x1024_S16384x768_1_1_0_0_n_n none (mat 16384 1024 g : FVec Ideal S16384x1024 .f32)
      (mat 768 1024 w : FVec Ideal S768x1024 .f32) : FVec Ideal S16384x768 .f32) bitsLt_bf16_f32 = mat 16384 768 (dotN 1024 g (tr w)) := by
  funext i
  idx_vars i
  pointwise [mat]
  exact sum_nat 1024 fun k => g i0 k * w i1 k

end Cert.BOutRowsRefIdeal.Ffn

namespace Cert.Proof.BOutRows

open Cert.Ffn Idealize.ShloMosaic Idealize.SL.Sem

theorem frame_kernel : Cert.quiescent_BOutRows := fun m ρ _ => Cert.BOutRows.Gen.frame (F := Bits) m ρ

theorem frame_ideal : Cert.quiescent_BOutRowsIdeal := fun m ρ _ => Cert.BOutRowsIdeal.Gen.frame (F := Ideal) m ρ

theorem frame_reference : Cert.quiescent_BOutRowsRefIdeal := fun m ρ _ =>
  (θ_run Cert.BOutRowsRefIdeal.defs _ _).mono
    (fun r h => ⟨fun c => (h c).2, sem_eq_zero_of_no_sems (by decide) r.2⟩)
    (Cert.BOutRowsRefIdeal.Value.run (F := Ideal) m ρ)

theorem preserves : Cert.preserves_BOutRows_BOutRowsIdeal := trivial

/-- The call and the reference give the same result, on all arguments. -/
theorem algebraic : Cert.algebraic_BOutRowsIdeal_BOutRowsRefIdeal (hBOutRowsIdeal := Cert.BOutRowsIdeal.Gen.facts)
    (hBOutRowsRefIdeal := Cert.BOutRowsRefIdeal.Gen.facts) := by
  intro m g m' g' _ heq
  choose d hd using fun c : Dev Cert.BOutRowsIdeal.nD => exists_mat (a := 16384) (b := 1024) (m ((c.tc : Thread Cert.BOutRowsIdeal.nD Cert.BOutRowsIdeal.τ).loc Cert.BOutRowsIdeal.main_arg2))
  choose w hw using fun c : Dev Cert.BOutRowsIdeal.nD => exists_mat (a := 768) (b := 1024) (m ((c.tc : Thread Cert.BOutRowsIdeal.nD Cert.BOutRowsIdeal.τ).loc Cert.BOutRowsIdeal.main_arg1))
  refine ⟨_, Cert.BOutRowsIdeal.Ffn.run m g d w hd hw,
    (θ_run Cert.BOutRowsRefIdeal.defs _ _).mono (fun r H c => ⟨(H c).1.trans ?_, (H c).2⟩)
      (Cert.BOutRowsRefIdeal.Value.run (F := Ideal) m' g')⟩
  rw [(heq c).2.2.trans (hd c), (heq c).2.1.trans (hw c)]
  exact Cert.BOutRowsRefIdeal.Ffn.value (d c) (w c)

end Cert.Proof.BOutRows

end
-- ==== Proof.Ffn.BOutWeight.lean ====
/- The gradient of the product with the output weight of the dilated attention in its weight. -/
module

public import proofs.«01_k».proof.Defs
public import proofs.«01_k».proof.Proof.Ffn.Mat
public import proofs.«01_k».proof.Proof.Gen.BOutWeight.Frame
public import proofs.«01_k».proof.Proof.Gen.BOutWeightIdeal.Frame
public import proofs.«01_k».proof.Proof.Gen.BOutWeightRefIdeal.Run
public import Idealize.ShloMosaic.Lib.Quiescent

@[expose] public section

set_option maxRecDepth 16384

noncomputable section

namespace Cert.BOutWeightIdeal.Ffn

open Cert.BOutWeightIdeal Cert.BOutWeightIdeal.Gen Cert.Ffn Idealize.ShloMosaic Idealize.ShloMosaic.TcCoe Idealize.SL.Sem
open Idealize.ShloMosaic.Tactic

section
variable {F : FTy → Type} [FloatOps F]

/-- The first point stores its product. -/
theorem first (c : Dev nD) (i : grid0.Coords) (a3 : Memref sig .tc .vmem S1024x768 .bf16) (h3 : a3.IsWhole)
    (a4 : Memref sig .tc .vmem S1024x1024 .f32) (h4 : a4.IsWhole) (a5 : Memref sig .tc .vmem S768x1024 .f32) (h5 : a5.IsWhole)
    (a6 : Memref sig .tc .vmem S768x1024 .f32) (h6 : a6.IsWhole)
    (hc0 : cond0_0 i) (hc1 : ¬cond0_1 i) (hc2 : ¬cond0_2 i) (x0 : Vec F S1024x768 .bf16) (x1 : Vec F S1024x1024 .f32) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S1024x768) zero2, View.ld_unit_zero (S := S1024x1024) zero2]

/-- A later point adds its product. -/
theorem middle (c : Dev nD) (i : grid0.Coords) (a3 : Memref sig .tc .vmem S1024x768 .bf16) (h3 : a3.IsWhole)
    (a4 : Memref sig .tc .vmem S1024x1024 .f32) (h4 : a4.IsWhole) (a5 : Memref sig .tc .vmem S768x1024 .f32) (h5 : a5.IsWhole)
    (a6 : Memref sig .tc .vmem S768x1024 .f32) (h6 : a6.IsWhole)
    (hc0 : ¬cond0_0 i) (hc1 : cond0_1 i) (hc2 : ¬cond0_2 i) (x0 : Vec F S1024x768 .bf16) (x1 : Vec F S1024x1024 .f32) (s : Vec F S768x1024 .f32) :
    sout0_B_0 c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero zero2]
  simp only [View.readAt_eq_ld, h3.read_unread, h4.read_unread, h6.read_unread, View.ld_unit_zero (S := S1024x768) zero2,
    View.ld_unit_zero (S := S1024x1024) zero2, View.ld_unit_zero (S := S768x1024) zero2]

/-- The last point writes the sum out. -/
theorem last (c : Dev nD) (i : grid0.Coords) (a3 : Memref sig .tc .vmem S1024x768 .bf16) (h3 : a3.IsWhole)
    (a4 : Memref sig .tc .vmem S1024x1024 .f32) (h4 : a4.IsWhole) (a5 : Memref sig .tc .vmem S768x1024 .f32) (h5 : a5.IsWhole)
    (a6 : Memref sig .tc .vmem S768x1024 .f32) (h6 : a6.IsWhole)
    (hc0 : ¬cond0_0 i) (hc1 : cond0_1 i) (hc2 : cond0_2 i) (x0 : Vec F S1024x768 .bf16) (x1 : Vec F S1024x1024 .f32) (s : Vec F S768x1024 .f32) :
    out0_C_2 c i a3 h3 a4 h4 a5 h5 a6 h6 hc0 hc1 hc2 x0 x1 s = k0_pay3 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero zero2, View.readCov_unit_zero (S := S768x1024) _ zero2]
  simp only [View.readAt_eq_ld, h3.read_unread, h4.read_unread, h6.read_unread, View.ld_unit_zero (S := S1024x768) zero2,
    View.ld_unit_zero (S := S1024x1024) zero2, View.ld_unit_zero (S := S768x1024) zero2]

end

theorem ix_0 : ∀ t : Fin cfg0.N, win0_0.index t 0 = t.val ∧ win0_0.index t 1 = 0 := by decide +kernel
theorem ix_1 : ∀ t : Fin cfg0.N, win0_1.index t 0 = t.val ∧ win0_1.index t 1 = 0 := by decide +kernel
theorem ix_2 : ∀ t : Fin cfg0.N, win0_2.index t 0 = 0 ∧ win0_2.index t 1 = 0 := by decide +kernel

/-- The product of two blocks along their rows. -/
theorem pay_2 (f g : ℕ → ℕ → EReal) : k0_pay2 (F := Ideal) (mat 1024 768 f) (mat 1024 1024 g) = mat 768 1024 (dotN 1024 (tr f) g) := by
  funext i
  idx_vars i
  unfold k0_pay2 k0_pay1
  pointwise [mat]
  exact sum_nat 1024 fun k => f k i0 * g k i1

theorem pay_3 (f g s : ℕ → ℕ → EReal) : k0_pay3 (F := Ideal) (mat 1024 768 f) (mat 1024 1024 g) (mat 768 1024 s)
    = mat 768 1024 fun i j => s i j + dotN 1024 (tr f) g i j := by
  funext i
  idx_vars i
  unfold k0_pay3 k0_pay1
  pointwise [mat]
  rw [sum_nat 1024 fun k => f k i0 * g k i1]
  rfl

variable (m : (ℓ : Loc nD τ sig) → Buf (Elt Ideal) ℓ) (c : Dev nD) (u g : ℕ → ℕ → EReal)
  (hu : m (c, main_arg0) = mat 16384 768 u) (hg : m (c, main_arg2) = mat 16384 1024 g)

include hu in
theorem blk_0 (t : Fin cfg0.N) : iblk m c 0 t = mat 1024 768 fun k r => u (1024 * t.val + k) r := by
  obtain ⟨e0, e1⟩ := ix_0 t
  funext y
  have e : V m c (Pipeline.arrRef spec0 0) = mat 16384 768 u := (V_main_arg0 m c).trans hu
  unfold iblk
  rw [e]
  blk_simp [mat, e0, e1]
  rw [Nat.mul_comm t.val 1024]

include hg in
theorem blk_1 (t : Fin cfg0.N) : iblk m c 1 t = mat 1024 1024 fun k r => g (1024 * t.val + k) r := by
  obtain ⟨e0, e1⟩ := ix_1 t
  funext y
  have e : V m c (Pipeline.arrRef spec0 1) = mat 16384 1024 g := (V_main_arg2 m c).trans hg
  unfold iblk
  rw [e]
  blk_simp [mat, e0, e1]
  rw [Nat.mul_comm t.val 1024]

/-- A further block of rows added to the product of the rows before it. -/
theorem dot_add (n i j : ℕ) : dotN (1024 * n) (tr u) g i j
    + dotN 1024 (tr fun k r => u (1024 * n + k) r) (fun k r => g (1024 * n + k) r) i j = dotN (1024 * (n + 1)) (tr u) g i j := by
  rw [Nat.mul_add_one]
  exact (Finset.sum_range_add (fun k => u k i * g k j) (1024 * n) 1024).symm

include hu hg in
/-- What the accumulator holds after a point that is not the last. -/
theorem sweep (n : ℕ) (hn : n < cfg0.N) (hl : ¬n % 16 = 15) : (outsAt0 m c n hn).2 = mat 768 1024 (dotN (1024 * (n + 1)) (tr u) g) := by
  have hN : cfg0.N = 16 := N_0
  induction n with
  | zero =>
    rw [outsAt0_A m c ⟨0, hn⟩ rfl (by dsimp only; omega) (by dsimp only; omega), first, blk_0 m c u hu, blk_1 m c g hg, pay_2]
    simp only [Nat.mul_zero, Nat.zero_add, Nat.mul_one]
  | succ n ih =>
    rw [outsAt0_B m c ⟨n + 1, hn⟩ (by dsimp only; omega) (by dsimp only; omega) hl, middle, blk_0 m c u hu, blk_1 m c g hg]
    have e := ih (by omega) (by omega)
    show k0_pay3 (F := Ideal) _ _ (outsAt0 m c n _).2 = _
    rw [e, pay_3]
    congr 1
    funext i j
    exact dot_add u g (n + 1) i j

include hu hg in
/-- What the last point writes. -/
theorem written (n : ℕ) (hn : n + 1 < cfg0.N) (hl : (n + 1) % 16 = 15) : (outsAt0 m c (n + 1) hn).1 = mat 768 1024 (dotN (1024 * (n + 2)) (tr u) g) := by
  have hN : cfg0.N = 16 := N_0
  rw [outsAt0_C m c ⟨n + 1, hn⟩ (by dsimp only; omega) (by dsimp only; omega) hl, last, blk_0 m c u hu, blk_1 m c g hg]
  have e := sweep m c u g hu hg n (by omega) (by omega)
  show k0_pay3 (F := Ideal) _ _ (outsAt0 m c n _).2 = _
  rw [e, pay_3]
  congr 1
  funext i j
  exact dot_add u g (n + 1) i j

include hu hg in
/-- The array of results after the last point. -/
theorem final_2 : (dats m 0 c).arrAt 2 cfg0.N = mat 768 1024 (dotN 16384 (tr u) g) := by
  refine (dats m 0 c).arrAt_eq_of_covers 2 _ (by decide +kernel) fun t hf y => ?_
  have ht : t.val % 16 = 15 := (flush0_2 t).1 hf
  obtain ⟨e0, e1⟩ := ix_2 t
  obtain ⟨n, hn⟩ := t
  have hN : n < 16 := lt_of_lt_of_eq hn N_0
  obtain rfl : n = 14 + 1 := by dsimp only at ht; omega
  rw [after0_2, written m c u g hu hg 14 hn ht]
  blk_simp [mat, e0, e1]

theorem run (m : (ℓ : Loc nD τ sig) → Buf (Elt Ideal) ℓ) (ρ : Dev nD → PrngReg) (u g : Dev nD → ℕ → ℕ → EReal)
    (hu : ∀ c : Dev nD, m ((c.tc : Thread nD τ).loc main_arg0) = mat 16384 768 (u c))
    (hg : ∀ c : Dev nD, m ((c.tc : Thread nD τ).loc main_arg2) = mat 16384 1024 (g c)) :
    θ_run (defs (F := Ideal)) (onTc (τ := τ) (main (F := Ideal))) ⟨m, fun _ => 0, ρ⟩ fun r => ∀ c : Dev nD,
      r.2.mem ((c.tc : Thread nD τ).loc main_v0) = mat 768 1024 (dotN 16384 (tr (u c)) (g c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨((H.1 c).1 2).trans (final_2 m c (u c) (g c) (hu c) (hg c)), H.2.1 c⟩)
    (θ_run_and (run_main m ρ) (frame m ρ))

end Cert.BOutWeightIdeal.Ffn

namespace Cert.BOutWeightRefIdeal.Ffn

open Cert.BOutWeightRefIdeal Cert.BOutWeightRefIdeal.Gen Cert.Ffn Idealize.ShloMosaic Idealize.ShloMosaic.TcCoe Idealize.SL.Sem

/-- The reference's value. -/
theorem value (u g : ℕ → ℕ → EReal) :
    transpose S768x1024 [1, 0] (Host.dotGeneral (φ₁ := .f32) (φ₂ := .bf16) dot_S16384x1024_S16384x768_S1024x768_0_0_1_1_n_n none (mat 16384 1024 g : FVec Ideal S16384x1024 .f32)
      (mat 16384 768 u : FVec Ideal S16384x768 .bf16) : FVec Ideal S1024x768 .f32) transposes_S1024x768_S768x1024_1_0 = mat 768 1024 (dotN 16384 (tr u) g) := by
  funext i
  idx_vars i
  pointwise [mat]
  rw [sum_nat 16384 fun k => g k i1 * u k i0]
  exact Finset.sum_congr rfl fun k _ => mul_comm _ _

end Cert.BOutWeightRefIdeal.Ffn

namespace Cert.Proof.BOutWeight

open Cert.Ffn Idealize.ShloMosaic Idealize.SL.Sem

theorem frame_kernel : Cert.quiescent_BOutWeight := fun m ρ _ => Cert.BOutWeight.Gen.frame (F := Bits) m ρ

theorem frame_ideal : Cert.quiescent_BOutWeightIdeal := fun m ρ _ => Cert.BOutWeightIdeal.Gen.frame (F := Ideal) m ρ

theorem frame_reference : Cert.quiescent_BOutWeightRefIdeal := fun m ρ _ =>
  (θ_run Cert.BOutWeightRefIdeal.defs _ _).mono
    (fun r h => ⟨fun c => (h c).2, sem_eq_zero_of_no_sems (by decide) r.2⟩)
    (Cert.BOutWeightRefIdeal.Value.run (F := Ideal) m ρ)

theorem preserves : Cert.preserves_BOutWeight_BOutWeightIdeal := trivial

/-- The call and the reference give the same result, on all arguments. -/
theorem algebraic : Cert.algebraic_BOutWeightIdeal_BOutWeightRefIdeal (hBOutWeightIdeal := Cert.BOutWeightIdeal.Gen.facts)
    (hBOutWeightRefIdeal := Cert.BOutWeightRefIdeal.Gen.facts) := by
  intro m s m' s' _ heq
  choose u hu using fun c : Dev Cert.BOutWeightIdeal.nD => exists_mat (a := 16384) (b := 768) (m ((c.tc : Thread Cert.BOutWeightIdeal.nD Cert.BOutWeightIdeal.τ).loc Cert.BOutWeightIdeal.main_arg0))
  choose g hg using fun c : Dev Cert.BOutWeightIdeal.nD => exists_mat (a := 16384) (b := 1024) (m ((c.tc : Thread Cert.BOutWeightIdeal.nD Cert.BOutWeightIdeal.τ).loc Cert.BOutWeightIdeal.main_arg2))
  refine ⟨_, Cert.BOutWeightIdeal.Ffn.run m s u g hu hg,
    (θ_run Cert.BOutWeightRefIdeal.defs _ _).mono (fun r H c => ⟨(H c).1.trans ?_, (H c).2⟩)
      (Cert.BOutWeightRefIdeal.Value.run (F := Ideal) m' s')⟩
  rw [(heq c).1.trans (hu c), (heq c).2.2.trans (hg c)]
  exact Cert.BOutWeightRefIdeal.Ffn.value (u c) (g c)

end Cert.Proof.BOutWeight

end
-- ==== Proof.Ffn.QueryForward.lean ====
/- The product of the forward pass with the second weight of the query. -/
module

public import proofs.«01_k».proof.Defs
public import proofs.«01_k».proof.Proof.Ffn.Mat
public import proofs.«01_k».proof.Proof.Gen.QueryForward.Frame
public import proofs.«01_k».proof.Proof.Gen.QueryForwardIdeal.Frame
public import proofs.«01_k».proof.Proof.Gen.QueryForwardRefIdeal.Run
public import Idealize.ShloMosaic.Lib.Quiescent

@[expose] public section

set_option maxRecDepth 16384

noncomputable section

namespace Cert.QueryForwardIdeal.Ffn

open Cert.QueryForwardIdeal Cert.QueryForwardIdeal.Gen Cert.Ffn Idealize.ShloMosaic Idealize.ShloMosaic.TcCoe Idealize.SL.Sem

theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

/-- The body's product of two blocks. -/
theorem pay_1 (f g : ℕ → ℕ → EReal) : k0_pay1 (F := Ideal) (mat 512 384 f) (mat 384 1152 g) = mat 512 1152 (dotN 384 f g) := by
  funext i
  idx_vars i
  unfold k0_pay1
  pointwise [mat]
  exact sum_nat 384 fun k => f i0 k * g k i1

theorem out_2 (f g : ℕ → ℕ → EReal) : out0_2 (F := Ideal) (mat 512 384 f) (mat 384 1152 g) = mat 512 1152 (dotN 384 f g) := by
  unfold out0_2
  rw [View.canon_unit_zero zero2, View.ld_unit_zero zero2, View.ld_unit_zero zero2, pay_1]

variable (m : (ℓ : Loc nD τ sig) → Buf (Elt Ideal) ℓ) (c : Dev nD) (u w : ℕ → ℕ → EReal)
  (hu : m (c, main_arg0) = mat 16384 384 u) (hw : m (c, main_arg1) = mat 384 1152 w)

include hw in
/-- The weight as the call takes it. -/
theorem V_0 : V m c main_v0 = mat 384 1152 w := by
  have e : V m c main_v0 = (truncf .bf16 (m (c, main_arg1) : FVec Ideal S384x1152 .f32) bitsLt_bf16_f32 : FVec Ideal S384x1152 .bf16) := by
    unfold V
    after_results_simp <;> rfl
  rw [e, hw]
  funext i
  idx_vars i
  pointwise [mat]

include hu in
theorem blk_0 (t : Fin cfg0.N) : iblk m c 0 t = mat 512 384 fun r k => u (512 * t.val + r) k := by
  obtain ⟨e0, e1⟩ := ix_0 t
  funext y
  have e : V m c (Pipeline.arrRef spec0 0) = mat 16384 384 u := (V_main_arg0 m c).trans hu
  unfold iblk
  rw [e]
  blk_simp [mat, e0, e1]
  rw [Nat.mul_comm t.val 512]

include hw in
theorem blk_1 (t : Fin cfg0.N) : iblk m c 1 t = mat 384 1152 w := by
  obtain ⟨e0, e1⟩ := ix_1 t
  funext y
  have e : V m c (Pipeline.arrRef spec0 1) = mat 384 1152 w := V_0 m c w hw
  unfold iblk
  rw [e]
  blk_simp [mat, e0, e1]

include hu hw in
/-- The array of results after the last block. -/
theorem final_2 : (dats m 0 c).arrAt 2 cfg0.N = mat 16384 1152 (dotN 384 u w) := by
  refine (dats m 0 c).arrAt_eq_of_covers 2 _ (by decide +kernel) fun t hf y => ?_
  obtain ⟨e0, e1⟩ := ix_2 t
  rw [after0_2, blk_0 m c u hu, blk_1 m c w hw, out_2]
  blk_simp [mat, e0, e1]
  rw [Nat.mul_comm t.val 512]
  rfl

theorem run (m : (ℓ : Loc nD τ sig) → Buf (Elt Ideal) ℓ) (ρ : Dev nD → PrngReg) (u w : Dev nD → ℕ → ℕ → EReal)
    (hu : ∀ c : Dev nD, m ((c.tc : Thread nD τ).loc main_arg0) = mat 16384 384 (u c))
    (hw : ∀ c : Dev nD, m ((c.tc : Thread nD τ).loc main_arg1) = mat 384 1152 (w c)) :
    θ_run (defs (F := Ideal)) (onTc (τ := τ) (main (F := Ideal))) ⟨m, fun _ => 0, ρ⟩ fun r => ∀ c : Dev nD,
      r.2.mem ((c.tc : Thread nD τ).loc main_v1) = mat 16384 1152 (dotN 384 (u c) (w c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r H c => ⟨((H.1 c).1 2).trans (final_2 m c (u c) (w c) (hu c) (hw c)), H.2.1 c⟩)
    (θ_run_and (run_main m ρ) (frame m ρ))

end Cert.QueryForwardIdeal.Ffn

namespace Cert.QueryForwardRefIdeal.Ffn

open Cert.QueryForwardRefIdeal Cert.QueryForwardRefIdeal.Gen Cert.Ffn Idealize.ShloMosaic Idealize.ShloMosaic.TcCoe Idealize.SL.Sem

/-- The reference's value. -/
theorem value (u w : ℕ → ℕ → EReal) :
    (Host.dotGeneral (φ₁ := .bf16) (φ₂ := .f32) dot_S16384x384_S384x1152_S16384x1152_1_0_0_1_n_n none (mat 16384 384 u : FVec Ideal S16384x384 .bf16)
      (mat 384 1152 w : FVec Ideal S384x1152 .f32) : FVec Ideal S16384x1152 .f32) = mat 16384 1152 (dotN 384 u w) := by
  funext i
  idx_vars i
  pointwise [mat]
  exact sum_nat 384 fun k => u i0 k * w k i1

end Cert.QueryForwardRefIdeal.Ffn

namespace Cert.Proof.QueryForward

open Cert.Ffn Idealize.ShloMosaic Idealize.SL.Sem

theorem frame_kernel : Cert.quiescent_QueryForward := fun m ρ _ => Cert.QueryForward.Gen.frame (F := Bits) m ρ

theorem frame_ideal : Cert.quiescent_QueryForwardIdeal := fun m ρ _ => Cert.QueryForwardIdeal.Gen.frame (F := Ideal) m ρ

theorem frame_reference : Cert.quiescent_QueryForwardRefIdeal := fun m ρ _ =>
  (θ_run Cert.QueryForwardRefIdeal.defs _ _).mono
    (fun r h => ⟨fun c => (h c).2, sem_eq_zero_of_no_sems (by decide) r.2⟩)
    (Cert.QueryForwardRefIdeal.Value.run (F := Ideal) m ρ)

theorem preserves : Cert.preserves_QueryForward_QueryForwardIdeal := trivial

/-- The call and the reference give the same result, on all arguments. -/
theorem algebraic : Cert.algebraic_QueryForwardIdeal_QueryForwardRefIdeal (hQueryForwardIdeal := Cert.QueryForwardIdeal.Gen.facts)
    (hQueryForwardRefIdeal := Cert.QueryForwardRefIdeal.Gen.facts) := by
  intro m g m' g' _ heq
  choose u hu using fun c : Dev Cert.QueryForwardIdeal.nD => exists_mat (a := 16384) (b := 384) (m ((c.tc : Thread Cert.QueryForwardIdeal.nD Cert.QueryForwardIdeal.τ).loc Cert.QueryForwardIdeal.main_arg0))
  choose w hw using fun c : Dev Cert.QueryForwardIdeal.nD => exists_mat (a := 384) (b := 1152) (m ((c.tc : Thread Cert.QueryForwardIdeal.nD Cert.QueryForwardIdeal.τ).loc Cert.QueryForwardIdeal.main_arg1))
  refine ⟨_, Cert.QueryForwardIdeal.Ffn.run m g u w hu hw,
    (θ_run Cert.QueryForwardRefIdeal.defs _ _).mono (fun r H c => ⟨(H c).1.trans ?_, (H c).2⟩)
      (Cert.QueryForwardRefIdeal.Value.run (F := Ideal) m' g')⟩
  rw [(heq c).1.trans (hu c), (heq c).2.trans (hw c)]
  exact Cert.QueryForwardRefIdeal.Ffn.value (u c) (w c)

end Cert.Proof.QueryForward

end
-- ==== Proof.Ffn.QueryRows.lean ====
/- The gradient of the product with the second weight of the query in its rows. -/
module

public import proofs.«01_k».proof.Defs
public import proofs.«01_k».proof.Proof.Ffn.Mat
public import proofs.«01_k».proof.Proof.Gen.QueryRows.Frame
public import proofs.«01_k».proof.Proof.Gen.QueryRowsIdeal.Frame
public import proofs.«01_k».proof.Proof.Gen.QueryRowsRefIdeal.Run
public import Idealize.ShloMosaic.Lib.Quiescent

@[expose] public section

set_option maxRecDepth 16384

noncomputable section

namespace Cert.QueryRowsIdeal.Ffn

open Cert.QueryRowsIdeal Cert.QueryRowsIdeal.Gen Cert.Ffn Idealize.ShloMosaic Idealize.ShloMosaic.TcCoe Idealize.SL.Sem

theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

/-- The body's product of two blocks. -/
theorem pay_1 (f g : ℕ → ℕ → EReal) : k0_pay1 (F := Ideal) (mat 512 1152 f) (mat 384 1152 g) = mat 512 384 (dotN 1152 f (tr g)) := by
  funext i
  idx_vars i
  unfold k0_pay1
  pointwise [mat]
  exact sum_nat 1152 fun k => f i0 k * g i1 k

theorem out_2 (f g : ℕ → ℕ → EReal) : out0_2 (F := Ideal) (mat 512 1152 f) (mat 384 1152 g) = mat 512 384 (dotN 1152 f (tr g)) := by
  unfold out0_2
  rw [View.canon_unit_zero zero2, View.ld_unit_zero zero2, View.ld_unit_zero zero2, pay_1]

variable (m : (ℓ : Loc nD τ sig) → Buf (Elt Ideal) ℓ) (c : Dev nD) (g w : ℕ → ℕ → EReal)
  (hg : m (c, main_arg2) = mat 16384 1152 g) (hw : m (c, main_arg1) = mat 384 1152 w)

include hw in
/-- The weight as the call takes it. -/
theorem V_0 : V m c main_v0 = mat 384 1152 w := by
  have e : V m c main_v0 = (truncf .bf16 (m (c, main_arg1) : FVec Ideal S384x1152 .f32) bitsLt_bf16_f32 : FVec Ideal S384x1152 .bf16) := by
    unfold V
    after_results_simp <;> rfl
  rw [e, hw]
  funext i
  idx_vars i
  pointwise [mat]

include hg in
theorem blk_0 (t : Fin cfg0.N) : iblk m c 0 t = mat 512 1152 fun r k => g (512 * t.val + r) k := by
  obtain ⟨e0, e1⟩ := ix_0 t
  funext y
  have e : V m c (Pipeline.arrRef spec0 0) = mat 16384 1152 g := (V_main_arg2 m c).trans hg
  unfold iblk
  rw [e]
  blk_simp [mat, e0, e1]
  rw [Nat.mul_comm t.val 512]

include hw in
theorem blk_1 (t : Fin cfg0.N) : iblk m c 1 t = mat 384 1152 w := by
  obtain ⟨e0, e1⟩ := ix_1 t
  funext y
  have e : V m c (Pipeline.arrRef spec0 1) = mat 384 1152 w := V_0 m c w hw
  unfold iblk
  rw [e]
  blk_simp [mat, e0, e1]

include hg hw in
/-- The array of results after the last block. -/
theorem final_2 : (dats m 0 c).arrAt 2 cfg0.N = mat 16384 384 (dotN 1152 g (tr w)) := by
  refine (dats m 0 c).arrAt_eq_of_covers 2 _ (by decide +kernel) fun t hf y => ?_
  obtain ⟨e0, e1⟩ := ix_2 t
  rw [after0_2, blk_0 m c g hg, blk_1 m c w hw, out_2]
  blk_simp [mat, e0, e1]
  rw [Nat.mul_comm t.val 512]
  rfl

theorem run (m : (ℓ : Loc nD τ sig) → Buf (Elt Ideal) ℓ) (ρ : Dev nD → PrngReg) (g w : Dev nD → ℕ → ℕ → EReal)
    (hg : ∀ c : Dev nD, m ((c.tc : Thread nD τ).loc main_arg2) = mat 16384 1152 (g c))
    (hw : ∀ c : Dev nD, m ((c.tc : Thread nD τ).loc main_arg1) = mat 384 1152 (w c)) :
    θ_run (defs (F := Ideal)) (onTc (τ := τ) (main (F := Ideal))) ⟨m, fun _ => 0, ρ⟩ fun r => ∀ c : Dev nD,
      r.2.mem ((c.tc : Thread nD τ).loc main_v1) = mat 16384 384 (dotN 1152 (g c) (tr (w c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨((H.1 c).1 2).trans (final_2 m c (g c) (w c) (hg c) (hw c)), H.2.1 c⟩)
    (θ_run_and (run_main m ρ) (frame m ρ))

end Cert.QueryRowsIdeal.Ffn

namespace Cert.QueryRowsRefIdeal.Ffn

open Cert.QueryRowsRefIdeal Cert.QueryRowsRefIdeal.Gen Cert.Ffn Idealize.ShloMosaic Idealize.ShloMosaic.TcCoe Idealize.SL.Sem

/-- The reference's value. -/
theorem value (g w : ℕ → ℕ → EReal) :
    truncf .bf16 (Host.dotGeneral (φ₁ := .f32) (φ₂ := .f32) dot_S16384x1152_S384x1152_S16384x384_1_1_0_0_n_n none (mat 16384 1152 g : FVec Ideal S16384x1152 .f32)
      (mat 384 1152 w : FVec Ideal S384x1152 .f32) : FVec Ideal S16384x384 .f32) bitsLt_bf16_f32 = mat 16384 384 (dotN 1152 g (tr w)) := by
  funext i
  idx_vars i
  pointwise [mat]
  exact sum_nat 1152 fun k => g i0 k * w i1 k

end Cert.QueryRowsRefIdeal.Ffn

namespace Cert.Proof.QueryRows

open Cert.Ffn Idealize.ShloMosaic Idealize.SL.Sem

theorem frame_kernel : Cert.quiescent_QueryRows := fun m ρ _ => Cert.QueryRows.Gen.frame (F := Bits) m ρ

theorem frame_ideal : Cert.quiescent_QueryRowsIdeal := fun m ρ _ => Cert.QueryRowsIdeal.Gen.frame (F := Ideal) m ρ

theorem frame_reference : Cert.quiescent_QueryRowsRefIdeal := fun m ρ _ =>
  (θ_run Cert.QueryRowsRefIdeal.defs _ _).mono
    (fun r h => ⟨fun c => (h c).2, sem_eq_zero_of_no_sems (by decide) r.2⟩)
    (Cert.QueryRowsRefIdeal.Value.run (F := Ideal) m ρ)

theorem preserves : Cert.preserves_QueryRows_QueryRowsIdeal := trivial

/-- The call and the reference give the same result, on all arguments. -/
theorem algebraic : Cert.algebraic_QueryRowsIdeal_QueryRowsRefIdeal (hQueryRowsIdeal := Cert.QueryRowsIdeal.Gen.facts)
    (hQueryRowsRefIdeal := Cert.QueryRowsRefIdeal.Gen.facts) := by
  intro m g m' g' _ heq
  choose d hd using fun c : Dev Cert.QueryRowsIdeal.nD => exists_mat (a := 16384) (b := 1152) (m ((c.tc : Thread Cert.QueryRowsIdeal.nD Cert.QueryRowsIdeal.τ).loc Cert.QueryRowsIdeal.main_arg2))
  choose w hw using fun c : Dev Cert.QueryRowsIdeal.nD => exists_mat (a := 384) (b := 1152) (m ((c.tc : Thread Cert.QueryRowsIdeal.nD Cert.QueryRowsIdeal.τ).loc Cert.QueryRowsIdeal.main_arg1))
  refine ⟨_, Cert.QueryRowsIdeal.Ffn.run m g d w hd hw,
    (θ_run Cert.QueryRowsRefIdeal.defs _ _).mono (fun r H c => ⟨(H c).1.trans ?_, (H c).2⟩)
      (Cert.QueryRowsRefIdeal.Value.run (F := Ideal) m' g')⟩
  rw [(heq c).2.2.trans (hd c), (heq c).2.1.trans (hw c)]
  exact Cert.QueryRowsRefIdeal.Ffn.value (d c) (w c)

end Cert.Proof.QueryRows

end
-- ==== Proof.Ffn.QueryWeight.lean ====
/- The gradient of the product with the second weight of the query in its weight. -/
module

public import proofs.«01_k».proof.Defs
public import proofs.«01_k».proof.Proof.Ffn.Mat
public import proofs.«01_k».proof.Proof.Gen.QueryWeight.Frame
public import proofs.«01_k».proof.Proof.Gen.QueryWeightIdeal.Frame
public import proofs.«01_k».proof.Proof.Gen.QueryWeightRefIdeal.Run
public import Idealize.ShloMosaic.Lib.Quiescent

@[expose] public section

set_option maxRecDepth 16384

noncomputable section

namespace Cert.QueryWeightIdeal.Ffn

open Cert.QueryWeightIdeal Cert.QueryWeightIdeal.Gen Cert.Ffn Idealize.ShloMosaic Idealize.ShloMosaic.TcCoe Idealize.SL.Sem
open Idealize.ShloMosaic.Tactic

section
variable {F : FTy → Type} [FloatOps F]

/-- The first point stores its product. -/
theorem first (c : Dev nD) (i : grid0.Coords) (a3 : Memref sig .tc .vmem S1024x384 .bf16) (h3 : a3.IsWhole)
    (a4 : Memref sig .tc .vmem S1024x1152 .f32) (h4 : a4.IsWhole) (a5 : Memref sig .tc .vmem S384x1152 .f32) (h5 : a5.IsWhole)
    (a6 : Memref sig .tc .vmem S384x1152 .f32) (h6 : a6.IsWhole)
    (hc0 : cond0_0 i) (hc1 : ¬cond0_1 i) (hc2 : ¬cond0_2 i) (x0 : Vec F S1024x384 .bf16) (x1 : Vec F S1024x1152 .f32) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S1024x384) zero2, View.ld_unit_zero (S := S1024x1152) zero2]

/-- A later point adds its product. -/
theorem middle (c : Dev nD) (i : grid0.Coords) (a3 : Memref sig .tc .vmem S1024x384 .bf16) (h3 : a3.IsWhole)
    (a4 : Memref sig .tc .vmem S1024x1152 .f32) (h4 : a4.IsWhole) (a5 : Memref sig .tc .vmem S384x1152 .f32) (h5 : a5.IsWhole)
    (a6 : Memref sig .tc .vmem S384x1152 .f32) (h6 : a6.IsWhole)
    (hc0 : ¬cond0_0 i) (hc1 : cond0_1 i) (hc2 : ¬cond0_2 i) (x0 : Vec F S1024x384 .bf16) (x1 : Vec F S1024x1152 .f32) (s : Vec F S384x1152 .f32) :
    sout0_B_0 c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero zero2]
  simp only [View.readAt_eq_ld, h3.read_unread, h4.read_unread, h6.read_unread, View.ld_unit_zero (S := S1024x384) zero2,
    View.ld_unit_zero (S := S1024x1152) zero2, View.ld_unit_zero (S := S384x1152) zero2]

/-- The last point writes the sum out. -/
theorem last (c : Dev nD) (i : grid0.Coords) (a3 : Memref sig .tc .vmem S1024x384 .bf16) (h3 : a3.IsWhole)
    (a4 : Memref sig .tc .vmem S1024x1152 .f32) (h4 : a4.IsWhole) (a5 : Memref sig .tc .vmem S384x1152 .f32) (h5 : a5.IsWhole)
    (a6 : Memref sig .tc .vmem S384x1152 .f32) (h6 : a6.IsWhole)
    (hc0 : ¬cond0_0 i) (hc1 : cond0_1 i) (hc2 : cond0_2 i) (x0 : Vec F S1024x384 .bf16) (x1 : Vec F S1024x1152 .f32) (s : Vec F S384x1152 .f32) :
    out0_C_2 c i a3 h3 a4 h4 a5 h5 a6 h6 hc0 hc1 hc2 x0 x1 s = k0_pay3 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero zero2, View.readCov_unit_zero (S := S384x1152) _ zero2]
  simp only [View.readAt_eq_ld, h3.read_unread, h4.read_unread, h6.read_unread, View.ld_unit_zero (S := S1024x384) zero2,
    View.ld_unit_zero (S := S1024x1152) zero2, View.ld_unit_zero (S := S384x1152) zero2]

end

theorem ix_0 : ∀ t : Fin cfg0.N, win0_0.index t 0 = t.val ∧ win0_0.index t 1 = 0 := by decide +kernel
theorem ix_1 : ∀ t : Fin cfg0.N, win0_1.index t 0 = t.val ∧ win0_1.index t 1 = 0 := by decide +kernel
theorem ix_2 : ∀ t : Fin cfg0.N, win0_2.index t 0 = 0 ∧ win0_2.index t 1 = 0 := by decide +kernel

/-- The product of two blocks along their rows. -/
theorem pay_2 (f g : ℕ → ℕ → EReal) : k0_pay2 (F := Ideal) (mat 1024 384 f) (mat 1024 1152 g) = mat 384 1152 (dotN 1024 (tr f) g) := by
  funext i
  idx_vars i
  unfold k0_pay2 k0_pay1
  pointwise [mat]
  exact sum_nat 1024 fun k => f k i0 * g k i1

theorem pay_3 (f g s : ℕ → ℕ → EReal) : k0_pay3 (F := Ideal) (mat 1024 384 f) (mat 1024 1152 g) (mat 384 1152 s)
    = mat 384 1152 fun i j => s i j + dotN 1024 (tr f) g i j := by
  funext i
  idx_vars i
  unfold k0_pay3 k0_pay1
  pointwise [mat]
  rw [sum_nat 1024 fun k => f k i0 * g k i1]
  rfl

variable (m : (ℓ : Loc nD τ sig) → Buf (Elt Ideal) ℓ) (c : Dev nD) (u g : ℕ → ℕ → EReal)
  (hu : m (c, main_arg0) = mat 16384 384 u) (hg : m (c, main_arg2) = mat 16384 1152 g)

include hu in
theorem blk_0 (t : Fin cfg0.N) : iblk m c 0 t = mat 1024 384 fun k r => u (1024 * t.val + k) r := by
  obtain ⟨e0, e1⟩ := ix_0 t
  funext y
  have e : V m c (Pipeline.arrRef spec0 0) = mat 16384 384 u := (V_main_arg0 m c).trans hu
  unfold iblk
  rw [e]
  blk_simp [mat, e0, e1]
  rw [Nat.mul_comm t.val 1024]

include hg in
theorem blk_1 (t : Fin cfg0.N) : iblk m c 1 t = mat 1024 1152 fun k r => g (1024 * t.val + k) r := by
  obtain ⟨e0, e1⟩ := ix_1 t
  funext y
  have e : V m c (Pipeline.arrRef spec0 1) = mat 16384 1152 g := (V_main_arg2 m c).trans hg
  unfold iblk
  rw [e]
  blk_simp [mat, e0, e1]
  rw [Nat.mul_comm t.val 1024]

/-- A further block of rows added to the product of the rows before it. -/
theorem dot_add (n i j : ℕ) : dotN (1024 * n) (tr u) g i j
    + dotN 1024 (tr fun k r => u (1024 * n + k) r) (fun k r => g (1024 * n + k) r) i j = dotN (1024 * (n + 1)) (tr u) g i j := by
  rw [Nat.mul_add_one]
  exact (Finset.sum_range_add (fun k => u k i * g k j) (1024 * n) 1024).symm

include hu hg in
/-- What the accumulator holds after a point that is not the last. -/
theorem sweep (n : ℕ) (hn : n < cfg0.N) (hl : ¬n % 16 = 15) : (outsAt0 m c n hn).2 = mat 384 1152 (dotN (1024 * (n + 1)) (tr u) g) := by
  have hN : cfg0.N = 16 := N_0
  induction n with
  | zero =>
    rw [outsAt0_A m c ⟨0, hn⟩ rfl (by dsimp only; omega) (by dsimp only; omega), first, blk_0 m c u hu, blk_1 m c g hg, pay_2]
    simp only [Nat.mul_zero, Nat.zero_add, Nat.mul_one]
  | succ n ih =>
    rw [outsAt0_B m c ⟨n + 1, hn⟩ (by dsimp only; omega) (by dsimp only; omega) hl, middle, blk_0 m c u hu, blk_1 m c g hg]
    have e := ih (by omega) (by omega)
    show k0_pay3 (F := Ideal) _ _ (outsAt0 m c n _).2 = _
    rw [e, pay_3]
    congr 1
    funext i j
    exact dot_add u g (n + 1) i j

include hu hg in
/-- What the last point writes. -/
theorem written (n : ℕ) (hn : n + 1 < cfg0.N) (hl : (n + 1) % 16 = 15) : (outsAt0 m c (n + 1) hn).1 = mat 384 1152 (dotN (1024 * (n + 2)) (tr u) g) := by
  have hN : cfg0.N = 16 := N_0
  rw [outsAt0_C m c ⟨n + 1, hn⟩ (by dsimp only; omega) (by dsimp only; omega) hl, last, blk_0 m c u hu, blk_1 m c g hg]
  have e := sweep m c u g hu hg n (by omega) (by omega)
  show k0_pay3 (F := Ideal) _ _ (outsAt0 m c n _).2 = _
  rw [e, pay_3]
  congr 1
  funext i j
  exact dot_add u g (n + 1) i j

include hu hg in
/-- The array of results after the last point. -/
theorem final_2 : (dats m 0 c).arrAt 2 cfg0.N = mat 384 1152 (dotN 16384 (tr u) g) := by
  refine (dats m 0 c).arrAt_eq_of_covers 2 _ (by decide +kernel) fun t hf y => ?_
  have ht : t.val % 16 = 15 := (flush0_2 t).1 hf
  obtain ⟨e0, e1⟩ := ix_2 t
  obtain ⟨n, hn⟩ := t
  have hN : n < 16 := lt_of_lt_of_eq hn N_0
  obtain rfl : n = 14 + 1 := by dsimp only at ht; omega
  rw [after0_2, written m c u g hu hg 14 hn ht]
  blk_simp [mat, e0, e1]

theorem run (m : (ℓ : Loc nD τ sig) → Buf (Elt Ideal) ℓ) (ρ : Dev nD → PrngReg) (u g : Dev nD → ℕ → ℕ → EReal)
    (hu : ∀ c : Dev nD, m ((c.tc : Thread nD τ).loc main_arg0) = mat 16384 384 (u c))
    (hg : ∀ c : Dev nD, m ((c.tc : Thread nD τ).loc main_arg2) = mat 16384 1152 (g c)) :
    θ_run (defs (F := Ideal)) (onTc (τ := τ) (main (F := Ideal))) ⟨m, fun _ => 0, ρ⟩ fun r => ∀ c : Dev nD,
      r.2.mem ((c.tc : Thread nD τ).loc main_v0) = mat 384 1152 (dotN 16384 (tr (u c)) (g c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨((H.1 c).1 2).trans (final_2 m c (u c) (g c) (hu c) (hg c)), H.2.1 c⟩)
    (θ_run_and (run_main m ρ) (frame m ρ))

end Cert.QueryWeightIdeal.Ffn

namespace Cert.QueryWeightRefIdeal.Ffn

open Cert.QueryWeightRefIdeal Cert.QueryWeightRefIdeal.Gen Cert.Ffn Idealize.ShloMosaic Idealize.ShloMosaic.TcCoe Idealize.SL.Sem

/-- The reference's value. -/
theorem value (u g : ℕ → ℕ → EReal) :
    transpose S384x1152 [1, 0] (Host.dotGeneral (φ₁ := .f32) (φ₂ := .bf16) dot_S16384x1152_S16384x384_S1152x384_0_0_1_1_n_n none (mat 16384 1152 g : FVec Ideal S16384x1152 .f32)
      (mat 16384 384 u : FVec Ideal S16384x384 .bf16) : FVec Ideal S1152x384 .f32) transposes_S1152x384_S384x1152_1_0 = mat 384 1152 (dotN 16384 (tr u) g) := by
  funext i
  idx_vars i
  pointwise [mat]
  rw [sum_nat 16384 fun k => g k i1 * u k i0]
  exact Finset.sum_congr rfl fun k _ => mul_comm _ _

end Cert.QueryWeightRefIdeal.Ffn

namespace Cert.Proof.QueryWeight

open Cert.Ffn Idealize.ShloMosaic Idealize.SL.Sem

theorem frame_kernel : Cert.quiescent_QueryWeight := fun m ρ _ => Cert.QueryWeight.Gen.frame (F := Bits) m ρ

theorem frame_ideal : Cert.quiescent_QueryWeightIdeal := fun m ρ _ => Cert.QueryWeightIdeal.Gen.frame (F := Ideal) m ρ

theorem frame_reference : Cert.quiescent_QueryWeightRefIdeal := fun m ρ _ =>
  (θ_run Cert.QueryWeightRefIdeal.defs _ _).mono
    (fun r h => ⟨fun c => (h c).2, sem_eq_zero_of_no_sems (by decide) r.2⟩)
    (Cert.QueryWeightRefIdeal.Value.run (F := Ideal) m ρ)

theorem preserves : Cert.preserves_QueryWeight_QueryWeightIdeal := trivial

/-- The call and the reference give the same result, on all arguments. -/
theorem algebraic : Cert.algebraic_QueryWeightIdeal_QueryWeightRefIdeal (hQueryWeightIdeal := Cert.QueryWeightIdeal.Gen.facts)
    (hQueryWeightRefIdeal := Cert.QueryWeightRefIdeal.Gen.facts) := by
  intro m s m' s' _ heq
  choose u hu using fun c : Dev Cert.QueryWeightIdeal.nD => exists_mat (a := 16384) (b := 384) (m ((c.tc : Thread Cert.QueryWeightIdeal.nD Cert.QueryWeightIdeal.τ).loc Cert.QueryWeightIdeal.main_arg0))
  choose g hg using fun c : Dev Cert.QueryWeightIdeal.nD => exists_mat (a := 16384) (b := 1152) (m ((c.tc : Thread Cert.QueryWeightIdeal.nD Cert.QueryWeightIdeal.τ).loc Cert.QueryWeightIdeal.main_arg2))
  refine ⟨_, Cert.QueryWeightIdeal.Ffn.run m s u g hu hg,
    (θ_run Cert.QueryWeightRefIdeal.defs _ _).mono (fun r H c => ⟨(H c).1.trans ?_, (H c).2⟩)
      (Cert.QueryWeightRefIdeal.Value.run (F := Ideal) m' s')⟩
  rw [(heq c).1.trans (hu c), (heq c).2.2.trans (hg c)]
  exact Cert.QueryWeightRefIdeal.Ffn.value (u c) (g c)

end Cert.Proof.QueryWeight

end
-- ==== Proof.Ffn.KeyForward.lean ====
/- The product of the forward pass with the second weight of the key and the value. -/
module

public import proofs.«01_k».proof.Defs
public import proofs.«01_k».proof.Proof.Ffn.Mat
public import proofs.«01_k».proof.Proof.Gen.KeyForward.Frame
public import proofs.«01_k».proof.Proof.Gen.KeyForwardIdeal.Frame
public import proofs.«01_k».proof.Proof.Gen.KeyForwardRefIdeal.Run
public import Idealize.ShloMosaic.Lib.Quiescent

@[expose] public section

set_option maxRecDepth 16384

noncomputable section

namespace Cert.KeyForwardIdeal.Ffn

open Cert.KeyForwardIdeal Cert.KeyForwardIdeal.Gen Cert.Ffn Idealize.ShloMosaic Idealize.ShloMosaic.TcCoe Idealize.SL.Sem

theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

/-- The body's product of two blocks. -/
theorem pay_1 (f g : ℕ → ℕ → EReal) : k0_pay1 (F := Ideal) (mat 512 256 f) (mat 256 1536 g) = mat 512 1536 (dotN 256 f g) := by
  funext i
  idx_vars i
  unfold k0_pay1
  pointwise [mat]
  exact sum_nat 256 fun k => f i0 k * g k i1

theorem out_2 (f g : ℕ → ℕ → EReal) : out0_2 (F := Ideal) (mat 512 256 f) (mat 256 1536 g) = mat 512 1536 (dotN 256 f g) := by
  unfold out0_2
  rw [View.canon_unit_zero zero2, View.ld_unit_zero zero2, View.ld_unit_zero zero2, pay_1]

variable (m : (ℓ : Loc nD τ sig) → Buf (Elt Ideal) ℓ) (c : Dev nD) (u w : ℕ → ℕ → EReal)
  (hu : m (c, main_arg0) = mat 16384 256 u) (hw : m (c, main_arg1) = mat 256 1536 w)

include hw in
/-- The weight as the call takes it. -/
theorem V_0 : V m c main_v0 = mat 256 1536 w := by
  have e : V m c main_v0 = (truncf .bf16 (m (c, main_arg1) : FVec Ideal S256x1536 .f32) bitsLt_bf16_f32 : FVec Ideal S256x1536 .bf16) := by
    unfold V
    after_results_simp <;> rfl
  rw [e, hw]
  funext i
  idx_vars i
  pointwise [mat]

include hu in
theorem blk_0 (t : Fin cfg0.N) : iblk m c 0 t = mat 512 256 fun r k => u (512 * t.val + r) k := by
  obtain ⟨e0, e1⟩ := ix_0 t
  funext y
  have e : V m c (Pipeline.arrRef spec0 0) = mat 16384 256 u := (V_main_arg0 m c).trans hu
  unfold iblk
  rw [e]
  blk_simp [mat, e0, e1]
  rw [Nat.mul_comm t.val 512]

include hw in
theorem blk_1 (t : Fin cfg0.N) : iblk m c 1 t = mat 256 1536 w := by
  obtain ⟨e0, e1⟩ := ix_1 t
  funext y
  have e : V m c (Pipeline.arrRef spec0 1) = mat 256 1536 w := V_0 m c w hw
  unfold iblk
  rw [e]
  blk_simp [mat, e0, e1]

include hu hw in
/-- The array of results after the last block. -/
theorem final_2 : (dats m 0 c).arrAt 2 cfg0.N = mat 16384 1536 (dotN 256 u w) := by
  refine (dats m 0 c).arrAt_eq_of_covers 2 _ (by decide +kernel) fun t hf y => ?_
  obtain ⟨e0, e1⟩ := ix_2 t
  rw [after0_2, blk_0 m c u hu, blk_1 m c w hw, out_2]
  blk_simp [mat, e0, e1]
  rw [Nat.mul_comm t.val 512]
  rfl

theorem run (m : (ℓ : Loc nD τ sig) → Buf (Elt Ideal) ℓ) (ρ : Dev nD → PrngReg) (u w : Dev nD → ℕ → ℕ → EReal)
    (hu : ∀ c : Dev nD, m ((c.tc : Thread nD τ).loc main_arg0) = mat 16384 256 (u c))
    (hw : ∀ c : Dev nD, m ((c.tc : Thread nD τ).loc main_arg1) = mat 256 1536 (w c)) :
    θ_run (defs (F := Ideal)) (onTc (τ := τ) (main (F := Ideal))) ⟨m, fun _ => 0, ρ⟩ fun r => ∀ c : Dev nD,
      r.2.mem ((c.tc : Thread nD τ).loc main_v1) = mat 16384 1536 (dotN 256 (u c) (w c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r H c => ⟨((H.1 c).1 2).trans (final_2 m c (u c) (w c) (hu c) (hw c)), H.2.1 c⟩)
    (θ_run_and (run_main m ρ) (frame m ρ))

end Cert.KeyForwardIdeal.Ffn

namespace Cert.KeyForwardRefIdeal.Ffn

open Cert.KeyForwardRefIdeal Cert.KeyForwardRefIdeal.Gen Cert.Ffn Idealize.ShloMosaic Idealize.ShloMosaic.TcCoe Idealize.SL.Sem

/-- The reference's value. -/
theorem value (u w : ℕ → ℕ → EReal) :
    truncf .bf16 (Host.dotGeneral (φ₁ := .bf16) (φ₂ := .f32) dot_S16384x256_S256x1536_S16384x1536_1_0_0_1_n_n none (mat 16384 256 u : FVec Ideal S16384x256 .bf16)
      (mat 256 1536 w : FVec Ideal S256x1536 .f32) : FVec Ideal S16384x1536 .f32) bitsLt_bf16_f32 = mat 16384 1536 (dotN 256 u w) := by
  funext i
  idx_vars i
  pointwise [mat]
  exact sum_nat 256 fun k => u i0 k * w k i1

end Cert.KeyForwardRefIdeal.Ffn

namespace Cert.Proof.KeyForward

open Cert.Ffn Idealize.ShloMosaic Idealize.SL.Sem

theorem frame_kernel : Cert.quiescent_KeyForward := fun m ρ _ => Cert.KeyForward.Gen.frame (F := Bits) m ρ

theorem frame_ideal : Cert.quiescent_KeyForwardIdeal := fun m ρ _ => Cert.KeyForwardIdeal.Gen.frame (F := Ideal) m ρ

theorem frame_reference : Cert.quiescent_KeyForwardRefIdeal := fun m ρ _ =>
  (θ_run Cert.KeyForwardRefIdeal.defs _ _).mono
    (fun r h => ⟨fun c => (h c).2, sem_eq_zero_of_no_sems (by decide) r.2⟩)
    (Cert.KeyForwardRefIdeal.Value.run (F := Ideal) m ρ)

theorem preserves : Cert.preserves_KeyForward_KeyForwardIdeal := trivial

/-- The call and the reference give the same result, on all arguments. -/
theorem algebraic : Cert.algebraic_KeyForwardIdeal_KeyForwardRefIdeal (hKeyForwardIdeal := Cert.KeyForwardIdeal.Gen.facts)
    (hKeyForwardRefIdeal := Cert.KeyForwardRefIdeal.Gen.facts) := by
  intro m g m' g' _ heq
  choose u hu using fun c : Dev Cert.KeyForwardIdeal.nD => exists_mat (a := 16384) (b := 256) (m ((c.tc : Thread Cert.KeyForwardIdeal.nD Cert.KeyForwardIdeal.τ).loc Cert.KeyForwardIdeal.main_arg0))
  choose w hw using fun c : Dev Cert.KeyForwardIdeal.nD => exists_mat (a := 256) (b := 1536) (m ((c.tc : Thread Cert.KeyForwardIdeal.nD Cert.KeyForwardIdeal.τ).loc Cert.KeyForwardIdeal.main_arg1))
  refine ⟨_, Cert.KeyForwardIdeal.Ffn.run m g u w hu hw,
    (θ_run Cert.KeyForwardRefIdeal.defs _ _).mono (fun r H c => ⟨(H c).1.trans ?_, (H c).2⟩)
      (Cert.KeyForwardRefIdeal.Value.run (F := Ideal) m' g')⟩
  rw [(heq c).1.trans (hu c), (heq c).2.trans (hw c)]
  exact Cert.KeyForwardRefIdeal.Ffn.value (u c) (w c)

end Cert.Proof.KeyForward

end
-- ==== Proof.Ffn.KeyRows.lean ====
/- The gradient of the product with the second weight of the key and the value in its rows. -/
module

public import proofs.«01_k».proof.Defs
public import proofs.«01_k».proof.Proof.Ffn.Mat
public import proofs.«01_k».proof.Proof.Gen.KeyRows.Frame
public import proofs.«01_k».proof.Proof.Gen.KeyRowsIdeal.Frame
public import proofs.«01_k».proof.Proof.Gen.KeyRowsRefIdeal.Run
public import Idealize.ShloMosaic.Lib.Quiescent

@[expose] public section

set_option maxRecDepth 16384

noncomputable section

namespace Cert.KeyRowsIdeal.Ffn

open Cert.KeyRowsIdeal Cert.KeyRowsIdeal.Gen Cert.Ffn Idealize.ShloMosaic Idealize.ShloMosaic.TcCoe Idealize.SL.Sem

theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

/-- The body's product of two blocks. -/
theorem pay_1 (f g : ℕ → ℕ → EReal) : k0_pay1 (F := Ideal) (mat 512 1536 f) (mat 256 1536 g) = mat 512 256 (dotN 1536 f (tr g)) := by
  funext i
  idx_vars i
  unfold k0_pay1
  pointwise [mat]
  exact sum_nat 1536 fun k => f i0 k * g i1 k

theorem out_2 (f g : ℕ → ℕ → EReal) : out0_2 (F := Ideal) (mat 512 1536 f) (mat 256 1536 g) = mat 512 256 (dotN 1536 f (tr g)) := by
  unfold out0_2
  rw [View.canon_unit_zero zero2, View.ld_unit_zero zero2, View.ld_unit_zero zero2, pay_1]

variable (m : (ℓ : Loc nD τ sig) → Buf (Elt Ideal) ℓ) (c : Dev nD) (g w : ℕ → ℕ → EReal)
  (hg : m (c, main_arg2) = mat 16384 1536 g) (hw : m (c, main_arg1) = mat 256 1536 w)

include hw in
/-- The weight as the call takes it. -/
theorem V_0 : V m c main_v0 = mat 256 1536 w := by
  have e : V m c main_v0 = (truncf .bf16 (m (c, main_arg1) : FVec Ideal S256x1536 .f32) bitsLt_bf16_f32 : FVec Ideal S256x1536 .bf16) := by
    unfold V
    after_results_simp <;> rfl
  rw [e, hw]
  funext i
  idx_vars i
  pointwise [mat]

include hg in
theorem blk_0 (t : Fin cfg0.N) : iblk m c 0 t = mat 512 1536 fun r k => g (512 * t.val + r) k := by
  obtain ⟨e0, e1⟩ := ix_0 t
  funext y
  have e : V m c (Pipeline.arrRef spec0 0) = mat 16384 1536 g := (V_main_arg2 m c).trans hg
  unfold iblk
  rw [e]
  blk_simp [mat, e0, e1]
  rw [Nat.mul_comm t.val 512]

include hw in
theorem blk_1 (t : Fin cfg0.N) : iblk m c 1 t = mat 256 1536 w := by
  obtain ⟨e0, e1⟩ := ix_1 t
  funext y
  have e : V m c (Pipeline.arrRef spec0 1) = mat 256 1536 w := V_0 m c w hw
  unfold iblk
  rw [e]
  blk_simp [mat, e0, e1]

include hg hw in
/-- The array of results after the last block. -/
theorem final_2 : (dats m 0 c).arrAt 2 cfg0.N = mat 16384 256 (dotN 1536 g (tr w)) := by
  refine (dats m 0 c).arrAt_eq_of_covers 2 _ (by decide +kernel) fun t hf y => ?_
  obtain ⟨e0, e1⟩ := ix_2 t
  rw [after0_2, blk_0 m c g hg, blk_1 m c w hw, out_2]
  blk_simp [mat, e0, e1]
  rw [Nat.mul_comm t.val 512]
  rfl

theorem run (m : (ℓ : Loc nD τ sig) → Buf (Elt Ideal) ℓ) (ρ : Dev nD → PrngReg) (g w : Dev nD → ℕ → ℕ → EReal)
    (hg : ∀ c : Dev nD, m ((c.tc : Thread nD τ).loc main_arg2) = mat 16384 1536 (g c))
    (hw : ∀ c : Dev nD, m ((c.tc : Thread nD τ).loc main_arg1) = mat 256 1536 (w c)) :
    θ_run (defs (F := Ideal)) (onTc (τ := τ) (main (F := Ideal))) ⟨m, fun _ => 0, ρ⟩ fun r => ∀ c : Dev nD,
      r.2.mem ((c.tc : Thread nD τ).loc main_v1) = mat 16384 256 (dotN 1536 (g c) (tr (w c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨((H.1 c).1 2).trans (final_2 m c (g c) (w c) (hg c) (hw c)), H.2.1 c⟩)
    (θ_run_and (run_main m ρ) (frame m ρ))

end Cert.KeyRowsIdeal.Ffn

namespace Cert.KeyRowsRefIdeal.Ffn

open Cert.KeyRowsRefIdeal Cert.KeyRowsRefIdeal.Gen Cert.Ffn Idealize.ShloMosaic Idealize.ShloMosaic.TcCoe Idealize.SL.Sem

/-- The reference's value. -/
theorem value (g w : ℕ → ℕ → EReal) :
    truncf .bf16 (Host.dotGeneral (φ₁ := .f32) (φ₂ := .f32) dot_S16384x1536_S256x1536_S16384x256_1_1_0_0_n_n none (extf .f32 (mat 16384 1536 g : FVec Ideal S16384x1536 .bf16) bitsLt_bf16_f32)
      (mat 256 1536 w : FVec Ideal S256x1536 .f32) : FVec Ideal S16384x256 .f32) bitsLt_bf16_f32 = mat 16384 256 (dotN 1536 g (tr w)) := by
  funext i
  idx_vars i
  pointwise [mat]
  exact sum_nat 1536 fun k => g i0 k * w i1 k

end Cert.KeyRowsRefIdeal.Ffn

namespace Cert.Proof.KeyRows

open Cert.Ffn Idealize.ShloMosaic Idealize.SL.Sem

theorem frame_kernel : Cert.quiescent_KeyRows := fun m ρ _ => Cert.KeyRows.Gen.frame (F := Bits) m ρ

theorem frame_ideal : Cert.quiescent_KeyRowsIdeal := fun m ρ _ => Cert.KeyRowsIdeal.Gen.frame (F := Ideal) m ρ

theorem frame_reference : Cert.quiescent_KeyRowsRefIdeal := fun m ρ _ =>
  (θ_run Cert.KeyRowsRefIdeal.defs _ _).mono
    (fun r h => ⟨fun c => (h c).2, sem_eq_zero_of_no_sems (by decide) r.2⟩)
    (Cert.KeyRowsRefIdeal.Value.run (F := Ideal) m ρ)

theorem preserves : Cert.preserves_KeyRows_KeyRowsIdeal := trivial

/-- The call and the reference give the same result, on all arguments. -/
theorem algebraic : Cert.algebraic_KeyRowsIdeal_KeyRowsRefIdeal (hKeyRowsIdeal := Cert.KeyRowsIdeal.Gen.facts)
    (hKeyRowsRefIdeal := Cert.KeyRowsRefIdeal.Gen.facts) := by
  intro m g m' g' _ heq
  choose d hd using fun c : Dev Cert.KeyRowsIdeal.nD => exists_mat (a := 16384) (b := 1536) (m ((c.tc : Thread Cert.KeyRowsIdeal.nD Cert.KeyRowsIdeal.τ).loc Cert.KeyRowsIdeal.main_arg2))
  choose w hw using fun c : Dev Cert.KeyRowsIdeal.nD => exists_mat (a := 256) (b := 1536) (m ((c.tc : Thread Cert.KeyRowsIdeal.nD Cert.KeyRowsIdeal.τ).loc Cert.KeyRowsIdeal.main_arg1))
  refine ⟨_, Cert.KeyRowsIdeal.Ffn.run m g d w hd hw,
    (θ_run Cert.KeyRowsRefIdeal.defs _ _).mono (fun r H c => ⟨(H c).1.trans ?_, (H c).2⟩)
      (Cert.KeyRowsRefIdeal.Value.run (F := Ideal) m' g')⟩
  rw [(heq c).2.2.trans (hd c), (heq c).2.1.trans (hw c)]
  exact Cert.KeyRowsRefIdeal.Ffn.value (d c) (w c)

end Cert.Proof.KeyRows

end
-- ==== Proof.Ffn.KeyWeight.lean ====
/- The gradient of the product with the second weight of the key and the value in its weight. -/
module

public import proofs.«01_k».proof.Defs
public import proofs.«01_k».proof.Proof.Ffn.Mat
public import proofs.«01_k».proof.Proof.Gen.KeyWeight.Frame
public import proofs.«01_k».proof.Proof.Gen.KeyWeightIdeal.Frame
public import proofs.«01_k».proof.Proof.Gen.KeyWeightRefIdeal.Run
public import Idealize.ShloMosaic.Lib.Quiescent

@[expose] public section

set_option maxRecDepth 16384

noncomputable section

namespace Cert.KeyWeightIdeal.Ffn

open Cert.KeyWeightIdeal Cert.KeyWeightIdeal.Gen Cert.Ffn Idealize.ShloMosaic Idealize.ShloMosaic.TcCoe Idealize.SL.Sem
open Idealize.ShloMosaic.Tactic

section
variable {F : FTy → Type} [FloatOps F]

/-- The first point stores its product. -/
theorem first (c : Dev nD) (i : grid0.Coords) (a3 : Memref sig .tc .vmem S1024x256 .bf16) (h3 : a3.IsWhole)
    (a4 : Memref sig .tc .vmem S1024x1536 .bf16) (h4 : a4.IsWhole) (a5 : Memref sig .tc .vmem S256x1536 .f32) (h5 : a5.IsWhole)
    (a6 : Memref sig .tc .vmem S256x1536 .f32) (h6 : a6.IsWhole)
    (hc0 : cond0_0 i) (hc1 : ¬cond0_1 i) (hc2 : ¬cond0_2 i) (x0 : Vec F S1024x256 .bf16) (x1 : Vec F S1024x1536 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S1024x256) zero2, View.ld_unit_zero (S := S1024x1536) zero2]

/-- A later point adds its product. -/
theorem middle (c : Dev nD) (i : grid0.Coords) (a3 : Memref sig .tc .vmem S1024x256 .bf16) (h3 : a3.IsWhole)
    (a4 : Memref sig .tc .vmem S1024x1536 .bf16) (h4 : a4.IsWhole) (a5 : Memref sig .tc .vmem S256x1536 .f32) (h5 : a5.IsWhole)
    (a6 : Memref sig .tc .vmem S256x1536 .f32) (h6 : a6.IsWhole)
    (hc0 : ¬cond0_0 i) (hc1 : cond0_1 i) (hc2 : ¬cond0_2 i) (x0 : Vec F S1024x256 .bf16) (x1 : Vec F S1024x1536 .bf16) (s : Vec F S256x1536 .f32) :
    sout0_B_0 c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero zero2]
  simp only [View.readAt_eq_ld, h3.read_unread, h4.read_unread, h6.read_unread, View.ld_unit_zero (S := S1024x256) zero2,
    View.ld_unit_zero (S := S1024x1536) zero2, View.ld_unit_zero (S := S256x1536) zero2]

/-- The last point writes the sum out. -/
theorem last (c : Dev nD) (i : grid0.Coords) (a3 : Memref sig .tc .vmem S1024x256 .bf16) (h3 : a3.IsWhole)
    (a4 : Memref sig .tc .vmem S1024x1536 .bf16) (h4 : a4.IsWhole) (a5 : Memref sig .tc .vmem S256x1536 .f32) (h5 : a5.IsWhole)
    (a6 : Memref sig .tc .vmem S256x1536 .f32) (h6 : a6.IsWhole)
    (hc0 : ¬cond0_0 i) (hc1 : cond0_1 i) (hc2 : cond0_2 i) (x0 : Vec F S1024x256 .bf16) (x1 : Vec F S1024x1536 .bf16) (s : Vec F S256x1536 .f32) :
    out0_C_2 c i a3 h3 a4 h4 a5 h5 a6 h6 hc0 hc1 hc2 x0 x1 s = k0_pay3 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero zero2, View.readCov_unit_zero (S := S256x1536) _ zero2]
  simp only [View.readAt_eq_ld, h3.read_unread, h4.read_unread, h6.read_unread, View.ld_unit_zero (S := S1024x256) zero2,
    View.ld_unit_zero (S := S1024x1536) zero2, View.ld_unit_zero (S := S256x1536) zero2]

end

theorem ix_0 : ∀ t : Fin cfg0.N, win0_0.index t 0 = t.val ∧ win0_0.index t 1 = 0 := by decide +kernel
theorem ix_1 : ∀ t : Fin cfg0.N, win0_1.index t 0 = t.val ∧ win0_1.index t 1 = 0 := by decide +kernel
theorem ix_2 : ∀ t : Fin cfg0.N, win0_2.index t 0 = 0 ∧ win0_2.index t 1 = 0 := by decide +kernel

/-- The product of two blocks along their rows. -/
theorem pay_2 (f g : ℕ → ℕ → EReal) : k0_pay2 (F := Ideal) (mat 1024 256 f) (mat 1024 1536 g) = mat 256 1536 (dotN 1024 (tr f) g) := by
  funext i
  idx_vars i
  unfold k0_pay2 k0_pay1
  pointwise [mat]
  exact sum_nat 1024 fun k => f k i0 * g k i1

theorem pay_3 (f g s : ℕ → ℕ → EReal) : k0_pay3 (F := Ideal) (mat 1024 256 f) (mat 1024 1536 g) (mat 256 1536 s)
    = mat 256 1536 fun i j => s i j + dotN 1024 (tr f) g i j := by
  funext i
  idx_vars i
  unfold k0_pay3 k0_pay1
  pointwise [mat]
  rw [sum_nat 1024 fun k => f k i0 * g k i1]
  rfl

variable (m : (ℓ : Loc nD τ sig) → Buf (Elt Ideal) ℓ) (c : Dev nD) (u g : ℕ → ℕ → EReal)
  (hu : m (c, main_arg0) = mat 16384 256 u) (hg : m (c, main_arg2) = mat 16384 1536 g)

include hu in
theorem blk_0 (t : Fin cfg0.N) : iblk m c 0 t = mat 1024 256 fun k r => u (1024 * t.val + k) r := by
  obtain ⟨e0, e1⟩ := ix_0 t
  funext y
  have e : V m c (Pipeline.arrRef spec0 0) = mat 16384 256 u := (V_main_arg0 m c).trans hu
  unfold iblk
  rw [e]
  blk_simp [mat, e0, e1]
  rw [Nat.mul_comm t.val 1024]

include hg in
theorem blk_1 (t : Fin cfg0.N) : iblk m c 1 t = mat 1024 1536 fun k r => g (1024 * t.val + k) r := by
  obtain ⟨e0, e1⟩ := ix_1 t
  funext y
  have e : V m c (Pipeline.arrRef spec0 1) = mat 16384 1536 g := (V_main_arg2 m c).trans hg
  unfold iblk
  rw [e]
  blk_simp [mat, e0, e1]
  rw [Nat.mul_comm t.val 1024]

/-- A further block of rows added to the product of the rows before it. -/
theorem dot_add (n i j : ℕ) : dotN (1024 * n) (tr u) g i j
    + dotN 1024 (tr fun k r => u (1024 * n + k) r) (fun k r => g (1024 * n + k) r) i j = dotN (1024 * (n + 1)) (tr u) g i j := by
  rw [Nat.mul_add_one]
  exact (Finset.sum_range_add (fun k => u k i * g k j) (1024 * n) 1024).symm

include hu hg in
/-- What the accumulator holds after a point that is not the last. -/
theorem sweep (n : ℕ) (hn : n < cfg0.N) (hl : ¬n % 16 = 15) : (outsAt0 m c n hn).2 = mat 256 1536 (dotN (1024 * (n + 1)) (tr u) g) := by
  have hN : cfg0.N = 16 := N_0
  induction n with
  | zero =>
    rw [outsAt0_A m c ⟨0, hn⟩ rfl (by dsimp only; omega) (by dsimp only; omega), first, blk_0 m c u hu, blk_1 m c g hg, pay_2]
    simp only [Nat.mul_zero, Nat.zero_add, Nat.mul_one]
  | succ n ih =>
    rw [outsAt0_B m c ⟨n + 1, hn⟩ (by dsimp only; omega) (by dsimp only; omega) hl, middle, blk_0 m c u hu, blk_1 m c g hg]
    have e := ih (by omega) (by omega)
    show k0_pay3 (F := Ideal) _ _ (outsAt0 m c n _).2 = _
    rw [e, pay_3]
    congr 1
    funext i j
    exact dot_add u g (n + 1) i j

include hu hg in
/-- What the last point writes. -/
theorem written (n : ℕ) (hn : n + 1 < cfg0.N) (hl : (n + 1) % 16 = 15) : (outsAt0 m c (n + 1) hn).1 = mat 256 1536 (dotN (1024 * (n + 2)) (tr u) g) := by
  have hN : cfg0.N = 16 := N_0
  rw [outsAt0_C m c ⟨n + 1, hn⟩ (by dsimp only; omega) (by dsimp only; omega) hl, last, blk_0 m c u hu, blk_1 m c g hg]
  have e := sweep m c u g hu hg n (by omega) (by omega)
  show k0_pay3 (F := Ideal) _ _ (outsAt0 m c n _).2 = _
  rw [e, pay_3]
  congr 1
  funext i j
  exact dot_add u g (n + 1) i j

include hu hg in
/-- The array of results after the last point. -/
theorem final_2 : (dats m 0 c).arrAt 2 cfg0.N = mat 256 1536 (dotN 16384 (tr u) g) := by
  refine (dats m 0 c).arrAt_eq_of_covers 2 _ (by decide +kernel) fun t hf y => ?_
  have ht : t.val % 16 = 15 := (flush0_2 t).1 hf
  obtain ⟨e0, e1⟩ := ix_2 t
  obtain ⟨n, hn⟩ := t
  have hN : n < 16 := lt_of_lt_of_eq hn N_0
  obtain rfl : n = 14 + 1 := by dsimp only at ht; omega
  rw [after0_2, written m c u g hu hg 14 hn ht]
  blk_simp [mat, e0, e1]

theorem run (m : (ℓ : Loc nD τ sig) → Buf (Elt Ideal) ℓ) (ρ : Dev nD → PrngReg) (u g : Dev nD → ℕ → ℕ → EReal)
    (hu : ∀ c : Dev nD, m ((c.tc : Thread nD τ).loc main_arg0) = mat 16384 256 (u c))
    (hg : ∀ c : Dev nD, m ((c.tc : Thread nD τ).loc main_arg2) = mat 16384 1536 (g c)) :
    θ_run (defs (F := Ideal)) (onTc (τ := τ) (main (F := Ideal))) ⟨m, fun _ => 0, ρ⟩ fun r => ∀ c : Dev nD,
      r.2.mem ((c.tc : Thread nD τ).loc main_v0) = mat 256 1536 (dotN 16384 (tr (u c)) (g c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨((H.1 c).1 2).trans (final_2 m c (u c) (g c) (hu c) (hg c)), H.2.1 c⟩)
    (θ_run_and (run_main m ρ) (frame m ρ))

end Cert.KeyWeightIdeal.Ffn

namespace Cert.KeyWeightRefIdeal.Ffn

open Cert.KeyWeightRefIdeal Cert.KeyWeightRefIdeal.Gen Cert.Ffn Idealize.ShloMosaic Idealize.ShloMosaic.TcCoe Idealize.SL.Sem

/-- The reference's value. -/
theorem value (u g : ℕ → ℕ → EReal) :
    transpose S256x1536 [1, 0] (Host.dotGeneral (φ₁ := .f32) (φ₂ := .bf16) dot_S16384x1536_S16384x256_S1536x256_0_0_1_1_n_n none (extf .f32 (mat 16384 1536 g : FVec Ideal S16384x1536 .bf16) bitsLt_bf16_f32)
      (mat 16384 256 u : FVec Ideal S16384x256 .bf16) : FVec Ideal S1536x256 .f32) transposes_S1536x256_S256x1536_1_0 = mat 256 1536 (dotN 16384 (tr u) g) := by
  funext i
  idx_vars i
  pointwise [mat]
  rw [sum_nat 16384 fun k => g k i1 * u k i0]
  exact Finset.sum_congr rfl fun k _ => mul_comm _ _

end Cert.KeyWeightRefIdeal.Ffn

namespace Cert.Proof.KeyWeight

open Cert.Ffn Idealize.ShloMosaic Idealize.SL.Sem

theorem frame_kernel : Cert.quiescent_KeyWeight := fun m ρ _ => Cert.KeyWeight.Gen.frame (F := Bits) m ρ

theorem frame_ideal : Cert.quiescent_KeyWeightIdeal := fun m ρ _ => Cert.KeyWeightIdeal.Gen.frame (F := Ideal) m ρ

theorem frame_reference : Cert.quiescent_KeyWeightRefIdeal := fun m ρ _ =>
  (θ_run Cert.KeyWeightRefIdeal.defs _ _).mono
    (fun r h => ⟨fun c => (h c).2, sem_eq_zero_of_no_sems (by decide) r.2⟩)
    (Cert.KeyWeightRefIdeal.Value.run (F := Ideal) m ρ)

theorem preserves : Cert.preserves_KeyWeight_KeyWeightIdeal := trivial

/-- The call and the reference give the same result, on all arguments. -/
theorem algebraic : Cert.algebraic_KeyWeightIdeal_KeyWeightRefIdeal (hKeyWeightIdeal := Cert.KeyWeightIdeal.Gen.facts)
    (hKeyWeightRefIdeal := Cert.KeyWeightRefIdeal.Gen.facts) := by
  intro m s m' s' _ heq
  choose u hu using fun c : Dev Cert.KeyWeightIdeal.nD => exists_mat (a := 16384) (b := 256) (m ((c.tc : Thread Cert.KeyWeightIdeal.nD Cert.KeyWeightIdeal.τ).loc Cert.KeyWeightIdeal.main_arg0))
  choose g hg using fun c : Dev Cert.KeyWeightIdeal.nD => exists_mat (a := 16384) (b := 1536) (m ((c.tc : Thread Cert.KeyWeightIdeal.nD Cert.KeyWeightIdeal.τ).loc Cert.KeyWeightIdeal.main_arg2))
  refine ⟨_, Cert.KeyWeightIdeal.Ffn.run m s u g hu hg,
    (θ_run Cert.KeyWeightRefIdeal.defs _ _).mono (fun r H c => ⟨(H c).1.trans ?_, (H c).2⟩)
      (Cert.KeyWeightRefIdeal.Value.run (F := Ideal) m' s')⟩
  rw [(heq c).1.trans (hu c), (heq c).2.2.trans (hg c)]
  exact Cert.KeyWeightRefIdeal.Ffn.value (u c) (g c)

end Cert.Proof.KeyWeight

end
-- ==== Proof.Ffn.Pad.lean ====
/- A matrix widened by columns of zeros. -/
module

public import proofs.«01_k».proof.Proof.Ffn.Mat

@[expose] public section

noncomputable section

namespace Cert.Ffn

/-- The first `n` columns of a matrix, then zeros. -/
def widen (n : ℕ) (f : ℕ → ℕ → EReal) (i j : ℕ) : EReal := if j < n then f i j else 0

theorem widen_lt {n j : ℕ} (h : j < n) (f : ℕ → ℕ → EReal) (i : ℕ) : widen n f i j = f i j := if_pos h

/-- The columns of zeros of both factors add nothing to a product along them. -/
theorem dotN_widen {n K : ℕ} (h : n ≤ K) (f g : ℕ → ℕ → EReal) (i j : ℕ) :
    dotN K (widen n f) (tr (widen n g)) i j = dotN n f (tr g) i j := by
  unfold dotN tr
  rw [← Finset.sum_subset (Finset.range_subset_range.mpr h)]
  · exact Finset.sum_congr rfl fun k hk => by rw [widen_lt (Finset.mem_range.mp hk), widen_lt (Finset.mem_range.mp hk)]
  · intro k _ hk
    have e : widen n f i k = 0 := if_neg (by simpa using hk)
    rw [e, zero_mul]

end Cert.Ffn

end
-- ==== Proof.Ffn.AInForward.lean ====
/- The product of the forward pass with the first input weight of the attention. -/
module

public import proofs.«01_k».proof.Defs
public import proofs.«01_k».proof.Proof.Ffn.Pad
public import proofs.«01_k».proof.Proof.Gen.AInForward.Frame
public import proofs.«01_k».proof.Proof.Gen.AInForwardIdeal.Frame
public import proofs.«01_k».proof.Proof.Gen.AInForwardIdeal.Run
public import proofs.«01_k».proof.Proof.Gen.AInForwardRefIdeal.Run
public import Idealize.ShloMosaic.Lib.Quiescent

@[expose] public section

set_option maxRecDepth 16384

noncomputable section

namespace Cert.AInForwardIdeal.Ffn

open Cert.AInForwardIdeal Cert.AInForwardIdeal.Gen Cert.Ffn Idealize.ShloMosaic Idealize.ShloMosaic.TcCoe Idealize.SL.Sem

theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

/-- The body's product of two blocks. -/
theorem pay_1 (f g : ℕ → ℕ → EReal) : k0_pay1 (F := Ideal) (mat 512 1024 f) (mat 1024 1024 g) = mat 512 1024 (dotN 1024 f g) := by
  funext i
  idx_vars i
  unfold k0_pay1
  pointwise [mat]
  exact sum_nat 1024 fun k => f i0 k * g k i1

theorem out_2 (f g : ℕ → ℕ → EReal) : out0_2 (F := Ideal) (mat 512 1024 f) (mat 1024 1024 g) = mat 512 1024 (dotN 1024 f g) := by
  unfold out0_2
  rw [View.canon_unit_zero zero2, View.ld_unit_zero zero2, View.ld_unit_zero zero2, pay_1]

variable (m : (ℓ : Loc nD τ sig) → Buf (Elt Ideal) ℓ) (c : Dev nD) (h w : ℕ → ℕ → EReal)
  (hh : m (c, main_arg0) = mat 16384 1024 h) (hw : m (c, main_arg1) = mat 1024 928 w)

/-- A weight widened to whole lanes. -/
theorem padded_w (f : ℕ → ℕ → EReal) : (truncf .bf16 (pad S1024x1024 ![0, 0] ![0, 96] ![0, 0] (mat 1024 928 f : FVec Ideal S1024x928 .f32)
      (sitofp .f32 (constantI S_ 32 0#32) : FVec Ideal S_ .f32) pads_S1024x928_S1024x1024_000_0960 h_S_ : FVec Ideal S1024x1024 .f32) bitsLt_bf16_f32 : FVec Ideal S1024x1024 .bf16)
    = mat 1024 1024 (widen 928 f) := by
  funext i
  idx_vars i
  pointwise [mat, widen]
  have z : (FloatOps.sitofp FTy.f32 0#32 : Ideal .f32) = 0 := by
    show (((0#32 : BitVec 32).toInt : ℝ) : EReal) = 0
    simp
  rw [z]
  rfl

include hw in
/-- The weight as the call takes it, widened to whole lanes. -/
theorem V_1 : V m c main_v1 = mat 1024 1024 (widen 928 w) := by
  have e : V m c main_v1 = (truncf .bf16 (pad S1024x1024 ![0, 0] ![0, 96] ![0, 0] (m (c, main_arg1) : FVec Ideal S1024x928 .f32)
      (sitofp .f32 (constantI S_ 32 0#32) : FVec Ideal S_ .f32) pads_S1024x928_S1024x1024_000_0960 h_S_ : FVec Ideal S1024x1024 .f32) bitsLt_bf16_f32 : FVec Ideal S1024x1024 .bf16) := by
    unfold V
    simp only [V0, hostOps0, hostOps0_1, hostOps0_2, List.flatten_cons, List.flatten_nil, List.append_nil, List.cons_append, List.nil_append]
    after_results_simp <;> rfl
  rw [e, hw]
  exact padded_w w

include hh in
theorem blk_0 (t : Fin cfg0.N) : iblk m c 0 t = mat 512 1024 fun r k => h (512 * t.val + r) k := by
  obtain ⟨e0, e1⟩ := ix_0 t
  funext y
  have e : V m c (Pipeline.arrRef spec0 0) = mat 16384 1024 h := (V_main_arg0 m c).trans hh
  unfold iblk
  rw [e]
  blk_simp [mat, e0, e1]
  rw [Nat.mul_comm t.val 512]

include hw in
theorem blk_1 (t : Fin cfg0.N) : iblk m c 1 t = mat 1024 1024 (widen 928 w) := by
  obtain ⟨e0, e1⟩ := ix_1 t
  funext y
  have e : V m c (Pipeline.arrRef spec0 1) = mat 1024 1024 (widen 928 w) := V_1 m c w hw
  unfold iblk
  rw [e]
  blk_simp [mat, e0, e1]

include hh hw in
/-- The array of results after the last block. -/
theorem final_2 : (dats m 0 c).arrAt 2 cfg0.N = mat 16384 1024 (dotN 1024 h (widen 928 w)) := by
  refine (dats m 0 c).arrAt_eq_of_covers 2 _ (by decide +kernel) fun t hf y => ?_
  obtain ⟨e0, e1⟩ := ix_2 t
  rw [after0_2, blk_0 m c h hh, blk_1 m c w hw, out_2]
  blk_simp [mat, e0, e1]
  rw [Nat.mul_comm t.val 512]
  rfl

/-- The result's own columns, of the widened ones. -/
theorem cut (h w : ℕ → ℕ → EReal) :
    extractStridedSlice S16384x928 ![0, 0] (mat 16384 1024 (dotN 1024 h (widen 928 w)) : FVec Ideal S16384x1024 .f32) slices_S16384x1024_S16384x928_0_0
      = mat 16384 928 (dotN 1024 h w) := by
  funext i
  idx_vars i
  pointwise [mat]
  exact Finset.sum_congr rfl fun k _ => congrArg _ (widen_lt i1.isLt w k)

theorem run (m : (ℓ : Loc nD τ sig) → Buf (Elt Ideal) ℓ) (ρ : Dev nD → PrngReg) (h w : Dev nD → ℕ → ℕ → EReal)
    (hh : ∀ c : Dev nD, m ((c.tc : Thread nD τ).loc main_arg0) = mat 16384 1024 (h c))
    (hw : ∀ c : Dev nD, m ((c.tc : Thread nD τ).loc main_arg1) = mat 1024 928 (w c)) :
    θ_run (defs (F := Ideal)) (onTc (τ := τ) (main (F := Ideal))) ⟨m, fun _ => 0, ρ⟩ fun r => ∀ c : Dev nD,
      r.2.mem ((c.tc : Thread nD τ).loc main_v3) = mat 16384 928 (dotN 1024 (h c) (w c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r H c => ⟨(H c).1.trans (by
      show extractStridedSlice S16384x928 ![0, 0] ((dats m 0 c).arrAt 2 cfg0.N) slices_S16384x1024_S16384x928_0_0 = _
      rw [final_2 m c (h c) (w c) (hh c) (hw c)]
      exact cut (h c) (w c)), (H c).2⟩)
    (Cert.AInForwardIdeal.Value.run (F := Ideal) m ρ)

end Cert.AInForwardIdeal.Ffn

namespace Cert.AInForwardRefIdeal.Ffn

open Cert.AInForwardRefIdeal Cert.AInForwardRefIdeal.Gen Cert.Ffn Idealize.ShloMosaic Idealize.ShloMosaic.TcCoe Idealize.SL.Sem

/-- The reference's value. -/
theorem value (h w : ℕ → ℕ → EReal) :
    (Host.dotGeneral (φ₁ := .bf16) (φ₂ := .f32) dot_S16384x1024_S1024x928_S16384x928_1_0_0_1_n_n none (mat 16384 1024 h : FVec Ideal S16384x1024 .bf16)
      (mat 1024 928 w : FVec Ideal S1024x928 .f32) : FVec Ideal S16384x928 .f32) = mat 16384 928 (dotN 1024 h w) := by
  funext i
  idx_vars i
  pointwise [mat]
  exact sum_nat 1024 fun k => h i0 k * w k i1

end Cert.AInForwardRefIdeal.Ffn

namespace Cert.Proof.AInForward

open Cert.Ffn Idealize.ShloMosaic Idealize.SL.Sem

theorem frame_kernel : Cert.quiescent_AInForward := fun m ρ _ => Cert.AInForward.Gen.frame (F := Bits) m ρ

theorem frame_ideal : Cert.quiescent_AInForwardIdeal := fun m ρ _ => Cert.AInForwardIdeal.Gen.frame (F := Ideal) m ρ

theorem frame_reference : Cert.quiescent_AInForwardRefIdeal := fun m ρ _ =>
  (θ_run Cert.AInForwardRefIdeal.defs _ _).mono
    (fun r h => ⟨fun c => (h c).2, sem_eq_zero_of_no_sems (by decide) r.2⟩)
    (Cert.AInForwardRefIdeal.Value.run (F := Ideal) m ρ)

theorem preserves : Cert.preserves_AInForward_AInForwardIdeal := trivial

/-- The call and the reference give the same result, on all arguments. -/
theorem algebraic : Cert.algebraic_AInForwardIdeal_AInForwardRefIdeal (hAInForwardIdeal := Cert.AInForwardIdeal.Gen.facts)
    (hAInForwardRefIdeal := Cert.AInForwardRefIdeal.Gen.facts) := by
  intro m g m' g' _ heq
  choose h hh using fun c : Dev Cert.AInForwardIdeal.nD => exists_mat (a := 16384) (b := 1024) (m ((c.tc : Thread Cert.AInForwardIdeal.nD Cert.AInForwardIdeal.τ).loc Cert.AInForwardIdeal.main_arg0))
  choose w hw using fun c : Dev Cert.AInForwardIdeal.nD => exists_mat (a := 1024) (b := 928) (m ((c.tc : Thread Cert.AInForwardIdeal.nD Cert.AInForwardIdeal.τ).loc Cert.AInForwardIdeal.main_arg1))
  refine ⟨_, Cert.AInForwardIdeal.Ffn.run m g h w hh hw,
    (θ_run Cert.AInForwardRefIdeal.defs _ _).mono (fun r H c => ⟨(H c).1.trans ?_, (H c).2⟩)
      (Cert.AInForwardRefIdeal.Value.run (F := Ideal) m' g')⟩
  rw [(heq c).1.trans (hh c), (heq c).2.trans (hw c)]
  exact Cert.AInForwardRefIdeal.Ffn.value (h c) (w c)

end Cert.Proof.AInForward

end
-- ==== Proof.Ffn.AInRows.lean ====
/- The gradient of the product with the first input weight of the attention in its rows. -/
module

public import proofs.«01_k».proof.Defs
public import proofs.«01_k».proof.Proof.Ffn.Pad
public import proofs.«01_k».proof.Proof.Gen.AInRows.Frame
public import proofs.«01_k».proof.Proof.Gen.AInRowsIdeal.Frame
public import proofs.«01_k».proof.Proof.Gen.AInRowsRefIdeal.Run
public import Idealize.ShloMosaic.Lib.Quiescent

@[expose] public section

set_option maxRecDepth 16384

noncomputable section

namespace Cert.AInRowsIdeal.Ffn

open Cert.AInRowsIdeal Cert.AInRowsIdeal.Gen Cert.Ffn Idealize.ShloMosaic Idealize.ShloMosaic.TcCoe Idealize.SL.Sem

theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

/-- The body's product of two blocks. -/
theorem pay_1 (f g : ℕ → ℕ → EReal) : k0_pay1 (F := Ideal) (mat 512 1024 f) (mat 1024 1024 g) = mat 512 1024 (dotN 1024 f (tr g)) := by
  funext i
  idx_vars i
  unfold k0_pay1
  pointwise [mat]
  exact sum_nat 1024 fun k => f i0 k * g i1 k

theorem out_2 (f g : ℕ → ℕ → EReal) : out0_2 (F := Ideal) (mat 512 1024 f) (mat 1024 1024 g) = mat 512 1024 (dotN 1024 f (tr g)) := by
  unfold out0_2
  rw [View.canon_unit_zero zero2, View.ld_unit_zero zero2, View.ld_unit_zero zero2, pay_1]

variable (m : (ℓ : Loc nD τ sig) → Buf (Elt Ideal) ℓ) (c : Dev nD) (g w : ℕ → ℕ → EReal)
  (hg : m (c, main_arg2) = mat 16384 928 g) (hw : m (c, main_arg1) = mat 1024 928 w)

/-- A cotangent widened to whole lanes. -/
theorem padded_g (f : ℕ → ℕ → EReal) : (pad S16384x1024 ![0, 0] ![0, 96] ![0, 0] (mat 16384 928 f : FVec Ideal S16384x928 .f32)
      (sitofp .f32 (constantI S_ 32 0#32) : FVec Ideal S_ .f32) pads_S16384x928_S16384x1024_000_0960 h_S_ : FVec Ideal S16384x1024 .f32)
    = mat 16384 1024 (widen 928 f) := by
  funext i
  idx_vars i
  pointwise [mat, widen]
  have z : (FloatOps.sitofp FTy.f32 0#32 : Ideal .f32) = 0 := by
    show (((0#32 : BitVec 32).toInt : ℝ) : EReal) = 0
    simp
  rw [z]
  rfl

include hg in
/-- The cotangent as the call takes it, widened to whole lanes. -/
theorem V_0 : V m c main_v0 = mat 16384 1024 (widen 928 g) := by
  have e : V m c main_v0 = (pad S16384x1024 ![0, 0] ![0, 96] ![0, 0] (m (c, main_arg2) : FVec Ideal S16384x928 .f32)
      (sitofp .f32 (constantI S_ 32 0#32) : FVec Ideal S_ .f32) pads_S16384x928_S16384x1024_000_0960 h_S_ : FVec Ideal S16384x1024 .f32) := by
    unfold V
    simp only [hostOps0, hostOps0_1, hostOps0_2, hostOps0_3, hostOps0_4, List.flatten_cons, List.flatten_nil, List.append_nil, List.cons_append, List.nil_append]
    after_results_simp <;> rfl
  rw [e, hg]
  exact padded_g g

/-- A weight widened to whole lanes. -/
theorem padded_w (f : ℕ → ℕ → EReal) : (truncf .bf16 (pad S1024x1024 ![0, 0] ![0, 96] ![0, 0] (mat 1024 928 f : FVec Ideal S1024x928 .f32)
      (sitofp .f32 (constantI S_ 32 0#32) : FVec Ideal S_ .f32) pads_S1024x928_S1024x1024_000_0960 h_S_ : FVec Ideal S1024x1024 .f32) bitsLt_bf16_f32 : FVec Ideal S1024x1024 .bf16)
    = mat 1024 1024 (widen 928 f) := by
  funext i
  idx_vars i
  pointwise [mat, widen]
  have z : (FloatOps.sitofp FTy.f32 0#32 : Ideal .f32) = 0 := by
    show (((0#32 : BitVec 32).toInt : ℝ) : EReal) = 0
    simp
  rw [z]
  rfl

include hw in
/-- The weight as the call takes it, widened to whole lanes. -/
theorem V_2 : V m c main_v2 = mat 1024 1024 (widen 928 w) := by
  have e : V m c main_v2 = (truncf .bf16 (pad S1024x1024 ![0, 0] ![0, 96] ![0, 0] (m (c, main_arg1) : FVec Ideal S1024x928 .f32)
      (sitofp .f32 (constantI S_ 32 0#32) : FVec Ideal S_ .f32) pads_S1024x928_S1024x1024_000_0960 h_S_ : FVec Ideal S1024x1024 .f32) bitsLt_bf16_f32 : FVec Ideal S1024x1024 .bf16) := by
    unfold V
    simp only [hostOps0, hostOps0_1, hostOps0_2, hostOps0_3, hostOps0_4, List.flatten_cons, List.flatten_nil, List.append_nil, List.cons_append, List.nil_append]
    after_results_simp <;> rfl
  rw [e, hw]
  exact padded_w w

include hg in
theorem blk_0 (t : Fin cfg0.N) : iblk m c 0 t = mat 512 1024 fun r k => widen 928 g (512 * t.val + r) k := by
  obtain ⟨e0, e1⟩ := ix_0 t
  funext y
  have e : V m c (Pipeline.arrRef spec0 0) = mat 16384 1024 (widen 928 g) := V_0 m c g hg
  unfold iblk
  rw [e]
  blk_simp [mat, e0, e1]
  rw [Nat.mul_comm t.val 512]

include hw in
theorem blk_1 (t : Fin cfg0.N) : iblk m c 1 t = mat 1024 1024 (widen 928 w) := by
  obtain ⟨e0, e1⟩ := ix_1 t
  funext y
  have e : V m c (Pipeline.arrRef spec0 1) = mat 1024 1024 (widen 928 w) := V_2 m c w hw
  unfold iblk
  rw [e]
  blk_simp [mat, e0, e1]

include hg hw in
/-- The array of results after the last block. -/
theorem final_2 : (dats m 0 c).arrAt 2 cfg0.N = mat 16384 1024 (dotN 928 g (tr w)) := by
  refine (dats m 0 c).arrAt_eq_of_covers 2 _ (by decide +kernel) fun t hf y => ?_
  obtain ⟨e0, e1⟩ := ix_2 t
  rw [after0_2, blk_0 m c g hg, blk_1 m c w hw, out_2]
  blk_simp [mat, e0, e1]
  rw [Nat.mul_comm t.val 512]
  exact dotN_widen (by decide) g w _ _

theorem run (m : (ℓ : Loc nD τ sig) → Buf (Elt Ideal) ℓ) (ρ : Dev nD → PrngReg) (g w : Dev nD → ℕ → ℕ → EReal)
    (hg : ∀ c : Dev nD, m ((c.tc : Thread nD τ).loc main_arg2) = mat 16384 928 (g c))
    (hw : ∀ c : Dev nD, m ((c.tc : Thread nD τ).loc main_arg1) = mat 1024 928 (w c)) :
    θ_run (defs (F := Ideal)) (onTc (τ := τ) (main (F := Ideal))) ⟨m, fun _ => 0, ρ⟩ fun r => ∀ c : Dev nD,
      r.2.mem ((c.tc : Thread nD τ).loc main_v3) = mat 16384 1024 (dotN 928 (g c) (tr (w c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨((H.1 c).1 2).trans (final_2 m c (g c) (w c) (hg c) (hw c)), H.2.1 c⟩)
    (θ_run_and (run_main m ρ) (frame m ρ))

end Cert.AInRowsIdeal.Ffn

namespace Cert.AInRowsRefIdeal.Ffn

open Cert.AInRowsRefIdeal Cert.AInRowsRefIdeal.Gen Cert.Ffn Idealize.ShloMosaic Idealize.ShloMosaic.TcCoe Idealize.SL.Sem

/-- The reference's value. -/
theorem value (g w : ℕ → ℕ → EReal) :
    truncf .bf16 (Host.dotGeneral (φ₁ := .f32) (φ₂ := .f32) dot_S16384x928_S1024x928_S16384x1024_1_1_0_0_n_n none (mat 16384 928 g : FVec Ideal S16384x928 .f32)
      (mat 1024 928 w : FVec Ideal S1024x928 .f32) : FVec Ideal S16384x1024 .f32) bitsLt_bf16_f32 = mat 16384 1024 (dotN 928 g (tr w)) := by
  funext i
  idx_vars i
  pointwise [mat]
  exact sum_nat 928 fun k => g i0 k * w i1 k

end Cert.AInRowsRefIdeal.Ffn

namespace Cert.Proof.AInRows

open Cert.Ffn Idealize.ShloMosaic Idealize.SL.Sem

theorem frame_kernel : Cert.quiescent_AInRows := fun m ρ _ => Cert.AInRows.Gen.frame (F := Bits) m ρ

theorem frame_ideal : Cert.quiescent_AInRowsIdeal := fun m ρ _ => Cert.AInRowsIdeal.Gen.frame (F := Ideal) m ρ

theorem frame_reference : Cert.quiescent_AInRowsRefIdeal := fun m ρ _ =>
  (θ_run Cert.AInRowsRefIdeal.defs _ _).mono
    (fun r h => ⟨fun c => (h c).2, sem_eq_zero_of_no_sems (by decide) r.2⟩)
    (Cert.AInRowsRefIdeal.Value.run (F := Ideal) m ρ)

theorem preserves : Cert.preserves_AInRows_AInRowsIdeal := trivial

/-- The call and the reference give the same result, on all arguments. -/
theorem algebraic : Cert.algebraic_AInRowsIdeal_AInRowsRefIdeal (hAInRowsIdeal := Cert.AInRowsIdeal.Gen.facts)
    (hAInRowsRefIdeal := Cert.AInRowsRefIdeal.Gen.facts) := by
  intro m g m' g' _ heq
  choose d hd using fun c : Dev Cert.AInRowsIdeal.nD => exists_mat (a := 16384) (b := 928) (m ((c.tc : Thread Cert.AInRowsIdeal.nD Cert.AInRowsIdeal.τ).loc Cert.AInRowsIdeal.main_arg2))
  choose w hw using fun c : Dev Cert.AInRowsIdeal.nD => exists_mat (a := 1024) (b := 928) (m ((c.tc : Thread Cert.AInRowsIdeal.nD Cert.AInRowsIdeal.τ).loc Cert.AInRowsIdeal.main_arg1))
  refine ⟨_, Cert.AInRowsIdeal.Ffn.run m g d w hd hw,
    (θ_run Cert.AInRowsRefIdeal.defs _ _).mono (fun r H c => ⟨(H c).1.trans ?_, (H c).2⟩)
      (Cert.AInRowsRefIdeal.Value.run (F := Ideal) m' g')⟩
  rw [(heq c).2.2.trans (hd c), (heq c).2.1.trans (hw c)]
  exact Cert.AInRowsRefIdeal.Ffn.value (d c) (w c)

end Cert.Proof.AInRows

end
-- ==== Proof.Ffn.AInWeight.lean ====
/- The gradient of the product with the first input weight of the attention in its weight. -/
module

public import proofs.«01_k».proof.Defs
public import proofs.«01_k».proof.Proof.Ffn.Pad
public import proofs.«01_k».proof.Proof.Gen.AInWeight.Frame
public import proofs.«01_k».proof.Proof.Gen.AInWeightIdeal.Frame
public import proofs.«01_k».proof.Proof.Gen.AInWeightIdeal.Run
public import proofs.«01_k».proof.Proof.Gen.AInWeightRefIdeal.Run
public import Idealize.ShloMosaic.Lib.Quiescent

@[expose] public section

set_option maxRecDepth 16384

noncomputable section

namespace Cert.AInWeightIdeal.Ffn

open Cert.AInWeightIdeal Cert.AInWeightIdeal.Gen Cert.Ffn Idealize.ShloMosaic Idealize.ShloMosaic.TcCoe Idealize.SL.Sem
open Idealize.ShloMosaic.Tactic

section
variable {F : FTy → Type} [FloatOps F]

/-- The first point stores its product. -/
theorem first (c : Dev nD) (i : grid0.Coords) (a3 : Memref sig .tc .vmem S1024x1024 .bf16) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole)
    (hc0 : cond0_0 i) (hc1 : ¬cond0_1 i) (hc2 : ¬cond0_2 i) (x0 : Vec F S1024x1024 .bf16) (x1 : Vec F S1024x1024 .f32) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S1024x1024) zero2, View.ld_unit_zero (S := S1024x1024) zero2]

/-- A later point adds its product. -/
theorem middle (c : Dev nD) (i : grid0.Coords) (a3 : Memref sig .tc .vmem S1024x1024 .bf16) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (hc2 : ¬cond0_2 i) (x0 : Vec F S1024x1024 .bf16) (x1 : Vec F S1024x1024 .f32) (s : Vec F S1024x1024 .f32) :
    sout0_B_0 c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero zero2]
  simp only [View.readAt_eq_ld, h3.read_unread, h4.read_unread, h6.read_unread, View.ld_unit_zero (S := S1024x1024) zero2,
    View.ld_unit_zero (S := S1024x1024) zero2, View.ld_unit_zero (S := S1024x1024) zero2]

/-- The last point writes the sum out. -/
theorem last (c : Dev nD) (i : grid0.Coords) (a3 : Memref sig .tc .vmem S1024x1024 .bf16) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (hc2 : cond0_2 i) (x0 : Vec F S1024x1024 .bf16) (x1 : Vec F S1024x1024 .f32) (s : Vec F S1024x1024 .f32) :
    out0_C_2 c i a3 h3 a4 h4 a5 h5 a6 h6 hc0 hc1 hc2 x0 x1 s = k0_pay3 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero zero2, View.readCov_unit_zero (S := S1024x1024) _ zero2]
  simp only [View.readAt_eq_ld, h3.read_unread, h4.read_unread, h6.read_unread, View.ld_unit_zero (S := S1024x1024) zero2,
    View.ld_unit_zero (S := S1024x1024) zero2, View.ld_unit_zero (S := S1024x1024) zero2]

end

theorem ix_0 : ∀ t : Fin cfg0.N, win0_0.index t 0 = t.val ∧ win0_0.index t 1 = 0 := by decide +kernel
theorem ix_1 : ∀ t : Fin cfg0.N, win0_1.index t 0 = t.val ∧ win0_1.index t 1 = 0 := by decide +kernel
theorem ix_2 : ∀ t : Fin cfg0.N, win0_2.index t 0 = 0 ∧ win0_2.index t 1 = 0 := by decide +kernel

/-- The product of two blocks along their rows. -/
theorem pay_2 (f g : ℕ → ℕ → EReal) : k0_pay2 (F := Ideal) (mat 1024 1024 f) (mat 1024 1024 g) = mat 1024 1024 (dotN 1024 (tr f) g) := by
  funext i
  idx_vars i
  unfold k0_pay2 k0_pay1
  pointwise [mat]
  exact sum_nat 1024 fun k => f k i0 * g k i1

theorem pay_3 (f g s : ℕ → ℕ → EReal) : k0_pay3 (F := Ideal) (mat 1024 1024 f) (mat 1024 1024 g) (mat 1024 1024 s)
    = mat 1024 1024 fun i j => s i j + dotN 1024 (tr f) g i j := by
  funext i
  idx_vars i
  unfold k0_pay3 k0_pay1
  pointwise [mat]
  rw [sum_nat 1024 fun k => f k i0 * g k i1]
  rfl

variable (m : (ℓ : Loc nD τ sig) → Buf (Elt Ideal) ℓ) (c : Dev nD) (h g : ℕ → ℕ → EReal)
  (hh : m (c, main_arg0) = mat 16384 1024 h) (hg : m (c, main_arg2) = mat 16384 928 g)

/-- A cotangent widened to whole lanes. -/
theorem padded_g (f : ℕ → ℕ → EReal) : (pad S16384x1024 ![0, 0] ![0, 96] ![0, 0] (mat 16384 928 f : FVec Ideal S16384x928 .f32)
      (sitofp .f32 (constantI S_ 32 0#32) : FVec Ideal S_ .f32) pads_S16384x928_S16384x1024_000_0960 h_S_ : FVec Ideal S16384x1024 .f32)
    = mat 16384 1024 (widen 928 f) := by
  funext i
  idx_vars i
  pointwise [mat, widen]
  have z : (FloatOps.sitofp FTy.f32 0#32 : Ideal .f32) = 0 := by
    show (((0#32 : BitVec 32).toInt : ℝ) : EReal) = 0
    simp
  rw [z]
  rfl

include hg in
/-- The cotangent as the call takes it, widened to whole lanes. -/
theorem V_0 : V m c main_v0 = mat 16384 1024 (widen 928 g) := by
  have e : V m c main_v0 = (pad S16384x1024 ![0, 0] ![0, 96] ![0, 0] (m (c, main_arg2) : FVec Ideal S16384x928 .f32)
      (sitofp .f32 (constantI S_ 32 0#32) : FVec Ideal S_ .f32) pads_S16384x928_S16384x1024_000_0960 h_S_ : FVec Ideal S16384x1024 .f32) := by
    unfold V
    simp only [V0, hostOps0, hostOps0_1, List.flatten_cons, List.flatten_nil, List.append_nil, List.cons_append, List.nil_append]
    after_results_simp <;> rfl
  rw [e, hg]
  exact padded_g g

include hh in
theorem blk_0 (t : Fin cfg0.N) : iblk m c 0 t = mat 1024 1024 fun k r => h (1024 * t.val + k) r := by
  obtain ⟨e0, e1⟩ := ix_0 t
  funext y
  have e : V m c (Pipeline.arrRef spec0 0) = mat 16384 1024 h := (V_main_arg0 m c).trans hh
  unfold iblk
  rw [e]
  blk_simp [mat, e0, e1]
  rw [Nat.mul_comm t.val 1024]

include hg in
theorem blk_1 (t : Fin cfg0.N) : iblk m c 1 t = mat 1024 1024 fun k r => widen 928 g (1024 * t.val + k) r := by
  obtain ⟨e0, e1⟩ := ix_1 t
  funext y
  have e : V m c (Pipeline.arrRef spec0 1) = mat 16384 1024 (widen 928 g) := V_0 m c g hg
  unfold iblk
  rw [e]
  blk_simp [mat, e0, e1]
  rw [Nat.mul_comm t.val 1024]

/-- A further block of rows added to the product of the rows before it. -/
theorem dot_add (n i j : ℕ) : dotN (1024 * n) (tr h) g i j
    + dotN 1024 (tr fun k r => h (1024 * n + k) r) (fun k r => g (1024 * n + k) r) i j = dotN (1024 * (n + 1)) (tr h) g i j := by
  rw [Nat.mul_add_one]
  exact (Finset.sum_range_add (fun k => h k i * g k j) (1024 * n) 1024).symm

include hh hg in
/-- What the accumulator holds after a point that is not the last. -/
theorem sweep (n : ℕ) (hn : n < cfg0.N) (hl : ¬n % 16 = 15) : (outsAt0 m c n hn).2 = mat 1024 1024 (dotN (1024 * (n + 1)) (tr h) (widen 928 g)) := by
  have hN : cfg0.N = 16 := N_0
  induction n with
  | zero =>
    rw [outsAt0_A m c ⟨0, hn⟩ rfl (by dsimp only; omega) (by dsimp only; omega), first, blk_0 m c h hh, blk_1 m c g hg, pay_2]
    simp only [Nat.mul_zero, Nat.zero_add, Nat.mul_one]
  | succ n ih =>
    rw [outsAt0_B m c ⟨n + 1, hn⟩ (by dsimp only; omega) (by dsimp only; omega) hl, middle, blk_0 m c h hh, blk_1 m c g hg]
    have e := ih (by omega) (by omega)
    show k0_pay3 (F := Ideal) _ _ (outsAt0 m c n _).2 = _
    rw [e, pay_3]
    congr 1
    funext i j
    exact dot_add h (widen 928 g) (n + 1) i j

include hh hg in
/-- What the last point writes. -/
theorem written (n : ℕ) (hn : n + 1 < cfg0.N) (hl : (n + 1) % 16 = 15) : (outsAt0 m c (n + 1) hn).1 = mat 1024 1024 (dotN (1024 * (n + 2)) (tr h) (widen 928 g)) := by
  have hN : cfg0.N = 16 := N_0
  rw [outsAt0_C m c ⟨n + 1, hn⟩ (by dsimp only; omega) (by dsimp only; omega) hl, last, blk_0 m c h hh, blk_1 m c g hg]
  have e := sweep m c h g hh hg n (by omega) (by omega)
  show k0_pay3 (F := Ideal) _ _ (outsAt0 m c n _).2 = _
  rw [e, pay_3]
  congr 1
  funext i j
  exact dot_add h (widen 928 g) (n + 1) i j

include hh hg in
/-- The array of results after the last point. -/
theorem final_2 : (dats m 0 c).arrAt 2 cfg0.N = mat 1024 1024 (dotN 16384 (tr h) (widen 928 g)) := by
  refine (dats m 0 c).arrAt_eq_of_covers 2 _ (by decide +kernel) fun t hf y => ?_
  have ht : t.val % 16 = 15 := (flush0_2 t).1 hf
  obtain ⟨e0, e1⟩ := ix_2 t
  obtain ⟨n, hn⟩ := t
  have hN : n < 16 := lt_of_lt_of_eq hn N_0
  obtain rfl : n = 14 + 1 := by dsimp only at ht; omega
  rw [after0_2, written m c h g hh hg 14 hn ht]
  blk_simp [mat, e0, e1]

/-- The result's own columns, of the widened ones. -/
theorem cut (h g : ℕ → ℕ → EReal) :
    extractStridedSlice S1024x928 ![0, 0] (mat 1024 1024 (dotN 16384 (tr h) (widen 928 g)) : FVec Ideal S1024x1024 .f32) slices_S1024x1024_S1024x928_0_0
      = mat 1024 928 (dotN 16384 (tr h) g) := by
  funext i
  idx_vars i
  pointwise [mat]
  exact Finset.sum_congr rfl fun k _ => congrArg _ (widen_lt i1.isLt g k)

theorem run (m : (ℓ : Loc nD τ sig) → Buf (Elt Ideal) ℓ) (ρ : Dev nD → PrngReg) (h g : Dev nD → ℕ → ℕ → EReal)
    (hh : ∀ c : Dev nD, m ((c.tc : Thread nD τ).loc main_arg0) = mat 16384 1024 (h c))
    (hg : ∀ c : Dev nD, m ((c.tc : Thread nD τ).loc main_arg2) = mat 16384 928 (g c)) :
    θ_run (defs (F := Ideal)) (onTc (τ := τ) (main (F := Ideal))) ⟨m, fun _ => 0, ρ⟩ fun r => ∀ c : Dev nD,
      r.2.mem ((c.tc : Thread nD τ).loc main_v2) = mat 1024 928 (dotN 16384 (tr (h c)) (g c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨(H c).1.trans (by
      show extractStridedSlice S1024x928 ![0, 0] ((dats m 0 c).arrAt 2 cfg0.N) slices_S1024x1024_S1024x928_0_0 = _
      rw [final_2 m c (h c) (g c) (hh c) (hg c)]
      exact cut (h c) (g c)), (H c).2⟩)
    (Cert.AInWeightIdeal.Value.run (F := Ideal) m ρ)

end Cert.AInWeightIdeal.Ffn

namespace Cert.AInWeightRefIdeal.Ffn

open Cert.AInWeightRefIdeal Cert.AInWeightRefIdeal.Gen Cert.Ffn Idealize.ShloMosaic Idealize.ShloMosaic.TcCoe Idealize.SL.Sem

/-- The reference's value. -/
theorem value (h g : ℕ → ℕ → EReal) :
    transpose S1024x928 [1, 0] (Host.dotGeneral (φ₁ := .f32) (φ₂ := .bf16) dot_S16384x928_S16384x1024_S928x1024_0_0_1_1_n_n none (mat 16384 928 g : FVec Ideal S16384x928 .f32)
      (mat 16384 1024 h : FVec Ideal S16384x1024 .bf16) : FVec Ideal S928x1024 .f32) transposes_S928x1024_S1024x928_1_0 = mat 1024 928 (dotN 16384 (tr h) g) := by
  funext i
  idx_vars i
  pointwise [mat]
  rw [sum_nat 16384 fun k => g k i1 * h k i0]
  exact Finset.sum_congr rfl fun k _ => mul_comm _ _

end Cert.AInWeightRefIdeal.Ffn

namespace Cert.Proof.AInWeight

open Cert.Ffn Idealize.ShloMosaic Idealize.SL.Sem

theorem frame_kernel : Cert.quiescent_AInWeight := fun m ρ _ => Cert.AInWeight.Gen.frame (F := Bits) m ρ

theorem frame_ideal : Cert.quiescent_AInWeightIdeal := fun m ρ _ => Cert.AInWeightIdeal.Gen.frame (F := Ideal) m ρ

theorem frame_reference : Cert.quiescent_AInWeightRefIdeal := fun m ρ _ =>
  (θ_run Cert.AInWeightRefIdeal.defs _ _).mono
    (fun r h => ⟨fun c => (h c).2, sem_eq_zero_of_no_sems (by decide) r.2⟩)
    (Cert.AInWeightRefIdeal.Value.run (F := Ideal) m ρ)

theorem preserves : Cert.preserves_AInWeight_AInWeightIdeal := trivial

/-- The call and the reference give the same result, on all arguments. -/
theorem algebraic : Cert.algebraic_AInWeightIdeal_AInWeightRefIdeal (hAInWeightIdeal := Cert.AInWeightIdeal.Gen.facts)
    (hAInWeightRefIdeal := Cert.AInWeightRefIdeal.Gen.facts) := by
  intro m s m' s' _ heq
  choose h hh using fun c : Dev Cert.AInWeightIdeal.nD => exists_mat (a := 16384) (b := 1024) (m ((c.tc : Thread Cert.AInWeightIdeal.nD Cert.AInWeightIdeal.τ).loc Cert.AInWeightIdeal.main_arg0))
  choose g hg using fun c : Dev Cert.AInWeightIdeal.nD => exists_mat (a := 16384) (b := 928) (m ((c.tc : Thread Cert.AInWeightIdeal.nD Cert.AInWeightIdeal.τ).loc Cert.AInWeightIdeal.main_arg2))
  refine ⟨_, Cert.AInWeightIdeal.Ffn.run m s h g hh hg,
    (θ_run Cert.AInWeightRefIdeal.defs _ _).mono (fun r H c => ⟨(H c).1.trans ?_, (H c).2⟩)
      (Cert.AInWeightRefIdeal.Value.run (F := Ideal) m' s')⟩
  rw [(heq c).1.trans (hh c), (heq c).2.2.trans (hg c)]
  exact Cert.AInWeightRefIdeal.Ffn.value (h c) (g c)

end Cert.Proof.AInWeight

end
-- ==== Proof.Ffn.OutForward.lean ====
/- The product of the forward pass with an output weight. -/
module

public import proofs.«01_k».proof.Defs
public import proofs.«01_k».proof.Proof.Ffn.Mat
public import proofs.«01_k».proof.Proof.Gen.OutForward.Frame
public import proofs.«01_k».proof.Proof.Gen.OutForwardIdeal.Frame
public import proofs.«01_k».proof.Proof.Gen.OutForwardRefIdeal.Run
public import Idealize.ShloMosaic.Lib.Quiescent

@[expose] public section

set_option maxRecDepth 16384

noncomputable section

namespace Cert.OutForwardIdeal.Ffn

open Cert.OutForwardIdeal Cert.OutForwardIdeal.Gen Cert.Ffn Idealize.ShloMosaic Idealize.ShloMosaic.TcCoe Idealize.SL.Sem

theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

/-- The body's product of two blocks. -/
theorem pay_1 (f g : ℕ → ℕ → EReal) : k0_pay1 (F := Ideal) (mat 512 1024 f) (mat 1024 1024 g) = mat 512 1024 (dotN 1024 f g) := by
  funext i
  idx_vars i
  unfold k0_pay1
  pointwise [mat]
  exact sum_nat 1024 fun k => f i0 k * g k i1

theorem out_2 (f g : ℕ → ℕ → EReal) : out0_2 (F := Ideal) (mat 512 1024 f) (mat 1024 1024 g) = mat 512 1024 (dotN 1024 f g) := by
  unfold out0_2
  rw [View.canon_unit_zero zero2, View.ld_unit_zero zero2, View.ld_unit_zero zero2, pay_1]

variable (m : (ℓ : Loc nD τ sig) → Buf (Elt Ideal) ℓ) (c : Dev nD) (u w : ℕ → ℕ → EReal)
  (hu : m (c, main_arg0) = mat 16384 1024 u) (hw : m (c, main_arg1) = mat 1024 1024 w)

include hu in
theorem blk_0 (t : Fin cfg0.N) : iblk m c 0 t = mat 512 1024 fun r k => u (512 * t.val + r) k := by
  obtain ⟨e0, e1⟩ := ix_0 t
  funext y
  have e : V m c (Pipeline.arrRef spec0 0) = mat 16384 1024 u := (V_main_arg0 m c).trans hu
  unfold iblk
  rw [e]
  blk_simp [mat, e0, e1]
  rw [Nat.mul_comm t.val 512]

include hw in
theorem blk_1 (t : Fin cfg0.N) : iblk m c 1 t = mat 1024 1024 w := by
  obtain ⟨e0, e1⟩ := ix_1 t
  funext y
  have e : V m c (Pipeline.arrRef spec0 1) = mat 1024 1024 w := (V_main_arg1 m c).trans hw
  unfold iblk
  rw [e]
  blk_simp [mat, e0, e1]

include hu hw in
/-- The array of results after the last block. -/
theorem final_2 : (dats m 0 c).arrAt 2 cfg0.N = mat 16384 1024 (dotN 1024 u w) := by
  refine (dats m 0 c).arrAt_eq_of_covers 2 _ (by decide +kernel) fun t hf y => ?_
  obtain ⟨e0, e1⟩ := ix_2 t
  rw [after0_2, blk_0 m c u hu, blk_1 m c w hw, out_2]
  blk_simp [mat, e0, e1]
  rw [Nat.mul_comm t.val 512]
  rfl

theorem run (m : (ℓ : Loc nD τ sig) → Buf (Elt Ideal) ℓ) (ρ : Dev nD → PrngReg) (u w : Dev nD → ℕ → ℕ → EReal)
    (hu : ∀ c : Dev nD, m ((c.tc : Thread nD τ).loc main_arg0) = mat 16384 1024 (u c))
    (hw : ∀ c : Dev nD, m ((c.tc : Thread nD τ).loc main_arg1) = mat 1024 1024 (w c)) :
    θ_run (defs (F := Ideal)) (onTc (τ := τ) (main (F := Ideal))) ⟨m, fun _ => 0, ρ⟩ fun r => ∀ c : Dev nD,
      r.2.mem ((c.tc : Thread nD τ).loc main_v0) = mat 16384 1024 (dotN 1024 (u c) (w c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r H c => ⟨((H.1 c).1 2).trans (final_2 m c (u c) (w c) (hu c) (hw c)), H.2.1 c⟩)
    (θ_run_and (run_main m ρ) (frame m ρ))

end Cert.OutForwardIdeal.Ffn

namespace Cert.OutForwardRefIdeal.Ffn

open Cert.OutForwardRefIdeal Cert.OutForwardRefIdeal.Gen Cert.Ffn Idealize.ShloMosaic Idealize.ShloMosaic.TcCoe Idealize.SL.Sem

/-- The reference's value. -/
theorem value (u w : ℕ → ℕ → EReal) :
    extf .f32 (truncf .bf16 (Host.dotGeneral (φ₁ := .bf16) (φ₂ := .bf16) dot_S16384x1024_S1024x1024_S16384x1024_1_0_0_1_n_n none (mat 16384 1024 u : FVec Ideal S16384x1024 .bf16)
      (mat 1024 1024 w : FVec Ideal S1024x1024 .bf16) : FVec Ideal S16384x1024 .f32) bitsLt_bf16_f32) bitsLt_bf16_f32 = mat 16384 1024 (dotN 1024 u w) := by
  funext i
  idx_vars i
  pointwise [mat]
  exact sum_nat 1024 fun k => u i0 k * w k i1

end Cert.OutForwardRefIdeal.Ffn

namespace Cert.Proof.OutForward

open Cert.Ffn Idealize.ShloMosaic Idealize.SL.Sem

theorem frame_kernel : Cert.quiescent_OutForward := fun m ρ _ => Cert.OutForward.Gen.frame (F := Bits) m ρ

theorem frame_ideal : Cert.quiescent_OutForwardIdeal := fun m ρ _ => Cert.OutForwardIdeal.Gen.frame (F := Ideal) m ρ

theorem frame_reference : Cert.quiescent_OutForwardRefIdeal := fun m ρ _ =>
  (θ_run Cert.OutForwardRefIdeal.defs _ _).mono
    (fun r h => ⟨fun c => (h c).2, sem_eq_zero_of_no_sems (by decide) r.2⟩)
    (Cert.OutForwardRefIdeal.Value.run (F := Ideal) m ρ)

theorem preserves : Cert.preserves_OutForward_OutForwardIdeal := trivial

/-- The call and the reference give the same result, on all arguments. -/
theorem algebraic : Cert.algebraic_OutForwardIdeal_OutForwardRefIdeal (hOutForwardIdeal := Cert.OutForwardIdeal.Gen.facts)
    (hOutForwardRefIdeal := Cert.OutForwardRefIdeal.Gen.facts) := by
  intro m g m' g' _ heq
  choose u hu using fun c : Dev Cert.OutForwardIdeal.nD => exists_mat (a := 16384) (b := 1024) (m ((c.tc : Thread Cert.OutForwardIdeal.nD Cert.OutForwardIdeal.τ).loc Cert.OutForwardIdeal.main_arg0))
  choose w hw using fun c : Dev Cert.OutForwardIdeal.nD => exists_mat (a := 1024) (b := 1024) (m ((c.tc : Thread Cert.OutForwardIdeal.nD Cert.OutForwardIdeal.τ).loc Cert.OutForwardIdeal.main_arg1))
  refine ⟨_, Cert.OutForwardIdeal.Ffn.run m g u w hu hw,
    (θ_run Cert.OutForwardRefIdeal.defs _ _).mono (fun r H c => ⟨(H c).1.trans ?_, (H c).2⟩)
      (Cert.OutForwardRefIdeal.Value.run (F := Ideal) m' g')⟩
  rw [(heq c).1.trans (hu c), (heq c).2.trans (hw c)]
  exact Cert.OutForwardRefIdeal.Ffn.value (u c) (w c)

end Cert.Proof.OutForward

end
-- ==== Proof.Ffn.OutRows.lean ====
/- The gradient of the product with an output weight in its rows. -/
module

public import proofs.«01_k».proof.Defs
public import proofs.«01_k».proof.Proof.Ffn.Mat
public import proofs.«01_k».proof.Proof.Gen.OutRows.Frame
public import proofs.«01_k».proof.Proof.Gen.OutRowsIdeal.Frame
public import proofs.«01_k».proof.Proof.Gen.OutRowsRefIdeal.Run
public import Idealize.ShloMosaic.Lib.Quiescent

@[expose] public section

set_option maxRecDepth 16384

noncomputable section

namespace Cert.OutRowsIdeal.Ffn

open Cert.OutRowsIdeal Cert.OutRowsIdeal.Gen Cert.Ffn Idealize.ShloMosaic Idealize.ShloMosaic.TcCoe Idealize.SL.Sem

theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

/-- The body's product of two blocks. -/
theorem pay_1 (f g : ℕ → ℕ → EReal) : k0_pay1 (F := Ideal) (mat 512 1024 f) (mat 1024 1024 g) = mat 512 1024 (dotN 1024 f (tr g)) := by
  funext i
  idx_vars i
  unfold k0_pay1
  pointwise [mat]
  exact sum_nat 1024 fun k => f i0 k * g i1 k

theorem out_2 (f g : ℕ → ℕ → EReal) : out0_2 (F := Ideal) (mat 512 1024 f) (mat 1024 1024 g) = mat 512 1024 (dotN 1024 f (tr g)) := by
  unfold out0_2
  rw [View.canon_unit_zero zero2, View.ld_unit_zero zero2, View.ld_unit_zero zero2, pay_1]

variable (m : (ℓ : Loc nD τ sig) → Buf (Elt Ideal) ℓ) (c : Dev nD) (g w : ℕ → ℕ → EReal)
  (hg : m (c, main_arg2) = mat 16384 1024 g) (hw : m (c, main_arg1) = mat 1024 1024 w)

include hg in
theorem blk_0 (t : Fin cfg0.N) : iblk m c 0 t = mat 512 1024 fun r k => g (512 * t.val + r) k := by
  obtain ⟨e0, e1⟩ := ix_0 t
  funext y
  have e : V m c (Pipeline.arrRef spec0 0) = mat 16384 1024 g := (V_main_arg2 m c).trans hg
  unfold iblk
  rw [e]
  blk_simp [mat, e0, e1]
  rw [Nat.mul_comm t.val 512]

include hw in
theorem blk_1 (t : Fin cfg0.N) : iblk m c 1 t = mat 1024 1024 w := by
  obtain ⟨e0, e1⟩ := ix_1 t
  funext y
  have e : V m c (Pipeline.arrRef spec0 1) = mat 1024 1024 w := (V_main_arg1 m c).trans hw
  unfold iblk
  rw [e]
  blk_simp [mat, e0, e1]

include hg hw in
/-- The array of results after the last block. -/
theorem final_2 : (dats m 0 c).arrAt 2 cfg0.N = mat 16384 1024 (dotN 1024 g (tr w)) := by
  refine (dats m 0 c).arrAt_eq_of_covers 2 _ (by decide +kernel) fun t hf y => ?_
  obtain ⟨e0, e1⟩ := ix_2 t
  rw [after0_2, blk_0 m c g hg, blk_1 m c w hw, out_2]
  blk_simp [mat, e0, e1]
  rw [Nat.mul_comm t.val 512]
  rfl

theorem run (m : (ℓ : Loc nD τ sig) → Buf (Elt Ideal) ℓ) (ρ : Dev nD → PrngReg) (g w : Dev nD → ℕ → ℕ → EReal)
    (hg : ∀ c : Dev nD, m ((c.tc : Thread nD τ).loc main_arg2) = mat 16384 1024 (g c))
    (hw : ∀ c : Dev nD, m ((c.tc : Thread nD τ).loc main_arg1) = mat 1024 1024 (w c)) :
    θ_run (defs (F := Ideal)) (onTc (τ := τ) (main (F := Ideal))) ⟨m, fun _ => 0, ρ⟩ fun r => ∀ c : Dev nD,
      r.2.mem ((c.tc : Thread nD τ).loc main_v0) = mat 16384 1024 (dotN 1024 (g c) (tr (w c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨((H.1 c).1 2).trans (final_2 m c (g c) (w c) (hg c) (hw c)), H.2.1 c⟩)
    (θ_run_and (run_main m ρ) (frame m ρ))

end Cert.OutRowsIdeal.Ffn

namespace Cert.OutRowsRefIdeal.Ffn

open Cert.OutRowsRefIdeal Cert.OutRowsRefIdeal.Gen Cert.Ffn Idealize.ShloMosaic Idealize.ShloMosaic.TcCoe Idealize.SL.Sem

/-- The reference's value. -/
theorem value (g w : ℕ → ℕ → EReal) :
    truncf .bf16 (Host.dotGeneral (φ₁ := .f32) (φ₂ := .bf16) dot_S16384x1024_S1024x1024_S16384x1024_1_1_0_0_n_n none (extf .f32 (truncf .bf16 (mat 16384 1024 g : FVec Ideal S16384x1024 .f32) bitsLt_bf16_f32) bitsLt_bf16_f32)
      (mat 1024 1024 w : FVec Ideal S1024x1024 .bf16) : FVec Ideal S16384x1024 .f32) bitsLt_bf16_f32 = mat 16384 1024 (dotN 1024 g (tr w)) := by
  funext i
  idx_vars i
  pointwise [mat]
  exact sum_nat 1024 fun k => g i0 k * w i1 k

end Cert.OutRowsRefIdeal.Ffn

namespace Cert.Proof.OutRows

open Cert.Ffn Idealize.ShloMosaic Idealize.SL.Sem

theorem frame_kernel : Cert.quiescent_OutRows := fun m ρ _ => Cert.OutRows.Gen.frame (F := Bits) m ρ

theorem frame_ideal : Cert.quiescent_OutRowsIdeal := fun m ρ _ => Cert.OutRowsIdeal.Gen.frame (F := Ideal) m ρ

theorem frame_reference : Cert.quiescent_OutRowsRefIdeal := fun m ρ _ =>
  (θ_run Cert.OutRowsRefIdeal.defs _ _).mono
    (fun r h => ⟨fun c => (h c).2, sem_eq_zero_of_no_sems (by decide) r.2⟩)
    (Cert.OutRowsRefIdeal.Value.run (F := Ideal) m ρ)

theorem preserves : Cert.preserves_OutRows_OutRowsIdeal := trivial

/-- The call and the reference give the same result, on all arguments. -/
theorem algebraic : Cert.algebraic_OutRowsIdeal_OutRowsRefIdeal (hOutRowsIdeal := Cert.OutRowsIdeal.Gen.facts)
    (hOutRowsRefIdeal := Cert.OutRowsRefIdeal.Gen.facts) := by
  intro m g m' g' _ heq
  choose d hd using fun c : Dev Cert.OutRowsIdeal.nD => exists_mat (a := 16384) (b := 1024) (m ((c.tc : Thread Cert.OutRowsIdeal.nD Cert.OutRowsIdeal.τ).loc Cert.OutRowsIdeal.main_arg2))
  choose w hw using fun c : Dev Cert.OutRowsIdeal.nD => exists_mat (a := 1024) (b := 1024) (m ((c.tc : Thread Cert.OutRowsIdeal.nD Cert.OutRowsIdeal.τ).loc Cert.OutRowsIdeal.main_arg1))
  refine ⟨_, Cert.OutRowsIdeal.Ffn.run m g d w hd hw,
    (θ_run Cert.OutRowsRefIdeal.defs _ _).mono (fun r H c => ⟨(H c).1.trans ?_, (H c).2⟩)
      (Cert.OutRowsRefIdeal.Value.run (F := Ideal) m' g')⟩
  rw [(heq c).2.2.trans (hd c), (heq c).2.1.trans (hw c)]
  exact Cert.OutRowsRefIdeal.Ffn.value (d c) (w c)

end Cert.Proof.OutRows

end
-- ==== Proof.Ffn.OutWeight.lean ====
/- The gradient of the product with an output weight in its weight. -/
module

public import proofs.«01_k».proof.Defs
public import proofs.«01_k».proof.Proof.Ffn.Mat
public import proofs.«01_k».proof.Proof.Gen.OutWeight.Frame
public import proofs.«01_k».proof.Proof.Gen.OutWeightIdeal.Frame
public import proofs.«01_k».proof.Proof.Gen.OutWeightRefIdeal.Run
public import Idealize.ShloMosaic.Lib.Quiescent

@[expose] public section

set_option maxRecDepth 16384

noncomputable section

namespace Cert.OutWeightIdeal.Ffn

open Cert.OutWeightIdeal Cert.OutWeightIdeal.Gen Cert.Ffn Idealize.ShloMosaic Idealize.ShloMosaic.TcCoe Idealize.SL.Sem
open Idealize.ShloMosaic.Tactic

section
variable {F : FTy → Type} [FloatOps F]

/-- The first point stores its product. -/
theorem first (c : Dev nD) (i : grid0.Coords) (a3 : Memref sig .tc .vmem S1024x1024 .bf16) (h3 : a3.IsWhole)
    (a4 : Memref sig .tc .vmem S1024x1024 .f32) (h4 : a4.IsWhole) (a5 : Memref sig .tc .vmem S1024x1024 .bf16) (h5 : a5.IsWhole)
    (a6 : Memref sig .tc .vmem S1024x1024 .f32) (h6 : a6.IsWhole)
    (hc0 : cond0_0 i) (hc1 : ¬cond0_1 i) (hc2 : ¬cond0_2 i) (x0 : Vec F S1024x1024 .bf16) (x1 : Vec F S1024x1024 .f32) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S1024x1024) zero2, View.ld_unit_zero (S := S1024x1024) zero2]

/-- A later point adds its product. -/
theorem middle (c : Dev nD) (i : grid0.Coords) (a3 : Memref sig .tc .vmem S1024x1024 .bf16) (h3 : a3.IsWhole)
    (a4 : Memref sig .tc .vmem S1024x1024 .f32) (h4 : a4.IsWhole) (a5 : Memref sig .tc .vmem S1024x1024 .bf16) (h5 : a5.IsWhole)
    (a6 : Memref sig .tc .vmem S1024x1024 .f32) (h6 : a6.IsWhole)
    (hc0 : ¬cond0_0 i) (hc1 : cond0_1 i) (hc2 : ¬cond0_2 i) (x0 : Vec F S1024x1024 .bf16) (x1 : Vec F S1024x1024 .f32) (s : Vec F S1024x1024 .f32) :
    sout0_B_0 c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero zero2]
  simp only [View.readAt_eq_ld, h3.read_unread, h4.read_unread, h6.read_unread, View.ld_unit_zero (S := S1024x1024) zero2,
    View.ld_unit_zero (S := S1024x1024) zero2, View.ld_unit_zero (S := S1024x1024) zero2]

/-- The last point writes the sum out. -/
theorem last (c : Dev nD) (i : grid0.Coords) (a3 : Memref sig .tc .vmem S1024x1024 .bf16) (h3 : a3.IsWhole)
    (a4 : Memref sig .tc .vmem S1024x1024 .f32) (h4 : a4.IsWhole) (a5 : Memref sig .tc .vmem S1024x1024 .bf16) (h5 : a5.IsWhole)
    (a6 : Memref sig .tc .vmem S1024x1024 .f32) (h6 : a6.IsWhole)
    (hc0 : ¬cond0_0 i) (hc1 : cond0_1 i) (hc2 : cond0_2 i) (x0 : Vec F S1024x1024 .bf16) (x1 : Vec F S1024x1024 .f32) (s : Vec F S1024x1024 .f32) :
    out0_C_2 c i a3 h3 a4 h4 a5 h5 a6 h6 hc0 hc1 hc2 x0 x1 s = k0_pay4 (k0_pay3 x0 x1 s) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero zero2, View.readCov_unit_zero (S := S1024x1024) _ zero2]
  simp only [View.readAt_eq_ld, h3.read_unread, h4.read_unread, h6.read_unread, View.ld_unit_zero (S := S1024x1024) zero2,
    View.ld_unit_zero (S := S1024x1024) zero2, View.ld_unit_zero (S := S1024x1024) zero2]

end

theorem ix_0 : ∀ t : Fin cfg0.N, win0_0.index t 0 = t.val ∧ win0_0.index t 1 = 0 := by decide +kernel
theorem ix_1 : ∀ t : Fin cfg0.N, win0_1.index t 0 = t.val ∧ win0_1.index t 1 = 0 := by decide +kernel
theorem ix_2 : ∀ t : Fin cfg0.N, win0_2.index t 0 = 0 ∧ win0_2.index t 1 = 0 := by decide +kernel

/-- The product of two blocks along their rows. -/
theorem pay_2 (f g : ℕ → ℕ → EReal) : k0_pay2 (F := Ideal) (mat 1024 1024 f) (mat 1024 1024 g) = mat 1024 1024 (dotN 1024 (tr f) g) := by
  funext i
  idx_vars i
  unfold k0_pay2 k0_pay1
  pointwise [mat]
  exact sum_nat 1024 fun k => f k i0 * g k i1

theorem pay_3 (f g s : ℕ → ℕ → EReal) : k0_pay3 (F := Ideal) (mat 1024 1024 f) (mat 1024 1024 g) (mat 1024 1024 s)
    = mat 1024 1024 fun i j => s i j + dotN 1024 (tr f) g i j := by
  funext i
  idx_vars i
  unfold k0_pay3 k0_pay1
  pointwise [mat]
  rw [sum_nat 1024 fun k => f k i0 * g k i1]
  rfl

theorem pay_4 (s : ℕ → ℕ → EReal) : k0_pay4 (F := Ideal) (mat 1024 1024 s) = mat 1024 1024 s := by
  funext i
  idx_vars i
  unfold k0_pay4
  pointwise [mat]

variable (m : (ℓ : Loc nD τ sig) → Buf (Elt Ideal) ℓ) (c : Dev nD) (u g : ℕ → ℕ → EReal)
  (hu : m (c, main_arg0) = mat 16384 1024 u) (hg : m (c, main_arg2) = mat 16384 1024 g)

include hu in
theorem blk_0 (t : Fin cfg0.N) : iblk m c 0 t = mat 1024 1024 fun k r => u (1024 * t.val + k) r := by
  obtain ⟨e0, e1⟩ := ix_0 t
  funext y
  have e : V m c (Pipeline.arrRef spec0 0) = mat 16384 1024 u := (V_main_arg0 m c).trans hu
  unfold iblk
  rw [e]
  blk_simp [mat, e0, e1]
  rw [Nat.mul_comm t.val 1024]

include hg in
theorem blk_1 (t : Fin cfg0.N) : iblk m c 1 t = mat 1024 1024 fun k r => g (1024 * t.val + k) r := by
  obtain ⟨e0, e1⟩ := ix_1 t
  funext y
  have e : V m c (Pipeline.arrRef spec0 1) = mat 16384 1024 g := (V_main_arg2 m c).trans hg
  unfold iblk
  rw [e]
  blk_simp [mat, e0, e1]
  rw [Nat.mul_comm t.val 1024]

/-- A further block of rows added to the product of the rows before it. -/
theorem dot_add (n i j : ℕ) : dotN (1024 * n) (tr u) g i j
    + dotN 1024 (tr fun k r => u (1024 * n + k) r) (fun k r => g (1024 * n + k) r) i j = dotN (1024 * (n + 1)) (tr u) g i j := by
  rw [Nat.mul_add_one]
  exact (Finset.sum_range_add (fun k => u k i * g k j) (1024 * n) 1024).symm

include hu hg in
/-- What the accumulator holds after a point that is not the last. -/
theorem sweep (n : ℕ) (hn : n < cfg0.N) (hl : ¬n % 16 = 15) : (outsAt0 m c n hn).2 = mat 1024 1024 (dotN (1024 * (n + 1)) (tr u) g) := by
  have hN : cfg0.N = 16 := N_0
  induction n with
  | zero =>
    rw [outsAt0_A m c ⟨0, hn⟩ rfl (by dsimp only; omega) (by dsimp only; omega), first, blk_0 m c u hu, blk_1 m c g hg, pay_2]
    simp only [Nat.mul_zero, Nat.zero_add, Nat.mul_one]
  | succ n ih =>
    rw [outsAt0_B m c ⟨n + 1, hn⟩ (by dsimp only; omega) (by dsimp only; omega) hl, middle, blk_0 m c u hu, blk_1 m c g hg]
    have e := ih (by omega) (by omega)
    show k0_pay3 (F := Ideal) _ _ (outsAt0 m c n _).2 = _
    rw [e, pay_3]
    congr 1
    funext i j
    exact dot_add u g (n + 1) i j

include hu hg in
/-- What the last point writes. -/
theorem written (n : ℕ) (hn : n + 1 < cfg0.N) (hl : (n + 1) % 16 = 15) : (outsAt0 m c (n + 1) hn).1 = mat 1024 1024 (dotN (1024 * (n + 2)) (tr u) g) := by
  have hN : cfg0.N = 16 := N_0
  rw [outsAt0_C m c ⟨n + 1, hn⟩ (by dsimp only; omega) (by dsimp only; omega) hl, last, blk_0 m c u hu, blk_1 m c g hg]
  have e := sweep m c u g hu hg n (by omega) (by omega)
  show k0_pay4 (F := Ideal) (k0_pay3 (F := Ideal) _ _ (outsAt0 m c n _).2) = _
  rw [e, pay_3, pay_4]
  congr 1
  funext i j
  exact dot_add u g (n + 1) i j

include hu hg in
/-- The array of results after the last point. -/
theorem final_2 : (dats m 0 c).arrAt 2 cfg0.N = mat 1024 1024 (dotN 16384 (tr u) g) := by
  refine (dats m 0 c).arrAt_eq_of_covers 2 _ (by decide +kernel) fun t hf y => ?_
  have ht : t.val % 16 = 15 := (flush0_2 t).1 hf
  obtain ⟨e0, e1⟩ := ix_2 t
  obtain ⟨n, hn⟩ := t
  have hN : n < 16 := lt_of_lt_of_eq hn N_0
  obtain rfl : n = 14 + 1 := by dsimp only at ht; omega
  rw [after0_2, written m c u g hu hg 14 hn ht]
  blk_simp [mat, e0, e1]

theorem run (m : (ℓ : Loc nD τ sig) → Buf (Elt Ideal) ℓ) (ρ : Dev nD → PrngReg) (u g : Dev nD → ℕ → ℕ → EReal)
    (hu : ∀ c : Dev nD, m ((c.tc : Thread nD τ).loc main_arg0) = mat 16384 1024 (u c))
    (hg : ∀ c : Dev nD, m ((c.tc : Thread nD τ).loc main_arg2) = mat 16384 1024 (g c)) :
    θ_run (defs (F := Ideal)) (onTc (τ := τ) (main (F := Ideal))) ⟨m, fun _ => 0, ρ⟩ fun r => ∀ c : Dev nD,
      r.2.mem ((c.tc : Thread nD τ).loc main_v0) = mat 1024 1024 (dotN 16384 (tr (u c)) (g c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨((H.1 c).1 2).trans (final_2 m c (u c) (g c) (hu c) (hg c)), H.2.1 c⟩)
    (θ_run_and (run_main m ρ) (frame m ρ))

end Cert.OutWeightIdeal.Ffn

namespace Cert.OutWeightRefIdeal.Ffn

open Cert.OutWeightRefIdeal Cert.OutWeightRefIdeal.Gen Cert.Ffn Idealize.ShloMosaic Idealize.ShloMosaic.TcCoe Idealize.SL.Sem

/-- The reference's value. -/
theorem value (u g : ℕ → ℕ → EReal) :
    truncf .bf16 (transpose S1024x1024 [1, 0] (Host.dotGeneral (φ₁ := .f32) (φ₂ := .bf16) dot_S16384x1024_S16384x1024_S1024x1024_0_0_1_1_n_n none (extf .f32 (truncf .bf16 (mat 16384 1024 g : FVec Ideal S16384x1024 .f32) bitsLt_bf16_f32) bitsLt_bf16_f32)
      (mat 16384 1024 u : FVec Ideal S16384x1024 .bf16) : FVec Ideal S1024x1024 .f32) transposes_S1024x1024_S1024x1024_1_0) bitsLt_bf16_f32 = mat 1024 1024 (dotN 16384 (tr u) g) := by
  funext i
  idx_vars i
  pointwise [mat]
  rw [sum_nat 16384 fun k => g k i1 * u k i0]
  exact Finset.sum_congr rfl fun k _ => mul_comm _ _

end Cert.OutWeightRefIdeal.Ffn

namespace Cert.Proof.OutWeight

open Cert.Ffn Idealize.ShloMosaic Idealize.SL.Sem

theorem frame_kernel : Cert.quiescent_OutWeight := fun m ρ _ => Cert.OutWeight.Gen.frame (F := Bits) m ρ

theorem frame_ideal : Cert.quiescent_OutWeightIdeal := fun m ρ _ => Cert.OutWeightIdeal.Gen.frame (F := Ideal) m ρ

theorem frame_reference : Cert.quiescent_OutWeightRefIdeal := fun m ρ _ =>
  (θ_run Cert.OutWeightRefIdeal.defs _ _).mono
    (fun r h => ⟨fun c => (h c).2, sem_eq_zero_of_no_sems (by decide) r.2⟩)
    (Cert.OutWeightRefIdeal.Value.run (F := Ideal) m ρ)

theorem preserves : Cert.preserves_OutWeight_OutWeightIdeal := trivial

/-- The call and the reference give the same result, on all arguments. -/
theorem algebraic : Cert.algebraic_OutWeightIdeal_OutWeightRefIdeal (hOutWeightIdeal := Cert.OutWeightIdeal.Gen.facts)
    (hOutWeightRefIdeal := Cert.OutWeightRefIdeal.Gen.facts) := by
  intro m s m' s' _ heq
  choose u hu using fun c : Dev Cert.OutWeightIdeal.nD => exists_mat (a := 16384) (b := 1024) (m ((c.tc : Thread Cert.OutWeightIdeal.nD Cert.OutWeightIdeal.τ).loc Cert.OutWeightIdeal.main_arg0))
  choose g hg using fun c : Dev Cert.OutWeightIdeal.nD => exists_mat (a := 16384) (b := 1024) (m ((c.tc : Thread Cert.OutWeightIdeal.nD Cert.OutWeightIdeal.τ).loc Cert.OutWeightIdeal.main_arg2))
  refine ⟨_, Cert.OutWeightIdeal.Ffn.run m s u g hu hg,
    (θ_run Cert.OutWeightRefIdeal.defs _ _).mono (fun r H c => ⟨(H c).1.trans ?_, (H c).2⟩)
      (Cert.OutWeightRefIdeal.Value.run (F := Ideal) m' s')⟩
  rw [(heq c).1.trans (hu c), (heq c).2.2.trans (hg c)]
  exact Cert.OutWeightRefIdeal.Ffn.value (u c) (g c)

end Cert.Proof.OutWeight

end
-- ==== Proof.Ffn.DInForward.lean ====
/- The product of the forward pass with the input weight of the short convolution. -/
module

public import proofs.«01_k».proof.Defs
public import proofs.«01_k».proof.Proof.Ffn.Mat
public import proofs.«01_k».proof.Proof.Gen.DInForward.Frame
public import proofs.«01_k».proof.Proof.Gen.DInForwardIdeal.Frame
public import proofs.«01_k».proof.Proof.Gen.DInForwardRefIdeal.Run
public import Idealize.ShloMosaic.Lib.Quiescent

@[expose] public section

set_option maxRecDepth 16384

noncomputable section

namespace Cert.DInForwardIdeal.Ffn

open Cert.DInForwardIdeal Cert.DInForwardIdeal.Gen Cert.Ffn Idealize.ShloMosaic Idealize.ShloMosaic.TcCoe Idealize.SL.Sem

theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

/-- The body's product of two blocks. -/
theorem pay_1 (f g : ℕ → ℕ → EReal) : k0_pay1 (F := Ideal) (mat 512 1024 f) (mat 2560 1024 g) = mat 512 2560 (dotN 1024 f (tr g)) := by
  funext i
  idx_vars i
  unfold k0_pay1
  pointwise [mat]
  exact sum_nat 1024 fun k => f i0 k * g i1 k

theorem out_2 (f g : ℕ → ℕ → EReal) : out0_2 (F := Ideal) (mat 512 1024 f) (mat 2560 1024 g) = mat 512 2560 (dotN 1024 f (tr g)) := by
  unfold out0_2
  rw [View.canon_unit_zero zero2, View.ld_unit_zero zero2, View.ld_unit_zero zero2, pay_1]

variable (m : (ℓ : Loc nD τ sig) → Buf (Elt Ideal) ℓ) (c : Dev nD) (h w : ℕ → ℕ → EReal)
  (hh : m (c, main_arg0) = mat 16384 1024 h) (hw : m (c, main_arg1) = mat 1024 2560 w)

include hw in
/-- The weight as the call takes it, its axes exchanged. -/
theorem V_0 : V m c main_v0 = mat 2560 1024 (tr w) := by
  have e : V m c main_v0 = transpose S2560x1024 [1, 0] (m (c, main_arg1)) transposes_S1024x2560_S2560x1024_1_0 := by
    unfold V
    after_results_simp <;> rfl
  rw [e, hw]
  funext i
  idx_vars i
  pointwise [mat, tr]

include hh in
theorem blk_0 (t : Fin cfg0.N) : iblk m c 0 t = mat 512 1024 fun r k => h (512 * t.val + r) k := by
  obtain ⟨e0, e1⟩ := ix_0 t
  funext y
  have e : V m c (Pipeline.arrRef spec0 0) = mat 16384 1024 h := (V_main_arg0 m c).trans hh
  unfold iblk
  rw [e]
  blk_simp [mat, e0, e1]
  rw [Nat.mul_comm t.val 512]

include hw in
theorem blk_1 (t : Fin cfg0.N) : iblk m c 1 t = mat 2560 1024 (tr w) := by
  obtain ⟨e0, e1⟩ := ix_1 t
  funext y
  have e : V m c (Pipeline.arrRef spec0 1) = mat 2560 1024 (tr w) := V_0 m c w hw
  unfold iblk
  rw [e]
  blk_simp [mat, e0, e1]

include hh hw in
/-- The array of results after the last block. -/
theorem final_2 : (dats m 0 c).arrAt 2 cfg0.N = mat 16384 2560 (dotN 1024 h w) := by
  refine (dats m 0 c).arrAt_eq_of_covers 2 _ (by decide +kernel) fun t hf y => ?_
  obtain ⟨e0, e1⟩ := ix_2 t
  rw [after0_2, blk_0 m c h hh, blk_1 m c w hw, out_2]
  blk_simp [mat, e0, e1]
  rw [Nat.mul_comm t.val 512]
  rfl

theorem run (m : (ℓ : Loc nD τ sig) → Buf (Elt Ideal) ℓ) (ρ : Dev nD → PrngReg) (h w : Dev nD → ℕ → ℕ → EReal)
    (hh : ∀ c : Dev nD, m ((c.tc : Thread nD τ).loc main_arg0) = mat 16384 1024 (h c))
    (hw : ∀ c : Dev nD, m ((c.tc : Thread nD τ).loc main_arg1) = mat 1024 2560 (w c)) :
    θ_run (defs (F := Ideal)) (onTc (τ := τ) (main (F := Ideal))) ⟨m, fun _ => 0, ρ⟩ fun r => ∀ c : Dev nD,
      r.2.mem ((c.tc : Thread nD τ).loc main_v1) = mat 16384 2560 (dotN 1024 (h c) (w c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r H c => ⟨((H.1 c).1 2).trans (final_2 m c (h c) (w c) (hh c) (hw c)), H.2.1 c⟩)
    (θ_run_and (run_main m ρ) (frame m ρ))

end Cert.DInForwardIdeal.Ffn

namespace Cert.DInForwardRefIdeal.Ffn

open Cert.DInForwardRefIdeal Cert.DInForwardRefIdeal.Gen Cert.Ffn Idealize.ShloMosaic Idealize.ShloMosaic.TcCoe Idealize.SL.Sem

/-- The reference's value. -/
theorem value (h w : ℕ → ℕ → EReal) :
    extf .f32 (truncf .bf16 (Host.dotGeneral (φ₁ := .bf16) (φ₂ := .bf16) dot_S16384x1024_S1024x2560_S16384x2560_1_0_0_1_n_n none (mat 16384 1024 h : FVec Ideal S16384x1024 .bf16)
      (mat 1024 2560 w : FVec Ideal S1024x2560 .bf16) : FVec Ideal S16384x2560 .f32) bitsLt_bf16_f32) bitsLt_bf16_f32 = mat 16384 2560 (dotN 1024 h w) := by
  funext i
  idx_vars i
  pointwise [mat]
  exact sum_nat 1024 fun k => h i0 k * w k i1

end Cert.DInForwardRefIdeal.Ffn

namespace Cert.Proof.DInForward

open Cert.Ffn Idealize.ShloMosaic Idealize.SL.Sem

theorem frame_kernel : Cert.quiescent_DInForward := fun m ρ _ => Cert.DInForward.Gen.frame (F := Bits) m ρ

theorem frame_ideal : Cert.quiescent_DInForwardIdeal := fun m ρ _ => Cert.DInForwardIdeal.Gen.frame (F := Ideal) m ρ

theorem frame_reference : Cert.quiescent_DInForwardRefIdeal := fun m ρ _ =>
  (θ_run Cert.DInForwardRefIdeal.defs _ _).mono
    (fun r h => ⟨fun c => (h c).2, sem_eq_zero_of_no_sems (by decide) r.2⟩)
    (Cert.DInForwardRefIdeal.Value.run (F := Ideal) m ρ)

theorem preserves : Cert.preserves_DInForward_DInForwardIdeal := trivial

/-- The call and the reference give the same result, on all arguments. -/
theorem algebraic : Cert.algebraic_DInForwardIdeal_DInForwardRefIdeal (hDInForwardIdeal := Cert.DInForwardIdeal.Gen.facts)
    (hDInForwardRefIdeal := Cert.DInForwardRefIdeal.Gen.facts) := by
  intro m g m' g' _ heq
  choose h hh using fun c : Dev Cert.DInForwardIdeal.nD => exists_mat (a := 16384) (b := 1024) (m ((c.tc : Thread Cert.DInForwardIdeal.nD Cert.DInForwardIdeal.τ).loc Cert.DInForwardIdeal.main_arg0))
  choose w hw using fun c : Dev Cert.DInForwardIdeal.nD => exists_mat (a := 1024) (b := 2560) (m ((c.tc : Thread Cert.DInForwardIdeal.nD Cert.DInForwardIdeal.τ).loc Cert.DInForwardIdeal.main_arg1))
  refine ⟨_, Cert.DInForwardIdeal.Ffn.run m g h w hh hw,
    (θ_run Cert.DInForwardRefIdeal.defs _ _).mono (fun r H c => ⟨(H c).1.trans ?_, (H c).2⟩)
      (Cert.DInForwardRefIdeal.Value.run (F := Ideal) m' g')⟩
  rw [(heq c).1.trans (hh c), (heq c).2.trans (hw c)]
  exact Cert.DInForwardRefIdeal.Ffn.value (h c) (w c)

end Cert.Proof.DInForward

end
-- ==== Proof.Ffn.DInRows.lean ====
/- The gradient of the product with the input weight of the short convolution in its rows. -/
module

public import proofs.«01_k».proof.Defs
public import proofs.«01_k».proof.Proof.Ffn.Mat
public import proofs.«01_k».proof.Proof.Gen.DInRows.Frame
public import proofs.«01_k».proof.Proof.Gen.DInRowsIdeal.Frame
public import proofs.«01_k».proof.Proof.Gen.DInRowsRefIdeal.Run
public import Idealize.ShloMosaic.Lib.Quiescent

@[expose] public section

set_option maxRecDepth 16384

noncomputable section

namespace Cert.DInRowsIdeal.Ffn

open Cert.DInRowsIdeal Cert.DInRowsIdeal.Gen Cert.Ffn Idealize.ShloMosaic Idealize.ShloMosaic.TcCoe Idealize.SL.Sem

theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

/-- The body's product of two blocks. -/
theorem pay_1 (f g : ℕ → ℕ → EReal) : k0_pay1 (F := Ideal) (mat 512 2560 f) (mat 2560 1024 g) = mat 512 1024 (dotN 2560 f g) := by
  funext i
  idx_vars i
  unfold k0_pay1
  pointwise [mat]
  exact sum_nat 2560 fun k => f i0 k * g k i1

theorem out_2 (f g : ℕ → ℕ → EReal) : out0_2 (F := Ideal) (mat 512 2560 f) (mat 2560 1024 g) = mat 512 1024 (dotN 2560 f g) := by
  unfold out0_2
  rw [View.canon_unit_zero zero2, View.ld_unit_zero zero2, View.ld_unit_zero zero2, pay_1]

variable (m : (ℓ : Loc nD τ sig) → Buf (Elt Ideal) ℓ) (c : Dev nD) (g w : ℕ → ℕ → EReal)
  (hg : m (c, main_arg2) = mat 16384 2560 g) (hw : m (c, main_arg1) = mat 1024 2560 w)

include hw in
/-- The weight as the call takes it, its axes exchanged. -/
theorem V_0 : V m c main_v0 = mat 2560 1024 (tr w) := by
  have e : V m c main_v0 = transpose S2560x1024 [1, 0] (m (c, main_arg1)) transposes_S1024x2560_S2560x1024_1_0 := by
    unfold V
    after_results_simp <;> rfl
  rw [e, hw]
  funext i
  idx_vars i
  pointwise [mat, tr]

include hg in
theorem blk_0 (t : Fin cfg0.N) : iblk m c 0 t = mat 512 2560 fun r k => g (512 * t.val + r) k := by
  obtain ⟨e0, e1⟩ := ix_0 t
  funext y
  have e : V m c (Pipeline.arrRef spec0 0) = mat 16384 2560 g := (V_main_arg2 m c).trans hg
  unfold iblk
  rw [e]
  blk_simp [mat, e0, e1]
  rw [Nat.mul_comm t.val 512]

include hw in
theorem blk_1 (t : Fin cfg0.N) : iblk m c 1 t = mat 2560 1024 (tr w) := by
  obtain ⟨e0, e1⟩ := ix_1 t
  funext y
  have e : V m c (Pipeline.arrRef spec0 1) = mat 2560 1024 (tr w) := V_0 m c w hw
  unfold iblk
  rw [e]
  blk_simp [mat, e0, e1]

include hg hw in
/-- The array of results after the last block. -/
theorem final_2 : (dats m 0 c).arrAt 2 cfg0.N = mat 16384 1024 (dotN 2560 g (tr w)) := by
  refine (dats m 0 c).arrAt_eq_of_covers 2 _ (by decide +kernel) fun t hf y => ?_
  obtain ⟨e0, e1⟩ := ix_2 t
  rw [after0_2, blk_0 m c g hg, blk_1 m c w hw, out_2]
  blk_simp [mat, e0, e1]
  rw [Nat.mul_comm t.val 512]
  rfl

theorem run (m : (ℓ : Loc nD τ sig) → Buf (Elt Ideal) ℓ) (ρ : Dev nD → PrngReg) (g w : Dev nD → ℕ → ℕ → EReal)
    (hg : ∀ c : Dev nD, m ((c.tc : Thread nD τ).loc main_arg2) = mat 16384 2560 (g c))
    (hw : ∀ c : Dev nD, m ((c.tc : Thread nD τ).loc main_arg1) = mat 1024 2560 (w c)) :
    θ_run (defs (F := Ideal)) (onTc (τ := τ) (main (F := Ideal))) ⟨m, fun _ => 0, ρ⟩ fun r => ∀ c : Dev nD,
      r.2.mem ((c.tc : Thread nD τ).loc main_v1) = mat 16384 1024 (dotN 2560 (g c) (tr (w c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨((H.1 c).1 2).trans (final_2 m c (g c) (w c) (hg c) (hw c)), H.2.1 c⟩)
    (θ_run_and (run_main m ρ) (frame m ρ))

end Cert.DInRowsIdeal.Ffn

namespace Cert.DInRowsRefIdeal.Ffn

open Cert.DInRowsRefIdeal Cert.DInRowsRefIdeal.Gen Cert.Ffn Idealize.ShloMosaic Idealize.ShloMosaic.TcCoe Idealize.SL.Sem

/-- The reference's value. -/
theorem value (g w : ℕ → ℕ → EReal) :
    truncf .bf16 (Host.dotGeneral (φ₁ := .f32) (φ₂ := .bf16) dot_S16384x2560_S1024x2560_S16384x1024_1_1_0_0_n_n none (extf .f32 (truncf .bf16 (mat 16384 2560 g : FVec Ideal S16384x2560 .f32) bitsLt_bf16_f32) bitsLt_bf16_f32)
      (mat 1024 2560 w : FVec Ideal S1024x2560 .bf16) : FVec Ideal S16384x1024 .f32) bitsLt_bf16_f32 = mat 16384 1024 (dotN 2560 g (tr w)) := by
  funext i
  idx_vars i
  pointwise [mat]
  exact sum_nat 2560 fun k => g i0 k * w i1 k

end Cert.DInRowsRefIdeal.Ffn

namespace Cert.Proof.DInRows

open Cert.Ffn Idealize.ShloMosaic Idealize.SL.Sem

theorem frame_kernel : Cert.quiescent_DInRows := fun m ρ _ => Cert.DInRows.Gen.frame (F := Bits) m ρ

theorem frame_ideal : Cert.quiescent_DInRowsIdeal := fun m ρ _ => Cert.DInRowsIdeal.Gen.frame (F := Ideal) m ρ

theorem frame_reference : Cert.quiescent_DInRowsRefIdeal := fun m ρ _ =>
  (θ_run Cert.DInRowsRefIdeal.defs _ _).mono
    (fun r h => ⟨fun c => (h c).2, sem_eq_zero_of_no_sems (by decide) r.2⟩)
    (Cert.DInRowsRefIdeal.Value.run (F := Ideal) m ρ)

theorem preserves : Cert.preserves_DInRows_DInRowsIdeal := trivial

/-- The call and the reference give the same result, on all arguments. -/
theorem algebraic : Cert.algebraic_DInRowsIdeal_DInRowsRefIdeal (hDInRowsIdeal := Cert.DInRowsIdeal.Gen.facts)
    (hDInRowsRefIdeal := Cert.DInRowsRefIdeal.Gen.facts) := by
  intro m g m' g' _ heq
  choose d hd using fun c : Dev Cert.DInRowsIdeal.nD => exists_mat (a := 16384) (b := 2560) (m ((c.tc : Thread Cert.DInRowsIdeal.nD Cert.DInRowsIdeal.τ).loc Cert.DInRowsIdeal.main_arg2))
  choose w hw using fun c : Dev Cert.DInRowsIdeal.nD => exists_mat (a := 1024) (b := 2560) (m ((c.tc : Thread Cert.DInRowsIdeal.nD Cert.DInRowsIdeal.τ).loc Cert.DInRowsIdeal.main_arg1))
  refine ⟨_, Cert.DInRowsIdeal.Ffn.run m g d w hd hw,
    (θ_run Cert.DInRowsRefIdeal.defs _ _).mono (fun r H c => ⟨(H c).1.trans ?_, (H c).2⟩)
      (Cert.DInRowsRefIdeal.Value.run (F := Ideal) m' g')⟩
  rw [(heq c).2.2.trans (hd c), (heq c).2.1.trans (hw c)]
  exact Cert.DInRowsRefIdeal.Ffn.value (d c) (w c)

end Cert.Proof.DInRows

end
-- ==== Proof.Ffn.DInWeight.lean ====
/- The gradient of the product with the input weight of the short convolution in its weight. -/
module

public import proofs.«01_k».proof.Defs
public import proofs.«01_k».proof.Proof.Ffn.Mat
public import proofs.«01_k».proof.Proof.Gen.DInWeight.Frame
public import proofs.«01_k».proof.Proof.Gen.DInWeightIdeal.Frame
public import proofs.«01_k».proof.Proof.Gen.DInWeightIdeal.Run
public import proofs.«01_k».proof.Proof.Gen.DInWeightRefIdeal.Run
public import Idealize.ShloMosaic.Lib.Quiescent

@[expose] public section

set_option maxRecDepth 16384

noncomputable section

namespace Cert.DInWeightIdeal.Ffn

open Cert.DInWeightIdeal Cert.DInWeightIdeal.Gen Cert.Ffn Idealize.ShloMosaic Idealize.ShloMosaic.TcCoe Idealize.SL.Sem
open Idealize.ShloMosaic.Tactic

section
variable {F : FTy → Type} [FloatOps F]

/-- The first point stores its product. -/
theorem first (c : Dev nD) (i : grid0.Coords) (a3 : Memref sig .tc .vmem S1024x2560 .f32) (h3 : a3.IsWhole)
    (a4 : Memref sig .tc .vmem S1024x1024 .bf16) (h4 : a4.IsWhole) (a5 : Memref sig .tc .vmem S2560x1024 .bf16) (h5 : a5.IsWhole)
    (a6 : Memref sig .tc .vmem S2560x1024 .f32) (h6 : a6.IsWhole)
    (hc0 : cond0_0 i) (hc1 : ¬cond0_1 i) (hc2 : ¬cond0_2 i) (x0 : Vec F S1024x2560 .f32) (x1 : Vec F S1024x1024 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S1024x2560) zero2, View.ld_unit_zero (S := S1024x1024) zero2]

/-- A later point adds its product. -/
theorem middle (c : Dev nD) (i : grid0.Coords) (a3 : Memref sig .tc .vmem S1024x2560 .f32) (h3 : a3.IsWhole)
    (a4 : Memref sig .tc .vmem S1024x1024 .bf16) (h4 : a4.IsWhole) (a5 : Memref sig .tc .vmem S2560x1024 .bf16) (h5 : a5.IsWhole)
    (a6 : Memref sig .tc .vmem S2560x1024 .f32) (h6 : a6.IsWhole)
    (hc0 : ¬cond0_0 i) (hc1 : cond0_1 i) (hc2 : ¬cond0_2 i) (x0 : Vec F S1024x2560 .f32) (x1 : Vec F S1024x1024 .bf16) (s : Vec F S2560x1024 .f32) :
    sout0_B_0 c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero zero2]
  simp only [View.readAt_eq_ld, h3.read_unread, h4.read_unread, h6.read_unread, View.ld_unit_zero (S := S1024x2560) zero2,
    View.ld_unit_zero (S := S1024x1024) zero2, View.ld_unit_zero (S := S2560x1024) zero2]

/-- The last point writes the sum out. -/
theorem last (c : Dev nD) (i : grid0.Coords) (a3 : Memref sig .tc .vmem S1024x2560 .f32) (h3 : a3.IsWhole)
    (a4 : Memref sig .tc .vmem S1024x1024 .bf16) (h4 : a4.IsWhole) (a5 : Memref sig .tc .vmem S2560x1024 .bf16) (h5 : a5.IsWhole)
    (a6 : Memref sig .tc .vmem S2560x1024 .f32) (h6 : a6.IsWhole)
    (hc0 : ¬cond0_0 i) (hc1 : cond0_1 i) (hc2 : cond0_2 i) (x0 : Vec F S1024x2560 .f32) (x1 : Vec F S1024x1024 .bf16) (s : Vec F S2560x1024 .f32) :
    out0_C_2 c i a3 h3 a4 h4 a5 h5 a6 h6 hc0 hc1 hc2 x0 x1 s = k0_pay4 (k0_pay3 x0 x1 s) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero zero2, View.readCov_unit_zero (S := S2560x1024) _ zero2]
  simp only [View.readAt_eq_ld, h3.read_unread, h4.read_unread, h6.read_unread, View.ld_unit_zero (S := S1024x2560) zero2,
    View.ld_unit_zero (S := S1024x1024) zero2, View.ld_unit_zero (S := S2560x1024) zero2]

end

theorem ix_0 : ∀ t : Fin cfg0.N, win0_0.index t 0 = t.val ∧ win0_0.index t 1 = 0 := by decide +kernel
theorem ix_1 : ∀ t : Fin cfg0.N, win0_1.index t 0 = t.val ∧ win0_1.index t 1 = 0 := by decide +kernel
theorem ix_2 : ∀ t : Fin cfg0.N, win0_2.index t 0 = 0 ∧ win0_2.index t 1 = 0 := by decide +kernel

/-- The product of two blocks along their rows. -/
theorem pay_2 (f g : ℕ → ℕ → EReal) : k0_pay2 (F := Ideal) (mat 1024 2560 f) (mat 1024 1024 g) = mat 2560 1024 (dotN 1024 (tr f) g) := by
  funext i
  idx_vars i
  unfold k0_pay2 k0_pay1
  pointwise [mat]
  exact sum_nat 1024 fun k => f k i0 * g k i1

theorem pay_3 (f g s : ℕ → ℕ → EReal) : k0_pay3 (F := Ideal) (mat 1024 2560 f) (mat 1024 1024 g) (mat 2560 1024 s)
    = mat 2560 1024 fun i j => s i j + dotN 1024 (tr f) g i j := by
  funext i
  idx_vars i
  unfold k0_pay3 k0_pay1
  pointwise [mat]
  rw [sum_nat 1024 fun k => f k i0 * g k i1]
  rfl

theorem pay_4 (s : ℕ → ℕ → EReal) : k0_pay4 (F := Ideal) (mat 2560 1024 s) = mat 2560 1024 s := by
  funext i
  idx_vars i
  unfold k0_pay4
  pointwise [mat]

variable (m : (ℓ : Loc nD τ sig) → Buf (Elt Ideal) ℓ) (c : Dev nD) (g h : ℕ → ℕ → EReal)
  (hg : m (c, main_arg2) = mat 16384 2560 g) (hh : m (c, main_arg0) = mat 16384 1024 h)

include hg in
theorem blk_0 (t : Fin cfg0.N) : iblk m c 0 t = mat 1024 2560 fun k r => g (1024 * t.val + k) r := by
  obtain ⟨e0, e1⟩ := ix_0 t
  funext y
  have e : V m c (Pipeline.arrRef spec0 0) = mat 16384 2560 g := (V_main_arg2 m c).trans hg
  unfold iblk
  rw [e]
  blk_simp [mat, e0, e1]
  rw [Nat.mul_comm t.val 1024]

include hh in
theorem blk_1 (t : Fin cfg0.N) : iblk m c 1 t = mat 1024 1024 fun k r => h (1024 * t.val + k) r := by
  obtain ⟨e0, e1⟩ := ix_1 t
  funext y
  have e : V m c (Pipeline.arrRef spec0 1) = mat 16384 1024 h := (V_main_arg0 m c).trans hh
  unfold iblk
  rw [e]
  blk_simp [mat, e0, e1]
  rw [Nat.mul_comm t.val 1024]

/-- A further block of rows added to the product of the rows before it. -/
theorem dot_add (n i j : ℕ) : dotN (1024 * n) (tr g) h i j
    + dotN 1024 (tr fun k r => g (1024 * n + k) r) (fun k r => h (1024 * n + k) r) i j = dotN (1024 * (n + 1)) (tr g) h i j := by
  rw [Nat.mul_add_one]
  exact (Finset.sum_range_add (fun k => g k i * h k j) (1024 * n) 1024).symm

include hg hh in
/-- What the accumulator holds after a point that is not the last. -/
theorem sweep (n : ℕ) (hn : n < cfg0.N) (hl : ¬n % 16 = 15) : (outsAt0 m c n hn).2 = mat 2560 1024 (dotN (1024 * (n + 1)) (tr g) h) := by
  have hN : cfg0.N = 16 := N_0
  induction n with
  | zero =>
    rw [outsAt0_A m c ⟨0, hn⟩ rfl (by dsimp only; omega) (by dsimp only; omega), first, blk_0 m c g hg, blk_1 m c h hh, pay_2]
    simp only [Nat.mul_zero, Nat.zero_add, Nat.mul_one]
  | succ n ih =>
    rw [outsAt0_B m c ⟨n + 1, hn⟩ (by dsimp only; omega) (by dsimp only; omega) hl, middle, blk_0 m c g hg, blk_1 m c h hh]
    have e := ih (by omega) (by omega)
    show k0_pay3 (F := Ideal) _ _ (outsAt0 m c n _).2 = _
    rw [e, pay_3]
    congr 1
    funext i j
    exact dot_add g h (n + 1) i j

include hg hh in
/-- What the last point writes. -/
theorem written (n : ℕ) (hn : n + 1 < cfg0.N) (hl : (n + 1) % 16 = 15) : (outsAt0 m c (n + 1) hn).1 = mat 2560 1024 (dotN (1024 * (n + 2)) (tr g) h) := by
  have hN : cfg0.N = 16 := N_0
  rw [outsAt0_C m c ⟨n + 1, hn⟩ (by dsimp only; omega) (by dsimp only; omega) hl, last, blk_0 m c g hg, blk_1 m c h hh]
  have e := sweep m c g h hg hh n (by omega) (by omega)
  show k0_pay4 (F := Ideal) (k0_pay3 (F := Ideal) _ _ (outsAt0 m c n _).2) = _
  rw [e, pay_3, pay_4]
  congr 1
  funext i j
  exact dot_add g h (n + 1) i j

include hg hh in
/-- The array of results after the last point. -/
theorem final_2 : (dats m 0 c).arrAt 2 cfg0.N = mat 2560 1024 (dotN 16384 (tr g) h) := by
  refine (dats m 0 c).arrAt_eq_of_covers 2 _ (by decide +kernel) fun t hf y => ?_
  have ht : t.val % 16 = 15 := (flush0_2 t).1 hf
  obtain ⟨e0, e1⟩ := ix_2 t
  obtain ⟨n, hn⟩ := t
  have hN : n < 16 := lt_of_lt_of_eq hn N_0
  obtain rfl : n = 14 + 1 := by dsimp only at ht; omega
  rw [after0_2, written m c g h hg hh 14 hn ht]
  blk_simp [mat, e0, e1]

theorem run (m : (ℓ : Loc nD τ sig) → Buf (Elt Ideal) ℓ) (ρ : Dev nD → PrngReg) (g h : Dev nD → ℕ → ℕ → EReal)
    (hg : ∀ c : Dev nD, m ((c.tc : Thread nD τ).loc main_arg2) = mat 16384 2560 (g c))
    (hh : ∀ c : Dev nD, m ((c.tc : Thread nD τ).loc main_arg0) = mat 16384 1024 (h c)) :
    θ_run (defs (F := Ideal)) (onTc (τ := τ) (main (F := Ideal))) ⟨m, fun _ => 0, ρ⟩ fun r => ∀ c : Dev nD,
      r.2.mem ((c.tc : Thread nD τ).loc main_v1) = mat 1024 2560 (tr (dotN 16384 (tr (g c)) (h c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨(H c).1.trans (by
      show transpose S1024x2560 [1, 0] ((dats m 0 c).arrAt 2 cfg0.N) transposes_S2560x1024_S1024x2560_1_0 = _
      rw [final_2 m c (g c) (h c) (hg c) (hh c)]
      funext i
      idx_vars i
      pointwise [mat, tr]), (H c).2⟩)
    (Cert.DInWeightIdeal.Value.run (F := Ideal) m ρ)

end Cert.DInWeightIdeal.Ffn

namespace Cert.DInWeightRefIdeal.Ffn

open Cert.DInWeightRefIdeal Cert.DInWeightRefIdeal.Gen Cert.Ffn Idealize.ShloMosaic Idealize.ShloMosaic.TcCoe Idealize.SL.Sem

/-- The reference's value. -/
theorem value (g h : ℕ → ℕ → EReal) :
    truncf .bf16 (transpose S1024x2560 [1, 0] (Host.dotGeneral (φ₁ := .f32) (φ₂ := .bf16) dot_S16384x2560_S16384x1024_S2560x1024_0_0_1_1_n_n none (extf .f32 (truncf .bf16 (mat 16384 2560 g : FVec Ideal S16384x2560 .f32) bitsLt_bf16_f32) bitsLt_bf16_f32)
      (mat 16384 1024 h : FVec Ideal S16384x1024 .bf16) : FVec Ideal S2560x1024 .f32) transposes_S2560x1024_S1024x2560_1_0) bitsLt_bf16_f32 = mat 1024 2560 (tr (dotN 16384 (tr g) h)) := by
  funext i
  idx_vars i
  pointwise [mat]
  exact sum_nat 16384 fun k => g k i1 * h k i0

end Cert.DInWeightRefIdeal.Ffn

namespace Cert.Proof.DInWeight

open Cert.Ffn Idealize.ShloMosaic Idealize.SL.Sem

theorem frame_kernel : Cert.quiescent_DInWeight := fun m ρ _ => Cert.DInWeight.Gen.frame (F := Bits) m ρ

theorem frame_ideal : Cert.quiescent_DInWeightIdeal := fun m ρ _ => Cert.DInWeightIdeal.Gen.frame (F := Ideal) m ρ

theorem frame_reference : Cert.quiescent_DInWeightRefIdeal := fun m ρ _ =>
  (θ_run Cert.DInWeightRefIdeal.defs _ _).mono
    (fun r h => ⟨fun c => (h c).2, sem_eq_zero_of_no_sems (by decide) r.2⟩)
    (Cert.DInWeightRefIdeal.Value.run (F := Ideal) m ρ)

theorem preserves : Cert.preserves_DInWeight_DInWeightIdeal := trivial

/-- The call and the reference give the same result, on all arguments. -/
theorem algebraic : Cert.algebraic_DInWeightIdeal_DInWeightRefIdeal (hDInWeightIdeal := Cert.DInWeightIdeal.Gen.facts)
    (hDInWeightRefIdeal := Cert.DInWeightRefIdeal.Gen.facts) := by
  intro m s m' s' _ heq
  choose g hg using fun c : Dev Cert.DInWeightIdeal.nD => exists_mat (a := 16384) (b := 2560) (m ((c.tc : Thread Cert.DInWeightIdeal.nD Cert.DInWeightIdeal.τ).loc Cert.DInWeightIdeal.main_arg2))
  choose h hh using fun c : Dev Cert.DInWeightIdeal.nD => exists_mat (a := 16384) (b := 1024) (m ((c.tc : Thread Cert.DInWeightIdeal.nD Cert.DInWeightIdeal.τ).loc Cert.DInWeightIdeal.main_arg0))
  refine ⟨_, Cert.DInWeightIdeal.Ffn.run m s g h hg hh,
    (θ_run Cert.DInWeightRefIdeal.defs _ _).mono (fun r H c => ⟨(H c).1.trans ?_, (H c).2⟩)
      (Cert.DInWeightRefIdeal.Value.run (F := Ideal) m' s')⟩
  rw [(heq c).2.2.trans (hg c), (heq c).1.trans (hh c)]
  exact Cert.DInWeightRefIdeal.Ffn.value (g c) (h c)

end Cert.Proof.DInWeight

end
-- ==== Proof.Ffn.CInForward.lean ====
/- The product of the forward pass with the input weight of the convolution mixer. -/
module

public import proofs.«01_k».proof.Defs
public import proofs.«01_k».proof.Proof.Ffn.Mat
public import proofs.«01_k».proof.Proof.Gen.CInForward.Frame
public import proofs.«01_k».proof.Proof.Gen.CInForwardIdeal.Frame
public import proofs.«01_k».proof.Proof.Gen.CInForwardRefIdeal.Run
public import Idealize.ShloMosaic.Lib.Quiescent

@[expose] public section

set_option maxRecDepth 16384

noncomputable section

namespace Cert.CInForwardIdeal.Ffn

open Cert.CInForwardIdeal Cert.CInForwardIdeal.Gen Cert.Ffn Idealize.ShloMosaic Idealize.ShloMosaic.TcCoe Idealize.SL.Sem

theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

/-- The body's product of two blocks. -/
theorem pay_1 (f g : ℕ → ℕ → EReal) : k0_pay1 (F := Ideal) (mat 512 1024 f) (mat 1792 1024 g) = mat 512 1792 (dotN 1024 f (tr g)) := by
  funext i
  idx_vars i
  unfold k0_pay1
  pointwise [mat]
  exact sum_nat 1024 fun k => f i0 k * g i1 k

theorem out_2 (f g : ℕ → ℕ → EReal) : out0_2 (F := Ideal) (mat 512 1024 f) (mat 1792 1024 g) = mat 512 1792 (dotN 1024 f (tr g)) := by
  unfold out0_2
  rw [View.canon_unit_zero zero2, View.ld_unit_zero zero2, View.ld_unit_zero zero2, pay_1]

variable (m : (ℓ : Loc nD τ sig) → Buf (Elt Ideal) ℓ) (c : Dev nD) (h w : ℕ → ℕ → EReal)
  (hh : m (c, main_arg0) = mat 16384 1024 h) (hw : m (c, main_arg1) = mat 1024 1792 w)

include hw in
/-- The weight as the call takes it, its axes exchanged. -/
theorem V_0 : V m c main_v0 = mat 1792 1024 (tr w) := by
  have e : V m c main_v0 = transpose S1792x1024 [1, 0] (m (c, main_arg1)) transposes_S1024x1792_S1792x1024_1_0 := by
    unfold V
    after_results_simp <;> rfl
  rw [e, hw]
  funext i
  idx_vars i
  pointwise [mat, tr]

include hh in
theorem blk_0 (t : Fin cfg0.N) : iblk m c 0 t = mat 512 1024 fun r k => h (512 * t.val + r) k := by
  obtain ⟨e0, e1⟩ := ix_0 t
  funext y
  have e : V m c (Pipeline.arrRef spec0 0) = mat 16384 1024 h := (V_main_arg0 m c).trans hh
  unfold iblk
  rw [e]
  blk_simp [mat, e0, e1]
  rw [Nat.mul_comm t.val 512]

include hw in
theorem blk_1 (t : Fin cfg0.N) : iblk m c 1 t = mat 1792 1024 (tr w) := by
  obtain ⟨e0, e1⟩ := ix_1 t
  funext y
  have e : V m c (Pipeline.arrRef spec0 1) = mat 1792 1024 (tr w) := V_0 m c w hw
  unfold iblk
  rw [e]
  blk_simp [mat, e0, e1]

include hh hw in
/-- The array of results after the last block. -/
theorem final_2 : (dats m 0 c).arrAt 2 cfg0.N = mat 16384 1792 (dotN 1024 h w) := by
  refine (dats m 0 c).arrAt_eq_of_covers 2 _ (by decide +kernel) fun t hf y => ?_
  obtain ⟨e0, e1⟩ := ix_2 t
  rw [after0_2, blk_0 m c h hh, blk_1 m c w hw, out_2]
  blk_simp [mat, e0, e1]
  rw [Nat.mul_comm t.val 512]
  rfl

theorem run (m : (ℓ : Loc nD τ sig) → Buf (Elt Ideal) ℓ) (ρ : Dev nD → PrngReg) (h w : Dev nD → ℕ → ℕ → EReal)
    (hh : ∀ c : Dev nD, m ((c.tc : Thread nD τ).loc main_arg0) = mat 16384 1024 (h c))
    (hw : ∀ c : Dev nD, m ((c.tc : Thread nD τ).loc main_arg1) = mat 1024 1792 (w c)) :
    θ_run (defs (F := Ideal)) (onTc (τ := τ) (main (F := Ideal))) ⟨m, fun _ => 0, ρ⟩ fun r => ∀ c : Dev nD,
      r.2.mem ((c.tc : Thread nD τ).loc main_v1) = mat 16384 1792 (dotN 1024 (h c) (w c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r H c => ⟨((H.1 c).1 2).trans (final_2 m c (h c) (w c) (hh c) (hw c)), H.2.1 c⟩)
    (θ_run_and (run_main m ρ) (frame m ρ))

end Cert.CInForwardIdeal.Ffn

namespace Cert.CInForwardRefIdeal.Ffn

open Cert.CInForwardRefIdeal Cert.CInForwardRefIdeal.Gen Cert.Ffn Idealize.ShloMosaic Idealize.ShloMosaic.TcCoe Idealize.SL.Sem

/-- The reference's value. -/
theorem value (h w : ℕ → ℕ → EReal) :
    extf .f32 (truncf .bf16 (Host.dotGeneral (φ₁ := .bf16) (φ₂ := .bf16) dot_S16384x1024_S1024x1792_S16384x1792_1_0_0_1_n_n none (mat 16384 1024 h : FVec Ideal S16384x1024 .bf16)
      (mat 1024 1792 w : FVec Ideal S1024x1792 .bf16) : FVec Ideal S16384x1792 .f32) bitsLt_bf16_f32) bitsLt_bf16_f32 = mat 16384 1792 (dotN 1024 h w) := by
  funext i
  idx_vars i
  pointwise [mat]
  exact sum_nat 1024 fun k => h i0 k * w k i1

end Cert.CInForwardRefIdeal.Ffn

namespace Cert.Proof.CInForward

open Cert.Ffn Idealize.ShloMosaic Idealize.SL.Sem

theorem frame_kernel : Cert.quiescent_CInForward := fun m ρ _ => Cert.CInForward.Gen.frame (F := Bits) m ρ

theorem frame_ideal : Cert.quiescent_CInForwardIdeal := fun m ρ _ => Cert.CInForwardIdeal.Gen.frame (F := Ideal) m ρ

theorem frame_reference : Cert.quiescent_CInForwardRefIdeal := fun m ρ _ =>
  (θ_run Cert.CInForwardRefIdeal.defs _ _).mono
    (fun r h => ⟨fun c => (h c).2, sem_eq_zero_of_no_sems (by decide) r.2⟩)
    (Cert.CInForwardRefIdeal.Value.run (F := Ideal) m ρ)

theorem preserves : Cert.preserves_CInForward_CInForwardIdeal := trivial

/-- The call and the reference give the same result, on all arguments. -/
theorem algebraic : Cert.algebraic_CInForwardIdeal_CInForwardRefIdeal (hCInForwardIdeal := Cert.CInForwardIdeal.Gen.facts)
    (hCInForwardRefIdeal := Cert.CInForwardRefIdeal.Gen.facts) := by
  intro m g m' g' _ heq
  choose h hh using fun c : Dev Cert.CInForwardIdeal.nD => exists_mat (a := 16384) (b := 1024) (m ((c.tc : Thread Cert.CInForwardIdeal.nD Cert.CInForwardIdeal.τ).loc Cert.CInForwardIdeal.main_arg0))
  choose w hw using fun c : Dev Cert.CInForwardIdeal.nD => exists_mat (a := 1024) (b := 1792) (m ((c.tc : Thread Cert.CInForwardIdeal.nD Cert.CInForwardIdeal.τ).loc Cert.CInForwardIdeal.main_arg1))
  refine ⟨_, Cert.CInForwardIdeal.Ffn.run m g h w hh hw,
    (θ_run Cert.CInForwardRefIdeal.defs _ _).mono (fun r H c => ⟨(H c).1.trans ?_, (H c).2⟩)
      (Cert.CInForwardRefIdeal.Value.run (F := Ideal) m' g')⟩
  rw [(heq c).1.trans (hh c), (heq c).2.trans (hw c)]
  exact Cert.CInForwardRefIdeal.Ffn.value (h c) (w c)

end Cert.Proof.CInForward

end
-- ==== Proof.Ffn.CInRows.lean ====
/- The gradient of the product with the input weight of the convolution mixer in its rows. -/
module

public import proofs.«01_k».proof.Defs
public import proofs.«01_k».proof.Proof.Ffn.Mat
public import proofs.«01_k».proof.Proof.Gen.CInRows.Frame
public import proofs.«01_k».proof.Proof.Gen.CInRowsIdeal.Frame
public import proofs.«01_k».proof.Proof.Gen.CInRowsRefIdeal.Run
public import Idealize.ShloMosaic.Lib.Quiescent

@[expose] public section

set_option maxRecDepth 16384

noncomputable section

namespace Cert.CInRowsIdeal.Ffn

open Cert.CInRowsIdeal Cert.CInRowsIdeal.Gen Cert.Ffn Idealize.ShloMosaic Idealize.ShloMosaic.TcCoe Idealize.SL.Sem

theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

/-- The body's product of two blocks. -/
theorem pay_1 (f g : ℕ → ℕ → EReal) : k0_pay1 (F := Ideal) (mat 512 1792 f) (mat 1792 1024 g) = mat 512 1024 (dotN 1792 f g) := by
  funext i
  idx_vars i
  unfold k0_pay1
  pointwise [mat]
  exact sum_nat 1792 fun k => f i0 k * g k i1

theorem out_2 (f g : ℕ → ℕ → EReal) : out0_2 (F := Ideal) (mat 512 1792 f) (mat 1792 1024 g) = mat 512 1024 (dotN 1792 f g) := by
  unfold out0_2
  rw [View.canon_unit_zero zero2, View.ld_unit_zero zero2, View.ld_unit_zero zero2, pay_1]

variable (m : (ℓ : Loc nD τ sig) → Buf (Elt Ideal) ℓ) (c : Dev nD) (g w : ℕ → ℕ → EReal)
  (hg : m (c, main_arg2) = mat 16384 1792 g) (hw : m (c, main_arg1) = mat 1024 1792 w)

include hw in
/-- The weight as the call takes it, its axes exchanged. -/
theorem V_0 : V m c main_v0 = mat 1792 1024 (tr w) := by
  have e : V m c main_v0 = transpose S1792x1024 [1, 0] (m (c, main_arg1)) transposes_S1024x1792_S1792x1024_1_0 := by
    unfold V
    after_results_simp <;> rfl
  rw [e, hw]
  funext i
  idx_vars i
  pointwise [mat, tr]

include hg in
theorem blk_0 (t : Fin cfg0.N) : iblk m c 0 t = mat 512 1792 fun r k => g (512 * t.val + r) k := by
  obtain ⟨e0, e1⟩ := ix_0 t
  funext y
  have e : V m c (Pipeline.arrRef spec0 0) = mat 16384 1792 g := (V_main_arg2 m c).trans hg
  unfold iblk
  rw [e]
  blk_simp [mat, e0, e1]
  rw [Nat.mul_comm t.val 512]

include hw in
theorem blk_1 (t : Fin cfg0.N) : iblk m c 1 t = mat 1792 1024 (tr w) := by
  obtain ⟨e0, e1⟩ := ix_1 t
  funext y
  have e : V m c (Pipeline.arrRef spec0 1) = mat 1792 1024 (tr w) := V_0 m c w hw
  unfold iblk
  rw [e]
  blk_simp [mat, e0, e1]

include hg hw in
/-- The array of results after the last block. -/
theorem final_2 : (dats m 0 c).arrAt 2 cfg0.N = mat 16384 1024 (dotN 1792 g (tr w)) := by
  refine (dats m 0 c).arrAt_eq_of_covers 2 _ (by decide +kernel) fun t hf y => ?_
  obtain ⟨e0, e1⟩ := ix_2 t
  rw [after0_2, blk_0 m c g hg, blk_1 m c w hw, out_2]
  blk_simp [mat, e0, e1]
  rw [Nat.mul_comm t.val 512]
  rfl

theorem run (m : (ℓ : Loc nD τ sig) → Buf (Elt Ideal) ℓ) (ρ : Dev nD → PrngReg) (g w : Dev nD → ℕ → ℕ → EReal)
    (hg : ∀ c : Dev nD, m ((c.tc : Thread nD τ).loc main_arg2) = mat 16384 1792 (g c))
    (hw : ∀ c : Dev nD, m ((c.tc : Thread nD τ).loc main_arg1) = mat 1024 1792 (w c)) :
    θ_run (defs (F := Ideal)) (onTc (τ := τ) (main (F := Ideal))) ⟨m, fun _ => 0, ρ⟩ fun r => ∀ c : Dev nD,
      r.2.mem ((c.tc : Thread nD τ).loc main_v1) = mat 16384 1024 (dotN 1792 (g c) (tr (w c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨((H.1 c).1 2).trans (final_2 m c (g c) (w c) (hg c) (hw c)), H.2.1 c⟩)
    (θ_run_and (run_main m ρ) (frame m ρ))

end Cert.CInRowsIdeal.Ffn

namespace Cert.CInRowsRefIdeal.Ffn

open Cert.CInRowsRefIdeal Cert.CInRowsRefIdeal.Gen Cert.Ffn Idealize.ShloMosaic Idealize.ShloMosaic.TcCoe Idealize.SL.Sem

/-- The reference's value. -/
theorem value (g w : ℕ → ℕ → EReal) :
    truncf .bf16 (Host.dotGeneral (φ₁ := .f32) (φ₂ := .bf16) dot_S16384x1792_S1024x1792_S16384x1024_1_1_0_0_n_n none (extf .f32 (truncf .bf16 (mat 16384 1792 g : FVec Ideal S16384x1792 .f32) bitsLt_bf16_f32) bitsLt_bf16_f32)
      (mat 1024 1792 w : FVec Ideal S1024x1792 .bf16) : FVec Ideal S16384x1024 .f32) bitsLt_bf16_f32 = mat 16384 1024 (dotN 1792 g (tr w)) := by
  funext i
  idx_vars i
  pointwise [mat]
  exact sum_nat 1792 fun k => g i0 k * w i1 k

end Cert.CInRowsRefIdeal.Ffn

namespace Cert.Proof.CInRows

open Cert.Ffn Idealize.ShloMosaic Idealize.SL.Sem

theorem frame_kernel : Cert.quiescent_CInRows := fun m ρ _ => Cert.CInRows.Gen.frame (F := Bits) m ρ

theorem frame_ideal : Cert.quiescent_CInRowsIdeal := fun m ρ _ => Cert.CInRowsIdeal.Gen.frame (F := Ideal) m ρ

theorem frame_reference : Cert.quiescent_CInRowsRefIdeal := fun m ρ _ =>
  (θ_run Cert.CInRowsRefIdeal.defs _ _).mono
    (fun r h => ⟨fun c => (h c).2, sem_eq_zero_of_no_sems (by decide) r.2⟩)
    (Cert.CInRowsRefIdeal.Value.run (F := Ideal) m ρ)

theorem preserves : Cert.preserves_CInRows_CInRowsIdeal := trivial

/-- The call and the reference give the same result, on all arguments. -/
theorem algebraic : Cert.algebraic_CInRowsIdeal_CInRowsRefIdeal (hCInRowsIdeal := Cert.CInRowsIdeal.Gen.facts)
    (hCInRowsRefIdeal := Cert.CInRowsRefIdeal.Gen.facts) := by
  intro m g m' g' _ heq
  choose d hd using fun c : Dev Cert.CInRowsIdeal.nD => exists_mat (a := 16384) (b := 1792) (m ((c.tc : Thread Cert.CInRowsIdeal.nD Cert.CInRowsIdeal.τ).loc Cert.CInRowsIdeal.main_arg2))
  choose w hw using fun c : Dev Cert.CInRowsIdeal.nD => exists_mat (a := 1024) (b := 1792) (m ((c.tc : Thread Cert.CInRowsIdeal.nD Cert.CInRowsIdeal.τ).loc Cert.CInRowsIdeal.main_arg1))
  refine ⟨_, Cert.CInRowsIdeal.Ffn.run m g d w hd hw,
    (θ_run Cert.CInRowsRefIdeal.defs _ _).mono (fun r H c => ⟨(H c).1.trans ?_, (H c).2⟩)
      (Cert.CInRowsRefIdeal.Value.run (F := Ideal) m' g')⟩
  rw [(heq c).2.2.trans (hd c), (heq c).2.1.trans (hw c)]
  exact Cert.CInRowsRefIdeal.Ffn.value (d c) (w c)

end Cert.Proof.CInRows

end
-- ==== Proof.Ffn.CInWeight.lean ====
/- The gradient of the product with the input weight of the convolution mixer in its weight. -/
module

public import proofs.«01_k».proof.Defs
public import proofs.«01_k».proof.Proof.Ffn.Mat
public import proofs.«01_k».proof.Proof.Gen.CInWeight.Frame
public import proofs.«01_k».proof.Proof.Gen.CInWeightIdeal.Frame
public import proofs.«01_k».proof.Proof.Gen.CInWeightIdeal.Run
public import proofs.«01_k».proof.Proof.Gen.CInWeightRefIdeal.Run
public import Idealize.ShloMosaic.Lib.Quiescent

@[expose] public section

set_option maxRecDepth 16384

noncomputable section

namespace Cert.CInWeightIdeal.Ffn

open Cert.CInWeightIdeal Cert.CInWeightIdeal.Gen Cert.Ffn Idealize.ShloMosaic Idealize.ShloMosaic.TcCoe Idealize.SL.Sem
open Idealize.ShloMosaic.Tactic

section
variable {F : FTy → Type} [FloatOps F]

/-- The first point stores its product. -/
theorem first (c : Dev nD) (i : grid0.Coords) (a3 : Memref sig .tc .vmem S1024x1792 .f32) (h3 : a3.IsWhole)
    (a4 : Memref sig .tc .vmem S1024x1024 .bf16) (h4 : a4.IsWhole) (a5 : Memref sig .tc .vmem S1792x1024 .bf16) (h5 : a5.IsWhole)
    (a6 : Memref sig .tc .vmem S1792x1024 .f32) (h6 : a6.IsWhole)
    (hc0 : cond0_0 i) (hc1 : ¬cond0_1 i) (hc2 : ¬cond0_2 i) (x0 : Vec F S1024x1792 .f32) (x1 : Vec F S1024x1024 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S1024x1792) zero2, View.ld_unit_zero (S := S1024x1024) zero2]

/-- A later point adds its product. -/
theorem middle (c : Dev nD) (i : grid0.Coords) (a3 : Memref sig .tc .vmem S1024x1792 .f32) (h3 : a3.IsWhole)
    (a4 : Memref sig .tc .vmem S1024x1024 .bf16) (h4 : a4.IsWhole) (a5 : Memref sig .tc .vmem S1792x1024 .bf16) (h5 : a5.IsWhole)
    (a6 : Memref sig .tc .vmem S1792x1024 .f32) (h6 : a6.IsWhole)
    (hc0 : ¬cond0_0 i) (hc1 : cond0_1 i) (hc2 : ¬cond0_2 i) (x0 : Vec F S1024x1792 .f32) (x1 : Vec F S1024x1024 .bf16) (s : Vec F S1792x1024 .f32) :
    sout0_B_0 c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero zero2]
  simp only [View.readAt_eq_ld, h3.read_unread, h4.read_unread, h6.read_unread, View.ld_unit_zero (S := S1024x1792) zero2,
    View.ld_unit_zero (S := S1024x1024) zero2, View.ld_unit_zero (S := S1792x1024) zero2]

/-- The last point writes the sum out. -/
theorem last (c : Dev nD) (i : grid0.Coords) (a3 : Memref sig .tc .vmem S1024x1792 .f32) (h3 : a3.IsWhole)
    (a4 : Memref sig .tc .vmem S1024x1024 .bf16) (h4 : a4.IsWhole) (a5 : Memref sig .tc .vmem S1792x1024 .bf16) (h5 : a5.IsWhole)
    (a6 : Memref sig .tc .vmem S1792x1024 .f32) (h6 : a6.IsWhole)
    (hc0 : ¬cond0_0 i) (hc1 : cond0_1 i) (hc2 : cond0_2 i) (x0 : Vec F S1024x1792 .f32) (x1 : Vec F S1024x1024 .bf16) (s : Vec F S1792x1024 .f32) :
    out0_C_2 c i a3 h3 a4 h4 a5 h5 a6 h6 hc0 hc1 hc2 x0 x1 s = k0_pay4 (k0_pay3 x0 x1 s) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero zero2, View.readCov_unit_zero (S := S1792x1024) _ zero2]
  simp only [View.readAt_eq_ld, h3.read_unread, h4.read_unread, h6.read_unread, View.ld_unit_zero (S := S1024x1792) zero2,
    View.ld_unit_zero (S := S1024x1024) zero2, View.ld_unit_zero (S := S1792x1024) zero2]

end

theorem ix_0 : ∀ t : Fin cfg0.N, win0_0.index t 0 = t.val ∧ win0_0.index t 1 = 0 := by decide +kernel
theorem ix_1 : ∀ t : Fin cfg0.N, win0_1.index t 0 = t.val ∧ win0_1.index t 1 = 0 := by decide +kernel
theorem ix_2 : ∀ t : Fin cfg0.N, win0_2.index t 0 = 0 ∧ win0_2.index t 1 = 0 := by decide +kernel

/-- The product of two blocks along their rows. -/
theorem pay_2 (f g : ℕ → ℕ → EReal) : k0_pay2 (F := Ideal) (mat 1024 1792 f) (mat 1024 1024 g) = mat 1792 1024 (dotN 1024 (tr f) g) := by
  funext i
  idx_vars i
  unfold k0_pay2 k0_pay1
  pointwise [mat]
  exact sum_nat 1024 fun k => f k i0 * g k i1

theorem pay_3 (f g s : ℕ → ℕ → EReal) : k0_pay3 (F := Ideal) (mat 1024 1792 f) (mat 1024 1024 g) (mat 1792 1024 s)
    = mat 1792 1024 fun i j => s i j + dotN 1024 (tr f) g i j := by
  funext i
  idx_vars i
  unfold k0_pay3 k0_pay1
  pointwise [mat]
  rw [sum_nat 1024 fun k => f k i0 * g k i1]
  rfl

theorem pay_4 (s : ℕ → ℕ → EReal) : k0_pay4 (F := Ideal) (mat 1792 1024 s) = mat 1792 1024 s := by
  funext i
  idx_vars i
  unfold k0_pay4
  pointwise [mat]

variable (m : (ℓ : Loc nD τ sig) → Buf (Elt Ideal) ℓ) (c : Dev nD) (g h : ℕ → ℕ → EReal)
  (hg : m (c, main_arg2) = mat 16384 1792 g) (hh : m (c, main_arg0) = mat 16384 1024 h)

include hg in
theorem blk_0 (t : Fin cfg0.N) : iblk m c 0 t = mat 1024 1792 fun k r => g (1024 * t.val + k) r := by
  obtain ⟨e0, e1⟩ := ix_0 t
  funext y
  have e : V m c (Pipeline.arrRef spec0 0) = mat 16384 1792 g := (V_main_arg2 m c).trans hg
  unfold iblk
  rw [e]
  blk_simp [mat, e0, e1]
  rw [Nat.mul_comm t.val 1024]

include hh in
theorem blk_1 (t : Fin cfg0.N) : iblk m c 1 t = mat 1024 1024 fun k r => h (1024 * t.val + k) r := by
  obtain ⟨e0, e1⟩ := ix_1 t
  funext y
  have e : V m c (Pipeline.arrRef spec0 1) = mat 16384 1024 h := (V_main_arg0 m c).trans hh
  unfold iblk
  rw [e]
  blk_simp [mat, e0, e1]
  rw [Nat.mul_comm t.val 1024]

/-- A further block of rows added to the product of the rows before it. -/
theorem dot_add (n i j : ℕ) : dotN (1024 * n) (tr g) h i j
    + dotN 1024 (tr fun k r => g (1024 * n + k) r) (fun k r => h (1024 * n + k) r) i j = dotN (1024 * (n + 1)) (tr g) h i j := by
  rw [Nat.mul_add_one]
  exact (Finset.sum_range_add (fun k => g k i * h k j) (1024 * n) 1024).symm

include hg hh in
/-- What the accumulator holds after a point that is not the last. -/
theorem sweep (n : ℕ) (hn : n < cfg0.N) (hl : ¬n % 16 = 15) : (outsAt0 m c n hn).2 = mat 1792 1024 (dotN (1024 * (n + 1)) (tr g) h) := by
  have hN : cfg0.N = 16 := N_0
  induction n with
  | zero =>
    rw [outsAt0_A m c ⟨0, hn⟩ rfl (by dsimp only; omega) (by dsimp only; omega), first, blk_0 m c g hg, blk_1 m c h hh, pay_2]
    simp only [Nat.mul_zero, Nat.zero_add, Nat.mul_one]
  | succ n ih =>
    rw [outsAt0_B m c ⟨n + 1, hn⟩ (by dsimp only; omega) (by dsimp only; omega) hl, middle, blk_0 m c g hg, blk_1 m c h hh]
    have e := ih (by omega) (by omega)
    show k0_pay3 (F := Ideal) _ _ (outsAt0 m c n _).2 = _
    rw [e, pay_3]
    congr 1
    funext i j
    exact dot_add g h (n + 1) i j

include hg hh in
/-- What the last point writes. -/
theorem written (n : ℕ) (hn : n + 1 < cfg0.N) (hl : (n + 1) % 16 = 15) : (outsAt0 m c (n + 1) hn).1 = mat 1792 1024 (dotN (1024 * (n + 2)) (tr g) h) := by
  have hN : cfg0.N = 16 := N_0
  rw [outsAt0_C m c ⟨n + 1, hn⟩ (by dsimp only; omega) (by dsimp only; omega) hl, last, blk_0 m c g hg, blk_1 m c h hh]
  have e := sweep m c g h hg hh n (by omega) (by omega)
  show k0_pay4 (F := Ideal) (k0_pay3 (F := Ideal) _ _ (outsAt0 m c n _).2) = _
  rw [e, pay_3, pay_4]
  congr 1
  funext i j
  exact dot_add g h (n + 1) i j

include hg hh in
/-- The array of results after the last point. -/
theorem final_2 : (dats m 0 c).arrAt 2 cfg0.N = mat 1792 1024 (dotN 16384 (tr g) h) := by
  refine (dats m 0 c).arrAt_eq_of_covers 2 _ (by decide +kernel) fun t hf y => ?_
  have ht : t.val % 16 = 15 := (flush0_2 t).1 hf
  obtain ⟨e0, e1⟩ := ix_2 t
  obtain ⟨n, hn⟩ := t
  have hN : n < 16 := lt_of_lt_of_eq hn N_0
  obtain rfl : n = 14 + 1 := by dsimp only at ht; omega
  rw [after0_2, written m c g h hg hh 14 hn ht]
  blk_simp [mat, e0, e1]

theorem run (m : (ℓ : Loc nD τ sig) → Buf (Elt Ideal) ℓ) (ρ : Dev nD → PrngReg) (g h : Dev nD → ℕ → ℕ → EReal)
    (hg : ∀ c : Dev nD, m ((c.tc : Thread nD τ).loc main_arg2) = mat 16384 1792 (g c))
    (hh : ∀ c : Dev nD, m ((c.tc : Thread nD τ).loc main_arg0) = mat 16384 1024 (h c)) :
    θ_run (defs (F := Ideal)) (onTc (τ := τ) (main (F := Ideal))) ⟨m, fun _ => 0, ρ⟩ fun r => ∀ c : Dev nD,
      r.2.mem ((c.tc : Thread nD τ).loc main_v1) = mat 1024 1792 (tr (dotN 16384 (tr (g c)) (h c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨(H c).1.trans (by
      show transpose S1024x1792 [1, 0] ((dats m 0 c).arrAt 2 cfg0.N) transposes_S1792x1024_S1024x1792_1_0 = _
      rw [final_2 m c (g c) (h c) (hg c) (hh c)]
      funext i
      idx_vars i
      pointwise [mat, tr]), (H c).2⟩)
    (Cert.CInWeightIdeal.Value.run (F := Ideal) m ρ)

end Cert.CInWeightIdeal.Ffn

namespace Cert.CInWeightRefIdeal.Ffn

open Cert.CInWeightRefIdeal Cert.CInWeightRefIdeal.Gen Cert.Ffn Idealize.ShloMosaic Idealize.ShloMosaic.TcCoe Idealize.SL.Sem

/-- The reference's value. -/
theorem value (g h : ℕ → ℕ → EReal) :
    truncf .bf16 (transpose S1024x1792 [1, 0] (Host.dotGeneral (φ₁ := .f32) (φ₂ := .bf16) dot_S16384x1792_S16384x1024_S1792x1024_0_0_1_1_n_n none (extf .f32 (truncf .bf16 (mat 16384 1792 g : FVec Ideal S16384x1792 .f32) bitsLt_bf16_f32) bitsLt_bf16_f32)
      (mat 16384 1024 h : FVec Ideal S16384x1024 .bf16) : FVec Ideal S1792x1024 .f32) transposes_S1792x1024_S1024x1792_1_0) bitsLt_bf16_f32 = mat 1024 1792 (tr (dotN 16384 (tr g) h)) := by
  funext i
  idx_vars i
  pointwise [mat]
  exact sum_nat 16384 fun k => g k i1 * h k i0

end Cert.CInWeightRefIdeal.Ffn

namespace Cert.Proof.CInWeight

open Cert.Ffn Idealize.ShloMosaic Idealize.SL.Sem

theorem frame_kernel : Cert.quiescent_CInWeight := fun m ρ _ => Cert.CInWeight.Gen.frame (F := Bits) m ρ

theorem frame_ideal : Cert.quiescent_CInWeightIdeal := fun m ρ _ => Cert.CInWeightIdeal.Gen.frame (F := Ideal) m ρ

theorem frame_reference : Cert.quiescent_CInWeightRefIdeal := fun m ρ _ =>
  (θ_run Cert.CInWeightRefIdeal.defs _ _).mono
    (fun r h => ⟨fun c => (h c).2, sem_eq_zero_of_no_sems (by decide) r.2⟩)
    (Cert.CInWeightRefIdeal.Value.run (F := Ideal) m ρ)

theorem preserves : Cert.preserves_CInWeight_CInWeightIdeal := trivial

/-- The call and the reference give the same result, on all arguments. -/
theorem algebraic : Cert.algebraic_CInWeightIdeal_CInWeightRefIdeal (hCInWeightIdeal := Cert.CInWeightIdeal.Gen.facts)
    (hCInWeightRefIdeal := Cert.CInWeightRefIdeal.Gen.facts) := by
  intro m s m' s' _ heq
  choose g hg using fun c : Dev Cert.CInWeightIdeal.nD => exists_mat (a := 16384) (b := 1792) (m ((c.tc : Thread Cert.CInWeightIdeal.nD Cert.CInWeightIdeal.τ).loc Cert.CInWeightIdeal.main_arg2))
  choose h hh using fun c : Dev Cert.CInWeightIdeal.nD => exists_mat (a := 16384) (b := 1024) (m ((c.tc : Thread Cert.CInWeightIdeal.nD Cert.CInWeightIdeal.τ).loc Cert.CInWeightIdeal.main_arg0))
  refine ⟨_, Cert.CInWeightIdeal.Ffn.run m s g h hg hh,
    (θ_run Cert.CInWeightRefIdeal.defs _ _).mono (fun r H c => ⟨(H c).1.trans ?_, (H c).2⟩)
      (Cert.CInWeightRefIdeal.Value.run (F := Ideal) m' s')⟩
  rw [(heq c).2.2.trans (hg c), (heq c).1.trans (hh c)]
  exact Cert.CInWeightRefIdeal.Ffn.value (g c) (h c)

end Cert.Proof.CInWeight

end
-- ==== Proof.Ffn.BInForward.lean ====
/- The product of the forward pass with the input weight of the dilated attention. -/
module

public import proofs.«01_k».proof.Defs
public import proofs.«01_k».proof.Proof.Ffn.Mat
public import proofs.«01_k».proof.Proof.Gen.BInForward.Frame
public import proofs.«01_k».proof.Proof.Gen.BInForwardIdeal.Frame
public import proofs.«01_k».proof.Proof.Gen.BInForwardRefIdeal.Run
public import Idealize.ShloMosaic.Lib.Quiescent

@[expose] public section

set_option maxRecDepth 16384

noncomputable section

namespace Cert.BInForwardIdeal.Ffn

open Cert.BInForwardIdeal Cert.BInForwardIdeal.Gen Cert.Ffn Idealize.ShloMosaic Idealize.ShloMosaic.TcCoe Idealize.SL.Sem

theorem ix_0 : ∀ t : Fin cfg0.N, win0_0.index t 0 = t.val / 2 ∧ win0_0.index t 1 = 0 := by decide +kernel
theorem ix_1 : ∀ t : Fin cfg0.N, win0_1.index t 0 = t.val % 2 ∧ win0_1.index t 1 = 0 := by decide +kernel
theorem ix_2 : ∀ t : Fin cfg0.N, win0_2.index t 0 = t.val / 2 ∧ win0_2.index t 1 = t.val % 2 := by decide +kernel

/-- The body's product of two blocks. -/
theorem pay_1 (f g : ℕ → ℕ → EReal) : k0_pay1 (F := Ideal) (mat 512 1024 f) (mat 2432 1024 g) = mat 512 2432 (dotN 1024 f (tr g)) := by
  funext i
  idx_vars i
  unfold k0_pay1
  pointwise [mat]
  exact sum_nat 1024 fun k => f i0 k * g i1 k

theorem out_2 (f g : ℕ → ℕ → EReal) : out0_2 (F := Ideal) (mat 512 1024 f) (mat 2432 1024 g) = mat 512 2432 (dotN 1024 f (tr g)) := by
  unfold out0_2
  rw [View.canon_unit_zero zero2, View.ld_unit_zero zero2, View.ld_unit_zero zero2, pay_1]

variable (m : (ℓ : Loc nD τ sig) → Buf (Elt Ideal) ℓ) (c : Dev nD) (h w : ℕ → ℕ → EReal)
  (hh : m (c, main_arg0) = mat 16384 1024 h) (hw : m (c, main_arg1) = mat 1024 4864 w)

include hw in
/-- The weight as the call takes it, its axes exchanged. -/
theorem V_0 : V m c main_v0 = mat 4864 1024 (tr w) := by
  have e : V m c main_v0 = transpose S4864x1024 [1, 0] (m (c, main_arg1)) transposes_S1024x4864_S4864x1024_1_0 := by
    unfold V
    after_results_simp <;> rfl
  rw [e, hw]
  funext i
  idx_vars i
  pointwise [mat, tr]

include hh in
theorem blk_0 (t : Fin cfg0.N) : iblk m c 0 t = mat 512 1024 fun r k => h (512 * (t.val / 2) + r) k := by
  obtain ⟨e0, e1⟩ := ix_0 t
  funext y
  have e : V m c (Pipeline.arrRef spec0 0) = mat 16384 1024 h := (V_main_arg0 m c).trans hh
  unfold iblk
  rw [e]
  blk_simp [mat, e0, e1]
  rw [Nat.mul_comm (t.val / 2) 512]

include hw in
theorem blk_1 (t : Fin cfg0.N) : iblk m c 1 t = mat 2432 1024 fun r k => w k (2432 * (t.val % 2) + r) := by
  obtain ⟨e0, e1⟩ := ix_1 t
  funext y
  have e : V m c (Pipeline.arrRef spec0 1) = mat 4864 1024 (tr w) := V_0 m c w hw
  unfold iblk
  rw [e]
  blk_simp [mat, e0, e1]
  rw [Nat.mul_comm (t.val % 2) 2432]
  rfl

include hh hw in
/-- The array of results after the last block. -/
theorem final_2 : (dats m 0 c).arrAt 2 cfg0.N = mat 16384 4864 (dotN 1024 h w) := by
  refine (dats m 0 c).arrAt_eq_of_covers 2 _ (by decide +kernel) fun t hf y => ?_
  obtain ⟨e0, e1⟩ := ix_2 t
  rw [after0_2, blk_0 m c h hh, blk_1 m c w hw, out_2]
  blk_simp [mat, e0, e1]
  rw [Nat.mul_comm (t.val / 2) 512, Nat.mul_comm (t.val % 2) 2432]
  rfl

theorem run (m : (ℓ : Loc nD τ sig) → Buf (Elt Ideal) ℓ) (ρ : Dev nD → PrngReg) (h w : Dev nD → ℕ → ℕ → EReal)
    (hh : ∀ c : Dev nD, m ((c.tc : Thread nD τ).loc main_arg0) = mat 16384 1024 (h c))
    (hw : ∀ c : Dev nD, m ((c.tc : Thread nD τ).loc main_arg1) = mat 1024 4864 (w c)) :
    θ_run (defs (F := Ideal)) (onTc (τ := τ) (main (F := Ideal))) ⟨m, fun _ => 0, ρ⟩ fun r => ∀ c : Dev nD,
      r.2.mem ((c.tc : Thread nD τ).loc main_v1) = mat 16384 4864 (dotN 1024 (h c) (w c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r H c => ⟨((H.1 c).1 2).trans (final_2 m c (h c) (w c) (hh c) (hw c)), H.2.1 c⟩)
    (θ_run_and (run_main m ρ) (frame m ρ))

end Cert.BInForwardIdeal.Ffn

namespace Cert.BInForwardRefIdeal.Ffn

open Cert.BInForwardRefIdeal Cert.BInForwardRefIdeal.Gen Cert.Ffn Idealize.ShloMosaic Idealize.ShloMosaic.TcCoe Idealize.SL.Sem

/-- The reference's value. -/
theorem value (h w : ℕ → ℕ → EReal) :
    truncf .bf16 (Host.dotGeneral (φ₁ := .bf16) (φ₂ := .bf16) dot_S16384x1024_S1024x4864_S16384x4864_1_0_0_1_n_n none (mat 16384 1024 h : FVec Ideal S16384x1024 .bf16)
      (mat 1024 4864 w : FVec Ideal S1024x4864 .bf16) : FVec Ideal S16384x4864 .f32) bitsLt_bf16_f32 = mat 16384 4864 (dotN 1024 h w) := by
  funext i
  idx_vars i
  pointwise [mat]
  exact sum_nat 1024 fun k => h i0 k * w k i1

end Cert.BInForwardRefIdeal.Ffn

namespace Cert.Proof.BInForward

open Cert.Ffn Idealize.ShloMosaic Idealize.SL.Sem

theorem frame_kernel : Cert.quiescent_BInForward := fun m ρ _ => Cert.BInForward.Gen.frame (F := Bits) m ρ

theorem frame_ideal : Cert.quiescent_BInForwardIdeal := fun m ρ _ => Cert.BInForwardIdeal.Gen.frame (F := Ideal) m ρ

theorem frame_reference : Cert.quiescent_BInForwardRefIdeal := fun m ρ _ =>
  (θ_run Cert.BInForwardRefIdeal.defs _ _).mono
    (fun r h => ⟨fun c => (h c).2, sem_eq_zero_of_no_sems (by decide) r.2⟩)
    (Cert.BInForwardRefIdeal.Value.run (F := Ideal) m ρ)

theorem preserves : Cert.preserves_BInForward_BInForwardIdeal := trivial

/-- The call and the reference give the same result, on all arguments. -/
theorem algebraic : Cert.algebraic_BInForwardIdeal_BInForwardRefIdeal (hBInForwardIdeal := Cert.BInForwardIdeal.Gen.facts)
    (hBInForwardRefIdeal := Cert.BInForwardRefIdeal.Gen.facts) := by
  intro m g m' g' _ heq
  choose h hh using fun c : Dev Cert.BInForwardIdeal.nD => exists_mat (a := 16384) (b := 1024) (m ((c.tc : Thread Cert.BInForwardIdeal.nD Cert.BInForwardIdeal.τ).loc Cert.BInForwardIdeal.main_arg0))
  choose w hw using fun c : Dev Cert.BInForwardIdeal.nD => exists_mat (a := 1024) (b := 4864) (m ((c.tc : Thread Cert.BInForwardIdeal.nD Cert.BInForwardIdeal.τ).loc Cert.BInForwardIdeal.main_arg1))
  refine ⟨_, Cert.BInForwardIdeal.Ffn.run m g h w hh hw,
    (θ_run Cert.BInForwardRefIdeal.defs _ _).mono (fun r H c => ⟨(H c).1.trans ?_, (H c).2⟩)
      (Cert.BInForwardRefIdeal.Value.run (F := Ideal) m' g')⟩
  rw [(heq c).1.trans (hh c), (heq c).2.trans (hw c)]
  exact Cert.BInForwardRefIdeal.Ffn.value (h c) (w c)

end Cert.Proof.BInForward

end
-- ==== Proof.Ffn.BInRows.lean ====
/- The gradient of the product with the input weight of the dilated attention in its rows. -/
module

public import proofs.«01_k».proof.Defs
public import proofs.«01_k».proof.Proof.Ffn.Mat
public import proofs.«01_k».proof.Proof.Gen.BInRows.Frame
public import proofs.«01_k».proof.Proof.Gen.BInRowsIdeal.Frame
public import proofs.«01_k».proof.Proof.Gen.BInRowsRefIdeal.Run
public import Idealize.ShloMosaic.Lib.Quiescent

@[expose] public section

set_option maxRecDepth 16384

noncomputable section

namespace Cert.BInRowsIdeal.Ffn

open Cert.BInRowsIdeal Cert.BInRowsIdeal.Gen Cert.Ffn Idealize.ShloMosaic Idealize.ShloMosaic.TcCoe Idealize.SL.Sem
open Idealize.ShloMosaic.Tactic

section
variable {F : FTy → Type} [FloatOps F]

/-- The first point stores its product. -/
theorem first (c : Dev nD) (i : grid0.Coords) (a3 : Memref sig .tc .vmem S512x2432 .bf16) (h3 : a3.IsWhole)
    (a4 : Memref sig .tc .vmem S2432x1024 .bf16) (h4 : a4.IsWhole) (a5 : Memref sig .tc .vmem S512x1024 .bf16) (h5 : a5.IsWhole)
    (a6 : Memref sig .tc .vmem S512x1024 .f32) (h6 : a6.IsWhole)
    (hc0 : cond0_0 i) (hc1 : ¬cond0_1 i) (hc2 : ¬cond0_2 i) (x0 : Vec F S512x2432 .bf16) (x1 : Vec F S2432x1024 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S512x2432) zero2, View.ld_unit_zero (S := S2432x1024) zero2]

/-- The last point writes the sum out. -/
theorem last (c : Dev nD) (i : grid0.Coords) (a3 : Memref sig .tc .vmem S512x2432 .bf16) (h3 : a3.IsWhole)
    (a4 : Memref sig .tc .vmem S2432x1024 .bf16) (h4 : a4.IsWhole) (a5 : Memref sig .tc .vmem S512x1024 .bf16) (h5 : a5.IsWhole)
    (a6 : Memref sig .tc .vmem S512x1024 .f32) (h6 : a6.IsWhole)
    (hc0 : ¬cond0_0 i) (hc1 : cond0_1 i) (hc2 : cond0_2 i) (x0 : Vec F S512x2432 .bf16) (x1 : Vec F S2432x1024 .bf16) (s : Vec F S512x1024 .f32) :
    out0_B_2 c i a3 h3 a4 h4 a5 h5 a6 h6 hc0 hc1 hc2 x0 x1 s = k0_pay4 (k0_pay3 x0 x1 s) := by
  unfold out0_B_2
  rw [View.read_writes_eq_canon _ _ _ (cover0_B_2 c i a3 h3 a4 h4 a5 h5 a6 h6 hc0 hc1 hc2 x0 x1 s)]
  unfold kernelRun0_B
  dsimp only
  sl_unfold_words
  rw [View.canon_unit_zero zero2, View.readCov_unit_zero (S := S512x1024) _ zero2]
  simp only [View.readAt_eq_ld, h3.read_unread, h4.read_unread, h6.read_unread, View.ld_unit_zero (S := S512x2432) zero2,
    View.ld_unit_zero (S := S2432x1024) zero2, View.ld_unit_zero (S := S512x1024) zero2]

end

theorem ix_0 : ∀ t : Fin cfg0.N, win0_0.index t 0 = t.val / 2 ∧ win0_0.index t 1 = t.val % 2 := by decide +kernel
theorem ix_1 : ∀ t : Fin cfg0.N, win0_1.index t 0 = t.val % 2 ∧ win0_1.index t 1 = 0 := by decide +kernel
theorem ix_2 : ∀ t : Fin cfg0.N, win0_2.index t 0 = t.val / 2 ∧ win0_2.index t 1 = 0 := by decide +kernel

/-- The product of two blocks. -/
theorem pay_2 (f g : ℕ → ℕ → EReal) : k0_pay2 (F := Ideal) (mat 512 2432 f) (mat 2432 1024 g) = mat 512 1024 (dotN 2432 f g) := by
  funext i
  idx_vars i
  unfold k0_pay2 k0_pay1
  pointwise [mat]
  exact sum_nat 2432 fun k => f i0 k * g k i1

theorem pay_3 (f g s : ℕ → ℕ → EReal) : k0_pay3 (F := Ideal) (mat 512 2432 f) (mat 2432 1024 g) (mat 512 1024 s)
    = mat 512 1024 fun i j => s i j + dotN 2432 f g i j := by
  funext i
  idx_vars i
  unfold k0_pay3 k0_pay1
  pointwise [mat]
  rw [sum_nat 2432 fun k => f i0 k * g k i1]
  rfl

theorem pay_4 (s : ℕ → ℕ → EReal) : k0_pay4 (F := Ideal) (mat 512 1024 s) = mat 512 1024 s := by
  funext i
  idx_vars i
  unfold k0_pay4
  pointwise [mat]

variable (m : (ℓ : Loc nD τ sig) → Buf (Elt Ideal) ℓ) (c : Dev nD) (g w : ℕ → ℕ → EReal)
  (hg : m (c, main_arg2) = mat 16384 4864 g) (hw : m (c, main_arg1) = mat 1024 4864 w)

include hw in
/-- The weight as the call takes it, its axes exchanged. -/
theorem V_0 : V m c main_v0 = mat 4864 1024 (tr w) := by
  have e : V m c main_v0 = transpose S4864x1024 [1, 0] (m (c, main_arg1)) transposes_S1024x4864_S4864x1024_1_0 := by
    unfold V
    after_results_simp <;> rfl
  rw [e, hw]
  funext i
  idx_vars i
  pointwise [mat, tr]

include hg in
theorem blk_0 (t : Fin cfg0.N) : iblk m c 0 t = mat 512 2432 fun r k => g (512 * (t.val / 2) + r) (2432 * (t.val % 2) + k) := by
  obtain ⟨e0, e1⟩ := ix_0 t
  funext y
  have e : V m c (Pipeline.arrRef spec0 0) = mat 16384 4864 g := (V_main_arg2 m c).trans hg
  unfold iblk
  rw [e]
  blk_simp [mat, e0, e1]
  rw [Nat.mul_comm (t.val / 2) 512, Nat.mul_comm (t.val % 2) 2432]

include hw in
theorem blk_1 (t : Fin cfg0.N) : iblk m c 1 t = mat 2432 1024 fun k r => w r (2432 * (t.val % 2) + k) := by
  obtain ⟨e0, e1⟩ := ix_1 t
  funext y
  have e : V m c (Pipeline.arrRef spec0 1) = mat 4864 1024 (tr w) := V_0 m c w hw
  unfold iblk
  rw [e]
  blk_simp [mat, e0, e1]
  rw [Nat.mul_comm (t.val % 2) 2432]
  rfl

include hg hw in
/-- What the first of the two points of a block of rows leaves in the accumulator. -/
theorem begun (n : ℕ) (hn : n < cfg0.N) (hl : n % 2 = 0) : (outsAt0 m c n hn).2
    = mat 512 1024 fun i j => dotN 2432 g (tr w) (512 * (n / 2) + i) j := by
  rw [outsAt0_A m c ⟨n, hn⟩ hl (by dsimp only; omega) (by dsimp only; omega), first, blk_0 m c g hg, blk_1 m c w hw, pay_2]
  simp only [hl, Nat.mul_zero, Nat.zero_add]
  rfl

include hg hw in
/-- What the second of the two points writes. -/
theorem written (n : ℕ) (hn : n + 1 < cfg0.N) (hl : (n + 1) % 2 = 1) : (outsAt0 m c (n + 1) hn).1
    = mat 512 1024 fun i j => dotN 4864 g (tr w) (512 * ((n + 1) / 2) + i) j := by
  rw [outsAt0_B m c ⟨n + 1, hn⟩ (by dsimp only; omega) hl hl, last, blk_0 m c g hg, blk_1 m c w hw]
  have e := begun m c g w hg hw n (by omega) (by omega)
  show k0_pay4 (F := Ideal) (k0_pay3 (F := Ideal) _ _ (outsAt0 m c n _).2) = _
  rw [e, pay_3, pay_4]
  congr 1
  funext i j
  have e2 : n / 2 = (n + 1) / 2 := by omega
  show dotN 2432 g (tr w) (512 * (n / 2) + i) j
    + dotN 2432 (fun r k => g (512 * ((n + 1) / 2) + r) (2432 * ((n + 1) % 2) + k)) (fun k r => w r (2432 * ((n + 1) % 2) + k)) i j = _
  rw [e2, hl]
  exact (Finset.sum_range_add (fun k => g (512 * ((n + 1) / 2) + i) k * w j k) 2432 2432).symm

include hg hw in
/-- The array of results after the last block. -/
theorem final_2 : (dats m 0 c).arrAt 2 cfg0.N = mat 16384 1024 (dotN 4864 g (tr w)) := by
  refine (dats m 0 c).arrAt_eq_of_covers 2 _ (by decide +kernel) fun t hf y => ?_
  have ht : t.val % 2 = 1 := (flush0_2 t).1 hf
  obtain ⟨e0, e1⟩ := ix_2 t
  obtain ⟨n, hn⟩ := t
  cases n with
  | zero => exact absurd ht (by dsimp only; omega)
  | succ n =>
    rw [after0_2, written m c g w hg hw n hn ht]
    blk_simp [mat, e0, e1]
    rw [Nat.mul_comm ((n + 1) / 2) 512]

theorem run (m : (ℓ : Loc nD τ sig) → Buf (Elt Ideal) ℓ) (ρ : Dev nD → PrngReg) (g w : Dev nD → ℕ → ℕ → EReal)
    (hg : ∀ c : Dev nD, m ((c.tc : Thread nD τ).loc main_arg2) = mat 16384 4864 (g c))
    (hw : ∀ c : Dev nD, m ((c.tc : Thread nD τ).loc main_arg1) = mat 1024 4864 (w c)) :
    θ_run (defs (F := Ideal)) (onTc (τ := τ) (main (F := Ideal))) ⟨m, fun _ => 0, ρ⟩ fun r => ∀ c : Dev nD,
      r.2.mem ((c.tc : Thread nD τ).loc main_v1) = mat 16384 1024 (dotN 4864 (g c) (tr (w c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨((H.1 c).1 2).trans (final_2 m c (g c) (w c) (hg c) (hw c)), H.2.1 c⟩)
    (θ_run_and (run_main m ρ) (frame m ρ))

end Cert.BInRowsIdeal.Ffn

namespace Cert.BInRowsRefIdeal.Ffn

open Cert.BInRowsRefIdeal Cert.BInRowsRefIdeal.Gen Cert.Ffn Idealize.ShloMosaic Idealize.ShloMosaic.TcCoe Idealize.SL.Sem

/-- The reference's value. -/
theorem value (g w : ℕ → ℕ → EReal) :
    truncf .bf16 (Host.dotGeneral (φ₁ := .f32) (φ₂ := .bf16) dot_S16384x4864_S1024x4864_S16384x1024_1_1_0_0_n_n none (extf .f32 (mat 16384 4864 g : FVec Ideal S16384x4864 .bf16) bitsLt_bf16_f32)
      (mat 1024 4864 w : FVec Ideal S1024x4864 .bf16) : FVec Ideal S16384x1024 .f32) bitsLt_bf16_f32 = mat 16384 1024 (dotN 4864 g (tr w)) := by
  funext i
  idx_vars i
  pointwise [mat]
  exact sum_nat 4864 fun k => g i0 k * w i1 k

end Cert.BInRowsRefIdeal.Ffn

namespace Cert.Proof.BInRows

open Cert.Ffn Idealize.ShloMosaic Idealize.SL.Sem

theorem frame_kernel : Cert.quiescent_BInRows := fun m ρ _ => Cert.BInRows.Gen.frame (F := Bits) m ρ

theorem frame_ideal : Cert.quiescent_BInRowsIdeal := fun m ρ _ => Cert.BInRowsIdeal.Gen.frame (F := Ideal) m ρ

theorem frame_reference : Cert.quiescent_BInRowsRefIdeal := fun m ρ _ =>
  (θ_run Cert.BInRowsRefIdeal.defs _ _).mono
    (fun r h => ⟨fun c => (h c).2, sem_eq_zero_of_no_sems (by decide) r.2⟩)
    (Cert.BInRowsRefIdeal.Value.run (F := Ideal) m ρ)

theorem preserves : Cert.preserves_BInRows_BInRowsIdeal := trivial

/-- The call and the reference give the same result, on all arguments. -/
theorem algebraic : Cert.algebraic_BInRowsIdeal_BInRowsRefIdeal (hBInRowsIdeal := Cert.BInRowsIdeal.Gen.facts)
    (hBInRowsRefIdeal := Cert.BInRowsRefIdeal.Gen.facts) := by
  intro m g m' g' _ heq
  choose d hd using fun c : Dev Cert.BInRowsIdeal.nD => exists_mat (a := 16384) (b := 4864) (m ((c.tc : Thread Cert.BInRowsIdeal.nD Cert.BInRowsIdeal.τ).loc Cert.BInRowsIdeal.main_arg2))
  choose w hw using fun c : Dev Cert.BInRowsIdeal.nD => exists_mat (a := 1024) (b := 4864) (m ((c.tc : Thread Cert.BInRowsIdeal.nD Cert.BInRowsIdeal.τ).loc Cert.BInRowsIdeal.main_arg1))
  refine ⟨_, Cert.BInRowsIdeal.Ffn.run m g d w hd hw,
    (θ_run Cert.BInRowsRefIdeal.defs _ _).mono (fun r H c => ⟨(H c).1.trans ?_, (H c).2⟩)
      (Cert.BInRowsRefIdeal.Value.run (F := Ideal) m' g')⟩
  rw [(heq c).2.2.trans (hd c), (heq c).2.1.trans (hw c)]
  exact Cert.BInRowsRefIdeal.Ffn.value (d c) (w c)

end Cert.Proof.BInRows

end
-- ==== Proof.Ffn.BInWeight.lean ====
/- The gradient of the product with the input weight of the dilated attention in its weight. -/
module

public import proofs.«01_k».proof.Defs
public import proofs.«01_k».proof.Proof.Ffn.Mat
public import proofs.«01_k».proof.Proof.Gen.BInWeight.Frame
public import proofs.«01_k».proof.Proof.Gen.BInWeightIdeal.Frame
public import proofs.«01_k».proof.Proof.Gen.BInWeightIdeal.Run
public import proofs.«01_k».proof.Proof.Gen.BInWeightRefIdeal.Run
public import Idealize.ShloMosaic.Lib.Quiescent

@[expose] public section

set_option maxRecDepth 16384

noncomputable section

namespace Cert.BInWeightIdeal.Ffn

open Cert.BInWeightIdeal Cert.BInWeightIdeal.Gen Cert.Ffn Idealize.ShloMosaic Idealize.ShloMosaic.TcCoe Idealize.SL.Sem
open Idealize.ShloMosaic.Tactic

section
variable {F : FTy → Type} [FloatOps F]

/-- The first point stores its product. -/
theorem first (c : Dev nD) (i : grid0.Coords) (a3 : Memref sig .tc .vmem S1024x2432 .bf16) (h3 : a3.IsWhole)
    (a4 : Memref sig .tc .vmem S1024x1024 .bf16) (h4 : a4.IsWhole) (a5 : Memref sig .tc .vmem S2432x1024 .bf16) (h5 : a5.IsWhole)
    (a6 : Memref sig .tc .vmem S2432x1024 .f32) (h6 : a6.IsWhole)
    (hc0 : cond0_0 i) (hc1 : ¬cond0_1 i) (hc2 : ¬cond0_2 i) (x0 : Vec F S1024x2432 .bf16) (x1 : Vec F S1024x1024 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S1024x2432) zero2, View.ld_unit_zero (S := S1024x1024) zero2]

/-- A later point adds its product. -/
theorem middle (c : Dev nD) (i : grid0.Coords) (a3 : Memref sig .tc .vmem S1024x2432 .bf16) (h3 : a3.IsWhole)
    (a4 : Memref sig .tc .vmem S1024x1024 .bf16) (h4 : a4.IsWhole) (a5 : Memref sig .tc .vmem S2432x1024 .bf16) (h5 : a5.IsWhole)
    (a6 : Memref sig .tc .vmem S2432x1024 .f32) (h6 : a6.IsWhole)
    (hc0 : ¬cond0_0 i) (hc1 : cond0_1 i) (hc2 : ¬cond0_2 i) (x0 : Vec F S1024x2432 .bf16) (x1 : Vec F S1024x1024 .bf16) (s : Vec F S2432x1024 .f32) :
    sout0_B_0 c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero zero2]
  simp only [View.readAt_eq_ld, h3.read_unread, h4.read_unread, h6.read_unread, View.ld_unit_zero (S := S1024x2432) zero2,
    View.ld_unit_zero (S := S1024x1024) zero2, View.ld_unit_zero (S := S2432x1024) zero2]

/-- The last point writes the sum out. -/
theorem last (c : Dev nD) (i : grid0.Coords) (a3 : Memref sig .tc .vmem S1024x2432 .bf16) (h3 : a3.IsWhole)
    (a4 : Memref sig .tc .vmem S1024x1024 .bf16) (h4 : a4.IsWhole) (a5 : Memref sig .tc .vmem S2432x1024 .bf16) (h5 : a5.IsWhole)
    (a6 : Memref sig .tc .vmem S2432x1024 .f32) (h6 : a6.IsWhole)
    (hc0 : ¬cond0_0 i) (hc1 : cond0_1 i) (hc2 : cond0_2 i) (x0 : Vec F S1024x2432 .bf16) (x1 : Vec F S1024x1024 .bf16) (s : Vec F S2432x1024 .f32) :
    out0_C_2 c i a3 h3 a4 h4 a5 h5 a6 h6 hc0 hc1 hc2 x0 x1 s = k0_pay4 (k0_pay3 x0 x1 s) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero zero2, View.readCov_unit_zero (S := S2432x1024) _ zero2]
  simp only [View.readAt_eq_ld, h3.read_unread, h4.read_unread, h6.read_unread, View.ld_unit_zero (S := S1024x2432) zero2,
    View.ld_unit_zero (S := S1024x1024) zero2, View.ld_unit_zero (S := S2432x1024) zero2]

end

theorem ix_0 : ∀ t : Fin cfg0.N, win0_0.index t 0 = t.val % 16 ∧ win0_0.index t 1 = t.val / 16 := by decide +kernel
theorem ix_1 : ∀ t : Fin cfg0.N, win0_1.index t 0 = t.val % 16 ∧ win0_1.index t 1 = 0 := by decide +kernel
theorem ix_2 : ∀ t : Fin cfg0.N, win0_2.index t 0 = t.val / 16 ∧ win0_2.index t 1 = 0 := by decide +kernel

/-- The product of two blocks along their rows. -/
theorem pay_2 (f g : ℕ → ℕ → EReal) : k0_pay2 (F := Ideal) (mat 1024 2432 f) (mat 1024 1024 g) = mat 2432 1024 (dotN 1024 (tr f) g) := by
  funext i
  idx_vars i
  unfold k0_pay2 k0_pay1
  pointwise [mat]
  exact sum_nat 1024 fun k => f k i0 * g k i1

theorem pay_3 (f g s : ℕ → ℕ → EReal) : k0_pay3 (F := Ideal) (mat 1024 2432 f) (mat 1024 1024 g) (mat 2432 1024 s)
    = mat 2432 1024 fun i j => s i j + dotN 1024 (tr f) g i j := by
  funext i
  idx_vars i
  unfold k0_pay3 k0_pay1
  pointwise [mat]
  rw [sum_nat 1024 fun k => f k i0 * g k i1]
  rfl

theorem pay_4 (s : ℕ → ℕ → EReal) : k0_pay4 (F := Ideal) (mat 2432 1024 s) = mat 2432 1024 s := by
  funext i
  idx_vars i
  unfold k0_pay4
  pointwise [mat]

variable (m : (ℓ : Loc nD τ sig) → Buf (Elt Ideal) ℓ) (c : Dev nD) (g h : ℕ → ℕ → EReal)
  (hg : m (c, main_arg2) = mat 16384 4864 g) (hh : m (c, main_arg0) = mat 16384 1024 h)

include hg in
theorem blk_0 (t : Fin cfg0.N) : iblk m c 0 t = mat 1024 2432 fun k r => g (1024 * (t.val % 16) + k) (2432 * (t.val / 16) + r) := by
  obtain ⟨e0, e1⟩ := ix_0 t
  funext y
  have e : V m c (Pipeline.arrRef spec0 0) = mat 16384 4864 g := (V_main_arg2 m c).trans hg
  unfold iblk
  rw [e]
  blk_simp [mat, e0, e1]
  rw [Nat.mul_comm (t.val % 16) 1024, Nat.mul_comm (t.val / 16) 2432]

include hh in
theorem blk_1 (t : Fin cfg0.N) : iblk m c 1 t = mat 1024 1024 fun k r => h (1024 * (t.val % 16) + k) r := by
  obtain ⟨e0, e1⟩ := ix_1 t
  funext y
  have e : V m c (Pipeline.arrRef spec0 1) = mat 16384 1024 h := (V_main_arg0 m c).trans hh
  unfold iblk
  rw [e]
  blk_simp [mat, e0, e1]
  rw [Nat.mul_comm (t.val % 16) 1024]

/-- A further block of rows added to the product of the rows before it, in one block of the result. -/
theorem dot_add (n p i j : ℕ) : dotN (1024 * n) (tr g) h (2432 * p + i) j
    + dotN 1024 (tr fun k r => g (1024 * n + k) (2432 * p + r)) (fun k r => h (1024 * n + k) r) i j
    = dotN (1024 * (n + 1)) (tr g) h (2432 * p + i) j := by
  rw [Nat.mul_add_one]
  exact (Finset.sum_range_add (fun k => g k (2432 * p + i) * h k j) (1024 * n) 1024).symm

include hg hh in
/-- What a point that begins a block of the result leaves in the accumulator. -/
theorem begun (n : ℕ) (hn : n < cfg0.N) (hl : n % 16 = 0) : (outsAt0 m c n hn).2
    = mat 2432 1024 fun i j => dotN (1024 * (n % 16 + 1)) (tr g) h (2432 * (n / 16) + i) j := by
  rw [outsAt0_A m c ⟨n, hn⟩ hl (by dsimp only; omega) (by dsimp only; omega), first, blk_0 m c g hg, blk_1 m c h hh, pay_2]
  simp only [hl, Nat.mul_zero, Nat.zero_add, Nat.mul_one]
  rfl

include hg hh in
/-- What the accumulator holds after a point that does not finish a block. -/
theorem sweep (n : ℕ) (hn : n < cfg0.N) (hl : ¬n % 16 = 15) : (outsAt0 m c n hn).2
    = mat 2432 1024 fun i j => dotN (1024 * (n % 16 + 1)) (tr g) h (2432 * (n / 16) + i) j := by
  induction n with
  | zero => exact begun m c g h hg hh 0 hn rfl
  | succ n ih =>
    by_cases hz : (n + 1) % 16 = 0
    · exact begun m c g h hg hh (n + 1) hn hz
    · rw [outsAt0_B m c ⟨n + 1, hn⟩ hz (by dsimp only; omega) hl, middle, blk_0 m c g hg, blk_1 m c h hh]
      have e := ih (by omega) (by omega)
      show k0_pay3 (F := Ideal) _ _ (outsAt0 m c n _).2 = _
      rw [e, pay_3]
      congr 1
      funext i j
      have e1 : n % 16 + 1 = (n + 1) % 16 := by omega
      have e2 : n / 16 = (n + 1) / 16 := by omega
      rw [e1, e2]
      exact dot_add g h ((n + 1) % 16) ((n + 1) / 16) i j

include hg hh in
/-- What the point that finishes a block writes. -/
theorem written (n : ℕ) (hn : n + 1 < cfg0.N) (hl : (n + 1) % 16 = 15) : (outsAt0 m c (n + 1) hn).1
    = mat 2432 1024 fun i j => dotN 16384 (tr g) h (2432 * ((n + 1) / 16) + i) j := by
  rw [outsAt0_C m c ⟨n + 1, hn⟩ (by dsimp only; omega) (by dsimp only; omega) hl, last, blk_0 m c g hg, blk_1 m c h hh]
  have e := sweep m c g h hg hh n (by omega) (by omega)
  show k0_pay4 (F := Ideal) (k0_pay3 (F := Ideal) _ _ (outsAt0 m c n _).2) = _
  rw [e, pay_3, pay_4]
  refine congrArg (mat 2432 1024) (funext fun i => funext fun j => ?_)
  have e1 : n % 16 + 1 = 15 := by omega
  have e2 : n / 16 = (n + 1) / 16 := by omega
  show dotN (1024 * (n % 16 + 1)) (tr g) h _ j + dotN 1024 (tr fun k r => g (1024 * ((n + 1) % 16) + k) _) (fun k r => h (1024 * ((n + 1) % 16) + k) r) i j = _
  rw [e1, e2, hl]
  have e3 := dot_add g h 15 ((n + 1) / 16) i j
  rw [show 1024 * (15 + 1) = 16384 by norm_num] at e3
  exact e3

include hg hh in
/-- The array of results after the last point. -/
theorem final_2 : (dats m 0 c).arrAt 2 cfg0.N = mat 4864 1024 (dotN 16384 (tr g) h) := by
  refine (dats m 0 c).arrAt_eq_of_covers 2 _ (by decide +kernel) fun t hf y => ?_
  have ht : t.val % 16 = 15 := (flush0_2 t).1 hf
  obtain ⟨e0, e1⟩ := ix_2 t
  obtain ⟨n, hn⟩ := t
  cases n with
  | zero => exact absurd ht (by dsimp only; omega)
  | succ n =>
    rw [after0_2, written m c g h hg hh n hn ht]
    blk_simp [mat, e0, e1]
    rw [Nat.mul_comm ((n + 1) / 16) 2432]

theorem run (m : (ℓ : Loc nD τ sig) → Buf (Elt Ideal) ℓ) (ρ : Dev nD → PrngReg) (g h : Dev nD → ℕ → ℕ → EReal)
    (hg : ∀ c : Dev nD, m ((c.tc : Thread nD τ).loc main_arg2) = mat 16384 4864 (g c))
    (hh : ∀ c : Dev nD, m ((c.tc : Thread nD τ).loc main_arg0) = mat 16384 1024 (h c)) :
    θ_run (defs (F := Ideal)) (onTc (τ := τ) (main (F := Ideal))) ⟨m, fun _ => 0, ρ⟩ fun r => ∀ c : Dev nD,
      r.2.mem ((c.tc : Thread nD τ).loc main_v1) = mat 1024 4864 (tr (dotN 16384 (tr (g c)) (h c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨(H c).1.trans (by
      show transpose S1024x4864 [1, 0] ((dats m 0 c).arrAt 2 cfg0.N) transposes_S4864x1024_S1024x4864_1_0 = _
      rw [final_2 m c (g c) (h c) (hg c) (hh c)]
      funext i
      idx_vars i
      pointwise [mat, tr]), (H c).2⟩)
    (Cert.BInWeightIdeal.Value.run (F := Ideal) m ρ)

end Cert.BInWeightIdeal.Ffn

namespace Cert.BInWeightRefIdeal.Ffn

open Cert.BInWeightRefIdeal Cert.BInWeightRefIdeal.Gen Cert.Ffn Idealize.ShloMosaic Idealize.ShloMosaic.TcCoe Idealize.SL.Sem

/-- The reference's value. -/
theorem value (g h : ℕ → ℕ → EReal) :
    truncf .bf16 (transpose S1024x4864 [1, 0] (Host.dotGeneral (φ₁ := .f32) (φ₂ := .bf16) dot_S16384x4864_S16384x1024_S4864x1024_0_0_1_1_n_n none (extf .f32 (mat 16384 4864 g : FVec Ideal S16384x4864 .bf16) bitsLt_bf16_f32)
      (mat 16384 1024 h : FVec Ideal S16384x1024 .bf16) : FVec Ideal S4864x1024 .f32) transposes_S4864x1024_S1024x4864_1_0) bitsLt_bf16_f32 = mat 1024 4864 (tr (dotN 16384 (tr g) h)) := by
  funext i
  idx_vars i
  pointwise [mat]
  exact sum_nat 16384 fun k => g k i1 * h k i0

end Cert.BInWeightRefIdeal.Ffn

namespace Cert.Proof.BInWeight

open Cert.Ffn Idealize.ShloMosaic Idealize.SL.Sem

theorem frame_kernel : Cert.quiescent_BInWeight := fun m ρ _ => Cert.BInWeight.Gen.frame (F := Bits) m ρ

theorem frame_ideal : Cert.quiescent_BInWeightIdeal := fun m ρ _ => Cert.BInWeightIdeal.Gen.frame (F := Ideal) m ρ

theorem frame_reference : Cert.quiescent_BInWeightRefIdeal := fun m ρ _ =>
  (θ_run Cert.BInWeightRefIdeal.defs _ _).mono
    (fun r h => ⟨fun c => (h c).2, sem_eq_zero_of_no_sems (by decide) r.2⟩)
    (Cert.BInWeightRefIdeal.Value.run (F := Ideal) m ρ)

theorem preserves : Cert.preserves_BInWeight_BInWeightIdeal := trivial

/-- The call and the reference give the same result, on all arguments. -/
theorem algebraic : Cert.algebraic_BInWeightIdeal_BInWeightRefIdeal (hBInWeightIdeal := Cert.BInWeightIdeal.Gen.facts)
    (hBInWeightRefIdeal := Cert.BInWeightRefIdeal.Gen.facts) := by
  intro m s m' s' _ heq
  choose g hg using fun c : Dev Cert.BInWeightIdeal.nD => exists_mat (a := 16384) (b := 4864) (m ((c.tc : Thread Cert.BInWeightIdeal.nD Cert.BInWeightIdeal.τ).loc Cert.BInWeightIdeal.main_arg2))
  choose h hh using fun c : Dev Cert.BInWeightIdeal.nD => exists_mat (a := 16384) (b := 1024) (m ((c.tc : Thread Cert.BInWeightIdeal.nD Cert.BInWeightIdeal.τ).loc Cert.BInWeightIdeal.main_arg0))
  refine ⟨_, Cert.BInWeightIdeal.Ffn.run m s g h hg hh,
    (θ_run Cert.BInWeightRefIdeal.defs _ _).mono (fun r H c => ⟨(H c).1.trans ?_, (H c).2⟩)
      (Cert.BInWeightRefIdeal.Value.run (F := Ideal) m' s')⟩
  rw [(heq c).2.2.trans (hg c), (heq c).1.trans (hh c)]
  exact Cert.BInWeightRefIdeal.Ffn.value (g c) (h c)

end Cert.Proof.BInWeight

end
-- ==== Proof.Ffn.GateWeight.lean ====
/- The gradient of a gate or up product in its weight. -/
module

public import proofs.«01_k».proof.Defs
public import proofs.«01_k».proof.Proof.Ffn.Mat
public import proofs.«01_k».proof.Proof.Gen.GateWeight.Frame
public import proofs.«01_k».proof.Proof.Gen.GateWeightIdeal.Frame
public import proofs.«01_k».proof.Proof.Gen.GateWeightIdeal.Run
public import proofs.«01_k».proof.Proof.Gen.GateWeightRefIdeal.Run
public import Idealize.ShloMosaic.Lib.Quiescent

@[expose] public section

set_option maxRecDepth 16384

noncomputable section

namespace Cert.GateWeightIdeal.Ffn

open Cert.GateWeightIdeal Cert.GateWeightIdeal.Gen Cert.Ffn Idealize.ShloMosaic Idealize.ShloMosaic.TcCoe Idealize.SL.Sem
open Idealize.ShloMosaic.Tactic

section
variable {F : FTy → Type} [FloatOps F]

/-- The first point stores its product. -/
theorem first (c : Dev nD) (i : grid0.Coords) (a3 : Memref sig .tc .vmem S1024x2816 .bf16) (h3 : a3.IsWhole)
    (a4 : Memref sig .tc .vmem S1024x1024 .bf16) (h4 : a4.IsWhole) (a5 : Memref sig .tc .vmem S2816x1024 .bf16) (h5 : a5.IsWhole)
    (a6 : Memref sig .tc .vmem S2816x1024 .f32) (h6 : a6.IsWhole)
    (hc0 : cond0_0 i) (hc1 : ¬cond0_1 i) (hc2 : ¬cond0_2 i) (x0 : Vec F S1024x2816 .bf16) (x1 : Vec F S1024x1024 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S1024x2816) zero2, View.ld_unit_zero (S := S1024x1024) zero2]

/-- A later point adds its product. -/
theorem middle (c : Dev nD) (i : grid0.Coords) (a3 : Memref sig .tc .vmem S1024x2816 .bf16) (h3 : a3.IsWhole)
    (a4 : Memref sig .tc .vmem S1024x1024 .bf16) (h4 : a4.IsWhole) (a5 : Memref sig .tc .vmem S2816x1024 .bf16) (h5 : a5.IsWhole)
    (a6 : Memref sig .tc .vmem S2816x1024 .f32) (h6 : a6.IsWhole)
    (hc0 : ¬cond0_0 i) (hc1 : cond0_1 i) (hc2 : ¬cond0_2 i) (x0 : Vec F S1024x2816 .bf16) (x1 : Vec F S1024x1024 .bf16) (s : Vec F S2816x1024 .f32) :
    sout0_B_0 c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero zero2]
  simp only [View.readAt_eq_ld, h3.read_unread, h4.read_unread, h6.read_unread, View.ld_unit_zero (S := S1024x2816) zero2,
    View.ld_unit_zero (S := S1024x1024) zero2, View.ld_unit_zero (S := S2816x1024) zero2]

/-- The last point writes the sum out. -/
theorem last (c : Dev nD) (i : grid0.Coords) (a3 : Memref sig .tc .vmem S1024x2816 .bf16) (h3 : a3.IsWhole)
    (a4 : Memref sig .tc .vmem S1024x1024 .bf16) (h4 : a4.IsWhole) (a5 : Memref sig .tc .vmem S2816x1024 .bf16) (h5 : a5.IsWhole)
    (a6 : Memref sig .tc .vmem S2816x1024 .f32) (h6 : a6.IsWhole)
    (hc0 : ¬cond0_0 i) (hc1 : cond0_1 i) (hc2 : cond0_2 i) (x0 : Vec F S1024x2816 .bf16) (x1 : Vec F S1024x1024 .bf16) (s : Vec F S2816x1024 .f32) :
    out0_C_2 c i a3 h3 a4 h4 a5 h5 a6 h6 hc0 hc1 hc2 x0 x1 s = k0_pay4 (k0_pay3 x0 x1 s) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero zero2, View.readCov_unit_zero (S := S2816x1024) _ zero2]
  simp only [View.readAt_eq_ld, h3.read_unread, h4.read_unread, h6.read_unread, View.ld_unit_zero (S := S1024x2816) zero2,
    View.ld_unit_zero (S := S1024x1024) zero2, View.ld_unit_zero (S := S2816x1024) zero2]

end

theorem ix_0 : ∀ t : Fin cfg0.N, win0_0.index t 0 = t.val ∧ win0_0.index t 1 = 0 := by decide +kernel
theorem ix_1 : ∀ t : Fin cfg0.N, win0_1.index t 0 = t.val ∧ win0_1.index t 1 = 0 := by decide +kernel
theorem ix_2 : ∀ t : Fin cfg0.N, win0_2.index t 0 = 0 ∧ win0_2.index t 1 = 0 := by decide +kernel

/-- The product of two blocks along their rows. -/
theorem pay_2 (f g : ℕ → ℕ → EReal) : k0_pay2 (F := Ideal) (mat 1024 2816 f) (mat 1024 1024 g) = mat 2816 1024 (dotN 1024 (tr f) g) := by
  funext i
  idx_vars i
  unfold k0_pay2 k0_pay1
  pointwise [mat]
  exact sum_nat 1024 fun k => f k i0 * g k i1

theorem pay_3 (f g s : ℕ → ℕ → EReal) : k0_pay3 (F := Ideal) (mat 1024 2816 f) (mat 1024 1024 g) (mat 2816 1024 s)
    = mat 2816 1024 fun i j => s i j + dotN 1024 (tr f) g i j := by
  funext i
  idx_vars i
  unfold k0_pay3 k0_pay1
  pointwise [mat]
  rw [sum_nat 1024 fun k => f k i0 * g k i1]
  rfl

theorem pay_4 (s : ℕ → ℕ → EReal) : k0_pay4 (F := Ideal) (mat 2816 1024 s) = mat 2816 1024 s := by
  funext i
  idx_vars i
  unfold k0_pay4
  pointwise [mat]

variable (m : (ℓ : Loc nD τ sig) → Buf (Elt Ideal) ℓ) (c : Dev nD) (g h : ℕ → ℕ → EReal)
  (hg : m (c, main_arg2) = mat 16384 2816 g) (hh : m (c, main_arg0) = mat 16384 1024 h)

include hg in
theorem blk_0 (t : Fin cfg0.N) : iblk m c 0 t = mat 1024 2816 fun k r => g (1024 * t.val + k) r := by
  obtain ⟨e0, e1⟩ := ix_0 t
  funext y
  have e : V m c (Pipeline.arrRef spec0 0) = mat 16384 2816 g := (V_main_arg2 m c).trans hg
  unfold iblk
  rw [e]
  blk_simp [mat, e0, e1]
  rw [Nat.mul_comm t.val 1024]

include hh in
theorem blk_1 (t : Fin cfg0.N) : iblk m c 1 t = mat 1024 1024 fun k r => h (1024 * t.val + k) r := by
  obtain ⟨e0, e1⟩ := ix_1 t
  funext y
  have e : V m c (Pipeline.arrRef spec0 1) = mat 16384 1024 h := (V_main_arg0 m c).trans hh
  unfold iblk
  rw [e]
  blk_simp [mat, e0, e1]
  rw [Nat.mul_comm t.val 1024]

/-- A further block of rows added to the product of the rows before it. -/
theorem dot_add (n i j : ℕ) : dotN (1024 * n) (tr g) h i j
    + dotN 1024 (tr fun k r => g (1024 * n + k) r) (fun k r => h (1024 * n + k) r) i j = dotN (1024 * (n + 1)) (tr g) h i j := by
  rw [Nat.mul_add_one]
  exact (Finset.sum_range_add (fun k => g k i * h k j) (1024 * n) 1024).symm

include hg hh in
/-- What the accumulator holds after a point that is not the last. -/
theorem sweep (n : ℕ) (hn : n < cfg0.N) (hl : ¬n % 16 = 15) : (outsAt0 m c n hn).2 = mat 2816 1024 (dotN (1024 * (n + 1)) (tr g) h) := by
  have hN : cfg0.N = 16 := N_0
  induction n with
  | zero =>
    rw [outsAt0_A m c ⟨0, hn⟩ rfl (by dsimp only; omega) (by dsimp only; omega), first, blk_0 m c g hg, blk_1 m c h hh, pay_2]
    simp only [Nat.mul_zero, Nat.zero_add, Nat.mul_one]
  | succ n ih =>
    rw [outsAt0_B m c ⟨n + 1, hn⟩ (by dsimp only; omega) (by dsimp only; omega) hl, middle, blk_0 m c g hg, blk_1 m c h hh]
    have e := ih (by omega) (by omega)
    show k0_pay3 (F := Ideal) _ _ (outsAt0 m c n _).2 = _
    rw [e, pay_3]
    congr 1
    funext i j
    exact dot_add g h (n + 1) i j

include hg hh in
/-- What the last point writes. -/
theorem written (n : ℕ) (hn : n + 1 < cfg0.N) (hl : (n + 1) % 16 = 15) : (outsAt0 m c (n + 1) hn).1 = mat 2816 1024 (dotN (1024 * (n + 2)) (tr g) h) := by
  have hN : cfg0.N = 16 := N_0
  rw [outsAt0_C m c ⟨n + 1, hn⟩ (by dsimp only; omega) (by dsimp only; omega) hl, last, blk_0 m c g hg, blk_1 m c h hh]
  have e := sweep m c g h hg hh n (by omega) (by omega)
  show k0_pay4 (F := Ideal) (k0_pay3 (F := Ideal) _ _ (outsAt0 m c n _).2) = _
  rw [e, pay_3, pay_4]
  congr 1
  funext i j
  exact dot_add g h (n + 1) i j

include hg hh in
/-- The array of results after the last point. -/
theorem final_2 : (dats m 0 c).arrAt 2 cfg0.N = mat 2816 1024 (dotN 16384 (tr g) h) := by
  refine (dats m 0 c).arrAt_eq_of_covers 2 _ (by decide +kernel) fun t hf y => ?_
  have ht : t.val % 16 = 15 := (flush0_2 t).1 hf
  obtain ⟨e0, e1⟩ := ix_2 t
  obtain ⟨n, hn⟩ := t
  have hN : n < 16 := lt_of_lt_of_eq hn N_0
  obtain rfl : n = 14 + 1 := by dsimp only at ht; omega
  rw [after0_2, written m c g h hg hh 14 hn ht]
  blk_simp [mat, e0, e1]

theorem run (m : (ℓ : Loc nD τ sig) → Buf (Elt Ideal) ℓ) (ρ : Dev nD → PrngReg) (g h : Dev nD → ℕ → ℕ → EReal)
    (hg : ∀ c : Dev nD, m ((c.tc : Thread nD τ).loc main_arg2) = mat 16384 2816 (g c))
    (hh : ∀ c : Dev nD, m ((c.tc : Thread nD τ).loc main_arg0) = mat 16384 1024 (h c)) :
    θ_run (defs (F := Ideal)) (onTc (τ := τ) (main (F := Ideal))) ⟨m, fun _ => 0, ρ⟩ fun r => ∀ c : Dev nD,
      r.2.mem ((c.tc : Thread nD τ).loc main_v1) = mat 1024 2816 (tr (dotN 16384 (tr (g c)) (h c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨(H c).1.trans (by
      show transpose S1024x2816 [1, 0] ((dats m 0 c).arrAt 2 cfg0.N) transposes_S2816x1024_S1024x2816_1_0 = _
      rw [final_2 m c (g c) (h c) (hg c) (hh c)]
      funext i
      idx_vars i
      pointwise [mat, tr]), (H c).2⟩)
    (Cert.GateWeightIdeal.Value.run (F := Ideal) m ρ)

end Cert.GateWeightIdeal.Ffn

namespace Cert.GateWeightRefIdeal.Ffn

open Cert.GateWeightRefIdeal Cert.GateWeightRefIdeal.Gen Cert.Ffn Idealize.ShloMosaic Idealize.ShloMosaic.TcCoe Idealize.SL.Sem

/-- The reference's value. -/
theorem value (g h : ℕ → ℕ → EReal) :
    truncf .bf16 (transpose S1024x2816 [1, 0] (Host.dotGeneral (φ₁ := .f32) (φ₂ := .bf16) dot_S16384x2816_S16384x1024_S2816x1024_0_0_1_1_n_n none
      (extf .f32 (mat 16384 2816 g : FVec Ideal S16384x2816 .bf16) bitsLt_bf16_f32)
      (mat 16384 1024 h : FVec Ideal S16384x1024 .bf16) : FVec Ideal S2816x1024 .f32) transposes_S2816x1024_S1024x2816_1_0) bitsLt_bf16_f32 = mat 1024 2816 (tr (dotN 16384 (tr g) h)) := by
  funext i
  idx_vars i
  pointwise [mat]
  exact sum_nat 16384 fun k => g k i1 * h k i0

end Cert.GateWeightRefIdeal.Ffn

namespace Cert.Proof.GateWeight

open Cert.Ffn Idealize.ShloMosaic Idealize.SL.Sem

theorem frame_kernel : Cert.quiescent_GateWeight := fun m ρ _ => Cert.GateWeight.Gen.frame (F := Bits) m ρ

theorem frame_ideal : Cert.quiescent_GateWeightIdeal := fun m ρ _ => Cert.GateWeightIdeal.Gen.frame (F := Ideal) m ρ

theorem frame_reference : Cert.quiescent_GateWeightRefIdeal := fun m ρ _ =>
  (θ_run Cert.GateWeightRefIdeal.defs _ _).mono
    (fun r h => ⟨fun c => (h c).2, sem_eq_zero_of_no_sems (by decide) r.2⟩)
    (Cert.GateWeightRefIdeal.Value.run (F := Ideal) m ρ)

theorem preserves : Cert.preserves_GateWeight_GateWeightIdeal := trivial

/-- The call and the reference give the same result, on all arguments. -/
theorem algebraic : Cert.algebraic_GateWeightIdeal_GateWeightRefIdeal (hGateWeightIdeal := Cert.GateWeightIdeal.Gen.facts)
    (hGateWeightRefIdeal := Cert.GateWeightRefIdeal.Gen.facts) := by
  intro m s m' s' _ heq
  choose g hg using fun c : Dev Cert.GateWeightIdeal.nD => exists_mat (a := 16384) (b := 2816) (m ((c.tc : Thread Cert.GateWeightIdeal.nD Cert.GateWeightIdeal.τ).loc Cert.GateWeightIdeal.main_arg2))
  choose h hh using fun c : Dev Cert.GateWeightIdeal.nD => exists_mat (a := 16384) (b := 1024) (m ((c.tc : Thread Cert.GateWeightIdeal.nD Cert.GateWeightIdeal.τ).loc Cert.GateWeightIdeal.main_arg0))
  refine ⟨_, Cert.GateWeightIdeal.Ffn.run m s g h hg hh,
    (θ_run Cert.GateWeightRefIdeal.defs _ _).mono (fun r H c => ⟨(H c).1.trans ?_, (H c).2⟩)
      (Cert.GateWeightRefIdeal.Value.run (F := Ideal) m' s')⟩
  rw [(heq c).2.2.trans (hg c), (heq c).1.trans (hh c)]
  exact Cert.GateWeightRefIdeal.Ffn.value (g c) (h c)

end Cert.Proof.GateWeight

end
-- ==== Proof.Ffn.DownRows.lean ====
/- The gradient of a down product in its rows. -/
module

public import proofs.«01_k».proof.Defs
public import proofs.«01_k».proof.Proof.Ffn.Mat
public import proofs.«01_k».proof.Proof.Gen.DownRows.Frame
public import proofs.«01_k».proof.Proof.Gen.DownRowsIdeal.Frame
public import proofs.«01_k».proof.Proof.Gen.DownRowsRefIdeal.Run
public import Idealize.ShloMosaic.Lib.Quiescent

@[expose] public section

set_option maxRecDepth 16384

noncomputable section

namespace Cert.DownRowsIdeal.Ffn

open Cert.DownRowsIdeal Cert.DownRowsIdeal.Gen Cert.Ffn Idealize.ShloMosaic Idealize.ShloMosaic.TcCoe Idealize.SL.Sem

theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

/-- The body's product of two blocks. -/
theorem pay_1 (f g : ℕ → ℕ → EReal) : k0_pay1 (F := Ideal) (mat 512 1024 f) (mat 2816 1024 g) = mat 512 2816 (dotN 1024 f (tr g)) := by
  funext i
  idx_vars i
  unfold k0_pay1
  pointwise [mat]
  exact sum_nat 1024 fun k => f i0 k * g i1 k

theorem out_2 (f g : ℕ → ℕ → EReal) : out0_2 (F := Ideal) (mat 512 1024 f) (mat 2816 1024 g) = mat 512 2816 (dotN 1024 f (tr g)) := by
  unfold out0_2
  rw [View.canon_unit_zero zero2, View.ld_unit_zero zero2, View.ld_unit_zero zero2, pay_1]

variable (m : (ℓ : Loc nD τ sig) → Buf (Elt Ideal) ℓ) (c : Dev nD) (g w : ℕ → ℕ → EReal)
  (hg : m (c, main_arg2) = mat 16384 1024 g) (hw : m (c, main_arg1) = mat 2816 1024 w)

include hg in
theorem blk_0 (t : Fin cfg0.N) : iblk m c 0 t = mat 512 1024 fun r k => g (512 * t.val + r) k := by
  obtain ⟨e0, e1⟩ := ix_0 t
  funext y
  have e : V m c (Pipeline.arrRef spec0 0) = mat 16384 1024 g := (V_main_arg2 m c).trans hg
  unfold iblk
  rw [e]
  blk_simp [mat, e0, e1]
  rw [Nat.mul_comm t.val 512]

include hw in
theorem blk_1 (t : Fin cfg0.N) : iblk m c 1 t = mat 2816 1024 w := by
  obtain ⟨e0, e1⟩ := ix_1 t
  funext y
  have e : V m c (Pipeline.arrRef spec0 1) = mat 2816 1024 w := (V_main_arg1 m c).trans hw
  unfold iblk
  rw [e]
  blk_simp [mat, e0, e1]

include hg hw in
/-- The array of results after the last block. -/
theorem final_2 : (dats m 0 c).arrAt 2 cfg0.N = mat 16384 2816 (dotN 1024 g (tr w)) := by
  refine (dats m 0 c).arrAt_eq_of_covers 2 _ (by decide +kernel) fun t hf y => ?_
  obtain ⟨e0, e1⟩ := ix_2 t
  rw [after0_2, blk_0 m c g hg, blk_1 m c w hw, out_2]
  blk_simp [mat, e0, e1]
  rw [Nat.mul_comm t.val 512]
  rfl

theorem run (m : (ℓ : Loc nD τ sig) → Buf (Elt Ideal) ℓ) (ρ : Dev nD → PrngReg) (g w : Dev nD → ℕ → ℕ → EReal)
    (hg : ∀ c : Dev nD, m ((c.tc : Thread nD τ).loc main_arg2) = mat 16384 1024 (g c))
    (hw : ∀ c : Dev nD, m ((c.tc : Thread nD τ).loc main_arg1) = mat 2816 1024 (w c)) :
    θ_run (defs (F := Ideal)) (onTc (τ := τ) (main (F := Ideal))) ⟨m, fun _ => 0, ρ⟩ fun r => ∀ c : Dev nD,
      r.2.mem ((c.tc : Thread nD τ).loc main_v0) = mat 16384 2816 (dotN 1024 (g c) (tr (w c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨((H.1 c).1 2).trans (final_2 m c (g c) (w c) (hg c) (hw c)), H.2.1 c⟩)
    (θ_run_and (run_main m ρ) (frame m ρ))

end Cert.DownRowsIdeal.Ffn

namespace Cert.DownRowsRefIdeal.Ffn

open Cert.DownRowsRefIdeal Cert.DownRowsRefIdeal.Gen Cert.Ffn Idealize.ShloMosaic Idealize.ShloMosaic.TcCoe Idealize.SL.Sem

/-- The reference's value. -/
theorem value (g w : ℕ → ℕ → EReal) :
    truncf .bf16 (Host.dotGeneral (φ₁ := .f32) (φ₂ := .bf16) dot_S16384x1024_S2816x1024_S16384x2816_1_1_0_0_n_n none
      (extf .f32 (truncf .bf16 (mat 16384 1024 g : FVec Ideal S16384x1024 .f32) bitsLt_bf16_f32) bitsLt_bf16_f32)
      (mat 2816 1024 w : FVec Ideal S2816x1024 .bf16) : FVec Ideal S16384x2816 .f32) bitsLt_bf16_f32 = mat 16384 2816 (dotN 1024 g (tr w)) := by
  funext i
  idx_vars i
  pointwise [mat]
  exact sum_nat 1024 fun k => g i0 k * w i1 k

end Cert.DownRowsRefIdeal.Ffn

namespace Cert.Proof.DownRows

open Cert.Ffn Idealize.ShloMosaic Idealize.SL.Sem

theorem frame_kernel : Cert.quiescent_DownRows := fun m ρ _ => Cert.DownRows.Gen.frame (F := Bits) m ρ

theorem frame_ideal : Cert.quiescent_DownRowsIdeal := fun m ρ _ => Cert.DownRowsIdeal.Gen.frame (F := Ideal) m ρ

theorem frame_reference : Cert.quiescent_DownRowsRefIdeal := fun m ρ _ =>
  (θ_run Cert.DownRowsRefIdeal.defs _ _).mono
    (fun r h => ⟨fun c => (h c).2, sem_eq_zero_of_no_sems (by decide) r.2⟩)
    (Cert.DownRowsRefIdeal.Value.run (F := Ideal) m ρ)

theorem preserves : Cert.preserves_DownRows_DownRowsIdeal := trivial

/-- The call and the reference give the same result, on all arguments. -/
theorem algebraic : Cert.algebraic_DownRowsIdeal_DownRowsRefIdeal (hDownRowsIdeal := Cert.DownRowsIdeal.Gen.facts)
    (hDownRowsRefIdeal := Cert.DownRowsRefIdeal.Gen.facts) := by
  intro m g m' g' _ heq
  choose d hd using fun c : Dev Cert.DownRowsIdeal.nD => exists_mat (a := 16384) (b := 1024) (m ((c.tc : Thread Cert.DownRowsIdeal.nD Cert.DownRowsIdeal.τ).loc Cert.DownRowsIdeal.main_arg2))
  choose w hw using fun c : Dev Cert.DownRowsIdeal.nD => exists_mat (a := 2816) (b := 1024) (m ((c.tc : Thread Cert.DownRowsIdeal.nD Cert.DownRowsIdeal.τ).loc Cert.DownRowsIdeal.main_arg1))
  refine ⟨_, Cert.DownRowsIdeal.Ffn.run m g d w hd hw,
    (θ_run Cert.DownRowsRefIdeal.defs _ _).mono (fun r H c => ⟨(H c).1.trans ?_, (H c).2⟩)
      (Cert.DownRowsRefIdeal.Value.run (F := Ideal) m' g')⟩
  rw [(heq c).2.2.trans (hd c), (heq c).2.1.trans (hw c)]
  exact Cert.DownRowsRefIdeal.Ffn.value (d c) (w c)

end Cert.Proof.DownRows

end
-- ==== Proof.Ffn.DownForward.lean ====
/- The product of the forward pass with a down weight. -/
module

public import proofs.«01_k».proof.Defs
public import proofs.«01_k».proof.Proof.Ffn.Mat
public import proofs.«01_k».proof.Proof.Gen.DownForward.Frame
public import proofs.«01_k».proof.Proof.Gen.DownForwardIdeal.Frame
public import proofs.«01_k».proof.Proof.Gen.DownForwardRefIdeal.Run
public import Idealize.ShloMosaic.Lib.Quiescent

@[expose] public section

set_option maxRecDepth 16384

noncomputable section

namespace Cert.DownForwardIdeal.Ffn

open Cert.DownForwardIdeal Cert.DownForwardIdeal.Gen Cert.Ffn Idealize.ShloMosaic Idealize.ShloMosaic.TcCoe Idealize.SL.Sem

theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

/-- The body's product of two blocks. -/
theorem pay_1 (f g : ℕ → ℕ → EReal) : k0_pay1 (F := Ideal) (mat 512 2816 f) (mat 2816 1024 g) = mat 512 1024 (dotN 2816 f g) := by
  funext i
  idx_vars i
  unfold k0_pay1
  pointwise [mat]
  exact sum_nat 2816 fun k => f i0 k * g k i1

theorem out_2 (f g : ℕ → ℕ → EReal) : out0_2 (F := Ideal) (mat 512 2816 f) (mat 2816 1024 g) = mat 512 1024 (dotN 2816 f g) := by
  unfold out0_2
  rw [View.canon_unit_zero zero2, View.ld_unit_zero zero2, View.ld_unit_zero zero2, pay_1]

variable (m : (ℓ : Loc nD τ sig) → Buf (Elt Ideal) ℓ) (c : Dev nD) (u w : ℕ → ℕ → EReal)
  (hu : m (c, main_arg0) = mat 16384 2816 u) (hw : m (c, main_arg1) = mat 2816 1024 w)

include hu in
theorem blk_0 (t : Fin cfg0.N) : iblk m c 0 t = mat 512 2816 fun r k => u (512 * t.val + r) k := by
  obtain ⟨e0, e1⟩ := ix_0 t
  funext y
  have e : V m c (Pipeline.arrRef spec0 0) = mat 16384 2816 u := (V_main_arg0 m c).trans hu
  unfold iblk
  rw [e]
  blk_simp [mat, e0, e1]
  rw [Nat.mul_comm t.val 512]

include hw in
theorem blk_1 (t : Fin cfg0.N) : iblk m c 1 t = mat 2816 1024 w := by
  obtain ⟨e0, e1⟩ := ix_1 t
  funext y
  have e : V m c (Pipeline.arrRef spec0 1) = mat 2816 1024 w := (V_main_arg1 m c).trans hw
  unfold iblk
  rw [e]
  blk_simp [mat, e0, e1]

include hu hw in
/-- The array of results after the last block. -/
theorem final_2 : (dats m 0 c).arrAt 2 cfg0.N = mat 16384 1024 (dotN 2816 u w) := by
  refine (dats m 0 c).arrAt_eq_of_covers 2 _ (by decide +kernel) fun t hf y => ?_
  obtain ⟨e0, e1⟩ := ix_2 t
  rw [after0_2, blk_0 m c u hu, blk_1 m c w hw, out_2]
  blk_simp [mat, e0, e1]
  rw [Nat.mul_comm t.val 512]
  rfl

theorem run (m : (ℓ : Loc nD τ sig) → Buf (Elt Ideal) ℓ) (ρ : Dev nD → PrngReg) (u w : Dev nD → ℕ → ℕ → EReal)
    (hu : ∀ c : Dev nD, m ((c.tc : Thread nD τ).loc main_arg0) = mat 16384 2816 (u c))
    (hw : ∀ c : Dev nD, m ((c.tc : Thread nD τ).loc main_arg1) = mat 2816 1024 (w c)) :
    θ_run (defs (F := Ideal)) (onTc (τ := τ) (main (F := Ideal))) ⟨m, fun _ => 0, ρ⟩ fun r => ∀ c : Dev nD,
      r.2.mem ((c.tc : Thread nD τ).loc main_v0) = mat 16384 1024 (dotN 2816 (u c) (w c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r H c => ⟨((H.1 c).1 2).trans (final_2 m c (u c) (w c) (hu c) (hw c)), H.2.1 c⟩)
    (θ_run_and (run_main m ρ) (frame m ρ))

end Cert.DownForwardIdeal.Ffn

namespace Cert.DownForwardRefIdeal.Ffn

open Cert.DownForwardRefIdeal Cert.DownForwardRefIdeal.Gen Cert.Ffn Idealize.ShloMosaic Idealize.ShloMosaic.TcCoe Idealize.SL.Sem

/-- The reference's value. -/
theorem value (u w : ℕ → ℕ → EReal) :
    extf .f32 (truncf .bf16 (Host.dotGeneral (φ₁ := .bf16) (φ₂ := .bf16) dot_S16384x2816_S2816x1024_S16384x1024_1_0_0_1_n_n none (mat 16384 2816 u : FVec Ideal S16384x2816 .bf16)
      (mat 2816 1024 w : FVec Ideal S2816x1024 .bf16) : FVec Ideal S16384x1024 .f32) bitsLt_bf16_f32) bitsLt_bf16_f32 = mat 16384 1024 (dotN 2816 u w) := by
  funext i
  idx_vars i
  pointwise [mat]
  exact sum_nat 2816 fun k => u i0 k * w k i1

end Cert.DownForwardRefIdeal.Ffn

namespace Cert.Proof.DownForward

open Cert.Ffn Idealize.ShloMosaic Idealize.SL.Sem

theorem frame_kernel : Cert.quiescent_DownForward := fun m ρ _ => Cert.DownForward.Gen.frame (F := Bits) m ρ

theorem frame_ideal : Cert.quiescent_DownForwardIdeal := fun m ρ _ => Cert.DownForwardIdeal.Gen.frame (F := Ideal) m ρ

theorem frame_reference : Cert.quiescent_DownForwardRefIdeal := fun m ρ _ =>
  (θ_run Cert.DownForwardRefIdeal.defs _ _).mono
    (fun r h => ⟨fun c => (h c).2, sem_eq_zero_of_no_sems (by decide) r.2⟩)
    (Cert.DownForwardRefIdeal.Value.run (F := Ideal) m ρ)

theorem preserves : Cert.preserves_DownForward_DownForwardIdeal := trivial

/-- The call and the reference give the same result, on all arguments. -/
theorem algebraic : Cert.algebraic_DownForwardIdeal_DownForwardRefIdeal (hDownForwardIdeal := Cert.DownForwardIdeal.Gen.facts)
    (hDownForwardRefIdeal := Cert.DownForwardRefIdeal.Gen.facts) := by
  intro m g m' g' _ heq
  choose u hu using fun c : Dev Cert.DownForwardIdeal.nD => exists_mat (a := 16384) (b := 2816) (m ((c.tc : Thread Cert.DownForwardIdeal.nD Cert.DownForwardIdeal.τ).loc Cert.DownForwardIdeal.main_arg0))
  choose w hw using fun c : Dev Cert.DownForwardIdeal.nD => exists_mat (a := 2816) (b := 1024) (m ((c.tc : Thread Cert.DownForwardIdeal.nD Cert.DownForwardIdeal.τ).loc Cert.DownForwardIdeal.main_arg1))
  refine ⟨_, Cert.DownForwardIdeal.Ffn.run m g u w hu hw,
    (θ_run Cert.DownForwardRefIdeal.defs _ _).mono (fun r H c => ⟨(H c).1.trans ?_, (H c).2⟩)
      (Cert.DownForwardRefIdeal.Value.run (F := Ideal) m' g')⟩
  rw [(heq c).1.trans (hu c), (heq c).2.trans (hw c)]
  exact Cert.DownForwardRefIdeal.Ffn.value (u c) (w c)

end Cert.Proof.DownForward

end
-- ==== Proof.Ffn.GateRows.lean ====
/- The gradient of a gate or up product in its rows. -/
module

public import proofs.«01_k».proof.Defs
public import proofs.«01_k».proof.Proof.Ffn.Mat
public import proofs.«01_k».proof.Proof.Gen.GateRows.Frame
public import proofs.«01_k».proof.Proof.Gen.GateRowsIdeal.Frame
public import proofs.«01_k».proof.Proof.Gen.GateRowsRefIdeal.Run
public import Idealize.ShloMosaic.Lib.Quiescent

@[expose] public section

set_option maxRecDepth 16384

noncomputable section

namespace Cert.GateRowsIdeal.Ffn

open Cert.GateRowsIdeal Cert.GateRowsIdeal.Gen Cert.Ffn Idealize.ShloMosaic Idealize.ShloMosaic.TcCoe Idealize.SL.Sem

theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

/-- The body's product of two blocks. -/
theorem pay_1 (f g : ℕ → ℕ → EReal) : k0_pay1 (F := Ideal) (mat 512 2816 f) (mat 2816 1024 g) = mat 512 1024 (dotN 2816 f g) := by
  funext i
  idx_vars i
  unfold k0_pay1
  pointwise [mat]
  exact sum_nat 2816 fun k => f i0 k * g k i1

theorem out_2 (f g : ℕ → ℕ → EReal) : out0_2 (F := Ideal) (mat 512 2816 f) (mat 2816 1024 g) = mat 512 1024 (dotN 2816 f g) := by
  unfold out0_2
  rw [View.canon_unit_zero zero2, View.ld_unit_zero zero2, View.ld_unit_zero zero2, pay_1]

variable (m : (ℓ : Loc nD τ sig) → Buf (Elt Ideal) ℓ) (c : Dev nD) (g w : ℕ → ℕ → EReal)
  (hg : m (c, main_arg2) = mat 16384 2816 g) (hw : m (c, main_arg1) = mat 1024 2816 w)

include hw in
/-- The weight as the call takes it, its axes exchanged. -/
theorem V_0 : V m c main_v0 = mat 2816 1024 (tr w) := by
  have e : V m c main_v0 = transpose S2816x1024 [1, 0] (m (c, main_arg1)) transposes_S1024x2816_S2816x1024_1_0 := by
    unfold V
    after_results_simp <;> rfl
  rw [e, hw]
  funext i
  idx_vars i
  pointwise [mat, tr]

include hg in
theorem blk_0 (t : Fin cfg0.N) : iblk m c 0 t = mat 512 2816 fun r k => g (512 * t.val + r) k := by
  obtain ⟨e0, e1⟩ := ix_0 t
  funext y
  have e : V m c (Pipeline.arrRef spec0 0) = mat 16384 2816 g := (V_main_arg2 m c).trans hg
  unfold iblk
  rw [e]
  blk_simp [mat, e0, e1]
  rw [Nat.mul_comm t.val 512]

include hw in
theorem blk_1 (t : Fin cfg0.N) : iblk m c 1 t = mat 2816 1024 (tr w) := by
  obtain ⟨e0, e1⟩ := ix_1 t
  funext y
  have e : V m c (Pipeline.arrRef spec0 1) = mat 2816 1024 (tr w) := V_0 m c w hw
  unfold iblk
  rw [e]
  blk_simp [mat, e0, e1]

include hg hw in
/-- The array of results after the last block. -/
theorem final_2 : (dats m 0 c).arrAt 2 cfg0.N = mat 16384 1024 (dotN 2816 g (tr w)) := by
  refine (dats m 0 c).arrAt_eq_of_covers 2 _ (by decide +kernel) fun t hf y => ?_
  obtain ⟨e0, e1⟩ := ix_2 t
  rw [after0_2, blk_0 m c g hg, blk_1 m c w hw, out_2]
  blk_simp [mat, e0, e1]
  rw [Nat.mul_comm t.val 512]
  rfl

theorem run (m : (ℓ : Loc nD τ sig) → Buf (Elt Ideal) ℓ) (ρ : Dev nD → PrngReg) (g w : Dev nD → ℕ → ℕ → EReal)
    (hg : ∀ c : Dev nD, m ((c.tc : Thread nD τ).loc main_arg2) = mat 16384 2816 (g c))
    (hw : ∀ c : Dev nD, m ((c.tc : Thread nD τ).loc main_arg1) = mat 1024 2816 (w c)) :
    θ_run (defs (F := Ideal)) (onTc (τ := τ) (main (F := Ideal))) ⟨m, fun _ => 0, ρ⟩ fun r => ∀ c : Dev nD,
      r.2.mem ((c.tc : Thread nD τ).loc main_v1) = mat 16384 1024 (dotN 2816 (g c) (tr (w c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r H c => ⟨((H.1 c).1 2).trans (final_2 m c (g c) (w c) (hg c) (hw c)), H.2.1 c⟩)
    (θ_run_and (run_main m ρ) (frame m ρ))

end Cert.GateRowsIdeal.Ffn

namespace Cert.GateRowsRefIdeal.Ffn

open Cert.GateRowsRefIdeal Cert.GateRowsRefIdeal.Gen Cert.Ffn Idealize.ShloMosaic Idealize.ShloMosaic.TcCoe Idealize.SL.Sem

/-- The reference's value. -/
theorem value (g w : ℕ → ℕ → EReal) :
    truncf .bf16 (Host.dotGeneral (φ₁ := .f32) (φ₂ := .bf16) dot_S16384x2816_S1024x2816_S16384x1024_1_1_0_0_n_n none (extf .f32 (mat 16384 2816 g : FVec Ideal S16384x2816 .bf16) bitsLt_bf16_f32)
      (mat 1024 2816 w : FVec Ideal S1024x2816 .bf16) : FVec Ideal S16384x1024 .f32) bitsLt_bf16_f32 = mat 16384 1024 (dotN 2816 g (tr w)) := by
  funext i
  idx_vars i
  pointwise [mat]
  exact sum_nat 2816 fun k => g i0 k * w i1 k

end Cert.GateRowsRefIdeal.Ffn

namespace Cert.Proof.GateRows

open Cert.Ffn Idealize.ShloMosaic Idealize.SL.Sem

theorem frame_kernel : Cert.quiescent_GateRows := fun m ρ _ => Cert.GateRows.Gen.frame (F := Bits) m ρ

theorem frame_ideal : Cert.quiescent_GateRowsIdeal := fun m ρ _ => Cert.GateRowsIdeal.Gen.frame (F := Ideal) m ρ

theorem frame_reference : Cert.quiescent_GateRowsRefIdeal := fun m ρ _ =>
  (θ_run Cert.GateRowsRefIdeal.defs _ _).mono
    (fun r h => ⟨fun c => (h c).2, sem_eq_zero_of_no_sems (by decide) r.2⟩)
    (Cert.GateRowsRefIdeal.Value.run (F := Ideal) m ρ)

theorem preserves : Cert.preserves_GateRows_GateRowsIdeal := trivial

/-- The call and the reference give the same result, on all arguments. -/
theorem algebraic : Cert.algebraic_GateRowsIdeal_GateRowsRefIdeal (hGateRowsIdeal := Cert.GateRowsIdeal.Gen.facts)
    (hGateRowsRefIdeal := Cert.GateRowsRefIdeal.Gen.facts) := by
  intro m g m' g' _ heq
  choose d hd using fun c : Dev Cert.GateRowsIdeal.nD => exists_mat (a := 16384) (b := 2816) (m ((c.tc : Thread Cert.GateRowsIdeal.nD Cert.GateRowsIdeal.τ).loc Cert.GateRowsIdeal.main_arg2))
  choose w hw using fun c : Dev Cert.GateRowsIdeal.nD => exists_mat (a := 1024) (b := 2816) (m ((c.tc : Thread Cert.GateRowsIdeal.nD Cert.GateRowsIdeal.τ).loc Cert.GateRowsIdeal.main_arg1))
  refine ⟨_, Cert.GateRowsIdeal.Ffn.run m g d w hd hw,
    (θ_run Cert.GateRowsRefIdeal.defs _ _).mono (fun r H c => ⟨(H c).1.trans ?_, (H c).2⟩)
      (Cert.GateRowsRefIdeal.Value.run (F := Ideal) m' g')⟩
  rw [(heq c).2.2.trans (hd c), (heq c).2.1.trans (hw c)]
  exact Cert.GateRowsRefIdeal.Ffn.value (d c) (w c)

end Cert.Proof.GateRows

end
-- ==== Proof.Ffn.GateForward.lean ====
/- The product of the forward pass with a gate or up weight. -/
module

public import proofs.«01_k».proof.Defs
public import proofs.«01_k».proof.Proof.Ffn.Mat
public import proofs.«01_k».proof.Proof.Gen.GateForward.Frame
public import proofs.«01_k».proof.Proof.Gen.GateForwardIdeal.Frame
public import proofs.«01_k».proof.Proof.Gen.GateForwardRefIdeal.Run
public import Idealize.ShloMosaic.Lib.Quiescent

@[expose] public section

set_option maxRecDepth 16384

noncomputable section

namespace Cert.GateForwardIdeal.Ffn

open Cert.GateForwardIdeal Cert.GateForwardIdeal.Gen Cert.Ffn Idealize.ShloMosaic Idealize.ShloMosaic.TcCoe Idealize.SL.Sem

theorem ix_0 : ∀ t : Fin cfg0.N, win0_0.index t 0 = t.val ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val ∧ win0_2.index t 1 = 0 := by decide +kernel

variable (m : (ℓ : Loc nD τ sig) → Buf (Elt Ideal) ℓ) (c : Dev nD) (h w : ℕ → ℕ → EReal)
  (hh : m (c, main_arg0) = mat 16384 1024 h) (hw : m (c, main_arg1) = mat 1024 2816 w)

include hw in
theorem V_0 : V m c main_v0 = mat 2816 1024 (tr w) := by
  have e : V m c main_v0 = transpose S2816x1024 [1, 0] (m (c, main_arg1)) transposes_S1024x2816_S2816x1024_1_0 := by
    unfold V
    after_results_simp <;> rfl
  rw [e, hw]
  funext i
  idx_vars i
  pointwise [mat, tr]

theorem pay_1 (f g : ℕ → ℕ → EReal) : k0_pay1 (F := Ideal) (mat 512 1024 f) (mat 2816 1024 g) = mat 512 2816 (dotN 1024 f (tr g)) := by
  funext i
  idx_vars i
  unfold k0_pay1
  pointwise [mat]
  exact sum_nat 1024 fun k => f i0 k * g i1 k

theorem out_2 (f g : ℕ → ℕ → EReal) : out0_2 (F := Ideal) (mat 512 1024 f) (mat 2816 1024 g) = mat 512 2816 (dotN 1024 f (tr g)) := by
  unfold out0_2
  rw [View.canon_unit_zero zero2, View.ld_unit_zero zero2, View.ld_unit_zero zero2, pay_1]

include hh in
theorem blk_0 (t : Fin cfg0.N) : iblk m c 0 t = mat 512 1024 fun r k => h (512 * t.val + r) k := by
  obtain ⟨e0, e1⟩ := ix_0 t
  funext y
  have e : V m c (Pipeline.arrRef spec0 0) = mat 16384 1024 h := (V_main_arg0 m c).trans hh
  unfold iblk
  rw [e]
  blk_simp [mat, e0, e1]
  rw [Nat.mul_comm t.val 512]

include hw in
theorem blk_1 (t : Fin cfg0.N) : iblk m c 1 t = mat 2816 1024 (tr w) := by
  obtain ⟨e0, e1⟩ := ix_1 t
  funext y
  have e : V m c (Pipeline.arrRef spec0 1) = mat 2816 1024 (tr w) := V_0 m c w hw
  unfold iblk
  rw [e]
  blk_simp [mat, e0, e1]

include hh hw in
theorem final_2 : (dats m 0 c).arrAt 2 cfg0.N = mat 16384 2816 (dotN 1024 h w) := by
  refine (dats m 0 c).arrAt_eq_of_covers 2 _ (by decide +kernel) fun t hf y => ?_
  obtain ⟨e0, e1⟩ := ix_2 t
  rw [after0_2, blk_0 m c h hh, blk_1 m c w hw, out_2]
  blk_simp [mat, e0, e1]
  rw [Nat.mul_comm t.val 512]
  rfl

theorem run (m : (ℓ : Loc nD τ sig) → Buf (Elt Ideal) ℓ) (ρ : Dev nD → PrngReg) (h w : Dev nD → ℕ → ℕ → EReal)
    (hh : ∀ c : Dev nD, m ((c.tc : Thread nD τ).loc main_arg0) = mat 16384 1024 (h c))
    (hw : ∀ c : Dev nD, m ((c.tc : Thread nD τ).loc main_arg1) = mat 1024 2816 (w c)) :
    θ_run (defs (F := Ideal)) (onTc (τ := τ) (main (F := Ideal))) ⟨m, fun _ => 0, ρ⟩ fun r => ∀ c : Dev nD,
      r.2.mem ((c.tc : Thread nD τ).loc main_v1) = mat 16384 2816 (dotN 1024 (h c) (w c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r H c => ⟨((H.1 c).1 2).trans (final_2 m c (h c) (w c) (hh c) (hw c)), H.2.1 c⟩)
    (θ_run_and (run_main m ρ) (frame m ρ))

end Cert.GateForwardIdeal.Ffn

namespace Cert.GateForwardRefIdeal.Ffn

open Cert.GateForwardRefIdeal Cert.GateForwardRefIdeal.Gen Cert.Ffn Idealize.ShloMosaic Idealize.ShloMosaic.TcCoe Idealize.SL.Sem

theorem value (h w : ℕ → ℕ → EReal) :
    truncf .bf16 (Host.dotGeneral (φ₁ := .bf16) (φ₂ := .bf16) dot_S16384x1024_S1024x2816_S16384x2816_1_0_0_1_n_n none (mat 16384 1024 h : FVec Ideal S16384x1024 .bf16)
      (mat 1024 2816 w : FVec Ideal S1024x2816 .bf16) : FVec Ideal S16384x2816 .f32) bitsLt_bf16_f32 = mat 16384 2816 (dotN 1024 h w) := by
  funext i
  idx_vars i
  pointwise [mat]
  exact sum_nat 1024 fun k => h i0 k * w k i1

end Cert.GateForwardRefIdeal.Ffn

namespace Cert.Proof.GateForward

open Cert.Ffn Idealize.ShloMosaic Idealize.SL.Sem

theorem frame_kernel : Cert.quiescent_GateForward := fun m ρ _ => Cert.GateForward.Gen.frame (F := Bits) m ρ

theorem frame_ideal : Cert.quiescent_GateForwardIdeal := fun m ρ _ => Cert.GateForwardIdeal.Gen.frame (F := Ideal) m ρ

theorem frame_reference : Cert.quiescent_GateForwardRefIdeal := fun m ρ _ =>
  (θ_run Cert.GateForwardRefIdeal.defs _ _).mono
    (fun r h => ⟨fun c => (h c).2, sem_eq_zero_of_no_sems (by decide) r.2⟩)
    (Cert.GateForwardRefIdeal.Value.run (F := Ideal) m ρ)

theorem preserves : Cert.preserves_GateForward_GateForwardIdeal := trivial

theorem algebraic : Cert.algebraic_GateForwardIdeal_GateForwardRefIdeal (hGateForwardIdeal := Cert.GateForwardIdeal.Gen.facts)
    (hGateForwardRefIdeal := Cert.GateForwardRefIdeal.Gen.facts) := by
  intro m g m' g' _ heq
  choose h hh using fun c : Dev Cert.GateForwardIdeal.nD => exists_mat (a := 16384) (b := 1024) (m ((c.tc : Thread Cert.GateForwardIdeal.nD Cert.GateForwardIdeal.τ).loc Cert.GateForwardIdeal.main_arg0))
  choose w hw using fun c : Dev Cert.GateForwardIdeal.nD => exists_mat (a := 1024) (b := 2816) (m ((c.tc : Thread Cert.GateForwardIdeal.nD Cert.GateForwardIdeal.τ).loc Cert.GateForwardIdeal.main_arg1))
  refine ⟨_, Cert.GateForwardIdeal.Ffn.run m g h w hh hw,
    (θ_run Cert.GateForwardRefIdeal.defs _ _).mono (fun r H c => ⟨(H c).1.trans ?_, (H c).2⟩)
      (Cert.GateForwardRefIdeal.Value.run (F := Ideal) m' g')⟩
  rw [(heq c).1.trans (hh c), (heq c).2.trans (hw c)]
  exact Cert.GateForwardRefIdeal.Ffn.value (h c) (w c)

end Cert.Proof.GateForward

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.KernelFrame
public import proofs.«01_k».proof.Proof.Frames
public import proofs.«01_k».proof.Proof.Algebraic
public import proofs.«01_k».proof.Proof.Fwd.Claims
public import proofs.«01_k».proof.Proof.Mem.Claims
public import proofs.«01_k».proof.Proof.Gen.Pre_finite_scores
public import proofs.«01_k».proof.Proof.Gen.Pre_finite_memory
public import proofs.«01_k».proof.Proof.Ffn.DownWeight
public import proofs.«01_k».proof.Proof.Ffn.BOutForward
public import proofs.«01_k».proof.Proof.Ffn.BOutRows
public import proofs.«01_k».proof.Proof.Ffn.BOutWeight
public import proofs.«01_k».proof.Proof.Ffn.QueryForward
public import proofs.«01_k».proof.Proof.Ffn.QueryRows
public import proofs.«01_k».proof.Proof.Ffn.QueryWeight
public import proofs.«01_k».proof.Proof.Ffn.KeyForward
public import proofs.«01_k».proof.Proof.Ffn.KeyRows
public import proofs.«01_k».proof.Proof.Ffn.KeyWeight
public import proofs.«01_k».proof.Proof.Ffn.AInForward
public import proofs.«01_k».proof.Proof.Ffn.AInRows
public import proofs.«01_k».proof.Proof.Ffn.AInWeight
public import proofs.«01_k».proof.Proof.Ffn.OutForward
public import proofs.«01_k».proof.Proof.Ffn.OutRows
public import proofs.«01_k».proof.Proof.Ffn.OutWeight
public import proofs.«01_k».proof.Proof.Ffn.DInForward
public import proofs.«01_k».proof.Proof.Ffn.DInRows
public import proofs.«01_k».proof.Proof.Ffn.DInWeight
public import proofs.«01_k».proof.Proof.Ffn.CInForward
public import proofs.«01_k».proof.Proof.Ffn.CInRows
public import proofs.«01_k».proof.Proof.Ffn.CInWeight
public import proofs.«01_k».proof.Proof.Ffn.BInForward
public import proofs.«01_k».proof.Proof.Ffn.BInRows
public import proofs.«01_k».proof.Proof.Ffn.BInWeight
public import proofs.«01_k».proof.Proof.Ffn.GateWeight
public import proofs.«01_k».proof.Proof.Ffn.DownRows
public import proofs.«01_k».proof.Proof.Ffn.DownForward
public import proofs.«01_k».proof.Proof.Ffn.GateRows
public import proofs.«01_k».proof.Proof.Ffn.GateForward
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Forward.Gen.facts, Cert.ForwardIdeal.Gen.facts, Cert.ForwardRefIdeal.Gen.facts,
    Cert.Memory.Gen.facts, Cert.MemoryIdeal.Gen.facts, Cert.MemoryRefIdeal.Gen.facts,
    Cert.GateForward.Gen.facts, Cert.GateForwardIdeal.Gen.facts, Cert.GateForwardRefIdeal.Gen.facts,
    Cert.GateRows.Gen.facts, Cert.GateRowsIdeal.Gen.facts, Cert.GateRowsRefIdeal.Gen.facts,
    Cert.GateWeight.Gen.facts, Cert.GateWeightIdeal.Gen.facts, Cert.GateWeightRefIdeal.Gen.facts,
    Cert.DownForward.Gen.facts, Cert.DownForwardIdeal.Gen.facts, Cert.DownForwardRefIdeal.Gen.facts,
    Cert.DownRows.Gen.facts, Cert.DownRowsIdeal.Gen.facts, Cert.DownRowsRefIdeal.Gen.facts,
    Cert.DownWeight.Gen.facts, Cert.DownWeightIdeal.Gen.facts, Cert.DownWeightRefIdeal.Gen.facts,
    Cert.OutForward.Gen.facts, Cert.OutForwardIdeal.Gen.facts, Cert.OutForwardRefIdeal.Gen.facts,
    Cert.OutRows.Gen.facts, Cert.OutRowsIdeal.Gen.facts, Cert.OutRowsRefIdeal.Gen.facts,
    Cert.OutWeight.Gen.facts, Cert.OutWeightIdeal.Gen.facts, Cert.OutWeightRefIdeal.Gen.facts,
    Cert.DInForward.Gen.facts, Cert.DInForwardIdeal.Gen.facts, Cert.DInForwardRefIdeal.Gen.facts,
    Cert.DInRows.Gen.facts, Cert.DInRowsIdeal.Gen.facts, Cert.DInRowsRefIdeal.Gen.facts,
    Cert.DInWeight.Gen.facts, Cert.DInWeightIdeal.Gen.facts, Cert.DInWeightRefIdeal.Gen.facts,
    Cert.CInForward.Gen.facts, Cert.CInForwardIdeal.Gen.facts, Cert.CInForwardRefIdeal.Gen.facts,
    Cert.CInRows.Gen.facts, Cert.CInRowsIdeal.Gen.facts, Cert.CInRowsRefIdeal.Gen.facts,
    Cert.CInWeight.Gen.facts, Cert.CInWeightIdeal.Gen.facts, Cert.CInWeightRefIdeal.Gen.facts,
    Cert.BInForward.Gen.facts, Cert.BInForwardIdeal.Gen.facts, Cert.BInForwardRefIdeal.Gen.facts,
    Cert.BInRows.Gen.facts, Cert.BInRowsIdeal.Gen.facts, Cert.BInRowsRefIdeal.Gen.facts,
    Cert.BInWeight.Gen.facts, Cert.BInWeightIdeal.Gen.facts, Cert.BInWeightRefIdeal.Gen.facts,
    Cert.BOutForward.Gen.facts, Cert.BOutForwardIdeal.Gen.facts, Cert.BOutForwardRefIdeal.Gen.facts,
    Cert.BOutRows.Gen.facts, Cert.BOutRowsIdeal.Gen.facts, Cert.BOutRowsRefIdeal.Gen.facts,
    Cert.BOutWeight.Gen.facts, Cert.BOutWeightIdeal.Gen.facts, Cert.BOutWeightRefIdeal.Gen.facts,
    Cert.QueryForward.Gen.facts, Cert.QueryForwardIdeal.Gen.facts, Cert.QueryForwardRefIdeal.Gen.facts,
    Cert.QueryRows.Gen.facts, Cert.QueryRowsIdeal.Gen.facts, Cert.QueryRowsRefIdeal.Gen.facts,
    Cert.QueryWeight.Gen.facts, Cert.QueryWeightIdeal.Gen.facts, Cert.QueryWeightRefIdeal.Gen.facts,
    Cert.KeyForward.Gen.facts, Cert.KeyForwardIdeal.Gen.facts, Cert.KeyForwardRefIdeal.Gen.facts,
    Cert.KeyRows.Gen.facts, Cert.KeyRowsIdeal.Gen.facts, Cert.KeyRowsRefIdeal.Gen.facts,
    Cert.KeyWeight.Gen.facts, Cert.KeyWeightIdeal.Gen.facts, Cert.KeyWeightRefIdeal.Gen.facts,
    Cert.AInForward.Gen.facts, Cert.AInForwardIdeal.Gen.facts, Cert.AInForwardRefIdeal.Gen.facts,
    Cert.AInRows.Gen.facts, Cert.AInRowsIdeal.Gen.facts, Cert.AInRowsRefIdeal.Gen.facts,
    Cert.AInWeight.Gen.facts, Cert.AInWeightIdeal.Gen.facts, Cert.AInWeightRefIdeal.Gen.facts,
    Cert.Pre_finite.Gen.facts, Cert.Pre_finite_scores.Gen.facts, Cert.Pre_finite_memory.Gen.facts,
    frame_kernel, frame_ideal, frame_ideal_finite, frame_reference, frame_reference_finite,
    Forward.frame_kernel, Forward.frame_ideal, Forward.frame_ideal_finite, Forward.frame_reference, Forward.frame_reference_finite,
    Memory.frame_kernel, Memory.frame_ideal, Memory.frame_ideal_finite, Memory.frame_reference, Memory.frame_reference_finite,
    GateForward.frame_kernel, GateForward.frame_ideal, GateForward.frame_reference,
    GateRows.frame_kernel, GateRows.frame_ideal, GateRows.frame_reference,
    GateWeight.frame_kernel, GateWeight.frame_ideal, GateWeight.frame_reference,
    DownForward.frame_kernel, DownForward.frame_ideal, DownForward.frame_reference,
    DownRows.frame_kernel, DownRows.frame_ideal, DownRows.frame_reference,
    DownWeight.frame_kernel, DownWeight.frame_ideal, DownWeight.frame_reference,
    OutForward.frame_kernel, OutForward.frame_ideal, OutForward.frame_reference,
    OutRows.frame_kernel, OutRows.frame_ideal, OutRows.frame_reference,
    OutWeight.frame_kernel, OutWeight.frame_ideal, OutWeight.frame_reference,
    DInForward.frame_kernel, DInForward.frame_ideal, DInForward.frame_reference,
    DInRows.frame_kernel, DInRows.frame_ideal, DInRows.frame_reference,
    DInWeight.frame_kernel, DInWeight.frame_ideal, DInWeight.frame_reference,
    CInForward.frame_kernel, CInForward.frame_ideal, CInForward.frame_reference,
    CInRows.frame_kernel, CInRows.frame_ideal, CInRows.frame_reference,
    CInWeight.frame_kernel, CInWeight.frame_ideal, CInWeight.frame_reference,
    BInForward.frame_kernel, BInForward.frame_ideal, BInForward.frame_reference,
    BInRows.frame_kernel, BInRows.frame_ideal, BInRows.frame_reference,
    BInWeight.frame_kernel, BInWeight.frame_ideal, BInWeight.frame_reference,
    BOutForward.frame_kernel, BOutForward.frame_ideal, BOutForward.frame_reference,
    BOutRows.frame_kernel, BOutRows.frame_ideal, BOutRows.frame_reference,
    BOutWeight.frame_kernel, BOutWeight.frame_ideal, BOutWeight.frame_reference,
    QueryForward.frame_kernel, QueryForward.frame_ideal, QueryForward.frame_reference,
    QueryRows.frame_kernel, QueryRows.frame_ideal, QueryRows.frame_reference,
    QueryWeight.frame_kernel, QueryWeight.frame_ideal, QueryWeight.frame_reference,
    KeyForward.frame_kernel, KeyForward.frame_ideal, KeyForward.frame_reference,
    KeyRows.frame_kernel, KeyRows.frame_ideal, KeyRows.frame_reference,
    KeyWeight.frame_kernel, KeyWeight.frame_ideal, KeyWeight.frame_reference,
    AInForward.frame_kernel, AInForward.frame_ideal, AInForward.frame_reference,
    AInRows.frame_kernel, AInRows.frame_ideal, AInRows.frame_reference,
    AInWeight.frame_kernel, AInWeight.frame_ideal, AInWeight.frame_reference,
    preserves, algebraic,
    Forward.preserves, Forward.algebraic,
    Memory.preserves, Memory.algebraic,
    GateForward.preserves, GateForward.algebraic,
    GateRows.preserves, GateRows.algebraic,
    GateWeight.preserves, GateWeight.algebraic,
    DownForward.preserves, DownForward.algebraic,
    DownRows.preserves, DownRows.algebraic,
    DownWeight.preserves, DownWeight.algebraic,
    OutForward.preserves, OutForward.algebraic,
    OutRows.preserves, OutRows.algebraic,
    OutWeight.preserves, OutWeight.algebraic,
    DInForward.preserves, DInForward.algebraic,
    DInRows.preserves, DInRows.algebraic,
    DInWeight.preserves, DInWeight.algebraic,
    CInForward.preserves, CInForward.algebraic,
    CInRows.preserves, CInRows.algebraic,
    CInWeight.preserves, CInWeight.algebraic,
    BInForward.preserves, BInForward.algebraic,
    BInRows.preserves, BInRows.algebraic,
    BInWeight.preserves, BInWeight.algebraic,
    BOutForward.preserves, BOutForward.algebraic,
    BOutRows.preserves, BOutRows.algebraic,
    BOutWeight.preserves, BOutWeight.algebraic,
    QueryForward.preserves, QueryForward.algebraic,
    QueryRows.preserves, QueryRows.algebraic,
    QueryWeight.preserves, QueryWeight.algebraic,
    KeyForward.preserves, KeyForward.algebraic,
    KeyRows.preserves, KeyRows.algebraic,
    KeyWeight.preserves, KeyWeight.algebraic,
    AInForward.preserves, AInForward.algebraic,
    AInRows.preserves, AInRows.algebraic,
    AInWeight.preserves, AInWeight.algebraic⟩

end Cert.Proof

end
